-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8))) = (fun _ => 1#1)

def Pre_TnIn (m : (ℓ : Loc Cert.TnIn.nD Cert.TnIn.τ Cert.TnIn.sig) → Buf (Elt Bits) ℓ) : Prop :=
  True

def Pre_TnInIdeal (m : (ℓ : Loc Cert.TnInIdeal.nD Cert.TnInIdeal.τ Cert.TnInIdeal.sig) → Buf (Elt Ideal) ℓ) : Prop :=
  True

def Pre_TnInReferenceIdeal (m : (ℓ : Loc Cert.TnInReferenceIdeal.nD Cert.TnInReferenceIdeal.τ Cert.TnInReferenceIdeal.sig) → Buf (Elt Ideal) ℓ) : Prop :=
  True

def Pre_TnOut (m : (ℓ : Loc Cert.TnOut.nD Cert.TnOut.τ Cert.TnOut.sig) → Buf (Elt Bits) ℓ) : Prop :=
  True

def Pre_TnOutIdeal (m : (ℓ : Loc Cert.TnOutIdeal.nD Cert.TnOutIdeal.τ Cert.TnOutIdeal.sig) → Buf (Elt Ideal) ℓ) : Prop :=
  True

def Pre_TnOutReferenceIdeal (m : (ℓ : Loc Cert.TnOutReferenceIdeal.nD Cert.TnOutReferenceIdeal.τ Cert.TnOutReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_fwd_finite [hPre_fwd_finite : Cert.Pre_fwd_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdReferenceIdeal (m : (ℓ : Loc Cert.GluBwdReferenceIdeal.nD Cert.GluBwdReferenceIdeal.τ Cert.GluBwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_TnSq (m : (ℓ : Loc Cert.TnSq.nD Cert.TnSq.τ Cert.TnSq.sig) → Buf (Elt Bits) ℓ) : Prop :=
  True

def Pre_TnSqIdeal (m : (ℓ : Loc Cert.TnSqIdeal.nD Cert.TnSqIdeal.τ Cert.TnSqIdeal.sig) → Buf (Elt Ideal) ℓ) : Prop :=
  True

def Pre_TnSqReferenceIdeal (m : (ℓ : Loc Cert.TnSqReferenceIdeal.nD Cert.TnSqReferenceIdeal.τ Cert.TnSqReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_TnDq (m : (ℓ : Loc Cert.TnDq.nD Cert.TnDq.τ Cert.TnDq.sig) → Buf (Elt Bits) ℓ) : Prop :=
  True

def Pre_TnDqIdeal (m : (ℓ : Loc Cert.TnDqIdeal.nD Cert.TnDqIdeal.τ Cert.TnDqIdeal.sig) → Buf (Elt Ideal) ℓ) : Prop :=
  True

def Pre_TnDqReferenceIdeal (m : (ℓ : Loc Cert.TnDqReferenceIdeal.nD Cert.TnDqReferenceIdeal.τ Cert.TnDqReferenceIdeal.sig) → Buf (Elt Ideal) ℓ) : Prop :=
  True

def Pre_TnUq (m : (ℓ : Loc Cert.TnUq.nD Cert.TnUq.τ Cert.TnUq.sig) → Buf (Elt Bits) ℓ) : Prop :=
  True

def Pre_TnUqIdeal (m : (ℓ : Loc Cert.TnUqIdeal.nD Cert.TnUqIdeal.τ Cert.TnUqIdeal.sig) → Buf (Elt Ideal) ℓ) : Prop :=
  True

def Pre_TnUqReferenceIdeal (m : (ℓ : Loc Cert.TnUqReferenceIdeal.nD Cert.TnUqReferenceIdeal.τ Cert.TnUqReferenceIdeal.sig) → Buf (Elt Ideal) ℓ) : Prop :=
  True

def Pre_TnKva (m : (ℓ : Loc Cert.TnKva.nD Cert.TnKva.τ Cert.TnKva.sig) → Buf (Elt Bits) ℓ) : Prop :=
  True

def Pre_TnKvaIdeal (m : (ℓ : Loc Cert.TnKvaIdeal.nD Cert.TnKvaIdeal.τ Cert.TnKvaIdeal.sig) → Buf (Elt Ideal) ℓ) : Prop :=
  True

def Pre_TnKvaReferenceIdeal (m : (ℓ : Loc Cert.TnKvaReferenceIdeal.nD Cert.TnKvaReferenceIdeal.τ Cert.TnKvaReferenceIdeal.sig) → Buf (Elt Ideal) ℓ) : Prop :=
  True

def Pre_TnV (m : (ℓ : Loc Cert.TnV.nD Cert.TnV.τ Cert.TnV.sig) → Buf (Elt Bits) ℓ) : Prop :=
  True

def Pre_TnVIdeal (m : (ℓ : Loc Cert.TnVIdeal.nD Cert.TnVIdeal.τ Cert.TnVIdeal.sig) → Buf (Elt Ideal) ℓ) : Prop :=
  True

def Pre_TnVReferenceIdeal (m : (ℓ : Loc Cert.TnVReferenceIdeal.nD Cert.TnVReferenceIdeal.τ Cert.TnVReferenceIdeal.sig) → Buf (Elt Ideal) ℓ) : Prop :=
  True

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdReferenceIdeal (m : (ℓ : Loc Cert.QFwdReferenceIdeal.nD Cert.QFwdReferenceIdeal.τ Cert.QFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_TnIn [hTnIn : Cert.TnIn.Facts] : Prop :=
  ∀ (m : (ℓ : Loc Cert.TnIn.nD Cert.TnIn.τ Cert.TnIn.sig) → Buf (Elt Bits) ℓ) (g : Dev Cert.TnIn.nD → PrngReg), Pre_TnIn m →
    θ_run (Cert.TnIn.defs (F := Bits)) (onTc (τ := Cert.TnIn.τ) (Cert.TnIn.main (F := Bits))) ⟨m, fun _ => 0, g⟩ (fun r => (∀ c : Dev Cert.TnIn.nD,
      r.2.mem ((c.tc : Thread Cert.TnIn.nD Cert.TnIn.τ).loc Cert.TnIn.main_arg0) = m ((c.tc : Thread Cert.TnIn.nD Cert.TnIn.τ).loc Cert.TnIn.main_arg0)
      ∧ r.2.mem ((c.tc : Thread Cert.TnIn.nD Cert.TnIn.τ).loc Cert.TnIn.main_arg1) = m ((c.tc : Thread Cert.TnIn.nD Cert.TnIn.τ).loc Cert.TnIn.main_arg1))
      ∧ r.2.sem = fun _ => 0)

def quiescent_TnInIdeal [hTnInIdeal : Cert.TnInIdeal.Facts] : Prop :=
  ∀ (m : (ℓ : Loc Cert.TnInIdeal.nD Cert.TnInIdeal.τ Cert.TnInIdeal.sig) → Buf (Elt Ideal) ℓ) (g : Dev Cert.TnInIdeal.nD → PrngReg), Pre_TnInIdeal m →
    θ_run (Cert.TnInIdeal.defs (F := Ideal)) (onTc (τ := Cert.TnInIdeal.τ) (Cert.TnInIdeal.main (F := Ideal))) ⟨m, fun _ => 0, g⟩ (fun r => (∀ c : Dev Cert.TnInIdeal.nD,
      r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
      ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ r.2.sem = fun _ => 0)

def quiescent_TnInReferenceIdeal [hTnInReferenceIdeal : Cert.TnInReferenceIdeal.Facts] : Prop :=
  ∀ (m : (ℓ : Loc Cert.TnInReferenceIdeal.nD Cert.TnInReferenceIdeal.τ Cert.TnInReferenceIdeal.sig) → Buf (Elt Ideal) ℓ) (g : Dev Cert.TnInReferenceIdeal.nD → PrngReg), Pre_TnInReferenceIdeal m →
    θ_run (Cert.TnInReferenceIdeal.defs (F := Ideal)) (onTc (τ := Cert.TnInReferenceIdeal.τ) (Cert.TnInReferenceIdeal.main (F := Ideal))) ⟨m, fun _ => 0, g⟩ (fun r => (∀ c : Dev Cert.TnInReferenceIdeal.nD,
      r.2.mem ((c.tc : Thread Cert.TnInReferenceIdeal.nD Cert.TnInReferenceIdeal.τ).loc Cert.TnInReferenceIdeal.main_arg0) = m ((c.tc : Thread Cert.TnInReferenceIdeal.nD Cert.TnInReferenceIdeal.τ).loc Cert.TnInReferenceIdeal.main_arg0)
      ∧ r.2.mem ((c.tc : Thread Cert.TnInReferenceIdeal.nD Cert.TnInReferenceIdeal.τ).loc Cert.TnInReferenceIdeal.main_arg1) = m ((c.tc : Thread Cert.TnInReferenceIdeal.nD Cert.TnInReferenceIdeal.τ).loc Cert.TnInReferenceIdeal.main_arg1))
      ∧ r.2.sem = fun _ => 0)

def quiescent_TnOut [hTnOut : Cert.TnOut.Facts] : Prop :=
  ∀ (m : (ℓ : Loc Cert.TnOut.nD Cert.TnOut.τ Cert.TnOut.sig) → Buf (Elt Bits) ℓ) (g : Dev Cert.TnOut.nD → PrngReg), Pre_TnOut m →
    θ_run (Cert.TnOut.defs (F := Bits)) (onTc (τ := Cert.TnOut.τ) (Cert.TnOut.main (F := Bits))) ⟨m, fun _ => 0, g⟩ (fun r => (∀ c : Dev Cert.TnOut.nD,
      r.2.mem ((c.tc : Thread Cert.TnOut.nD Cert.TnOut.τ).loc Cert.TnOut.main_arg0) = m ((c.tc : Thread Cert.TnOut.nD Cert.TnOut.τ).loc Cert.TnOut.main_arg0)
      ∧ r.2.mem ((c.tc : Thread Cert.TnOut.nD Cert.TnOut.τ).loc Cert.TnOut.main_arg1) = m ((c.tc : Thread Cert.TnOut.nD Cert.TnOut.τ).loc Cert.TnOut.main_arg1))
      ∧ r.2.sem = fun _ => 0)

def quiescent_TnOutIdeal [hTnOutIdeal : Cert.TnOutIdeal.Facts] : Prop :=
  ∀ (m : (ℓ : Loc Cert.TnOutIdeal.nD Cert.TnOutIdeal.τ Cert.TnOutIdeal.sig) → Buf (Elt Ideal) ℓ) (g : Dev Cert.TnOutIdeal.nD → PrngReg), Pre_TnOutIdeal m →
    θ_run (Cert.TnOutIdeal.defs (F := Ideal)) (onTc (τ := Cert.TnOutIdeal.τ) (Cert.TnOutIdeal.main (F := Ideal))) ⟨m, fun _ => 0, g⟩ (fun r => (∀ c : Dev Cert.TnOutIdeal.nD,
      r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
      ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ r.2.sem = fun _ => 0)

def quiescent_TnOutReferenceIdeal [hTnOutReferenceIdeal : Cert.TnOutReferenceIdeal.Facts] : Prop :=
  ∀ (m : (ℓ : Loc Cert.TnOutReferenceIdeal.nD Cert.TnOutReferenceIdeal.τ Cert.TnOutReferenceIdeal.sig) → Buf (Elt Ideal) ℓ) (g : Dev Cert.TnOutReferenceIdeal.nD → PrngReg), Pre_TnOutReferenceIdeal m →
    θ_run (Cert.TnOutReferenceIdeal.defs (F := Ideal)) (onTc (τ := Cert.TnOutReferenceIdeal.τ) (Cert.TnOutReferenceIdeal.main (F := Ideal))) ⟨m, fun _ => 0, g⟩ (fun r => (∀ c : Dev Cert.TnOutReferenceIdeal.nD,
      r.2.mem ((c.tc : Thread Cert.TnOutReferenceIdeal.nD Cert.TnOutReferenceIdeal.τ).loc Cert.TnOutReferenceIdeal.main_arg0) = m ((c.tc : Thread Cert.TnOutReferenceIdeal.nD Cert.TnOutReferenceIdeal.τ).loc Cert.TnOutReferenceIdeal.main_arg0)
      ∧ r.2.mem ((c.tc : Thread Cert.TnOutReferenceIdeal.nD Cert.TnOutReferenceIdeal.τ).loc Cert.TnOutReferenceIdeal.main_arg1) = m ((c.tc : Thread Cert.TnOutReferenceIdeal.nD Cert.TnOutReferenceIdeal.τ).loc Cert.TnOutReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_fwd_finite [hFwdReferenceIdeal : Cert.FwdReferenceIdeal.Facts] [hPre_fwd_finite : Cert.Pre_fwd_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_fwd_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0)
      ∧ r.2.mem ((c.tc : Thread Cert.GluFwdReferenceIdeal.nD Cert.GluFwdReferenceIdeal.τ).loc Cert.GluFwdReferenceIdeal.main_arg1) = m ((c.tc : Thread Cert.GluFwdReferenceIdeal.nD Cert.GluFwdReferenceIdeal.τ).loc Cert.GluFwdReferenceIdeal.main_arg1)
      ∧ r.2.mem ((c.tc : Thread Cert.GluFwdReferenceIdeal.nD Cert.GluFwdReferenceIdeal.τ).loc Cert.GluFwdReferenceIdeal.main_arg2) = m ((c.tc : Thread Cert.GluFwdReferenceIdeal.nD Cert.GluFwdReferenceIdeal.τ).loc Cert.GluFwdReferenceIdeal.main_arg2)
      ∧ r.2.mem ((c.tc : Thread Cert.GluFwdReferenceIdeal.nD Cert.GluFwdReferenceIdeal.τ).loc Cert.GluFwdReferenceIdeal.main_arg3) = m ((c.tc : Thread Cert.GluFwdReferenceIdeal.nD Cert.GluFwdReferenceIdeal.τ).loc Cert.GluFwdReferenceIdeal.main_arg3)
      ∧ r.2.mem ((c.tc : Thread Cert.GluFwdReferenceIdeal.nD Cert.GluFwdReferenceIdeal.τ).loc Cert.GluFwdReferenceIdeal.main_arg4) = m ((c.tc : Thread Cert.GluFwdReferenceIdeal.nD Cert.GluFwdReferenceIdeal.τ).loc Cert.GluFwdReferenceIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ r.2.sem = fun _ => 0)

def quiescent_GluBwdReferenceIdeal [hGluBwdReferenceIdeal : Cert.GluBwdReferenceIdeal.Facts] : Prop :=
  ∀ (m : (ℓ : Loc Cert.GluBwdReferenceIdeal.nD Cert.GluBwdReferenceIdeal.τ Cert.GluBwdReferenceIdeal.sig) → Buf (Elt Ideal) ℓ) (g : Dev Cert.GluBwdReferenceIdeal.nD → PrngReg), Pre_GluBwdReferenceIdeal m →
    θ_run (Cert.GluBwdReferenceIdeal.defs (F := Ideal)) (onTc (τ := Cert.GluBwdReferenceIdeal.τ) (Cert.GluBwdReferenceIdeal.main (F := Ideal))) ⟨m, fun _ => 0, g⟩ (fun r => (∀ c : Dev Cert.GluBwdReferenceIdeal.nD,
      r.2.mem ((c.tc : Thread Cert.GluBwdReferenceIdeal.nD Cert.GluBwdReferenceIdeal.τ).loc Cert.GluBwdReferenceIdeal.main_arg0) = m ((c.tc : Thread Cert.GluBwdReferenceIdeal.nD Cert.GluBwdReferenceIdeal.τ).loc Cert.GluBwdReferenceIdeal.main_arg0)
      ∧ r.2.mem ((c.tc : Thread Cert.GluBwdReferenceIdeal.nD Cert.GluBwdReferenceIdeal.τ).loc Cert.GluBwdReferenceIdeal.main_arg1) = m ((c.tc : Thread Cert.GluBwdReferenceIdeal.nD Cert.GluBwdReferenceIdeal.τ).loc Cert.GluBwdReferenceIdeal.main_arg1)
      ∧ r.2.mem ((c.tc : Thread Cert.GluBwdReferenceIdeal.nD Cert.GluBwdReferenceIdeal.τ).loc Cert.GluBwdReferenceIdeal.main_arg2) = m ((c.tc : Thread Cert.GluBwdReferenceIdeal.nD Cert.GluBwdReferenceIdeal.τ).loc Cert.GluBwdReferenceIdeal.main_arg2)
      ∧ r.2.mem ((c.tc : Thread Cert.GluBwdReferenceIdeal.nD Cert.GluBwdReferenceIdeal.τ).loc Cert.GluBwdReferenceIdeal.main_arg3) = m ((c.tc : Thread Cert.GluBwdReferenceIdeal.nD Cert.GluBwdReferenceIdeal.τ).loc Cert.GluBwdReferenceIdeal.main_arg3)
      ∧ r.2.mem ((c.tc : Thread Cert.GluBwdReferenceIdeal.nD Cert.GluBwdReferenceIdeal.τ).loc Cert.GluBwdReferenceIdeal.main_arg4) = m ((c.tc : Thread Cert.GluBwdReferenceIdeal.nD Cert.GluBwdReferenceIdeal.τ).loc Cert.GluBwdReferenceIdeal.main_arg4)
      ∧ r.2.mem ((c.tc : Thread Cert.GluBwdReferenceIdeal.nD Cert.GluBwdReferenceIdeal.τ).loc Cert.GluBwdReferenceIdeal.main_arg5) = m ((c.tc : Thread Cert.GluBwdReferenceIdeal.nD Cert.GluBwdReferenceIdeal.τ).loc Cert.GluBwdReferenceIdeal.main_arg5))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4))
      ∧ r.2.sem = fun _ => 0)

def quiescent_TnSq [hTnSq : Cert.TnSq.Facts] : Prop :=
  ∀ (m : (ℓ : Loc Cert.TnSq.nD Cert.TnSq.τ Cert.TnSq.sig) → Buf (Elt Bits) ℓ) (g : Dev Cert.TnSq.nD → PrngReg), Pre_TnSq m →
    θ_run (Cert.TnSq.defs (F := Bits)) (onTc (τ := Cert.TnSq.τ) (Cert.TnSq.main (F := Bits))) ⟨m, fun _ => 0, g⟩ (fun r => (∀ c : Dev Cert.TnSq.nD,
      r.2.mem ((c.tc : Thread Cert.TnSq.nD Cert.TnSq.τ).loc Cert.TnSq.main_arg0) = m ((c.tc : Thread Cert.TnSq.nD Cert.TnSq.τ).loc Cert.TnSq.main_arg0)
      ∧ r.2.mem ((c.tc : Thread Cert.TnSq.nD Cert.TnSq.τ).loc Cert.TnSq.main_arg1) = m ((c.tc : Thread Cert.TnSq.nD Cert.TnSq.τ).loc Cert.TnSq.main_arg1))
      ∧ r.2.sem = fun _ => 0)

def quiescent_TnSqIdeal [hTnSqIdeal : Cert.TnSqIdeal.Facts] : Prop :=
  ∀ (m : (ℓ : Loc Cert.TnSqIdeal.nD Cert.TnSqIdeal.τ Cert.TnSqIdeal.sig) → Buf (Elt Ideal) ℓ) (g : Dev Cert.TnSqIdeal.nD → PrngReg), Pre_TnSqIdeal m →
    θ_run (Cert.TnSqIdeal.defs (F := Ideal)) (onTc (τ := Cert.TnSqIdeal.τ) (Cert.TnSqIdeal.main (F := Ideal))) ⟨m, fun _ => 0, g⟩ (fun r => (∀ c : Dev Cert.TnSqIdeal.nD,
      r.2.mem ((c.tc : Thread Cert.TnSqIdeal.nD Cert.TnSqIdeal.τ).loc Cert.TnSqIdeal.main_arg0) = m ((c.tc : Thread Cert.TnSqIdeal.nD Cert.TnSqIdeal.τ).loc Cert.TnSqIdeal.main_arg0)
      ∧ r.2.mem ((c.tc : Thread Cert.TnSqIdeal.nD Cert.TnSqIdeal.τ).loc Cert.TnSqIdeal.main_arg1) = m ((c.tc : Thread Cert.TnSqIdeal.nD Cert.TnSqIdeal.τ).loc Cert.TnSqIdeal.main_arg1))
      ∧ r.2.sem = fun _ => 0)

def quiescent_TnSqReferenceIdeal [hTnSqReferenceIdeal : Cert.TnSqReferenceIdeal.Facts] : Prop :=
  ∀ (m : (ℓ : Loc Cert.TnSqReferenceIdeal.nD Cert.TnSqReferenceIdeal.τ Cert.TnSqReferenceIdeal.sig) → Buf (Elt Ideal) ℓ) (g : Dev Cert.TnSqReferenceIdeal.nD → PrngReg), Pre_TnSqReferenceIdeal m →
    θ_run (Cert.TnSqReferenceIdeal.defs (F := Ideal)) (onTc (τ := Cert.TnSqReferenceIdeal.τ) (Cert.TnSqReferenceIdeal.main (F := Ideal))) ⟨m, fun _ => 0, g⟩ (fun r => (∀ c : Dev Cert.TnSqReferenceIdeal.nD,
      r.2.mem ((c.tc : Thread Cert.TnSqReferenceIdeal.nD Cert.TnSqReferenceIdeal.τ).loc Cert.TnSqReferenceIdeal.main_arg0) = m ((c.tc : Thread Cert.TnSqReferenceIdeal.nD Cert.TnSqReferenceIdeal.τ).loc Cert.TnSqReferenceIdeal.main_arg0)
      ∧ r.2.mem ((c.tc : Thread Cert.TnSqReferenceIdeal.nD Cert.TnSqReferenceIdeal.τ).loc Cert.TnSqReferenceIdeal.main_arg1) = m ((c.tc : Thread Cert.TnSqReferenceIdeal.nD Cert.TnSqReferenceIdeal.τ).loc Cert.TnSqReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6))
      ∧ r.2.sem = fun _ => 0)

def quiescent_TnDq [hTnDq : Cert.TnDq.Facts] : Prop :=
  ∀ (m : (ℓ : Loc Cert.TnDq.nD Cert.TnDq.τ Cert.TnDq.sig) → Buf (Elt Bits) ℓ) (g : Dev Cert.TnDq.nD → PrngReg), Pre_TnDq m →
    θ_run (Cert.TnDq.defs (F := Bits)) (onTc (τ := Cert.TnDq.τ) (Cert.TnDq.main (F := Bits))) ⟨m, fun _ => 0, g⟩ (fun r => (∀ c : Dev Cert.TnDq.nD,
      r.2.mem ((c.tc : Thread Cert.TnDq.nD Cert.TnDq.τ).loc Cert.TnDq.main_arg0) = m ((c.tc : Thread Cert.TnDq.nD Cert.TnDq.τ).loc Cert.TnDq.main_arg0)
      ∧ r.2.mem ((c.tc : Thread Cert.TnDq.nD Cert.TnDq.τ).loc Cert.TnDq.main_arg1) = m ((c.tc : Thread Cert.TnDq.nD Cert.TnDq.τ).loc Cert.TnDq.main_arg1))
      ∧ r.2.sem = fun _ => 0)

def quiescent_TnDqIdeal [hTnDqIdeal : Cert.TnDqIdeal.Facts] : Prop :=
  ∀ (m : (ℓ : Loc Cert.TnDqIdeal.nD Cert.TnDqIdeal.τ Cert.TnDqIdeal.sig) → Buf (Elt Ideal) ℓ) (g : Dev Cert.TnDqIdeal.nD → PrngReg), Pre_TnDqIdeal m →
    θ_run (Cert.TnDqIdeal.defs (F := Ideal)) (onTc (τ := Cert.TnDqIdeal.τ) (Cert.TnDqIdeal.main (F := Ideal))) ⟨m, fun _ => 0, g⟩ (fun r => (∀ c : Dev Cert.TnDqIdeal.nD,
      r.2.mem ((c.tc : Thread Cert.TnDqIdeal.nD Cert.TnDqIdeal.τ).loc Cert.TnDqIdeal.main_arg0) = m ((c.tc : Thread Cert.TnDqIdeal.nD Cert.TnDqIdeal.τ).loc Cert.TnDqIdeal.main_arg0)
      ∧ r.2.mem ((c.tc : Thread Cert.TnDqIdeal.nD Cert.TnDqIdeal.τ).loc Cert.TnDqIdeal.main_arg1) = m ((c.tc : Thread Cert.TnDqIdeal.nD Cert.TnDqIdeal.τ).loc Cert.TnDqIdeal.main_arg1))
      ∧ r.2.sem = fun _ => 0)

def quiescent_TnDqReferenceIdeal [hTnDqReferenceIdeal : Cert.TnDqReferenceIdeal.Facts] : Prop :=
  ∀ (m : (ℓ : Loc Cert.TnDqReferenceIdeal.nD Cert.TnDqReferenceIdeal.τ Cert.TnDqReferenceIdeal.sig) → Buf (Elt Ideal) ℓ) (g : Dev Cert.TnDqReferenceIdeal.nD → PrngReg), Pre_TnDqReferenceIdeal m →
    θ_run (Cert.TnDqReferenceIdeal.defs (F := Ideal)) (onTc (τ := Cert.TnDqReferenceIdeal.τ) (Cert.TnDqReferenceIdeal.main (F := Ideal))) ⟨m, fun _ => 0, g⟩ (fun r => (∀ c : Dev Cert.TnDqReferenceIdeal.nD,
      r.2.mem ((c.tc : Thread Cert.TnDqReferenceIdeal.nD Cert.TnDqReferenceIdeal.τ).loc Cert.TnDqReferenceIdeal.main_arg0) = m ((c.tc : Thread Cert.TnDqReferenceIdeal.nD Cert.TnDqReferenceIdeal.τ).loc Cert.TnDqReferenceIdeal.main_arg0)
      ∧ r.2.mem ((c.tc : Thread Cert.TnDqReferenceIdeal.nD Cert.TnDqReferenceIdeal.τ).loc Cert.TnDqReferenceIdeal.main_arg1) = m ((c.tc : Thread Cert.TnDqReferenceIdeal.nD Cert.TnDqReferenceIdeal.τ).loc Cert.TnDqReferenceIdeal.main_arg1))
      ∧ r.2.sem = fun _ => 0)

def quiescent_TnUq [hTnUq : Cert.TnUq.Facts] : Prop :=
  ∀ (m : (ℓ : Loc Cert.TnUq.nD Cert.TnUq.τ Cert.TnUq.sig) → Buf (Elt Bits) ℓ) (g : Dev Cert.TnUq.nD → PrngReg), Pre_TnUq m →
    θ_run (Cert.TnUq.defs (F := Bits)) (onTc (τ := Cert.TnUq.τ) (Cert.TnUq.main (F := Bits))) ⟨m, fun _ => 0, g⟩ (fun r => (∀ c : Dev Cert.TnUq.nD,
      r.2.mem ((c.tc : Thread Cert.TnUq.nD Cert.TnUq.τ).loc Cert.TnUq.main_arg0) = m ((c.tc : Thread Cert.TnUq.nD Cert.TnUq.τ).loc Cert.TnUq.main_arg0)
      ∧ r.2.mem ((c.tc : Thread Cert.TnUq.nD Cert.TnUq.τ).loc Cert.TnUq.main_arg1) = m ((c.tc : Thread Cert.TnUq.nD Cert.TnUq.τ).loc Cert.TnUq.main_arg1))
      ∧ r.2.sem = fun _ => 0)

def quiescent_TnUqIdeal [hTnUqIdeal : Cert.TnUqIdeal.Facts] : Prop :=
  ∀ (m : (ℓ : Loc Cert.TnUqIdeal.nD Cert.TnUqIdeal.τ Cert.TnUqIdeal.sig) → Buf (Elt Ideal) ℓ) (g : Dev Cert.TnUqIdeal.nD → PrngReg), Pre_TnUqIdeal m →
    θ_run (Cert.TnUqIdeal.defs (F := Ideal)) (onTc (τ := Cert.TnUqIdeal.τ) (Cert.TnUqIdeal.main (F := Ideal))) ⟨m, fun _ => 0, g⟩ (fun r => (∀ c : Dev Cert.TnUqIdeal.nD,
      r.2.mem ((c.tc : Thread Cert.TnUqIdeal.nD Cert.TnUqIdeal.τ).loc Cert.TnUqIdeal.main_arg0) = m ((c.tc : Thread Cert.TnUqIdeal.nD Cert.TnUqIdeal.τ).loc Cert.TnUqIdeal.main_arg0)
      ∧ r.2.mem ((c.tc : Thread Cert.TnUqIdeal.nD Cert.TnUqIdeal.τ).loc Cert.TnUqIdeal.main_arg1) = m ((c.tc : Thread Cert.TnUqIdeal.nD Cert.TnUqIdeal.τ).loc Cert.TnUqIdeal.main_arg1))
      ∧ r.2.sem = fun _ => 0)

def quiescent_TnUqReferenceIdeal [hTnUqReferenceIdeal : Cert.TnUqReferenceIdeal.Facts] : Prop :=
  ∀ (m : (ℓ : Loc Cert.TnUqReferenceIdeal.nD Cert.TnUqReferenceIdeal.τ Cert.TnUqReferenceIdeal.sig) → Buf (Elt Ideal) ℓ) (g : Dev Cert.TnUqReferenceIdeal.nD → PrngReg), Pre_TnUqReferenceIdeal m →
    θ_run (Cert.TnUqReferenceIdeal.defs (F := Ideal)) (onTc (τ := Cert.TnUqReferenceIdeal.τ) (Cert.TnUqReferenceIdeal.main (F := Ideal))) ⟨m, fun _ => 0, g⟩ (fun r => (∀ c : Dev Cert.TnUqReferenceIdeal.nD,
      r.2.mem ((c.tc : Thread Cert.TnUqReferenceIdeal.nD Cert.TnUqReferenceIdeal.τ).loc Cert.TnUqReferenceIdeal.main_arg0) = m ((c.tc : Thread Cert.TnUqReferenceIdeal.nD Cert.TnUqReferenceIdeal.τ).loc Cert.TnUqReferenceIdeal.main_arg0)
      ∧ r.2.mem ((c.tc : Thread Cert.TnUqReferenceIdeal.nD Cert.TnUqReferenceIdeal.τ).loc Cert.TnUqReferenceIdeal.main_arg1) = m ((c.tc : Thread Cert.TnUqReferenceIdeal.nD Cert.TnUqReferenceIdeal.τ).loc Cert.TnUqReferenceIdeal.main_arg1))
      ∧ r.2.sem = fun _ => 0)

def quiescent_TnKva [hTnKva : Cert.TnKva.Facts] : Prop :=
  ∀ (m : (ℓ : Loc Cert.TnKva.nD Cert.TnKva.τ Cert.TnKva.sig) → Buf (Elt Bits) ℓ) (g : Dev Cert.TnKva.nD → PrngReg), Pre_TnKva m →
    θ_run (Cert.TnKva.defs (F := Bits)) (onTc (τ := Cert.TnKva.τ) (Cert.TnKva.main (F := Bits))) ⟨m, fun _ => 0, g⟩ (fun r => (∀ c : Dev Cert.TnKva.nD,
      r.2.mem ((c.tc : Thread Cert.TnKva.nD Cert.TnKva.τ).loc Cert.TnKva.main_arg0) = m ((c.tc : Thread Cert.TnKva.nD Cert.TnKva.τ).loc Cert.TnKva.main_arg0)
      ∧ r.2.mem ((c.tc : Thread Cert.TnKva.nD Cert.TnKva.τ).loc Cert.TnKva.main_arg1) = m ((c.tc : Thread Cert.TnKva.nD Cert.TnKva.τ).loc Cert.TnKva.main_arg1))
      ∧ r.2.sem = fun _ => 0)

def quiescent_TnKvaIdeal [hTnKvaIdeal : Cert.TnKvaIdeal.Facts] : Prop :=
  ∀ (m : (ℓ : Loc Cert.TnKvaIdeal.nD Cert.TnKvaIdeal.τ Cert.TnKvaIdeal.sig) → Buf (Elt Ideal) ℓ) (g : Dev Cert.TnKvaIdeal.nD → PrngReg), Pre_TnKvaIdeal m →
    θ_run (Cert.TnKvaIdeal.defs (F := Ideal)) (onTc (τ := Cert.TnKvaIdeal.τ) (Cert.TnKvaIdeal.main (F := Ideal))) ⟨m, fun _ => 0, g⟩ (fun r => (∀ c : Dev Cert.TnKvaIdeal.nD,
      r.2.mem ((c.tc : Thread Cert.TnKvaIdeal.nD Cert.TnKvaIdeal.τ).loc Cert.TnKvaIdeal.main_arg0) = m ((c.tc : Thread Cert.TnKvaIdeal.nD Cert.TnKvaIdeal.τ).loc Cert.TnKvaIdeal.main_arg0)
      ∧ r.2.mem ((c.tc : Thread Cert.TnKvaIdeal.nD Cert.TnKvaIdeal.τ).loc Cert.TnKvaIdeal.main_arg1) = m ((c.tc : Thread Cert.TnKvaIdeal.nD Cert.TnKvaIdeal.τ).loc Cert.TnKvaIdeal.main_arg1))
      ∧ r.2.sem = fun _ => 0)

def quiescent_TnKvaReferenceIdeal [hTnKvaReferenceIdeal : Cert.TnKvaReferenceIdeal.Facts] : Prop :=
  ∀ (m : (ℓ : Loc Cert.TnKvaReferenceIdeal.nD Cert.TnKvaReferenceIdeal.τ Cert.TnKvaReferenceIdeal.sig) → Buf (Elt Ideal) ℓ) (g : Dev Cert.TnKvaReferenceIdeal.nD → PrngReg), Pre_TnKvaReferenceIdeal m →
    θ_run (Cert.TnKvaReferenceIdeal.defs (F := Ideal)) (onTc (τ := Cert.TnKvaReferenceIdeal.τ) (Cert.TnKvaReferenceIdeal.main (F := Ideal))) ⟨m, fun _ => 0, g⟩ (fun r => (∀ c : Dev Cert.TnKvaReferenceIdeal.nD,
      r.2.mem ((c.tc : Thread Cert.TnKvaReferenceIdeal.nD Cert.TnKvaReferenceIdeal.τ).loc Cert.TnKvaReferenceIdeal.main_arg0) = m ((c.tc : Thread Cert.TnKvaReferenceIdeal.nD Cert.TnKvaReferenceIdeal.τ).loc Cert.TnKvaReferenceIdeal.main_arg0)
      ∧ r.2.mem ((c.tc : Thread Cert.TnKvaReferenceIdeal.nD Cert.TnKvaReferenceIdeal.τ).loc Cert.TnKvaReferenceIdeal.main_arg1) = m ((c.tc : Thread Cert.TnKvaReferenceIdeal.nD Cert.TnKvaReferenceIdeal.τ).loc Cert.TnKvaReferenceIdeal.main_arg1))
      ∧ r.2.sem = fun _ => 0)

def quiescent_TnV [hTnV : Cert.TnV.Facts] : Prop :=
  ∀ (m : (ℓ : Loc Cert.TnV.nD Cert.TnV.τ Cert.TnV.sig) → Buf (Elt Bits) ℓ) (g : Dev Cert.TnV.nD → PrngReg), Pre_TnV m →
    θ_run (Cert.TnV.defs (F := Bits)) (onTc (τ := Cert.TnV.τ) (Cert.TnV.main (F := Bits))) ⟨m, fun _ => 0, g⟩ (fun r => (∀ c : Dev Cert.TnV.nD,
      r.2.mem ((c.tc : Thread Cert.TnV.nD Cert.TnV.τ).loc Cert.TnV.main_arg0) = m ((c.tc : Thread Cert.TnV.nD Cert.TnV.τ).loc Cert.TnV.main_arg0)
      ∧ r.2.mem ((c.tc : Thread Cert.TnV.nD Cert.TnV.τ).loc Cert.TnV.main_arg1) = m ((c.tc : Thread Cert.TnV.nD Cert.TnV.τ).loc Cert.TnV.main_arg1))
      ∧ r.2.sem = fun _ => 0)

def quiescent_TnVIdeal [hTnVIdeal : Cert.TnVIdeal.Facts] : Prop :=
  ∀ (m : (ℓ : Loc Cert.TnVIdeal.nD Cert.TnVIdeal.τ Cert.TnVIdeal.sig) → Buf (Elt Ideal) ℓ) (g : Dev Cert.TnVIdeal.nD → PrngReg), Pre_TnVIdeal m →
    θ_run (Cert.TnVIdeal.defs (F := Ideal)) (onTc (τ := Cert.TnVIdeal.τ) (Cert.TnVIdeal.main (F := Ideal))) ⟨m, fun _ => 0, g⟩ (fun r => (∀ c : Dev Cert.TnVIdeal.nD,
      r.2.mem ((c.tc : Thread Cert.TnVIdeal.nD Cert.TnVIdeal.τ).loc Cert.TnVIdeal.main_arg0) = m ((c.tc : Thread Cert.TnVIdeal.nD Cert.TnVIdeal.τ).loc Cert.TnVIdeal.main_arg0)
      ∧ r.2.mem ((c.tc : Thread Cert.TnVIdeal.nD Cert.TnVIdeal.τ).loc Cert.TnVIdeal.main_arg1) = m ((c.tc : Thread Cert.TnVIdeal.nD Cert.TnVIdeal.τ).loc Cert.TnVIdeal.main_arg1))
      ∧ r.2.sem = fun _ => 0)

def quiescent_TnVReferenceIdeal [hTnVReferenceIdeal : Cert.TnVReferenceIdeal.Facts] : Prop :=
  ∀ (m : (ℓ : Loc Cert.TnVReferenceIdeal.nD Cert.TnVReferenceIdeal.τ Cert.TnVReferenceIdeal.sig) → Buf (Elt Ideal) ℓ) (g : Dev Cert.TnVReferenceIdeal.nD → PrngReg), Pre_TnVReferenceIdeal m →
    θ_run (Cert.TnVReferenceIdeal.defs (F := Ideal)) (onTc (τ := Cert.TnVReferenceIdeal.τ) (Cert.TnVReferenceIdeal.main (F := Ideal))) ⟨m, fun _ => 0, g⟩ (fun r => (∀ c : Dev Cert.TnVReferenceIdeal.nD,
      r.2.mem ((c.tc : Thread Cert.TnVReferenceIdeal.nD Cert.TnVReferenceIdeal.τ).loc Cert.TnVReferenceIdeal.main_arg0) = m ((c.tc : Thread Cert.TnVReferenceIdeal.nD Cert.TnVReferenceIdeal.τ).loc Cert.TnVReferenceIdeal.main_arg0)
      ∧ r.2.mem ((c.tc : Thread Cert.TnVReferenceIdeal.nD Cert.TnVReferenceIdeal.τ).loc Cert.TnVReferenceIdeal.main_arg1) = m ((c.tc : Thread Cert.TnVReferenceIdeal.nD Cert.TnVReferenceIdeal.τ).loc Cert.TnVReferenceIdeal.main_arg1))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1)
      ∧ r.2.mem ((c.tc : Thread Cert.QFwd.nD Cert.QFwd.τ).loc Cert.QFwd.main_arg2) = m ((c.tc : Thread Cert.QFwd.nD Cert.QFwd.τ).loc Cert.QFwd.main_arg2)
      ∧ r.2.mem ((c.tc : Thread Cert.QFwd.nD Cert.QFwd.τ).loc Cert.QFwd.main_arg3) = m ((c.tc : Thread Cert.QFwd.nD Cert.QFwd.τ).loc Cert.QFwd.main_arg3)
      ∧ r.2.mem ((c.tc : Thread Cert.QFwd.nD Cert.QFwd.τ).loc Cert.QFwd.main_arg4) = m ((c.tc : Thread Cert.QFwd.nD Cert.QFwd.τ).loc Cert.QFwd.main_arg4)
      ∧ r.2.mem ((c.tc : Thread Cert.QFwd.nD Cert.QFwd.τ).loc Cert.QFwd.main_arg5) = m ((c.tc : Thread Cert.QFwd.nD Cert.QFwd.τ).loc Cert.QFwd.main_arg5)
      ∧ r.2.mem ((c.tc : Thread Cert.QFwd.nD Cert.QFwd.τ).loc Cert.QFwd.main_arg6) = m ((c.tc : Thread Cert.QFwd.nD Cert.QFwd.τ).loc Cert.QFwd.main_arg6)
      ∧ r.2.mem ((c.tc : Thread Cert.QFwd.nD Cert.QFwd.τ).loc Cert.QFwd.main_arg7) = m ((c.tc : Thread Cert.QFwd.nD Cert.QFwd.τ).loc Cert.QFwd.main_arg7)
      ∧ r.2.mem ((c.tc : Thread Cert.QFwd.nD Cert.QFwd.τ).loc Cert.QFwd.main_arg8) = m ((c.tc : Thread Cert.QFwd.nD Cert.QFwd.τ).loc Cert.QFwd.main_arg8)
      ∧ r.2.mem ((c.tc : Thread Cert.QFwd.nD Cert.QFwd.τ).loc Cert.QFwd.main_arg9) = m ((c.tc : Thread Cert.QFwd.nD Cert.QFwd.τ).loc Cert.QFwd.main_arg9)
      ∧ r.2.mem ((c.tc : Thread Cert.QFwd.nD Cert.QFwd.τ).loc Cert.QFwd.main_arg10) = m ((c.tc : Thread Cert.QFwd.nD Cert.QFwd.τ).loc Cert.QFwd.main_arg10))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
      ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2)
      ∧ r.2.mem ((c.tc : Thread Cert.QFwdIdeal.nD Cert.QFwdIdeal.τ).loc Cert.QFwdIdeal.main_arg3) = m ((c.tc : Thread Cert.QFwdIdeal.nD Cert.QFwdIdeal.τ).loc Cert.QFwdIdeal.main_arg3)
      ∧ r.2.mem ((c.tc : Thread Cert.QFwdIdeal.nD Cert.QFwdIdeal.τ).loc Cert.QFwdIdeal.main_arg4) = m ((c.tc : Thread Cert.QFwdIdeal.nD Cert.QFwdIdeal.τ).loc Cert.QFwdIdeal.main_arg4)
      ∧ r.2.mem ((c.tc : Thread Cert.QFwdIdeal.nD Cert.QFwdIdeal.τ).loc Cert.QFwdIdeal.main_arg5) = m ((c.tc : Thread Cert.QFwdIdeal.nD Cert.QFwdIdeal.τ).loc Cert.QFwdIdeal.main_arg5)
      ∧ r.2.mem ((c.tc : Thread Cert.QFwdIdeal.nD Cert.QFwdIdeal.τ).loc Cert.QFwdIdeal.main_arg6) = m ((c.tc : Thread Cert.QFwdIdeal.nD Cert.QFwdIdeal.τ).loc Cert.QFwdIdeal.main_arg6)
      ∧ r.2.mem ((c.tc : Thread Cert.QFwdIdeal.nD Cert.QFwdIdeal.τ).loc Cert.QFwdIdeal.main_arg7) = m ((c.tc : Thread Cert.QFwdIdeal.nD Cert.QFwdIdeal.τ).loc Cert.QFwdIdeal.main_arg7)
      ∧ r.2.mem ((c.tc : Thread Cert.QFwdIdeal.nD Cert.QFwdIdeal.τ).loc Cert.QFwdIdeal.main_arg8) = m ((c.tc : Thread Cert.QFwdIdeal.nD Cert.QFwdIdeal.τ).loc Cert.QFwdIdeal.main_arg8)
      ∧ r.2.mem ((c.tc : Thread Cert.QFwdIdeal.nD Cert.QFwdIdeal.τ).loc Cert.QFwdIdeal.main_arg9) = m ((c.tc : Thread Cert.QFwdIdeal.nD Cert.QFwdIdeal.τ).loc Cert.QFwdIdeal.main_arg9)
      ∧ r.2.mem ((c.tc : Thread Cert.QFwdIdeal.nD Cert.QFwdIdeal.τ).loc Cert.QFwdIdeal.main_arg10) = m ((c.tc : Thread Cert.QFwdIdeal.nD Cert.QFwdIdeal.τ).loc Cert.QFwdIdeal.main_arg10))
      ∧ r.2.sem = fun _ => 0)

def quiescent_QFwdReferenceIdeal [hQFwdReferenceIdeal : Cert.QFwdReferenceIdeal.Facts] : Prop :=
  ∀ (m : (ℓ : Loc Cert.QFwdReferenceIdeal.nD Cert.QFwdReferenceIdeal.τ Cert.QFwdReferenceIdeal.sig) → Buf (Elt Ideal) ℓ) (g : Dev Cert.QFwdReferenceIdeal.nD → PrngReg), Pre_QFwdReferenceIdeal m →
    θ_run (Cert.QFwdReferenceIdeal.defs (F := Ideal)) (onTc (τ := Cert.QFwdReferenceIdeal.τ) (Cert.QFwdReferenceIdeal.main (F := Ideal))) ⟨m, fun _ => 0, g⟩ (fun r => (∀ c : Dev Cert.QFwdReferenceIdeal.nD,
      r.2.mem ((c.tc : Thread Cert.QFwdReferenceIdeal.nD Cert.QFwdReferenceIdeal.τ).loc Cert.QFwdReferenceIdeal.main_arg0) = m ((c.tc : Thread Cert.QFwdReferenceIdeal.nD Cert.QFwdReferenceIdeal.τ).loc Cert.QFwdReferenceIdeal.main_arg0)
      ∧ r.2.mem ((c.tc : Thread Cert.QFwdReferenceIdeal.nD Cert.QFwdReferenceIdeal.τ).loc Cert.QFwdReferenceIdeal.main_arg1) = m ((c.tc : Thread Cert.QFwdReferenceIdeal.nD Cert.QFwdReferenceIdeal.τ).loc Cert.QFwdReferenceIdeal.main_arg1)
      ∧ r.2.mem ((c.tc : Thread Cert.QFwdReferenceIdeal.nD Cert.QFwdReferenceIdeal.τ).loc Cert.QFwdReferenceIdeal.main_arg2) = m ((c.tc : Thread Cert.QFwdReferenceIdeal.nD Cert.QFwdReferenceIdeal.τ).loc Cert.QFwdReferenceIdeal.main_arg2)
      ∧ r.2.mem ((c.tc : Thread Cert.QFwdReferenceIdeal.nD Cert.QFwdReferenceIdeal.τ).loc Cert.QFwdReferenceIdeal.main_arg3) = m ((c.tc : Thread Cert.QFwdReferenceIdeal.nD Cert.QFwdReferenceIdeal.τ).loc Cert.QFwdReferenceIdeal.main_arg3)
      ∧ r.2.mem ((c.tc : Thread Cert.QFwdReferenceIdeal.nD Cert.QFwdReferenceIdeal.τ).loc Cert.QFwdReferenceIdeal.main_arg4) = m ((c.tc : Thread Cert.QFwdReferenceIdeal.nD Cert.QFwdReferenceIdeal.τ).loc Cert.QFwdReferenceIdeal.main_arg4)
      ∧ r.2.mem ((c.tc : Thread Cert.QFwdReferenceIdeal.nD Cert.QFwdReferenceIdeal.τ).loc Cert.QFwdReferenceIdeal.main_arg5) = m ((c.tc : Thread Cert.QFwdReferenceIdeal.nD Cert.QFwdReferenceIdeal.τ).loc Cert.QFwdReferenceIdeal.main_arg5)
      ∧ r.2.mem ((c.tc : Thread Cert.QFwdReferenceIdeal.nD Cert.QFwdReferenceIdeal.τ).loc Cert.QFwdReferenceIdeal.main_arg6) = m ((c.tc : Thread Cert.QFwdReferenceIdeal.nD Cert.QFwdReferenceIdeal.τ).loc Cert.QFwdReferenceIdeal.main_arg6)
      ∧ r.2.mem ((c.tc : Thread Cert.QFwdReferenceIdeal.nD Cert.QFwdReferenceIdeal.τ).loc Cert.QFwdReferenceIdeal.main_arg7) = m ((c.tc : Thread Cert.QFwdReferenceIdeal.nD Cert.QFwdReferenceIdeal.τ).loc Cert.QFwdReferenceIdeal.main_arg7)
      ∧ r.2.mem ((c.tc : Thread Cert.QFwdReferenceIdeal.nD Cert.QFwdReferenceIdeal.τ).loc Cert.QFwdReferenceIdeal.main_arg8) = m ((c.tc : Thread Cert.QFwdReferenceIdeal.nD Cert.QFwdReferenceIdeal.τ).loc Cert.QFwdReferenceIdeal.main_arg8)
      ∧ r.2.mem ((c.tc : Thread Cert.QFwdReferenceIdeal.nD Cert.QFwdReferenceIdeal.τ).loc Cert.QFwdReferenceIdeal.main_arg9) = m ((c.tc : Thread Cert.QFwdReferenceIdeal.nD Cert.QFwdReferenceIdeal.τ).loc Cert.QFwdReferenceIdeal.main_arg9)
      ∧ r.2.mem ((c.tc : Thread Cert.QFwdReferenceIdeal.nD Cert.QFwdReferenceIdeal.τ).loc Cert.QFwdReferenceIdeal.main_arg10) = m ((c.tc : Thread Cert.QFwdReferenceIdeal.nD Cert.QFwdReferenceIdeal.τ).loc Cert.QFwdReferenceIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "exp2_scale" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v12_0)) (v1 : (c : Dev Cert.FfnIdeal.nD) → Buf (Elt Ideal) ((c.tc : Thread Cert.FfnIdeal.nD Cert.FfnIdeal.τ).loc Cert.FfnIdeal.main_v13_0)) (v2 : (c : Dev Cert.FfnIdeal.nD) → Buf (Elt Ideal) ((c.tc : Thread Cert.FfnIdeal.nD Cert.FfnIdeal.τ).loc Cert.FfnIdeal.main_v13_1)) (v3 : (c : Dev Cert.FfnIdeal.nD) → Buf (Elt Ideal) ((c.tc : Thread Cert.FfnIdeal.nD Cert.FfnIdeal.τ).loc Cert.FfnIdeal.main_v13_2)) (v4 : (c : Dev Cert.FfnIdeal.nD) → Buf (Elt Ideal) ((c.tc : Thread Cert.FfnIdeal.nD Cert.FfnIdeal.τ).loc Cert.FfnIdeal.main_v13_3)) (v5 : (c : Dev Cert.FfnIdeal.nD) → Buf (Elt Ideal) ((c.tc : Thread Cert.FfnIdeal.nD Cert.FfnIdeal.τ).loc Cert.FfnIdeal.main_v13_4)) (v6 : (c : Dev Cert.FfnIdeal.nD) → Buf (Elt Ideal) ((c.tc : Thread Cert.FfnIdeal.nD Cert.FfnIdeal.τ).loc Cert.FfnIdeal.main_v13_5)) (v7 : (c : Dev Cert.FfnIdeal.nD) → Buf (Elt Ideal) ((c.tc : Thread Cert.FfnIdeal.nD Cert.FfnIdeal.τ).loc Cert.FfnIdeal.main_v13_6)) (v8 : (c : Dev Cert.FfnIdeal.nD) → Buf (Elt Ideal) ((c.tc : Thread Cert.FfnIdeal.nD Cert.FfnIdeal.τ).loc Cert.FfnIdeal.main_v13_7)) (v9 : (c : Dev Cert.FfnIdeal.nD) → Buf (Elt Ideal) ((c.tc : Thread Cert.FfnIdeal.nD Cert.FfnIdeal.τ).loc Cert.FfnIdeal.main_v13_8)) (v10 : (c : Dev Cert.FfnIdeal.nD) → Buf (Elt Ideal) ((c.tc : Thread Cert.FfnIdeal.nD Cert.FfnIdeal.τ).loc Cert.FfnIdeal.main_v13_9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12_0) = v0 c
          ∧ r.2.mem ((c.tc : Thread Cert.FfnIdeal.nD Cert.FfnIdeal.τ).loc Cert.FfnIdeal.main_v13_0) = v1 c
          ∧ r.2.mem ((c.tc : Thread Cert.FfnIdeal.nD Cert.FfnIdeal.τ).loc Cert.FfnIdeal.main_v13_1) = v2 c
          ∧ r.2.mem ((c.tc : Thread Cert.FfnIdeal.nD Cert.FfnIdeal.τ).loc Cert.FfnIdeal.main_v13_2) = v3 c
          ∧ r.2.mem ((c.tc : Thread Cert.FfnIdeal.nD Cert.FfnIdeal.τ).loc Cert.FfnIdeal.main_v13_3) = v4 c
          ∧ r.2.mem ((c.tc : Thread Cert.FfnIdeal.nD Cert.FfnIdeal.τ).loc Cert.FfnIdeal.main_v13_4) = v5 c
          ∧ r.2.mem ((c.tc : Thread Cert.FfnIdeal.nD Cert.FfnIdeal.τ).loc Cert.FfnIdeal.main_v13_5) = v6 c
          ∧ r.2.mem ((c.tc : Thread Cert.FfnIdeal.nD Cert.FfnIdeal.τ).loc Cert.FfnIdeal.main_v13_6) = v7 c
          ∧ r.2.mem ((c.tc : Thread Cert.FfnIdeal.nD Cert.FfnIdeal.τ).loc Cert.FfnIdeal.main_v13_7) = v8 c
          ∧ r.2.mem ((c.tc : Thread Cert.FfnIdeal.nD Cert.FfnIdeal.τ).loc Cert.FfnIdeal.main_v13_8) = v9 c
          ∧ r.2.mem ((c.tc : Thread Cert.FfnIdeal.nD Cert.FfnIdeal.τ).loc Cert.FfnIdeal.main_v13_9) = v10 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_v73) = v1 c
          ∧ r.2.mem ((c.tc : Thread Cert.FfnReferenceIdeal.nD Cert.FfnReferenceIdeal.τ).loc Cert.FfnReferenceIdeal.main_v77) = v2 c
          ∧ r.2.mem ((c.tc : Thread Cert.FfnReferenceIdeal.nD Cert.FfnReferenceIdeal.τ).loc Cert.FfnReferenceIdeal.main_v81) = v3 c
          ∧ r.2.mem ((c.tc : Thread Cert.FfnReferenceIdeal.nD Cert.FfnReferenceIdeal.τ).loc Cert.FfnReferenceIdeal.main_v82) = v4 c
          ∧ r.2.mem ((c.tc : Thread Cert.FfnReferenceIdeal.nD Cert.FfnReferenceIdeal.τ).loc Cert.FfnReferenceIdeal.main_v83) = v5 c
          ∧ r.2.mem ((c.tc : Thread Cert.FfnReferenceIdeal.nD Cert.FfnReferenceIdeal.τ).loc Cert.FfnReferenceIdeal.main_v87) = v6 c
          ∧ r.2.mem ((c.tc : Thread Cert.FfnReferenceIdeal.nD Cert.FfnReferenceIdeal.τ).loc Cert.FfnReferenceIdeal.main_v56) = v7 c
          ∧ r.2.mem ((c.tc : Thread Cert.FfnReferenceIdeal.nD Cert.FfnReferenceIdeal.τ).loc Cert.FfnReferenceIdeal.main_v48) = v8 c
          ∧ r.2.mem ((c.tc : Thread Cert.FfnReferenceIdeal.nD Cert.FfnReferenceIdeal.τ).loc Cert.FfnReferenceIdeal.main_v51) = v9 c
          ∧ r.2.mem ((c.tc : Thread Cert.FfnReferenceIdeal.nD Cert.FfnReferenceIdeal.τ).loc Cert.FfnReferenceIdeal.main_v39) = v10 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_TnIn_TnInIdeal : Prop :=
  True

def algebraic_TnInIdeal_TnInReferenceIdeal [hTnInIdeal : Cert.TnInIdeal.Facts] [hTnInReferenceIdeal : Cert.TnInReferenceIdeal.Facts] : Prop :=
  ∀ (m : (ℓ : Loc Cert.TnInIdeal.nD Cert.TnInIdeal.τ Cert.TnInIdeal.sig) → Buf (Elt Ideal) ℓ) (g : Dev Cert.TnInIdeal.nD → PrngReg)
    (m' : (ℓ : Loc Cert.TnInReferenceIdeal.nD Cert.TnInReferenceIdeal.τ Cert.TnInReferenceIdeal.sig) → Buf (Elt Ideal) ℓ) (g' : Dev Cert.TnInReferenceIdeal.nD → PrngReg), Pre_TnInIdeal m →
    (∀ c : Dev Cert.TnInIdeal.nD,
      m' ((c.tc : Thread Cert.TnInReferenceIdeal.nD Cert.TnInReferenceIdeal.τ).loc Cert.TnInReferenceIdeal.main_arg0) = m ((c.tc : Thread Cert.TnInIdeal.nD Cert.TnInIdeal.τ).loc Cert.TnInIdeal.main_arg0)
      ∧ m' ((c.tc : Thread Cert.TnInReferenceIdeal.nD Cert.TnInReferenceIdeal.τ).loc Cert.TnInReferenceIdeal.main_arg1) = m ((c.tc : Thread Cert.TnInIdeal.nD Cert.TnInIdeal.τ).loc Cert.TnInIdeal.main_arg1)) →
    ∃ (v0 : (c : Dev Cert.TnInIdeal.nD) → Buf (Elt Ideal) ((c.tc : Thread Cert.TnInIdeal.nD Cert.TnInIdeal.τ).loc Cert.TnInIdeal.main_v0)),
      θ_run (Cert.TnInIdeal.defs (F := Ideal)) (onTc (τ := Cert.TnInIdeal.τ) (Cert.TnInIdeal.main (F := Ideal))) ⟨m, fun _ => 0, g⟩ (fun r => ∀ c : Dev Cert.TnInIdeal.nD,
          r.2.mem ((c.tc : Thread Cert.TnInIdeal.nD Cert.TnInIdeal.τ).loc Cert.TnInIdeal.main_v0) = v0 c
          ∧ r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
          ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ θ_run (Cert.TnInReferenceIdeal.defs (F := Ideal)) (onTc (τ := Cert.TnInReferenceIdeal.τ) (Cert.TnInReferenceIdeal.main (F := Ideal))) ⟨m', fun _ => 0, g'⟩ (fun r => ∀ c : Dev Cert.TnInReferenceIdeal.nD,
          r.2.mem ((c.tc : Thread Cert.TnInReferenceIdeal.nD Cert.TnInReferenceIdeal.τ).loc Cert.TnInReferenceIdeal.main_v8) = v0 c
          ∧ r.2.mem ((c.tc : Thread Cert.TnInReferenceIdeal.nD Cert.TnInReferenceIdeal.τ).loc Cert.TnInReferenceIdeal.main_arg0) = m' ((c.tc : Thread Cert.TnInReferenceIdeal.nD Cert.TnInReferenceIdeal.τ).loc Cert.TnInReferenceIdeal.main_arg0)
          ∧ r.2.mem ((c.tc : Thread Cert.TnInReferenceIdeal.nD Cert.TnInReferenceIdeal.τ).loc Cert.TnInReferenceIdeal.main_arg1) = m' ((c.tc : Thread Cert.TnInReferenceIdeal.nD Cert.TnInReferenceIdeal.τ).loc Cert.TnInReferenceIdeal.main_arg1))

def preserves_TnOut_TnOutIdeal : Prop :=
  True

def algebraic_TnOutIdeal_TnOutReferenceIdeal [hTnOutIdeal : Cert.TnOutIdeal.Facts] [hTnOutReferenceIdeal : Cert.TnOutReferenceIdeal.Facts] : Prop :=
  ∀ (m : (ℓ : Loc Cert.TnOutIdeal.nD Cert.TnOutIdeal.τ Cert.TnOutIdeal.sig) → Buf (Elt Ideal) ℓ) (g : Dev Cert.TnOutIdeal.nD → PrngReg)
    (m' : (ℓ : Loc Cert.TnOutReferenceIdeal.nD Cert.TnOutReferenceIdeal.τ Cert.TnOutReferenceIdeal.sig) → Buf (Elt Ideal) ℓ) (g' : Dev Cert.TnOutReferenceIdeal.nD → PrngReg), Pre_TnOutIdeal m →
    (∀ c : Dev Cert.TnOutIdeal.nD,
      m' ((c.tc : Thread Cert.TnOutReferenceIdeal.nD Cert.TnOutReferenceIdeal.τ).loc Cert.TnOutReferenceIdeal.main_arg0) = m ((c.tc : Thread Cert.TnOutIdeal.nD Cert.TnOutIdeal.τ).loc Cert.TnOutIdeal.main_arg0)
      ∧ m' ((c.tc : Thread Cert.TnOutReferenceIdeal.nD Cert.TnOutReferenceIdeal.τ).loc Cert.TnOutReferenceIdeal.main_arg1) = m ((c.tc : Thread Cert.TnOutIdeal.nD Cert.TnOutIdeal.τ).loc Cert.TnOutIdeal.main_arg1)) →
    ∃ (v0 : (c : Dev Cert.TnOutIdeal.nD) → Buf (Elt Ideal) ((c.tc : Thread Cert.TnOutIdeal.nD Cert.TnOutIdeal.τ).loc Cert.TnOutIdeal.main_v0)),
      θ_run (Cert.TnOutIdeal.defs (F := Ideal)) (onTc (τ := Cert.TnOutIdeal.τ) (Cert.TnOutIdeal.main (F := Ideal))) ⟨m, fun _ => 0, g⟩ (fun r => ∀ c : Dev Cert.TnOutIdeal.nD,
          r.2.mem ((c.tc : Thread Cert.TnOutIdeal.nD Cert.TnOutIdeal.τ).loc Cert.TnOutIdeal.main_v0) = v0 c
          ∧ r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
          ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ θ_run (Cert.TnOutReferenceIdeal.defs (F := Ideal)) (onTc (τ := Cert.TnOutReferenceIdeal.τ) (Cert.TnOutReferenceIdeal.main (F := Ideal))) ⟨m', fun _ => 0, g'⟩ (fun r => ∀ c : Dev Cert.TnOutReferenceIdeal.nD,
          r.2.mem ((c.tc : Thread Cert.TnOutReferenceIdeal.nD Cert.TnOutReferenceIdeal.τ).loc Cert.TnOutReferenceIdeal.main_v6) = v0 c
          ∧ r.2.mem ((c.tc : Thread Cert.TnOutReferenceIdeal.nD Cert.TnOutReferenceIdeal.τ).loc Cert.TnOutReferenceIdeal.main_arg0) = m' ((c.tc : Thread Cert.TnOutReferenceIdeal.nD Cert.TnOutReferenceIdeal.τ).loc Cert.TnOutReferenceIdeal.main_arg0)
          ∧ r.2.mem ((c.tc : Thread Cert.TnOutReferenceIdeal.nD Cert.TnOutReferenceIdeal.τ).loc Cert.TnOutReferenceIdeal.main_arg1) = m' ((c.tc : Thread Cert.TnOutReferenceIdeal.nD Cert.TnOutReferenceIdeal.τ).loc Cert.TnOutReferenceIdeal.main_arg1))

def preserves_Fwd_FwdIdeal : Prop :=
  IdealRules.named_const.Statement Cert.FwdIdeal.κ "mask" .f32 0xF149F2CA#32 ⊥
  ∧ IdealRules.named_const.Statement Cert.FwdIdeal.κ "exp2_scale" .f32 0x3E16C740#32 (((3424635 / 33554432) * (Real.log 2)⁻¹ : ℝ) : EReal)

def algebraic_FwdIdeal_FwdReferenceIdeal_pre_fwd_finite [hFwdIdeal : Cert.FwdIdeal.Facts] [hFwdReferenceIdeal : Cert.FwdReferenceIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_fwd_finite m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v24) = v0 c
          ∧ r.2.mem ((c.tc : Thread Cert.FwdReferenceIdeal.nD Cert.FwdReferenceIdeal.τ).loc Cert.FwdReferenceIdeal.main_v25) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_GluFwd_GluFwdIdeal : Prop :=
  True

def algebraic_GluFwdIdeal_GluFwdReferenceIdeal [hGluFwdIdeal : Cert.GluFwdIdeal.Facts] [hGluFwdReferenceIdeal : Cert.GluFwdReferenceIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdIdeal m →
    (∀ c : Dev Cert.GluFwdIdeal.nD,
      m' ((c.tc : Thread Cert.GluFwdReferenceIdeal.nD Cert.GluFwdReferenceIdeal.τ).loc Cert.GluFwdReferenceIdeal.main_arg0) = m ((c.tc : Thread Cert.GluFwdIdeal.nD Cert.GluFwdIdeal.τ).loc Cert.GluFwdIdeal.main_arg0)
      ∧ m' ((c.tc : Thread Cert.GluFwdReferenceIdeal.nD Cert.GluFwdReferenceIdeal.τ).loc Cert.GluFwdReferenceIdeal.main_arg1) = m ((c.tc : Thread Cert.GluFwdIdeal.nD Cert.GluFwdIdeal.τ).loc Cert.GluFwdIdeal.main_arg1)
      ∧ m' ((c.tc : Thread Cert.GluFwdReferenceIdeal.nD Cert.GluFwdReferenceIdeal.τ).loc Cert.GluFwdReferenceIdeal.main_arg2) = m ((c.tc : Thread Cert.GluFwdIdeal.nD Cert.GluFwdIdeal.τ).loc Cert.GluFwdIdeal.main_arg2)
      ∧ m' ((c.tc : Thread Cert.GluFwdReferenceIdeal.nD Cert.GluFwdReferenceIdeal.τ).loc Cert.GluFwdReferenceIdeal.main_arg3) = m ((c.tc : Thread Cert.GluFwdIdeal.nD Cert.GluFwdIdeal.τ).loc Cert.GluFwdIdeal.main_arg3)
      ∧ m' ((c.tc : Thread Cert.GluFwdReferenceIdeal.nD Cert.GluFwdReferenceIdeal.τ).loc Cert.GluFwdReferenceIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v27) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0)
          ∧ r.2.mem ((c.tc : Thread Cert.GluFwdReferenceIdeal.nD Cert.GluFwdReferenceIdeal.τ).loc Cert.GluFwdReferenceIdeal.main_arg1) = m' ((c.tc : Thread Cert.GluFwdReferenceIdeal.nD Cert.GluFwdReferenceIdeal.τ).loc Cert.GluFwdReferenceIdeal.main_arg1)
          ∧ r.2.mem ((c.tc : Thread Cert.GluFwdReferenceIdeal.nD Cert.GluFwdReferenceIdeal.τ).loc Cert.GluFwdReferenceIdeal.main_arg2) = m' ((c.tc : Thread Cert.GluFwdReferenceIdeal.nD Cert.GluFwdReferenceIdeal.τ).loc Cert.GluFwdReferenceIdeal.main_arg2)
          ∧ r.2.mem ((c.tc : Thread Cert.GluFwdReferenceIdeal.nD Cert.GluFwdReferenceIdeal.τ).loc Cert.GluFwdReferenceIdeal.main_arg3) = m' ((c.tc : Thread Cert.GluFwdReferenceIdeal.nD Cert.GluFwdReferenceIdeal.τ).loc Cert.GluFwdReferenceIdeal.main_arg3)
          ∧ r.2.mem ((c.tc : Thread Cert.GluFwdReferenceIdeal.nD Cert.GluFwdReferenceIdeal.τ).loc Cert.GluFwdReferenceIdeal.main_arg4) = m' ((c.tc : Thread Cert.GluFwdReferenceIdeal.nD Cert.GluFwdReferenceIdeal.τ).loc Cert.GluFwdReferenceIdeal.main_arg4))

def preserves_GluBwd_GluBwdIdeal : Prop :=
  True

def algebraic_GluBwdIdeal_GluBwdReferenceIdeal [hGluBwdIdeal : Cert.GluBwdIdeal.Facts] [hGluBwdReferenceIdeal : Cert.GluBwdReferenceIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdReferenceIdeal.nD Cert.GluBwdReferenceIdeal.τ Cert.GluBwdReferenceIdeal.sig) → Buf (Elt Ideal) ℓ) (g' : Dev Cert.GluBwdReferenceIdeal.nD → PrngReg), Pre_GluBwdIdeal m →
    (∀ c : Dev Cert.GluBwdIdeal.nD,
      m' ((c.tc : Thread Cert.GluBwdReferenceIdeal.nD Cert.GluBwdReferenceIdeal.τ).loc Cert.GluBwdReferenceIdeal.main_arg0) = m ((c.tc : Thread Cert.GluBwdIdeal.nD Cert.GluBwdIdeal.τ).loc Cert.GluBwdIdeal.main_arg0)
      ∧ m' ((c.tc : Thread Cert.GluBwdReferenceIdeal.nD Cert.GluBwdReferenceIdeal.τ).loc Cert.GluBwdReferenceIdeal.main_arg1) = m ((c.tc : Thread Cert.GluBwdIdeal.nD Cert.GluBwdIdeal.τ).loc Cert.GluBwdIdeal.main_arg1)
      ∧ m' ((c.tc : Thread Cert.GluBwdReferenceIdeal.nD Cert.GluBwdReferenceIdeal.τ).loc Cert.GluBwdReferenceIdeal.main_arg2) = m ((c.tc : Thread Cert.GluBwdIdeal.nD Cert.GluBwdIdeal.τ).loc Cert.GluBwdIdeal.main_arg2)
      ∧ m' ((c.tc : Thread Cert.GluBwdReferenceIdeal.nD Cert.GluBwdReferenceIdeal.τ).loc Cert.GluBwdReferenceIdeal.main_arg3) = m ((c.tc : Thread Cert.GluBwdIdeal.nD Cert.GluBwdIdeal.τ).loc Cert.GluBwdIdeal.main_arg3)
      ∧ m' ((c.tc : Thread Cert.GluBwdReferenceIdeal.nD Cert.GluBwdReferenceIdeal.τ).loc Cert.GluBwdReferenceIdeal.main_arg4) = m ((c.tc : Thread Cert.GluBwdIdeal.nD Cert.GluBwdIdeal.τ).loc Cert.GluBwdIdeal.main_arg4)
      ∧ m' ((c.tc : Thread Cert.GluBwdReferenceIdeal.nD Cert.GluBwdReferenceIdeal.τ).loc Cert.GluBwdReferenceIdeal.main_arg5) = m ((c.tc : Thread Cert.GluBwdIdeal.nD Cert.GluBwdIdeal.τ).loc Cert.GluBwdIdeal.main_arg5)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)) (v3 : (c : Dev Cert.GluBwdIdeal.nD) → Buf (Elt Ideal) ((c.tc : Thread Cert.GluBwdIdeal.nD Cert.GluBwdIdeal.τ).loc Cert.GluBwdIdeal.main_v1_3)) (v4 : (c : Dev Cert.GluBwdIdeal.nD) → Buf (Elt Ideal) ((c.tc : Thread Cert.GluBwdIdeal.nD Cert.GluBwdIdeal.τ).loc Cert.GluBwdIdeal.main_v1_4)) (v5 : (c : Dev Cert.GluBwdIdeal.nD) → Buf (Elt Ideal) ((c.tc : Thread Cert.GluBwdIdeal.nD Cert.GluBwdIdeal.τ).loc Cert.GluBwdIdeal.main_v1_5)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_v1_3) = v3 c
          ∧ r.2.mem ((c.tc : Thread Cert.GluBwdIdeal.nD Cert.GluBwdIdeal.τ).loc Cert.GluBwdIdeal.main_v1_4) = v4 c
          ∧ r.2.mem ((c.tc : Thread Cert.GluBwdIdeal.nD Cert.GluBwdIdeal.τ).loc Cert.GluBwdIdeal.main_v1_5) = v5 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
          ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ θ_run (Cert.GluBwdReferenceIdeal.defs (F := Ideal)) (onTc (τ := Cert.GluBwdReferenceIdeal.τ) (Cert.GluBwdReferenceIdeal.main (F := Ideal))) ⟨m', fun _ => 0, g'⟩ (fun r => ∀ c : Dev Cert.GluBwdReferenceIdeal.nD,
          r.2.mem ((c.tc : Thread Cert.GluBwdReferenceIdeal.nD Cert.GluBwdReferenceIdeal.τ).loc Cert.GluBwdReferenceIdeal.main_arg5) = v0 c
          ∧ r.2.mem ((c.tc : Thread Cert.GluBwdReferenceIdeal.nD Cert.GluBwdReferenceIdeal.τ).loc Cert.GluBwdReferenceIdeal.main_v63) = v1 c
          ∧ r.2.mem ((c.tc : Thread Cert.GluBwdReferenceIdeal.nD Cert.GluBwdReferenceIdeal.τ).loc Cert.GluBwdReferenceIdeal.main_v64) = v2 c
          ∧ r.2.mem ((c.tc : Thread Cert.GluBwdReferenceIdeal.nD Cert.GluBwdReferenceIdeal.τ).loc Cert.GluBwdReferenceIdeal.main_v65) = v3 c
          ∧ r.2.mem ((c.tc : Thread Cert.GluBwdReferenceIdeal.nD Cert.GluBwdReferenceIdeal.τ).loc Cert.GluBwdReferenceIdeal.main_v44) = v4 c
          ∧ r.2.mem ((c.tc : Thread Cert.GluBwdReferenceIdeal.nD Cert.GluBwdReferenceIdeal.τ).loc Cert.GluBwdReferenceIdeal.main_v49) = v5 c
          ∧ r.2.mem ((c.tc : Thread Cert.GluBwdReferenceIdeal.nD Cert.GluBwdReferenceIdeal.τ).loc Cert.GluBwdReferenceIdeal.main_arg0) = m' ((c.tc : Thread Cert.GluBwdReferenceIdeal.nD Cert.GluBwdReferenceIdeal.τ).loc Cert.GluBwdReferenceIdeal.main_arg0)
          ∧ r.2.mem ((c.tc : Thread Cert.GluBwdReferenceIdeal.nD Cert.GluBwdReferenceIdeal.τ).loc Cert.GluBwdReferenceIdeal.main_arg1) = m' ((c.tc : Thread Cert.GluBwdReferenceIdeal.nD Cert.GluBwdReferenceIdeal.τ).loc Cert.GluBwdReferenceIdeal.main_arg1)
          ∧ r.2.mem ((c.tc : Thread Cert.GluBwdReferenceIdeal.nD Cert.GluBwdReferenceIdeal.τ).loc Cert.GluBwdReferenceIdeal.main_arg2) = m' ((c.tc : Thread Cert.GluBwdReferenceIdeal.nD Cert.GluBwdReferenceIdeal.τ).loc Cert.GluBwdReferenceIdeal.main_arg2)
          ∧ r.2.mem ((c.tc : Thread Cert.GluBwdReferenceIdeal.nD Cert.GluBwdReferenceIdeal.τ).loc Cert.GluBwdReferenceIdeal.main_arg3) = m' ((c.tc : Thread Cert.GluBwdReferenceIdeal.nD Cert.GluBwdReferenceIdeal.τ).loc Cert.GluBwdReferenceIdeal.main_arg3)
          ∧ r.2.mem ((c.tc : Thread Cert.GluBwdReferenceIdeal.nD Cert.GluBwdReferenceIdeal.τ).loc Cert.GluBwdReferenceIdeal.main_arg4) = m' ((c.tc : Thread Cert.GluBwdReferenceIdeal.nD Cert.GluBwdReferenceIdeal.τ).loc Cert.GluBwdReferenceIdeal.main_arg4)
          ∧ r.2.mem ((c.tc : Thread Cert.GluBwdReferenceIdeal.nD Cert.GluBwdReferenceIdeal.τ).loc Cert.GluBwdReferenceIdeal.main_arg5) = m' ((c.tc : Thread Cert.GluBwdReferenceIdeal.nD Cert.GluBwdReferenceIdeal.τ).loc Cert.GluBwdReferenceIdeal.main_arg5))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v5) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)
      ∧ m' ((c.tc : Thread Cert.OutBwdReferenceIdeal.nD Cert.OutBwdReferenceIdeal.τ).loc Cert.OutBwdReferenceIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)) (v2 : (c : Dev Cert.OutBwdIdeal.nD) → Buf (Elt Ideal) ((c.tc : Thread Cert.OutBwdIdeal.nD Cert.OutBwdIdeal.τ).loc Cert.OutBwdIdeal.main_v1_2)) (v3 : (c : Dev Cert.OutBwdIdeal.nD) → Buf (Elt Ideal) ((c.tc : Thread Cert.OutBwdIdeal.nD Cert.OutBwdIdeal.τ).loc Cert.OutBwdIdeal.main_v1_3)) (v4 : (c : Dev Cert.OutBwdIdeal.nD) → Buf (Elt Ideal) ((c.tc : Thread Cert.OutBwdIdeal.nD Cert.OutBwdIdeal.τ).loc Cert.OutBwdIdeal.main_v1_4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_v1_2) = v2 c
          ∧ r.2.mem ((c.tc : Thread Cert.OutBwdIdeal.nD Cert.OutBwdIdeal.τ).loc Cert.OutBwdIdeal.main_v1_3) = v3 c
          ∧ r.2.mem ((c.tc : Thread Cert.OutBwdIdeal.nD Cert.OutBwdIdeal.τ).loc Cert.OutBwdIdeal.main_v1_4) = v4 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_arg4) = v0 c
          ∧ r.2.mem ((c.tc : Thread Cert.OutBwdReferenceIdeal.nD Cert.OutBwdReferenceIdeal.τ).loc Cert.OutBwdReferenceIdeal.main_v12) = v1 c
          ∧ r.2.mem ((c.tc : Thread Cert.OutBwdReferenceIdeal.nD Cert.OutBwdReferenceIdeal.τ).loc Cert.OutBwdReferenceIdeal.main_v13) = v2 c
          ∧ r.2.mem ((c.tc : Thread Cert.OutBwdReferenceIdeal.nD Cert.OutBwdReferenceIdeal.τ).loc Cert.OutBwdReferenceIdeal.main_v14) = v3 c
          ∧ r.2.mem ((c.tc : Thread Cert.OutBwdReferenceIdeal.nD Cert.OutBwdReferenceIdeal.τ).loc Cert.OutBwdReferenceIdeal.main_v11) = v4 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3)
          ∧ r.2.mem ((c.tc : Thread Cert.OutBwdReferenceIdeal.nD Cert.OutBwdReferenceIdeal.τ).loc Cert.OutBwdReferenceIdeal.main_arg4) = m' ((c.tc : Thread Cert.OutBwdReferenceIdeal.nD Cert.OutBwdReferenceIdeal.τ).loc Cert.OutBwdReferenceIdeal.main_arg4))

def preserves_TnSq_TnSqIdeal : Prop :=
  True

def algebraic_TnSqIdeal_TnSqReferenceIdeal [hTnSqIdeal : Cert.TnSqIdeal.Facts] [hTnSqReferenceIdeal : Cert.TnSqReferenceIdeal.Facts] : Prop :=
  ∀ (m : (ℓ : Loc Cert.TnSqIdeal.nD Cert.TnSqIdeal.τ Cert.TnSqIdeal.sig) → Buf (Elt Ideal) ℓ) (g : Dev Cert.TnSqIdeal.nD → PrngReg)
    (m' : (ℓ : Loc Cert.TnSqReferenceIdeal.nD Cert.TnSqReferenceIdeal.τ Cert.TnSqReferenceIdeal.sig) → Buf (Elt Ideal) ℓ) (g' : Dev Cert.TnSqReferenceIdeal.nD → PrngReg), Pre_TnSqIdeal m →
    (∀ c : Dev Cert.TnSqIdeal.nD,
      m' ((c.tc : Thread Cert.TnSqReferenceIdeal.nD Cert.TnSqReferenceIdeal.τ).loc Cert.TnSqReferenceIdeal.main_arg0) = m ((c.tc : Thread Cert.TnSqIdeal.nD Cert.TnSqIdeal.τ).loc Cert.TnSqIdeal.main_arg0)
      ∧ m' ((c.tc : Thread Cert.TnSqReferenceIdeal.nD Cert.TnSqReferenceIdeal.τ).loc Cert.TnSqReferenceIdeal.main_arg1) = m ((c.tc : Thread Cert.TnSqIdeal.nD Cert.TnSqIdeal.τ).loc Cert.TnSqIdeal.main_arg1)) →
    ∃ (v0 : (c : Dev Cert.TnSqIdeal.nD) → Buf (Elt Ideal) ((c.tc : Thread Cert.TnSqIdeal.nD Cert.TnSqIdeal.τ).loc Cert.TnSqIdeal.main_v0)),
      θ_run (Cert.TnSqIdeal.defs (F := Ideal)) (onTc (τ := Cert.TnSqIdeal.τ) (Cert.TnSqIdeal.main (F := Ideal))) ⟨m, fun _ => 0, g⟩ (fun r => ∀ c : Dev Cert.TnSqIdeal.nD,
          r.2.mem ((c.tc : Thread Cert.TnSqIdeal.nD Cert.TnSqIdeal.τ).loc Cert.TnSqIdeal.main_v0) = v0 c
          ∧ r.2.mem ((c.tc : Thread Cert.TnSqIdeal.nD Cert.TnSqIdeal.τ).loc Cert.TnSqIdeal.main_arg0) = m ((c.tc : Thread Cert.TnSqIdeal.nD Cert.TnSqIdeal.τ).loc Cert.TnSqIdeal.main_arg0)
          ∧ r.2.mem ((c.tc : Thread Cert.TnSqIdeal.nD Cert.TnSqIdeal.τ).loc Cert.TnSqIdeal.main_arg1) = m ((c.tc : Thread Cert.TnSqIdeal.nD Cert.TnSqIdeal.τ).loc Cert.TnSqIdeal.main_arg1))
      ∧ θ_run (Cert.TnSqReferenceIdeal.defs (F := Ideal)) (onTc (τ := Cert.TnSqReferenceIdeal.τ) (Cert.TnSqReferenceIdeal.main (F := Ideal))) ⟨m', fun _ => 0, g'⟩ (fun r => ∀ c : Dev Cert.TnSqReferenceIdeal.nD,
          r.2.mem ((c.tc : Thread Cert.TnSqReferenceIdeal.nD Cert.TnSqReferenceIdeal.τ).loc Cert.TnSqReferenceIdeal.main_v6) = v0 c
          ∧ r.2.mem ((c.tc : Thread Cert.TnSqReferenceIdeal.nD Cert.TnSqReferenceIdeal.τ).loc Cert.TnSqReferenceIdeal.main_arg0) = m' ((c.tc : Thread Cert.TnSqReferenceIdeal.nD Cert.TnSqReferenceIdeal.τ).loc Cert.TnSqReferenceIdeal.main_arg0)
          ∧ r.2.mem ((c.tc : Thread Cert.TnSqReferenceIdeal.nD Cert.TnSqReferenceIdeal.τ).loc Cert.TnSqReferenceIdeal.main_arg1) = m' ((c.tc : Thread Cert.TnSqReferenceIdeal.nD Cert.TnSqReferenceIdeal.τ).loc Cert.TnSqReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Adam_AdamIdeal : Prop :=
  IdealRules.named_const.Statement Cert.AdamIdeal.κ "c1" .f32 0x3FC48605#32 (((5463681 / 8388608)⁻¹ : ℝ) : EReal)
  ∧ IdealRules.named_const.Statement Cert.AdamIdeal.κ "c2" .f32 0x42C8E6D3#32 (((2672307 / 268435456)⁻¹ : ℝ) : EReal)

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)
      ∧ m' ((c.tc : Thread Cert.AdamReferenceIdeal.nD Cert.AdamReferenceIdeal.τ).loc Cert.AdamReferenceIdeal.main_arg4) = m ((c.tc : Thread Cert.AdamIdeal.nD Cert.AdamIdeal.τ).loc Cert.AdamIdeal.main_arg4)
      ∧ m' ((c.tc : Thread Cert.AdamReferenceIdeal.nD Cert.AdamReferenceIdeal.τ).loc Cert.AdamReferenceIdeal.main_arg5) = m ((c.tc : Thread Cert.AdamIdeal.nD Cert.AdamIdeal.τ).loc Cert.AdamIdeal.main_arg5)
      ∧ m' ((c.tc : Thread Cert.AdamReferenceIdeal.nD Cert.AdamReferenceIdeal.τ).loc Cert.AdamReferenceIdeal.main_arg6) = m ((c.tc : Thread Cert.AdamIdeal.nD Cert.AdamIdeal.τ).loc Cert.AdamIdeal.main_arg6)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v16) = v0 c
          ∧ r.2.mem ((c.tc : Thread Cert.AdamReferenceIdeal.nD Cert.AdamReferenceIdeal.τ).loc Cert.AdamReferenceIdeal.main_v40) = v1 c
          ∧ r.2.mem ((c.tc : Thread Cert.AdamReferenceIdeal.nD Cert.AdamReferenceIdeal.τ).loc Cert.AdamReferenceIdeal.main_v21) = v2 c
          ∧ r.2.mem ((c.tc : Thread Cert.AdamReferenceIdeal.nD Cert.AdamReferenceIdeal.τ).loc Cert.AdamReferenceIdeal.main_v27) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6))

def preserves_TnDq_TnDqIdeal : Prop :=
  True

def algebraic_TnDqIdeal_TnDqReferenceIdeal [hTnDqIdeal : Cert.TnDqIdeal.Facts] [hTnDqReferenceIdeal : Cert.TnDqReferenceIdeal.Facts] : Prop :=
  ∀ (m : (ℓ : Loc Cert.TnDqIdeal.nD Cert.TnDqIdeal.τ Cert.TnDqIdeal.sig) → Buf (Elt Ideal) ℓ) (g : Dev Cert.TnDqIdeal.nD → PrngReg)
    (m' : (ℓ : Loc Cert.TnDqReferenceIdeal.nD Cert.TnDqReferenceIdeal.τ Cert.TnDqReferenceIdeal.sig) → Buf (Elt Ideal) ℓ) (g' : Dev Cert.TnDqReferenceIdeal.nD → PrngReg), Pre_TnDqIdeal m →
    (∀ c : Dev Cert.TnDqIdeal.nD,
      m' ((c.tc : Thread Cert.TnDqReferenceIdeal.nD Cert.TnDqReferenceIdeal.τ).loc Cert.TnDqReferenceIdeal.main_arg0) = m ((c.tc : Thread Cert.TnDqIdeal.nD Cert.TnDqIdeal.τ).loc Cert.TnDqIdeal.main_arg0)
      ∧ m' ((c.tc : Thread Cert.TnDqReferenceIdeal.nD Cert.TnDqReferenceIdeal.τ).loc Cert.TnDqReferenceIdeal.main_arg1) = m ((c.tc : Thread Cert.TnDqIdeal.nD Cert.TnDqIdeal.τ).loc Cert.TnDqIdeal.main_arg1)) →
    ∃ (v0 : (c : Dev Cert.TnDqIdeal.nD) → Buf (Elt Ideal) ((c.tc : Thread Cert.TnDqIdeal.nD Cert.TnDqIdeal.τ).loc Cert.TnDqIdeal.main_v0)),
      θ_run (Cert.TnDqIdeal.defs (F := Ideal)) (onTc (τ := Cert.TnDqIdeal.τ) (Cert.TnDqIdeal.main (F := Ideal))) ⟨m, fun _ => 0, g⟩ (fun r => ∀ c : Dev Cert.TnDqIdeal.nD,
          r.2.mem ((c.tc : Thread Cert.TnDqIdeal.nD Cert.TnDqIdeal.τ).loc Cert.TnDqIdeal.main_v0) = v0 c
          ∧ r.2.mem ((c.tc : Thread Cert.TnDqIdeal.nD Cert.TnDqIdeal.τ).loc Cert.TnDqIdeal.main_arg0) = m ((c.tc : Thread Cert.TnDqIdeal.nD Cert.TnDqIdeal.τ).loc Cert.TnDqIdeal.main_arg0)
          ∧ r.2.mem ((c.tc : Thread Cert.TnDqIdeal.nD Cert.TnDqIdeal.τ).loc Cert.TnDqIdeal.main_arg1) = m ((c.tc : Thread Cert.TnDqIdeal.nD Cert.TnDqIdeal.τ).loc Cert.TnDqIdeal.main_arg1))
      ∧ θ_run (Cert.TnDqReferenceIdeal.defs (F := Ideal)) (onTc (τ := Cert.TnDqReferenceIdeal.τ) (Cert.TnDqReferenceIdeal.main (F := Ideal))) ⟨m', fun _ => 0, g'⟩ (fun r => ∀ c : Dev Cert.TnDqReferenceIdeal.nD,
          r.2.mem ((c.tc : Thread Cert.TnDqReferenceIdeal.nD Cert.TnDqReferenceIdeal.τ).loc Cert.TnDqReferenceIdeal.main_v6) = v0 c
          ∧ r.2.mem ((c.tc : Thread Cert.TnDqReferenceIdeal.nD Cert.TnDqReferenceIdeal.τ).loc Cert.TnDqReferenceIdeal.main_arg0) = m' ((c.tc : Thread Cert.TnDqReferenceIdeal.nD Cert.TnDqReferenceIdeal.τ).loc Cert.TnDqReferenceIdeal.main_arg0)
          ∧ r.2.mem ((c.tc : Thread Cert.TnDqReferenceIdeal.nD Cert.TnDqReferenceIdeal.τ).loc Cert.TnDqReferenceIdeal.main_arg1) = m' ((c.tc : Thread Cert.TnDqReferenceIdeal.nD Cert.TnDqReferenceIdeal.τ).loc Cert.TnDqReferenceIdeal.main_arg1))

def preserves_TnUq_TnUqIdeal : Prop :=
  True

def algebraic_TnUqIdeal_TnUqReferenceIdeal [hTnUqIdeal : Cert.TnUqIdeal.Facts] [hTnUqReferenceIdeal : Cert.TnUqReferenceIdeal.Facts] : Prop :=
  ∀ (m : (ℓ : Loc Cert.TnUqIdeal.nD Cert.TnUqIdeal.τ Cert.TnUqIdeal.sig) → Buf (Elt Ideal) ℓ) (g : Dev Cert.TnUqIdeal.nD → PrngReg)
    (m' : (ℓ : Loc Cert.TnUqReferenceIdeal.nD Cert.TnUqReferenceIdeal.τ Cert.TnUqReferenceIdeal.sig) → Buf (Elt Ideal) ℓ) (g' : Dev Cert.TnUqReferenceIdeal.nD → PrngReg), Pre_TnUqIdeal m →
    (∀ c : Dev Cert.TnUqIdeal.nD,
      m' ((c.tc : Thread Cert.TnUqReferenceIdeal.nD Cert.TnUqReferenceIdeal.τ).loc Cert.TnUqReferenceIdeal.main_arg0) = m ((c.tc : Thread Cert.TnUqIdeal.nD Cert.TnUqIdeal.τ).loc Cert.TnUqIdeal.main_arg0)
      ∧ m' ((c.tc : Thread Cert.TnUqReferenceIdeal.nD Cert.TnUqReferenceIdeal.τ).loc Cert.TnUqReferenceIdeal.main_arg1) = m ((c.tc : Thread Cert.TnUqIdeal.nD Cert.TnUqIdeal.τ).loc Cert.TnUqIdeal.main_arg1)) →
    ∃ (v0 : (c : Dev Cert.TnUqIdeal.nD) → Buf (Elt Ideal) ((c.tc : Thread Cert.TnUqIdeal.nD Cert.TnUqIdeal.τ).loc Cert.TnUqIdeal.main_v0)),
      θ_run (Cert.TnUqIdeal.defs (F := Ideal)) (onTc (τ := Cert.TnUqIdeal.τ) (Cert.TnUqIdeal.main (F := Ideal))) ⟨m, fun _ => 0, g⟩ (fun r => ∀ c : Dev Cert.TnUqIdeal.nD,
          r.2.mem ((c.tc : Thread Cert.TnUqIdeal.nD Cert.TnUqIdeal.τ).loc Cert.TnUqIdeal.main_v0) = v0 c
          ∧ r.2.mem ((c.tc : Thread Cert.TnUqIdeal.nD Cert.TnUqIdeal.τ).loc Cert.TnUqIdeal.main_arg0) = m ((c.tc : Thread Cert.TnUqIdeal.nD Cert.TnUqIdeal.τ).loc Cert.TnUqIdeal.main_arg0)
          ∧ r.2.mem ((c.tc : Thread Cert.TnUqIdeal.nD Cert.TnUqIdeal.τ).loc Cert.TnUqIdeal.main_arg1) = m ((c.tc : Thread Cert.TnUqIdeal.nD Cert.TnUqIdeal.τ).loc Cert.TnUqIdeal.main_arg1))
      ∧ θ_run (Cert.TnUqReferenceIdeal.defs (F := Ideal)) (onTc (τ := Cert.TnUqReferenceIdeal.τ) (Cert.TnUqReferenceIdeal.main (F := Ideal))) ⟨m', fun _ => 0, g'⟩ (fun r => ∀ c : Dev Cert.TnUqReferenceIdeal.nD,
          r.2.mem ((c.tc : Thread Cert.TnUqReferenceIdeal.nD Cert.TnUqReferenceIdeal.τ).loc Cert.TnUqReferenceIdeal.main_v6) = v0 c
          ∧ r.2.mem ((c.tc : Thread Cert.TnUqReferenceIdeal.nD Cert.TnUqReferenceIdeal.τ).loc Cert.TnUqReferenceIdeal.main_arg0) = m' ((c.tc : Thread Cert.TnUqReferenceIdeal.nD Cert.TnUqReferenceIdeal.τ).loc Cert.TnUqReferenceIdeal.main_arg0)
          ∧ r.2.mem ((c.tc : Thread Cert.TnUqReferenceIdeal.nD Cert.TnUqReferenceIdeal.τ).loc Cert.TnUqReferenceIdeal.main_arg1) = m' ((c.tc : Thread Cert.TnUqReferenceIdeal.nD Cert.TnUqReferenceIdeal.τ).loc Cert.TnUqReferenceIdeal.main_arg1))

def preserves_TnKva_TnKvaIdeal : Prop :=
  True

def algebraic_TnKvaIdeal_TnKvaReferenceIdeal [hTnKvaIdeal : Cert.TnKvaIdeal.Facts] [hTnKvaReferenceIdeal : Cert.TnKvaReferenceIdeal.Facts] : Prop :=
  ∀ (m : (ℓ : Loc Cert.TnKvaIdeal.nD Cert.TnKvaIdeal.τ Cert.TnKvaIdeal.sig) → Buf (Elt Ideal) ℓ) (g : Dev Cert.TnKvaIdeal.nD → PrngReg)
    (m' : (ℓ : Loc Cert.TnKvaReferenceIdeal.nD Cert.TnKvaReferenceIdeal.τ Cert.TnKvaReferenceIdeal.sig) → Buf (Elt Ideal) ℓ) (g' : Dev Cert.TnKvaReferenceIdeal.nD → PrngReg), Pre_TnKvaIdeal m →
    (∀ c : Dev Cert.TnKvaIdeal.nD,
      m' ((c.tc : Thread Cert.TnKvaReferenceIdeal.nD Cert.TnKvaReferenceIdeal.τ).loc Cert.TnKvaReferenceIdeal.main_arg0) = m ((c.tc : Thread Cert.TnKvaIdeal.nD Cert.TnKvaIdeal.τ).loc Cert.TnKvaIdeal.main_arg0)
      ∧ m' ((c.tc : Thread Cert.TnKvaReferenceIdeal.nD Cert.TnKvaReferenceIdeal.τ).loc Cert.TnKvaReferenceIdeal.main_arg1) = m ((c.tc : Thread Cert.TnKvaIdeal.nD Cert.TnKvaIdeal.τ).loc Cert.TnKvaIdeal.main_arg1)) →
    ∃ (v0 : (c : Dev Cert.TnKvaIdeal.nD) → Buf (Elt Ideal) ((c.tc : Thread Cert.TnKvaIdeal.nD Cert.TnKvaIdeal.τ).loc Cert.TnKvaIdeal.main_v0)),
      θ_run (Cert.TnKvaIdeal.defs (F := Ideal)) (onTc (τ := Cert.TnKvaIdeal.τ) (Cert.TnKvaIdeal.main (F := Ideal))) ⟨m, fun _ => 0, g⟩ (fun r => ∀ c : Dev Cert.TnKvaIdeal.nD,
          r.2.mem ((c.tc : Thread Cert.TnKvaIdeal.nD Cert.TnKvaIdeal.τ).loc Cert.TnKvaIdeal.main_v0) = v0 c
          ∧ r.2.mem ((c.tc : Thread Cert.TnKvaIdeal.nD Cert.TnKvaIdeal.τ).loc Cert.TnKvaIdeal.main_arg0) = m ((c.tc : Thread Cert.TnKvaIdeal.nD Cert.TnKvaIdeal.τ).loc Cert.TnKvaIdeal.main_arg0)
          ∧ r.2.mem ((c.tc : Thread Cert.TnKvaIdeal.nD Cert.TnKvaIdeal.τ).loc Cert.TnKvaIdeal.main_arg1) = m ((c.tc : Thread Cert.TnKvaIdeal.nD Cert.TnKvaIdeal.τ).loc Cert.TnKvaIdeal.main_arg1))
      ∧ θ_run (Cert.TnKvaReferenceIdeal.defs (F := Ideal)) (onTc (τ := Cert.TnKvaReferenceIdeal.τ) (Cert.TnKvaReferenceIdeal.main (F := Ideal))) ⟨m', fun _ => 0, g'⟩ (fun r => ∀ c : Dev Cert.TnKvaReferenceIdeal.nD,
          r.2.mem ((c.tc : Thread Cert.TnKvaReferenceIdeal.nD Cert.TnKvaReferenceIdeal.τ).loc Cert.TnKvaReferenceIdeal.main_v6) = v0 c
          ∧ r.2.mem ((c.tc : Thread Cert.TnKvaReferenceIdeal.nD Cert.TnKvaReferenceIdeal.τ).loc Cert.TnKvaReferenceIdeal.main_arg0) = m' ((c.tc : Thread Cert.TnKvaReferenceIdeal.nD Cert.TnKvaReferenceIdeal.τ).loc Cert.TnKvaReferenceIdeal.main_arg0)
          ∧ r.2.mem ((c.tc : Thread Cert.TnKvaReferenceIdeal.nD Cert.TnKvaReferenceIdeal.τ).loc Cert.TnKvaReferenceIdeal.main_arg1) = m' ((c.tc : Thread Cert.TnKvaReferenceIdeal.nD Cert.TnKvaReferenceIdeal.τ).loc Cert.TnKvaReferenceIdeal.main_arg1))

def preserves_TnV_TnVIdeal : Prop :=
  True

def algebraic_TnVIdeal_TnVReferenceIdeal [hTnVIdeal : Cert.TnVIdeal.Facts] [hTnVReferenceIdeal : Cert.TnVReferenceIdeal.Facts] : Prop :=
  ∀ (m : (ℓ : Loc Cert.TnVIdeal.nD Cert.TnVIdeal.τ Cert.TnVIdeal.sig) → Buf (Elt Ideal) ℓ) (g : Dev Cert.TnVIdeal.nD → PrngReg)
    (m' : (ℓ : Loc Cert.TnVReferenceIdeal.nD Cert.TnVReferenceIdeal.τ Cert.TnVReferenceIdeal.sig) → Buf (Elt Ideal) ℓ) (g' : Dev Cert.TnVReferenceIdeal.nD → PrngReg), Pre_TnVIdeal m →
    (∀ c : Dev Cert.TnVIdeal.nD,
      m' ((c.tc : Thread Cert.TnVReferenceIdeal.nD Cert.TnVReferenceIdeal.τ).loc Cert.TnVReferenceIdeal.main_arg0) = m ((c.tc : Thread Cert.TnVIdeal.nD Cert.TnVIdeal.τ).loc Cert.TnVIdeal.main_arg0)
      ∧ m' ((c.tc : Thread Cert.TnVReferenceIdeal.nD Cert.TnVReferenceIdeal.τ).loc Cert.TnVReferenceIdeal.main_arg1) = m ((c.tc : Thread Cert.TnVIdeal.nD Cert.TnVIdeal.τ).loc Cert.TnVIdeal.main_arg1)) →
    ∃ (v0 : (c : Dev Cert.TnVIdeal.nD) → Buf (Elt Ideal) ((c.tc : Thread Cert.TnVIdeal.nD Cert.TnVIdeal.τ).loc Cert.TnVIdeal.main_v0)),
      θ_run (Cert.TnVIdeal.defs (F := Ideal)) (onTc (τ := Cert.TnVIdeal.τ) (Cert.TnVIdeal.main (F := Ideal))) ⟨m, fun _ => 0, g⟩ (fun r => ∀ c : Dev Cert.TnVIdeal.nD,
          r.2.mem ((c.tc : Thread Cert.TnVIdeal.nD Cert.TnVIdeal.τ).loc Cert.TnVIdeal.main_v0) = v0 c
          ∧ r.2.mem ((c.tc : Thread Cert.TnVIdeal.nD Cert.TnVIdeal.τ).loc Cert.TnVIdeal.main_arg0) = m ((c.tc : Thread Cert.TnVIdeal.nD Cert.TnVIdeal.τ).loc Cert.TnVIdeal.main_arg0)
          ∧ r.2.mem ((c.tc : Thread Cert.TnVIdeal.nD Cert.TnVIdeal.τ).loc Cert.TnVIdeal.main_arg1) = m ((c.tc : Thread Cert.TnVIdeal.nD Cert.TnVIdeal.τ).loc Cert.TnVIdeal.main_arg1))
      ∧ θ_run (Cert.TnVReferenceIdeal.defs (F := Ideal)) (onTc (τ := Cert.TnVReferenceIdeal.τ) (Cert.TnVReferenceIdeal.main (F := Ideal))) ⟨m', fun _ => 0, g'⟩ (fun r => ∀ c : Dev Cert.TnVReferenceIdeal.nD,
          r.2.mem ((c.tc : Thread Cert.TnVReferenceIdeal.nD Cert.TnVReferenceIdeal.τ).loc Cert.TnVReferenceIdeal.main_v6) = v0 c
          ∧ r.2.mem ((c.tc : Thread Cert.TnVReferenceIdeal.nD Cert.TnVReferenceIdeal.τ).loc Cert.TnVReferenceIdeal.main_arg0) = m' ((c.tc : Thread Cert.TnVReferenceIdeal.nD Cert.TnVReferenceIdeal.τ).loc Cert.TnVReferenceIdeal.main_arg0)
          ∧ r.2.mem ((c.tc : Thread Cert.TnVReferenceIdeal.nD Cert.TnVReferenceIdeal.τ).loc Cert.TnVReferenceIdeal.main_arg1) = m' ((c.tc : Thread Cert.TnVReferenceIdeal.nD Cert.TnVReferenceIdeal.τ).loc Cert.TnVReferenceIdeal.main_arg1))

def preserves_QFwd_QFwdIdeal : Prop :=
  True

def algebraic_QFwdIdeal_QFwdReferenceIdeal [hQFwdIdeal : Cert.QFwdIdeal.Facts] [hQFwdReferenceIdeal : Cert.QFwdReferenceIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdReferenceIdeal.nD Cert.QFwdReferenceIdeal.τ Cert.QFwdReferenceIdeal.sig) → Buf (Elt Ideal) ℓ) (g' : Dev Cert.QFwdReferenceIdeal.nD → PrngReg), Pre_QFwdIdeal m →
    (∀ c : Dev Cert.QFwdIdeal.nD,
      m' ((c.tc : Thread Cert.QFwdReferenceIdeal.nD Cert.QFwdReferenceIdeal.τ).loc Cert.QFwdReferenceIdeal.main_arg0) = m ((c.tc : Thread Cert.QFwdIdeal.nD Cert.QFwdIdeal.τ).loc Cert.QFwdIdeal.main_arg0)
      ∧ m' ((c.tc : Thread Cert.QFwdReferenceIdeal.nD Cert.QFwdReferenceIdeal.τ).loc Cert.QFwdReferenceIdeal.main_arg1) = m ((c.tc : Thread Cert.QFwdIdeal.nD Cert.QFwdIdeal.τ).loc Cert.QFwdIdeal.main_arg1)
      ∧ m' ((c.tc : Thread Cert.QFwdReferenceIdeal.nD Cert.QFwdReferenceIdeal.τ).loc Cert.QFwdReferenceIdeal.main_arg2) = m ((c.tc : Thread Cert.QFwdIdeal.nD Cert.QFwdIdeal.τ).loc Cert.QFwdIdeal.main_arg2)
      ∧ m' ((c.tc : Thread Cert.QFwdReferenceIdeal.nD Cert.QFwdReferenceIdeal.τ).loc Cert.QFwdReferenceIdeal.main_arg3) = m ((c.tc : Thread Cert.QFwdIdeal.nD Cert.QFwdIdeal.τ).loc Cert.QFwdIdeal.main_arg3)
      ∧ m' ((c.tc : Thread Cert.QFwdReferenceIdeal.nD Cert.QFwdReferenceIdeal.τ).loc Cert.QFwdReferenceIdeal.main_arg4) = m ((c.tc : Thread Cert.QFwdIdeal.nD Cert.QFwdIdeal.τ).loc Cert.QFwdIdeal.main_arg4)
      ∧ m' ((c.tc : Thread Cert.QFwdReferenceIdeal.nD Cert.QFwdReferenceIdeal.τ).loc Cert.QFwdReferenceIdeal.main_arg5) = m ((c.tc : Thread Cert.QFwdIdeal.nD Cert.QFwdIdeal.τ).loc Cert.QFwdIdeal.main_arg5)
      ∧ m' ((c.tc : Thread Cert.QFwdReferenceIdeal.nD Cert.QFwdReferenceIdeal.τ).loc Cert.QFwdReferenceIdeal.main_arg6) = m ((c.tc : Thread Cert.QFwdIdeal.nD Cert.QFwdIdeal.τ).loc Cert.QFwdIdeal.main_arg6)
      ∧ m' ((c.tc : Thread Cert.QFwdReferenceIdeal.nD Cert.QFwdReferenceIdeal.τ).loc Cert.QFwdReferenceIdeal.main_arg7) = m ((c.tc : Thread Cert.QFwdIdeal.nD Cert.QFwdIdeal.τ).loc Cert.QFwdIdeal.main_arg7)
      ∧ m' ((c.tc : Thread Cert.QFwdReferenceIdeal.nD Cert.QFwdReferenceIdeal.τ).loc Cert.QFwdReferenceIdeal.main_arg8) = m ((c.tc : Thread Cert.QFwdIdeal.nD Cert.QFwdIdeal.τ).loc Cert.QFwdIdeal.main_arg8)
      ∧ m' ((c.tc : Thread Cert.QFwdReferenceIdeal.nD Cert.QFwdReferenceIdeal.τ).loc Cert.QFwdReferenceIdeal.main_arg9) = m ((c.tc : Thread Cert.QFwdIdeal.nD Cert.QFwdIdeal.τ).loc Cert.QFwdIdeal.main_arg9)
      ∧ m' ((c.tc : Thread Cert.QFwdReferenceIdeal.nD Cert.QFwdReferenceIdeal.τ).loc Cert.QFwdReferenceIdeal.main_arg10) = m ((c.tc : Thread Cert.QFwdIdeal.nD Cert.QFwdIdeal.τ).loc Cert.QFwdIdeal.main_arg10)) →
    ∃ (v0 : (c : Dev Cert.QFwdIdeal.nD) → Buf (Elt Ideal) ((c.tc : Thread Cert.QFwdIdeal.nD Cert.QFwdIdeal.τ).loc Cert.QFwdIdeal.main_v15)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v15) = v0 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
          ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2)
          ∧ r.2.mem ((c.tc : Thread Cert.QFwdIdeal.nD Cert.QFwdIdeal.τ).loc Cert.QFwdIdeal.main_arg3) = m ((c.tc : Thread Cert.QFwdIdeal.nD Cert.QFwdIdeal.τ).loc Cert.QFwdIdeal.main_arg3)
          ∧ r.2.mem ((c.tc : Thread Cert.QFwdIdeal.nD Cert.QFwdIdeal.τ).loc Cert.QFwdIdeal.main_arg4) = m ((c.tc : Thread Cert.QFwdIdeal.nD Cert.QFwdIdeal.τ).loc Cert.QFwdIdeal.main_arg4)
          ∧ r.2.mem ((c.tc : Thread Cert.QFwdIdeal.nD Cert.QFwdIdeal.τ).loc Cert.QFwdIdeal.main_arg5) = m ((c.tc : Thread Cert.QFwdIdeal.nD Cert.QFwdIdeal.τ).loc Cert.QFwdIdeal.main_arg5)
          ∧ r.2.mem ((c.tc : Thread Cert.QFwdIdeal.nD Cert.QFwdIdeal.τ).loc Cert.QFwdIdeal.main_arg6) = m ((c.tc : Thread Cert.QFwdIdeal.nD Cert.QFwdIdeal.τ).loc Cert.QFwdIdeal.main_arg6)
          ∧ r.2.mem ((c.tc : Thread Cert.QFwdIdeal.nD Cert.QFwdIdeal.τ).loc Cert.QFwdIdeal.main_arg7) = m ((c.tc : Thread Cert.QFwdIdeal.nD Cert.QFwdIdeal.τ).loc Cert.QFwdIdeal.main_arg7)
          ∧ r.2.mem ((c.tc : Thread Cert.QFwdIdeal.nD Cert.QFwdIdeal.τ).loc Cert.QFwdIdeal.main_arg8) = m ((c.tc : Thread Cert.QFwdIdeal.nD Cert.QFwdIdeal.τ).loc Cert.QFwdIdeal.main_arg8)
          ∧ r.2.mem ((c.tc : Thread Cert.QFwdIdeal.nD Cert.QFwdIdeal.τ).loc Cert.QFwdIdeal.main_arg9) = m ((c.tc : Thread Cert.QFwdIdeal.nD Cert.QFwdIdeal.τ).loc Cert.QFwdIdeal.main_arg9)
          ∧ r.2.mem ((c.tc : Thread Cert.QFwdIdeal.nD Cert.QFwdIdeal.τ).loc Cert.QFwdIdeal.main_arg10) = m ((c.tc : Thread Cert.QFwdIdeal.nD Cert.QFwdIdeal.τ).loc Cert.QFwdIdeal.main_arg10))
      ∧ θ_run (Cert.QFwdReferenceIdeal.defs (F := Ideal)) (onTc (τ := Cert.QFwdReferenceIdeal.τ) (Cert.QFwdReferenceIdeal.main (F := Ideal))) ⟨m', fun _ => 0, g'⟩ (fun r => ∀ c : Dev Cert.QFwdReferenceIdeal.nD,
          r.2.mem ((c.tc : Thread Cert.QFwdReferenceIdeal.nD Cert.QFwdReferenceIdeal.τ).loc Cert.QFwdReferenceIdeal.main_v79) = v0 c
          ∧ r.2.mem ((c.tc : Thread Cert.QFwdReferenceIdeal.nD Cert.QFwdReferenceIdeal.τ).loc Cert.QFwdReferenceIdeal.main_arg0) = m' ((c.tc : Thread Cert.QFwdReferenceIdeal.nD Cert.QFwdReferenceIdeal.τ).loc Cert.QFwdReferenceIdeal.main_arg0)
          ∧ r.2.mem ((c.tc : Thread Cert.QFwdReferenceIdeal.nD Cert.QFwdReferenceIdeal.τ).loc Cert.QFwdReferenceIdeal.main_arg1) = m' ((c.tc : Thread Cert.QFwdReferenceIdeal.nD Cert.QFwdReferenceIdeal.τ).loc Cert.QFwdReferenceIdeal.main_arg1)
          ∧ r.2.mem ((c.tc : Thread Cert.QFwdReferenceIdeal.nD Cert.QFwdReferenceIdeal.τ).loc Cert.QFwdReferenceIdeal.main_arg2) = m' ((c.tc : Thread Cert.QFwdReferenceIdeal.nD Cert.QFwdReferenceIdeal.τ).loc Cert.QFwdReferenceIdeal.main_arg2)
          ∧ r.2.mem ((c.tc : Thread Cert.QFwdReferenceIdeal.nD Cert.QFwdReferenceIdeal.τ).loc Cert.QFwdReferenceIdeal.main_arg3) = m' ((c.tc : Thread Cert.QFwdReferenceIdeal.nD Cert.QFwdReferenceIdeal.τ).loc Cert.QFwdReferenceIdeal.main_arg3)
          ∧ r.2.mem ((c.tc : Thread Cert.QFwdReferenceIdeal.nD Cert.QFwdReferenceIdeal.τ).loc Cert.QFwdReferenceIdeal.main_arg4) = m' ((c.tc : Thread Cert.QFwdReferenceIdeal.nD Cert.QFwdReferenceIdeal.τ).loc Cert.QFwdReferenceIdeal.main_arg4)
          ∧ r.2.mem ((c.tc : Thread Cert.QFwdReferenceIdeal.nD Cert.QFwdReferenceIdeal.τ).loc Cert.QFwdReferenceIdeal.main_arg5) = m' ((c.tc : Thread Cert.QFwdReferenceIdeal.nD Cert.QFwdReferenceIdeal.τ).loc Cert.QFwdReferenceIdeal.main_arg5)
          ∧ r.2.mem ((c.tc : Thread Cert.QFwdReferenceIdeal.nD Cert.QFwdReferenceIdeal.τ).loc Cert.QFwdReferenceIdeal.main_arg6) = m' ((c.tc : Thread Cert.QFwdReferenceIdeal.nD Cert.QFwdReferenceIdeal.τ).loc Cert.QFwdReferenceIdeal.main_arg6)
          ∧ r.2.mem ((c.tc : Thread Cert.QFwdReferenceIdeal.nD Cert.QFwdReferenceIdeal.τ).loc Cert.QFwdReferenceIdeal.main_arg7) = m' ((c.tc : Thread Cert.QFwdReferenceIdeal.nD Cert.QFwdReferenceIdeal.τ).loc Cert.QFwdReferenceIdeal.main_arg7)
          ∧ r.2.mem ((c.tc : Thread Cert.QFwdReferenceIdeal.nD Cert.QFwdReferenceIdeal.τ).loc Cert.QFwdReferenceIdeal.main_arg8) = m' ((c.tc : Thread Cert.QFwdReferenceIdeal.nD Cert.QFwdReferenceIdeal.τ).loc Cert.QFwdReferenceIdeal.main_arg8)
          ∧ r.2.mem ((c.tc : Thread Cert.QFwdReferenceIdeal.nD Cert.QFwdReferenceIdeal.τ).loc Cert.QFwdReferenceIdeal.main_arg9) = m' ((c.tc : Thread Cert.QFwdReferenceIdeal.nD Cert.QFwdReferenceIdeal.τ).loc Cert.QFwdReferenceIdeal.main_arg9)
          ∧ r.2.mem ((c.tc : Thread Cert.QFwdReferenceIdeal.nD Cert.QFwdReferenceIdeal.τ).loc Cert.QFwdReferenceIdeal.main_arg10) = m' ((c.tc : Thread Cert.QFwdReferenceIdeal.nD Cert.QFwdReferenceIdeal.τ).loc Cert.QFwdReferenceIdeal.main_arg10))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hTnIn : Cert.TnIn.Facts) (hTnInIdeal : Cert.TnInIdeal.Facts) (hTnInReferenceIdeal : Cert.TnInReferenceIdeal.Facts) (hTnOut : Cert.TnOut.Facts) (hTnOutIdeal : Cert.TnOutIdeal.Facts) (hTnOutReferenceIdeal : Cert.TnOutReferenceIdeal.Facts) (hFwd : Cert.Fwd.Facts) (hFwdIdeal : Cert.FwdIdeal.Facts) (hFwdReferenceIdeal : Cert.FwdReferenceIdeal.Facts) (hGluFwd : Cert.GluFwd.Facts) (hGluFwdIdeal : Cert.GluFwdIdeal.Facts) (hGluFwdReferenceIdeal : Cert.GluFwdReferenceIdeal.Facts) (hGluBwd : Cert.GluBwd.Facts) (hGluBwdIdeal : Cert.GluBwdIdeal.Facts) (hGluBwdReferenceIdeal : Cert.GluBwdReferenceIdeal.Facts) (hOutFwd : Cert.OutFwd.Facts) (hOutFwdIdeal : Cert.OutFwdIdeal.Facts) (hOutFwdReferenceIdeal : Cert.OutFwdReferenceIdeal.Facts) (hOutBwd : Cert.OutBwd.Facts) (hOutBwdIdeal : Cert.OutBwdIdeal.Facts) (hOutBwdReferenceIdeal : Cert.OutBwdReferenceIdeal.Facts) (hTnSq : Cert.TnSq.Facts) (hTnSqIdeal : Cert.TnSqIdeal.Facts) (hTnSqReferenceIdeal : Cert.TnSqReferenceIdeal.Facts) (hLoss : Cert.Loss.Facts) (hLossIdeal : Cert.LossIdeal.Facts) (hLossReferenceIdeal : Cert.LossReferenceIdeal.Facts) (hAdam : Cert.Adam.Facts) (hAdamIdeal : Cert.AdamIdeal.Facts) (hAdamReferenceIdeal : Cert.AdamReferenceIdeal.Facts) (hTnDq : Cert.TnDq.Facts) (hTnDqIdeal : Cert.TnDqIdeal.Facts) (hTnDqReferenceIdeal : Cert.TnDqReferenceIdeal.Facts) (hTnUq : Cert.TnUq.Facts) (hTnUqIdeal : Cert.TnUqIdeal.Facts) (hTnUqReferenceIdeal : Cert.TnUqReferenceIdeal.Facts) (hTnKva : Cert.TnKva.Facts) (hTnKvaIdeal : Cert.TnKvaIdeal.Facts) (hTnKvaReferenceIdeal : Cert.TnKvaReferenceIdeal.Facts) (hTnV : Cert.TnV.Facts) (hTnVIdeal : Cert.TnVIdeal.Facts) (hTnVReferenceIdeal : Cert.TnVReferenceIdeal.Facts) (hQFwd : Cert.QFwd.Facts) (hQFwdIdeal : Cert.QFwdIdeal.Facts) (hQFwdReferenceIdeal : Cert.QFwdReferenceIdeal.Facts) (hPre_finite : Cert.Pre_finite.Facts) (hPre_ffn_finite : Cert.Pre_ffn_finite.Facts) (hPre_fwd_finite : Cert.Pre_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_TnIn (hTnIn := hTnIn)
    ∧ quiescent_TnInIdeal (hTnInIdeal := hTnInIdeal)
    ∧ quiescent_TnInReferenceIdeal (hTnInReferenceIdeal := hTnInReferenceIdeal)
    ∧ quiescent_TnOut (hTnOut := hTnOut)
    ∧ quiescent_TnOutIdeal (hTnOutIdeal := hTnOutIdeal)
    ∧ quiescent_TnOutReferenceIdeal (hTnOutReferenceIdeal := hTnOutReferenceIdeal)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdReferenceIdeal (hFwdReferenceIdeal := hFwdReferenceIdeal)
    ∧ quiescent_FwdReferenceIdeal_pre_fwd_finite (hFwdReferenceIdeal := hFwdReferenceIdeal) (hPre_fwd_finite := hPre_fwd_finite)
    ∧ quiescent_GluFwd (hGluFwd := hGluFwd)
    ∧ quiescent_GluFwdIdeal (hGluFwdIdeal := hGluFwdIdeal)
    ∧ quiescent_GluFwdReferenceIdeal (hGluFwdReferenceIdeal := hGluFwdReferenceIdeal)
    ∧ quiescent_GluBwd (hGluBwd := hGluBwd)
    ∧ quiescent_GluBwdIdeal (hGluBwdIdeal := hGluBwdIdeal)
    ∧ quiescent_GluBwdReferenceIdeal (hGluBwdReferenceIdeal := hGluBwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_TnSq (hTnSq := hTnSq)
    ∧ quiescent_TnSqIdeal (hTnSqIdeal := hTnSqIdeal)
    ∧ quiescent_TnSqReferenceIdeal (hTnSqReferenceIdeal := hTnSqReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_TnDq (hTnDq := hTnDq)
    ∧ quiescent_TnDqIdeal (hTnDqIdeal := hTnDqIdeal)
    ∧ quiescent_TnDqReferenceIdeal (hTnDqReferenceIdeal := hTnDqReferenceIdeal)
    ∧ quiescent_TnUq (hTnUq := hTnUq)
    ∧ quiescent_TnUqIdeal (hTnUqIdeal := hTnUqIdeal)
    ∧ quiescent_TnUqReferenceIdeal (hTnUqReferenceIdeal := hTnUqReferenceIdeal)
    ∧ quiescent_TnKva (hTnKva := hTnKva)
    ∧ quiescent_TnKvaIdeal (hTnKvaIdeal := hTnKvaIdeal)
    ∧ quiescent_TnKvaReferenceIdeal (hTnKvaReferenceIdeal := hTnKvaReferenceIdeal)
    ∧ quiescent_TnV (hTnV := hTnV)
    ∧ quiescent_TnVIdeal (hTnVIdeal := hTnVIdeal)
    ∧ quiescent_TnVReferenceIdeal (hTnVReferenceIdeal := hTnVReferenceIdeal)
    ∧ quiescent_QFwd (hQFwd := hQFwd)
    ∧ quiescent_QFwdIdeal (hQFwdIdeal := hQFwdIdeal)
    ∧ quiescent_QFwdReferenceIdeal (hQFwdReferenceIdeal := hQFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_TnIn_TnInIdeal
    ∧ algebraic_TnInIdeal_TnInReferenceIdeal (hTnInIdeal := hTnInIdeal) (hTnInReferenceIdeal := hTnInReferenceIdeal)
    ∧ preserves_TnOut_TnOutIdeal
    ∧ algebraic_TnOutIdeal_TnOutReferenceIdeal (hTnOutIdeal := hTnOutIdeal) (hTnOutReferenceIdeal := hTnOutReferenceIdeal)
    ∧ preserves_Fwd_FwdIdeal
    ∧ algebraic_FwdIdeal_FwdReferenceIdeal_pre_fwd_finite (hFwdIdeal := hFwdIdeal) (hFwdReferenceIdeal := hFwdReferenceIdeal) (hPre_fwd_finite := hPre_fwd_finite)
    ∧ preserves_GluFwd_GluFwdIdeal
    ∧ algebraic_GluFwdIdeal_GluFwdReferenceIdeal (hGluFwdIdeal := hGluFwdIdeal) (hGluFwdReferenceIdeal := hGluFwdReferenceIdeal)
    ∧ preserves_GluBwd_GluBwdIdeal
    ∧ algebraic_GluBwdIdeal_GluBwdReferenceIdeal (hGluBwdIdeal := hGluBwdIdeal) (hGluBwdReferenceIdeal := hGluBwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_OutBwd_OutBwdIdeal
    ∧ algebraic_OutBwdIdeal_OutBwdReferenceIdeal (hOutBwdIdeal := hOutBwdIdeal) (hOutBwdReferenceIdeal := hOutBwdReferenceIdeal)
    ∧ preserves_TnSq_TnSqIdeal
    ∧ algebraic_TnSqIdeal_TnSqReferenceIdeal (hTnSqIdeal := hTnSqIdeal) (hTnSqReferenceIdeal := hTnSqReferenceIdeal)
    ∧ preserves_Loss_LossIdeal
    ∧ algebraic_LossIdeal_LossReferenceIdeal (hLossIdeal := hLossIdeal) (hLossReferenceIdeal := hLossReferenceIdeal)
    ∧ preserves_Adam_AdamIdeal
    ∧ algebraic_AdamIdeal_AdamReferenceIdeal (hAdamIdeal := hAdamIdeal) (hAdamReferenceIdeal := hAdamReferenceIdeal)
    ∧ preserves_TnDq_TnDqIdeal
    ∧ algebraic_TnDqIdeal_TnDqReferenceIdeal (hTnDqIdeal := hTnDqIdeal) (hTnDqReferenceIdeal := hTnDqReferenceIdeal)
    ∧ preserves_TnUq_TnUqIdeal
    ∧ algebraic_TnUqIdeal_TnUqReferenceIdeal (hTnUqIdeal := hTnUqIdeal) (hTnUqReferenceIdeal := hTnUqReferenceIdeal)
    ∧ preserves_TnKva_TnKvaIdeal
    ∧ algebraic_TnKvaIdeal_TnKvaReferenceIdeal (hTnKvaIdeal := hTnKvaIdeal) (hTnKvaReferenceIdeal := hTnKvaReferenceIdeal)
    ∧ preserves_TnV_TnVIdeal
    ∧ algebraic_TnVIdeal_TnVReferenceIdeal (hTnVIdeal := hTnVIdeal) (hTnVReferenceIdeal := hTnVReferenceIdeal)
    ∧ preserves_QFwd_QFwdIdeal
    ∧ algebraic_QFwdIdeal_QFwdReferenceIdeal (hQFwdIdeal := hQFwdIdeal) (hQFwdReferenceIdeal := hQFwdReferenceIdeal)
-- ==== Pre_ffn_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024x2816 .f32) (main_arg8 : FVec F S2816x1024 .f32) (main_v33 : IVec S_ 1) : IVec S_ 1 :=
  let main_v34 : FVec F S1024x2816 .f32 := Host.absf main_arg7
  let main_cst_12 : FVec F S_ .f32 := constant S_ .f32 0x7F800000#32
  let main_v35 : FVec F S1024x2816 .f32 := broadcastInDim S1024x2816 ![] bcast_S_S1024x2816 main_cst_12
  let main_v36 : IVec S1024x2816 1 := cmpf .olt main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S2816x1024 .f32 := Host.absf main_arg8
  let main_cst_14 : FVec F S_ .f32 := constant S_ .f32 0x7F800000#32
  let main_v40 : FVec F S2816x1024 .f32 := broadcastInDim S2816x1024 ![] bcast_S_S2816x1024 main_cst_14
  let main_v41 : IVec S2816x1024 1 := cmpf .olt main_v39 main_v40
  let main_c_15 : IVec S_ 1 := constantI S_ 1 1#1
  let main_v42 : IVec S_ 1 := (fun x v => Host.reduce IntOp.andi x v reducesTo_S2816x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024 .f32) (main_arg6 : FVec F S1024x2816 .f32) (main_arg7 : FVec F S1024x2816 .f32) (main_arg8 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x2816 .f32 := Host.absf main_arg6
  let main_cst_10 : FVec F S_ .f32 := constant S_ .f32 0x7F800000#32
  let main_v30 : FVec F S1024x2816 .f32 := broadcastInDim S1024x2816 ![] bcast_S_S1024x2816 main_cst_10
  let main_v31 : IVec S1024x2816 1 := cmpf .olt main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1024x2816 .f32) (main_arg7 : FVec F S1024x2816 .f32) (main_arg8 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_finite.lean ====
abbrev S4096x16x96 : Shape := ⟨3, ![4096, 16, 96]⟩
abbrev S4096x16x64 : Shape := ⟨3, ![4096, 16, 64]⟩
abbrev S4096x1024 : Shape := ⟨2, ![4096, 1024]⟩
abbrev S_ : Shape := ⟨0, ![]⟩

class Facts : Prop where
  bcast_S_S4096x16x96 : S_.BroadcastsInDim S4096x16x96 (![] : Fin 0 → Fin S4096x16x96.rank)
  reducesTo_S4096x16x96_S_d0_1_2 : S4096x16x96.ReducesTo [0, 1, 2] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x16x96 .f32) (main_arg1 : FVec F S4096x16x96 .f32) (main_arg2 : FVec F S4096x16x64 .f32) (main_arg3 : FVec F S4096x1024 .f32) : IVec S_ 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_c : IVec S_ 1 := constantI S_ 1 1#1
  let main_v3 : IVec S_ 1 := (fun x v => Host.reduce IntOp.andi x v reducesTo_S4096x16x96_S_d0_1_2 h_S_) main_v2 main_c
  let main_v4 : FVec F S4096x16x96 .f32 := Host.absf main_arg1
  let main_cst_0 : FVec F S_ .f32 := constant S_ .f32 0x7F800000#32
  let main_v5 : FVec F S4096x16x96 .f32 := broadcastInDim S4096x16x96 ![] bcast_S_S4096x16x96 main_cst_0
  let main_v6 : IVec S4096x16x96 1 := cmpf .olt main_v4 main_v5
  let main_c_1 : IVec S_ 1 := constantI S_ 1 1#1
  let main_v7 : IVec S_ 1 := (fun x v => Host.reduce IntOp.andi x v reducesTo_S4096x16x96_S_d0_1_2 h_S_) main_v6 main_c_1
  let main_v8 : IVec S_ 1 := andi main_v3 main_v7
  let main_v9 : FVec F S4096x16x64 .f32 := Host.absf main_arg2
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  let main_c_3 : IVec S_ 1 := constantI S_ 1 1#1
  let main_v12 : IVec S_ 1 := (fun x v => Host.reduce IntOp.andi x v reducesTo_S4096x16x64_S_d0_1_2 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_fwd_finite.lean ====
abbrev S4096x16x96 : Shape := ⟨3, ![4096, 16, 96]⟩
abbrev S4096x16x64 : Shape := ⟨3, ![4096, 16, 64]⟩
abbrev S_ : Shape := ⟨0, ![]⟩

class Facts : Prop where
  bcast_S_S4096x16x96 : S_.BroadcastsInDim S4096x16x96 (![] : Fin 0 → Fin S4096x16x96.rank)
  reducesTo_S4096x16x96_S_d0_1_2 : S4096x16x96.ReducesTo [0, 1, 2] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_

variable [Facts]

def fn {F : FTy → Type} [FloatOps F] (main_arg0 : FVec F S4096x16x96 .f32) (main_arg1 : FVec F S4096x16x96 .f32) (main_arg2 : FVec F S4096x16x64 .f32) : IVec S_ 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_c : IVec S_ 1 := constantI S_ 1 1#1
  let main_v3 : IVec S_ 1 := (fun x v => Host.reduce IntOp.andi x v reducesTo_S4096x16x96_S_d0_1_2 h_S_) main_v2 main_c
  let main_v4 : FVec F S4096x16x96 .f32 := Host.absf main_arg1
  let main_cst_0 : FVec F S_ .f32 := constant S_ .f32 0x7F800000#32
  let main_v5 : FVec F S4096x16x96 .f32 := broadcastInDim S4096x16x96 ![] bcast_S_S4096x16x96 main_cst_0
  let main_v6 : IVec S4096x16x96 1 := cmpf .olt main_v4 main_v5
  let main_c_1 : IVec S_ 1 := constantI S_ 1 1#1
  let main_v7 : IVec S_ 1 := (fun x v => Host.reduce IntOp.andi x v reducesTo_S4096x16x96_S_d0_1_2 h_S_) main_v6 main_c_1
  let main_v8 : IVec S_ 1 := andi main_v3 main_v7
  let main_v9 : FVec F S4096x16x64 .f32 := Host.absf main_arg2
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  let main_c_3 : IVec S_ 1 := constantI S_ 1 1#1
  let main_v12 : IVec S_ 1 := (fun x v => Host.reduce IntOp.andi x v reducesTo_S4096x16x64_S_d0_1_2 h_S_) main_v11 main_c_3
  let main_v13 : IVec S_ 1 := andi main_v8 main_v12
  main_v13
-- ==== Kernel.lean ====
abbrev S4096x16x96 : Shape := ⟨3, ![4096, 16, 96]⟩
abbrev S4096x16x64 : Shape := ⟨3, ![4096, 16, 64]⟩
abbrev S4096x1024 : Shape := ⟨2, ![4096, 1024]⟩
abbrev S16x4096x4096 : Shape := ⟨3, ![16, 4096, 4096]⟩
abbrev S_ : Shape := ⟨0, ![]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x16x128 : Shape := ⟨3, ![4096, 16, 128]⟩
abbrev S4096x2048 : Shape := ⟨2, ![4096, 2048]⟩
abbrev S8x2x4096x1 : Shape := ⟨4, ![8, 2, 4096, 1]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S1x2x512x1 : Shape := ⟨4, ![1, 2, 512, 1]⟩
abbrev S1x128 : Shape := ⟨2, ![1, 128]⟩
abbrev S512 : Shape := ⟨1, ![512]⟩
abbrev S512x1 : Shape := ⟨2, ![512, 1]⟩
abbrev S1x1x512x1 : Shape := ⟨4, ![1, 1, 512, 1]⟩
abbrev S512x512 : Shape := ⟨2, ![512, 512]⟩

abbrev nBuf : Space → Nat
  | .hbm => 69
  | .vmem => 18
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x1024, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096x1, .i32⟩
  | .hbm, ⟨28, _⟩ => ⟨S1x1x4096, .i32⟩
  | .hbm, ⟨29, _⟩ => ⟨S1x4096x4096, .i32⟩
  | .hbm, ⟨30, _⟩ => ⟨S1x4096x4096, .i32⟩
  | .hbm, ⟨31, _⟩ => ⟨S1x4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x64x4096, .f32⟩
  | .hbm, ⟨49, _⟩ => ⟨S4096x16x64, .f32⟩
  | .hbm, ⟨50, _⟩ => ⟨S16x4096x1, .f32⟩
  | .hbm, ⟨51, _⟩ => ⟨S16x4096x1, .f32⟩
  | .hbm, ⟨52, _⟩ => ⟨S_, .i32⟩
  | .hbm, ⟨53, _⟩ => ⟨S_, .f32⟩
  | .hbm, ⟨54, _⟩ => ⟨S4096x16x128, .f32⟩
  | .hbm, ⟨55, _⟩ => ⟨S4096x2048, .f32⟩
  | .hbm, ⟨56, _⟩ => ⟨S4096x2048, .bf16⟩
  | .hbm, ⟨57, _⟩ => ⟨S_, .i32⟩
  | .hbm, ⟨58, _⟩ => ⟨S_, .f32⟩
  | .hbm, ⟨59, _⟩ => ⟨S4096x16x128, .f32⟩
  | .hbm, ⟨60, _⟩ => ⟨S4096x2048, .f32⟩
  | .hbm, ⟨61, _⟩ => ⟨S4096x2048, .bf16⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S8x2x4096x1, .f32⟩
  | .hbm, ⟨66, _⟩ => ⟨S4096x2048, .f32⟩
  | .hbm, ⟨67, _⟩ => ⟨S4096x2048, .f32⟩
  | .hbm, ⟨68, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x2x512x1, .f32⟩
  | .local _ .vmem, ⟨11, _⟩ => ⟨S1x2x512x1, .f32⟩
  | .local _ .vmem, ⟨12, _⟩ => ⟨S512x256, .f32⟩
  | .local _ .vmem, ⟨13, _⟩ => ⟨S512x256, .f32⟩
  | .local _ .vmem, ⟨14, _⟩ => ⟨S4096x256, .f32⟩
  | .local _ .vmem, ⟨15, _⟩ => ⟨S4096x256, .f32⟩
  | .local _ .vmem, ⟨16, _⟩ => ⟨S4096x128, .f32⟩
  | .local _ .vmem, ⟨17, _⟩ => ⟨S4096x128, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_3 : Ref sig .tc := ⟨.hbm, 52, rfl⟩
abbrev main_call2_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_call3_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev main_v34_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let c1_i32_28 : BitVec 32 := 1#32
  ⟨c0_i32_27, v55, c1_i32_28⟩
def k0_mult1 (i : grid0.Coords) (k0_t1 : Fin (k0_t1_loop i).trips) : BitVec 32 :=
  let c0_i32_27 : BitVec 32 := 0#32
  let c1_i32_28 : BitVec 32 := 1#32
  let arg11 : BitVec 32 := Scf.iv c0_i32_27 c1_i32_28 k0_t1
  let c512_i32_92 : BitVec 32 := 512#32
  let v243 : BitVec 32 := Scalar.muli arg11 c512_i32_92
  v243
def k0_off1 (i : grid0.Coords) (k0_t1 : Fin (k0_t1_loop i).trips) : Fin 2 → Nat :=
  let c0_i32_27 : BitVec 32 := 0#32
  let c1_i32_28 : BitVec 32 := 1#32
  let arg11 : BitVec 32 := Scf.iv c0_i32_27 c1_i32_28 k0_t1
  let c512_i32_92 : BitVec 32 := 512#32
  let v243 : BitVec 32 := Scalar.muli arg11 c512_i32_92
  let v244 : BitVec 32 := v243
  let v245 : Index := Scalar.indexCast v244
  let c0_93 : Index := 0#32
  ![v245.toNat, 0]
def k0_off2 (i : grid0.Coords) (k0_t1 : Fin (k0_t1_loop i).trips) : Fin 2 → Nat :=
  let c0_i32_27 : BitVec 32 := 0#32
  let c1_i32_28 : BitVec 32 := 1#32
  let arg11 : BitVec 32 := Scf.iv c0_i32_27 c1_i32_28 k0_t1
  let c512_i32_92 : BitVec 32 := 512#32
  let v243 : BitVec 32 := Scalar.muli arg11 c512_i32_92
  let v244 : BitVec 32 := v243
  let v248 : Index := Scalar.indexCast v244
  let c0_94 : Index := 0#32
  ![v248.toNat, 0]
def k0_off3 (i : grid0.Coords) (k0_t1 : Fin (k0_t1_loop i).trips) : Fin 2 → Nat :=
  let c0_i32_27 : BitVec 32 := 0#32
  let c1_i32_28 : BitVec 32 := 1#32
  let arg11 : BitVec 32 := Scf.iv c0_i32_27 c1_i32_28 k0_t1
  let c512_i32_92 : BitVec 32 := 512#32
  let v243 : BitVec 32 := Scalar.muli arg11 c512_i32_92
  let v244 : BitVec 32 := v243
  let v251 : Index := Scalar.indexCast v244
  let c128_95 : Index := 128#32
  ![v251.toNat, 128]
@[reducible] def k0_t2_loop (i : grid0.Coords) : Scf.Loop 32 :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let v52 : BitVec 32 := Scalar.addi c0_i32_27 v51
  let c1_i32_29 : BitVec 32 := 1#32
  ⟨v55, v52, c1_i32_29⟩
def k0_mult2 (i : grid0.Coords) (k0_t2 : Fin (k0_t2_loop i).trips) : BitVec 32 :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let c1_i32_29 : BitVec 32 := 1#32
  let arg11 : BitVec 32 := Scf.iv v55 c1_i32_29 k0_t2
  let c512_i32_92 : BitVec 32 := 512#32
  let v243 : BitVec 32 := Scalar.muli arg11 c512_i32_92
  v243
def k0_off4 (i : grid0.Coords) (k0_t2 : Fin (k0_t2_loop i).trips) : Fin 2 → Nat :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let c1_i32_29 : BitVec 32 := 1#32
  let arg11 : BitVec 32 := Scf.iv v55 c1_i32_29 k0_t2
  let c512_i32_92 : BitVec 32 := 512#32
  let v243 : BitVec 32 := Scalar.muli arg11 c512_i32_92
  let v244 : BitVec 32 := v243
  let v245 : Index := Scalar.indexCast v244
  let c0_93 : Index := 0#32
  ![v245.toNat, 0]
def k0_off5 (i : grid0.Coords) (k0_t2 : Fin (k0_t2_loop i).trips) : Fin 2 → Nat :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let c1_i32_29 : BitVec 32 := 1#32
  let arg11 : BitVec 32 := Scf.iv v55 c1_i32_29 k0_t2
  let c512_i32_92 : BitVec 32 := 512#32
  let v243 : BitVec 32 := Scalar.muli arg11 c512_i32_92
  let v244 : BitVec 32 := v243
  let v248 : Index := Scalar.indexCast v244
  let c0_94 : Index := 0#32
  ![v248.toNat, 0]
def k0_off6 (i : grid0.Coords) (k0_t2 : Fin (k0_t2_loop i).trips) : Fin 2 → Nat :=
  let c0_i32_27 : BitVec 32 := 0#32
  let arg1 : BitVec 32 := BitVec.ofNat 32 (i 1).val
  let v51 : BitVec 32 := Scalar.subi arg1 c0_i32_27
  let c1_i32 : BitVec 32 := 1#32
  let v53 : BitVec 32 := Scalar.divsi v51 c1_i32
  let v54 : BitVec 32 := Scalar.muli v53 c1_i32
  let v55 : BitVec 32 := Scalar.addi c0_i32_27 v54
  let c1_i32_29 : BitVec 32 := 1#32
  let arg11 : BitVec 32 := Scf.iv v55 c1_i32_29 k0_t2
  let c512_i32_92 : BitVec 32 := 512#32
  let v243 : BitVec 32 := Scalar.muli arg11 c512_i32_92
  let v244 : BitVec 32 := v243
  let v251 : Index := Scalar.indexCast v244
  let c128_95 : Index := 128#32
  ![v251.toNat, 128]
def k0_mult3 (i : grid0.Coords) : BitVec 32 :=
  let arg1 : BitVec 32 := BitVec.ofNat 32 (i 1).val
  let c512_i32 : BitVec 32 := 512#32
  let v58 : BitVec 32 := Scalar.muli arg1 c512_i32
  v58
def k0_off7 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v60 : Index := Scalar.indexCast v59
  let c0_30 : Index := 0#32
  ![v60.toNat, 0]
def k0_off8 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v63 : Index := Scalar.indexCast v59
  let c0_31 : Index := 0#32
  ![v63.toNat, 0]
def k0_off9 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v66 : Index := Scalar.indexCast v59
  let c128_32 : Index := 128#32
  ![v66.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "exp2_scale" => some (((3424635 / 33554432) * (Real.log 2)⁻¹ : ℝ) : EReal)
  | "log2e" => some (((Real.log 2)⁻¹ : ℝ) : EReal)
  | "mask" => some ⊥
  | _ => none
-- ==== ReferenceIdeal.lean ====
abbrev S4096x16x96 : Shape := ⟨3, ![4096, 16, 96]⟩
abbrev S4096x16x64 : Shape := ⟨3, ![4096, 16, 64]⟩
abbrev S4096x1024 : Shape := ⟨2, ![4096, 1024]⟩
abbrev S16x4096x4096 : Shape := ⟨3, ![16, 4096, 4096]⟩
abbrev S_ : Shape := ⟨0, ![]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S4096x16x128 : Shape := ⟨3, ![4096, 16, 128]⟩
abbrev S4096x2048 : Shape := ⟨2, ![4096, 2048]⟩

abbrev nBuf : Space → Nat
  | .hbm => 118
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x1024, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096x1, .i32⟩
  | .hbm, ⟨28, _⟩ => ⟨S1x1x4096, .i32⟩
  | .hbm, ⟨29, _⟩ => ⟨S1x4096x4096, .i32⟩
  | .hbm, ⟨30, _⟩ => ⟨S1x4096x4096, .i32⟩
  | .hbm, ⟨31, _⟩ => ⟨S1x4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .i1⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S16x4096, .i1⟩
  | .hbm, ⟨53, _⟩ => ⟨S_, .f32⟩
  | .hbm, ⟨54, _⟩ => ⟨S16x4096, .f32⟩
  | .hbm, ⟨55, _⟩ => ⟨S16x4096, .i1⟩
  | .hbm, ⟨56, _⟩ => ⟨S_, .f32⟩
  | .hbm, ⟨57, _⟩ => ⟨S16x4096, .f32⟩
  | .hbm, ⟨58, _⟩ => ⟨S_, .f32⟩
  | .hbm, ⟨59, _⟩ => ⟨S16x4096, .f32⟩
  | .hbm, ⟨60, _⟩ => ⟨S_, .f32⟩
  | .hbm, ⟨61, _⟩ => ⟨S16x4096, .f32⟩
  | .hbm, ⟨62, _⟩ => ⟨S16x4096, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S16x4096x4096, .f32⟩
  | .hbm, ⟨72, _⟩ => ⟨S16x4096x4096, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x64x4096, .f32⟩
  | .hbm, ⟨78, _⟩ => ⟨S4096x16x64, .f32⟩
  | .hbm, ⟨79, _⟩ => ⟨S4096x1024, .f32⟩
  | .hbm, ⟨80, _⟩ => ⟨S4096x16x64, .f32⟩
  | .hbm, ⟨81, _⟩ => ⟨S16x64x4096, .f32⟩
  | .hbm, ⟨82, _⟩ => ⟨S16x4096x4096, .f32⟩
  | .hbm, ⟨83, _⟩ => ⟨S16x64x4096, .f32⟩
  | .hbm, ⟨84, _⟩ => ⟨S4096x16x64, .f32⟩
  | .hbm, ⟨85, _⟩ => ⟨S16x4096x4096, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x4096x1, .f32⟩
  | .hbm, ⟨91, _⟩ => ⟨S16x4096x1, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S_, .f32⟩
  | .hbm, ⟨100, _⟩ => ⟨S16x4096x4096, .f32⟩
  | .hbm, ⟨101, _⟩ => ⟨S16x4096x4096, .f32⟩
  | .hbm, ⟨102, _⟩ => ⟨S_, .f32⟩
  | .hbm, ⟨103, _⟩ => ⟨S16x4096x4096, .f32⟩
  | .hbm, ⟨104, _⟩ => ⟨S16x4096x4096, .f32⟩
  | .hbm, ⟨105, _⟩ => ⟨S16x4096x96, .f32⟩
  | .hbm, ⟨106, _⟩ => ⟨S4096x16x96, .f32⟩
  | .hbm, ⟨107, _⟩ => ⟨S16x4096x96, .f32⟩
  | .hbm, ⟨108, _⟩ => ⟨S4096x16x96, .f32⟩
  | .hbm, ⟨109, _⟩ => ⟨S_, .i32⟩
  | .hbm, ⟨110, _⟩ => ⟨S_, .f32⟩
  | .hbm, ⟨111, _⟩ => ⟨S4096x16x128, .f32⟩
  | .hbm, ⟨112, _⟩ => ⟨S4096x2048, .f32⟩
  | .hbm, ⟨113, _⟩ => ⟨S_, .i32⟩
  | .hbm, ⟨114, _⟩ => ⟨S_, .f32⟩
  | .hbm, ⟨115, _⟩ => ⟨S4096x16x128, .f32⟩
  | .hbm, ⟨116, _⟩ => ⟨S4096x2048, .f32⟩
  | .hbm, ⟨117, _⟩ => ⟨S4096x1024, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_call3_v0 : Ref sig .tc := ⟨.hbm, 110, rfl⟩
abbrev main_v66 : Ref sig .tc := ⟨.hbm, 111, rfl⟩
abbrev main_v67 : Ref sig .tc := ⟨.hbm, 112, rfl⟩
abbrev main_c_15 : Ref sig .tc := ⟨.hbm, 113, rfl⟩
abbrev main_call4_v0 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S256x768 : Shape := ⟨2, ![256, 768]⟩
abbrev S1024 : Shape := ⟨1, ![1024]⟩

abbrev nBuf : Space → Nat
  | .hbm => 40
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x8x352, .f32⟩
  | .hbm, ⟨10, _⟩ => ⟨S_, .i32⟩
  | .hbm, ⟨11, _⟩ => ⟨S_, .f32⟩
  | .hbm, ⟨12, _⟩ => ⟨S1024x8x384, .f32⟩
  | .hbm, ⟨13, _⟩ => ⟨S1024x3072, .f32⟩
  | .hbm, ⟨14, _⟩ => ⟨S1024x3072, .bf16⟩
  | .hbm, ⟨15, _⟩ => ⟨S1024x8x352, .f32⟩
  | .hbm, ⟨16, _⟩ => ⟨S_, .i32⟩
  | .hbm, ⟨17, _⟩ => ⟨S_, .f32⟩
  | .hbm, ⟨18, _⟩ => ⟨S1024x8x384, .f32⟩
  | .hbm, ⟨19, _⟩ => ⟨S1024x3072, .f32⟩
  | .hbm, ⟨20, _⟩ => ⟨S1024x3072, .bf16⟩
  | .hbm, ⟨21, _⟩ => ⟨S8x352x1024, .f32⟩
  | .hbm, ⟨22, _⟩ => ⟨S_, .i32⟩
  | .hbm, ⟨23, _⟩ => ⟨S_, .f32⟩
  | .hbm, ⟨24, _⟩ => ⟨S8x384x1024, .f32⟩
  | .hbm, ⟨25, _⟩ => ⟨S3072x1024, .f32⟩
  | .hbm, ⟨26, _⟩ => ⟨S3072x1024, .bf16⟩
  | .hbm, ⟨27, _⟩ => ⟨S4096x1024, .f32⟩
  | .hbm, ⟨28, _⟩ => ⟨S4096x3072, .bf16⟩
  | .hbm, ⟨29, _⟩ => ⟨S4096x3072, .bf16⟩
  | .hbm, ⟨30, _⟩ => ⟨S4096x1024, .f32⟩
  | .hbm, ⟨31, _⟩ => ⟨S4096x3072, .bf16⟩
  | .hbm, ⟨32, _⟩ => ⟨S4096x3072, .bf16⟩
  | .hbm, ⟨33, _⟩ => ⟨S4096x1024, .bf16⟩
  | .hbm, ⟨34, _⟩ => ⟨S4096x1024, .bf16⟩
  | .hbm, ⟨35, _⟩ => ⟨S4096x3072, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x3072, .bf16⟩
  | .local _ .vmem, ⟨7, _⟩ => ⟨S1024x3072, .bf16⟩
  | .local _ .vmem, ⟨8, _⟩ => ⟨S3072x1024, .bf16⟩
  | .local _ .vmem, ⟨9, _⟩ => ⟨S512x1024, .f32⟩
  | .local _ .vmem, ⟨10, _⟩ => ⟨S512x1024, .f32⟩
  | .local _ .vmem, ⟨11, _⟩ => ⟨S512x3072, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x3072, .bf16⟩
  | .local _ .vmem, ⟨20, _⟩ => ⟨S256x3072, .bf16⟩
  | .local _ .vmem, ⟨21, _⟩ => ⟨S256x3072, .bf16⟩
  | .local _ .vmem, ⟨22, _⟩ => ⟨S256x3072, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x3072, .bf16⟩
  | .local _ .vmem, ⟨28, _⟩ => ⟨S1024x3072, .bf16⟩
  | .local _ .vmem, ⟨29, _⟩ => ⟨S3072x1024, .bf16⟩
  | .local _ .vmem, ⟨30, _⟩ => ⟨S256x1024, .f32⟩
  | .local _ .vmem, ⟨31, _⟩ => ⟨S256x1024, .f32⟩
  | .local _ .vmem, ⟨32, _⟩ => ⟨S256x3072, .bf16⟩
  | .local _ .vmem, ⟨33, _⟩ => ⟨S256x3072, .bf16⟩
  | .local _ .vmem, ⟨34, _⟩ => ⟨S256x3072, .bf16⟩
  | .local _ .vmem, ⟨35, _⟩ => ⟨S256x3072, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x3072, .bf16⟩
  | .local _ .vmem, ⟨41, _⟩ => ⟨S256x3072, .bf16⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev main_v13_7 : Ref sig .tc := ⟨.hbm, 37, rfl⟩
abbrev main_v13_8 : Ref sig .tc := ⟨.hbm, 38, rfl⟩
abbrev main_v13_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg18_0 : Ref sig .tc := ⟨.vmem, 43, rfl⟩
abbrev cc1_stg19_0 : Ref sig .tc := ⟨.vmem, 44, rfl⟩
abbrev cc1_stg20_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc1_sem14_0 : DmaSem sig := 36
abbrev cc1_sem14_1 : DmaSem sig := 37
abbrev cc1_sem15_0 : DmaSem sig := 38
abbrev cc1_sem15_1 : DmaSem sig := 39
abbrev cc1_sem16_0 : DmaSem sig := 40
abbrev cc1_sem16_1 : DmaSem sig := 41
abbrev cc1_sem17_0 : DmaSem sig := 42
abbrev cc1_sem18_0 : DmaSem sig := 43
abbrev cc1_sem19_0 : DmaSem sig := 44
abbrev cc1_sem20_0 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x3072 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x3072 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3072x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x3072 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x3072 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x3072 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x8x352 : Shape := ⟨3, ![4096, 8, 352]⟩
abbrev S4096x8x384 : Shape := ⟨3, ![4096, 8, 384]⟩
abbrev S4096x3072 : Shape := ⟨2, ![4096, 3072]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1x1024, .f32⟩
  | 5 => ⟨S1x1024, .f32⟩
  | 6 => ⟨S1024x2816, .f32⟩
  | 7 => ⟨S1024x2816, .f32⟩
  | 8 => ⟨S2816x1024, .f32⟩
  | 9 => ⟨S_, .f32⟩
  | 10 => ⟨S4096x2816, .f32⟩
  | 11 => ⟨S_, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S1x1024, .f32⟩
  | 34 => ⟨S1x1024, .f32⟩
  | 35 => ⟨S4096x1024, .f32⟩
  | 36 => ⟨S4096x1024, .f32⟩
  | 37 => ⟨S4096x1024, .f32⟩
  | 38 => ⟨S4096x1024, .f32⟩
  | 39 => ⟨S4096x2816, .f32⟩
  | 40 => ⟨S4096x2816, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S_, .f32⟩
  | 50 => ⟨S4096x2816, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S4096x2816, .f32⟩
  | 70 => ⟨S4096x2816, .f32⟩
  | 71 => ⟨S4096x2816, .f32⟩
  | 72 => ⟨S4096x1024, .f32⟩
  | 73 => ⟨S4096x2816, .f32⟩
  | 74 => ⟨S4096x2816, .f32⟩
  | 75 => ⟨S4096x2816, .f32⟩
  | 76 => ⟨S4096x2816, .f32⟩
  | 77 => ⟨S4096x1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S4096x1024, .f32⟩
  | 99 => ⟨S4096x1024, .f32⟩
  | 100 => ⟨S4096x1024, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x8x352, .f32⟩
  | 113 => ⟨S_, .i32⟩
  | 114 => ⟨S_, .f32⟩
  | 115 => ⟨S4096x8x384, .f32⟩
  | 116 => ⟨S4096x3072, .f32⟩
  | 117 => ⟨S4096x3072, .bf16⟩
  | 118 => ⟨S4096x8x352, .f32⟩
  | 119 => ⟨S_, .i32⟩
  | 120 => ⟨S_, .f32⟩
  | 121 => ⟨S4096x8x384, .f32⟩
  | 122 => ⟨S4096x3072, .f32⟩
  | 123 => ⟨S4096x3072, .bf16⟩
  | 124 => ⟨S4096x1024, .bf16⟩
  | 125 => ⟨S4096x1024, .bf16⟩
  | 126 => ⟨S4096x8x352, .f32⟩
  | 127 => ⟨S_, .i32⟩
  | _ => ⟨S4096x1024, .f32⟩

abbrev hbmTy0_1 (i : Nat) : BufTy := match i % 128 with
  | 0 => ⟨S_, .f32⟩
  | 1 => ⟨S4096x8x384, .f32⟩
  | 2 => ⟨S4096x3072, .f32⟩
  | 3 => ⟨S4096x3072, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v25_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v25_1 : Ref sig .tc := ⟨.hbm, 52, rfl⟩
abbrev main_v25_0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_13 : Ref sig .tc := ⟨.hbm, 119, rfl⟩
abbrev main_call3_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_14 : Ref sig .tc := ⟨.hbm, 127, rfl⟩
abbrev main_call4_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩

abbrev nD : Nat := 1
abbrev τ : Topo := Topo.v7x

variable {F : FTy → Type} [FloatOps F]
-- ==== TnIn.lean ====
abbrev S4096x1024 : Shape := ⟨2, ![4096, 1024]⟩
abbrev S4096x3072 : Shape := ⟨2, ![4096, 3072]⟩
abbrev S8x1024x384 : Shape := ⟨3, ![8, 1024, 384]⟩
abbrev S2048x1024 : Shape := ⟨2, ![2048, 1024]⟩
abbrev S2048x1536 : Shape := ⟨2, ![2048, 1536]⟩
abbrev S4x1024x384 : Shape := ⟨3, ![4, 1024, 384]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnInReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== TnOut.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnOutReferenceIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fwd.lean ====
abbrev S4096x16x96 : Shape := ⟨3, ![4096, 16, 96]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S4096x1024 : Shape := ⟨2, ![4096, 1024]⟩
abbrev S8x2x4096x1 : Shape := ⟨4, ![8, 2, 4096, 1]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S1x2x512x1 : Shape := ⟨4, ![1, 2, 512, 1]⟩
abbrev S512x1 : Shape := ⟨2, ![512, 1]⟩
abbrev S512x512 : Shape := ⟨2, ![512, 512]⟩
abbrev S512 : Shape := ⟨1, ![512]⟩
abbrev S1x1x512x1 : Shape := ⟨4, ![1, 1, 512, 1]⟩
abbrev S1x128 : Shape := ⟨2, ![1, 128]⟩

abbrev nBuf : Space → Nat
  | .hbm => 17
  | .vmem => 10
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x2048, .bf16⟩
  | .hbm, ⟨8, _⟩ => ⟨S_, .i32⟩
  | .hbm, ⟨9, _⟩ => ⟨S_, .f32⟩
  | .hbm, ⟨10, _⟩ => ⟨S4096x16x128, .f32⟩
  | .hbm, ⟨11, _⟩ => ⟨S4096x2048, .f32⟩
  | .hbm, ⟨12, _⟩ => ⟨S4096x2048, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S8x2x4096x1, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x2x512x1, .f32⟩
  | .local _ .vmem, ⟨9, _⟩ => ⟨S1x2x512x1, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_8 : BitVec 32 := 1#32
  ⟨c0_i32, v15, c1_i32_8⟩
def k0_mult1 (i : grid0.Coords) (k0_t1 : Fin (k0_t1_loop i).trips) : BitVec 32 :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  v161
def k0_off1 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v163 : Index := Scalar.indexCast v162
  let c0_57 : Index := 0#32
  ![v163.toNat, 0]
def k0_off2 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v166 : Index := Scalar.indexCast v162
  let c0_58 : Index := 0#32
  ![v166.toNat, 0]
def k0_off3 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v170 : Index := Scalar.indexCast v162
  let c128_60 : Index := 128#32
  ![v170.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let v12 : BitVec 32 := Scalar.addi c0_i32 v11
  let c1_i32_9 : BitVec 32 := 1#32
  ⟨v15, v12, c1_i32_9⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  v161
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v163 : Index := Scalar.indexCast v162
  let c0_57 : Index := 0#32
  ![v163.toNat, 0]
def k0_off5 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v166 : Index := Scalar.indexCast v162
  let c0_58 : Index := 0#32
  ![v166.toNat, 0]
def k0_off6 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v170 : Index := Scalar.indexCast v162
  let c128_60 : Index := 128#32
  ![v170.toNat, 128]
def k0_mult3 (i : grid0.Coords) : BitVec 32 :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  v19
def k0_off7 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v76 : Index := Scalar.indexCast v20
  let c0_26 : Index := 0#32
  ![v76.toNat, 0]
def k0_off8 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v79 : Index := Scalar.indexCast v20
  let c0_27 : Index := 0#32
  ![v79.toNat, 0]
def k0_off9 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v83 : Index := Scalar.indexCast v20
  let c128_29 : Index := 128#32
  ![v83.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "exp2_scale" => some (((3424635 / 33554432) * (Real.log 2)⁻¹ : ℝ) : EReal)
  | "mask" => some ⊥
  | _ => none
-- ==== FwdReferenceIdeal.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x1024 : Shape := ⟨2, ![4096, 1024]⟩
abbrev S8x2x4096x1 : Shape := ⟨4, ![8, 2, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S16x4096x4096, .f32⟩
  | .hbm, ⟨4, _⟩ => ⟨S_, .f32⟩
  | .hbm, ⟨5, _⟩ => ⟨S16x4096x4096, .f32⟩
  | .hbm, ⟨6, _⟩ => ⟨S16x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096x1, .i32⟩
  | .hbm, ⟨27, _⟩ => ⟨S1x1x4096, .i32⟩
  | .hbm, ⟨28, _⟩ => ⟨S1x4096x4096, .i32⟩
  | .hbm, ⟨29, _⟩ => ⟨S1x4096x4096, .i32⟩
  | .hbm, ⟨30, _⟩ => ⟨S1x4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S16x64x4096, .f32⟩
  | .hbm, ⟨48, _⟩ => ⟨S4096x16x64, .f32⟩
  | .hbm, ⟨49, _⟩ => ⟨S16x4096x1, .f32⟩
  | .hbm, ⟨50, _⟩ => ⟨S16x4096x1, .f32⟩
  | .hbm, ⟨51, _⟩ => ⟨S4096x1024, .f32⟩
  | .hbm, ⟨52, _⟩ => ⟨S8x2x4096x1, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== GluFwd.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== GluBwd.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GluBwdReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .bf16⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== OutFwd.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutFwdReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutBwd.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== TnSq.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnSqReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .hbm, ⟨4, _⟩ => ⟨S1x1, .f32⟩
  | .hbm, ⟨5, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Adam.lean ====
abbrev S8x1024x384 : Shape := ⟨3, ![8, 1024, 384]⟩
abbrev S4x1024x352 : Shape := ⟨3, ![4, 1024, 352]⟩
abbrev S8x512x384 : Shape := ⟨3, ![8, 512, 384]⟩
abbrev S1x512x352 : Shape := ⟨3, ![1, 512, 352]⟩
abbrev S1x512x384 : Shape := ⟨3, ![1, 512, 384]⟩
abbrev S512x384 : Shape := ⟨2, ![512, 384]⟩
abbrev S512x352 : Shape := ⟨2, ![512, 352]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S8x1024x384, .bf16⟩
  | .hbm, ⟨3, _⟩ => ⟨S8x1024x384, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x1024x352, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .local _ .vmem, ⟨0, _⟩ => ⟨S8x512x384, .bf16⟩
  | .local _ .vmem, ⟨1, _⟩ => ⟨S8x512x384, .bf16⟩
  | .local _ .vmem, ⟨2, _⟩ => ⟨S8x512x384, .bf16⟩
  | .local _ .vmem, ⟨3, _⟩ => ⟨S8x512x384, .bf16⟩
  | .local _ .vmem, ⟨4, _⟩ => ⟨S8x512x384, .bf16⟩
  | .local _ .vmem, ⟨5, _⟩ => ⟨S8x512x384, .bf16⟩
  | .local _ .vmem, ⟨6, _⟩ => ⟨S8x512x384, .bf16⟩
  | .local _ .vmem, ⟨7, _⟩ => ⟨S8x512x384, .bf16⟩
  | .local _ .vmem, ⟨8, _⟩ => ⟨S1x512x352, .f32⟩
  | .local _ .vmem, ⟨9, _⟩ => ⟨S1x512x352, .f32⟩
  | .local _ .vmem, ⟨10, _⟩ => ⟨S1x512x352, .f32⟩
  | .local _ .vmem, ⟨11, _⟩ => ⟨S1x512x352, .f32⟩
  | .local _ .vmem, ⟨12, _⟩ => ⟨S1x512x352, .f32⟩
  | .local _ .vmem, ⟨13, _⟩ => ⟨S1x512x352, .f32⟩
  | .local _ .vmem, ⟨14, _⟩ => ⟨S1x512x352, .f32⟩
  | .local _ .vmem, ⟨15, _⟩ => ⟨S1x512x352, .f32⟩
  | .local _ .vmem, ⟨16, _⟩ => ⟨S1x512x352, .f32⟩
  | .local _ .vmem, ⟨17, _⟩ => ⟨S1x512x352, .f32⟩
  | .local _ .vmem, ⟨18, _⟩ => ⟨S1x512x352, .f32⟩
  | .local _ .vmem, ⟨19, _⟩ => ⟨S1x512x352, .f32⟩
  | .local _ .vmem, ⟨20, _⟩ => ⟨S1x512x352, .f32⟩
  | .local _ .vmem, ⟨21, _⟩ => ⟨S1x512x352, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x352 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamReferenceIdeal.lean ====
abbrev S8x1024x384 : Shape := ⟨3, ![8, 1024, 384]⟩
abbrev S4x1024x352 : Shape := ⟨3, ![4, 1024, 352]⟩
abbrev S_ : Shape := ⟨0, ![]⟩
abbrev S1024x384 : Shape := ⟨2, ![1024, 384]⟩
abbrev S1024x352 : Shape := ⟨2, ![1024, 352]⟩
abbrev S1x1024x352 : Shape := ⟨3, ![1, 1024, 352]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S8x1024x384, .bf16⟩
  | .hbm, ⟨3, _⟩ => ⟨S8x1024x384, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S8x1024x384, .f32⟩
  | .hbm, ⟨8, _⟩ => ⟨S_, .f32⟩
  | .hbm, ⟨9, _⟩ => ⟨S1024x384, .f32⟩
  | .hbm, ⟨10, _⟩ => ⟨S1024x352, .f32⟩
  | .hbm, ⟨11, _⟩ => ⟨S8x1024x384, .f32⟩
  | .hbm, ⟨12, _⟩ => ⟨S_, .f32⟩
  | .hbm, ⟨13, _⟩ => ⟨S1024x384, .f32⟩
  | .hbm, ⟨14, _⟩ => ⟨S1024x352, .f32⟩
  | .hbm, ⟨15, _⟩ => ⟨S8x1024x384, .f32⟩
  | .hbm, ⟨16, _⟩ => ⟨S_, .f32⟩
  | .hbm, ⟨17, _⟩ => ⟨S1024x384, .f32⟩
  | .hbm, ⟨18, _⟩ => ⟨S1024x352, .f32⟩
  | .hbm, ⟨19, _⟩ => ⟨S8x1024x384, .f32⟩
  | .hbm, ⟨20, _⟩ => ⟨S_, .f32⟩
  | .hbm, ⟨21, _⟩ => ⟨S1024x384, .f32⟩
  | .hbm, ⟨22, _⟩ => ⟨S1024x352, .f32⟩
  | .hbm, ⟨23, _⟩ => ⟨S1x1024x352, .f32⟩
  | .hbm, ⟨24, _⟩ => ⟨S1x1024x352, .f32⟩
  | .hbm, ⟨25, _⟩ => ⟨S1x1024x352, .f32⟩
  | .hbm, ⟨26, _⟩ => ⟨S1x1024x352, .f32⟩
  | .hbm, ⟨27, _⟩ => ⟨S4x1024x352, .f32⟩
  | .hbm, ⟨28, _⟩ => ⟨S_, .f32⟩
  | .hbm, ⟨29, _⟩ => ⟨S4x1024x352, .f32⟩
  | .hbm, ⟨30, _⟩ => ⟨S4x1024x352, .f32⟩
  | .hbm, ⟨31, _⟩ => ⟨S_, .f32⟩
  | .hbm, ⟨32, _⟩ => ⟨S4x1024x352, .f32⟩
  | .hbm, ⟨33, _⟩ => ⟨S4x1024x352, .f32⟩
  | .hbm, ⟨34, _⟩ => ⟨S4x1024x352, .f32⟩
  | .hbm, ⟨35, _⟩ => ⟨S_, .f32⟩
  | .hbm, ⟨36, _⟩ => ⟨S4x1024x352, .f32⟩
  | .hbm, ⟨37, _⟩ => ⟨S4x1024x352, .f32⟩
  | .hbm, ⟨38, _⟩ => ⟨S4x1024x352, .f32⟩
  | .hbm, ⟨39, _⟩ => ⟨S_, .f32⟩
  | .hbm, ⟨40, _⟩ => ⟨S4x1024x352, .f32⟩
  | .hbm, ⟨41, _⟩ => ⟨S4x1024x352, .f32⟩
  | .hbm, ⟨42, _⟩ => ⟨S4x1024x352, .f32⟩
  | .hbm, ⟨43, _⟩ => ⟨S_, .f32⟩
  | .hbm, ⟨44, _⟩ => ⟨S4x1024x352, .f32⟩
  | .hbm, ⟨45, _⟩ => ⟨S4x1024x352, .f32⟩
  | .hbm, ⟨46, _⟩ => ⟨S_, .f32⟩
  | .hbm, ⟨47, _⟩ => ⟨S4x1024x352, .f32⟩
  | .hbm, ⟨48, _⟩ => ⟨S4x1024x352, .f32⟩
  | .hbm, ⟨49, _⟩ => ⟨S4x1024x352, .f32⟩
  | .hbm, ⟨50, _⟩ => ⟨S_, .f32⟩
  | .hbm, ⟨51, _⟩ => ⟨S4x1024x352, .f32⟩
  | .hbm, ⟨52, _⟩ => ⟨S4x1024x352, .f32⟩
  | .hbm, ⟨53, _⟩ => ⟨S4x1024x352, .f32⟩
  | .hbm, ⟨54, _⟩ => ⟨S_, .f32⟩
  | .hbm, ⟨55, _⟩ => ⟨S4x1024x352, .f32⟩
  | .hbm, ⟨56, _⟩ => ⟨S4x1024x352, .f32⟩
  | .hbm, ⟨57, _⟩ => ⟨S4x1024x352, .f32⟩
  | .hbm, ⟨58, _⟩ => ⟨S_, .f32⟩
  | .hbm, ⟨59, _⟩ => ⟨S4x1024x352, .f32⟩
  | .hbm, ⟨60, _⟩ => ⟨S4x1024x352, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== TnDq.lean ====
abbrev S4096x1024 : Shape := ⟨2, ![4096, 1024]⟩
abbrev S4096x256 : Shape := ⟨2, ![4096, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnDqReferenceIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnUq.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnUqReferenceIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnKva.lean ====
abbrev S4096x1024 : Shape := ⟨2, ![4096, 1024]⟩
abbrev S4096x384 : Shape := ⟨2, ![4096, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnKvaReferenceIdeal.lean ====
abbrev S4096x1024 : Shape := ⟨2, ![4096, 1024]⟩
abbrev S4096x384 : Shape := ⟨2, ![4096, 384]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S_, .f32⟩
  | .hbm, ⟨3, _⟩ => ⟨S1024x384, .f32⟩
  | .hbm, ⟨4, _⟩ => ⟨S4096x1024, .f32⟩
  | .hbm, ⟨5, _⟩ => ⟨S4096x384, .f32⟩
  | .hbm, ⟨6, _⟩ => ⟨S4096x384, .f32⟩
  | .hbm, ⟨7, _⟩ => ⟨S384x1024, .f32⟩
  | .hbm, ⟨8, _⟩ => ⟨S1024x384, .f32⟩
  | .hbm, ⟨9, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnV.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnVReferenceIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QFwd.lean ====
abbrev S4096x1024 : Shape := ⟨2, ![4096, 1024]⟩
abbrev S1x1024 : Shape := ⟨2, ![1, 1024]⟩
abbrev S1x256 : Shape := ⟨2, ![1, 256]⟩
abbrev S1x64 : Shape := ⟨2, ![1, 64]⟩
abbrev S1x32 : Shape := ⟨2, ![1, 32]⟩
abbrev S4096x16 : Shape := ⟨2, ![4096, 16]⟩
abbrev S1024x256 : Shape := ⟨2, ![1024, 256]⟩
abbrev S256x1536 : Shape := ⟨2, ![256, 1536]⟩
abbrev S_ : Shape := ⟨0, ![]⟩
abbrev S4096x128 : Shape := ⟨2, ![4096, 128]⟩
abbrev S4096x64 : Shape := ⟨2, ![4096, 64]⟩
abbrev S4096x32 : Shape := ⟨2, ![4096, 32]⟩
abbrev S1x128 : Shape := ⟨2, ![1, 128]⟩
abbrev S256x16x96 : Shape := ⟨3, ![256, 16, 96]⟩
abbrev S256x16x128 : Shape := ⟨3, ![256, 16, 128]⟩
abbrev S256x2048 : Shape := ⟨2, ![256, 2048]⟩
abbrev S4096x2048 : Shape := ⟨2, ![4096, 2048]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x128 : Shape := ⟨2, ![128, 128]⟩

abbrev nBuf : Space → Nat
  | .hbm => 32
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x256, .f32⟩
  | .hbm, ⟨5, _⟩ => ⟨S1x64, .f32⟩
  | .hbm, ⟨6, _⟩ => ⟨S1x32, .f32⟩
  | .hbm, ⟨7, _⟩ => ⟨S4096x16, .f32⟩
  | .hbm, ⟨8, _⟩ => ⟨S4096x16, .f32⟩
  | .hbm, ⟨9, _⟩ => ⟨S1024x256, .f32⟩
  | .hbm, ⟨10, _⟩ => ⟨S256x1536, .f32⟩
  | .hbm, ⟨11, _⟩ => ⟨S_, .f32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S4096x64, .f32⟩
  | .hbm, ⟨16, _⟩ => ⟨S4096x32, .f32⟩
  | .hbm, ⟨17, _⟩ => ⟨S4096x128, .f32⟩
  | .hbm, ⟨18, _⟩ => ⟨S4096x64, .f32⟩
  | .hbm, ⟨19, _⟩ => ⟨S4096x32, .f32⟩
  | .hbm, ⟨20, _⟩ => ⟨S4096x128, .f32⟩
  | .hbm, ⟨21, _⟩ => ⟨S_, .f32⟩
  | .hbm, ⟨22, _⟩ => ⟨S1x32, .f32⟩
  | .hbm, ⟨23, _⟩ => ⟨S1x128, .f32⟩
  | .hbm, ⟨24, _⟩ => ⟨S1024x256, .bf16⟩
  | .hbm, ⟨25, _⟩ => ⟨S256x1536, .bf16⟩
  | .hbm, ⟨26, _⟩ => ⟨S256x16x96, .bf16⟩
  | .hbm, ⟨27, _⟩ => ⟨S_, .i32⟩
  | .hbm, ⟨28, _⟩ => ⟨S_, .bf16⟩
  | .hbm, ⟨29, _⟩ => ⟨S256x16x128, .bf16⟩
  | .hbm, ⟨30, _⟩ => ⟨S256x2048, .bf16⟩
  | .hbm, ⟨31, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x256, .f32⟩
  | .local _ .vmem, ⟨10, _⟩ => ⟨S1x128, .f32⟩
  | .local _ .vmem, ⟨11, _⟩ => ⟨S1024x256, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QFwdReferenceIdeal.lean ====
abbrev S4096x1024 : Shape := ⟨2, ![4096, 1024]⟩
abbrev S1x1024 : Shape := ⟨2, ![1, 1024]⟩
abbrev S1x256 : Shape := ⟨2, ![1, 256]⟩
abbrev S1x64 : Shape := ⟨2, ![1, 64]⟩
abbrev S1x32 : Shape := ⟨2, ![1, 32]⟩
abbrev S4096x16 : Shape := ⟨2, ![4096, 16]⟩
abbrev S1024x256 : Shape := ⟨2, ![1024, 256]⟩
abbrev S256x1536 : Shape := ⟨2, ![256, 1536]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S4096x1536 : Shape := ⟨2, ![4096, 1536]⟩
abbrev S4096x16x96 : Shape := ⟨3, ![4096, 16, 96]⟩
abbrev S4096x16x64 : Shape := ⟨3, ![4096, 16, 64]⟩
abbrev S1x1x64 : Shape := ⟨3, ![1, 1, 64]⟩
abbrev S4096x16x1 : Shape := ⟨3, ![4096, 16, 1]⟩
abbrev S4096x16x32 : Shape := ⟨3, ![4096, 16, 32]⟩
abbrev S1x1x32 : Shape := ⟨3, ![1, 1, 32]⟩
abbrev S4096x16x16 : Shape := ⟨3, ![4096, 16, 16]⟩
abbrev S4096x1x16 : Shape := ⟨3, ![4096, 1, 16]⟩
abbrev S4096x16x128 : Shape := ⟨3, ![4096, 16, 128]⟩
abbrev S4096x2048 : Shape := ⟨2, ![4096, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x256, .f32⟩
  | .hbm, ⟨5, _⟩ => ⟨S1x64, .f32⟩
  | .hbm, ⟨6, _⟩ => ⟨S1x32, .f32⟩
  | .hbm, ⟨7, _⟩ => ⟨S4096x16, .f32⟩
  | .hbm, ⟨8, _⟩ => ⟨S4096x16, .f32⟩
  | .hbm, ⟨9, _⟩ => ⟨S1024x256, .f32⟩
  | .hbm, ⟨10, _⟩ => ⟨S256x1536, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1536, .f32⟩
  | .hbm, ⟨50, _⟩ => ⟨S4096x16x96, .f32⟩
  | .hbm, ⟨51, _⟩ => ⟨S4096x16x64, .f32⟩
  | .hbm, ⟨52, _⟩ => ⟨S1x1x64, .f32⟩
  | .hbm, ⟨53, _⟩ => ⟨S4096x16x64, .f32⟩
  | .hbm, ⟨54, _⟩ => ⟨S_, .f32⟩
  | .hbm, ⟨55, _⟩ => ⟨S4096x16, .f32⟩
  | .hbm, ⟨56, _⟩ => ⟨S4096x16x1, .f32⟩
  | .hbm, ⟨57, _⟩ => ⟨S_, .f32⟩
  | .hbm, ⟨58, _⟩ => ⟨S4096x16x1, .f32⟩
  | .hbm, ⟨59, _⟩ => ⟨S4096x16x1, .f32⟩
  | .hbm, ⟨60, _⟩ => ⟨S_, .f32⟩
  | .hbm, ⟨61, _⟩ => ⟨S4096x16x1, .f32⟩
  | .hbm, ⟨62, _⟩ => ⟨S4096x16x1, .f32⟩
  | .hbm, ⟨63, _⟩ => ⟨S4096x16x1, .f32⟩
  | .hbm, ⟨64, _⟩ => ⟨S4096x16x64, .f32⟩
  | .hbm, ⟨65, _⟩ => ⟨S4096x16x64, .f32⟩
  | .hbm, ⟨66, _⟩ => ⟨S4096x16x64, .f32⟩
  | .hbm, ⟨67, _⟩ => ⟨S4096x16x64, .f32⟩
  | .hbm, ⟨68, _⟩ => ⟨S4096x16x32, .f32⟩
  | .hbm, ⟨69, _⟩ => ⟨S1x1x32, .f32⟩
  | .hbm, ⟨70, _⟩ => ⟨S4096x16x32, .f32⟩
  | .hbm, ⟨71, _⟩ => ⟨S_, .f32⟩
  | .hbm, ⟨72, _⟩ => ⟨S4096x16, .f32⟩
  | .hbm, ⟨73, _⟩ => ⟨S4096x16x1, .f32⟩
  | .hbm, ⟨74, _⟩ => ⟨S_, .f32⟩
  | .hbm, ⟨75, _⟩ => ⟨S4096x16x1, .f32⟩
  | .hbm, ⟨76, _⟩ => ⟨S4096x16x1, .f32⟩
  | .hbm, ⟨77, _⟩ => ⟨S_, .f32⟩
  | .hbm, ⟨78, _⟩ => ⟨S4096x16x1, .f32⟩
  | .hbm, ⟨79, _⟩ => ⟨S4096x16x1, .f32⟩
  | .hbm, ⟨80, _⟩ => ⟨S4096x16x1, .f32⟩
  | .hbm, ⟨81, _⟩ => ⟨S4096x16x32, .f32⟩
  | .hbm, ⟨82, _⟩ => ⟨S4096x16x32, .f32⟩
  | .hbm, ⟨83, _⟩ => ⟨S4096x16x32, .f32⟩
  | .hbm, ⟨84, _⟩ => ⟨S4096x16x32, .f32⟩
  | .hbm, ⟨85, _⟩ => ⟨S4096x16x16, .f32⟩
  | .hbm, ⟨86, _⟩ => ⟨S4096x16x16, .f32⟩
  | .hbm, ⟨87, _⟩ => ⟨S4096x1x16, .f32⟩
  | .hbm, ⟨88, _⟩ => ⟨S4096x1x16, .f32⟩
  | .hbm, ⟨89, _⟩ => ⟨S4096x16x16, .f32⟩
  | .hbm, ⟨90, _⟩ => ⟨S4096x16x16, .f32⟩
  | .hbm, ⟨91, _⟩ => ⟨S4096x16x16, .f32⟩
  | .hbm, ⟨92, _⟩ => ⟨S4096x16x16, .f32⟩
  | .hbm, ⟨93, _⟩ => ⟨S4096x16x16, .f32⟩
  | .hbm, ⟨94, _⟩ => ⟨S4096x16x16, .f32⟩
  | .hbm, ⟨95, _⟩ => ⟨S4096x16x16, .f32⟩
  | .hbm, ⟨96, _⟩ => ⟨S4096x16x16, .f32⟩
  | .hbm, ⟨97, _⟩ => ⟨S4096x16x16, .f32⟩
  | .hbm, ⟨98, _⟩ => ⟨S4096x16x16, .f32⟩
  | .hbm, ⟨99, _⟩ => ⟨S4096x16x32, .f32⟩
  | .hbm, ⟨100, _⟩ => ⟨S4096x16x96, .f32⟩
  | .hbm, ⟨101, _⟩ => ⟨S_, .i32⟩
  | .hbm, ⟨102, _⟩ => ⟨S_, .f32⟩
  | .hbm, ⟨103, _⟩ => ⟨S4096x16x128, .f32⟩
  | .hbm, ⟨104, _⟩ => ⟨S4096x2048, .f32⟩
  | .hbm, ⟨105, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c : Ref sig .tc := ⟨.hbm, 101, rfl⟩
abbrev main_call0_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Frames.lean ====
/-
  The claims about the runs alone: every program's execution terminates without a fault, leaves its arguments as they were
  and every counter at zero; and the idealized kernels differ from the kernels by the constants that have a name.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.TnIn.Frame
public import proofs.«01_k».proof.Proof.Gen.TnInIdeal.Frame
public import proofs.«01_k».proof.Proof.Gen.TnInReferenceIdeal.Run
public import proofs.«01_k».proof.Proof.Gen.TnOut.Frame
public import proofs.«01_k».proof.Proof.Gen.TnOutIdeal.Frame
public import proofs.«01_k».proof.Proof.Gen.TnOutReferenceIdeal.Run
public import proofs.«01_k».proof.Proof.Gen.Fwd.Frame
public import proofs.«01_k».proof.Proof.Gen.FwdIdeal.Frame
public import proofs.«01_k».proof.Proof.Gen.FwdReferenceIdeal.Run
public import proofs.«01_k».proof.Proof.Gen.GluFwd.Frame
public import proofs.«01_k».proof.Proof.Gen.GluFwdIdeal.Frame
public import proofs.«01_k».proof.Proof.Gen.GluFwdReferenceIdeal.Run
public import proofs.«01_k».proof.Proof.Gen.GluBwd.Frame
public import proofs.«01_k».proof.Proof.Gen.GluBwdIdeal.Frame
public import proofs.«01_k».proof.Proof.Gen.GluBwdReferenceIdeal.Run
public import proofs.«01_k».proof.Proof.Gen.OutFwd.Frame
public import proofs.«01_k».proof.Proof.Gen.OutFwdIdeal.Frame
public import proofs.«01_k».proof.Proof.Gen.OutFwdReferenceIdeal.Run
public import proofs.«01_k».proof.Proof.Gen.OutBwd.Frame
public import proofs.«01_k».proof.Proof.Gen.OutBwdIdeal.Frame
public import proofs.«01_k».proof.Proof.Gen.OutBwdReferenceIdeal.Run
public import proofs.«01_k».proof.Proof.Gen.TnSq.Frame
public import proofs.«01_k».proof.Proof.Gen.TnSqIdeal.Frame
public import proofs.«01_k».proof.Proof.Gen.TnSqReferenceIdeal.Run
public import proofs.«01_k».proof.Proof.Gen.TnDq.Frame
public import proofs.«01_k».proof.Proof.Gen.TnDqIdeal.Frame
public import proofs.«01_k».proof.Proof.Gen.TnDqReferenceIdeal.Run
public import proofs.«01_k».proof.Proof.Gen.TnUq.Frame
public import proofs.«01_k».proof.Proof.Gen.TnUqIdeal.Frame
public import proofs.«01_k».proof.Proof.Gen.TnUqReferenceIdeal.Run
public import proofs.«01_k».proof.Proof.Gen.TnKva.Frame
public import proofs.«01_k».proof.Proof.Gen.TnKvaIdeal.Frame
public import proofs.«01_k».proof.Proof.Gen.TnKvaReferenceIdeal.Run
public import proofs.«01_k».proof.Proof.Gen.TnV.Frame
public import proofs.«01_k».proof.Proof.Gen.TnVIdeal.Frame
public import proofs.«01_k».proof.Proof.Gen.TnVReferenceIdeal.Run
public import proofs.«01_k».proof.Proof.Gen.QFwd.Frame
public import proofs.«01_k».proof.Proof.Gen.QFwdIdeal.Frame
public import proofs.«01_k».proof.Proof.Gen.QFwdReferenceIdeal.Run
public import proofs.«01_k».proof.Proof.Gen.Loss.Frame
public import proofs.«01_k».proof.Proof.Gen.LossIdeal.Frame
public import proofs.«01_k».proof.Proof.Gen.LossReferenceIdeal.Run
public import proofs.«01_k».proof.Proof.Gen.Adam.Frame
public import proofs.«01_k».proof.Proof.Gen.AdamIdeal.Frame
public import proofs.«01_k».proof.Proof.Gen.AdamReferenceIdeal.Run
public import Idealize.ShloMosaic.Lib.Quiescent

@[expose] public section

noncomputable section

open Idealize.ShloMosaic Idealize.ShloMosaic.TcCoe Idealize.SL.Sem

namespace Cert.Proof.Frames

theorem frame_p : Cert.quiescent_Kernel := fun m ρ _ => Cert.Kernel.Gen.frame m ρ
theorem frame_pi : Cert.quiescent_KernelIdeal := fun m ρ _ => Cert.KernelIdeal.Gen.frame m ρ

/-- The reference has no counters; its generated run says the rest. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The three named constants: the two products with `1 / log 2`, and the mask's minus infinity. -/
theorem preserves : Cert.preserves_Kernel_KernelIdeal :=
  ⟨IdealRules.named_const.statement Cert.KernelIdeal.κ "log2e" .f32 0x3FB8AA3B#32 _ rfl,
    IdealRules.named_const.statement Cert.KernelIdeal.κ "exp2_scale" .f32 0x3E16C740#32 _ rfl,
    IdealRules.named_const.statement Cert.KernelIdeal.κ "mask" .f32 0xF149F2CA#32 _ rfl⟩

/-! ## The feed-forward layer and its weights' gradients -/

theorem frame_ffn : Cert.quiescent_Ffn := fun m ρ _ => Cert.Ffn.Gen.frame m ρ
theorem frame_ffn_ideal : Cert.quiescent_FfnIdeal := fun m ρ _ => Cert.FfnIdeal.Gen.frame m ρ
theorem frame_ffn_reference : Cert.quiescent_FfnReferenceIdeal := fun m ρ _ =>
  (θ_run Cert.FfnReferenceIdeal.defs _ _).mono (fun r h => ⟨fun c => (h c).2.2.2.2.2.2.2.2.2.2.2,
      Idealize.ShloMosaic.sem_eq_zero_of_no_sems (by decide) r.2⟩)
    (Cert.FfnReferenceIdeal.Value.run (F := Ideal) m ρ)
theorem frame_tn_in : Cert.quiescent_TnIn := fun m ρ _ => Cert.TnIn.Gen.frame m ρ
theorem frame_tn_in_ideal : Cert.quiescent_TnInIdeal := fun m ρ _ => Cert.TnInIdeal.Gen.frame m ρ
theorem frame_tn_in_reference : Cert.quiescent_TnInReferenceIdeal := fun m ρ _ =>
  (θ_run Cert.TnInReferenceIdeal.defs _ _).mono (fun r h => ⟨fun c => (h c).2,
      Idealize.ShloMosaic.sem_eq_zero_of_no_sems (by decide) r.2⟩)
    (Cert.TnInReferenceIdeal.Value.run (F := Ideal) m ρ)
theorem frame_tn_out : Cert.quiescent_TnOut := fun m ρ _ => Cert.TnOut.Gen.frame m ρ
theorem frame_tn_out_ideal : Cert.quiescent_TnOutIdeal := fun m ρ _ => Cert.TnOutIdeal.Gen.frame m ρ
theorem frame_tn_out_reference : Cert.quiescent_TnOutReferenceIdeal := fun m ρ _ =>
  (θ_run Cert.TnOutReferenceIdeal.defs _ _).mono (fun r h => ⟨fun c => (h c).2,
      Idealize.ShloMosaic.sem_eq_zero_of_no_sems (by decide) r.2⟩)
    (Cert.TnOutReferenceIdeal.Value.run (F := Ideal) m ρ)

/-! ## The forward attention -/

theorem frame_fwd : Cert.quiescent_Fwd := fun m ρ _ => Cert.Fwd.Gen.frame m ρ
theorem frame_fwd_ideal : Cert.quiescent_FwdIdeal := fun m ρ _ => Cert.FwdIdeal.Gen.frame m ρ
theorem frame_fwd_reference : Cert.quiescent_FwdReferenceIdeal := fun m ρ _ =>
  (θ_run Cert.FwdReferenceIdeal.defs _ _).mono (fun r h => ⟨fun c => (h c).2.2,
      Idealize.ShloMosaic.sem_eq_zero_of_no_sems (by decide) r.2⟩)
    (Cert.FwdReferenceIdeal.Value.run (F := Ideal) m ρ)

/-- The two named constants: the mask's minus infinity, and the product with `1 / log 2`. -/
theorem preserves_fwd : Cert.preserves_Fwd_FwdIdeal :=
  ⟨IdealRules.named_const.statement Cert.FwdIdeal.κ "mask" .f32 0xF149F2CA#32 _ rfl,
    IdealRules.named_const.statement Cert.FwdIdeal.κ "exp2_scale" .f32 0x3E16C740#32 _ rfl⟩

/-! ## The gated unit, the output projection and the square weights' gradients -/

theorem frame_glu_fwd : Cert.quiescent_GluFwd := fun m ρ _ => Cert.GluFwd.Gen.frame m ρ
theorem frame_glu_fwd_ideal : Cert.quiescent_GluFwdIdeal := fun m ρ _ => Cert.GluFwdIdeal.Gen.frame m ρ
theorem frame_glu_fwd_reference : Cert.quiescent_GluFwdReferenceIdeal := fun m ρ _ =>
  (θ_run Cert.GluFwdReferenceIdeal.defs _ _).mono (fun r h => ⟨fun c => (h c).2,
      Idealize.ShloMosaic.sem_eq_zero_of_no_sems (by decide) r.2⟩)
    (Cert.GluFwdReferenceIdeal.Value.run (F := Ideal) m ρ)
theorem frame_glu_bwd : Cert.quiescent_GluBwd := fun m ρ _ => Cert.GluBwd.Gen.frame m ρ
theorem frame_glu_bwd_ideal : Cert.quiescent_GluBwdIdeal := fun m ρ _ => Cert.GluBwdIdeal.Gen.frame m ρ
theorem frame_glu_bwd_reference : Cert.quiescent_GluBwdReferenceIdeal := fun m ρ _ =>
  (θ_run Cert.GluBwdReferenceIdeal.defs _ _).mono (fun r h => ⟨fun c => (h c).2.2.2.2.2.2,
      Idealize.ShloMosaic.sem_eq_zero_of_no_sems (by decide) r.2⟩)
    (Cert.GluBwdReferenceIdeal.Value.run (F := Ideal) m ρ)
theorem frame_out_fwd : Cert.quiescent_OutFwd := fun m ρ _ => Cert.OutFwd.Gen.frame m ρ
theorem frame_out_fwd_ideal : Cert.quiescent_OutFwdIdeal := fun m ρ _ => Cert.OutFwdIdeal.Gen.frame m ρ
theorem frame_out_fwd_reference : Cert.quiescent_OutFwdReferenceIdeal := fun m ρ _ =>
  (θ_run Cert.OutFwdReferenceIdeal.defs _ _).mono (fun r h => ⟨fun c => (h c).2,
      Idealize.ShloMosaic.sem_eq_zero_of_no_sems (by decide) r.2⟩)
    (Cert.OutFwdReferenceIdeal.Value.run (F := Ideal) m ρ)
theorem frame_out_bwd : Cert.quiescent_OutBwd := fun m ρ _ => Cert.OutBwd.Gen.frame m ρ
theorem frame_out_bwd_ideal : Cert.quiescent_OutBwdIdeal := fun m ρ _ => Cert.OutBwdIdeal.Gen.frame m ρ
theorem frame_out_bwd_reference : Cert.quiescent_OutBwdReferenceIdeal := fun m ρ _ =>
  (θ_run Cert.OutBwdReferenceIdeal.defs _ _).mono (fun r h => ⟨fun c => (h c).2.2.2.2.2,
      Idealize.ShloMosaic.sem_eq_zero_of_no_sems (by decide) r.2⟩)
    (Cert.OutBwdReferenceIdeal.Value.run (F := Ideal) m ρ)
theorem frame_tn_sq : Cert.quiescent_TnSq := fun m ρ _ => Cert.TnSq.Gen.frame m ρ
theorem frame_tn_sq_ideal : Cert.quiescent_TnSqIdeal := fun m ρ _ => Cert.TnSqIdeal.Gen.frame m ρ
theorem frame_tn_sq_reference : Cert.quiescent_TnSqReferenceIdeal := fun m ρ _ =>
  (θ_run Cert.TnSqReferenceIdeal.defs _ _).mono (fun r h => ⟨fun c => (h c).2,
      Idealize.ShloMosaic.sem_eq_zero_of_no_sems (by decide) r.2⟩)
    (Cert.TnSqReferenceIdeal.Value.run (F := Ideal) m ρ)

/-! ## The attention weights' gradients -/

theorem frame_tn_dq : Cert.quiescent_TnDq := fun m ρ _ => Cert.TnDq.Gen.frame m ρ
theorem frame_tn_dq_ideal : Cert.quiescent_TnDqIdeal := fun m ρ _ => Cert.TnDqIdeal.Gen.frame m ρ
theorem frame_tn_dq_reference : Cert.quiescent_TnDqReferenceIdeal := fun m ρ _ =>
  (θ_run Cert.TnDqReferenceIdeal.defs _ _).mono (fun r h => ⟨fun c => (h c).2,
      Idealize.ShloMosaic.sem_eq_zero_of_no_sems (by decide) r.2⟩)
    (Cert.TnDqReferenceIdeal.Value.run (F := Ideal) m ρ)
theorem frame_tn_uq : Cert.quiescent_TnUq := fun m ρ _ => Cert.TnUq.Gen.frame m ρ
theorem frame_tn_uq_ideal : Cert.quiescent_TnUqIdeal := fun m ρ _ => Cert.TnUqIdeal.Gen.frame m ρ
theorem frame_tn_uq_reference : Cert.quiescent_TnUqReferenceIdeal := fun m ρ _ =>
  (θ_run Cert.TnUqReferenceIdeal.defs _ _).mono (fun r h => ⟨fun c => (h c).2,
      Idealize.ShloMosaic.sem_eq_zero_of_no_sems (by decide) r.2⟩)
    (Cert.TnUqReferenceIdeal.Value.run (F := Ideal) m ρ)
theorem frame_tn_kva : Cert.quiescent_TnKva := fun m ρ _ => Cert.TnKva.Gen.frame m ρ
theorem frame_tn_kva_ideal : Cert.quiescent_TnKvaIdeal := fun m ρ _ => Cert.TnKvaIdeal.Gen.frame m ρ
theorem frame_tn_kva_reference : Cert.quiescent_TnKvaReferenceIdeal := fun m ρ _ =>
  (θ_run Cert.TnKvaReferenceIdeal.defs _ _).mono (fun r h => ⟨fun c => (h c).2,
      Idealize.ShloMosaic.sem_eq_zero_of_no_sems (by decide) r.2⟩)
    (Cert.TnKvaReferenceIdeal.Value.run (F := Ideal) m ρ)
theorem frame_tn_v : Cert.quiescent_TnV := fun m ρ _ => Cert.TnV.Gen.frame m ρ
theorem frame_tn_v_ideal : Cert.quiescent_TnVIdeal := fun m ρ _ => Cert.TnVIdeal.Gen.frame m ρ
theorem frame_tn_v_reference : Cert.quiescent_TnVReferenceIdeal := fun m ρ _ =>
  (θ_run Cert.TnVReferenceIdeal.defs _ _).mono (fun r h => ⟨fun c => (h c).2,
      Idealize.ShloMosaic.sem_eq_zero_of_no_sems (by decide) r.2⟩)
    (Cert.TnVReferenceIdeal.Value.run (F := Ideal) m ρ)

/-! ## The queries -/

theorem frame_q_fwd : Cert.quiescent_QFwd := fun m ρ _ => Cert.QFwd.Gen.frame m ρ
theorem frame_q_fwd_ideal : Cert.quiescent_QFwdIdeal := fun m ρ _ => Cert.QFwdIdeal.Gen.frame m ρ
theorem frame_q_fwd_reference : Cert.quiescent_QFwdReferenceIdeal := fun m ρ _ =>
  (θ_run Cert.QFwdReferenceIdeal.defs _ _).mono (fun r h => ⟨fun c => (h c).2,
      Idealize.ShloMosaic.sem_eq_zero_of_no_sems (by decide) r.2⟩)
    (Cert.QFwdReferenceIdeal.Value.run (F := Ideal) m ρ)

/-! ## The loss and the optimiser -/

theorem frame_loss : Cert.quiescent_Loss := fun m ρ _ => Cert.Loss.Gen.frame m ρ
theorem frame_loss_ideal : Cert.quiescent_LossIdeal := fun m ρ _ => Cert.LossIdeal.Gen.frame m ρ
theorem frame_loss_reference : Cert.quiescent_LossReferenceIdeal := fun m ρ _ =>
  (θ_run Cert.LossReferenceIdeal.defs _ _).mono (fun r h => ⟨fun c => (h c).2.2,
      Idealize.ShloMosaic.sem_eq_zero_of_no_sems (by decide) r.2⟩)
    (Cert.LossReferenceIdeal.Value.run (F := Ideal) m ρ)
theorem frame_adam : Cert.quiescent_Adam := fun m ρ _ => Cert.Adam.Gen.frame m ρ
theorem frame_adam_ideal : Cert.quiescent_AdamIdeal := fun m ρ _ => Cert.AdamIdeal.Gen.frame m ρ
theorem frame_adam_reference : Cert.quiescent_AdamReferenceIdeal := fun m ρ _ =>
  (θ_run Cert.AdamReferenceIdeal.defs _ _).mono (fun r h => ⟨fun c => (h c).2.2.2.2,
      Idealize.ShloMosaic.sem_eq_zero_of_no_sems (by decide) r.2⟩)
    (Cert.AdamReferenceIdeal.Value.run (F := Ideal) m ρ)

/-- The two named constants: the inverses of the words of one less the tenth powers of the moments' rates. -/
theorem preserves_adam : Cert.preserves_Adam_AdamIdeal :=
  ⟨IdealRules.named_const.statement Cert.AdamIdeal.κ "c1" .f32 0x3FC48605#32 _ rfl,
    IdealRules.named_const.statement Cert.AdamIdeal.κ "c2" .f32 0x42C8E6D3#32 _ rfl⟩

end Cert.Proof.Frames

end
-- ==== Proof.FfnRun.lean ====
/-
  The run of the two calls of a layer's second half: every buffer ends at the contents that the two pipelines leave.
-/
module

public import proofs.«01_k».proof.Proof.Gen.FfnIdeal.Frame

@[expose] public section

set_option maxRecDepth 16384

noncomputable section

namespace Cert.FfnIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.FfnIdeal Cert.FfnIdeal.Gen

variable {F : FTy → Type} [FloatOps F]
variable (m : (ℓ : Loc nD τ sig) → Buf (Elt F) ℓ) (ρ : Dev nD → PrngReg)

set_option backward.isDefEq.respectTransparency.types false in
/-- Every array named at the host ends at the last boundary's contents. -/
theorem ends : θ_run defs (onTc (τ := τ) (main (F := F))) ⟨m, fun _ => 0, ρ⟩ (fun r =>
      ∀ c : Dev nD, ∀ b : Ref sig .tc, Proc.devRef .tc b ∈ Pipeline.ucRefs τ sig → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c b hb => h c _ hb)

/-- The first call's arrays at the end: the second call leaves its result alone. -/
theorem out_end (c : Dev nD) : W9 m ρ c (Proc.devRef .tc main_v12_0) = (dat0 (V7 m ρ) c).arrAt 8 cfg0.N :=
  (W9_of m ρ c main_v12_0 (by decide)).trans (W8_arr m ρ c 8)

end Cert.FfnIdeal.Ends
end
-- ==== Proof.FfnMath.lean ====
/-
  The second half of a layer on one row, over the extended reals: the normalised and modulated row, its three products,
  and their gradients; then the padding of 2816 columns to 3072, which changes no sum; then the one identity that needs
  real numbers.
-/
module

public import Idealize.ShloMosaic.PureOps.IdealRules

@[expose] public section

noncomputable section

namespace Cert.FfnMath

open Idealize.ShloMosaic

/-! ## One row -/

/-- The three constants: 1024, the epsilon under the root, and minus a half. -/
abbrev K : EReal := Ideal.ofBits .f32 1149239296#32
abbrev E : EReal := Ideal.ofBits .f32 897988541#32
abbrev H : EReal := Ideal.ofBits .f32 3204448256#32

/-- The mean square with its epsilon, and the inverse root. -/
def ms (x : Fin 1024 → EReal) : EReal := Ideal.div (∑ d, x d * x d) K + E
def rs (x : Fin 1024 → EReal) : EReal := Ideal.rsqrt (ms x)
/-- The normalised row, scaled; then the modulated one. -/
def nrm (x g : Fin 1024 → EReal) (d : Fin 1024) : EReal := x d * rs x * g d
def hid (x g sh sc : Fin 1024 → EReal) (d : Fin 1024) : EReal := nrm x g d * (1 + sc d) + sh d
/-- A product with a weight's columns, the activation, the product back, and the result. -/
def proj {n : ℕ} (h : Fin 1024 → EReal) (w : Fin 1024 → Fin n → EReal) (j : Fin n) : EReal := ∑ d, h d * w d j
def act (g u : EReal) : EReal := g * Ideal.logistic g * u
def down {n : ℕ} (a : Fin n → EReal) (w : Fin n → Fin 1024 → EReal) (d : Fin 1024) : EReal := ∑ j, a j * w j d
def res (x gt y : Fin 1024 → EReal) (d : Fin 1024) : EReal := x d + gt d * y d
/-- The gradients: of the product back, of the activation, of its two factors. -/
def dy (gt dxo : Fin 1024 → EReal) (d : Fin 1024) : EReal := gt d * dxo d
def dact {n : ℕ} (dy : Fin 1024 → EReal) (w : Fin n → Fin 1024 → EReal) (j : Fin n) : EReal := ∑ d, dy d * w j d
def dgate (da u g : EReal) : EReal := da * u * (Ideal.logistic g * (1 + g * (1 - Ideal.logistic g)))
def dup (da g : EReal) : EReal := da * (g * Ideal.logistic g)
/-- The gradient of the gate's factor with the product rule's two terms apart. -/
def dgate' (da u g : EReal) : EReal := da * u * Ideal.logistic g + g * (da * u) * (Ideal.logistic g * (1 - Ideal.logistic g))
/-- The gradients of the modulated row, of the normalised one, and of the input. -/
def dhid {n : ℕ} (dg du : Fin n → EReal) (wg wu : Fin 1024 → Fin n → EReal) (d : Fin 1024) : EReal := (∑ j, dg j * wg d j) + ∑ j, du j * wu d j
def dnrm (sc dh : Fin 1024 → EReal) (d : Fin 1024) : EReal := dh d * (1 + sc d)
def mix (x dn : Fin 1024 → EReal) : EReal := Ideal.div ((∑ d, x d * dn d) * (H * Ideal.div (rs x) (ms x))) K
def dx (dxo x dn : Fin 1024 → EReal) (d : Fin 1024) : EReal := dxo d + ((dn d * rs x + x d * mix x dn) + mix x dn * x d)

/-- The same, of a row's operands: over `n` columns. -/
def dgs {n : ℕ} (dxo gt : Fin 1024 → EReal) (ga up : Fin n → EReal) (wd : Fin n → Fin 1024 → EReal) (j : Fin n) : EReal := dgate (dact (dy gt dxo) wd j) (up j) (ga j)
def dus {n : ℕ} (dxo gt : Fin 1024 → EReal) (ga : Fin n → EReal) (wd : Fin n → Fin 1024 → EReal) (j : Fin n) : EReal := dup (dact (dy gt dxo) wd j) (ga j)
def dhs {n : ℕ} (dxo gt : Fin 1024 → EReal) (ga up : Fin n → EReal) (wg wu : Fin 1024 → Fin n → EReal) (wd : Fin n → Fin 1024 → EReal) : Fin 1024 → EReal :=
  dhid (dgs dxo gt ga up wd) (dus dxo gt ga wd) wg wu
def acts {n : ℕ} (ga up : Fin n → EReal) (j : Fin n) : EReal := act (ga j) (up j)
def ys {n : ℕ} (ga up : Fin n → EReal) (wd : Fin n → Fin 1024 → EReal) : Fin 1024 → EReal := down (acts ga up) wd
/-- A row's terms of the four vectors' gradients, and the normalised row's gradient. -/
def dgtT (dxo y : Fin 1024 → EReal) (d : Fin 1024) : EReal := dxo d * y d
def dscT (x g dh : Fin 1024 → EReal) (d : Fin 1024) : EReal := nrm x g d * dh d
def dgnT (x sc dh : Fin 1024 → EReal) (d : Fin 1024) : EReal := x d * rs x * dnrm sc dh d
def dns (sc g dh : Fin 1024 → EReal) (d : Fin 1024) : EReal := dnrm sc dh d * g d

/-! ## Padding -/

/-- Eight blocks of 352 columns, each followed by 32 zeros. -/
def pad (f : Fin 2816 → EReal) (j : Fin 3072) : EReal :=
  if h : j.val % 384 < 352 then f ⟨352 * (j.val / 384) + j.val % 384, by omega⟩ else 0

/-- Where column `n` lies after the padding. -/
def emb (n : Fin 2816) : Fin 3072 := ⟨384 * (n.val / 352) + n.val % 352, by omega⟩

theorem emb_inj : Function.Injective emb := fun a b h => Fin.ext (by
  have h' : 384 * (a.val / 352) + a.val % 352 = 384 * (b.val / 352) + b.val % 352 := congrArg Fin.val h
  omega)

theorem pad_emb (f : Fin 2816 → EReal) (n : Fin 2816) : pad f (emb n) = f n := by
  have h : (emb n).val = 384 * (n.val / 352) + n.val % 352 := rfl
  unfold pad
  rw [dif_pos (by omega)]
  exact congrArg f (Fin.ext (by show 352 * ((emb n).val / 384) + (emb n).val % 384 = n.val; omega))

theorem pad_off (f : Fin 2816 → EReal) (j : Fin 3072) (h : j ∉ Set.range emb) : pad f j = 0 := by
  unfold pad
  refine dif_neg fun hj => h ⟨⟨352 * (j.val / 384) + j.val % 384, by omega⟩, Fin.ext ?_⟩
  show 384 * ((352 * (j.val / 384) + j.val % 384) / 352) + (352 * (j.val / 384) + j.val % 384) % 352 = j.val
  omega

/-- The padding adds nothing to a sum. -/
theorem sum_pad (f : Fin 2816 → EReal) : ∑ j, pad f j = ∑ n, f n :=
  (Fintype.sum_of_injective emb emb_inj f (pad f) (pad_off f) fun n => (pad_emb f n).symm).symm

/-- A function of padded arrays that vanishes on the padding is the padded function. -/
theorem pad_eq {f : Fin 3072 → EReal} {g : Fin 2816 → EReal} (h : ∀ n, f (emb n) = g n) (h0 : ∀ j, j ∉ Set.range emb → f j = 0) : f = pad g := by
  funext j
  by_cases hj : j ∈ Set.range emb
  · obtain ⟨n, rfl⟩ := hj
    rw [h, pad_emb]
  · rw [h0 j hj, pad_off _ _ hj]

theorem proj_pad (h : Fin 1024 → EReal) (w : Fin 1024 → Fin 2816 → EReal) : proj h (fun d => pad (w d)) = pad (proj h w) :=
  pad_eq (fun n => by unfold proj; exact Finset.sum_congr rfl fun d _ => by beta_reduce; rw [pad_emb])
    fun j hj => by unfold proj; exact Finset.sum_eq_zero fun d _ => by beta_reduce; rw [pad_off _ _ hj, mul_zero]

theorem act_pad (g u : Fin 2816 → EReal) : (fun j => act (pad g j) (pad u j)) = pad fun n => act (g n) (u n) :=
  pad_eq (fun n => by rw [pad_emb, pad_emb]) fun j hj => by unfold act; rw [pad_off _ _ hj, pad_off _ _ hj, mul_zero]

theorem down_pad (a : Fin 2816 → EReal) (w : Fin 2816 → Fin 1024 → EReal) : down (pad a) (fun j d => pad (fun n => w n d) j) = down a w := by
  funext d
  unfold down
  rw [← sum_pad]
  refine Finset.sum_congr rfl fun j _ => congrFun (pad_eq (f := fun j => pad a j * pad (fun n => w n d) j) (fun n => ?_) fun j hj => ?_) j
  · rw [pad_emb, pad_emb]
  · simp only [pad_off _ _ hj, mul_zero]

theorem dact_pad (dy : Fin 1024 → EReal) (w : Fin 2816 → Fin 1024 → EReal) : dact dy (fun j d => pad (fun n => w n d) j) = pad (dact dy w) :=
  pad_eq (fun n => by unfold dact; exact Finset.sum_congr rfl fun d _ => by beta_reduce; rw [pad_emb])
    fun j hj => by unfold dact; exact Finset.sum_eq_zero fun d _ => by beta_reduce; rw [pad_off _ _ hj, mul_zero]

theorem dgate_pad (da u g : Fin 2816 → EReal) : (fun j => dgate (pad da j) (pad u j) (pad g j)) = pad fun n => dgate (da n) (u n) (g n) :=
  pad_eq (fun n => by rw [pad_emb, pad_emb, pad_emb]) fun j hj => by unfold dgate; rw [pad_off da _ hj, zero_mul, zero_mul]

theorem dup_pad (da g : Fin 2816 → EReal) : (fun j => dup (pad da j) (pad g j)) = pad fun n => dup (da n) (g n) :=
  pad_eq (fun n => by rw [pad_emb, pad_emb]) fun j hj => by unfold dup; rw [pad_off da _ hj, zero_mul]

theorem dhid_pad (dg du : Fin 2816 → EReal) (wg wu : Fin 1024 → Fin 2816 → EReal) :
    dhid (pad dg) (pad du) (fun d => pad (wg d)) (fun d => pad (wu d)) = dhid dg du wg wu := by
  have h (f : Fin 2816 → EReal) (w : Fin 2816 → EReal) : ∑ j, pad f j * pad w j = ∑ n, f n * w n := by
    rw [← sum_pad]
    refine Finset.sum_congr rfl fun j _ => congrFun (pad_eq (f := fun j => pad f j * pad w j) (fun n => ?_) fun j hj => ?_) j
    · rw [pad_emb, pad_emb]
    · simp only [pad_off _ _ hj, mul_zero]
  funext d
  unfold dhid
  rw [h, h]

/-- A sum of 3072 terms is that of its four blocks of 768. -/
theorem sum_blocks (f : Fin 3072 → EReal) : ∑ j, f j
    = (((∑ n : Fin 768, f ⟨n.val, by omega⟩) + ∑ n : Fin 768, f ⟨768 + n.val, by omega⟩) + ∑ n : Fin 768, f ⟨1536 + n.val, by omega⟩) + ∑ n : Fin 768, f ⟨2304 + n.val, by omega⟩ := by
  rw [Fin.sum_univ_add (a := 2304) (b := 768) f, Fin.sum_univ_add (a := 1536) (b := 768), Fin.sum_univ_add (a := 768) (b := 768)]
  rfl

/-! ## The padded row -/

section
variable (dxo gt : Fin 1024 → EReal) (ga up : Fin 2816 → EReal) (wg wu : Fin 1024 → Fin 2816 → EReal) (wd : Fin 2816 → Fin 1024 → EReal)

/-- A weight padded along its columns, and along its rows. -/
def padC (w : Fin 1024 → Fin 2816 → EReal) (d : Fin 1024) : Fin 3072 → EReal := pad (w d)
def padR (w : Fin 2816 → Fin 1024 → EReal) (j : Fin 3072) (d : Fin 1024) : EReal := pad (fun n => w n d) j

theorem dgs_pad : dgs dxo gt (pad ga) (pad up) (padR wd) = pad (dgs dxo gt ga up wd) := by
  have h := dact_pad (dy gt dxo) wd
  unfold dgs
  rw [show dact (dy gt dxo) (padR wd) = pad (dact (dy gt dxo) wd) from h]
  exact dgate_pad _ _ _
theorem dus_pad : dus dxo gt (pad ga) (padR wd) = pad (dus dxo gt ga wd) := by
  have h := dact_pad (dy gt dxo) wd
  unfold dus
  rw [show dact (dy gt dxo) (padR wd) = pad (dact (dy gt dxo) wd) from h]
  exact dup_pad _ _
theorem dhs_pad : dhs dxo gt (pad ga) (pad up) (padC wg) (padC wu) (padR wd) = dhs dxo gt ga up wg wu wd := by
  unfold dhs
  rw [dgs_pad, dus_pad]
  exact dhid_pad _ _ _ _
theorem acts_pad : acts (pad ga) (pad up) = pad (acts ga up) := act_pad _ _
theorem ys_pad : ys (pad ga) (pad up) (padR wd) = ys ga up wd := by
  unfold ys
  rw [acts_pad]
  exact down_pad _ _
end

/-! ## Real rows -/

/-- A number that is neither infinity. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {n : ℕ} {f : Fin n → EReal} (h : ∀ i, IsReal (f i)) : IsReal (∑ i, f i) :=
  Finset.sum_induction f IsReal (fun _ _ => .add) ⟨0, rfl⟩ fun i _ => h i
theorem IsReal.one : IsReal 1 := ⟨1, rfl⟩

theorem K_eq : K = ((1024 : ℝ) : EReal) := by
  unfold K
  simp [Ideal.ofBits, Ideal.ieee, -EReal.coe_mul]; norm_num
theorem E_eq : E = ((8796093 / 8796093022208 : ℝ) : EReal) := by
  unfold E
  simp [Ideal.ofBits, Ideal.ieee, -EReal.coe_mul]; norm_num

/-- The inverse root of a real row is real: its mean square is at least the epsilon. -/
theorem rs_real (x : Fin 1024 → EReal) (h : ∀ d, IsReal (x d)) : IsReal (rs x) := by
  choose y hy using h
  have hs : ∑ d, x d * x d = ((∑ d, y d * y d : ℝ) : EReal) := by
    have hc (s : Finset (Fin 1024)) : ((∑ d ∈ s, y d * y d : ℝ) : EReal) = ∑ d ∈ s, x d * x d := by
      induction s using Finset.cons_induction with
      | empty => rfl
      | cons a s ha ih => rw [Finset.sum_cons, Finset.sum_cons, EReal.coe_add, ih, hy a, EReal.coe_mul]
    exact (hc _).symm
  have hp : 0 ≤ ∑ d, y d * y d := Finset.sum_nonneg fun d _ => mul_self_nonneg _
  unfold rs ms
  rw [hs, K_eq, Ideal.div_coe (by norm_num), E_eq, ← EReal.coe_mul, ← EReal.coe_add, Ideal.rsqrt_coe, if_neg (by nlinarith), if_neg (by nlinarith)]
  exact ⟨_, rfl⟩

theorem logistic_real {g : EReal} : IsReal g → IsReal (Ideal.logistic g)
  | ⟨r, hr⟩ => ⟨_, hr ▸ Ideal.logistic_coe r⟩

theorem hid_real {x g sh sc : Fin 1024 → EReal} (hx : ∀ d, IsReal (x d)) (hg : ∀ d, IsReal (g d)) (hsh : ∀ d, IsReal (sh d)) (hsc : ∀ d, IsReal (sc d)) (d : Fin 1024) :
    IsReal (hid x g sh sc d) :=
  ((((hx d).mul (rs_real x hx)).mul (hg d)).mul (IsReal.one.add (hsc d))).add (hsh d)

/-- The product rule's two terms are the factored one. -/
theorem dgate_eq {da u g : EReal} (ha : IsReal da) (hu : IsReal u) (hg : IsReal g) : dgate da u g = dgate' da u g := by
  obtain ⟨s, hs⟩ := logistic_real hg
  obtain ⟨a, rfl⟩ := ha
  obtain ⟨u, rfl⟩ := hu
  obtain ⟨g, rfl⟩ := hg
  unfold dgate dgate'
  rw [hs, show (1 : EReal) = ((1 : ℝ) : EReal) from rfl]
  simp only [← EReal.coe_mul, ← EReal.coe_add, ← EReal.coe_sub]
  exact congrArg _ (by ring)

end Cert.FfnMath
end
-- ==== Proof.FfnPayloads.lean ====
/-
  What one point of the backward call writes, at an index: the row formulas of FfnMath.
-/
module

public import proofs.«01_k».proof.Proof.FfnRun
public import proofs.«01_k».proof.Proof.FfnMath
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.FfnIdeal.Back

open Idealize.ShloMosaic Idealize.ShloMosaic.TcCoe Idealize.SL.Sem
open Cert.FfnIdeal Cert.FfnIdeal.Gen Cert.FfnMath
section
variable (x0 x1 : Vec Ideal S256x1024 .f32) (x2 x3 : Vec Ideal S256x3072 .bf16) (x4 x5 x6 x7 : Vec Ideal S1x1024 .f32)
  (x8 x9 : Vec Ideal S1024x3072 .bf16) (x10 : Vec Ideal S3072x1024 .bf16) (acc : Vec Ideal S1x1024 .f32) (r : Fin 256) (d : Fin 1024)

/-- A block's rows, and the single row of a vector. -/
abbrev row {n w : ℕ} (x : (⟨2, ![n, w]⟩ : Shape).Idx → EReal) (r : Fin n) (d : Fin w) : EReal := x (ix2 r d)
abbrev vec {w : ℕ} (x : (⟨2, ![1, w]⟩ : Shape).Idx → EReal) (d : Fin w) : EReal := x (ix2 0 d)
abbrev mat {n w : ℕ} (x : (⟨2, ![n, w]⟩ : Shape).Idx → EReal) (r : Fin n) (d : Fin w) : EReal := x (ix2 r d)

/-- The row's gradients, of the point's operands. -/
def dyRow : Fin 1024 → EReal := dy (vec x7) (row x1 r)
def daRow : Fin 3072 → EReal := dact (dyRow x1 x7 r) (mat x10)
def dgRow (j : Fin 3072) : EReal := dgate (daRow x1 x7 x10 r j) (x3 (ix2 r j)) (x2 (ix2 r j))
def duRow (j : Fin 3072) : EReal := dup (daRow x1 x7 x10 r j) (x2 (ix2 r j))
def dhRow : Fin 1024 → EReal := dhid (dgRow x1 x2 x3 x7 x10 r) (duRow x1 x2 x7 x10 r) (mat x8) (mat x9)
def aRow (j : Fin 3072) : EReal := act (x2 (ix2 r j)) (x3 (ix2 r j))
def yRow : Fin 1024 → EReal := down (aRow x2 x3 r) (mat x10)

/-- The gradient of the modulated rows as the point sums it: four blocks of columns. -/
def DH : FVec Ideal S256x1024 .f32 :=
  k1_pay60
        (k1_pay48
          (k1_pay37
            (k1_pay27 k1_pay17
              (k1_pay25 (k1_pay16 x1 x7) (View.ld x2 (Rect.unit ![0, 0] ![256, 768] inb_S256x3072_S256x768_0_0))
                (View.ld x3 (Rect.unit ![0, 0] ![256, 768] inb_S256x3072_S256x768_0_0))
                (View.ld x10 (Rect.unit ![0, 0] ![768, 1024] inb_S3072x1024_S768x1024_0_0)))
              (k1_pay26 (k1_pay16 x1 x7) (View.ld x2 (Rect.unit ![0, 0] ![256, 768] inb_S256x3072_S256x768_0_0))
                (View.ld x10 (Rect.unit ![0, 0] ![768, 1024] inb_S3072x1024_S768x1024_0_0)))
              (View.ld x8 (Rect.unit ![0, 0] ![1024, 768] inb_S1024x3072_S1024x768_0_0))
              (View.ld x9 (Rect.unit ![0, 0] ![1024, 768] inb_S1024x3072_S1024x768_0_0)))
            (k1_pay35 (k1_pay16 x1 x7) (View.ld x2 (Rect.unit ![0, 768] ![256, 768] inb_S256x3072_S256x768_0_768))
              (View.ld x3 (Rect.unit ![0, 768] ![256, 768] inb_S256x3072_S256x768_0_768))
              (View.ld x10 (Rect.unit ![768, 0] ![768, 1024] inb_S3072x1024_S768x1024_768_0)))
            (k1_pay36 (k1_pay16 x1 x7) (View.ld x2 (Rect.unit ![0, 768] ![256, 768] inb_S256x3072_S256x768_0_768))
              (View.ld x10 (Rect.unit ![768, 0] ![768, 1024] inb_S3072x1024_S768x1024_768_0)))
            (View.ld x8 (Rect.unit ![0, 768] ![1024, 768] inb_S1024x3072_S1024x768_0_768))
            (View.ld x9 (Rect.unit ![0, 768] ![1024, 768] inb_S1024x3072_S1024x768_0_768)))
          (k1_pay41 (View.ld x2 (Rect.unit ![0, 1536] ![256, 768] inb_S256x3072_S256x768_0_1536)))
          (k1_pay44 (k1_pay16 x1 x7) (View.ld x10 (Rect.unit ![1536, 0] ![768, 1024] inb_S3072x1024_S768x1024_1536_0)))
          (k1_pay45 (k1_pay16 x1 x7) (View.ld x2 (Rect.unit ![0, 1536] ![256, 768] inb_S256x3072_S256x768_0_1536))
            (View.ld x3 (Rect.unit ![0, 1536] ![256, 768] inb_S256x3072_S256x768_0_1536))
            (View.ld x10 (Rect.unit ![1536, 0] ![768, 1024] inb_S3072x1024_S768x1024_1536_0)))
          (View.ld x8 (Rect.unit ![0, 1536] ![1024, 768] inb_S1024x3072_S1024x768_0_1536))
          (View.ld x9 (Rect.unit ![0, 1536] ![1024, 768] inb_S1024x3072_S1024x768_0_1536)))
        (k1_pay49 (View.ld x2 (Rect.unit ![0, 2304] ![256, 768] inb_S256x3072_S256x768_0_2304)))
        (k1_pay51 (View.ld x2 (Rect.unit ![0, 2304] ![256, 768] inb_S256x3072_S256x768_0_2304)))
        (k1_pay52 (View.ld x2 (Rect.unit ![0, 2304] ![256, 768] inb_S256x3072_S256x768_0_2304)))
        (k1_pay55 (k1_pay16 x1 x7) (View.ld x10 (Rect.unit ![2304, 0] ![768, 1024] inb_S3072x1024_S768x1024_2304_0)))
        (k1_pay56 (k1_pay16 x1 x7) (View.ld x3 (Rect.unit ![0, 2304] ![256, 768] inb_S256x3072_S256x768_0_2304))
          (View.ld x10 (Rect.unit ![2304, 0] ![768, 1024] inb_S3072x1024_S768x1024_2304_0)))
        (k1_pay57 (View.ld x2 (Rect.unit ![0, 2304] ![256, 768] inb_S256x3072_S256x768_0_2304)))
        (View.ld x8 (Rect.unit ![0, 2304] ![1024, 768] inb_S1024x3072_S1024x768_0_2304))
        (View.ld x9 (Rect.unit ![0, 2304] ![1024, 768] inb_S1024x3072_S1024x768_0_2304))

/-- Two interleaved sums of four blocks, apart. -/
theorem regroup (a0 a1 a2 a3 b0 b1 b2 b3 : EReal) :
    ((((((a0 + b0) + a1) + b1) + a2) + b2) + a3) + b3 = (((a0 + a1) + a2) + a3) + (((b0 + b1) + b2) + b3) := by abel

theorem DH_at : DH x1 x2 x3 x7 x8 x9 x10 (ix2 r d) = dhRow x1 x2 x3 x7 x8 x9 x10 r d := by
  unfold DH dhRow dhid
  rw [sum_blocks, sum_blocks]
  pointwise [k1_pay60, k1_pay48, k1_pay37, k1_pay27, k1_pay17, k1_pay25, k1_pay16, k1_pay26, k1_pay35, k1_pay36, k1_pay41, k1_pay44, k1_pay45, k1_pay49, k1_pay51, k1_pay52, k1_pay55, k1_pay56, k1_pay57, k1_pay18, k1_pay19, k1_pay20, k1_pay21, k1_pay24, k1_pay28, k1_pay29, k1_pay30, k1_pay31, k1_pay34, k1_pay38, k1_pay39, k1_pay40, k1_pay46, k1_pay47, k1_pay58, k1_pay59, k1_pay50]
  exact regroup _ _ _ _ _ _ _ _

/-- The input's gradient over any gradient of the normalised rows. -/
theorem dx_at (p q : FVec Ideal S256x1024 .f32) (dn : Fin 1024 → EReal) (hp : ∀ d, p (ix2 r d) = dn d) (hq : ∀ d, q (ix2 r d) = x0 (ix2 r d) * dn d) :
    k1_pay1 x1 x0 (k1_pay10 x0) (k1_pay11 x0) p q (ix2 r d) = dx (row x1 r) (row x0 r) dn d := by
  pointwise [k1_pay1, k1_pay10, k1_pay11, k1_pay9]
  simp only [hp, hq, Fin.sum_univ_one]
  rfl

/-- The product back over the four blocks. -/
def Y : FVec Ideal S256x1024 .f32 :=
  k1_pay54
        (k1_pay43
          (k1_pay33
            (k1_pay23 (View.ld x2 (Rect.unit ![0, 0] ![256, 768] inb_S256x3072_S256x768_0_0))
              (View.ld x3 (Rect.unit ![0, 0] ![256, 768] inb_S256x3072_S256x768_0_0))
              (View.ld x10 (Rect.unit ![0, 0] ![768, 1024] inb_S3072x1024_S768x1024_0_0)))
            (View.ld x2 (Rect.unit ![0, 768] ![256, 768] inb_S256x3072_S256x768_0_768))
            (View.ld x3 (Rect.unit ![0, 768] ![256, 768] inb_S256x3072_S256x768_0_768))
            (View.ld x10 (Rect.unit ![768, 0] ![768, 1024] inb_S3072x1024_S768x1024_768_0)))
          (View.ld x2 (Rect.unit ![0, 1536] ![256, 768] inb_S256x3072_S256x768_0_1536))
          (View.ld x3 (Rect.unit ![0, 1536] ![256, 768] inb_S256x3072_S256x768_0_1536))
          (View.ld x10 (Rect.unit ![1536, 0] ![768, 1024] inb_S3072x1024_S768x1024_1536_0)))
        (View.ld x2 (Rect.unit ![0, 2304] ![256, 768] inb_S256x3072_S256x768_0_2304))
        (View.ld x3 (Rect.unit ![0, 2304] ![256, 768] inb_S256x3072_S256x768_0_2304))
        (View.ld x10 (Rect.unit ![2304, 0] ![768, 1024] inb_S3072x1024_S768x1024_2304_0))

theorem Y_at : Y x2 x3 x10 (ix2 r d) = yRow x2 x3 x10 r d := by
  unfold Y yRow down
  rw [sum_blocks]
  pointwise [k1_pay54, k1_pay43, k1_pay33, k1_pay23, k1_pay22, k1_pay32, k1_pay42, k1_pay53, k1_pay18, k1_pay19, k1_pay20, k1_pay21, k1_pay28, k1_pay29, k1_pay30, k1_pay31, k1_pay38, k1_pay39, k1_pay40, k1_pay41, k1_pay49, k1_pay50, k1_pay51, k1_pay52]
  rfl

/-- A row's terms of the four vectors' gradients. -/
def dgtRow (d : Fin 1024) : EReal := x1 (ix2 r d) * yRow x2 x3 x10 r d
def dscRow (d : Fin 1024) : EReal := nrm (row x0 r) (vec x4) d * dhRow x1 x2 x3 x7 x8 x9 x10 r d
def dgnRow (d : Fin 1024) : EReal := x0 (ix2 r d) * rs (row x0 r) * dnrm (vec x6) (dhRow x1 x2 x3 x7 x8 x9 x10 r) d
/-- The normalised row's gradient. -/
def dnRow (d : Fin 1024) : EReal := dnrm (vec x6) (dhRow x1 x2 x3 x7 x8 x9 x10 r) d * vec x4 d

theorem dgt_at : k1_pay61 x1 (Y x2 x3 x10) acc (ix2 0 d) = acc (ix2 0 d) + ∑ r, dgtRow x1 x2 x3 x10 r d := by
  unfold dgtRow
  simp only [← Y_at]
  pointwise [k1_pay61]
end

section
variable (V : (c : Dev nD) → (b : Ref sig .tc) → Buf (Elt Ideal) ((c : Thread nD τ).loc b)) (c : Dev nD) (t : Fin cfg1.N)

/-- A point's operands. -/
abbrev b0 : Vec Ideal S256x1024 .f32 := iblk1 V c 0 t
abbrev b1 : Vec Ideal S256x1024 .f32 := iblk1 V c 1 t
abbrev b2 : Vec Ideal S256x3072 .bf16 := iblk1 V c 2 t
abbrev b3 : Vec Ideal S256x3072 .bf16 := iblk1 V c 3 t
abbrev b4 : Vec Ideal S1x1024 .f32 := iblk1 V c 4 t
abbrev b5 : Vec Ideal S1x1024 .f32 := iblk1 V c 5 t
abbrev b6 : Vec Ideal S1x1024 .f32 := iblk1 V c 6 t
abbrev b7 : Vec Ideal S1x1024 .f32 := iblk1 V c 7 t
abbrev b8 : Vec Ideal S1024x3072 .bf16 := iblk1 V c 8 t
abbrev b9 : Vec Ideal S1024x3072 .bf16 := iblk1 V c 9 t
abbrev b10 : Vec Ideal S3072x1024 .bf16 := iblk1 V c 10 t
abbrev bdh (r : Fin 256) : Fin 1024 → EReal := dhRow (b1 V c t) (b2 V c t) (b3 V c t) (b7 V c t) (b8 V c t) (b9 V c t) (b10 V c t) r

/-- What a point writes: the same at the first point and at the others, but for the sums' start. -/
theorem pt_dx (r : Fin 256) (d : Fin 1024) : (outsAt1 V c t.val t.isLt).1 (ix2 r d)
    = dx (row (b1 V c t) r) (row (b0 V c t) r) (dnRow (b1 V c t) (b2 V c t) (b3 V c t) (b4 V c t) (b6 V c t) (b7 V c t) (b8 V c t) (b9 V c t) (b10 V c t) r) d := by
  by_cases h0 : t.val % 16 = 0
  · rw [outsAt1_A V c t h0]
    dsimp only
    frame_out
    refine dx_at _ _ r d _ _ _ (fun d => ?_) fun d => ?_ <;> unfold dnRow dnrm <;> rw [← DH_at] <;> unfold DH <;>
      pointwise [k1_pay67, k1_pay66, k1_pay64, k1_pay14] <;> rfl
  · rw [outsAt1_B V c t h0]
    dsimp only
    frame_out
    refine dx_at _ _ r d _ _ _ (fun d => ?_) fun d => ?_ <;> unfold dnRow dnrm <;> rw [← DH_at] <;> unfold DH <;>
      pointwise [k1_pay67, k1_pay66, k1_pay64, k1_pay14] <;> rfl

theorem pt_dg (r : Fin 256) (n : Fin 3072) : (outsAt1 V c t.val t.isLt).2.1 (ix2 r n) = dgRow (b1 V c t) (b2 V c t) (b3 V c t) (b7 V c t) (b10 V c t) r n := by
  obtain ⟨n, hn⟩ := n
  by_cases h0 : t.val % 16 = 0
  · rw [outsAt1_A V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay25, k1_pay35, k1_pay46, k1_pay58]
      rfl
  · rw [outsAt1_B V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay25, k1_pay35, k1_pay46, k1_pay58]
      rfl

theorem pt_du (r : Fin 256) (n : Fin 3072) : (outsAt1 V c t.val t.isLt).2.2.1 (ix2 r n) = duRow (b1 V c t) (b2 V c t) (b7 V c t) (b10 V c t) r n := by
  obtain ⟨n, hn⟩ := n
  by_cases h0 : t.val % 16 = 0
  · rw [outsAt1_A V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay26, k1_pay36, k1_pay47, k1_pay59]
      rfl
  · rw [outsAt1_B V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay26, k1_pay36, k1_pay47, k1_pay59]
      rfl

theorem pt_a (r : Fin 256) (n : Fin 3072) : (outsAt1 V c t.val t.isLt).2.2.2.2.2.1 (ix2 r n) = aRow (b2 V c t) (b3 V c t) r n := by
  obtain ⟨n, hn⟩ := n
  by_cases h0 : t.val % 16 = 0
  · rw [outsAt1_A V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay22, k1_pay32, k1_pay42, k1_pay53]
      rfl
  · rw [outsAt1_B V c t h0]
    dsimp only
    frame_out
    canon_tiles x h
    all_goals
      obtain ⟨p, q, rfl⟩ : ∃ (p : Fin 256) (q : Fin 768), x = ix2 p q := ⟨x 0, x 1, (ix2_eta (n0 := 256) (n1 := 768) x).symm⟩
      obtain rfl : r = p := Fin.ext h0
      change n = _ at h1
      subst h1
      pointwise [k1_pay16, k1_pay18, k1_pay19, k1_pay20, k1_pay21, k1_pay24, k1_pay28, k1_pay29, k1_pay30, k1_pay31, k1_pay34, k1_pay38, k1_pay39, k1_pay40, k1_pay41, k1_pay44, k1_pay45, k1_pay49, k1_pay50, k1_pay51, k1_pay52, k1_pay55, k1_pay56, k1_pay57, k1_pay22, k1_pay32, k1_pay42, k1_pay53]
      rfl

theorem pt_dy (r : Fin 256) (d : Fin 1024) : (outsAt1 V c t.val t.isLt).2.2.2.1 (ix2 r d) = dyRow (b1 V c t) (b7 V c t) r d := by
  by_cases h0 : t.val % 16 = 0
  · rw [outsAt1_A V c t h0]
    dsimp only
    frame_out
    pointwise [k1_pay16]
    rfl
  · rw [outsAt1_B V c t h0]
    dsimp only
    frame_out
    pointwise [k1_pay16]
    rfl

theorem pt_h (r : Fin 256) (d : Fin 1024) : (outsAt1 V c t.val t.isLt).2.2.2.2.1 (ix2 r d) = hid (row (b0 V c t) r) (vec (b4 V c t)) (vec (b5 V c t)) (vec (b6 V c t)) d := by
  by_cases h0 : t.val % 16 = 0
  · rw [outsAt1_A V c t h0]
    dsimp only
    frame_out
    pointwise [k1_pay15, k1_pay14, k1_pay13, k1_pay12, k1_pay10, k1_pay9]
    rfl
  · rw [outsAt1_B V c t h0]
    dsimp only
    frame_out
    pointwise [k1_pay15, k1_pay14, k1_pay13, k1_pay12, k1_pay10, k1_pay9]
    rfl

/-- The first point's sums over its rows. -/
theorem first_dgn (h0 : t.val % 16 = 0) (d : Fin 1024) : (outsAt1 V c t.val t.isLt).2.2.2.2.2.2.1 (ix2 0 d)
    = ∑ r, dgnRow (b0 V c t) (b1 V c t) (b2 V c t) (b3 V c t) (b6 V c t) (b7 V c t) (b8 V c t) (b9 V c t) (b10 V c t) r d := by
  unfold dgnRow dnrm
  simp only [← DH_at]
  rw [outsAt1_A V c t h0]
  dsimp only
  frame_out
  unfold DH
  pointwise [k1_pay2, k1_pay65, k1_pay64, k1_pay12, k1_pay5, k1_pay14, k1_pay10, k1_pay9]
  rfl
theorem first_dsh (h0 : t.val % 16 = 0) (d : Fin 1024) : (outsAt1 V c t.val t.isLt).2.2.2.2.2.2.2.1 (ix2 0 d) = ∑ r, bdh V c t r d := by
  unfold bdh
  simp only [← DH_at]
  rw [outsAt1_A V c t h0]
  dsimp only
  frame_out
  unfold DH
  pointwise [k1_pay3, k1_pay62, k1_pay6]
theorem first_dsc (h0 : t.val % 16 = 0) (d : Fin 1024) : (outsAt1 V c t.val t.isLt).2.2.2.2.2.2.2.2.1 (ix2 0 d)
    = ∑ r, dscRow (b0 V c t) (b1 V c t) (b2 V c t) (b3 V c t) (b4 V c t) (b7 V c t) (b8 V c t) (b9 V c t) (b10 V c t) r d := by
  unfold dscRow
  simp only [← DH_at]
  rw [outsAt1_A V c t h0]
  dsimp only
  frame_out
  unfold DH
  pointwise [k1_pay4, k1_pay63, k1_pay7, k1_pay13, k1_pay12, k1_pay10, k1_pay9]
  rfl
theorem first_dgt (h0 : t.val % 16 = 0) (d : Fin 1024) : (outsAt1 V c t.val t.isLt).2.2.2.2.2.2.2.2.2 (ix2 0 d)
    = ∑ r, dgtRow (b1 V c t) (b2 V c t) (b3 V c t) (b10 V c t) r d := by
  rw [outsAt1_A V c t h0]
  dsimp only
  frame_out
  refine (dgt_at _ _ _ _ _ d).trans ?_
  pointwise [k1_pay8]

/-- A later point adds its rows' terms. -/
theorem next_dgn (h0 : ¬t.val % 16 = 0) (d : Fin 1024) : (outsAt1 V c t.val t.isLt).2.2.2.2.2.2.1 (ix2 0 d)
    = (outsAt1 V c (t.val - 1) (Nat.lt_of_le_of_lt (Nat.sub_le _ _) t.isLt)).2.2.2.2.2.2.1 (ix2 0 d)
      + ∑ r, dgnRow (b0 V c t) (b1 V c t) (b2 V c t) (b3 V c t) (b6 V c t) (b7 V c t) (b8 V c t) (b9 V c t) (b10 V c t) r d := by
  unfold dgnRow dnrm
  simp only [← DH_at]
  rw [outsAt1_B V c t h0]
  dsimp only
  frame_out
  unfold DH
  pointwise [k1_pay2, k1_pay65, k1_pay64, k1_pay12, k1_pay14, k1_pay10, k1_pay9]
  rfl
theorem next_dsh (h0 : ¬t.val % 16 = 0) (d : Fin 1024) : (outsAt1 V c t.val t.isLt).2.2.2.2.2.2.2.1 (ix2 0 d)
    = (outsAt1 V c (t.val - 1) (Nat.lt_of_le_of_lt (Nat.sub_le _ _) t.isLt)).2.2.2.2.2.2.2.1 (ix2 0 d) + ∑ r, bdh V c t r d := by
  unfold bdh
  simp only [← DH_at]
  rw [outsAt1_B V c t h0]
  dsimp only
  frame_out
  unfold DH
  pointwise [k1_pay3, k1_pay62]
theorem next_dsc (h0 : ¬t.val % 16 = 0) (d : Fin 1024) : (outsAt1 V c t.val t.isLt).2.2.2.2.2.2.2.2.1 (ix2 0 d)
    = (outsAt1 V c (t.val - 1) (Nat.lt_of_le_of_lt (Nat.sub_le _ _) t.isLt)).2.2.2.2.2.2.2.2.1 (ix2 0 d)
      + ∑ r, dscRow (b0 V c t) (b1 V c t) (b2 V c t) (b3 V c t) (b4 V c t) (b7 V c t) (b8 V c t) (b9 V c t) (b10 V c t) r d := by
  unfold dscRow
  simp only [← DH_at]
  rw [outsAt1_B V c t h0]
  dsimp only
  frame_out
  unfold DH
  pointwise [k1_pay4, k1_pay63, k1_pay13, k1_pay12, k1_pay10, k1_pay9]
  rfl
theorem next_dgt (h0 : ¬t.val % 16 = 0) (d : Fin 1024) : (outsAt1 V c t.val t.isLt).2.2.2.2.2.2.2.2.2 (ix2 0 d)
    = (outsAt1 V c (t.val - 1) (Nat.lt_of_le_of_lt (Nat.sub_le _ _) t.isLt)).2.2.2.2.2.2.2.2.2 (ix2 0 d) + ∑ r, dgtRow (b1 V c t) (b2 V c t) (b3 V c t) (b10 V c t) r d := by
  rw [outsAt1_B V c t h0]
  dsimp only
  frame_out
  exact dgt_at _ _ _ _ _ d
end
end Cert.FfnIdeal.Back
end
-- ==== Proof.FfnBackward.lean ====
/-
  The backward call's arrays at the end: every row's gradients, and the four vectors' gradients summed over all rows.
-/
module

public import proofs.«01_k».proof.Proof.FfnPayloads

@[expose] public section

set_option maxRecDepth 16384

noncomputable section

namespace Cert.FfnIdeal.Back

open Idealize.ShloMosaic Idealize.ShloMosaic.TcCoe Idealize.SL.Sem
open Cert.FfnIdeal Cert.FfnIdeal.Gen Cert.FfnMath

variable (V : (c : Dev nD) → (b : Ref sig .tc) → Buf (Elt Ideal) ((c : Thread nD τ).loc b)) (c : Dev nD)

/-! ## The operands -/

/-- The arrays the call reads. -/
abbrev X : S4096x1024.Idx → EReal := V c main_arg0
abbrev DXO : S4096x1024.Idx → EReal := V c main_arg1
abbrev GA : S4096x3072.Idx → EReal := V c main_v12_1
abbrev UP : S4096x3072.Idx → EReal := V c main_v12_2
abbrev G : S1x1024.Idx → EReal := V c main_arg2
abbrev SH : S1x1024.Idx → EReal := V c main_arg3
abbrev SC : S1x1024.Idx → EReal := V c main_arg4
abbrev GT : S1x1024.Idx → EReal := V c main_arg5
abbrev WG : S1024x3072.Idx → EReal := V c main_v3
abbrev WU : S1024x3072.Idx → EReal := V c main_v7
abbrev WD : S3072x1024.Idx → EReal := V c main_v11

/-- Row `r` of the point's 256. -/
def at256 (t : Fin cfg1.N) (r : Fin 256) : Fin 4096 := ⟨256 * t.val + r.val, by
  have h : t.val < 16 := lt_of_lt_of_eq t.isLt N_1
  omega⟩

theorem idxIn : ∀ t : Fin cfg1.N,
    win1_0.index t = ![t.val, 0] ∧ win1_1.index t = ![t.val, 0] ∧ win1_2.index t = ![t.val, 0] ∧ win1_3.index t = ![t.val, 0]
      ∧ win1_4.index t = ![0, 0] ∧ win1_5.index t = ![0, 0] ∧ win1_6.index t = ![0, 0] ∧ win1_7.index t = ![0, 0]
      ∧ win1_8.index t = ![0, 0] ∧ win1_9.index t = ![0, 0] ∧ win1_10.index t = ![0, 0] := by
  decide +kernel
theorem idxOut : ∀ t : Fin cfg1.N,
    win1_11.index t = ![t.val, 0] ∧ win1_12.index t = ![t.val, 0] ∧ win1_13.index t = ![t.val, 0] ∧ win1_14.index t = ![t.val, 0]
      ∧ win1_15.index t = ![t.val, 0] ∧ win1_16.index t = ![t.val, 0]
      ∧ win1_17.index t = ![0, 0] ∧ win1_18.index t = ![0, 0] ∧ win1_19.index t = ![0, 0] ∧ win1_20.index t = ![0, 0] := by
  decide +kernel

section
variable (t : Fin cfg1.N) (r : Fin 256)
theorem in0 : row (b0 V c t) r = row (X V c) (at256 t r) := by
  obtain ⟨h, -⟩ := idxIn t
  funext d
  unfold row b0 X at256
  blk_ext [iblk1, h]
theorem in1 : row (b1 V c t) r = row (DXO V c) (at256 t r) := by
  obtain ⟨-, h, -⟩ := idxIn t
  funext d
  unfold row b1 DXO at256
  blk_ext [iblk1, h]
theorem in2 : row (b2 V c t) r = row (GA V c) (at256 t r) := by
  obtain ⟨-, -, h, -⟩ := idxIn t
  funext d
  unfold row b2 GA at256
  blk_ext [iblk1, h]
theorem in3 : row (b3 V c t) r = row (UP V c) (at256 t r) := by
  obtain ⟨-, -, -, h, -⟩ := idxIn t
  funext d
  unfold row b3 UP at256
  blk_ext [iblk1, h]
theorem in4 : vec (b4 V c t) = vec (G V c) := by
  obtain ⟨-, -, -, -, h, -⟩ := idxIn t
  funext d
  unfold vec b4 G
  blk_ext [iblk1, h]
theorem in5 : vec (b5 V c t) = vec (SH V c) := by
  obtain ⟨-, -, -, -, -, h, -⟩ := idxIn t
  funext d
  unfold vec b5 SH
  blk_ext [iblk1, h]
theorem in6 : vec (b6 V c t) = vec (SC V c) := by
  obtain ⟨-, -, -, -, -, -, h, -⟩ := idxIn t
  funext d
  unfold vec b6 SC
  blk_ext [iblk1, h]
theorem in7 : vec (b7 V c t) = vec (GT V c) := by
  obtain ⟨-, -, -, -, -, -, -, h, -⟩ := idxIn t
  funext d
  unfold vec b7 GT
  blk_ext [iblk1, h]
theorem in8 : mat (b8 V c t) = mat (WG V c) := by
  obtain ⟨-, -, -, -, -, -, -, -, h, -⟩ := idxIn t
  funext n d
  unfold mat b8 WG
  blk_ext [iblk1, h]
theorem in9 : mat (b9 V c t) = mat (WU V c) := by
  obtain ⟨-, -, -, -, -, -, -, -, -, h, -⟩ := idxIn t
  funext n d
  unfold mat b9 WU
  blk_ext [iblk1, h]
theorem in10 : mat (b10 V c t) = mat (WD V c) := by
  obtain ⟨-, -, -, -, -, -, -, -, -, -, h⟩ := idxIn t
  funext n d
  unfold mat b10 WD
  blk_ext [iblk1, h]
end

/-! ## The rows' gradients -/

/-- A row's gradients, of the whole arrays. -/
abbrev dhAt (R : Fin 4096) : Fin 1024 → EReal := dhs (row (DXO V c) R) (vec (GT V c)) (row (GA V c) R) (row (UP V c) R) (mat (WG V c)) (mat (WU V c)) (mat (WD V c))
def resDx : S4096x1024.Idx → EReal := fun i => dx (row (DXO V c) (i 0)) (row (X V c) (i 0)) (dns (vec (SC V c)) (vec (G V c)) (dhAt V c (i 0))) (i 1)
def resDg : S4096x3072.Idx → EReal := fun i => dgs (row (DXO V c) (i 0)) (vec (GT V c)) (row (GA V c) (i 0)) (row (UP V c) (i 0)) (mat (WD V c)) (i 1)
def resDu : S4096x3072.Idx → EReal := fun i => dus (row (DXO V c) (i 0)) (vec (GT V c)) (row (GA V c) (i 0)) (mat (WD V c)) (i 1)
def resDy : S4096x1024.Idx → EReal := fun i => dy (vec (GT V c)) (row (DXO V c) (i 0)) (i 1)
def resH : S4096x1024.Idx → EReal := fun i => hid (row (X V c) (i 0)) (vec (G V c)) (vec (SH V c)) (vec (SC V c)) (i 1)
def resA : S4096x3072.Idx → EReal := fun i => acts (row (GA V c) (i 0)) (row (UP V c) (i 0)) (i 1)

theorem dh_in (t : Fin cfg1.N) (r : Fin 256) : dhRow (b1 V c t) (b2 V c t) (b3 V c t) (b7 V c t) (b8 V c t) (b9 V c t) (b10 V c t) r = dhAt V c (at256 t r) := by
  show dhs (row (b1 V c t) r) (vec (b7 V c t)) (row (b2 V c t) r) (row (b3 V c t) r) (mat (b8 V c t)) (mat (b9 V c t)) (mat (b10 V c t)) = _
  rw [in1, in2, in3, in7, in8, in9, in10]

theorem arr11 : (dat1 V c).arrAt 11 cfg1.N = resDx V c := by
  refine (dat1 V c).arrAt_eq_of_covers 11 (resDx V c) (by decide +kernel) fun t hf y => ?_
  blk_simp
  rw [after1_11]
  obtain ⟨h, -⟩ := idxOut t
  obtain ⟨r, d, rfl⟩ : ∃ (r : Fin 256) (d : Fin 1024), y = ix2 r d := ⟨y 0, y 1, (ix2_eta (n0 := 256) (n1 := 1024) y).symm⟩
  have e : (win1_11.blk t).view.emb (ix2 r d) = ix2 (n0 := 4096) (at256 t r) d := funext fun a => Fin.ext ((Pipeline.Window.rect_emb_val win1_11 t (ix2 r d) a).trans (by
    rw [h]
    refine Fin.cases ?_ (fun a => ?_) a
    · show t.val * 256 + r.val = 256 * t.val + r.val; omega
    · refine Fin.cases ?_ (fun a => a.elim0) a
      show 0 * 1024 + d.val = d.val; omega))
  rw [e]
  refine (pt_dx V c t r d).trans ?_
  show dx (row (b1 V c t) r) (row (b0 V c t) r) (dns (vec (b6 V c t)) (vec (b4 V c t)) (dhRow (b1 V c t) (b2 V c t) (b3 V c t) (b7 V c t) (b8 V c t) (b9 V c t) (b10 V c t) r)) d = _
  rw [dh_in, in0, in1, in4, in6]
  rfl
theorem arr12 : (dat1 V c).arrAt 12 cfg1.N = resDg V c := by
  refine (dat1 V c).arrAt_eq_of_covers 12 (resDg V c) (by decide +kernel) fun t hf y => ?_
  blk_simp
  rw [after1_12]
  obtain ⟨-, h, -⟩ := idxOut t
  obtain ⟨r, d, rfl⟩ : ∃ (r : Fin 256) (d : Fin 3072), y = ix2 r d := ⟨y 0, y 1, (ix2_eta (n0 := 256) (n1 := 3072) y).symm⟩
  have e : (win1_12.blk t).view.emb (ix2 r d) = ix2 (n0 := 4096) (at256 t r) d := funext fun a => Fin.ext ((Pipeline.Window.rect_emb_val win1_12 t (ix2 r d) a).trans (by
    rw [h]
    refine Fin.cases ?_ (fun a => ?_) a
    · show t.val * 256 + r.val = 256 * t.val + r.val; omega
    · refine Fin.cases ?_ (fun a => a.elim0) a
      show 0 * 3072 + d.val = d.val; omega))
  rw [e]
  refine (pt_dg V c t r d).trans ?_
  show dgs (row (b1 V c t) r) (vec (b7 V c t)) (row (b2 V c t) r) (row (b3 V c t) r) (mat (b10 V c t)) d = _
  rw [in1, in2, in3, in7, in10]
  rfl
theorem arr13 : (dat1 V c).arrAt 13 cfg1.N = resDu V c := by
  refine (dat1 V c).arrAt_eq_of_covers 13 (resDu V c) (by decide +kernel) fun t hf y => ?_
  blk_simp
  rw [after1_13]
  obtain ⟨-, -, h, -⟩ := idxOut t
  obtain ⟨r, d, rfl⟩ : ∃ (r : Fin 256) (d : Fin 3072), y = ix2 r d := ⟨y 0, y 1, (ix2_eta (n0 := 256) (n1 := 3072) y).symm⟩
  have e : (win1_13.blk t).view.emb (ix2 r d) = ix2 (n0 := 4096) (at256 t r) d := funext fun a => Fin.ext ((Pipeline.Window.rect_emb_val win1_13 t (ix2 r d) a).trans (by
    rw [h]
    refine Fin.cases ?_ (fun a => ?_) a
    · show t.val * 256 + r.val = 256 * t.val + r.val; omega
    · refine Fin.cases ?_ (fun a => a.elim0) a
      show 0 * 3072 + d.val = d.val; omega))
  rw [e]
  refine (pt_du V c t r d).trans ?_
  show dus (row (b1 V c t) r) (vec (b7 V c t)) (row (b2 V c t) r) (mat (b10 V c t)) d = _
  rw [in1, in2, in7, in10]
  rfl
theorem arr14 : (dat1 V c).arrAt 14 cfg1.N = resDy V c := by
  refine (dat1 V c).arrAt_eq_of_covers 14 (resDy V c) (by decide +kernel) fun t hf y => ?_
  blk_simp
  rw [after1_14]
  obtain ⟨-, -, -, h, -⟩ := idxOut t
  obtain ⟨r, d, rfl⟩ : ∃ (r : Fin 256) (d : Fin 1024), y = ix2 r d := ⟨y 0, y 1, (ix2_eta (n0 := 256) (n1 := 1024) y).symm⟩
  have e : (win1_14.blk t).view.emb (ix2 r d) = ix2 (n0 := 4096) (at256 t r) d := funext fun a => Fin.ext ((Pipeline.Window.rect_emb_val win1_14 t (ix2 r d) a).trans (by
    rw [h]
    refine Fin.cases ?_ (fun a => ?_) a
    · show t.val * 256 + r.val = 256 * t.val + r.val; omega
    · refine Fin.cases ?_ (fun a => a.elim0) a
      show 0 * 1024 + d.val = d.val; omega))
  rw [e]
  refine (pt_dy V c t r d).trans ?_
  show dy (vec (b7 V c t)) (row (b1 V c t) r) d = _
  rw [in1, in7]
  rfl
theorem arr15 : (dat1 V c).arrAt 15 cfg1.N = resH V c := by
  refine (dat1 V c).arrAt_eq_of_covers 15 (resH V c) (by decide +kernel) fun t hf y => ?_
  blk_simp
  rw [after1_15]
  obtain ⟨-, -, -, -, h, -⟩ := idxOut t
  obtain ⟨r, d, rfl⟩ : ∃ (r : Fin 256) (d : Fin 1024), y = ix2 r d := ⟨y 0, y 1, (ix2_eta (n0 := 256) (n1 := 1024) y).symm⟩
  have e : (win1_15.blk t).view.emb (ix2 r d) = ix2 (n0 := 4096) (at256 t r) d := funext fun a => Fin.ext ((Pipeline.Window.rect_emb_val win1_15 t (ix2 r d) a).trans (by
    rw [h]
    refine Fin.cases ?_ (fun a => ?_) a
    · show t.val * 256 + r.val = 256 * t.val + r.val; omega
    · refine Fin.cases ?_ (fun a => a.elim0) a
      show 0 * 1024 + d.val = d.val; omega))
  rw [e]
  refine (pt_h V c t r d).trans ?_
  rw [in0, in4, in5, in6]
  rfl
theorem arr16 : (dat1 V c).arrAt 16 cfg1.N = resA V c := by
  refine (dat1 V c).arrAt_eq_of_covers 16 (resA V c) (by decide +kernel) fun t hf y => ?_
  blk_simp
  rw [after1_16]
  obtain ⟨-, -, -, -, -, h, -⟩ := idxOut t
  obtain ⟨r, d, rfl⟩ : ∃ (r : Fin 256) (d : Fin 3072), y = ix2 r d := ⟨y 0, y 1, (ix2_eta (n0 := 256) (n1 := 3072) y).symm⟩
  have e : (win1_16.blk t).view.emb (ix2 r d) = ix2 (n0 := 4096) (at256 t r) d := funext fun a => Fin.ext ((Pipeline.Window.rect_emb_val win1_16 t (ix2 r d) a).trans (by
    rw [h]
    refine Fin.cases ?_ (fun a => ?_) a
    · show t.val * 256 + r.val = 256 * t.val + r.val; omega
    · refine Fin.cases ?_ (fun a => a.elim0) a
      show 0 * 3072 + d.val = d.val; omega))
  rw [e]
  refine (pt_a V c t r d).trans ?_
  show acts (row (b2 V c t) r) (row (b3 V c t) r) d = _
  rw [in2, in3]
  rfl

/-! ## The vectors' gradients -/

/-- A sum over the points of the sums over their rows is the sum over all rows. -/
theorem sum_at (f : Fin 4096 → EReal) : ∑ s : Fin 16, ∑ r : Fin 256, f (at256 ⟨s.val, s.isLt.trans_eq N_1.symm⟩ r) = ∑ R, f R := by
  rw [← Finset.sum_product', Finset.univ_product_univ]
  refine Fintype.sum_equiv (finProdFinEquiv (m := 16) (n := 256)) _ f fun p => congrArg f (Fin.ext ?_)
  show 256 * p.1.val + p.2.val = p.2.val + 256 * p.1.val
  omega

/-- What starts with the first point's term and adds the others' ends with their sum. -/
theorem sum_points (f a : Fin cfg1.N → EReal) (hA : ∀ t, t.val % 16 = 0 → a t = f t)
    (hB : ∀ t, ¬t.val % 16 = 0 → a t = a ⟨t.val - 1, Nat.lt_of_le_of_lt (Nat.sub_le _ _) t.isLt⟩ + f t) (t : Fin cfg1.N) (ht : t.val = 15) :
    a t = ∑ s : Fin 16, f ⟨s.val, s.isLt.trans_eq N_1.symm⟩ := by
  have k : ∀ n (h : n < cfg1.N), a ⟨n, h⟩ = ∑ s : Fin (n + 1), f ⟨s.val, lt_of_lt_of_le s.isLt h⟩ := by
    intro n
    induction n with
    | zero => intro h; rw [hA ⟨0, h⟩ rfl, Fin.sum_univ_one]; rfl
    | succ n ih =>
      intro h
      have h' : n + 1 < 16 := lt_of_lt_of_eq h N_1
      rw [hB ⟨n + 1, h⟩ (by show ¬(n + 1) % 16 = 0; omega), Fin.sum_univ_castSucc (n := n + 1)]
      exact congrArg₂ (· + ·) (ih _) rfl
  obtain ⟨n, h⟩ := t
  obtain rfl : n = 15 := ht
  exact k 15 h

def resDgn : S1x1024.Idx → EReal := fun i => ∑ R, dgnT (row (X V c) R) (vec (SC V c)) (dhAt V c R) (i 1)
def resDsh : S1x1024.Idx → EReal := fun i => ∑ R, dhAt V c R (i 1)
def resDsc : S1x1024.Idx → EReal := fun i => ∑ R, dscT (row (X V c) R) (vec (G V c)) (dhAt V c R) (i 1)
def resDgt : S1x1024.Idx → EReal := fun i => ∑ R, dgtT (row (DXO V c) R) (ys (row (GA V c) R) (row (UP V c) R) (mat (WD V c))) (i 1)

theorem end_dgn (t : Fin cfg1.N) (ht : t.val = 15) (d : Fin 1024) : (outsAt1 V c t.val t.isLt).2.2.2.2.2.2.1 (ix2 0 d) = ∑ R, dgnT (row (X V c) R) (vec (SC V c)) (dhAt V c R) d := by
  have e (t : Fin cfg1.N) : ∑ r, dgnRow (b0 V c t) (b1 V c t) (b2 V c t) (b3 V c t) (b6 V c t) (b7 V c t) (b8 V c t) (b9 V c t) (b10 V c t) r d = ∑ r, (fun R => dgnT (row (X V c) R) (vec (SC V c)) (dhAt V c R) d) (at256 t r) := Finset.sum_congr rfl fun r _ => by
    show dgnT (row (b0 V c t) r) (vec (b6 V c t)) (dhRow (b1 V c t) (b2 V c t) (b3 V c t) (b7 V c t) (b8 V c t) (b9 V c t) (b10 V c t) r) d = _
    rw [dh_in, in0, in6]
  rw [← sum_at fun R => dgnT (row (X V c) R) (vec (SC V c)) (dhAt V c R) d]
  refine sum_points (fun t => ∑ r, (fun R => dgnT (row (X V c) R) (vec (SC V c)) (dhAt V c R) d) (at256 t r)) (fun t => (outsAt1 V c t.val t.isLt).2.2.2.2.2.2.1 (ix2 0 d)) (fun t h => ?_) (fun t h => ?_) t ht
  · exact (first_dgn V c t h d).trans (e t)
  · exact (next_dgn V c t h d).trans (congrArg (_ + ·) (e t))
theorem arr17 : (dat1 V c).arrAt 17 cfg1.N = resDgn V c := by
  refine (dat1 V c).arrAt_eq_of_covers 17 (resDgn V c) (by decide +kernel) fun t hf y => ?_
  have ht : t.val % 16 = 15 := (flush1_17 t).mp hf
  have ht' : t.val < 16 := lt_of_lt_of_eq t.isLt N_1
  have h15 : t.val = 15 := by omega
  blk_simp
  rw [after1_17]
  obtain ⟨-, -, -, -, -, -, h, -⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win1_17.blk t).view.emb (ix2 0 d) = ix2 (n0 := 1) 0 d := funext fun a => Fin.ext ((Pipeline.Window.rect_emb_val win1_17 t (ix2 0 d) a).trans (by
    rw [h]
    refine Fin.cases ?_ (fun a => ?_) a
    · show 0 * 1 + 0 = 0; omega
    · refine Fin.cases ?_ (fun a => a.elim0) a
      show 0 * 1024 + d.val = d.val; omega))
  rw [e]
  exact end_dgn V c t h15 d
theorem end_dsh (t : Fin cfg1.N) (ht : t.val = 15) (d : Fin 1024) : (outsAt1 V c t.val t.isLt).2.2.2.2.2.2.2.1 (ix2 0 d) = ∑ R, dhAt V c R d := by
  have e (t : Fin cfg1.N) : ∑ r, bdh V c t r d = ∑ r, (fun R => dhAt V c R d) (at256 t r) := Finset.sum_congr rfl fun r _ => by
    exact congrFun (dh_in V c t r) d
  rw [← sum_at fun R => dhAt V c R d]
  refine sum_points (fun t => ∑ r, (fun R => dhAt V c R d) (at256 t r)) (fun t => (outsAt1 V c t.val t.isLt).2.2.2.2.2.2.2.1 (ix2 0 d)) (fun t h => ?_) (fun t h => ?_) t ht
  · exact (first_dsh V c t h d).trans (e t)
  · exact (next_dsh V c t h d).trans (congrArg (_ + ·) (e t))
theorem arr18 : (dat1 V c).arrAt 18 cfg1.N = resDsh V c := by
  refine (dat1 V c).arrAt_eq_of_covers 18 (resDsh V c) (by decide +kernel) fun t hf y => ?_
  have ht : t.val % 16 = 15 := (flush1_18 t).mp hf
  have ht' : t.val < 16 := lt_of_lt_of_eq t.isLt N_1
  have h15 : t.val = 15 := by omega
  blk_simp
  rw [after1_18]
  obtain ⟨-, -, -, -, -, -, -, h, -⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win1_18.blk t).view.emb (ix2 0 d) = ix2 (n0 := 1) 0 d := funext fun a => Fin.ext ((Pipeline.Window.rect_emb_val win1_18 t (ix2 0 d) a).trans (by
    rw [h]
    refine Fin.cases ?_ (fun a => ?_) a
    · show 0 * 1 + 0 = 0; omega
    · refine Fin.cases ?_ (fun a => a.elim0) a
      show 0 * 1024 + d.val = d.val; omega))
  rw [e]
  exact end_dsh V c t h15 d
theorem end_dsc (t : Fin cfg1.N) (ht : t.val = 15) (d : Fin 1024) : (outsAt1 V c t.val t.isLt).2.2.2.2.2.2.2.2.1 (ix2 0 d) = ∑ R, dscT (row (X V c) R) (vec (G V c)) (dhAt V c R) d := by
  have e (t : Fin cfg1.N) : ∑ r, dscRow (b0 V c t) (b1 V c t) (b2 V c t) (b3 V c t) (b4 V c t) (b7 V c t) (b8 V c t) (b9 V c t) (b10 V c t) r d = ∑ r, (fun R => dscT (row (X V c) R) (vec (G V c)) (dhAt V c R) d) (at256 t r) := Finset.sum_congr rfl fun r _ => by
    show dscT (row (b0 V c t) r) (vec (b4 V c t)) (dhRow (b1 V c t) (b2 V c t) (b3 V c t) (b7 V c t) (b8 V c t) (b9 V c t) (b10 V c t) r) d = _
    rw [dh_in, in0, in4]
  rw [← sum_at fun R => dscT (row (X V c) R) (vec (G V c)) (dhAt V c R) d]
  refine sum_points (fun t => ∑ r, (fun R => dscT (row (X V c) R) (vec (G V c)) (dhAt V c R) d) (at256 t r)) (fun t => (outsAt1 V c t.val t.isLt).2.2.2.2.2.2.2.2.1 (ix2 0 d)) (fun t h => ?_) (fun t h => ?_) t ht
  · exact (first_dsc V c t h d).trans (e t)
  · exact (next_dsc V c t h d).trans (congrArg (_ + ·) (e t))
theorem arr19 : (dat1 V c).arrAt 19 cfg1.N = resDsc V c := by
  refine (dat1 V c).arrAt_eq_of_covers 19 (resDsc V c) (by decide +kernel) fun t hf y => ?_
  have ht : t.val % 16 = 15 := (flush1_19 t).mp hf
  have ht' : t.val < 16 := lt_of_lt_of_eq t.isLt N_1
  have h15 : t.val = 15 := by omega
  blk_simp
  rw [after1_19]
  obtain ⟨-, -, -, -, -, -, -, -, h, -⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win1_19.blk t).view.emb (ix2 0 d) = ix2 (n0 := 1) 0 d := funext fun a => Fin.ext ((Pipeline.Window.rect_emb_val win1_19 t (ix2 0 d) a).trans (by
    rw [h]
    refine Fin.cases ?_ (fun a => ?_) a
    · show 0 * 1 + 0 = 0; omega
    · refine Fin.cases ?_ (fun a => a.elim0) a
      show 0 * 1024 + d.val = d.val; omega))
  rw [e]
  exact end_dsc V c t h15 d
theorem end_dgt (t : Fin cfg1.N) (ht : t.val = 15) (d : Fin 1024) : (outsAt1 V c t.val t.isLt).2.2.2.2.2.2.2.2.2 (ix2 0 d) = ∑ R, dgtT (row (DXO V c) R) (ys (row (GA V c) R) (row (UP V c) R) (mat (WD V c))) d := by
  have e (t : Fin cfg1.N) : ∑ r, dgtRow (b1 V c t) (b2 V c t) (b3 V c t) (b10 V c t) r d = ∑ r, (fun R => dgtT (row (DXO V c) R) (ys (row (GA V c) R) (row (UP V c) R) (mat (WD V c))) d) (at256 t r) := Finset.sum_congr rfl fun r _ => by
    show dgtT (row (b1 V c t) r) (ys (row (b2 V c t) r) (row (b3 V c t) r) (mat (b10 V c t))) d = _
    rw [in1, in2, in3, in10]
  rw [← sum_at fun R => dgtT (row (DXO V c) R) (ys (row (GA V c) R) (row (UP V c) R) (mat (WD V c))) d]
  refine sum_points (fun t => ∑ r, (fun R => dgtT (row (DXO V c) R) (ys (row (GA V c) R) (row (UP V c) R) (mat (WD V c))) d) (at256 t r)) (fun t => (outsAt1 V c t.val t.isLt).2.2.2.2.2.2.2.2.2 (ix2 0 d)) (fun t h => ?_) (fun t h => ?_) t ht
  · exact (first_dgt V c t h d).trans (e t)
  · exact (next_dgt V c t h d).trans (congrArg (_ + ·) (e t))
theorem arr20 : (dat1 V c).arrAt 20 cfg1.N = resDgt V c := by
  refine (dat1 V c).arrAt_eq_of_covers 20 (resDgt V c) (by decide +kernel) fun t hf y => ?_
  have ht : t.val % 16 = 15 := (flush1_20 t).mp hf
  have ht' : t.val < 16 := lt_of_lt_of_eq t.isLt N_1
  have h15 : t.val = 15 := by omega
  blk_simp
  rw [after1_20]
  obtain ⟨-, -, -, -, -, -, -, -, -, h⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win1_20.blk t).view.emb (ix2 0 d) = ix2 (n0 := 1) 0 d := funext fun a => Fin.ext ((Pipeline.Window.rect_emb_val win1_20 t (ix2 0 d) a).trans (by
    rw [h]
    refine Fin.cases ?_ (fun a => ?_) a
    · show 0 * 1 + 0 = 0; omega
    · refine Fin.cases ?_ (fun a => a.elim0) a
      show 0 * 1024 + d.val = d.val; omega))
  rw [e]
  exact end_dgt V c t h15 d

end Cert.FfnIdeal.Back
end
-- ==== Proof.FfnForward.lean ====
/-
  The forward call's arrays at the end: the result and the two products of the hidden rows.
-/
module

public import proofs.«01_k».proof.Proof.FfnBackward

@[expose] public section

set_option maxRecDepth 16384

noncomputable section

namespace Cert.FfnIdeal.Fwd

open Idealize.ShloMosaic Idealize.ShloMosaic.TcCoe Idealize.SL.Sem
open Cert.FfnIdeal Cert.FfnIdeal.Gen Cert.FfnMath
open Cert.FfnIdeal.Back

section
variable (x0 : Vec Ideal S512x1024 .f32) (x1 x2 x3 x4 : Vec Ideal S1x1024 .f32) (x5 x6 : Vec Ideal S1024x3072 .bf16) (x7 : Vec Ideal S3072x1024 .bf16)
  (r : Fin 512)

/-- The hidden row and its two products, of the point's operands. -/
abbrev hRow : Fin 1024 → EReal := hid (row x0 r) (vec x1) (vec x2) (vec x3)
abbrev prRow (w : Vec Ideal S1024x3072 .bf16) : Fin 3072 → EReal := proj (hRow x0 x1 x2 x3 r) (mat w)

theorem pt_gate (n : Fin 3072) : out0_9 x0 x1 x2 x3 x4 x5 x6 x7 (ix2 r n) = prRow x0 x1 x2 x3 r x5 n := by
  obtain ⟨n, hn⟩ := n
  unfold out0_9
  canon_tiles x h
  all_goals
    obtain ⟨p, q, rfl⟩ : ∃ (p : Fin 512) (q : Fin 768), x = ix2 p q := ⟨x 0, x 1, (ix2_eta (n0 := 512) (n1 := 768) x).symm⟩
    obtain rfl : r = p := Fin.ext h0
    change n = _ at h1
    subst h1
    pointwise [k0_pay1, k0_pay3, k0_pay5, k0_pay7, k0_pay9, k0_pay12, k0_pay14, k0_pay16, k0_pay18, k0_pay21, k0_pay22]
    rfl

theorem pt_up (n : Fin 3072) : out0_10 x0 x1 x2 x3 x4 x5 x6 x7 (ix2 r n) = prRow x0 x1 x2 x3 r x6 n := by
  obtain ⟨n, hn⟩ := n
  unfold out0_10
  canon_tiles x h
  all_goals
    obtain ⟨p, q, rfl⟩ : ∃ (p : Fin 512) (q : Fin 768), x = ix2 p q := ⟨x 0, x 1, (ix2_eta (n0 := 512) (n1 := 768) x).symm⟩
    obtain rfl : r = p := Fin.ext h0
    change n = _ at h1
    subst h1
    pointwise [k0_pay1, k0_pay4, k0_pay6, k0_pay8, k0_pay10, k0_pay13, k0_pay15, k0_pay17, k0_pay19, k0_pay21, k0_pay22]
    rfl

theorem pt_out (d : Fin 1024) : out0_8 x0 x1 x2 x3 x4 x5 x6 x7 (ix2 r d)
    = res (row x0 r) (vec x4) (ys (prRow x0 x1 x2 x3 r x5) (prRow x0 x1 x2 x3 r x6) (mat x7)) d := by
  unfold res ys down
  rw [sum_blocks]
  frame_out
  pointwise [k0_pay1, k0_pay2, k0_pay3, k0_pay4, k0_pay7, k0_pay8, k0_pay11, k0_pay12, k0_pay13, k0_pay16, k0_pay17, k0_pay20, k0_pay21, k0_pay22]
  rfl
end

variable (V : (c : Dev nD) → (b : Ref sig .tc) → Buf (Elt Ideal) ((c : Thread nD τ).loc b)) (c : Dev nD)

/-- Row `r` of the point's 512. -/
def at512 (t : Fin cfg0.N) (r : Fin 512) : Fin 4096 := ⟨512 * t.val + r.val, by
  have h : t.val < 8 := lt_of_lt_of_eq t.isLt N_0
  omega⟩

theorem idx : ∀ t : Fin cfg0.N,
    win0_0.index t = ![t.val, 0] ∧ win0_1.index t = ![0, 0] ∧ win0_2.index t = ![0, 0] ∧ win0_3.index t = ![0, 0] ∧ win0_4.index t = ![0, 0]
      ∧ win0_5.index t = ![0, 0] ∧ win0_6.index t = ![0, 0] ∧ win0_7.index t = ![0, 0]
      ∧ win0_8.index t = ![t.val, 0] ∧ win0_9.index t = ![t.val, 0] ∧ win0_10.index t = ![t.val, 0] := by
  decide +kernel

section
variable (t : Fin cfg0.N) (r : Fin 512)

/-- A point's operands. -/
abbrev f0 : Vec Ideal S512x1024 .f32 := iblk0 V c 0 t
abbrev f1 : Vec Ideal S1x1024 .f32 := iblk0 V c 1 t
abbrev f2 : Vec Ideal S1x1024 .f32 := iblk0 V c 2 t
abbrev f3 : Vec Ideal S1x1024 .f32 := iblk0 V c 3 t
abbrev f4 : Vec Ideal S1x1024 .f32 := iblk0 V c 4 t
abbrev f5 : Vec Ideal S1024x3072 .bf16 := iblk0 V c 5 t
abbrev f6 : Vec Ideal S1024x3072 .bf16 := iblk0 V c 6 t
abbrev f7 : Vec Ideal S3072x1024 .bf16 := iblk0 V c 7 t
theorem in0 : row (f0 V c t) r = row (X V c) (at512 t r) := by
  obtain ⟨h, -⟩ := idx t
  funext d
  unfold row f0 X at512
  blk_ext [iblk0, h]
theorem in1 : vec (f1 V c t) = vec (G V c) := by
  obtain ⟨-, h, -⟩ := idx t
  funext d
  unfold vec f1 G
  blk_ext [iblk0, h]
theorem in2 : vec (f2 V c t) = vec (SH V c) := by
  obtain ⟨-, -, h, -⟩ := idx t
  funext d
  unfold vec f2 SH
  blk_ext [iblk0, h]
theorem in3 : vec (f3 V c t) = vec (SC V c) := by
  obtain ⟨-, -, -, h, -⟩ := idx t
  funext d
  unfold vec f3 SC
  blk_ext [iblk0, h]
theorem in4 : vec (f4 V c t) = vec (GT V c) := by
  obtain ⟨-, -, -, -, h, -⟩ := idx t
  funext d
  unfold vec f4 GT
  blk_ext [iblk0, h]
theorem in5 : mat (f5 V c t) = mat (WG V c) := by
  obtain ⟨-, -, -, -, -, h, -⟩ := idx t
  funext n d
  unfold mat f5 WG
  blk_ext [iblk0, h]
theorem in6 : mat (f6 V c t) = mat (WU V c) := by
  obtain ⟨-, -, -, -, -, -, h, -⟩ := idx t
  funext n d
  unfold mat f6 WU
  blk_ext [iblk0, h]
theorem in7 : mat (f7 V c t) = mat (WD V c) := by
  obtain ⟨-, -, -, -, -, -, -, h, -⟩ := idx t
  funext n d
  unfold mat f7 WD
  blk_ext [iblk0, h]
end

/-- The hidden rows' two products, and the result. -/
abbrev hAt (R : Fin 4096) : Fin 1024 → EReal := hid (row (X V c) R) (vec (G V c)) (vec (SH V c)) (vec (SC V c))
def resGa : S4096x3072.Idx → EReal := fun i => proj (hAt V c (i 0)) (mat (WG V c)) (i 1)
def resUp : S4096x3072.Idx → EReal := fun i => proj (hAt V c (i 0)) (mat (WU V c)) (i 1)
def resOut : S4096x1024.Idx → EReal := fun i =>
  res (row (X V c) (i 0)) (vec (GT V c)) (ys (proj (hAt V c (i 0)) (mat (WG V c))) (proj (hAt V c (i 0)) (mat (WU V c))) (mat (WD V c))) (i 1)

theorem arr8 : (dat0 V c).arrAt 8 cfg0.N = resOut V c := by
  refine (dat0 V c).arrAt_eq_of_covers 8 (resOut V c) (by decide +kernel) fun t hf y => ?_
  blk_simp
  rw [after0_8]
  obtain ⟨-, -, -, -, -, -, -, -, h, -⟩ := idx t
  obtain ⟨r, d, rfl⟩ : ∃ (r : Fin 512) (d : Fin 1024), y = ix2 r d := ⟨y 0, y 1, (ix2_eta (n0 := 512) (n1 := 1024) y).symm⟩
  have e : (win0_8.blk t).view.emb (ix2 r d) = ix2 (n0 := 4096) (at512 t r) d := funext fun a => Fin.ext ((Pipeline.Window.rect_emb_val win0_8 t (ix2 r d) a).trans (by
    rw [h]
    refine Fin.cases ?_ (fun a => ?_) a
    · show t.val * 512 + r.val = 512 * t.val + r.val; omega
    · refine Fin.cases ?_ (fun a => a.elim0) a
      show 0 * 1024 + d.val = d.val; omega))
  rw [e]
  refine (pt_out (f0 V c t) (f1 V c t) (f2 V c t) (f3 V c t) (f4 V c t) (f5 V c t) (f6 V c t) (f7 V c t) r d).trans ?_
  unfold prRow hRow
  rw [Fwd.in0, Fwd.in1, Fwd.in2, Fwd.in3, Fwd.in4, Fwd.in5, Fwd.in6, Fwd.in7]
  rfl
theorem arr9 : (dat0 V c).arrAt 9 cfg0.N = resGa V c := by
  refine (dat0 V c).arrAt_eq_of_covers 9 (resGa V c) (by decide +kernel) fun t hf y => ?_
  blk_simp
  rw [after0_9]
  obtain ⟨-, -, -, -, -, -, -, -, -, h, -⟩ := idx t
  obtain ⟨r, d, rfl⟩ : ∃ (r : Fin 512) (d : Fin 3072), y = ix2 r d := ⟨y 0, y 1, (ix2_eta (n0 := 512) (n1 := 3072) y).symm⟩
  have e : (win0_9.blk t).view.emb (ix2 r d) = ix2 (n0 := 4096) (at512 t r) d := funext fun a => Fin.ext ((Pipeline.Window.rect_emb_val win0_9 t (ix2 r d) a).trans (by
    rw [h]
    refine Fin.cases ?_ (fun a => ?_) a
    · show t.val * 512 + r.val = 512 * t.val + r.val; omega
    · refine Fin.cases ?_ (fun a => a.elim0) a
      show 0 * 3072 + d.val = d.val; omega))
  rw [e]
  refine (pt_gate (f0 V c t) (f1 V c t) (f2 V c t) (f3 V c t) (f4 V c t) (f5 V c t) (f6 V c t) (f7 V c t) r d).trans ?_
  unfold prRow hRow
  rw [Fwd.in0, Fwd.in1, Fwd.in2, Fwd.in3, Fwd.in5]
  rfl
theorem arr10 : (dat0 V c).arrAt 10 cfg0.N = resUp V c := by
  refine (dat0 V c).arrAt_eq_of_covers 10 (resUp V c) (by decide +kernel) fun t hf y => ?_
  blk_simp
  rw [after0_10]
  obtain ⟨-, -, -, -, -, -, -, -, -, -, h⟩ := idx t
  obtain ⟨r, d, rfl⟩ : ∃ (r : Fin 512) (d : Fin 3072), y = ix2 r d := ⟨y 0, y 1, (ix2_eta (n0 := 512) (n1 := 3072) y).symm⟩
  have e : (win0_10.blk t).view.emb (ix2 r d) = ix2 (n0 := 4096) (at512 t r) d := funext fun a => Fin.ext ((Pipeline.Window.rect_emb_val win0_10 t (ix2 r d) a).trans (by
    rw [h]
    refine Fin.cases ?_ (fun a => ?_) a
    · show t.val * 512 + r.val = 512 * t.val + r.val; omega
    · refine Fin.cases ?_ (fun a => a.elim0) a
      show 0 * 3072 + d.val = d.val; omega))
  rw [e]
  refine (pt_up (f0 V c t) (f1 V c t) (f2 V c t) (f3 V c t) (f4 V c t) (f5 V c t) (f6 V c t) (f7 V c t) r d).trans ?_
  unfold prRow hRow
  rw [Fwd.in0, Fwd.in1, Fwd.in2, Fwd.in3, Fwd.in6]
  rfl

end Cert.FfnIdeal.Fwd
end
-- ==== Proof.FfnSpec.lean ====
/-
  What both programs of the second half of a layer compute of their nine arguments, and that the reference's order of the
  backward's factors and terms gives the same on real arguments.
-/
module

public import proofs.«01_k».proof.Proof.FfnMath

@[expose] public section

noncomputable section

namespace Cert.FfnMath

open Idealize.ShloMosaic

/-- The padding as the host's reshapes and pad read. -/
theorem pad_host (f : Fin 2816 → EReal) (z : EReal) (hz : z = 0) (j : Fin 3072) :
    (if h : j.val / 384 < 8 ∧ j.val % 384 < 352 then f ⟨j.val / 384 * 352 + j.val % 384, by omega⟩ else z) = pad f j := by
  unfold FfnMath.pad
  by_cases h : j.val % 384 < 352
  · rw [dif_pos h, dif_pos ⟨by omega, h⟩]
    exact congrArg f (Fin.ext (by show j.val / 384 * 352 + j.val % 384 = 352 * (j.val / 384) + j.val % 384; omega))
  · rw [dif_neg h, dif_neg fun h' => h h'.2, hz]

theorem sitofp_zero : (FloatOps.sitofp FTy.f32 (0#32) : Ideal .f32) = (0 : EReal) := by
  show ((((0#32 : BitVec 32).toInt : ℤ) : ℝ) : EReal) = 0
  simp

/-- The nine arguments: the rows and their gradients, four vectors, three weights. -/
structure Args where
  x : Fin 4096 → Fin 1024 → EReal
  dxo : Fin 4096 → Fin 1024 → EReal
  g : Fin 1024 → EReal
  sh : Fin 1024 → EReal
  sc : Fin 1024 → EReal
  gt : Fin 1024 → EReal
  wg : Fin 1024 → Fin 2816 → EReal
  wu : Fin 1024 → Fin 2816 → EReal
  wd : Fin 2816 → Fin 1024 → EReal

namespace Args
variable (A : Args) (R : Fin 4096)

def h : Fin 1024 → EReal := hid (A.x R) A.g A.sh A.sc
def gate : Fin 2816 → EReal := proj (A.h R) A.wg
def up : Fin 2816 → EReal := proj (A.h R) A.wu
def y : Fin 1024 → EReal := ys (A.gate R) (A.up R) A.wd
def da : Fin 2816 → EReal := FfnMath.dact (dy A.gt (A.dxo R)) A.wd
def dg : Fin 2816 → EReal := dgs (A.dxo R) A.gt (A.gate R) (A.up R) A.wd
def du : Fin 2816 → EReal := dus (A.dxo R) A.gt (A.gate R) A.wd
def dh : Fin 1024 → EReal := dhs (A.dxo R) A.gt (A.gate R) (A.up R) A.wg A.wu A.wd

/-- The eleven results. -/
def out : Fin 1024 → EReal := res (A.x R) A.gt (A.y R)
def dx : Fin 1024 → EReal := FfnMath.dx (A.dxo R) (A.x R) (dns A.sc A.g (A.dh R))
def dgP : Fin 3072 → EReal := pad (A.dg R)
def duP : Fin 3072 → EReal := pad (A.du R)
def dyo : Fin 1024 → EReal := dy A.gt (A.dxo R)
def actP : Fin 3072 → EReal := pad (acts (A.gate R) (A.up R))
def dgn (d : Fin 1024) : EReal := ∑ R, dgnT (A.x R) A.sc (A.dh R) d
def dsh (d : Fin 1024) : EReal := ∑ R, A.dh R d
def dsc (d : Fin 1024) : EReal := ∑ R, dscT (A.x R) A.g (A.dh R) d
def dgt (d : Fin 1024) : EReal := ∑ R, dgtT (A.dxo R) (A.y R) d

/-- The reference's gradients of the gate, of its other factor and of the modulated row. -/
def dg' (j : Fin 2816) : EReal := dgate' (A.da R j) (A.up R j) (A.gate R j)
def du' (j : Fin 2816) : EReal := A.gate R j * Ideal.logistic (A.gate R j) * A.da R j
def dh' (d : Fin 1024) : EReal := (∑ j, A.du' R j * A.wu d j) + ∑ j, A.dg' R j * A.wg d j

/-- Real arguments. -/
structure Real : Prop where
  x : ∀ R d, IsReal (A.x R d)
  dxo : ∀ R d, IsReal (A.dxo R d)
  g : ∀ d, IsReal (A.g d)
  sh : ∀ d, IsReal (A.sh d)
  sc : ∀ d, IsReal (A.sc d)
  gt : ∀ d, IsReal (A.gt d)
  wg : ∀ d j, IsReal (A.wg d j)
  wu : ∀ d j, IsReal (A.wu d j)
  wd : ∀ j d, IsReal (A.wd j d)

theorem du_eq : A.du' R = A.du R := funext fun _ => mul_comm _ _

variable {A} (hA : A.Real)
include hA

theorem h_real (d : Fin 1024) : IsReal (A.h R d) := hid_real (hA.x R) hA.g hA.sh hA.sc d
theorem gate_real (j : Fin 2816) : IsReal (A.gate R j) := .sum fun d => (h_real R hA d).mul (hA.wg d j)
theorem up_real (j : Fin 2816) : IsReal (A.up R j) := .sum fun d => (h_real R hA d).mul (hA.wu d j)
theorem da_real (j : Fin 2816) : IsReal (A.da R j) := .sum fun d => ((hA.gt d).mul (hA.dxo R d)).mul (hA.wd j d)

theorem dg_eq : A.dg' R = A.dg R := funext fun j => (dgate_eq (da_real R hA j) (up_real R hA j) (gate_real R hA j)).symm
theorem dh_eq : A.dh' R = A.dh R := by
  funext d
  unfold dh'
  rw [dg_eq R hA, du_eq]
  exact add_comm _ _

end Args
end Cert.FfnMath
end
-- ==== Proof.FfnHost.lean ====
/-
  What the two calls find in the arrays the host prepares: the three weights, padded.  With them, the two calls' results are
  the specification's.
-/
module

public import proofs.«01_k».proof.Proof.FfnForward
public import proofs.«01_k».proof.Proof.FfnSpec
public import Idealize.ShloMosaic.Lib.Claim
public import Idealize.ShloMosaic.Lib.StableHlo.RunRead

@[expose] public section

set_option maxRecDepth 16384

noncomputable section

namespace Cert.FfnIdeal.Host

open Idealize.ShloMosaic Idealize.ShloMosaic.TcCoe Idealize.SL.Sem
open Cert.FfnIdeal Cert.FfnIdeal.Gen Cert.FfnMath Cert.FfnIdeal.Back
variable (m : (ℓ : Loc nD τ sig) → Buf (Elt Ideal) ℓ) (ρ : Dev nD → PrngReg) (c : Dev nD)

/-- The arguments in memory. -/
def args : Args where
  x R d := m ((c.tc : Thread nD τ).loc main_arg0) (ix2 R d)
  dxo R d := m ((c.tc : Thread nD τ).loc main_arg1) (ix2 R d)
  g d := m ((c.tc : Thread nD τ).loc main_arg2) (ix2 0 d)
  sh d := m ((c.tc : Thread nD τ).loc main_arg3) (ix2 0 d)
  sc d := m ((c.tc : Thread nD τ).loc main_arg4) (ix2 0 d)
  gt d := m ((c.tc : Thread nD τ).loc main_arg5) (ix2 0 d)
  wg d j := m ((c.tc : Thread nD τ).loc main_arg6) (ix2 d j)
  wu d j := m ((c.tc : Thread nD τ).loc main_arg7) (ix2 d j)
  wd j d := m ((c.tc : Thread nD τ).loc main_arg8) (ix2 j d)

theorem wg_eq : mat (WG (V7 m ρ) c) = padC (args m c).wg := by
  funext d j
  refine Eq.trans ?_ (pad_host ((args m c).wg d) _ sitofp_zero j)
  unfold mat WG
  unfold_abbrev_sides
  after_reads_simp
  simp only [StableHlo.TRef.toBuf, StableHlo.TRef.ofBuf, cast_eq]
  pointwise []
  rfl
theorem wu_eq : mat (WU (V7 m ρ) c) = padC (args m c).wu := by
  funext d j
  refine Eq.trans ?_ (pad_host ((args m c).wu d) _ sitofp_zero j)
  unfold mat WU
  unfold_abbrev_sides
  after_reads_simp
  simp only [StableHlo.TRef.toBuf, StableHlo.TRef.ofBuf, cast_eq]
  pointwise []
  rfl
theorem wd_eq : mat (WD (V7 m ρ) c) = padR (args m c).wd := by
  funext j d
  refine Eq.trans ?_ (pad_host (fun n => (args m c).wd n d) _ sitofp_zero j)
  unfold mat WD
  unfold_abbrev_sides
  after_reads_simp
  simp only [StableHlo.TRef.toBuf, StableHlo.TRef.ofBuf, cast_eq]
  pointwise []
  rfl

/-- The arguments as the first call finds them. -/
theorem in7 (a) (h : a ∈ argRefs) : V7 m ρ c a = m ((c.tc : Thread nD τ).loc a) := W7_args m ρ c a h

/-! ## The first call -/

theorem h7 (R : Fin 4096) : Fwd.hAt (V7 m ρ) c R = (args m c).h R := by
  unfold Fwd.hAt X G SH SC
  rw [in7 m ρ c main_arg0 (by decide), in7 m ρ c main_arg2 (by decide), in7 m ρ c main_arg3 (by decide), in7 m ρ c main_arg4 (by decide)]
  rfl

theorem ga_eq (R : Fin 4096) : row (Fwd.resGa (V7 m ρ) c) R = FfnMath.pad ((args m c).gate R) := by
  show proj (Fwd.hAt (V7 m ρ) c R) (mat (WG (V7 m ρ) c)) = _
  rw [h7, wg_eq]
  exact proj_pad _ _

theorem up_eq (R : Fin 4096) : row (Fwd.resUp (V7 m ρ) c) R = FfnMath.pad ((args m c).up R) := by
  show proj (Fwd.hAt (V7 m ρ) c R) (mat (WU (V7 m ρ) c)) = _
  rw [h7, wu_eq]
  exact proj_pad _ _

theorem out_eq (R : Fin 4096) (d : Fin 1024) : Fwd.resOut (V7 m ρ) c (ix2 R d) = (args m c).out R d := by
  show res (row (X (V7 m ρ) c) R) (vec (GT (V7 m ρ) c)) (ys (row (Fwd.resGa (V7 m ρ) c) R) (row (Fwd.resUp (V7 m ρ) c) R) (mat (WD (V7 m ρ) c))) d = _
  rw [ga_eq, up_eq, wd_eq, ys_pad]
  unfold X GT
  rw [in7 m ρ c main_arg0 (by decide), in7 m ρ c main_arg5 (by decide)]
  rfl

/-! ## The second call -/

/-- What the first call doesn't write, the second finds as the first did. -/
theorem in8 (r : Ref sig .tc) (h : ∀ w : Fin cfg0.W, Pipeline.arrRef spec0 w = r → (cfg0.win w).isOut = false) : V8 m ρ c r = V7 m ρ c r := W8_of m ρ c r h

/-- An argument as the second call finds it. -/
theorem arg8 (a) (h : a ∈ argRefs) (h' : ∀ w : Fin cfg0.W, Pipeline.arrRef spec0 w = a → (cfg0.win w).isOut = false) : V8 m ρ c a = m ((c.tc : Thread nD τ).loc a) :=
  (in8 m ρ c a h').trans (in7 m ρ c a h)

theorem x8 (R : Fin 4096) : row (X (V8 m ρ) c) R = (args m c).x R := by unfold X; rw [arg8 m ρ c main_arg0 (by decide) (by decide)]; rfl
theorem dxo8 (R : Fin 4096) : row (DXO (V8 m ρ) c) R = (args m c).dxo R := by unfold DXO; rw [arg8 m ρ c main_arg1 (by decide) (by decide)]; rfl
theorem g8 : vec (G (V8 m ρ) c) = (args m c).g := by unfold G; rw [arg8 m ρ c main_arg2 (by decide) (by decide)]; rfl
theorem sh8 : vec (SH (V8 m ρ) c) = (args m c).sh := by unfold SH; rw [arg8 m ρ c main_arg3 (by decide) (by decide)]; rfl
theorem sc8 : vec (SC (V8 m ρ) c) = (args m c).sc := by unfold SC; rw [arg8 m ρ c main_arg4 (by decide) (by decide)]; rfl
theorem gt8 : vec (GT (V8 m ρ) c) = (args m c).gt := by unfold GT; rw [arg8 m ρ c main_arg5 (by decide) (by decide)]; rfl
theorem wg8 : mat (WG (V8 m ρ) c) = padC (args m c).wg := by rw [← wg_eq m ρ c]; unfold WG; rw [in8 m ρ c main_v3 (by decide)]
theorem wu8 : mat (WU (V8 m ρ) c) = padC (args m c).wu := by rw [← wu_eq m ρ c]; unfold WU; rw [in8 m ρ c main_v7 (by decide)]
theorem wd8 : mat (WD (V8 m ρ) c) = padR (args m c).wd := by rw [← wd_eq m ρ c]; unfold WD; rw [in8 m ρ c main_v11 (by decide)]
/-- The first call's two products. -/
theorem ga8 (R : Fin 4096) : row (GA (V8 m ρ) c) R = FfnMath.pad ((args m c).gate R) := by
  have e : GA (V8 m ρ) c = Fwd.resGa (V7 m ρ) c := (W8_arr m ρ c 9).trans (Fwd.arr9 (V7 m ρ) c)
  rw [e, ga_eq]
theorem up8 (R : Fin 4096) : row (UP (V8 m ρ) c) R = FfnMath.pad ((args m c).up R) := by
  have e : UP (V8 m ρ) c = Fwd.resUp (V7 m ρ) c := (W8_arr m ρ c 10).trans (Fwd.arr10 (V7 m ρ) c)
  rw [e, up_eq]

theorem dh8 (R : Fin 4096) : dhAt (V8 m ρ) c R = (args m c).dh R := by
  show dhs (row (DXO (V8 m ρ) c) R) (vec (GT (V8 m ρ) c)) (row (GA (V8 m ρ) c) R) (row (UP (V8 m ρ) c) R) (mat (WG (V8 m ρ) c)) (mat (WU (V8 m ρ) c)) (mat (WD (V8 m ρ) c)) = _
  rw [dxo8, gt8, ga8, up8, wg8, wu8, wd8, dhs_pad]
  rfl

theorem dx_eq (R : Fin 4096) (d : Fin 1024) : resDx (V8 m ρ) c (ix2 R d) = (args m c).dx R d := by
  show dx (row (DXO (V8 m ρ) c) R) (row (X (V8 m ρ) c) R) (dns (vec (SC (V8 m ρ) c)) (vec (G (V8 m ρ) c)) (dhAt (V8 m ρ) c R)) d = _
  rw [dxo8, x8, sc8, g8, dh8]
  rfl
theorem dg_eq (R : Fin 4096) (j : Fin 3072) : resDg (V8 m ρ) c (ix2 R j) = (args m c).dgP R j := by
  show dgs (row (DXO (V8 m ρ) c) R) (vec (GT (V8 m ρ) c)) (row (GA (V8 m ρ) c) R) (row (UP (V8 m ρ) c) R) (mat (WD (V8 m ρ) c)) j = _
  rw [dxo8, gt8, ga8, up8, wd8, dgs_pad]
  rfl
theorem du_eq (R : Fin 4096) (j : Fin 3072) : resDu (V8 m ρ) c (ix2 R j) = (args m c).duP R j := by
  show dus (row (DXO (V8 m ρ) c) R) (vec (GT (V8 m ρ) c)) (row (GA (V8 m ρ) c) R) (mat (WD (V8 m ρ) c)) j = _
  rw [dxo8, gt8, ga8, wd8, dus_pad]
  rfl
theorem dy_eq (R : Fin 4096) (d : Fin 1024) : resDy (V8 m ρ) c (ix2 R d) = (args m c).dyo R d := by
  show dy (vec (GT (V8 m ρ) c)) (row (DXO (V8 m ρ) c) R) d = _
  rw [dxo8, gt8]
  rfl
theorem h_eq (R : Fin 4096) (d : Fin 1024) : resH (V8 m ρ) c (ix2 R d) = (args m c).h R d := by
  show hid (row (X (V8 m ρ) c) R) (vec (G (V8 m ρ) c)) (vec (SH (V8 m ρ) c)) (vec (SC (V8 m ρ) c)) d = _
  rw [x8, g8, sh8, sc8]
  rfl
theorem a_eq (R : Fin 4096) (j : Fin 3072) : resA (V8 m ρ) c (ix2 R j) = (args m c).actP R j := by
  show acts (row (GA (V8 m ρ) c) R) (row (UP (V8 m ρ) c) R) j = _
  rw [ga8, up8, acts_pad]
  rfl
theorem dgn_eq (d : Fin 1024) : resDgn (V8 m ρ) c (ix2 0 d) = (args m c).dgn d :=
  Finset.sum_congr rfl fun R _ => by
    show dgnT (row (X (V8 m ρ) c) R) (vec (SC (V8 m ρ) c)) (dhAt (V8 m ρ) c R) d = _
    rw [x8, sc8, dh8]
theorem dsh_eq (d : Fin 1024) : resDsh (V8 m ρ) c (ix2 0 d) = (args m c).dsh d :=
  Finset.sum_congr rfl fun R _ => congrFun (dh8 m ρ c R) d
theorem dsc_eq (d : Fin 1024) : resDsc (V8 m ρ) c (ix2 0 d) = (args m c).dsc d :=
  Finset.sum_congr rfl fun R _ => by
    show dscT (row (X (V8 m ρ) c) R) (vec (G (V8 m ρ) c)) (dhAt (V8 m ρ) c R) d = _
    rw [x8, g8, dh8]
theorem dgt_eq (d : Fin 1024) : resDgt (V8 m ρ) c (ix2 0 d) = (args m c).dgt d :=
  Finset.sum_congr rfl fun R _ => by
    show dgtT (row (DXO (V8 m ρ) c) R) (ys (row (GA (V8 m ρ) c) R) (row (UP (V8 m ρ) c) R) (mat (WD (V8 m ρ) c))) d = _
    rw [dxo8, ga8, up8, wd8, ys_pad]
    rfl

end Cert.FfnIdeal.Host
end
-- ==== Proof.FfnReference.lean ====
/-
  The reference's results at an element: those of the specification, of real arguments.
-/
module

public import proofs.«01_k».proof.Proof.Gen.FfnReferenceIdeal.Run
public import proofs.«01_k».proof.Proof.FfnSpec
public import Idealize.ShloMosaic.Lib.Pipeline.Value
public import Idealize.ShloMosaic.Lib.Pointwise
public import Idealize.ShloMosaic.Lib.Tactic

@[expose] public section

set_option maxRecDepth 16384

noncomputable section

namespace Cert.FfnReferenceIdeal.Spec

open Idealize.ShloMosaic Idealize.ShloMosaic.TcCoe Idealize.SL.Sem
open Cert.FfnReferenceIdeal Cert.FfnReferenceIdeal.Gen Cert.FfnReferenceIdeal.Value Cert.FfnMath
variable (m : (ℓ : Loc nD τ sig) → Buf (Elt Ideal) ℓ) (c : Dev nD)

/-- The arguments in memory. -/
def args : Args where
  x R d := m ((c.tc : Thread nD τ).loc main_arg0) (ix2 R d)
  dxo R d := m ((c.tc : Thread nD τ).loc main_arg1) (ix2 R d)
  g d := m ((c.tc : Thread nD τ).loc main_arg2) (ix2 0 d)
  sh d := m ((c.tc : Thread nD τ).loc main_arg3) (ix2 0 d)
  sc d := m ((c.tc : Thread nD τ).loc main_arg4) (ix2 0 d)
  gt d := m ((c.tc : Thread nD τ).loc main_arg5) (ix2 0 d)
  wg d j := m ((c.tc : Thread nD τ).loc main_arg6) (ix2 d j)
  wu d j := m ((c.tc : Thread nD τ).loc main_arg7) (ix2 d j)
  wd j d := m ((c.tc : Thread nD τ).loc main_arg8) (ix2 j d)

theorem out_at (R : Fin 4096) (d : Fin 1024) : res_main_v33 m c (ix2 R d) = (args m c).out R d := by
  unfold res_main_v33
  pointwise []
  rfl
theorem dg_at (R : Fin 4096) (j : Fin 3072) : res_main_v77 m c (ix2 R j) = FfnMath.pad ((args m c).dg' R) j := by
  refine Eq.trans ?_ (pad_host ((args m c).dg' R) _ sitofp_zero j)
  unfold res_main_v77
  pointwise []
  rfl
theorem dsh_at (d : Fin 1024) : res_main_v48 m c (ix2 0 d) = ∑ R, (args m c).dh' R d := by
  unfold res_main_v48
  pointwise []
  rfl
theorem dsc_at (d : Fin 1024) : res_main_v51 m c (ix2 0 d) = ∑ R, dscT ((args m c).x R) (args m c).g ((args m c).dh' R) d := by
  unfold res_main_v51
  pointwise []
  rfl
theorem dgn_at (d : Fin 1024) : res_main_v56 m c (ix2 0 d) = ∑ R, dgnT ((args m c).x R) (args m c).sc ((args m c).dh' R) d := by
  unfold res_main_v56
  pointwise []
  rfl
theorem dgt_at (d : Fin 1024) : res_main_v39 m c (ix2 0 d) = (args m c).dgt d := by
  unfold res_main_v39
  pointwise []
  rfl
theorem dx_at (R : Fin 4096) (d : Fin 1024) : res_main_v73 m c (ix2 R d) = FfnMath.dx ((args m c).dxo R) ((args m c).x R) (dns (args m c).sc (args m c).g ((args m c).dh' R)) d := by
  unfold FfnMath.dx
  rw [← add_assoc, ← add_assoc]
  rw [← Fin.sum_univ_one fun _ => mix ((args m c).x R) (dns (args m c).sc (args m c).g ((args m c).dh' R))]
  unfold res_main_v73
  pointwise []
  rfl

end Cert.FfnReferenceIdeal.Spec
end
-- ==== Proof.Consts.lean ====
/-
  The constants of the two programs over the extended reals: the kernel's three named ones, the scale of the scores, and
  the two words that stand for the infinities.
-/
module

public import proofs.«01_k».proof.KernelIdeal
public import Idealize.ShloMosaic.PureOps.IdealRules

@[expose] public section

noncomputable section

namespace Cert.Consts

open Idealize.ShloMosaic

/-- The scale of the scores: the rational that its float word is. -/
def sc : ℝ := 3424635 / 33554432

/-- The scale of the scores is positive. -/
theorem sc_pos : 0 < sc := by unfold sc; norm_num

/-- The logarithm of two is positive. -/
theorem log2_pos : 0 < Real.log 2 := Real.log_pos (by norm_num)

/-- The word of the scale denotes it. -/
theorem ofBits_scale : Ideal.ofBits .f32 0x3DD105EC#32 = ((sc : ℝ) : EReal) := by
  unfold sc
  simp [Ideal.ofBits, Ideal.ieee, -EReal.coe_mul]; norm_num

/-- The word of plus infinity. -/
theorem ofBits_top : Ideal.ofBits .f32 0x7F800000#32 = ⊤ := by
  simp [Ideal.ofBits, Ideal.ieee]

/-- The word of minus infinity. -/
theorem ofBits_bot : Ideal.ofBits .f32 0xFF800000#32 = ⊥ := by
  simp [Ideal.ofBits, Ideal.ieee]

/-- The kernel's factor of the log-sums. -/
theorem log2e : Named.named (F := Ideal) Cert.KernelIdeal.κ "log2e" (φ := .f32) 0x3FB8AA3B#32 = (((Real.log 2)⁻¹ : ℝ) : EReal) :=
  IdealRules.named_const.ideal_named_scalar _ _ _ _ rfl

/-- The kernel's factor of the scores. -/
theorem exp2_scale : Named.named (F := Ideal) Cert.KernelIdeal.κ "exp2_scale" (φ := .f32) 0x3E16C740#32
    = ((sc * (Real.log 2)⁻¹ : ℝ) : EReal) :=
  IdealRules.named_const.ideal_named_scalar _ _ _ _ rfl

/-- What the kernel puts where a query may not see a key. -/
theorem mask : Named.named (F := Ideal) Cert.KernelIdeal.κ "mask" (φ := .f32) 0xF149F2CA#32 = ⊥ :=
  IdealRules.named_const.ideal_named_scalar _ _ _ _ rfl

end Cert.Consts

end
-- ==== Proof.Finite.lean ====
/-
  The preconditions read back: every element of every argument is a real number.
-/
module

public import proofs.«01_k».proof.Pre_finite
public import proofs.«01_k».proof.Pre_ffn_finite
public import proofs.«01_k».proof.Pre_fwd_finite
public import proofs.«01_k».proof.Proof.Consts
public import Idealize.ShloMosaic.Lib.ReduceAll
public import Idealize.ShloMosaic.Lib.Pointwise

@[expose] public section

noncomputable section

namespace Cert.Pre_finite

open Idealize.ShloMosaic

/-- The shape relations the precondition's operations take. -/
theorem facts : Facts where
  bcast_S_S4096x16x96 := by decide
  reducesTo_S4096x16x96_S_d0_1_2 := by decide
  h_S_ := by decide
  bcast_S_S4096x16x64 := by decide
  reducesTo_S4096x16x64_S_d0_1_2 := by decide
  bcast_S_S4096x1024 := by decide
  reducesTo_S4096x1024_S_d0_1 := by decide

instance : Subsingleton S_.Idx := ⟨fun _ _ => funext fun d => d.elim0⟩

/-- A number whose absolute value is below ∞ is real. -/
theorem real_of_lt (x : EReal) (h : Ideal.cmp .olt (max x (-x)) (Ideal.ofBits .f32 0x7F800000#32) = 1#1) : ∃ y : ℝ, x = (y : EReal) := by
  rw [Consts.ofBits_top] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  have hb : x ≠ ⊥ := fun e => by
    have := lt_of_le_of_lt (le_max_right x (-x)) h'
    rw [e, EReal.neg_bot] at this
    exact lt_irrefl _ this
  exact ⟨x.toReal, (EReal.coe_toReal (lt_of_le_of_lt (le_max_left _ _) h').ne hb).symm⟩

variable [Facts]
open Facts

/-- One argument's test, at an element. -/
theorem elem {s : Shape} (x : FVec Ideal s .f32) (b : S_.BroadcastsInDim s (![] : Fin 0 → Fin s.rank)) {ax : List (Fin s.rank)}
    (h : s.ReducesTo ax S_) (c : IVec S_ 1)
    (e : Host.reduce IntOp.andi (cmpf .olt (Host.absf x) (broadcastInDim s ![] b (constant S_ .f32 0x7F800000#32))) c h h_S_ (fun d => d.elim0) = 1#1)
    (i : s.Idx) : ∃ y : ℝ, x i = (y : EReal) :=
  real_of_lt _ (Host.reduce_andi_all _ _ h h_S_ _ e i)

theorem reals {a0 a1 : FVec Ideal S4096x16x96 .f32} {a2 : FVec Ideal S4096x16x64 .f32} {a3 : FVec Ideal S4096x1024 .f32}
    (h : fn (F := Ideal) a0 a1 a2 a3 = fun _ => 1#1) :
    (∀ i, ∃ y : ℝ, a0 i = (y : EReal)) ∧ (∀ i, ∃ y : ℝ, a1 i = (y : EReal)) ∧ (∀ i, ∃ y : ℝ, a2 i = (y : EReal)) ∧ (∀ i, ∃ y : ℝ, a3 i = (y : EReal)) := by
  have h' := congrFun h (fun d => d.elim0)
  dsimp only [fn, fn_part1] at h'
  obtain ⟨h', e3⟩ := IntOp.andi_eq_one.1 h'
  obtain ⟨h', e2⟩ := IntOp.andi_eq_one.1 h'
  obtain ⟨e0, e1⟩ := IntOp.andi_eq_one.1 h'
  exact ⟨elem _ _ _ _ e0, elem _ _ _ _ e1, elem _ _ _ _ e2, elem _ _ _ _ e3⟩

end Cert.Pre_finite

namespace Cert.Pre_ffn_finite

open Idealize.ShloMosaic

/-- The shape relations the second precondition's operations take. -/
theorem facts : Facts where
  bcast_S_S4096x1024 := by decide
  reducesTo_S4096x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

instance : Subsingleton S_.Idx := ⟨fun _ _ => funext fun d => d.elim0⟩

variable [Facts]
open Facts

/-- One argument's test, at an element. -/
theorem elem {s : Shape} (x : FVec Ideal s .f32) (b : S_.BroadcastsInDim s (![] : Fin 0 → Fin s.rank)) {ax : List (Fin s.rank)}
    (h : s.ReducesTo ax S_) (c : IVec S_ 1)
    (e : Host.reduce IntOp.andi (cmpf .olt (Host.absf x) (broadcastInDim s ![] b (constant S_ .f32 0x7F800000#32))) c h h_S_ (fun d => d.elim0) = 1#1)
    (i : s.Idx) : ∃ y : ℝ, x i = (y : EReal) :=
  Cert.Pre_finite.real_of_lt _ (Host.reduce_andi_all _ _ h h_S_ _ e i)

theorem reals {a0 a1 : FVec Ideal S4096x1024 .f32} {a2 a3 a4 a5 : FVec Ideal S1x1024 .f32} {a6 a7 : FVec Ideal S1024x2816 .f32} {a8 : FVec Ideal S2816x1024 .f32}
    (h : fn (F := Ideal) a0 a1 a2 a3 a4 a5 a6 a7 a8 = fun _ => 1#1) :
    (∀ i, ∃ y : ℝ, a0 i = (y : EReal)) ∧ (∀ i, ∃ y : ℝ, a1 i = (y : EReal)) ∧ (∀ i, ∃ y : ℝ, a2 i = (y : EReal)) ∧ (∀ i, ∃ y : ℝ, a3 i = (y : EReal))
      ∧ (∀ i, ∃ y : ℝ, a4 i = (y : EReal)) ∧ (∀ i, ∃ y : ℝ, a5 i = (y : EReal)) ∧ (∀ i, ∃ y : ℝ, a6 i = (y : EReal)) ∧ (∀ i, ∃ y : ℝ, a7 i = (y : EReal))
      ∧ (∀ i, ∃ y : ℝ, a8 i = (y : EReal)) := by
  have h' := congrFun h (fun d => d.elim0)
  dsimp only [fn, fn_part1, fn_part2] at h'
  obtain ⟨h', e8⟩ := IntOp.andi_eq_one.1 h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨elem _ _ _ _ e0, elem _ _ _ _ e1, elem _ _ _ _ e2, elem _ _ _ _ e3, elem _ _ _ _ e4, elem _ _ _ _ e5, elem _ _ _ _ e6, elem _ _ _ _ e7, elem _ _ _ _ e8⟩

end Cert.Pre_ffn_finite

namespace Cert.Pre_fwd_finite

open Idealize.ShloMosaic

/-- The shape relations the third precondition's operations take. -/
theorem facts : Facts where
  bcast_S_S4096x16x96 := by decide
  reducesTo_S4096x16x96_S_d0_1_2 := by decide
  h_S_ := by decide
  bcast_S_S4096x16x64 := by decide
  reducesTo_S4096x16x64_S_d0_1_2 := by decide

instance : Subsingleton S_.Idx := ⟨fun _ _ => funext fun d => d.elim0⟩

variable [Facts]
open Facts

/-- One argument's test, at an element. -/
theorem elem {s : Shape} (x : FVec Ideal s .f32) (b : S_.BroadcastsInDim s (![] : Fin 0 → Fin s.rank)) {ax : List (Fin s.rank)}
    (h : s.ReducesTo ax S_) (c : IVec S_ 1)
    (e : Host.reduce IntOp.andi (cmpf .olt (Host.absf x) (broadcastInDim s ![] b (constant S_ .f32 0x7F800000#32))) c h h_S_ (fun d => d.elim0) = 1#1)
    (i : s.Idx) : ∃ y : ℝ, x i = (y : EReal) :=
  Cert.Pre_finite.real_of_lt _ (Host.reduce_andi_all _ _ h h_S_ _ e i)

theorem reals {a0 a1 : FVec Ideal S4096x16x96 .f32} {a2 : FVec Ideal S4096x16x64 .f32} (h : fn (F := Ideal) a0 a1 a2 = fun _ => 1#1) :
    (∀ i, ∃ y : ℝ, a0 i = (y : EReal)) ∧ (∀ i, ∃ y : ℝ, a1 i = (y : EReal)) ∧ (∀ i, ∃ y : ℝ, a2 i = (y : EReal)) := by
  have h' := congrFun h (fun d => d.elim0)
  dsimp only [fn] at h'
  obtain ⟨h', e2⟩ := IntOp.andi_eq_one.1 h'
  obtain ⟨e0, e1⟩ := IntOp.andi_eq_one.1 h'
  exact ⟨elem _ _ _ _ e0, elem _ _ _ _ e1, elem _ _ _ _ e2⟩

end Cert.Pre_fwd_finite

end
-- ==== Proof.Ffn.lean ====
/-
  The second half of a layer, forward and backward: from real arguments the two calls and the reference leave the same
  eleven arrays.
-/
module

public import proofs.«01_k».proof.Defs
public import proofs.«01_k».proof.Proof.FfnRun
public import proofs.«01_k».proof.Proof.FfnHost
public import proofs.«01_k».proof.Proof.FfnReference
public import proofs.«01_k».proof.Proof.Finite

@[expose] public section

set_option maxRecDepth 16384

noncomputable section

namespace Cert.FfnIdeal.Ends

open Idealize.ShloMosaic Idealize.ShloMosaic.TcCoe Idealize.SL.Sem
open Cert.FfnIdeal Cert.FfnIdeal.Gen Cert.FfnMath Cert.FfnIdeal.Back

/-- An array of rows, as the programs hold it; and a vector of one row. -/
def arr {n w : ℕ} (f : Fin n → Fin w → EReal) : (⟨2, ![n, w]⟩ : Shape).Idx → EReal := fun i => f (i 0) (i 1)
def arr1 {w : ℕ} (f : Fin w → EReal) : (⟨2, ![1, w]⟩ : Shape).Idx → EReal := fun i => f (i 1)

theorem eq_arr {n w : ℕ} {a : (⟨2, ![n, w]⟩ : Shape).Idx → EReal} {f : Fin n → Fin w → EReal} (h : ∀ R d, a (ix2 R d) = f R d) : a = arr f :=
  funext fun i => (congrArg a (ix2_eta (n0 := n) (n1 := w) i).symm).trans (h _ _)
theorem eq_arr1 {w : ℕ} {a : (⟨2, ![1, w]⟩ : Shape).Idx → EReal} {f : Fin w → EReal} (h : ∀ d, a (ix2 0 d) = f d) : a = arr1 f :=
  funext fun i => (congrArg a ((ix2_eta (n0 := 1) (n1 := w) i).symm.trans (congrArg (fun z => ix2 z (i 1)) (Subsingleton.elim (α := Fin 1) (i 0) 0)))).trans (h _)

variable (m : (ℓ : Loc nD τ sig) → Buf (Elt Ideal) ℓ) (ρ : Dev nD → PrngReg) (c : Dev nD)

/-- The first call's result, then the second call's ten. -/
theorem end0 : W9 m ρ c (Proc.devRef .tc main_v12_0) = arr (Host.args m c).out := (out_end m ρ c).trans ((Fwd.arr8 _ c).trans (eq_arr (Host.out_eq m ρ c)))
theorem end1 : W9 m ρ c (Proc.devRef .tc main_v13_0) = arr (Host.args m c).dx := (W9_arr m ρ c 11).trans ((arr11 _ c).trans (eq_arr (Host.dx_eq m ρ c)))
theorem end2 : W9 m ρ c (Proc.devRef .tc main_v13_1) = arr (Host.args m c).dgP := (W9_arr m ρ c 12).trans ((arr12 _ c).trans (eq_arr (Host.dg_eq m ρ c)))
theorem end3 : W9 m ρ c (Proc.devRef .tc main_v13_2) = arr (Host.args m c).duP := (W9_arr m ρ c 13).trans ((arr13 _ c).trans (eq_arr (Host.du_eq m ρ c)))
theorem end4 : W9 m ρ c (Proc.devRef .tc main_v13_3) = arr (Host.args m c).dyo := (W9_arr m ρ c 14).trans ((arr14 _ c).trans (eq_arr (Host.dy_eq m ρ c)))
theorem end5 : W9 m ρ c (Proc.devRef .tc main_v13_4) = arr (Host.args m c).h := (W9_arr m ρ c 15).trans ((arr15 _ c).trans (eq_arr (Host.h_eq m ρ c)))
theorem end6 : W9 m ρ c (Proc.devRef .tc main_v13_5) = arr (Host.args m c).actP := (W9_arr m ρ c 16).trans ((arr16 _ c).trans (eq_arr (Host.a_eq m ρ c)))
theorem end7 : W9 m ρ c (Proc.devRef .tc main_v13_6) = arr1 (Host.args m c).dgn := (W9_arr m ρ c 17).trans ((arr17 _ c).trans (eq_arr1 (Host.dgn_eq m ρ c)))
theorem end8 : W9 m ρ c (Proc.devRef .tc main_v13_7) = arr1 (Host.args m c).dsh := (W9_arr m ρ c 18).trans ((arr18 _ c).trans (eq_arr1 (Host.dsh_eq m ρ c)))
theorem end9 : W9 m ρ c (Proc.devRef .tc main_v13_8) = arr1 (Host.args m c).dsc := (W9_arr m ρ c 19).trans ((arr19 _ c).trans (eq_arr1 (Host.dsc_eq m ρ c)))
theorem end10 : W9 m ρ c (Proc.devRef .tc main_v13_9) = arr1 (Host.args m c).dgt := (W9_arr m ρ c 20).trans ((arr20 _ c).trans (eq_arr1 (Host.dgt_eq m ρ c)))

/-- The precondition: real arguments. -/
theorem real [Cert.Pre_ffn_finite.Facts] (hm : Cert.Pre_FfnIdeal_ffn_finite m) : (Host.args m c).Real := by
  obtain ⟨e0, e1, e2, e3, e4, e5, e6, e7, e8⟩ := Cert.Pre_ffn_finite.reals (hm c)
  exact ⟨fun _ _ => e0 _, fun _ _ => e1 _, fun _ => e2 _, fun _ => e3 _, fun _ => e4 _, fun _ => e5 _, fun _ _ => e6 _, fun _ _ => e7 _, fun _ _ => e8 _⟩

end Cert.FfnIdeal.Ends

namespace Cert.Proof

open Idealize.ShloMosaic Idealize.ShloMosaic.TcCoe Idealize.SL.Sem
open Cert.FfnMath Cert.FfnIdeal.Ends
open Cert.FfnReferenceIdeal Cert.FfnReferenceIdeal.Gen Cert.FfnReferenceIdeal.Value

/-- The calls and the reference leave the same arrays, of real arguments. -/
theorem ffn_algebraic [Cert.Pre_ffn_finite.Facts] : Cert.algebraic_FfnIdeal_FfnReferenceIdeal_pre_ffn_finite := fun m g m' g' hm e => by
  refine ⟨fun c => arr (Cert.FfnIdeal.Host.args m c).out, fun c => arr (Cert.FfnIdeal.Host.args m c).dx, fun c => arr (Cert.FfnIdeal.Host.args m c).dgP,
    fun c => arr (Cert.FfnIdeal.Host.args m c).duP, fun c => arr (Cert.FfnIdeal.Host.args m c).dyo, fun c => arr (Cert.FfnIdeal.Host.args m c).h,
    fun c => arr (Cert.FfnIdeal.Host.args m c).actP, fun c => arr1 (Cert.FfnIdeal.Host.args m c).dgn, fun c => arr1 (Cert.FfnIdeal.Host.args m c).dsh,
    fun c => arr1 (Cert.FfnIdeal.Host.args m c).dsc, fun c => arr1 (Cert.FfnIdeal.Host.args m c).dgt, ?_, ?_⟩
  · refine (θ_run _ _ _).mono (fun r h c => ?_) (θ_run_and (ends m g) (Cert.FfnIdeal.Gen.frame m g))
    obtain ⟨h, ⟨hf, -⟩⟩ := h
    have k (b : Ref Cert.FfnIdeal.sig .tc) (hb) := h c b (Cert.FfnIdeal.Gen.mem_uc b hb)
    exact ⟨(k _ (by decide)).trans (end0 m g c), (k _ (by decide)).trans (end1 m g c), (k _ (by decide)).trans (end2 m g c), (k _ (by decide)).trans (end3 m g c),
      (k _ (by decide)).trans (end4 m g c), (k _ (by decide)).trans (end5 m g c), (k _ (by decide)).trans (end6 m g c), (k _ (by decide)).trans (end7 m g c),
      (k _ (by decide)).trans (end8 m g c), (k _ (by decide)).trans (end9 m g c), (k _ (by decide)).trans (end10 m g c), hf c⟩
  · refine (θ_run _ _ _).mono (fun r h c => ?_) (Cert.FfnReferenceIdeal.Value.run (F := Ideal) m' g')
    obtain ⟨a0, a1, a2, a3, a4, a5, a6, a7, a8⟩ := e c
    have ea : Spec.args m' c = Cert.FfnIdeal.Host.args m c := by
      unfold Spec.args Cert.FfnIdeal.Host.args
      rw [a0, a1, a2, a3, a4, a5, a6, a7, a8]
    have hA : (Spec.args m' c).Real := ea ▸ real m c hm
    have hdh (R) := Args.dh_eq R hA
    beta_reduce
    rw [← ea]
    obtain ⟨h0, h1, h2, h3, h4, h5, h6, h7, h8, h9, h10, hf⟩ := h c
    refine ⟨h0.trans (eq_arr (Spec.out_at m' c)), h1.trans (eq_arr fun R d => ?_), h2.trans (eq_arr fun R j => ?_), h3.trans (eq_arr fun R j => ?_),
      h4.trans (eq_arr fun R d => ?_), h5.trans (eq_arr fun R d => ?_), h6.trans (eq_arr fun R j => ?_), h7.trans (eq_arr1 fun d => ?_),
      h8.trans (eq_arr1 fun d => ?_), h9.trans (eq_arr1 fun d => ?_), h10.trans (eq_arr1 (Spec.dgt_at m' c)), hf⟩
    · refine (Spec.dx_at m' c R d).trans ?_
      rw [hdh]
      rfl
    · refine (Spec.dg_at m' c R j).trans ?_
      rw [Args.dg_eq R hA]
      rfl
    · rw [Args.duP, ← Args.du_eq]
      refine Eq.trans ?_ (pad_host ((Spec.args m' c).du' R) _ sitofp_zero j)
      pointwise []
      rfl
    · pointwise []
      rfl
    · pointwise []
      rfl
    · refine Eq.trans ?_ (pad_host (acts ((Spec.args m' c).gate R) ((Spec.args m' c).up R)) _ sitofp_zero j)
      pointwise []
      rfl
    · refine (Spec.dgn_at m' c d).trans ?_
      simp only [hdh]
      rfl
    · refine (Spec.dsh_at m' c d).trans ?_
      simp only [hdh]
      rfl
    · refine (Spec.dsc_at m' c d).trans ?_
      simp only [hdh]
      rfl

end Cert.Proof
end
-- ==== Proof.TnIn.lean ====
/-
  The blocked product of the inputs' transpose with the hidden gradients: what the kernel's result array holds at the end,
  as sums over all rows.
-/
module

public import proofs.«01_k».proof.Defs
public import proofs.«01_k».proof.Proof.Gen.TnInIdeal.Frame
public import proofs.«01_k».proof.Proof.Gen.TnInReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnInIdeal.Product

open Idealize.ShloMosaic Idealize.ShloMosaic.TcCoe Idealize.SL.Sem
open Cert.TnInIdeal Cert.TnInIdeal.Gen

theorem zeros2 : (![0, 0] : Fin 2 → ℕ) = fun _ => 0 := funext fun a => by fin_cases a <;> rfl

section
variable (c : Dev nD) (i : grid0.Coords) (a3 : Memref sig .tc .vmem S2048x1024 .bf16) (h3 : a3.IsWhole) (a4 : Memref sig .tc .vmem S2048x1536 .bf16) (h4 : a4.IsWhole)
  (a5 : Memref sig .tc .vmem S4x1024x384 .bf16) (h5 : a5.IsWhole) (a6 : Memref sig .tc .vmem S1024x1536 .f32) (h6 : a6.IsWhole)
  (x0 : Vec Ideal S2048x1024 .bf16) (x1 : Vec Ideal S2048x1536 .bf16) (xs : Vec Ideal S1024x1536 .f32)

/-- A load of 384 columns of a buffer stored whole. -/
theorem read_cols {sp : Space} (v : View sig .tc sp S1024x1536 .f32) (P : S1024x1536.Idx → EReal) (o : ℕ) (inb) (inb') (r : Fin 1024) (l : Fin 384) (h : o + l.val < 1536) :
    v.readCov (Val := Elt Ideal) [⟨Rect.unit (s := S1024x1536) ![0, 0] ![1024, 1536] inb, P⟩] (Rect.unit (s := S1024x1536) ![0, o] ![1024, 384] inb').toLoadRect (ix2 r l)
      = P (ix2 r ⟨o + l.val, h⟩) := by
  have e := congrFun (View.readCov_fill (Val := Elt Ideal) v inb P [] (Rect.unit (s := S1024x1536) ![0, o] ![1024, 384] inb') (fun a => congrFun zeros2 a)) (ix2 r l)
  refine e.trans (congrArg P (funext fun a => Fin.ext ?_))
  refine Fin.cases ?_ (fun a => ?_) a
  · show 0 + 1 * r.val = r.val; omega
  · refine Fin.cases ?_ (fun a => a.elim0) a
    show o + 1 * l.val = o + l.val; omega

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1536) zeros2, View.readCov_unit_zero (S := S1024x1536) _ zeros2]
  simp only [View.readAt_eq_ld, h3.read_unread, h4.read_unread, View.ld_unit_zero (S := S2048x1024) zeros2, View.ld_unit_zero (S := S2048x1536) zeros2]

/-- The second point adds its rows' product and writes the sum back, a column block under each leading index. -/
theorem out_B (hc0 : ¬cond0_0 i) (hc1 : cond0_1 i) (j : Fin 4) (r : Fin 1024) (l : Fin 384) :
    out0_B_2 c i a3 h3 a4 h4 a5 h5 a6 h6 hc0 hc1 x0 x1 xs (ix3 j r l)
      = k0_pay2 (F := Ideal) xs x0 x1 (ix2 r ⟨384 * j.val + l.val, by omega⟩) := by
  unfold out0_B_2
  rw [View.read_writes_eq_canon _ _ _ (cover0_B_2 c i a3 h3 a4 h4 a5 h5 a6 h6 hc0 hc1 x0 x1 xs)]
  unfold kernelRun0_B
  dsimp only
  sl_unfold_words
  simp only [View.readAt_eq_ld, h3.read_unread, h4.read_unread, h6.read_unread, View.ld_unit_zero (S := S2048x1024) zeros2, View.ld_unit_zero (S := S2048x1536) zeros2, View.ld_unit_zero (S := S1024x1536) zeros2]
  generalize k0_pay2 (F := Ideal) xs x0 x1 = P
  canon_tiles x h
  all_goals
    change j.val = _ at h0
    change r.val = _ at h1
    change l.val = _ at h2
    pointwise [k0_pay3, k0_pay4, k0_pay5, k0_pay6]
    refine (read_cols a6.view P _ _ _ _ _ (by omega)).trans (congrArg P (congrArg₂ ix2 (Fin.ext h1.symm) (Fin.ext ?_)))
    show _ + (x 2).val = 384 * j.val + l.val
    omega

/-- A point's sum at an index. -/
theorem step_at (P : Vec Ideal S1024x1536 .f32) (r : Fin 1024) (n : Fin 1536) :
    k0_pay2 (F := Ideal) P x0 x1 (ix2 r n) = P (ix2 r n) + ∑ k : Fin 2048, x0 (ix2 k r) * x1 (ix2 k n) := by
  pointwise [k0_pay2]
theorem zero_at (r : Fin 1024) (n : Fin 1536) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x1024.Idx → EReal := m ((c.tc : Thread nD τ).loc main_arg0)
abbrev arg1 : S4096x3072.Idx → EReal := m ((c.tc : Thread nD τ).loc main_arg1)

/-- Point `q` of column block `p`. -/
def pt (p q : Fin 2) : Fin cfg0.N := ⟨2 * p.val + q.val, lt_of_lt_of_eq (by omega) N_0.symm⟩
theorem pt_surj (t : Fin cfg0.N) : ∃ p q, t = pt p q := by
  have h : t.val < 4 := lt_of_lt_of_eq t.isLt N_0
  exact ⟨⟨t.val / 2, by omega⟩, ⟨t.val % 2, by omega⟩, Fin.ext (by show t.val = 2 * (t.val / 2) + t.val % 2; omega)⟩
theorem pt_mod (p q : Fin 2) : (pt p q).val % 2 = q.val := by show (2 * p.val + q.val) % 2 = q.val; omega
theorem pt_div (p q : Fin 2) : (pt p q).val / 2 = p.val := by show (2 * p.val + q.val) / 2 = p.val; omega

/-- Row `k` of half `q`, column `n` of block `p`. -/
def row (q : Fin 2) (k : Fin 2048) : Fin 4096 := ⟨2048 * q.val + k.val, by omega⟩
def col (p : Fin 2) (n : Fin 1536) : Fin 3072 := ⟨1536 * p.val + n.val, by omega⟩

theorem idx : ∀ t : Fin cfg0.N,
    win0_0.index t = ![t.val % 2, 0] ∧ win0_1.index t = ![t.val % 2, t.val / 2] ∧ win0_2.index t = ![t.val / 2, 0, 0] := by
  decide +kernel

theorem blk0 (p q : Fin 2) (k : Fin 2048) (r : Fin 1024) : iblk m c 0 (pt p q) (ix2 k r) = arg0 m c (ix2 (row q k) r) := by
  obtain ⟨h, -⟩ := idx (pt p q)
  rw [pt_mod] at h
  unfold arg0 row
  rw [← V_main_arg0 m c]
  blk_ext [iblk, h]

theorem blk1 (p q : Fin 2) (k : Fin 2048) (n : Fin 1536) : iblk m c 1 (pt p q) (ix2 k n) = arg1 m c (ix2 (row q k) (col p n)) := by
  obtain ⟨-, h, -⟩ := idx (pt p q)
  rw [pt_mod, pt_div] at h
  unfold arg1 row col
  rw [← V_main_arg1 m c]
  blk_ext [iblk, h]

theorem sum_rows (f : Fin 4096 → EReal) : (∑ k : Fin 2048, f (row 0 k)) + (∑ k : Fin 2048, f (row 1 k)) = ∑ k : Fin 4096, f k := by
  rw [Fin.sum_univ_add (a := 2048) (b := 2048) f]
  refine congrArg₂ (· + ·) (Finset.sum_congr rfl fun k _ => congrArg f (Fin.ext ?_)) (Finset.sum_congr rfl fun k _ => congrArg f (Fin.ext ?_))
  · show 2048 * 0 + k.val = k.val; omega
  · show 2048 * 1 + k.val = 2048 + k.val; omega

/-- The product at row `r` and column `n`. -/
def prod (r : Fin 1024) (n : Fin 3072) : EReal := ∑ k : Fin 4096, arg0 m c (ix2 k r) * arg1 m c (ix2 k n)

theorem out_eq (p : Fin 2) (j : Fin 4) (r : Fin 1024) (l : Fin 384) :
    (outsAt0 m c (pt p 1).val (pt p 1).isLt).1 (ix3 j r l) = prod m c r (col p ⟨384 * j.val + l.val, by omega⟩) := by
  have hA := outsAt0_A m c (pt p 0) (pt_mod p 0) (by rw [pt_mod]; decide)
  rw [outsAt0_B m c (pt p 1) (by rw [pt_mod]; decide) (pt_mod p 1)]
  dsimp only
  rw [out_B, step_at]
  have hq : (⟨(pt p 1).val - 1, Nat.lt_of_le_of_lt (Nat.sub_le _ _) (pt p 1).isLt⟩ : Fin cfg0.N) = pt p 0 := Fin.ext (by show 2 * p.val + 1 - 1 = 2 * p.val + 0; omega)
  have e : (outsAt0 m c ((pt p 1).val - 1) (Nat.lt_of_le_of_lt (Nat.sub_le _ _) (pt p 1).isLt)) = outsAt0 m c (pt p 0).val (pt p 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result: column `384 j + l` under leading index `j`. -/
def res : S8x1024x384.Idx → EReal := fun i => prod m c (i 1) ⟨384 * (i 0).val + (i 2).val, by
  have h0 : (i 0).val < 8 := (i 0).isLt
  have h2 : (i 2).val < 384 := (i 2).isLt
  omega⟩

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨p, q, rfl⟩ := pt_surj t
  obtain rfl : q = 1 := Fin.ext ((pt_mod p q).symm.trans hq)
  obtain ⟨j, r, l, rfl⟩ : ∃ (j : Fin 4) (r : Fin 1024) (l : Fin 384), y = ix3 j r l := ⟨y 0, y 1, y 2, (ix3_eta (n0 := 4) (n1 := 1024) (n2 := 384) y).symm⟩
  refine (out_eq m c p j r l).trans ?_
  obtain ⟨-, -, h⟩ := idx (pt p 1)
  rw [pt_div] at h
  have e : (win0_2.blk (pt p 1)).view.emb (ix3 j r l) = ix3 (n0 := 8) ⟨4 * p.val + j.val, by omega⟩ r l := funext fun d => Fin.ext ((Pipeline.Window.rect_emb_val win0_2 (pt p 1) (ix3 j r l) d).trans (by
    rw [h]
    refine Fin.cases ?_ (fun d => ?_) d
    · show p.val * 4 + j.val = 4 * p.val + j.val; omega
    · refine Fin.cases ?_ (fun d => ?_) d
      · show 0 * 1024 + r.val = r.val; omega
      · refine Fin.cases ?_ (fun d => d.elim0) d
        show 0 * 384 + l.val = l.val; omega))
  rw [e]
  unfold res
  refine congrArg (prod m c r) (Fin.ext ?_)
  show 1536 * p.val + (384 * j.val + l.val) = 384 * (4 * p.val + j.val) + l.val
  omega
end

end Cert.TnInIdeal.Product

namespace Cert.TnInReferenceIdeal.Product

open Idealize.ShloMosaic Idealize.ShloMosaic.TcCoe Idealize.SL.Sem Idealize.ShloMosaic.StableHlo
open Cert.TnInReferenceIdeal Cert.TnInReferenceIdeal.Gen

/-- The weight's gradient as the host writes it. -/
def grad (a0 : FVec Ideal S4096x1024 .bf16) (a1 : FVec Ideal S4096x3072 .bf16) : FVec Ideal S8x1024x384 .bf16 :=
  truncf .bf16 (transpose S8x1024x384 [1, 0, 2] (shapeCast S1024x8x384 (transpose S1024x3072 [1, 0] (Host.dotGeneral dot_S4096x3072_S4096x1024_S3072x1024_0_0_1_1_n_n none (extf .f32 a1 bitsLt_bf16_f32) (extf .f32 a0 bitsLt_bf16_f32)) transposes_S3072x1024_S1024x3072_1_0) shapeCasts_S1024x3072_S1024x8x384) transposes_S1024x8x384_S8x1024x384_1_0_2) bitsLt_bf16_f32

theorem grad_at (a0 : FVec Ideal S4096x1024 .bf16) (a1 : FVec Ideal S4096x3072 .bf16) (j : Fin 8) (r : Fin 1024) (l : Fin 384) :
    grad a0 a1 (ix3 j r l) = ∑ k : Fin 4096, a0 (ix2 k r) * a1 (ix2 k ⟨384 * j.val + l.val, by omega⟩) := by
  pointwise [grad]
  refine Finset.sum_congr rfl fun k _ => (mul_comm _ _).trans (congrArg (a0 (ix2 k r) * ·) (congrArg a1 (congrArg (ix2 k) (Fin.ext ?_))))
  show j.val * 384 + l.val = 384 * j.val + l.val
  omega

end Cert.TnInReferenceIdeal.Product

namespace Cert.Proof

open Idealize.ShloMosaic Idealize.ShloMosaic.TcCoe Idealize.SL.Sem
open Cert.TnInIdeal Cert.TnInIdeal.Product

theorem tn_in_eq (m : (ℓ : Loc nD τ sig) → Buf (Elt Ideal) ℓ) (c : Dev nD) : res m c = Cert.TnInReferenceIdeal.Product.grad (arg0 m c) (arg1 m c) := by
  funext i
  obtain ⟨j, r, l, rfl⟩ : ∃ (j : Fin 8) (r : Fin 1024) (l : Fin 384), i = ix3 j r l := ⟨i 0, i 1, i 2, (ix3_eta (n0 := 8) (n1 := 1024) (n2 := 384) i).symm⟩
  exact (Cert.TnInReferenceIdeal.Product.grad_at _ _ j r l).symm

/-- The kernel and the reference leave the same gradient of the inner weights, of any arguments. -/
theorem tn_in_algebraic : Cert.algebraic_TnInIdeal_TnInReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnInReferenceIdeal.Value.run (F := Ideal) m' g')
    obtain ⟨h2, hf⟩ := h c
    obtain ⟨a0, a1⟩ := e c
    refine ⟨h2.trans (Eq.trans ?_ (tn_in_eq m c).symm), hf⟩
    rw [a0, a1]
    rfl

end Cert.Proof
end
-- ==== Proof.TnOut.lean ====
/-
  The blocked product of the hidden layer's transpose with the output's gradients: what the kernel's result array holds at the end,
  as sums over all rows.
-/
module

public import proofs.«01_k».proof.Defs
public import proofs.«01_k».proof.Proof.Gen.TnOutIdeal.Frame
public import proofs.«01_k».proof.Proof.Gen.TnOutReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnOutIdeal.Product

open Idealize.ShloMosaic Idealize.ShloMosaic.TcCoe Idealize.SL.Sem
open Cert.TnOutIdeal Cert.TnOutIdeal.Gen

theorem zeros2 : (![0, 0] : Fin 2 → ℕ) = fun _ => 0 := funext fun a => by fin_cases a <;> rfl

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S2048x1024 .bf16) (x1 : Vec Ideal S2048x1024 .bf16) (xs : Vec Ideal S1024x1024 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S2048x1024) zeros2]

/-- The second point adds its rows' product and writes the sum back. -/
theorem out_B (hc0 : ¬cond0_0 i) (hc1 : cond0_1 i) (r l : Fin 1024) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]
  generalize k0_pay2 (F := Ideal) xs x0 x1 = P
  pointwise [k0_pay3]

/-- A point's sum at an index. -/
theorem step_at (P : Vec Ideal S1024x1024 .f32) (r n : Fin 1024) :
    k0_pay2 (F := Ideal) P x0 x1 (ix2 r n) = P (ix2 r n) + ∑ k : Fin 2048, x0 (ix2 k r) * x1 (ix2 k n) := by
  pointwise [k0_pay2]
theorem zero_at (r n : Fin 1024) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x3072.Idx → EReal := m ((c.tc : Thread nD τ).loc main_arg0)
abbrev arg1 : S4096x1024.Idx → EReal := m ((c.tc : Thread nD τ).loc main_arg1)

/-- Point `q` of row block `p`. -/
def pt (p : Fin 3) (q : Fin 2) : Fin cfg0.N := ⟨2 * p.val + q.val, lt_of_lt_of_eq (by omega) N_0.symm⟩
theorem pt_surj (t : Fin cfg0.N) : ∃ p q, t = pt p q := by
  have h : t.val < 6 := lt_of_lt_of_eq t.isLt N_0
  exact ⟨⟨t.val / 2, by omega⟩, ⟨t.val % 2, by omega⟩, Fin.ext (by show t.val = 2 * (t.val / 2) + t.val % 2; omega)⟩
theorem pt_mod (p : Fin 3) (q : Fin 2) : (pt p q).val % 2 = q.val := by show (2 * p.val + q.val) % 2 = q.val; omega
theorem pt_div (p : Fin 3) (q : Fin 2) : (pt p q).val / 2 = p.val := by show (2 * p.val + q.val) / 2 = p.val; omega

/-- Row `k` of half `q`, column `n` of block `p`. -/
def row (q : Fin 2) (k : Fin 2048) : Fin 4096 := ⟨2048 * q.val + k.val, by omega⟩
def col (p : Fin 3) (n : Fin 1024) : Fin 3072 := ⟨1024 * p.val + n.val, by omega⟩

theorem idx : ∀ t : Fin cfg0.N,
    win0_0.index t = ![t.val % 2, t.val / 2] ∧ win0_1.index t = ![t.val % 2, 0] ∧ win0_2.index t = ![t.val / 2, 0] := by
  decide +kernel

theorem blk0 (p : Fin 3) (q : Fin 2) (k : Fin 2048) (r : Fin 1024) : iblk m c 0 (pt p q) (ix2 k r) = arg0 m c (ix2 (row q k) (col p r)) := by
  obtain ⟨h, -⟩ := idx (pt p q)
  rw [pt_mod, pt_div] at h
  unfold arg0 row col
  rw [← V_main_arg0 m c]
  blk_ext [iblk, h]

theorem blk1 (p : Fin 3) (q : Fin 2) (k : Fin 2048) (n : Fin 1024) : iblk m c 1 (pt p q) (ix2 k n) = arg1 m c (ix2 (row q k) n) := by
  obtain ⟨-, h, -⟩ := idx (pt p q)
  rw [pt_mod] at h
  unfold arg1 row
  rw [← V_main_arg1 m c]
  blk_ext [iblk, h]

theorem sum_rows (f : Fin 4096 → EReal) : (∑ k : Fin 2048, f (row 0 k)) + (∑ k : Fin 2048, f (row 1 k)) = ∑ k : Fin 4096, f k := by
  rw [Fin.sum_univ_add (a := 2048) (b := 2048) f]
  refine congrArg₂ (· + ·) (Finset.sum_congr rfl fun k _ => congrArg f (Fin.ext ?_)) (Finset.sum_congr rfl fun k _ => congrArg f (Fin.ext ?_))
  · show 2048 * 0 + k.val = k.val; omega
  · show 2048 * 1 + k.val = 2048 + k.val; omega

/-- The product at row `r` and column `n`. -/
def prod (r : Fin 3072) (n : Fin 1024) : EReal := ∑ k : Fin 4096, arg0 m c (ix2 k r) * arg1 m c (ix2 k n)

theorem out_eq (p : Fin 3) (r l : Fin 1024) : (outsAt0 m c (pt p 1).val (pt p 1).isLt).1 (ix2 r l) = prod m c (col p r) l := by
  have hA := outsAt0_A m c (pt p 0) (pt_mod p 0) (by rw [pt_mod]; decide)
  rw [outsAt0_B m c (pt p 1) (by rw [pt_mod]; decide) (pt_mod p 1)]
  dsimp only
  rw [out_B, step_at]
  have hq : (⟨(pt p 1).val - 1, Nat.lt_of_le_of_lt (Nat.sub_le _ _) (pt p 1).isLt⟩ : Fin cfg0.N) = pt p 0 := Fin.ext (by show 2 * p.val + 1 - 1 = 2 * p.val + 0; omega)
  have e : (outsAt0 m c ((pt p 1).val - 1) (Nat.lt_of_le_of_lt (Nat.sub_le _ _) (pt p 1).isLt)) = outsAt0 m c (pt p 0).val (pt p 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S3072x1024.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨p, q, rfl⟩ := pt_surj t
  obtain rfl : q = 1 := Fin.ext ((pt_mod p q).symm.trans hq)
  obtain ⟨r, l, rfl⟩ : ∃ (r : Fin 1024) (l : Fin 1024), y = ix2 r l := ⟨y 0, y 1, (ix2_eta (n0 := 1024) (n1 := 1024) y).symm⟩
  refine (out_eq m c p r l).trans ?_
  obtain ⟨-, -, h⟩ := idx (pt p 1)
  rw [pt_div] at h
  have e : (win0_2.blk (pt p 1)).view.emb (ix2 r l) = ix2 (col p r) l := funext fun d => Fin.ext ((Pipeline.Window.rect_emb_val win0_2 (pt p 1) (ix2 r l) d).trans (by
    rw [h]
    refine Fin.cases ?_ (fun d => ?_) d
    · show p.val * 1024 + r.val = 1024 * p.val + r.val; omega
    · refine Fin.cases ?_ (fun d => d.elim0) d
      show 0 * 1024 + l.val = l.val; omega))
  rw [e]
  rfl
end

end Cert.TnOutIdeal.Product

namespace Cert.TnOutReferenceIdeal.Product

open Idealize.ShloMosaic Idealize.ShloMosaic.TcCoe Idealize.SL.Sem Idealize.ShloMosaic.StableHlo
open Cert.TnOutReferenceIdeal Cert.TnOutReferenceIdeal.Gen

/-- The weight's gradient as the host writes it. -/
def grad (a0 : FVec Ideal S4096x3072 .bf16) (a1 : FVec Ideal S4096x1024 .bf16) : FVec Ideal S3072x1024 .bf16 :=
  truncf .bf16 (transpose S3072x1024 [1, 0] (Host.dotGeneral dot_S4096x1024_S4096x3072_S1024x3072_0_0_1_1_n_n none (extf .f32 a1 bitsLt_bf16_f32) (extf .f32 a0 bitsLt_bf16_f32)) transposes_S1024x3072_S3072x1024_1_0) bitsLt_bf16_f32

theorem grad_at (a0 : FVec Ideal S4096x3072 .bf16) (a1 : FVec Ideal S4096x1024 .bf16) (r : Fin 3072) (l : Fin 1024) :
    grad a0 a1 (ix2 r l) = ∑ k : Fin 4096, a0 (ix2 k r) * a1 (ix2 k l) := by
  pointwise [grad]
  exact Finset.sum_congr rfl fun k _ => mul_comm _ _

end Cert.TnOutReferenceIdeal.Product

namespace Cert.Proof

open Idealize.ShloMosaic Idealize.ShloMosaic.TcCoe Idealize.SL.Sem
open Cert.TnOutIdeal Cert.TnOutIdeal.Product

theorem tn_out_eq (m : (ℓ : Loc nD τ sig) → Buf (Elt Ideal) ℓ) (c : Dev nD) : res m c = Cert.TnOutReferenceIdeal.Product.grad (arg0 m c) (arg1 m c) := by
  funext i
  obtain ⟨r, l, rfl⟩ : ∃ (r : Fin 3072) (l : Fin 1024), i = ix2 r l := ⟨i 0, i 1, (ix2_eta (n0 := 3072) (n1 := 1024) i).symm⟩
  exact (Cert.TnOutReferenceIdeal.Product.grad_at _ _ r l).symm

/-- The kernel and the reference leave the same gradient of the outer weights, of any arguments. -/
theorem tn_out_algebraic : Cert.algebraic_TnOutIdeal_TnOutReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnOutReferenceIdeal.Value.run (F := Ideal) m' g')
    obtain ⟨h2, hf⟩ := h c
    obtain ⟨a0, a1⟩ := e c
    refine ⟨h2.trans (Eq.trans ?_ (tn_out_eq m c).symm), hf⟩
    rw [a0, a1]
    rfl

end Cert.Proof
end
-- ==== Proof.Tiles.lean ====
/-
  Sixteen blocks of 256 rows: the rows' numbers in the whole array, where an element of a block lies, and sums over the
  blocks as sums over all rows.
-/
module

public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

noncomputable section

namespace Cert.Tiles

open Idealize.ShloMosaic Idealize.ShloMosaic.TcCoe Idealize.SL.Sem

/-- Row `r` of block `t`. -/
def at256 (t : Fin 16) (r : Fin 256) : Fin 4096 := ⟨256 * t.val + r.val, by omega⟩

/-- A row, the single row of a vector, a matrix. -/
abbrev row {n w : ℕ} (x : (⟨2, ![n, w]⟩ : Shape).Idx → EReal) (r : Fin n) (d : Fin w) : EReal := x (ix2 r d)
abbrev vec {w : ℕ} (x : (⟨2, ![1, w]⟩ : Shape).Idx → EReal) (d : Fin w) : EReal := x (ix2 0 d)
abbrev mat {n w : ℕ} (x : (⟨2, ![n, w]⟩ : Shape).Idx → EReal) (r : Fin n) (d : Fin w) : EReal := x (ix2 r d)

/-- An index whose two coordinates are those of an element of block `t`; of a vector's element. -/
theorem row_emb {i : (⟨2, ![4096, 1024]⟩ : Shape).Idx} {t : Fin 16} {r : Fin 256} {d : Fin 1024}
    (h0 : (i 0).val = t.val * 256 + r.val) (h1 : (i 1).val = 0 * 1024 + d.val) : i = ix2 (n0 := 4096) (n1 := 1024) (at256 t r) d :=
  (ix2_eta (n0 := 4096) (n1 := 1024) i).symm.trans (congrArg₂ (ix2 (n0 := 4096) (n1 := 1024))
    (Fin.ext (by show (i 0).val = 256 * t.val + r.val; omega)) (Fin.ext (by show (i 1).val = d.val; omega)))
theorem vec_emb {i : (⟨2, ![1, 1024]⟩ : Shape).Idx} {d : Fin 1024} (h1 : (i 1).val = 0 * 1024 + d.val) : i = ix2 (n0 := 1) (n1 := 1024) 0 d :=
  (ix2_eta (n0 := 1) (n1 := 1024) i).symm.trans (congrArg₂ (ix2 (n0 := 1) (n1 := 1024))
    (Subsingleton.elim (α := Fin 1) _ _) (Fin.ext (by show (i 1).val = d.val; omega)))

/-- Arrays equal at every row and column; vectors equal at every element. -/
theorem rows_ext {n w : ℕ} {f g : (⟨2, ![n, w]⟩ : Shape).Idx → EReal} (h : ∀ (R : Fin n) (d : Fin w), f (ix2 R d) = g (ix2 R d)) : f = g := by
  funext i
  obtain ⟨R, d, rfl⟩ : ∃ (R : Fin n) (d : Fin w), i = ix2 R d := ⟨i 0, i 1, (ix2_eta (n0 := n) (n1 := w) i).symm⟩
  exact h R d
theorem vec_ext {w : ℕ} {f g : (⟨2, ![1, w]⟩ : Shape).Idx → EReal} (h : ∀ d : Fin w, f (ix2 0 d) = g (ix2 0 d)) : f = g :=
  rows_ext fun R d => by rw [Subsingleton.elim R 0]; exact h d

/-- A sum over the blocks of the sums over their rows is the sum over all rows. -/
theorem sum_at (f : Fin 4096 → EReal) : ∑ s : Fin 16, ∑ r : Fin 256, f (at256 s r) = ∑ R, f R := by
  rw [← Finset.sum_product', Finset.univ_product_univ]
  refine Fintype.sum_equiv (finProdFinEquiv (m := 16) (n := 256)) _ f fun p => congrArg f (Fin.ext ?_)
  show 256 * p.1.val + p.2.val = p.2.val + 256 * p.1.val
  omega

/-- What starts with the first block's term and adds the others' ends with their sum: the sum over all rows. -/
theorem sum_points {N : ℕ} (hN : N = 16) (f : Fin 4096 → EReal) (a : Fin N → EReal)
    (hA : ∀ t : Fin N, t.val % 16 = 0 → a t = ∑ r, f (at256 ⟨t.val, t.isLt.trans_eq hN⟩ r))
    (hB : ∀ t : Fin N, ¬t.val % 16 = 0 → a t = a ⟨t.val - 1, Nat.lt_of_le_of_lt (Nat.sub_le _ _) t.isLt⟩ + ∑ r, f (at256 ⟨t.val, t.isLt.trans_eq hN⟩ r))
    (t : Fin N) (ht : t.val % 16 = 15) : a t = ∑ R, f R := by
  subst hN
  have k : ∀ n (h : n < 16), a ⟨n, h⟩ = ∑ s : Fin (n + 1), ∑ r, f (at256 ⟨s.val, lt_of_lt_of_le s.isLt h⟩ r) := by
    intro n
    induction n with
    | zero => intro h; rw [hA ⟨0, h⟩ rfl, Fin.sum_univ_one]; rfl
    | succ n ih =>
      intro h
      rw [hB ⟨n + 1, h⟩ (by show ¬(n + 1) % 16 = 0; omega), Fin.sum_univ_castSucc (n := n + 1)]
      exact congrArg₂ (· + ·) (ih _) rfl
  obtain ⟨n, h⟩ := t
  obtain rfl : n = 15 := by dsimp only at ht; omega
  exact (k 15 h).trans (sum_at f)

end Cert.Tiles
end
-- ==== Proof.SegMath.lean ====
/-
  The gated unit on one row, over the extended reals: its activation, its gate, its result, and their gradients.  The
  hyperbolic tangent's argument has a cube, which the kernel and its reference write with their factors in two orders: the
  formulas take the function of it.
-/
module

public import Idealize.ShloMosaic.PureOps.IdealRules

@[expose] public section

noncomputable section

namespace Cert.SegMath

open Idealize.ShloMosaic

/-- The constants of the activation: a half, the cube's factor, the argument's factor, three. -/
abbrev H : EReal := Ideal.ofBits .f32 0x3F000000#32
abbrev K : EReal := Ideal.ofBits .f32 0x3D372713#32
abbrev C : EReal := Ideal.ofBits .f32 0x3F4C422A#32
abbrev T : EReal := Ideal.ofBits .f32 0x40400000#32

/-- The tangent, with the two orders of the cube. -/
def tn (v : EReal) : EReal := Ideal.tanh (C * (v + K * (v * (v * v))))
def tn' (v : EReal) : EReal := Ideal.tanh (C * (v + K * (v * v * v)))
theorem tn'_eq : tn' = tn := funext fun v => by unfold tn tn'; rw [mul_assoc]

section
variable (t : EReal → EReal) (x y gt b dxo : Fin 1024 → EReal) (w : Fin 1024 → Fin 1024 → EReal) (n : Fin 1024)

/-- The activation, the gate, the result. -/
def act (v : EReal) : EReal := v * (H * (1 + t v))
def gate : EReal := Ideal.logistic ((∑ k, act t (y k) * w k n) + b n)
def out : EReal := x n + gt n * (act t (y n) * gate t y b w n)

/-- The gradients: of the unit, of the gate's argument, of the activation, of the input. -/
def du : EReal := gt n * dxo n
def dz : EReal := act t (y n) * du gt dxo n * (gate t y b w n * (1 - gate t y b w n))
def da : EReal := du gt dxo n * gate t y b w n + ∑ k, dz t y gt b dxo w k * w n k
def dv : EReal := C * (H * (y n * da t y gt b dxo w n) * ((1 + t (y n)) * (1 - t (y n))))
def dy : EReal := da t y gt b dxo w n * (H * (1 + t (y n))) + dv t y gt b dxo w n + K * dv t y gt b dxo w n * (T * (y n * y n))
/-- A row's term of the gating vector's gradient. -/
def dgt : EReal := dxo n * (act t (y n) * gate t y b w n)
end

end Cert.SegMath
end
-- ==== Proof.GluFwd.lean ====
/-
  The gated unit's forward call: what the kernel's result array holds at the end, and that the reference's is the same.
-/
module

public import proofs.«01_k».proof.Defs
public import proofs.«01_k».proof.Proof.Gen.GluFwdIdeal.Frame
public import proofs.«01_k».proof.Proof.Gen.GluFwdReferenceIdeal.Run
public import proofs.«01_k».proof.Proof.Tiles
public import proofs.«01_k».proof.Proof.SegMath
public import Idealize.ShloMosaic.Lib.Claim
public import Idealize.ShloMosaic.Lib.StableHlo.RunRead

@[expose] public section

set_option maxRecDepth 16384

noncomputable section

namespace Cert.GluFwdIdeal.Fore

open Idealize.ShloMosaic Idealize.ShloMosaic.TcCoe Idealize.SL.Sem
open Cert.GluFwdIdeal Cert.GluFwdIdeal.Gen Cert.Tiles Cert.SegMath

variable (m : (ℓ : Loc nD τ sig) → Buf (Elt Ideal) ℓ) (c : Dev nD)

/-! ## The operands -/

/-- The arguments the call reads: the rows to add to, the unit's input, the gating vector, the gate's bias and weight. -/
abbrev X : S4096x1024.Idx → EReal := m ((c.tc : Thread nD τ).loc main_arg0)
abbrev Y : S4096x1024.Idx → EReal := m ((c.tc : Thread nD τ).loc main_arg1)
abbrev GT : S1x1024.Idx → EReal := m ((c.tc : Thread nD τ).loc main_arg2)
abbrev B : S1x1024.Idx → EReal := m ((c.tc : Thread nD τ).loc main_arg3)
abbrev W : S1024x1024.Idx → EReal := m ((c.tc : Thread nD τ).loc main_arg4)

/-- The weight as the call finds it. -/
abbrev arrW : S1024x1024.Idx → EReal := V m c main_v0
theorem entryW : arrW m c = W m c := by
  unfold arrW
  unfold_abbrev_sides
  after_reads_simp
  rfl

section
variable (t : Fin cfg0.N)
abbrev b0 : Vec Ideal S256x1024 .f32 := iblk m c 0 t
abbrev b1 : Vec Ideal S256x1024 .f32 := iblk m c 1 t
abbrev b2 : Vec Ideal S1x1024 .f32 := iblk m c 2 t
abbrev b3 : Vec Ideal S1x1024 .f32 := iblk m c 3 t
abbrev b4 : Vec Ideal S1024x1024 .bf16 := iblk m c 4 t
end

theorem idx : ∀ t : Fin cfg0.N,
    win0_0.index t = ![t.val, 0] ∧ win0_1.index t = ![t.val, 0] ∧ win0_2.index t = ![0, 0] ∧ win0_3.index t = ![0, 0] ∧ win0_4.index t = ![0, 0]
      ∧ win0_5.index t = ![t.val, 0] := by
  decide +kernel

section
variable (t : Fin cfg0.N) (r : Fin 256)
theorem in0 : row (b0 m c t) r = row (X m c) (at256 ⟨t.val, t.isLt.trans_eq N_0⟩ r) := by
  obtain ⟨h, -⟩ := idx t
  funext d
  unfold row b0 X at256
  rw [← V_main_arg0 m c]
  blk_ext [iblk, h]
theorem in1 : row (b1 m c t) r = row (Y m c) (at256 ⟨t.val, t.isLt.trans_eq N_0⟩ r) := by
  obtain ⟨-, h, -⟩ := idx t
  funext d
  unfold row b1 Y at256
  rw [← V_main_arg1 m c]
  blk_ext [iblk, h]
theorem in2 : vec (b2 m c t) = vec (GT m c) := by
  obtain ⟨-, -, h, -⟩ := idx t
  funext d
  unfold vec b2 GT
  rw [← V_main_arg2 m c]
  blk_ext [iblk, h]
theorem in3 : vec (b3 m c t) = vec (B m c) := by
  obtain ⟨-, -, -, h, -⟩ := idx t
  funext d
  unfold vec b3 B
  rw [← V_main_arg3 m c]
  blk_ext [iblk, h]
theorem in4 : mat (b4 m c t) = mat (W m c) := by
  obtain ⟨-, -, -, -, h, -⟩ := idx t
  rw [← entryW]
  funext n d
  unfold mat b4 arrW
  blk_ext [iblk, h]
end

/-! ## The array -/

theorem pt (x0 x1 : Vec Ideal S256x1024 .f32) (x2 x3 : Vec Ideal S1x1024 .f32) (x4 : Vec Ideal S1024x1024 .bf16) (r : Fin 256) (n : Fin 1024) :
    out0_5 x0 x1 x2 x3 x4 (ix2 r n) = out tn (row x0 r) (row x1 r) (vec x2) (vec x3) (mat x4) n := by
  frame_out
  pointwise [k0_pay1]
  rfl

def res : S4096x1024.Idx → EReal := fun i => out tn (row (X m c) (i 0)) (row (Y m c) (i 0)) (vec (GT m c)) (vec (B m c)) (mat (W m c)) (i 1)

theorem arr : (dats m 0 c).arrAt 5 cfg0.N = res m c := by
  refine (dats m 0 c).arrAt_eq_of_covers 5 (res m c) (by decide +kernel) fun t hf y => ?_
  blk_simp
  rw [after0_5]
  obtain ⟨-, -, -, -, -, h⟩ := idx t
  obtain ⟨r, d, rfl⟩ : ∃ (r : Fin 256) (d : Fin 1024), y = ix2 r d := ⟨y 0, y 1, (ix2_eta (n0 := 256) (n1 := 1024) y).symm⟩
  have e : (win0_5.blk t).view.emb (ix2 r d) = ix2 (n0 := 4096) (at256 ⟨t.val, t.isLt.trans_eq N_0⟩ r) d :=
    row_emb ((Pipeline.Window.rect_emb_val win0_5 t (ix2 r d) 0).trans (by rw [h]; rfl)) ((Pipeline.Window.rect_emb_val win0_5 t (ix2 r d) 1).trans (by rw [h]; rfl))
  rw [e]
  refine (pt (b0 m c t) (b1 m c t) (b2 m c t) (b3 m c t) (b4 m c t) r d).trans ?_
  rw [in0, in1, in2, in3, in4]
  rfl

end Cert.GluFwdIdeal.Fore

/-! ## The reference -/

namespace Cert.GluFwdReferenceIdeal.Fore

open Idealize.ShloMosaic Idealize.ShloMosaic.TcCoe Idealize.SL.Sem Idealize.ShloMosaic.StableHlo
open Cert.GluFwdReferenceIdeal Cert.GluFwdReferenceIdeal.Gen Cert.Tiles Cert.SegMath

section
variable (x y : FVec Ideal S4096x1024 .f32) (gt b : FVec Ideal S1x1024 .f32) (w : FVec Ideal S1024x1024 .f32) (R : Fin 4096) (n : Fin 1024)

/-- The activation, the gate, and the result as the host writes them. -/
def ones : FVec Ideal S4096x1024 .f32 := broadcastInDim S4096x1024 ![] bcast_S_S4096x1024 (constant S_ .f32 0x3F800000#32)
def hact : FVec Ideal S4096x1024 .f32 :=
  mulf y (mulf (broadcastInDim S4096x1024 ![] bcast_S_S4096x1024 (constant S_ .f32 0x3F000000#32)) (addf ones
    (Host.tanh (mulf (broadcastInDim S4096x1024 ![] bcast_S_S4096x1024 (constant S_ .f32 0x3F4C422A#32))
      (addf y (mulf (broadcastInDim S4096x1024 ![] bcast_S_S4096x1024 (constant S_ .f32 0x3D372713#32)) (mulf (mulf y y) y)))))))
def hgate : FVec Ideal S4096x1024 .f32 :=
  Host.divf ones (addf ones (Host.exp (Host.negf (addf (addf (Host.dotGeneral dot_S4096x1024_S1024x1024_S4096x1024_1_0_0_1_n_n none (hact y) w)
    (broadcastInDim S4096x1024 ![0, 1] bcast_S1x1024_S4096x1024_0_1 b)) (broadcastInDim S4096x1024 ![] bcast_S_S4096x1024 (constant S_ .f32 0x00000000#32))))))
def hout : FVec Ideal S4096x1024 .f32 :=
  addf x (mulf (broadcastInDim S4096x1024 ![0, 1] bcast_S1x1024_S4096x1024_0_1 gt) (mulf (hact y) (hgate y b w)))

theorem hact_at : hact y (ix2 R n) = act tn (y (ix2 R n)) := by
  rw [← tn'_eq]
  pointwise [hact, ones]
  rfl
theorem hgate_at : hgate y b w (ix2 R n) = gate tn (row y R) (vec b) (mat w) n := by
  unfold gate
  simp only [← hact_at]
  pointwise [hgate, ones]
  rfl
theorem hout_at : hout x y gt b w (ix2 R n) = out tn (row x R) (row y R) (vec gt) (vec b) (mat w) n := by
  unfold out
  rw [← hact_at, ← hgate_at]
  pointwise [hout]
end

end Cert.GluFwdReferenceIdeal.Fore

namespace Cert.Proof

open Idealize.ShloMosaic Idealize.ShloMosaic.TcCoe Idealize.SL.Sem
open Cert.GluFwdIdeal Cert.GluFwdIdeal.Fore Cert.Tiles Cert.GluFwdReferenceIdeal.Fore

theorem glu_fwd_eq (m : (ℓ : Loc nD τ sig) → Buf (Elt Ideal) ℓ) (c : Dev nD) : hout (X m c) (Y m c) (GT m c) (B m c) (W m c) = res m c := rows_ext fun _ _ => hout_at _ _ _ _ _ _ _

/-- The kernel and the reference leave the same rows, of any arguments. -/
theorem glu_fwd_algebraic : Cert.algebraic_GluFwdIdeal_GluFwdReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 5).trans (arr m c), hf c⟩
  · refine (θ_run _ _ _).mono (fun r h c => ?_) (Cert.GluFwdReferenceIdeal.Value.run (F := Ideal) m' g')
    obtain ⟨h5, hf⟩ := h c
    obtain ⟨a0, a1, a2, a3, a4⟩ := e c
    refine ⟨h5.trans (Eq.trans ?_ (glu_fwd_eq m c)), hf⟩
    rw [a0, a1, a2, a3, a4]
    rfl

end Cert.Proof
end
-- ==== Proof.GluBwd.lean ====
/-
  The gated unit's backward call: what the kernel's six result arrays hold at the end.
-/
module

public import proofs.«01_k».proof.Proof.Gen.GluBwdIdeal.Frame
public import proofs.«01_k».proof.Proof.Tiles
public import proofs.«01_k».proof.Proof.SegMath
public import Idealize.ShloMosaic.Lib.Claim
public import Idealize.ShloMosaic.Lib.StableHlo.RunRead

@[expose] public section

set_option maxRecDepth 16384

noncomputable section

namespace Cert.GluBwdIdeal.Back

open Idealize.ShloMosaic Idealize.ShloMosaic.TcCoe Idealize.SL.Sem
open Cert.GluBwdIdeal Cert.GluBwdIdeal.Gen Cert.Tiles Cert.SegMath

variable (m : (ℓ : Loc nD τ sig) → Buf (Elt Ideal) ℓ) (c : Dev nD)

/-! ## The operands -/

/-- The arguments the call reads: the unit's input, the gating vector, the gate's bias and weight, the gradient. -/
abbrev Y : S4096x1024.Idx → EReal := m ((c.tc : Thread nD τ).loc main_arg1)
abbrev GT : S1x1024.Idx → EReal := m ((c.tc : Thread nD τ).loc main_arg2)
abbrev B : S1x1024.Idx → EReal := m ((c.tc : Thread nD τ).loc main_arg3)
abbrev W : S1024x1024.Idx → EReal := m ((c.tc : Thread nD τ).loc main_arg4)
abbrev DXO : S4096x1024.Idx → EReal := m ((c.tc : Thread nD τ).loc main_arg5)

/-- The weight as the call finds it. -/
abbrev arrW : S1024x1024.Idx → EReal := V m c main_v0
theorem entryW : arrW m c = W m c := by
  unfold arrW
  unfold_abbrev_sides
  after_reads_simp
  rfl

section
variable (t : Fin cfg0.N)
abbrev b1 : Vec Ideal S256x1024 .f32 := iblk m c 1 t
abbrev b2 : Vec Ideal S256x1024 .f32 := iblk m c 2 t
abbrev b3 : Vec Ideal S1x1024 .f32 := iblk m c 3 t
abbrev b4 : Vec Ideal S1x1024 .f32 := iblk m c 4 t
abbrev b5 : Vec Ideal S1024x1024 .bf16 := iblk m c 5 t
end

theorem idxIn : ∀ t : Fin cfg0.N,
    win0_1.index t = ![t.val, 0] ∧ win0_2.index t = ![t.val, 0] ∧ win0_3.index t = ![0, 0] ∧ win0_4.index t = ![0, 0] ∧ win0_5.index t = ![0, 0] := by
  decide +kernel
theorem idxOut : ∀ t : Fin cfg0.N,
    win0_6.index t = ![t.val, 0] ∧ win0_7.index t = ![t.val, 0] ∧ win0_8.index t = ![t.val, 0] ∧ win0_9.index t = ![t.val, 0]
      ∧ win0_10.index t = ![0, 0] ∧ win0_11.index t = ![0, 0] := by
  decide +kernel

section
variable (t : Fin cfg0.N) (r : Fin 256)
theorem in1 : row (b1 m c t) r = row (Y m c) (at256 ⟨t.val, t.isLt.trans_eq N_0⟩ r) := by
  obtain ⟨h, -⟩ := idxIn t
  funext d
  unfold row b1 Y at256
  rw [← V_main_arg1 m c]
  blk_ext [iblk, h]
theorem in2 : row (b2 m c t) r = row (DXO m c) (at256 ⟨t.val, t.isLt.trans_eq N_0⟩ r) := by
  obtain ⟨-, h, -⟩ := idxIn t
  funext d
  unfold row b2 DXO at256
  rw [← V_main_arg5 m c]
  blk_ext [iblk, h]
theorem in3 : vec (b3 m c t) = vec (GT m c) := by
  obtain ⟨-, -, h, -⟩ := idxIn t
  funext d
  unfold vec b3 GT
  rw [← V_main_arg2 m c]
  blk_ext [iblk, h]
theorem in4 : vec (b4 m c t) = vec (B m c) := by
  obtain ⟨-, -, -, h, -⟩ := idxIn t
  funext d
  unfold vec b4 B
  rw [← V_main_arg3 m c]
  blk_ext [iblk, h]
theorem in5 : mat (b5 m c t) = mat (W m c) := by
  obtain ⟨-, -, -, -, h⟩ := idxIn t
  rw [← entryW]
  funext n d
  unfold mat b5 arrW
  blk_ext [iblk, h]
end

/-! ## A point's results -/

section
variable (y dxo : Vec Ideal S256x1024 .f32) (gt b acc : Vec Ideal S1x1024 .f32) (w : Vec Ideal S1024x1024 .bf16) (r : Fin 256) (n : Fin 1024)

theorem act_at : k0_pay7 y (ix2 r n) = act tn (y (ix2 r n)) := by
  pointwise [k0_pay7, k0_pay6, k0_pay4]
  rfl
theorem half_at : k0_pay6 y (ix2 r n) = H * (1 + tn (y (ix2 r n))) := by
  pointwise [k0_pay6, k0_pay4]
  rfl
theorem gate_at : k0_pay8 y b w (ix2 r n) = gate tn (row y r) (vec b) (mat w) n := by
  unfold gate
  simp only [← act_at]
  pointwise [k0_pay8, k0_pay2]
theorem dz_at : k0_pay14 dxo gt (k0_pay7 y) (k0_pay9 y b w) (ix2 r n) = dz tn (row y r) (vec gt) (vec b) (row dxo r) (mat w) n := by
  unfold dz
  rw [← act_at, ← gate_at]
  pointwise [k0_pay14, k0_pay9, k0_pay13, k0_pay12]
  rfl
theorem dy_at : k0_pay16 y dxo gt (k0_pay2 w) (k0_pay3 y) (k0_pay5 y) (k0_pay6 y) (k0_pay7 y) (k0_pay8 y b w) (k0_pay9 y b w) (ix2 r n)
    = dy tn (row y r) (vec gt) (vec b) (row dxo r) (mat w) n := by
  unfold dy dv da
  simp only [← half_at, ← gate_at, ← dz_at]
  pointwise [k0_pay16, k0_pay13, k0_pay12, k0_pay2, k0_pay3, k0_pay5, k0_pay4]
  rfl
theorem dgt_at : k0_pay20 dxo (k0_pay10 y b w) acc (ix2 0 n) = acc (ix2 0 n) + ∑ r, dgt tn (row y r) (vec b) (row dxo r) (mat w) n := by
  unfold dgt
  simp only [← act_at, ← gate_at]
  pointwise [k0_pay20, k0_pay10, k0_pay12]
theorem db_at : k0_pay1 (k0_pay15 dxo gt (k0_pay7 y) (k0_pay9 y b w)) acc (ix2 0 n)
    = acc (ix2 0 n) + ∑ r, dz tn (row y r) (vec gt) (vec b) (row dxo r) (mat w) n := by
  simp only [← dz_at]
  pointwise [k0_pay1, k0_pay15]
end

section
variable (t : Fin cfg0.N) (r : Fin 256) (n : Fin 1024)

/-- A point's rows' gradients. -/
abbrev bdz (r : Fin 256) : Fin 1024 → EReal := dz tn (row (b1 m c t) r) (vec (b3 m c t)) (vec (b4 m c t)) (row (b2 m c t) r) (mat (b5 m c t))
abbrev bdgt (r : Fin 256) : Fin 1024 → EReal := dgt tn (row (b1 m c t) r) (vec (b4 m c t)) (row (b2 m c t) r) (mat (b5 m c t))

theorem pt6 : (outsAt0 m c t.val t.isLt).1 (ix2 r n) = b2 m c t (ix2 r n) := by
  by_cases h0 : t.val % 16 = 0
  · rw [outsAt0_A m c t h0]
    dsimp only
    frame_out
  · rw [outsAt0_B m c t h0]
    dsimp only
    frame_out
theorem pt7 : (outsAt0 m c t.val t.isLt).2.1 (ix2 r n) = dy tn (row (b1 m c t) r) (vec (b3 m c t)) (vec (b4 m c t)) (row (b2 m c t) r) (mat (b5 m c t)) n := by
  by_cases h0 : t.val % 16 = 0
  · rw [outsAt0_A m c t h0]
    dsimp only
    frame_out
    exact dy_at _ _ _ _ _ _ _
  · rw [outsAt0_B m c t h0]
    dsimp only
    frame_out
    exact dy_at _ _ _ _ _ _ _
theorem pt8 : (outsAt0 m c t.val t.isLt).2.2.1 (ix2 r n) = bdz m c t r n := by
  unfold bdz
  rw [← dz_at]
  by_cases h0 : t.val % 16 = 0
  · rw [outsAt0_A m c t h0]
    dsimp only
    frame_out
    pointwise [k0_pay17]
  · rw [outsAt0_B m c t h0]
    dsimp only
    frame_out
    pointwise [k0_pay17]
theorem pt9 : (outsAt0 m c t.val t.isLt).2.2.2.1 (ix2 r n) = act tn (b1 m c t (ix2 r n)) := by
  rw [← act_at]
  by_cases h0 : t.val % 16 = 0
  · rw [outsAt0_A m c t h0]
    dsimp only
    frame_out
    pointwise [k0_pay11]
  · rw [outsAt0_B m c t h0]
    dsimp only
    frame_out
    pointwise [k0_pay11]

/-- The sums over the rows: the first point's, and what a later point adds. -/
theorem first10 (h0 : t.val % 16 = 0) : (outsAt0 m c t.val t.isLt).2.2.2.2.1 (ix2 0 n) = ∑ r, bdgt m c t r n := by
  rw [outsAt0_A m c t h0]
  dsimp only
  frame_out
  refine (dgt_at _ _ _ _ _ n).trans ?_
  pointwise [k0_pay18]
theorem next10 (h0 : ¬t.val % 16 = 0) : (outsAt0 m c t.val t.isLt).2.2.2.2.1 (ix2 0 n)
    = (outsAt0 m c (t.val - 1) (Nat.lt_of_le_of_lt (Nat.sub_le _ _) t.isLt)).2.2.2.2.1 (ix2 0 n) + ∑ r, bdgt m c t r n := by
  rw [outsAt0_B m c t h0]
  dsimp only
  frame_out
  exact dgt_at _ _ _ _ _ n
theorem first11 (h0 : t.val % 16 = 0) : (outsAt0 m c t.val t.isLt).2.2.2.2.2 (ix2 0 n) = ∑ r, bdz m c t r n := by
  rw [outsAt0_A m c t h0]
  dsimp only
  frame_out
  refine (db_at _ _ _ _ _ _ n).trans ?_
  pointwise [k0_pay19]
theorem next11 (h0 : ¬t.val % 16 = 0) : (outsAt0 m c t.val t.isLt).2.2.2.2.2 (ix2 0 n)
    = (outsAt0 m c (t.val - 1) (Nat.lt_of_le_of_lt (Nat.sub_le _ _) t.isLt)).2.2.2.2.2 (ix2 0 n) + ∑ r, bdz m c t r n := by
  rw [outsAt0_B m c t h0]
  dsimp only
  frame_out
  exact db_at _ _ _ _ _ _ n
end

/-! ## The arrays -/

/-- A row's gradients, of the whole arrays. -/
abbrev dzAt (R : Fin 4096) : Fin 1024 → EReal := dz tn (row (Y m c) R) (vec (GT m c)) (vec (B m c)) (row (DXO m c) R) (mat (W m c))
abbrev dgtAt (R : Fin 4096) : Fin 1024 → EReal := dgt tn (row (Y m c) R) (vec (B m c)) (row (DXO m c) R) (mat (W m c))
def res7 : S4096x1024.Idx → EReal := fun i => dy tn (row (Y m c) (i 0)) (vec (GT m c)) (vec (B m c)) (row (DXO m c) (i 0)) (mat (W m c)) (i 1)
def res8 : S4096x1024.Idx → EReal := fun i => dzAt m c (i 0) (i 1)
def res9 : S4096x1024.Idx → EReal := fun i => act tn (row (Y m c) (i 0) (i 1))
def res10 : S1x1024.Idx → EReal := fun i => ∑ R, dgtAt m c R (i 1)
def res11 : S1x1024.Idx → EReal := fun i => ∑ R, dzAt m c R (i 1)

theorem dz_in (t : Fin cfg0.N) (r : Fin 256) : bdz m c t r = dzAt m c (at256 ⟨t.val, t.isLt.trans_eq N_0⟩ r) := by
  unfold bdz
  rw [in1, in2, in3, in4, in5]
theorem dgt_in (t : Fin cfg0.N) (r : Fin 256) : bdgt m c t r = dgtAt m c (at256 ⟨t.val, t.isLt.trans_eq N_0⟩ r) := by
  unfold bdgt
  rw [in1, in2, in4, in5]

theorem arr6 : (dats m 0 c).arrAt 6 cfg0.N = DXO m c := by
  refine (dats m 0 c).arrAt_eq_of_covers 6 (DXO m c) (by decide +kernel) fun t hf y => ?_
  blk_simp
  rw [after0_6]
  obtain ⟨h, -⟩ := idxOut t
  obtain ⟨r, d, rfl⟩ : ∃ (r : Fin 256) (d : Fin 1024), y = ix2 r d := ⟨y 0, y 1, (ix2_eta (n0 := 256) (n1 := 1024) y).symm⟩
  have e : (win0_6.blk t).view.emb (ix2 r d) = ix2 (n0 := 4096) (at256 ⟨t.val, t.isLt.trans_eq N_0⟩ r) d :=
    row_emb ((Pipeline.Window.rect_emb_val win0_6 t (ix2 r d) 0).trans (by rw [h]; rfl)) ((Pipeline.Window.rect_emb_val win0_6 t (ix2 r d) 1).trans (by rw [h]; rfl))
  rw [e]
  exact (pt6 m c t r d).trans (congrFun (in2 m c t r) d)
theorem arr7 : (dats m 0 c).arrAt 7 cfg0.N = res7 m c := by
  refine (dats m 0 c).arrAt_eq_of_covers 7 (res7 m c) (by decide +kernel) fun t hf y => ?_
  blk_simp
  rw [after0_7]
  obtain ⟨-, h, -⟩ := idxOut t
  obtain ⟨r, d, rfl⟩ : ∃ (r : Fin 256) (d : Fin 1024), y = ix2 r d := ⟨y 0, y 1, (ix2_eta (n0 := 256) (n1 := 1024) y).symm⟩
  have e : (win0_7.blk t).view.emb (ix2 r d) = ix2 (n0 := 4096) (at256 ⟨t.val, t.isLt.trans_eq N_0⟩ r) d :=
    row_emb ((Pipeline.Window.rect_emb_val win0_7 t (ix2 r d) 0).trans (by rw [h]; rfl)) ((Pipeline.Window.rect_emb_val win0_7 t (ix2 r d) 1).trans (by rw [h]; rfl))
  rw [e]
  refine (pt7 m c t r d).trans ?_
  rw [in1, in2, in3, in4, in5]
  rfl
theorem arr8 : (dats m 0 c).arrAt 8 cfg0.N = res8 m c := by
  refine (dats m 0 c).arrAt_eq_of_covers 8 (res8 m c) (by decide +kernel) fun t hf y => ?_
  blk_simp
  rw [after0_8]
  obtain ⟨-, -, h, -⟩ := idxOut t
  obtain ⟨r, d, rfl⟩ : ∃ (r : Fin 256) (d : Fin 1024), y = ix2 r d := ⟨y 0, y 1, (ix2_eta (n0 := 256) (n1 := 1024) y).symm⟩
  have e : (win0_8.blk t).view.emb (ix2 r d) = ix2 (n0 := 4096) (at256 ⟨t.val, t.isLt.trans_eq N_0⟩ r) d :=
    row_emb ((Pipeline.Window.rect_emb_val win0_8 t (ix2 r d) 0).trans (by rw [h]; rfl)) ((Pipeline.Window.rect_emb_val win0_8 t (ix2 r d) 1).trans (by rw [h]; rfl))
  rw [e]
  exact (pt8 m c t r d).trans (congrFun (dz_in m c t r) d)
theorem arr9 : (dats m 0 c).arrAt 9 cfg0.N = res9 m c := by
  refine (dats m 0 c).arrAt_eq_of_covers 9 (res9 m c) (by decide +kernel) fun t hf y => ?_
  blk_simp
  rw [after0_9]
  obtain ⟨-, -, -, h, -⟩ := idxOut t
  obtain ⟨r, d, rfl⟩ : ∃ (r : Fin 256) (d : Fin 1024), y = ix2 r d := ⟨y 0, y 1, (ix2_eta (n0 := 256) (n1 := 1024) y).symm⟩
  have e : (win0_9.blk t).view.emb (ix2 r d) = ix2 (n0 := 4096) (at256 ⟨t.val, t.isLt.trans_eq N_0⟩ r) d :=
    row_emb ((Pipeline.Window.rect_emb_val win0_9 t (ix2 r d) 0).trans (by rw [h]; rfl)) ((Pipeline.Window.rect_emb_val win0_9 t (ix2 r d) 1).trans (by rw [h]; rfl))
  rw [e]
  exact (pt9 m c t r d).trans (congrArg (act tn) (congrFun (in1 m c t r) d))
theorem arr10 : (dats m 0 c).arrAt 10 cfg0.N = res10 m c := by
  refine (dats m 0 c).arrAt_eq_of_covers 10 (res10 m c) (by decide +kernel) fun t hf y => ?_
  have ht : t.val % 16 = 15 := (flush0_10 t).mp hf
  blk_simp
  rw [after0_10]
  obtain ⟨-, -, -, -, h, -⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win0_10.blk t).view.emb (ix2 0 d) = ix2 (n0 := 1) 0 d :=
    vec_emb ((Pipeline.Window.rect_emb_val win0_10 t (ix2 0 d) 1).trans (by rw [h]; rfl))
  rw [e]
  have k (t : Fin cfg0.N) := Finset.sum_congr rfl fun (r : Fin 256) (_ : r ∈ Finset.univ) => congrFun (dgt_in m c t r) d
  exact sum_points N_0 (fun R => dgtAt m c R d) (fun t => (outsAt0 m c t.val t.isLt).2.2.2.2.1 (ix2 0 d))
    (fun t h0 => (first10 m c t d h0).trans (k t)) (fun t h0 => (next10 m c t d h0).trans (congrArg (_ + ·) (k t))) t ht
theorem arr11 : (dats m 0 c).arrAt 11 cfg0.N = res11 m c := by
  refine (dats m 0 c).arrAt_eq_of_covers 11 (res11 m c) (by decide +kernel) fun t hf y => ?_
  have ht : t.val % 16 = 15 := (flush0_11 t).mp hf
  blk_simp
  rw [after0_11]
  obtain ⟨-, -, -, -, -, h⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win0_11.blk t).view.emb (ix2 0 d) = ix2 (n0 := 1) 0 d :=
    vec_emb ((Pipeline.Window.rect_emb_val win0_11 t (ix2 0 d) 1).trans (by rw [h]; rfl))
  rw [e]
  have k (t : Fin cfg0.N) := Finset.sum_congr rfl fun (r : Fin 256) (_ : r ∈ Finset.univ) => congrFun (dz_in m c t r) d
  exact sum_points N_0 (fun R => dzAt m c R d) (fun t => (outsAt0 m c t.val t.isLt).2.2.2.2.2 (ix2 0 d))
    (fun t h0 => (first11 m c t d h0).trans (k t)) (fun t h0 => (next11 m c t d h0).trans (congrArg (_ + ·) (k t))) t ht

end Cert.GluBwdIdeal.Back
end
-- ==== Proof.GluBwdAlgebraic.lean ====
/-
  The reference's gradients of the gated unit at an element, and that the kernel leaves the same ones.
-/
module

public import proofs.«01_k».proof.Defs
public import proofs.«01_k».proof.Proof.Gen.GluBwdReferenceIdeal.Run
public import proofs.«01_k».proof.Proof.GluBwd

@[expose] public section

set_option maxRecDepth 16384

noncomputable section

namespace Cert.GluBwdReferenceIdeal.Back

open Idealize.ShloMosaic Idealize.ShloMosaic.TcCoe Idealize.SL.Sem Idealize.ShloMosaic.StableHlo
open Cert.GluBwdReferenceIdeal Cert.GluBwdReferenceIdeal.Gen Cert.Tiles Cert.SegMath

section
variable (y dxo : FVec Ideal S4096x1024 .f32) (gt b : FVec Ideal S1x1024 .f32) (w : FVec Ideal S1024x1024 .f32) (R : Fin 4096) (n : Fin 1024)

/-- The tangent, the activation, the gate, and the gradients as the host writes them. -/
def ones : FVec Ideal S4096x1024 .f32 := broadcastInDim S4096x1024 ![] bcast_S_S4096x1024 (constant S_ .f32 0x3F800000#32)
def htn : FVec Ideal S4096x1024 .f32 :=
  Host.tanh (mulf (broadcastInDim S4096x1024 ![] bcast_S_S4096x1024 (constant S_ .f32 0x3F4C422A#32))
    (addf y (mulf (broadcastInDim S4096x1024 ![] bcast_S_S4096x1024 (constant S_ .f32 0x3D372713#32)) (mulf (mulf y y) y))))
def hhalf : FVec Ideal S4096x1024 .f32 := mulf (broadcastInDim S4096x1024 ![] bcast_S_S4096x1024 (constant S_ .f32 0x3F000000#32)) (addf ones (htn y))
def hact : FVec Ideal S4096x1024 .f32 := mulf y (hhalf y)
def hgate : FVec Ideal S4096x1024 .f32 :=
  Host.divf ones (addf ones (Host.exp (Host.negf (addf (addf (Host.dotGeneral dot_S4096x1024_S1024x1024_S4096x1024_1_0_0_1_n_n none (hact y) w)
    (broadcastInDim S4096x1024 ![0, 1] bcast_S1x1024_S4096x1024_0_1 b)) (broadcastInDim S4096x1024 ![] bcast_S_S4096x1024 (constant S_ .f32 0x00000000#32))))))
def hdu : FVec Ideal S4096x1024 .f32 := mulf (broadcastInDim S4096x1024 ![0, 1] bcast_S1x1024_S4096x1024_0_1 gt) (shapeCast _ dxo shapeCasts_S4096x1024_S4096x1024)
def hdz : FVec Ideal S4096x1024 .f32 := mulf (mulf (hact y) (hdu dxo gt)) (mulf (hgate y b w) (subf ones (hgate y b w)))
def hda : FVec Ideal S4096x1024 .f32 :=
  addf (mulf (hdu dxo gt) (hgate y b w)) (Host.dotGeneral dot_S4096x1024_S1024x1024_S4096x1024_1_1_0_0_n_n none (hdz y dxo gt b w) w)
def hdv : FVec Ideal S4096x1024 .f32 :=
  mulf (broadcastInDim S4096x1024 ![] bcast_S_S4096x1024 (constant S_ .f32 0x3F4C422A#32))
    (mulf (mulf (broadcastInDim S4096x1024 ![] bcast_S_S4096x1024 (constant S_ .f32 0x3F000000#32)) (mulf y (hda y dxo gt b w))) (mulf (addf ones (htn y)) (subf ones (htn y))))
def hdy : FVec Ideal S4096x1024 .f32 :=
  addf (addf (mulf (hda y dxo gt b w) (hhalf y)) (hdv y dxo gt b w))
    (mulf (mulf (broadcastInDim S4096x1024 ![] bcast_S_S4096x1024 (constant S_ .f32 0x3D372713#32)) (hdv y dxo gt b w))
      (mulf (broadcastInDim S4096x1024 ![] bcast_S_S4096x1024 (constant S_ .f32 0x40400000#32)) (mulf y y)))
def hdgt : FVec Ideal S1x1024 .f32 :=
  shapeCast _ (Host.reduceAdd (mulf (shapeCast _ dxo shapeCasts_S4096x1024_S4096x1024) (mulf (hact y) (hgate y b w))) (constant S_ .f32 0x00000000#32) reducesTo_S4096x1024_S1024_d0 h_S_) shapeCasts_S1024_S1x1024
def hdb : FVec Ideal S1x1024 .f32 :=
  shapeCast _ (Host.reduceAdd (hdz y dxo gt b w) (constant S_ .f32 0x00000000#32) reducesTo_S4096x1024_S1024_d0 h_S_) shapeCasts_S1024_S1x1024

theorem htn_at : htn y (ix2 R n) = tn (y (ix2 R n)) := by
  rw [← tn'_eq]
  pointwise [htn]
  rfl
theorem hhalf_at : hhalf y (ix2 R n) = H * (1 + tn (y (ix2 R n))) := by
  rw [← htn_at]
  pointwise [hhalf, ones]
theorem hact_at : hact y (ix2 R n) = act tn (y (ix2 R n)) := by
  unfold act
  rw [← hhalf_at]
  pointwise [hact]
theorem hgate_at : hgate y b w (ix2 R n) = gate tn (row y R) (vec b) (mat w) n := by
  unfold gate
  simp only [← hact_at]
  pointwise [hgate, ones]
  rfl
theorem hdz_at : hdz y dxo gt b w (ix2 R n) = dz tn (row y R) (vec gt) (vec b) (row dxo R) (mat w) n := by
  unfold dz du
  rw [← hact_at, ← hgate_at]
  pointwise [hdz, hdu, ones]
theorem hda_at : hda y dxo gt b w (ix2 R n) = da tn (row y R) (vec gt) (vec b) (row dxo R) (mat w) n := by
  unfold da du
  simp only [← hgate_at, ← hdz_at]
  pointwise [hda, hdu]
theorem hdv_at : hdv y dxo gt b w (ix2 R n) = dv tn (row y R) (vec gt) (vec b) (row dxo R) (mat w) n := by
  unfold dv
  rw [← hda_at, ← htn_at]
  pointwise [hdv, ones]
theorem hdy_at : hdy y dxo gt b w (ix2 R n) = dy tn (row y R) (vec gt) (vec b) (row dxo R) (mat w) n := by
  unfold dy
  rw [← hda_at, ← hdv_at, ← hhalf_at]
  pointwise [hdy]
theorem hdgt_at : hdgt y dxo b w (ix2 0 n) = ∑ R, dgt tn (row y R) (vec b) (row dxo R) (mat w) n := by
  unfold dgt
  simp only [← hact_at, ← hgate_at]
  pointwise [hdgt]
theorem hdb_at : hdb y dxo gt b w (ix2 0 n) = ∑ R, dz tn (row y R) (vec gt) (vec b) (row dxo R) (mat w) n := by
  simp only [← hdz_at]
  pointwise [hdb]
end

section
variable (m : (ℓ : Loc nD τ sig) → Buf (Elt Ideal) ℓ) (c : Dev nD)
/-- The gradient of the unit's input is the composed one. -/
theorem res63 : Value.res_main_v63 m c = hdy (m ((c.tc : Thread nD τ).loc main_arg1)) (m ((c.tc : Thread nD τ).loc main_arg5)) (m ((c.tc : Thread nD τ).loc main_arg2))
    (m ((c.tc : Thread nD τ).loc main_arg3)) (m ((c.tc : Thread nD τ).loc main_arg4)) := by
  unfold Value.res_main_v63
  rfl
end

end Cert.GluBwdReferenceIdeal.Back

namespace Cert.Proof

open Idealize.ShloMosaic Idealize.ShloMosaic.TcCoe Idealize.SL.Sem
open Cert.GluBwdIdeal Cert.GluBwdIdeal.Back Cert.Tiles Cert.GluBwdReferenceIdeal.Back

section
variable (m : (ℓ : Loc nD τ sig) → Buf (Elt Ideal) ℓ) (c : Dev nD)
/-- The reference's terms are the kernel's arrays. -/
theorem glu_bwd7 : hdy (Y m c) (DXO m c) (GT m c) (B m c) (W m c) = res7 m c := rows_ext fun _ _ => hdy_at _ _ _ _ _ _ _
theorem glu_bwd8 : hdz (Y m c) (DXO m c) (GT m c) (B m c) (W m c) = res8 m c := rows_ext fun _ _ => hdz_at _ _ _ _ _ _ _
theorem glu_bwd9 : hact (Y m c) = res9 m c := rows_ext fun _ _ => hact_at _ _ _
theorem glu_bwd10 : hdgt (Y m c) (DXO m c) (B m c) (W m c) = res10 m c := vec_ext fun _ => hdgt_at _ _ _ _ _
theorem glu_bwd11 : hdb (Y m c) (DXO m c) (GT m c) (B m c) (W m c) = res11 m c := vec_ext fun _ => hdb_at _ _ _ _ _ _
end

/-- The kernel and the reference leave the same six gradients, of any arguments. -/
theorem glu_bwd_algebraic : Cert.algebraic_GluBwdIdeal_GluBwdReferenceIdeal := fun m g m' g' _ e => by
  refine ⟨fun c => DXO m c, fun c => res7 m c, fun c => res8 m c, fun c => res9 m c, fun c => res10 m c, fun c => res11 m c, ?_, ?_⟩
  · refine (θ_run _ _ _).mono (fun r h c => ?_) (θ_run_and (Gen.run_main m g) (Gen.frame m g))
    obtain ⟨h, ⟨hf, -⟩⟩ := h
    exact ⟨((h c).1 6).trans (arr6 m c), ((h c).1 7).trans (arr7 m c), ((h c).1 8).trans (arr8 m c), ((h c).1 9).trans (arr9 m c),
      ((h c).1 10).trans (arr10 m c), ((h c).1 11).trans (arr11 m c), hf c⟩
  · refine (θ_run _ _ _).mono (fun r h c => ?_) (Cert.GluBwdReferenceIdeal.Value.run (F := Ideal) m' g')
    obtain ⟨h6, h7, h8, h9, h10, h11, hf⟩ := h c
    obtain ⟨a0, a1, a2, a3, a4, a5⟩ := e c
    refine ⟨h6.trans ?_, h7.trans ((res63 m' c).trans (Eq.trans ?_ (glu_bwd7 m c))), h8.trans (Eq.trans ?_ (glu_bwd8 m c)), h9.trans (Eq.trans ?_ (glu_bwd9 m c)),
      h10.trans (Eq.trans ?_ (glu_bwd10 m c)), h11.trans (Eq.trans ?_ (glu_bwd11 m c)), hf⟩
    · rw [a5]
    · rw [a1, a2, a3, a4, a5]
    · rw [a1, a2, a3, a4, a5]; rfl
    · rw [a1]; rfl
    · rw [a1, a3, a4, a5]; rfl
    · rw [a1, a2, a3, a4, a5]; rfl

end Cert.Proof
end
-- ==== Proof.OutFwd.lean ====
/-
  The output projection's forward call: what the kernel's result array holds at the end, and that the reference's is the same.
-/
module

public import proofs.«01_k».proof.Defs
public import proofs.«01_k».proof.Proof.Gen.OutFwdIdeal.Frame
public import proofs.«01_k».proof.Proof.Gen.OutFwdReferenceIdeal.Run
public import proofs.«01_k».proof.Proof.Tiles
public import Idealize.ShloMosaic.Lib.Claim
public import Idealize.ShloMosaic.Lib.StableHlo.RunRead

@[expose] public section

set_option maxRecDepth 16384

noncomputable section

namespace Cert.OutFwdIdeal.Fore

open Idealize.ShloMosaic Idealize.ShloMosaic.TcCoe Idealize.SL.Sem
open Cert.OutFwdIdeal Cert.OutFwdIdeal.Gen Cert.Tiles

variable (m : (ℓ : Loc nD τ sig) → Buf (Elt Ideal) ℓ) (c : Dev nD)

/-! ## The operands -/

/-- The arguments the call reads: the rows to add to, the projection's input, the gating vector, the weight. -/
abbrev X : S4096x1024.Idx → EReal := m ((c.tc : Thread nD τ).loc main_arg0)
abbrev O : S4096x1024.Idx → EReal := m ((c.tc : Thread nD τ).loc main_arg1)
abbrev GT : S1x1024.Idx → EReal := m ((c.tc : Thread nD τ).loc main_arg2)
abbrev W : S1024x1024.Idx → EReal := m ((c.tc : Thread nD τ).loc main_arg3)

/-- The weight as the call finds it. -/
abbrev arrW : S1024x1024.Idx → EReal := V m c main_v0
theorem entryW : arrW m c = W m c := by
  unfold arrW
  unfold_abbrev_sides
  after_reads_simp
  rfl

section
variable (t : Fin cfg0.N)
abbrev b0 : Vec Ideal S256x1024 .f32 := iblk m c 0 t
abbrev b1 : Vec Ideal S256x1024 .f32 := iblk m c 1 t
abbrev b2 : Vec Ideal S1x1024 .f32 := iblk m c 2 t
abbrev b3 : Vec Ideal S1024x1024 .bf16 := iblk m c 3 t
end

theorem idx : ∀ t : Fin cfg0.N,
    win0_0.index t = ![t.val, 0] ∧ win0_1.index t = ![t.val, 0] ∧ win0_2.index t = ![0, 0] ∧ win0_3.index t = ![0, 0] ∧ win0_4.index t = ![t.val, 0] := by
  decide +kernel

section
variable (t : Fin cfg0.N) (r : Fin 256)
theorem in0 : row (b0 m c t) r = row (X m c) (at256 ⟨t.val, t.isLt.trans_eq N_0⟩ r) := by
  obtain ⟨h, -⟩ := idx t
  funext d
  unfold row b0 X at256
  rw [← V_main_arg0 m c]
  blk_ext [iblk, h]
theorem in1 : row (b1 m c t) r = row (O m c) (at256 ⟨t.val, t.isLt.trans_eq N_0⟩ r) := by
  obtain ⟨-, h, -⟩ := idx t
  funext d
  unfold row b1 O at256
  rw [← V_main_arg1 m c]
  blk_ext [iblk, h]
theorem in2 : vec (b2 m c t) = vec (GT m c) := by
  obtain ⟨-, -, h, -⟩ := idx t
  funext d
  unfold vec b2 GT
  rw [← V_main_arg2 m c]
  blk_ext [iblk, h]
theorem in3 : mat (b3 m c t) = mat (W m c) := by
  obtain ⟨-, -, -, h, -⟩ := idx t
  rw [← entryW]
  funext n d
  unfold mat b3 arrW
  blk_ext [iblk, h]
end

/-! ## The array -/

/-- A row of the result. -/
def out (x o gt : Fin 1024 → EReal) (w : Fin 1024 → Fin 1024 → EReal) (n : Fin 1024) : EReal := x n + gt n * ∑ k, o k * w k n

theorem pt (x0 x1 : Vec Ideal S256x1024 .f32) (x2 : Vec Ideal S1x1024 .f32) (x3 : Vec Ideal S1024x1024 .bf16) (r : Fin 256) (n : Fin 1024) :
    out0_4 x0 x1 x2 x3 (ix2 r n) = out (row x0 r) (row x1 r) (vec x2) (mat x3) n := by
  unfold out
  frame_out
  pointwise [k0_pay1]

def res : S4096x1024.Idx → EReal := fun i => out (row (X m c) (i 0)) (row (O m c) (i 0)) (vec (GT m c)) (mat (W m c)) (i 1)

theorem arr : (dats m 0 c).arrAt 4 cfg0.N = res m c := by
  refine (dats m 0 c).arrAt_eq_of_covers 4 (res m c) (by decide +kernel) fun t hf y => ?_
  blk_simp
  rw [after0_4]
  obtain ⟨-, -, -, -, h⟩ := idx t
  obtain ⟨r, d, rfl⟩ : ∃ (r : Fin 256) (d : Fin 1024), y = ix2 r d := ⟨y 0, y 1, (ix2_eta (n0 := 256) (n1 := 1024) y).symm⟩
  have e : (win0_4.blk t).view.emb (ix2 r d) = ix2 (n0 := 4096) (at256 ⟨t.val, t.isLt.trans_eq N_0⟩ r) d :=
    row_emb ((Pipeline.Window.rect_emb_val win0_4 t (ix2 r d) 0).trans (by rw [h]; rfl)) ((Pipeline.Window.rect_emb_val win0_4 t (ix2 r d) 1).trans (by rw [h]; rfl))
  rw [e]
  refine (pt (b0 m c t) (b1 m c t) (b2 m c t) (b3 m c t) r d).trans ?_
  rw [in0, in1, in2, in3]
  rfl

end Cert.OutFwdIdeal.Fore

/-! ## The reference -/

namespace Cert.OutFwdReferenceIdeal.Fore

open Idealize.ShloMosaic Idealize.ShloMosaic.TcCoe Idealize.SL.Sem Idealize.ShloMosaic.StableHlo
open Cert.OutFwdReferenceIdeal Cert.OutFwdReferenceIdeal.Gen Cert.OutFwdIdeal.Fore Cert.Tiles

/-- The result as the host writes it. -/
def hout (x o : FVec Ideal S4096x1024 .f32) (gt : FVec Ideal S1x1024 .f32) (w : FVec Ideal S1024x1024 .f32) : FVec Ideal S4096x1024 .f32 :=
  addf x (mulf (broadcastInDim S4096x1024 ![0, 1] bcast_S1x1024_S4096x1024_0_1 gt)
    (addf (Host.dotGeneral dot_S4096x1024_S1024x1024_S4096x1024_1_0_0_1_n_n none o w) (broadcastInDim S4096x1024 ![] bcast_S_S4096x1024 (constant S_ .f32 0x00000000#32))))

theorem hout_at (x o : FVec Ideal S4096x1024 .f32) (gt : FVec Ideal S1x1024 .f32) (w : FVec Ideal S1024x1024 .f32) (R : Fin 4096) (n : Fin 1024) :
    hout x o gt w (ix2 R n) = out (row x R) (row o R) (vec gt) (mat w) n := by
  unfold out
  pointwise [hout]

end Cert.OutFwdReferenceIdeal.Fore

namespace Cert.Proof

open Idealize.ShloMosaic Idealize.ShloMosaic.TcCoe Idealize.SL.Sem
open Cert.OutFwdIdeal Cert.OutFwdIdeal.Fore Cert.Tiles Cert.OutFwdReferenceIdeal.Fore

theorem out_fwd_eq (m : (ℓ : Loc nD τ sig) → Buf (Elt Ideal) ℓ) (c : Dev nD) : hout (X m c) (O m c) (GT m c) (W m c) = res m c := rows_ext fun _ _ => hout_at _ _ _ _ _ _

/-- The kernel and the reference leave the same rows, of any arguments. -/
theorem out_fwd_algebraic : Cert.algebraic_OutFwdIdeal_OutFwdReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 4).trans (arr m c), hf c⟩
  · refine (θ_run _ _ _).mono (fun r h c => ?_) (Cert.OutFwdReferenceIdeal.Value.run (F := Ideal) m' g')
    obtain ⟨h4, hf⟩ := h c
    obtain ⟨a0, a1, a2, a3⟩ := e c
    refine ⟨h4.trans (Eq.trans ?_ (out_fwd_eq m c)), hf⟩
    rw [a0, a1, a2, a3]
    rfl

end Cert.Proof
end
-- ==== Proof.OutBwd.lean ====
/-
  The output projection's backward call: what the kernel's five result arrays hold at the end, and that the reference's are
  the same.
-/
module

public import proofs.«01_k».proof.Defs
public import proofs.«01_k».proof.Proof.Gen.OutBwdIdeal.Frame
public import proofs.«01_k».proof.Proof.Gen.OutBwdReferenceIdeal.Run
public import proofs.«01_k».proof.Proof.Tiles
public import Idealize.ShloMosaic.Lib.Claim
public import Idealize.ShloMosaic.Lib.StableHlo.RunRead

@[expose] public section

set_option maxRecDepth 16384

noncomputable section

namespace Cert.OutBwdIdeal.Back

open Idealize.ShloMosaic Idealize.ShloMosaic.TcCoe Idealize.SL.Sem
open Cert.OutBwdIdeal Cert.OutBwdIdeal.Gen Cert.Tiles

variable (m : (ℓ : Loc nD τ sig) → Buf (Elt Ideal) ℓ) (c : Dev nD)

/-! ## The operands -/

/-- The arguments the call reads: the projection's input, the gating vector, the weight, the gradient. -/
abbrev X : S4096x1024.Idx → EReal := m ((c.tc : Thread nD τ).loc main_arg1)
abbrev GT : S1x1024.Idx → EReal := m ((c.tc : Thread nD τ).loc main_arg2)
abbrev W : S1024x1024.Idx → EReal := m ((c.tc : Thread nD τ).loc main_arg3)
abbrev DXO : S4096x1024.Idx → EReal := m ((c.tc : Thread nD τ).loc main_arg4)

/-- The weight as the call finds it. -/
abbrev arrW : S1024x1024.Idx → EReal := V m c main_v0
theorem entryW : arrW m c = W m c := by
  unfold arrW
  unfold_abbrev_sides
  after_reads_simp
  rfl

section
variable (t : Fin cfg0.N)
abbrev b1 : Vec Ideal S256x1024 .f32 := iblk m c 1 t
abbrev b2 : Vec Ideal S256x1024 .f32 := iblk m c 2 t
abbrev b3 : Vec Ideal S1x1024 .f32 := iblk m c 3 t
abbrev b4 : Vec Ideal S1024x1024 .bf16 := iblk m c 4 t
end

theorem idxIn : ∀ t : Fin cfg0.N,
    win0_1.index t = ![t.val, 0] ∧ win0_2.index t = ![t.val, 0] ∧ win0_3.index t = ![0, 0] ∧ win0_4.index t = ![0, 0] := by
  decide +kernel
theorem idxOut : ∀ t : Fin cfg0.N,
    win0_5.index t = ![t.val, 0] ∧ win0_6.index t = ![t.val, 0] ∧ win0_7.index t = ![t.val, 0] ∧ win0_8.index t = ![t.val, 0]
      ∧ win0_9.index t = ![0, 0] := by
  decide +kernel

section
variable (t : Fin cfg0.N) (r : Fin 256)
theorem in1 : row (b1 m c t) r = row (X m c) (at256 ⟨t.val, t.isLt.trans_eq N_0⟩ r) := by
  obtain ⟨h, -⟩ := idxIn t
  funext d
  unfold row b1 X at256
  rw [← V_main_arg1 m c]
  blk_ext [iblk, h]
theorem in2 : row (b2 m c t) r = row (DXO m c) (at256 ⟨t.val, t.isLt.trans_eq N_0⟩ r) := by
  obtain ⟨-, h, -⟩ := idxIn t
  funext d
  unfold row b2 DXO at256
  rw [← V_main_arg4 m c]
  blk_ext [iblk, h]
theorem in3 : vec (b3 m c t) = vec (GT m c) := by
  obtain ⟨-, -, h, -⟩ := idxIn t
  funext d
  unfold vec b3 GT
  rw [← V_main_arg2 m c]
  blk_ext [iblk, h]
theorem in4 : mat (b4 m c t) = mat (W m c) := by
  obtain ⟨-, -, -, h⟩ := idxIn t
  rw [← entryW]
  funext n d
  unfold mat b4 arrW
  blk_ext [iblk, h]
end

/-! ## One row -/

/-- The gradients of the projection and of its input, and the row's term of the gating vector's gradient. -/
def dz (gt dxo : Fin 1024 → EReal) (n : Fin 1024) : EReal := gt n * dxo n
def dx (gt dxo : Fin 1024 → EReal) (w : Fin 1024 → Fin 1024 → EReal) (n : Fin 1024) : EReal := ∑ k, dz gt dxo k * w n k
def dgt (x dxo : Fin 1024 → EReal) (w : Fin 1024 → Fin 1024 → EReal) (n : Fin 1024) : EReal := dxo n * ∑ k, x k * w k n

section
variable (t : Fin cfg0.N) (r : Fin 256) (n : Fin 1024)

theorem pt5 : (outsAt0 m c t.val t.isLt).1 (ix2 r n) = b2 m c t (ix2 r n) := by
  by_cases h0 : t.val % 16 = 0
  · rw [outsAt0_A m c t h0]
    dsimp only
    frame_out
  · rw [outsAt0_B m c t h0]
    dsimp only
    frame_out
theorem pt6 : (outsAt0 m c t.val t.isLt).2.1 (ix2 r n) = dx (vec (b3 m c t)) (row (b2 m c t) r) (mat (b4 m c t)) n := by
  by_cases h0 : t.val % 16 = 0
  · rw [outsAt0_A m c t h0]
    dsimp only
    frame_out
    unfold dx dz
    pointwise [k0_pay5, k0_pay4, k0_pay3, k0_pay1]
  · rw [outsAt0_B m c t h0]
    dsimp only
    frame_out
    unfold dx dz
    pointwise [k0_pay5, k0_pay4, k0_pay3, k0_pay1]
theorem pt7 : (outsAt0 m c t.val t.isLt).2.2.1 (ix2 r n) = dz (vec (b3 m c t)) (row (b2 m c t) r) n := by
  by_cases h0 : t.val % 16 = 0
  · rw [outsAt0_A m c t h0]
    dsimp only
    frame_out
    pointwise [k0_pay6, k0_pay4, k0_pay3]
    rfl
  · rw [outsAt0_B m c t h0]
    dsimp only
    frame_out
    pointwise [k0_pay6, k0_pay4, k0_pay3]
    rfl
theorem pt8 : (outsAt0 m c t.val t.isLt).2.2.2.1 (ix2 r n) = b1 m c t (ix2 r n) := by
  by_cases h0 : t.val % 16 = 0
  · rw [outsAt0_A m c t h0]
    dsimp only
    frame_out
    pointwise [k0_pay2]
  · rw [outsAt0_B m c t h0]
    dsimp only
    frame_out
    pointwise [k0_pay2]

/-- The sums over the rows: the first point's, and what a later point adds. -/
theorem first9 (h0 : t.val % 16 = 0) : (outsAt0 m c t.val t.isLt).2.2.2.2 (ix2 0 n) = ∑ r, dgt (row (b1 m c t) r) (row (b2 m c t) r) (mat (b4 m c t)) n := by
  unfold dgt
  rw [outsAt0_A m c t h0]
  dsimp only
  frame_out
  pointwise [k0_pay8, k0_pay7, k0_pay3, k0_pay1]
theorem next9 (h0 : ¬t.val % 16 = 0) : (outsAt0 m c t.val t.isLt).2.2.2.2 (ix2 0 n)
    = (outsAt0 m c (t.val - 1) (Nat.lt_of_le_of_lt (Nat.sub_le _ _) t.isLt)).2.2.2.2 (ix2 0 n)
      + ∑ r, dgt (row (b1 m c t) r) (row (b2 m c t) r) (mat (b4 m c t)) n := by
  unfold dgt
  rw [outsAt0_B m c t h0]
  dsimp only
  frame_out
  pointwise [k0_pay8, k0_pay3, k0_pay1]
end

/-! ## The arrays -/

def res6 : S4096x1024.Idx → EReal := fun i => dx (vec (GT m c)) (row (DXO m c) (i 0)) (mat (W m c)) (i 1)
def res7 : S4096x1024.Idx → EReal := fun i => dz (vec (GT m c)) (row (DXO m c) (i 0)) (i 1)
def res9 : S1x1024.Idx → EReal := fun i => ∑ R, dgt (row (X m c) R) (row (DXO m c) R) (mat (W m c)) (i 1)

theorem arr5 : (dats m 0 c).arrAt 5 cfg0.N = DXO m c := by
  refine (dats m 0 c).arrAt_eq_of_covers 5 (DXO m c) (by decide +kernel) fun t hf y => ?_
  blk_simp
  rw [after0_5]
  obtain ⟨h, -⟩ := idxOut t
  obtain ⟨r, d, rfl⟩ : ∃ (r : Fin 256) (d : Fin 1024), y = ix2 r d := ⟨y 0, y 1, (ix2_eta (n0 := 256) (n1 := 1024) y).symm⟩
  have e : (win0_5.blk t).view.emb (ix2 r d) = ix2 (n0 := 4096) (at256 ⟨t.val, t.isLt.trans_eq N_0⟩ r) d :=
    row_emb ((Pipeline.Window.rect_emb_val win0_5 t (ix2 r d) 0).trans (by rw [h]; rfl)) ((Pipeline.Window.rect_emb_val win0_5 t (ix2 r d) 1).trans (by rw [h]; rfl))
  rw [e]
  exact (pt5 m c t r d).trans (congrFun (in2 m c t r) d)
theorem arr6 : (dats m 0 c).arrAt 6 cfg0.N = res6 m c := by
  refine (dats m 0 c).arrAt_eq_of_covers 6 (res6 m c) (by decide +kernel) fun t hf y => ?_
  blk_simp
  rw [after0_6]
  obtain ⟨-, h, -⟩ := idxOut t
  obtain ⟨r, d, rfl⟩ : ∃ (r : Fin 256) (d : Fin 1024), y = ix2 r d := ⟨y 0, y 1, (ix2_eta (n0 := 256) (n1 := 1024) y).symm⟩
  have e : (win0_6.blk t).view.emb (ix2 r d) = ix2 (n0 := 4096) (at256 ⟨t.val, t.isLt.trans_eq N_0⟩ r) d :=
    row_emb ((Pipeline.Window.rect_emb_val win0_6 t (ix2 r d) 0).trans (by rw [h]; rfl)) ((Pipeline.Window.rect_emb_val win0_6 t (ix2 r d) 1).trans (by rw [h]; rfl))
  rw [e]
  refine (pt6 m c t r d).trans ?_
  rw [in2, in3, in4]
  rfl
theorem arr7 : (dats m 0 c).arrAt 7 cfg0.N = res7 m c := by
  refine (dats m 0 c).arrAt_eq_of_covers 7 (res7 m c) (by decide +kernel) fun t hf y => ?_
  blk_simp
  rw [after0_7]
  obtain ⟨-, -, h, -⟩ := idxOut t
  obtain ⟨r, d, rfl⟩ : ∃ (r : Fin 256) (d : Fin 1024), y = ix2 r d := ⟨y 0, y 1, (ix2_eta (n0 := 256) (n1 := 1024) y).symm⟩
  have e : (win0_7.blk t).view.emb (ix2 r d) = ix2 (n0 := 4096) (at256 ⟨t.val, t.isLt.trans_eq N_0⟩ r) d :=
    row_emb ((Pipeline.Window.rect_emb_val win0_7 t (ix2 r d) 0).trans (by rw [h]; rfl)) ((Pipeline.Window.rect_emb_val win0_7 t (ix2 r d) 1).trans (by rw [h]; rfl))
  rw [e]
  refine (pt7 m c t r d).trans ?_
  rw [in2, in3]
  rfl
theorem arr8 : (dats m 0 c).arrAt 8 cfg0.N = X m c := by
  refine (dats m 0 c).arrAt_eq_of_covers 8 (X m c) (by decide +kernel) fun t hf y => ?_
  blk_simp
  rw [after0_8]
  obtain ⟨-, -, -, h, -⟩ := idxOut t
  obtain ⟨r, d, rfl⟩ : ∃ (r : Fin 256) (d : Fin 1024), y = ix2 r d := ⟨y 0, y 1, (ix2_eta (n0 := 256) (n1 := 1024) y).symm⟩
  have e : (win0_8.blk t).view.emb (ix2 r d) = ix2 (n0 := 4096) (at256 ⟨t.val, t.isLt.trans_eq N_0⟩ r) d :=
    row_emb ((Pipeline.Window.rect_emb_val win0_8 t (ix2 r d) 0).trans (by rw [h]; rfl)) ((Pipeline.Window.rect_emb_val win0_8 t (ix2 r d) 1).trans (by rw [h]; rfl))
  rw [e]
  exact (pt8 m c t r d).trans (congrFun (in1 m c t r) d)
theorem arr9 : (dats m 0 c).arrAt 9 cfg0.N = res9 m c := by
  refine (dats m 0 c).arrAt_eq_of_covers 9 (res9 m c) (by decide +kernel) fun t hf y => ?_
  have ht : t.val % 16 = 15 := (flush0_9 t).mp hf
  blk_simp
  rw [after0_9]
  obtain ⟨-, -, -, -, h⟩ := idxOut t
  obtain ⟨d, rfl⟩ : ∃ d : Fin 1024, y = ix2 0 d := ⟨y 1, (ix2_eta (n0 := 1) (n1 := 1024) y).symm.trans (congrArg (ix2 · (y 1)) (Subsingleton.elim (α := Fin 1) _ _))⟩
  have e : (win0_9.blk t).view.emb (ix2 0 d) = ix2 (n0 := 1) 0 d :=
    vec_emb ((Pipeline.Window.rect_emb_val win0_9 t (ix2 0 d) 1).trans (by rw [h]; rfl))
  rw [e]
  have k (t : Fin cfg0.N) : ∑ r, dgt (row (b1 m c t) r) (row (b2 m c t) r) (mat (b4 m c t)) d
      = ∑ r, (fun R => dgt (row (X m c) R) (row (DXO m c) R) (mat (W m c)) d) (at256 ⟨t.val, t.isLt.trans_eq N_0⟩ r) :=
    Finset.sum_congr rfl fun r _ => by rw [in1, in2, in4]
  exact sum_points N_0 (fun R => dgt (row (X m c) R) (row (DXO m c) R) (mat (W m c)) d) (fun t => (outsAt0 m c t.val t.isLt).2.2.2.2 (ix2 0 d))
    (fun t h0 => (first9 m c t d h0).trans (k t)) (fun t h0 => (next9 m c t d h0).trans (congrArg (_ + ·) (k t))) t ht

end Cert.OutBwdIdeal.Back

/-! ## The reference -/

namespace Cert.OutBwdReferenceIdeal.Back

open Idealize.ShloMosaic Idealize.ShloMosaic.TcCoe Idealize.SL.Sem Idealize.ShloMosaic.StableHlo
open Cert.OutBwdReferenceIdeal Cert.OutBwdReferenceIdeal.Gen Cert.OutBwdIdeal.Back Cert.Tiles

variable (x dxo : FVec Ideal S4096x1024 .f32) (gt : FVec Ideal S1x1024 .f32) (w : FVec Ideal S1024x1024 .f32)

/-- The projection's gradient, its input's, and the gating vector's, as the host writes them. -/
def hz : FVec Ideal S4096x1024 .f32 := mulf (broadcastInDim S4096x1024 ![0, 1] bcast_S1x1024_S4096x1024_0_1 gt) (shapeCast _ dxo shapeCasts_S4096x1024_S4096x1024)
def hx : FVec Ideal S4096x1024 .f32 := Host.dotGeneral dot_S4096x1024_S1024x1024_S4096x1024_1_1_0_0_n_n none (hz dxo gt) w
def hgt : FVec Ideal S1x1024 .f32 :=
  shapeCast _ (Host.reduceAdd (mulf (shapeCast _ dxo shapeCasts_S4096x1024_S4096x1024) (addf (Host.dotGeneral dot_S4096x1024_S1024x1024_S4096x1024_1_0_0_1_n_n none x w) (broadcastInDim S4096x1024 ![] bcast_S_S4096x1024 (constant S_ .f32 0x00000000#32)))) (constant S_ .f32 0x00000000#32) reducesTo_S4096x1024_S1024_d0 h_S_) shapeCasts_S1024_S1x1024

theorem hz_at (R : Fin 4096) (n : Fin 1024) : hz dxo gt (ix2 R n) = dz (vec gt) (row dxo R) n := by
  pointwise [hz]
  rfl
theorem hx_at (R : Fin 4096) (n : Fin 1024) : hx dxo gt w (ix2 R n) = dx (vec gt) (row dxo R) (mat w) n := by
  pointwise [hx, hz]
  rfl
theorem hgt_at (n : Fin 1024) : hgt x dxo w (ix2 0 n) = ∑ R, dgt (row x R) (row dxo R) (mat w) n := by
  unfold dgt
  pointwise [hgt]

end Cert.OutBwdReferenceIdeal.Back

namespace Cert.Proof

open Idealize.ShloMosaic Idealize.ShloMosaic.TcCoe Idealize.SL.Sem
open Cert.OutBwdIdeal Cert.OutBwdIdeal.Back Cert.Tiles Cert.OutBwdReferenceIdeal.Back

section
variable (m : (ℓ : Loc nD τ sig) → Buf (Elt Ideal) ℓ) (c : Dev nD)
/-- The reference's terms are the kernel's arrays. -/
theorem out_bwd6 : hx (DXO m c) (GT m c) (W m c) = res6 m c := rows_ext fun _ _ => hx_at _ _ _ _ _
theorem out_bwd7 : hz (DXO m c) (GT m c) = res7 m c := rows_ext fun _ _ => hz_at _ _ _ _
theorem out_bwd9 : hgt (X m c) (DXO m c) (W m c) = res9 m c := vec_ext fun _ => hgt_at _ _ _ _
end

/-- The kernel and the reference leave the same five gradients, of any arguments. -/
theorem out_bwd_algebraic : Cert.algebraic_OutBwdIdeal_OutBwdReferenceIdeal := fun m g m' g' _ e => by
  refine ⟨fun c => DXO m c, fun c => res6 m c, fun c => res7 m c, fun c => X m c, fun c => res9 m c, ?_, ?_⟩
  · refine (θ_run _ _ _).mono (fun r h c => ?_) (θ_run_and (Gen.run_main m g) (Gen.frame m g))
    obtain ⟨h, ⟨hf, -⟩⟩ := h
    exact ⟨((h c).1 5).trans (arr5 m c), ((h c).1 6).trans (arr6 m c), ((h c).1 7).trans (arr7 m c), ((h c).1 8).trans (arr8 m c), ((h c).1 9).trans (arr9 m c), hf c⟩
  · refine (θ_run _ _ _).mono (fun r h c => ?_) (Cert.OutBwdReferenceIdeal.Value.run (F := Ideal) m' g')
    obtain ⟨h5, h6, h7, h8, h9, hf⟩ := h c
    obtain ⟨a0, a1, a2, a3, a4⟩ := e c
    refine ⟨h5.trans ?_, h6.trans (Eq.trans ?_ (out_bwd6 m c)), h7.trans (Eq.trans ?_ (out_bwd7 m c)), h8.trans ?_, h9.trans (Eq.trans ?_ (out_bwd9 m c)), hf⟩
    · rw [a4]
    · rw [a2, a3, a4]; rfl
    · rw [a2, a4]; rfl
    · rw [a1]; rfl
    · rw [a1, a3, a4]; rfl

end Cert.Proof
end
-- ==== Proof.TnRows.lean ====
/-
  What the products of a weight's input with its output's gradients share: their rows come in two halves of 2048.
-/
module

public import proofs.«01_k».proof.Defs
public import Idealize.ShloMosaic.Lib.Pointwise

@[expose] public section

noncomputable section

namespace Cert.TnRows

theorem zeros2 : (![0, 0] : Fin 2 → ℕ) = fun _ => 0 := funext fun a => by fin_cases a <;> rfl

/-- Row `k` of half `q`. -/
def row (q : Fin 2) (k : Fin 2048) : Fin 4096 := ⟨2048 * q.val + k.val, by omega⟩

/-- The two halves' sums are the sum over all rows. -/
theorem sum_rows (f : Fin 4096 → EReal) : (∑ k : Fin 2048, f (row 0 k)) + (∑ k : Fin 2048, f (row 1 k)) = ∑ k : Fin 4096, f k := by
  rw [Fin.sum_univ_add (a := 2048) (b := 2048) f]
  refine congrArg₂ (· + ·) (Finset.sum_congr rfl fun k _ => congrArg f (Fin.ext ?_)) (Finset.sum_congr rfl fun k _ => congrArg f (Fin.ext ?_))
  · show 2048 * 0 + k.val = k.val; omega
  · show 2048 * 1 + k.val = 2048 + k.val; omega

end Cert.TnRows
end
-- ==== Proof.TnSq.lean ====
/-
  The product of a square layer's transposed input with its output's gradients: what the kernel's result array holds at the end,
  as sums over all rows.
-/
module

public import proofs.«01_k».proof.Defs
public import proofs.«01_k».proof.Proof.TnRows
public import proofs.«01_k».proof.Proof.Gen.TnSqIdeal.Frame
public import proofs.«01_k».proof.Proof.Gen.TnSqReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnSqIdeal.Product

open Idealize.ShloMosaic Idealize.ShloMosaic.TcCoe Idealize.SL.Sem
open Cert.TnSqIdeal Cert.TnSqIdeal.Gen Cert.TnRows

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S2048x1024 .bf16) (x1 : Vec Ideal S2048x1024 .bf16) (xs : Vec Ideal S1024x1024 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S2048x1024) zeros2]

/-- The second point adds its rows' product and writes the sum back. -/
theorem out_B (hc0 : ¬cond0_0 i) (hc1 : cond0_1 i) (r l : Fin 1024) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]
  generalize k0_pay2 (F := Ideal) xs x0 x1 = P
  pointwise [k0_pay3]

/-- A point's sum at an index. -/
theorem step_at (P : Vec Ideal S1024x1024 .f32) (r n : Fin 1024) :
    k0_pay2 (F := Ideal) P x0 x1 (ix2 r n) = P (ix2 r n) + ∑ k : Fin 2048, x0 (ix2 k r) * x1 (ix2 k n) := by
  pointwise [k0_pay2]
theorem zero_at (r n : Fin 1024) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x1024.Idx → EReal := m ((c.tc : Thread nD τ).loc main_arg0)
abbrev arg1 : S4096x1024.Idx → EReal := m ((c.tc : Thread nD τ).loc main_arg1)

/-- Point `q`: the rows of half `q`. -/
def pt (q : Fin 2) : Fin cfg0.N := ⟨q.val, lt_of_lt_of_eq q.isLt N_0.symm⟩
theorem pt_surj (t : Fin cfg0.N) : ∃ q, t = pt q := ⟨⟨t.val, lt_of_lt_of_eq t.isLt N_0⟩, rfl⟩
theorem pt_mod (q : Fin 2) : (pt q).val % 2 = q.val := Nat.mod_eq_of_lt q.isLt

theorem idx : ∀ t : Fin cfg0.N,
    win0_0.index t = ![t.val % 2, 0] ∧ win0_1.index t = ![t.val % 2, 0] ∧ win0_2.index t = ![0, 0] := by
  decide +kernel

theorem blk0 (q : Fin 2) (k : Fin 2048) (r : Fin 1024) : iblk m c 0 (pt q) (ix2 k r) = arg0 m c (ix2 (row q k) r) := by
  obtain ⟨h, -⟩ := idx (pt q)
  rw [pt_mod] at h
  unfold arg0 row
  rw [← V_main_arg0 m c]
  blk_ext [iblk, h]

theorem blk1 (q : Fin 2) (k : Fin 2048) (n : Fin 1024) : iblk m c 1 (pt q) (ix2 k n) = arg1 m c (ix2 (row q k) n) := by
  obtain ⟨-, h, -⟩ := idx (pt q)
  rw [pt_mod] at h
  unfold arg1 row
  rw [← V_main_arg1 m c]
  blk_ext [iblk, h]

/-- The product at row `r` and column `n`. -/
def prod (r : Fin 1024) (n : Fin 1024) : EReal := ∑ k : Fin 4096, arg0 m c (ix2 k r) * arg1 m c (ix2 k n)

theorem out_eq (r l : Fin 1024) : (outsAt0 m c (pt 1).val (pt 1).isLt).1 (ix2 r l) = prod m c r l := by
  have hA := outsAt0_A m c (pt 0) (pt_mod 0) (by rw [pt_mod]; decide)
  rw [outsAt0_B m c (pt 1) (by rw [pt_mod]; decide) (pt_mod 1)]
  dsimp only
  rw [out_B, step_at]
  have hq : (⟨(pt 1).val - 1, Nat.lt_of_le_of_lt (Nat.sub_le _ _) (pt 1).isLt⟩ : Fin cfg0.N) = pt 0 := Fin.ext (rfl)
  have e : (outsAt0 m c ((pt 1).val - 1) (Nat.lt_of_le_of_lt (Nat.sub_le _ _) (pt 1).isLt)) = outsAt0 m c (pt 0).val (pt 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S1024x1024.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨q, rfl⟩ := pt_surj t
  obtain rfl : q = 1 := Fin.ext ((pt_mod q).symm.trans hq)
  obtain ⟨r, l, rfl⟩ : ∃ (r : Fin 1024) (l : Fin 1024), y = ix2 r l := ⟨y 0, y 1, (ix2_eta (n0 := 1024) (n1 := 1024) y).symm⟩
  refine (out_eq m c r l).trans ?_
  obtain ⟨-, -, h⟩ := idx (pt 1)
  have e : (win0_2.blk (pt 1)).view.emb (ix2 r l) = ix2 r l := funext fun d => Fin.ext ((Pipeline.Window.rect_emb_val win0_2 (pt 1) (ix2 r l) d).trans (by
    rw [h]
    refine Fin.cases ?_ (fun d => ?_) d
    · show 0 * 1024 + r.val = r.val; omega
    · refine Fin.cases ?_ (fun d => d.elim0) d
      show 0 * 1024 + l.val = l.val; omega))
  rw [e]
  rfl
end

end Cert.TnSqIdeal.Product

namespace Cert.TnSqReferenceIdeal.Product

open Idealize.ShloMosaic Idealize.ShloMosaic.TcCoe Idealize.SL.Sem Idealize.ShloMosaic.StableHlo
open Cert.TnSqReferenceIdeal Cert.TnSqReferenceIdeal.Gen

/-- The weight's gradient as the host writes it. -/
def grad (a0 : FVec Ideal S4096x1024 .bf16) (a1 : FVec Ideal S4096x1024 .bf16) : FVec Ideal S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

theorem grad_at (a0 : FVec Ideal S4096x1024 .bf16) (a1 : FVec Ideal S4096x1024 .bf16) (r : Fin 1024) (l : Fin 1024) :
    grad a0 a1 (ix2 r l) = ∑ k : Fin 4096, a0 (ix2 k r) * a1 (ix2 k l) := by
  pointwise [grad]
  exact Finset.sum_congr rfl fun k _ => mul_comm _ _

end Cert.TnSqReferenceIdeal.Product

namespace Cert.Proof

open Idealize.ShloMosaic Idealize.ShloMosaic.TcCoe Idealize.SL.Sem
open Cert.TnSqIdeal Cert.TnSqIdeal.Product

theorem tn_sq_eq (m : (ℓ : Loc nD τ sig) → Buf (Elt Ideal) ℓ) (c : Dev nD) : res m c = Cert.TnSqReferenceIdeal.Product.grad (arg0 m c) (arg1 m c) := by
  funext i
  obtain ⟨r, l, rfl⟩ : ∃ (r : Fin 1024) (l : Fin 1024), i = ix2 r l := ⟨i 0, i 1, (ix2_eta (n0 := 1024) (n1 := 1024) i).symm⟩
  exact (Cert.TnSqReferenceIdeal.Product.grad_at _ _ r l).symm

/-- The kernel and the reference leave the same gradient of the square weight, of any arguments. -/
theorem tn_sq_algebraic : Cert.algebraic_TnSqIdeal_TnSqReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnSqReferenceIdeal.Value.run (F := Ideal) m' g')
    obtain ⟨h2, hf⟩ := h c
    obtain ⟨a0, a1⟩ := e c
    refine ⟨h2.trans (Eq.trans ?_ (tn_sq_eq m c).symm), hf⟩
    rw [a0, a1]
    rfl

end Cert.Proof
end
-- ==== Proof.TnDq.lean ====
/-
  The gradient of the queries' first weight as the kernel leaves it: a sum over all rows.
-/
module

public import proofs.«01_k».proof.Defs
public import proofs.«01_k».proof.Proof.TnRows
public import proofs.«01_k».proof.Proof.Gen.TnDqIdeal.Frame
public import proofs.«01_k».proof.Proof.Gen.TnDqReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnDqIdeal.Product

open Idealize.ShloMosaic Idealize.ShloMosaic.TcCoe Idealize.SL.Sem
open Cert.TnDqIdeal Cert.TnDqIdeal.Gen Cert.TnRows

section
variable (c : Dev nD) (i : grid0.Coords) (a3 : Memref sig .tc .vmem S2048x1024 .bf16) (h3 : a3.IsWhole) (a4 : Memref sig .tc .vmem S2048x256 .bf16) (h4 : a4.IsWhole)
  (a5 : Memref sig .tc .vmem S1024x256 .bf16) (h5 : a5.IsWhole) (a6 : Memref sig .tc .vmem S1024x256 .f32) (h6 : a6.IsWhole)
  (x0 : Vec Ideal S2048x1024 .bf16) (x1 : Vec Ideal S2048x256 .bf16) (xs : Vec Ideal S1024x256 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x256) zeros2, View.readCov_unit_zero (S := S1024x256) _ zeros2]
  simp only [View.readAt_eq_ld, h3.read_unread, h4.read_unread, View.ld_unit_zero (S := S2048x1024) zeros2, View.ld_unit_zero (S := S2048x256) zeros2]

/-- The second point adds its rows' product and writes the sum back. -/
theorem out_B (hc0 : ¬cond0_0 i) (hc1 : cond0_1 i) (r : Fin 1024) (l : Fin 256) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x256) zeros2, View.readCov_unit_zero (S := S1024x256) _ zeros2]
  simp only [View.readAt_eq_ld, h3.read_unread, h4.read_unread, h6.read_unread, View.ld_unit_zero (S := S2048x1024) zeros2, View.ld_unit_zero (S := S2048x256) zeros2, View.ld_unit_zero (S := S1024x256) zeros2]
  generalize k0_pay2 (F := Ideal) xs x0 x1 = P
  pointwise [k0_pay3]

/-- A point's sum at an index. -/
theorem step_at (P : Vec Ideal S1024x256 .f32) (r : Fin 1024) (n : Fin 256) :
    k0_pay2 (F := Ideal) P x0 x1 (ix2 r n) = P (ix2 r n) + ∑ k : Fin 2048, x0 (ix2 k r) * x1 (ix2 k n) := by
  pointwise [k0_pay2]
theorem zero_at (r : Fin 1024) (n : Fin 256) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x1024.Idx → EReal := m ((c.tc : Thread nD τ).loc main_arg0)
abbrev arg1 : S4096x256.Idx → EReal := m ((c.tc : Thread nD τ).loc main_arg1)

/-- Point `q`: the rows of half `q`. -/
def pt (q : Fin 2) : Fin cfg0.N := ⟨q.val, lt_of_lt_of_eq q.isLt N_0.symm⟩
theorem pt_surj (t : Fin cfg0.N) : ∃ q, t = pt q := ⟨⟨t.val, lt_of_lt_of_eq t.isLt N_0⟩, rfl⟩
theorem pt_mod (q : Fin 2) : (pt q).val % 2 = q.val := Nat.mod_eq_of_lt q.isLt

theorem idx : ∀ t : Fin cfg0.N,
    win0_0.index t = ![t.val % 2, 0] ∧ win0_1.index t = ![t.val % 2, 0] ∧ win0_2.index t = ![0, 0] := by
  decide +kernel

theorem blk0 (q : Fin 2) (k : Fin 2048) (r : Fin 1024) : iblk m c 0 (pt q) (ix2 k r) = arg0 m c (ix2 (row q k) r) := by
  obtain ⟨h, -⟩ := idx (pt q)
  rw [pt_mod] at h
  unfold arg0 row
  rw [← V_main_arg0 m c]
  blk_ext [iblk, h]

theorem blk1 (q : Fin 2) (k : Fin 2048) (n : Fin 256) : iblk m c 1 (pt q) (ix2 k n) = arg1 m c (ix2 (row q k) n) := by
  obtain ⟨-, h, -⟩ := idx (pt q)
  rw [pt_mod] at h
  unfold arg1 row
  rw [← V_main_arg1 m c]
  blk_ext [iblk, h]

/-- The product at row `r` and column `n`. -/
def prod (r : Fin 1024) (n : Fin 256) : EReal := ∑ k : Fin 4096, arg0 m c (ix2 k r) * arg1 m c (ix2 k n)

theorem out_eq (r : Fin 1024) (l : Fin 256) : (outsAt0 m c (pt 1).val (pt 1).isLt).1 (ix2 r l) = prod m c r l := by
  have hA := outsAt0_A m c (pt 0) (pt_mod 0) (by rw [pt_mod]; decide)
  rw [outsAt0_B m c (pt 1) (by rw [pt_mod]; decide) (pt_mod 1)]
  dsimp only
  rw [out_B, step_at]
  have hq : (⟨(pt 1).val - 1, Nat.lt_of_le_of_lt (Nat.sub_le _ _) (pt 1).isLt⟩ : Fin cfg0.N) = pt 0 := Fin.ext (rfl)
  have e : (outsAt0 m c ((pt 1).val - 1) (Nat.lt_of_le_of_lt (Nat.sub_le _ _) (pt 1).isLt)) = outsAt0 m c (pt 0).val (pt 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S1024x256.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨q, rfl⟩ := pt_surj t
  obtain rfl : q = 1 := Fin.ext ((pt_mod q).symm.trans hq)
  obtain ⟨r, l, rfl⟩ : ∃ (r : Fin 1024) (l : Fin 256), y = ix2 r l := ⟨y 0, y 1, (ix2_eta (n0 := 1024) (n1 := 256) y).symm⟩
  refine (out_eq m c r l).trans ?_
  obtain ⟨-, -, h⟩ := idx (pt 1)
  have e : (win0_2.blk (pt 1)).view.emb (ix2 r l) = ix2 r l := funext fun d => Fin.ext ((Pipeline.Window.rect_emb_val win0_2 (pt 1) (ix2 r l) d).trans (by
    rw [h]
    refine Fin.cases ?_ (fun d => ?_) d
    · show 0 * 1024 + r.val = r.val; omega
    · refine Fin.cases ?_ (fun d => d.elim0) d
      show 0 * 256 + l.val = l.val; omega))
  rw [e]
  rfl
end

end Cert.TnDqIdeal.Product

namespace Cert.TnDqReferenceIdeal.Product

open Idealize.ShloMosaic Idealize.ShloMosaic.TcCoe Idealize.SL.Sem Idealize.ShloMosaic.StableHlo
open Cert.TnDqReferenceIdeal Cert.TnDqReferenceIdeal.Gen

/-- The weight's gradient as the host writes it. -/
def grad (a0 : FVec Ideal S4096x1024 .bf16) (a1 : FVec Ideal S4096x256 .bf16) : FVec Ideal S1024x256 .bf16 :=
  truncf .bf16 (transpose S1024x256 [1, 0] (Host.dotGeneral dot_S4096x256_S4096x1024_S256x1024_0_0_1_1_n_n none (extf .f32 a1 bitsLt_bf16_f32) (extf .f32 a0 bitsLt_bf16_f32)) transposes_S256x1024_S1024x256_1_0) bitsLt_bf16_f32

theorem grad_at (a0 : FVec Ideal S4096x1024 .bf16) (a1 : FVec Ideal S4096x256 .bf16) (r : Fin 1024) (l : Fin 256) :
    grad a0 a1 (ix2 r l) = ∑ k : Fin 4096, a0 (ix2 k r) * a1 (ix2 k l) := by
  pointwise [grad]
  exact Finset.sum_congr rfl fun k _ => mul_comm _ _

end Cert.TnDqReferenceIdeal.Product

namespace Cert.Proof

open Idealize.ShloMosaic Idealize.ShloMosaic.TcCoe Idealize.SL.Sem
open Cert.TnDqIdeal Cert.TnDqIdeal.Product

theorem tn_dq_eq (m : (ℓ : Loc nD τ sig) → Buf (Elt Ideal) ℓ) (c : Dev nD) : res m c = Cert.TnDqReferenceIdeal.Product.grad (arg0 m c) (arg1 m c) := by
  funext i
  obtain ⟨r, l, rfl⟩ : ∃ (r : Fin 1024) (l : Fin 256), i = ix2 r l := ⟨i 0, i 1, (ix2_eta (n0 := 1024) (n1 := 256) i).symm⟩
  exact (Cert.TnDqReferenceIdeal.Product.grad_at _ _ r l).symm

/-- The kernel and the reference leave the same gradient of the queries' first weight, of any arguments. -/
theorem tn_dq_algebraic : Cert.algebraic_TnDqIdeal_TnDqReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnDqReferenceIdeal.Value.run (F := Ideal) m' g')
    obtain ⟨h2, hf⟩ := h c
    obtain ⟨a0, a1⟩ := e c
    refine ⟨h2.trans (Eq.trans ?_ (tn_dq_eq m c).symm), hf⟩
    rw [a0, a1]
    rfl

end Cert.Proof
end
-- ==== Proof.TnUq.lean ====
/-
  The gradient of the padded second weight of the queries or keys as the kernel leaves it: sums over all rows, in two blocks of columns.
-/
module

public import proofs.«01_k».proof.Defs
public import proofs.«01_k».proof.Proof.TnRows
public import proofs.«01_k».proof.Proof.Gen.TnUqIdeal.Frame
public import proofs.«01_k».proof.Proof.Gen.TnUqReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnUqIdeal.Product

open Idealize.ShloMosaic Idealize.ShloMosaic.TcCoe Idealize.SL.Sem
open Cert.TnUqIdeal Cert.TnUqIdeal.Gen Cert.TnRows

section
variable (c : Dev nD) (i : grid0.Coords) (a3 : Memref sig .tc .vmem S2048x256 .bf16) (h3 : a3.IsWhole) (a4 : Memref sig .tc .vmem S2048x1024 .bf16) (h4 : a4.IsWhole)
  (a5 : Memref sig .tc .vmem S256x1024 .bf16) (h5 : a5.IsWhole) (a6 : Memref sig .tc .vmem S256x1024 .f32) (h6 : a6.IsWhole)
  (x0 : Vec Ideal S2048x256 .bf16) (x1 : Vec Ideal S2048x1024 .bf16) (xs : Vec Ideal S256x1024 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x1024) zeros2, View.readCov_unit_zero (S := S256x1024) _ zeros2]
  simp only [View.readAt_eq_ld, h3.read_unread, h4.read_unread, View.ld_unit_zero (S := S2048x256) zeros2, View.ld_unit_zero (S := S2048x1024) zeros2]

/-- The second point adds its rows' product and writes the sum back. -/
theorem out_B (hc0 : ¬cond0_0 i) (hc1 : cond0_1 i) (r : Fin 256) (l : Fin 1024) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S256x1024) zeros2, View.readCov_unit_zero (S := S256x1024) _ zeros2]
  simp only [View.readAt_eq_ld, h3.read_unread, h4.read_unread, h6.read_unread, View.ld_unit_zero (S := S2048x256) zeros2, View.ld_unit_zero (S := S2048x1024) zeros2, View.ld_unit_zero (S := S256x1024) zeros2]
  generalize k0_pay2 (F := Ideal) xs x0 x1 = P
  pointwise [k0_pay3]

/-- A point's sum at an index. -/
theorem step_at (P : Vec Ideal S256x1024 .f32) (r : Fin 256) (n : Fin 1024) :
    k0_pay2 (F := Ideal) P x0 x1 (ix2 r n) = P (ix2 r n) + ∑ k : Fin 2048, x0 (ix2 k r) * x1 (ix2 k n) := by
  pointwise [k0_pay2]
theorem zero_at (r : Fin 256) (n : Fin 1024) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x256.Idx → EReal := m ((c.tc : Thread nD τ).loc main_arg0)
abbrev arg1 : S4096x2048.Idx → EReal := m ((c.tc : Thread nD τ).loc main_arg1)

/-- Point `q` of column block `p`. -/
def pt (p : Fin 2) (q : Fin 2) : Fin cfg0.N := ⟨2 * p.val + q.val, lt_of_lt_of_eq (by omega) N_0.symm⟩
theorem pt_surj (t : Fin cfg0.N) : ∃ p q, t = pt p q := by
  have h : t.val < 4 := lt_of_lt_of_eq t.isLt N_0
  exact ⟨⟨t.val / 2, by omega⟩, ⟨t.val % 2, by omega⟩, Fin.ext (by show t.val = 2 * (t.val / 2) + t.val % 2; omega)⟩
theorem pt_mod (p : Fin 2) (q : Fin 2) : (pt p q).val % 2 = q.val := by show (2 * p.val + q.val) % 2 = q.val; omega
theorem pt_div (p : Fin 2) (q : Fin 2) : (pt p q).val / 2 = p.val := by show (2 * p.val + q.val) / 2 = p.val; omega

/-- Column `n` of block `p`. -/
def col (p : Fin 2) (n : Fin 1024) : Fin 2048 := ⟨1024 * p.val + n.val, by omega⟩

theorem idx : ∀ t : Fin cfg0.N,
    win0_0.index t = ![t.val % 2, 0] ∧ win0_1.index t = ![t.val % 2, t.val / 2] ∧ win0_2.index t = ![0, t.val / 2] := by
  decide +kernel

theorem blk0 (p : Fin 2) (q : Fin 2) (k : Fin 2048) (r : Fin 256) : iblk m c 0 (pt p q) (ix2 k r) = arg0 m c (ix2 (row q k) r) := by
  obtain ⟨h, -⟩ := idx (pt p q)
  rw [pt_mod] at h
  unfold arg0 row
  rw [← V_main_arg0 m c]
  blk_ext [iblk, h]

theorem blk1 (p : Fin 2) (q : Fin 2) (k : Fin 2048) (n : Fin 1024) : iblk m c 1 (pt p q) (ix2 k n) = arg1 m c (ix2 (row q k) (col p n)) := by
  obtain ⟨-, h, -⟩ := idx (pt p q)
  rw [pt_mod, pt_div] at h
  unfold arg1 row col
  rw [← V_main_arg1 m c]
  blk_ext [iblk, h]

/-- The product at row `r` and column `n`. -/
def prod (r : Fin 256) (n : Fin 2048) : EReal := ∑ k : Fin 4096, arg0 m c (ix2 k r) * arg1 m c (ix2 k n)

theorem out_eq (p : Fin 2) (r : Fin 256) (l : Fin 1024) : (outsAt0 m c (pt p 1).val (pt p 1).isLt).1 (ix2 r l) = prod m c r (col p l) := by
  have hA := outsAt0_A m c (pt p 0) (pt_mod p 0) (by rw [pt_mod]; decide)
  rw [outsAt0_B m c (pt p 1) (by rw [pt_mod]; decide) (pt_mod p 1)]
  dsimp only
  rw [out_B, step_at]
  have hq : (⟨(pt p 1).val - 1, Nat.lt_of_le_of_lt (Nat.sub_le _ _) (pt p 1).isLt⟩ : Fin cfg0.N) = pt p 0 := Fin.ext (by show 2 * p.val + 1 - 1 = 2 * p.val + 0; omega)
  have e : (outsAt0 m c ((pt p 1).val - 1) (Nat.lt_of_le_of_lt (Nat.sub_le _ _) (pt p 1).isLt)) = outsAt0 m c (pt p 0).val (pt p 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S256x2048.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨p, q, rfl⟩ := pt_surj t
  obtain rfl : q = 1 := Fin.ext ((pt_mod p q).symm.trans hq)
  obtain ⟨r, l, rfl⟩ : ∃ (r : Fin 256) (l : Fin 1024), y = ix2 r l := ⟨y 0, y 1, (ix2_eta (n0 := 256) (n1 := 1024) y).symm⟩
  refine (out_eq m c p r l).trans ?_
  obtain ⟨-, -, h⟩ := idx (pt p 1)
  rw [pt_div] at h
  have e : (win0_2.blk (pt p 1)).view.emb (ix2 r l) = ix2 r (col p l) := funext fun d => Fin.ext ((Pipeline.Window.rect_emb_val win0_2 (pt p 1) (ix2 r l) d).trans (by
    rw [h]
    refine Fin.cases ?_ (fun d => ?_) d
    · show 0 * 256 + r.val = r.val; omega
    · refine Fin.cases ?_ (fun d => d.elim0) d
      show p.val * 1024 + l.val = 1024 * p.val + l.val; omega))
  rw [e]
  rfl
end

end Cert.TnUqIdeal.Product

namespace Cert.TnUqReferenceIdeal.Product

open Idealize.ShloMosaic Idealize.ShloMosaic.TcCoe Idealize.SL.Sem Idealize.ShloMosaic.StableHlo
open Cert.TnUqReferenceIdeal Cert.TnUqReferenceIdeal.Gen

/-- The weight's gradient as the host writes it. -/
def grad (a0 : FVec Ideal S4096x256 .bf16) (a1 : FVec Ideal S4096x2048 .bf16) : FVec Ideal S256x2048 .bf16 :=
  truncf .bf16 (transpose S256x2048 [1, 0] (Host.dotGeneral dot_S4096x2048_S4096x256_S2048x256_0_0_1_1_n_n none (extf .f32 a1 bitsLt_bf16_f32) (extf .f32 a0 bitsLt_bf16_f32)) transposes_S2048x256_S256x2048_1_0) bitsLt_bf16_f32

theorem grad_at (a0 : FVec Ideal S4096x256 .bf16) (a1 : FVec Ideal S4096x2048 .bf16) (r : Fin 256) (l : Fin 2048) :
    grad a0 a1 (ix2 r l) = ∑ k : Fin 4096, a0 (ix2 k r) * a1 (ix2 k l) := by
  pointwise [grad]
  exact Finset.sum_congr rfl fun k _ => mul_comm _ _

end Cert.TnUqReferenceIdeal.Product

namespace Cert.Proof

open Idealize.ShloMosaic Idealize.ShloMosaic.TcCoe Idealize.SL.Sem
open Cert.TnUqIdeal Cert.TnUqIdeal.Product

theorem tn_uq_eq (m : (ℓ : Loc nD τ sig) → Buf (Elt Ideal) ℓ) (c : Dev nD) : res m c = Cert.TnUqReferenceIdeal.Product.grad (arg0 m c) (arg1 m c) := by
  funext i
  obtain ⟨r, l, rfl⟩ : ∃ (r : Fin 256) (l : Fin 2048), i = ix2 r l := ⟨i 0, i 1, (ix2_eta (n0 := 256) (n1 := 2048) i).symm⟩
  exact (Cert.TnUqReferenceIdeal.Product.grad_at _ _ r l).symm

/-- The kernel and the reference leave the same gradient of the second weight of the queries or keys, of any arguments. -/
theorem tn_uq_algebraic : Cert.algebraic_TnUqIdeal_TnUqReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnUqReferenceIdeal.Value.run (F := Ideal) m' g')
    obtain ⟨h2, hf⟩ := h c
    obtain ⟨a0, a1⟩ := e c
    refine ⟨h2.trans (Eq.trans ?_ (tn_uq_eq m c).symm), hf⟩
    rw [a0, a1]
    rfl

end Cert.Proof
end
-- ==== Proof.TnKva.lean ====
/-
  The gradient of the padded first weight of the keys and values as the kernel leaves it: a sum over all rows.
-/
module

public import proofs.«01_k».proof.Defs
public import proofs.«01_k».proof.Proof.TnRows
public import proofs.«01_k».proof.Proof.Gen.TnKvaIdeal.Frame
public import proofs.«01_k».proof.Proof.Gen.TnKvaReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnKvaIdeal.Product

open Idealize.ShloMosaic Idealize.ShloMosaic.TcCoe Idealize.SL.Sem
open Cert.TnKvaIdeal Cert.TnKvaIdeal.Gen Cert.TnRows

section
variable (c : Dev nD) (i : grid0.Coords) (a3 : Memref sig .tc .vmem S2048x1024 .bf16) (h3 : a3.IsWhole) (a4 : Memref sig .tc .vmem S2048x384 .bf16) (h4 : a4.IsWhole)
  (a5 : Memref sig .tc .vmem S1024x384 .bf16) (h5 : a5.IsWhole) (a6 : Memref sig .tc .vmem S1024x384 .f32) (h6 : a6.IsWhole)
  (x0 : Vec Ideal S2048x1024 .bf16) (x1 : Vec Ideal S2048x384 .bf16) (xs : Vec Ideal S1024x384 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x384) zeros2, View.readCov_unit_zero (S := S1024x384) _ zeros2]
  simp only [View.readAt_eq_ld, h3.read_unread, h4.read_unread, View.ld_unit_zero (S := S2048x1024) zeros2, View.ld_unit_zero (S := S2048x384) zeros2]

/-- The second point adds its rows' product and writes the sum back. -/
theorem out_B (hc0 : ¬cond0_0 i) (hc1 : cond0_1 i) (r : Fin 1024) (l : Fin 384) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x384) zeros2, View.readCov_unit_zero (S := S1024x384) _ zeros2]
  simp only [View.readAt_eq_ld, h3.read_unread, h4.read_unread, h6.read_unread, View.ld_unit_zero (S := S2048x1024) zeros2, View.ld_unit_zero (S := S2048x384) zeros2, View.ld_unit_zero (S := S1024x384) zeros2]
  generalize k0_pay2 (F := Ideal) xs x0 x1 = P
  pointwise [k0_pay3]

/-- A point's sum at an index. -/
theorem step_at (P : Vec Ideal S1024x384 .f32) (r : Fin 1024) (n : Fin 384) :
    k0_pay2 (F := Ideal) P x0 x1 (ix2 r n) = P (ix2 r n) + ∑ k : Fin 2048, x0 (ix2 k r) * x1 (ix2 k n) := by
  pointwise [k0_pay2]
theorem zero_at (r : Fin 1024) (n : Fin 384) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x1024.Idx → EReal := m ((c.tc : Thread nD τ).loc main_arg0)
abbrev arg1 : S4096x384.Idx → EReal := m ((c.tc : Thread nD τ).loc main_arg1)

/-- Point `q`: the rows of half `q`. -/
def pt (q : Fin 2) : Fin cfg0.N := ⟨q.val, lt_of_lt_of_eq q.isLt N_0.symm⟩
theorem pt_surj (t : Fin cfg0.N) : ∃ q, t = pt q := ⟨⟨t.val, lt_of_lt_of_eq t.isLt N_0⟩, rfl⟩
theorem pt_mod (q : Fin 2) : (pt q).val % 2 = q.val := Nat.mod_eq_of_lt q.isLt

theorem idx : ∀ t : Fin cfg0.N,
    win0_0.index t = ![t.val % 2, 0] ∧ win0_1.index t = ![t.val % 2, 0] ∧ win0_2.index t = ![0, 0] := by
  decide +kernel

theorem blk0 (q : Fin 2) (k : Fin 2048) (r : Fin 1024) : iblk m c 0 (pt q) (ix2 k r) = arg0 m c (ix2 (row q k) r) := by
  obtain ⟨h, -⟩ := idx (pt q)
  rw [pt_mod] at h
  unfold arg0 row
  rw [← V_main_arg0 m c]
  blk_ext [iblk, h]

theorem blk1 (q : Fin 2) (k : Fin 2048) (n : Fin 384) : iblk m c 1 (pt q) (ix2 k n) = arg1 m c (ix2 (row q k) n) := by
  obtain ⟨-, h, -⟩ := idx (pt q)
  rw [pt_mod] at h
  unfold arg1 row
  rw [← V_main_arg1 m c]
  blk_ext [iblk, h]

/-- The product at row `r` and column `n`. -/
def prod (r : Fin 1024) (n : Fin 384) : EReal := ∑ k : Fin 4096, arg0 m c (ix2 k r) * arg1 m c (ix2 k n)

theorem out_eq (r : Fin 1024) (l : Fin 384) : (outsAt0 m c (pt 1).val (pt 1).isLt).1 (ix2 r l) = prod m c r l := by
  have hA := outsAt0_A m c (pt 0) (pt_mod 0) (by rw [pt_mod]; decide)
  rw [outsAt0_B m c (pt 1) (by rw [pt_mod]; decide) (pt_mod 1)]
  dsimp only
  rw [out_B, step_at]
  have hq : (⟨(pt 1).val - 1, Nat.lt_of_le_of_lt (Nat.sub_le _ _) (pt 1).isLt⟩ : Fin cfg0.N) = pt 0 := Fin.ext (rfl)
  have e : (outsAt0 m c ((pt 1).val - 1) (Nat.lt_of_le_of_lt (Nat.sub_le _ _) (pt 1).isLt)) = outsAt0 m c (pt 0).val (pt 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S1024x384.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨q, rfl⟩ := pt_surj t
  obtain rfl : q = 1 := Fin.ext ((pt_mod q).symm.trans hq)
  obtain ⟨r, l, rfl⟩ : ∃ (r : Fin 1024) (l : Fin 384), y = ix2 r l := ⟨y 0, y 1, (ix2_eta (n0 := 1024) (n1 := 384) y).symm⟩
  refine (out_eq m c r l).trans ?_
  obtain ⟨-, -, h⟩ := idx (pt 1)
  have e : (win0_2.blk (pt 1)).view.emb (ix2 r l) = ix2 r l := funext fun d => Fin.ext ((Pipeline.Window.rect_emb_val win0_2 (pt 1) (ix2 r l) d).trans (by
    rw [h]
    refine Fin.cases ?_ (fun d => ?_) d
    · show 0 * 1024 + r.val = r.val; omega
    · refine Fin.cases ?_ (fun d => d.elim0) d
      show 0 * 384 + l.val = l.val; omega))
  rw [e]
  rfl
end

end Cert.TnKvaIdeal.Product

namespace Cert.TnKvaReferenceIdeal.Product

open Idealize.ShloMosaic Idealize.ShloMosaic.TcCoe Idealize.SL.Sem Idealize.ShloMosaic.StableHlo
open Cert.TnKvaReferenceIdeal Cert.TnKvaReferenceIdeal.Gen

/-- The weight's gradient as the host writes it. -/
def grad (a0 : FVec Ideal S4096x1024 .bf16) (a1 : FVec Ideal S4096x384 .bf16) : FVec Ideal S1024x384 .bf16 :=
  truncf .bf16 (transpose S1024x384 [1, 0] (Host.dotGeneral dot_S4096x384_S4096x1024_S384x1024_0_0_1_1_n_n none (extf .f32 a1 bitsLt_bf16_f32) (extf .f32 a0 bitsLt_bf16_f32)) transposes_S384x1024_S1024x384_1_0) bitsLt_bf16_f32

theorem grad_at (a0 : FVec Ideal S4096x1024 .bf16) (a1 : FVec Ideal S4096x384 .bf16) (r : Fin 1024) (l : Fin 384) :
    grad a0 a1 (ix2 r l) = ∑ k : Fin 4096, a0 (ix2 k r) * a1 (ix2 k l) := by
  pointwise [grad]
  exact Finset.sum_congr rfl fun k _ => mul_comm _ _

end Cert.TnKvaReferenceIdeal.Product

namespace Cert.Proof

open Idealize.ShloMosaic Idealize.ShloMosaic.TcCoe Idealize.SL.Sem
open Cert.TnKvaIdeal Cert.TnKvaIdeal.Product

theorem tn_kva_eq (m : (ℓ : Loc nD τ sig) → Buf (Elt Ideal) ℓ) (c : Dev nD) : res m c = Cert.TnKvaReferenceIdeal.Product.grad (arg0 m c) (arg1 m c) := by
  funext i
  obtain ⟨r, l, rfl⟩ : ∃ (r : Fin 1024) (l : Fin 384), i = ix2 r l := ⟨i 0, i 1, (ix2_eta (n0 := 1024) (n1 := 384) i).symm⟩
  exact (Cert.TnKvaReferenceIdeal.Product.grad_at _ _ r l).symm

/-- The kernel and the reference leave the same gradient of the keys' and values' first weight, of any arguments. -/
theorem tn_kva_algebraic : Cert.algebraic_TnKvaIdeal_TnKvaReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnKvaReferenceIdeal.Value.run (F := Ideal) m' g')
    obtain ⟨h2, hf⟩ := h c
    obtain ⟨a0, a1⟩ := e c
    refine ⟨h2.trans (Eq.trans ?_ (tn_kva_eq m c).symm), hf⟩
    rw [a0, a1]
    rfl

end Cert.Proof
end
-- ==== Proof.TnV.lean ====
/-
  The gradient of the values' second weight as the kernel leaves it: a sum over all rows.
-/
module

public import proofs.«01_k».proof.Defs
public import proofs.«01_k».proof.Proof.TnRows
public import proofs.«01_k».proof.Proof.Gen.TnVIdeal.Frame
public import proofs.«01_k».proof.Proof.Gen.TnVReferenceIdeal.Run
public import Idealize.ShloMosaic.Lib.Pipeline.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.TnVIdeal.Product

open Idealize.ShloMosaic Idealize.ShloMosaic.TcCoe Idealize.SL.Sem
open Cert.TnVIdeal Cert.TnVIdeal.Gen Cert.TnRows

section
variable (c : Dev nD) (i : grid0.Coords) (a3 : Memref sig .tc .vmem S2048x256 .bf16) (h3 : a3.IsWhole) (a4 : Memref sig .tc .vmem S2048x1024 .bf16) (h4 : a4.IsWhole)
  (a5 : Memref sig .tc .vmem S256x1024 .bf16) (h5 : a5.IsWhole) (a6 : Memref sig .tc .vmem S256x1024 .f32) (h6 : a6.IsWhole)
  (x0 : Vec Ideal S2048x256 .bf16) (x1 : Vec Ideal S2048x1024 .bf16) (xs : Vec Ideal S256x1024 .f32)

/-- The first point of a block leaves the product of its rows over zeros. -/
theorem scratch_A (hc0 : cond0_0 i) (hc1 : ¬cond0_1 i) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x1024) zeros2, View.readCov_unit_zero (S := S256x1024) _ zeros2]
  simp only [View.readAt_eq_ld, h3.read_unread, h4.read_unread, View.ld_unit_zero (S := S2048x256) zeros2, View.ld_unit_zero (S := S2048x1024) zeros2]

/-- The second point adds its rows' product and writes the sum back. -/
theorem out_B (hc0 : ¬cond0_0 i) (hc1 : cond0_1 i) (r : Fin 256) (l : Fin 1024) :
    out0_B_2 c i a3 h3 a4 h4 a5 h5 a6 h6 hc0 hc1 x0 x1 xs (ix2 r l) = k0_pay2 (F := Ideal) xs x0 x1 (ix2 r l) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S256x1024) zeros2, View.readCov_unit_zero (S := S256x1024) _ zeros2]
  simp only [View.readAt_eq_ld, h3.read_unread, h4.read_unread, h6.read_unread, View.ld_unit_zero (S := S2048x256) zeros2, View.ld_unit_zero (S := S2048x1024) zeros2, View.ld_unit_zero (S := S256x1024) zeros2]
  generalize k0_pay2 (F := Ideal) xs x0 x1 = P
  pointwise [k0_pay3]

/-- A point's sum at an index. -/
theorem step_at (P : Vec Ideal S256x1024 .f32) (r : Fin 256) (n : Fin 1024) :
    k0_pay2 (F := Ideal) P x0 x1 (ix2 r n) = P (ix2 r n) + ∑ k : Fin 2048, x0 (ix2 k r) * x1 (ix2 k n) := by
  pointwise [k0_pay2]
theorem zero_at (r : Fin 256) (n : Fin 1024) : k0_pay1 (F := Ideal) (ix2 r n) = 0 := by
  pointwise [k0_pay1]
end

/-! ## The array -/

section
variable (m : (ℓ : Loc nD τ sig) → Buf (Elt Ideal) ℓ) (c : Dev nD)

/-- The two arrays the kernel reads. -/
abbrev arg0 : S4096x256.Idx → EReal := m ((c.tc : Thread nD τ).loc main_arg0)
abbrev arg1 : S4096x1024.Idx → EReal := m ((c.tc : Thread nD τ).loc main_arg1)

/-- Point `q`: the rows of half `q`. -/
def pt (q : Fin 2) : Fin cfg0.N := ⟨q.val, lt_of_lt_of_eq q.isLt N_0.symm⟩
theorem pt_surj (t : Fin cfg0.N) : ∃ q, t = pt q := ⟨⟨t.val, lt_of_lt_of_eq t.isLt N_0⟩, rfl⟩
theorem pt_mod (q : Fin 2) : (pt q).val % 2 = q.val := Nat.mod_eq_of_lt q.isLt

theorem idx : ∀ t : Fin cfg0.N,
    win0_0.index t = ![t.val % 2, 0] ∧ win0_1.index t = ![t.val % 2, 0] ∧ win0_2.index t = ![0, 0] := by
  decide +kernel

theorem blk0 (q : Fin 2) (k : Fin 2048) (r : Fin 256) : iblk m c 0 (pt q) (ix2 k r) = arg0 m c (ix2 (row q k) r) := by
  obtain ⟨h, -⟩ := idx (pt q)
  rw [pt_mod] at h
  unfold arg0 row
  rw [← V_main_arg0 m c]
  blk_ext [iblk, h]

theorem blk1 (q : Fin 2) (k : Fin 2048) (n : Fin 1024) : iblk m c 1 (pt q) (ix2 k n) = arg1 m c (ix2 (row q k) n) := by
  obtain ⟨-, h, -⟩ := idx (pt q)
  rw [pt_mod] at h
  unfold arg1 row
  rw [← V_main_arg1 m c]
  blk_ext [iblk, h]

/-- The product at row `r` and column `n`. -/
def prod (r : Fin 256) (n : Fin 1024) : EReal := ∑ k : Fin 4096, arg0 m c (ix2 k r) * arg1 m c (ix2 k n)

theorem out_eq (r : Fin 256) (l : Fin 1024) : (outsAt0 m c (pt 1).val (pt 1).isLt).1 (ix2 r l) = prod m c r l := by
  have hA := outsAt0_A m c (pt 0) (pt_mod 0) (by rw [pt_mod]; decide)
  rw [outsAt0_B m c (pt 1) (by rw [pt_mod]; decide) (pt_mod 1)]
  dsimp only
  rw [out_B, step_at]
  have hq : (⟨(pt 1).val - 1, Nat.lt_of_le_of_lt (Nat.sub_le _ _) (pt 1).isLt⟩ : Fin cfg0.N) = pt 0 := Fin.ext (rfl)
  have e : (outsAt0 m c ((pt 1).val - 1) (Nat.lt_of_le_of_lt (Nat.sub_le _ _) (pt 1).isLt)) = outsAt0 m c (pt 0).val (pt 0).isLt :=
    congrArg (fun t : Fin cfg0.N => outsAt0 m c t.val t.isLt) hq
  rw [e, hA]
  dsimp only
  rw [scratch_A, step_at, zero_at, zero_add]
  unfold prod
  rw [← sum_rows]
  refine congrArg₂ (· + ·) (Finset.sum_congr rfl fun k _ => ?_) (Finset.sum_congr rfl fun k _ => ?_)
  · rw [blk0, blk1]
  · rw [blk0, blk1]

/-- The result. -/
def res : S256x1024.Idx → EReal := fun i => prod m c (i 0) (i 1)

theorem arr : (dats m 0 c).arrAt 2 cfg0.N = res m c := by
  refine (dats m 0 c).arrAt_eq_of_covers 2 (res m c) (by decide +kernel) fun t hf y => ?_
  have hq := (flush0_2 t).mp hf
  blk_simp
  rw [after0_2]
  obtain ⟨q, rfl⟩ := pt_surj t
  obtain rfl : q = 1 := Fin.ext ((pt_mod q).symm.trans hq)
  obtain ⟨r, l, rfl⟩ : ∃ (r : Fin 256) (l : Fin 1024), y = ix2 r l := ⟨y 0, y 1, (ix2_eta (n0 := 256) (n1 := 1024) y).symm⟩
  refine (out_eq m c r l).trans ?_
  obtain ⟨-, -, h⟩ := idx (pt 1)
  have e : (win0_2.blk (pt 1)).view.emb (ix2 r l) = ix2 r l := funext fun d => Fin.ext ((Pipeline.Window.rect_emb_val win0_2 (pt 1) (ix2 r l) d).trans (by
    rw [h]
    refine Fin.cases ?_ (fun d => ?_) d
    · show 0 * 256 + r.val = r.val; omega
    · refine Fin.cases ?_ (fun d => d.elim0) d
      show 0 * 1024 + l.val = l.val; omega))
  rw [e]
  rfl
end

end Cert.TnVIdeal.Product

namespace Cert.TnVReferenceIdeal.Product

open Idealize.ShloMosaic Idealize.ShloMosaic.TcCoe Idealize.SL.Sem Idealize.ShloMosaic.StableHlo
open Cert.TnVReferenceIdeal Cert.TnVReferenceIdeal.Gen

/-- The weight's gradient as the host writes it. -/
def grad (a0 : FVec Ideal S4096x256 .bf16) (a1 : FVec Ideal S4096x1024 .bf16) : FVec Ideal S256x1024 .bf16 :=
  truncf .bf16 (transpose S256x1024 [1, 0] (Host.dotGeneral dot_S4096x1024_S4096x256_S1024x256_0_0_1_1_n_n none (extf .f32 a1 bitsLt_bf16_f32) (extf .f32 a0 bitsLt_bf16_f32)) transposes_S1024x256_S256x1024_1_0) bitsLt_bf16_f32

theorem grad_at (a0 : FVec Ideal S4096x256 .bf16) (a1 : FVec Ideal S4096x1024 .bf16) (r : Fin 256) (l : Fin 1024) :
    grad a0 a1 (ix2 r l) = ∑ k : Fin 4096, a0 (ix2 k r) * a1 (ix2 k l) := by
  pointwise [grad]
  exact Finset.sum_congr rfl fun k _ => mul_comm _ _

end Cert.TnVReferenceIdeal.Product

namespace Cert.Proof

open Idealize.ShloMosaic Idealize.ShloMosaic.TcCoe Idealize.SL.Sem
open Cert.TnVIdeal Cert.TnVIdeal.Product

theorem tn_v_eq (m : (ℓ : Loc nD τ sig) → Buf (Elt Ideal) ℓ) (c : Dev nD) : res m c = Cert.TnVReferenceIdeal.Product.grad (arg0 m c) (arg1 m c) := by
  funext i
  obtain ⟨r, l, rfl⟩ : ∃ (r : Fin 256) (l : Fin 1024), i = ix2 r l := ⟨i 0, i 1, (ix2_eta (n0 := 256) (n1 := 1024) i).symm⟩
  exact (Cert.TnVReferenceIdeal.Product.grad_at _ _ r l).symm

/-- The kernel and the reference leave the same gradient of the values' second weight, of any arguments. -/
theorem tn_v_algebraic : Cert.algebraic_TnVIdeal_TnVReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 2).trans (arr m c), hf c⟩
  · refine (θ_run _ _ _).mono (fun r h c => ?_) (Cert.TnVReferenceIdeal.Value.run (F := Ideal) m' g')
    obtain ⟨h2, hf⟩ := h c
    obtain ⟨a0, a1⟩ := e c
    refine ⟨h2.trans (Eq.trans ?_ (tn_v_eq m c).symm), hf⟩
    rw [a0, a1]
    rfl

end Cert.Proof
end
-- ==== Proof.QMath.lean ====
/-
  A head of the queries on one row, over the extended reals: the norm of its first 64 lanes, the norm and the rotation of the
  next 32, and zeros in the last 32, as the kernel has them in 128 lanes at once.
-/
module

public import proofs.«01_k».proof.Proof.FfnMath

@[expose] public section

noncomputable section

namespace Cert.QMath

open Idealize.ShloMosaic Cert.FfnMath

/-- The numbers of lanes of a norm. -/
abbrev N256 : EReal := Ideal.ofBits .f32 0x43800000#32
abbrev N64 : EReal := Ideal.ofBits .f32 0x42800000#32
abbrev N32 : EReal := Ideal.ofBits .f32 0x42000000#32
abbrev M1 : EReal := Ideal.ofBits .f32 0xBF800000#32

/-- The inverse root of the mean square. -/
def inv {n : ℕ} (N : EReal) (x : Fin n → EReal) : EReal := Ideal.rsqrt (Ideal.div (∑ d, x d * x d) N + E)

/-- The normalised row of 256, and a column of its product. -/
def lat (x g sh sc : Fin 1024 → EReal) (qg : Fin 256 → EReal) (w : Fin 1024 → Fin 256 → EReal) (k : Fin 256) : EReal :=
  proj (hid x g sh sc) w k * inv N256 (proj (hid x g sh sc) w) * qg k
def query {n : ℕ} (x g sh sc : Fin 1024 → EReal) (qg : Fin 256 → EReal) (w : Fin 1024 → Fin 256 → EReal) (u : Fin 256 → Fin n → EReal) (j : Fin n) : EReal :=
  ∑ k, lat x g sh sc qg w k * u k j

/-! ## The lanes -/

/-- Lane `l` of head `i`. -/
def col (i : Fin 16) (l : Fin 128) : Fin 2048 := ⟨128 * i.val + l.val, by omega⟩
/-- The lanes of the norm alone, of the rotation's two halves, and of the padding. -/
def ln (j : Fin 64) : Fin 128 := ⟨j.val, by omega⟩
def lr (j : Fin 32) : Fin 128 := ⟨64 + j.val, by omega⟩
def lp (j : Fin 32) : Fin 128 := ⟨96 + j.val, by omega⟩
def h1 (j : Fin 16) : Fin 32 := ⟨j.val, by omega⟩
def h2 (j : Fin 16) : Fin 32 := ⟨16 + j.val, by omega⟩

theorem lanes {P : Fin 128 → Prop} (hn : ∀ j, P (ln j)) (h1 : ∀ j, P (lr (h1 j))) (h2 : ∀ j, P (lr (h2 j))) (hp : ∀ j, P (lp j)) (l : Fin 128) : P l := by
  by_cases a : l.val < 64
  · exact hn ⟨l.val, a⟩
  by_cases b : l.val < 80
  · have e : l = lr (QMath.h1 ⟨l.val - 64, by omega⟩) := Fin.ext (by show l.val = 64 + (l.val - 64); omega)
    rw [e]; exact h1 _
  by_cases d : l.val < 96
  · have e : l = lr (QMath.h2 ⟨l.val - 80, by omega⟩) := Fin.ext (by show l.val = 64 + (16 + (l.val - 80)); omega)
    rw [e]; exact h2 _
  · have e : l = lp ⟨l.val - 96, by omega⟩ := Fin.ext (by show l.val = 96 + (l.val - 96); omega)
    rw [e]; exact hp _

theorem sum_lanes (f : Fin 128 → EReal) : ∑ l, f l = (∑ j, f (ln j)) + ((∑ j, f (lr j)) + ∑ j, f (lp j)) := by
  rw [Fin.sum_univ_add (a := 64) (b := 64) f, Fin.sum_univ_add (a := 32) (b := 32) (fun i => f (Fin.natAdd 64 i))]
  refine congrArg₂ (· + ·) (Finset.sum_congr rfl fun k _ => congrArg f (Fin.ext rfl)) (congrArg₂ (· + ·) (Finset.sum_congr rfl fun k _ => congrArg f (Fin.ext rfl)) (Finset.sum_congr rfl fun k _ => congrArg f (Fin.ext ?_)))
  show 64 + (32 + k.val) = 96 + k.val
  omega

/-- The sums over the masked lanes. -/
theorem sum_ln (f : Fin 128 → EReal) : ∑ l : Fin 128, (if l.val < 64 then f l else 0) = ∑ j, f (ln j) := by
  rw [sum_lanes, Finset.sum_congr rfl fun j _ => if_pos (by show j.val < 64; omega), Finset.sum_eq_zero fun j _ => if_neg (by show ¬64 + j.val < 64; omega),
    Finset.sum_eq_zero fun j _ => if_neg (by show ¬96 + j.val < 64; omega), add_zero, add_zero]
theorem sum_lr (f : Fin 128 → EReal) : ∑ l : Fin 128, (if 64 ≤ l.val ∧ l.val < 96 then f l else 0) = ∑ j, f (lr j) := by
  rw [sum_lanes, Finset.sum_eq_zero fun j _ => if_neg (by show ¬(64 ≤ j.val ∧ j.val < 96); omega),
    Finset.sum_congr rfl fun (j : Fin 32) _ => if_pos (by show 64 ≤ 64 + j.val ∧ 64 + j.val < 96; omega),
    Finset.sum_eq_zero fun j _ => if_neg (by show ¬(64 ≤ 96 + j.val ∧ 96 + j.val < 96); omega), zero_add, add_zero]

/-! ## The head in 128 lanes -/

/-- The normalised lanes. -/
def gain (q g : Fin 128 → EReal) (l : Fin 128) : EReal :=
  q l * (if l.val < 64 then inv N64 (fun j => q (ln j)) else if 64 ≤ l.val ∧ l.val < 96 then inv N32 (fun j => q (lr j)) else 0) * g l
/-- The rotation's matrix: minus one from the second half to the first, one from the first to the second. -/
def rot (r l : Fin 128) : EReal :=
  if (64 ≤ l.val ∧ l.val < 80) ∧ r.val = l.val + 16 then M1 else if (80 ≤ l.val ∧ l.val < 96) ∧ r.val + 16 = l.val then 1 else 0
def head (q g c s : Fin 128 → EReal) (l : Fin 128) : EReal := gain q g l * c l + (∑ r, gain q g r * rot r l) * s l

section
variable (q g c s : Fin 128 → EReal)
theorem gain_n (j : Fin 64) : gain q g (ln j) = q (ln j) * inv N64 (fun j => q (ln j)) * g (ln j) := by
  unfold gain; rw [if_pos (show (ln j).val < 64 from j.isLt)]
theorem gain_r (j : Fin 32) : gain q g (lr j) = q (lr j) * inv N32 (fun j => q (lr j)) * g (lr j) := by
  unfold gain; rw [if_neg (by show ¬64 + j.val < 64; omega), if_pos (by show 64 ≤ 64 + j.val ∧ 64 + j.val < 96; omega)]
theorem gain_p (j : Fin 32) : gain q g (lp j) = 0 := by
  unfold gain; rw [if_neg (by show ¬96 + j.val < 64; omega), if_neg (by show ¬(64 ≤ 96 + j.val ∧ 96 + j.val < 96); omega), mul_zero, zero_mul]

theorem m1 : M1 = -1 := by
  have e : M1 = ((-1 : ℝ) : EReal) := by
    simp [M1, Ideal.ofBits, Ideal.ieee, -EReal.coe_mul]; norm_num
  rw [e]; rfl

theorem rot_1 (a : Fin 128 → EReal) (j : Fin 16) : ∑ r, a r * rot r (lr (h1 j)) = -a (lr (h2 j)) := by
  rw [Finset.sum_eq_single (lr (h2 j))]
  · unfold rot
    rw [if_pos (by show (64 ≤ 64 + j.val ∧ 64 + j.val < 80) ∧ 64 + (16 + j.val) = 64 + j.val + 16; omega), m1, mul_neg, mul_one]
  · intro r _ hr
    unfold rot
    rw [if_neg (fun h => hr (Fin.ext (by have := h.2; show r.val = 64 + (16 + j.val); change r.val = 64 + j.val + 16 at this; omega))),
      if_neg (fun h => by have := h.1.1; change 80 ≤ 64 + j.val at this; omega), mul_zero]
  · exact fun h => absurd (Finset.mem_univ _) h
theorem rot_2 (a : Fin 128 → EReal) (j : Fin 16) : ∑ r, a r * rot r (lr (h2 j)) = a (lr (h1 j)) := by
  rw [Finset.sum_eq_single (lr (h1 j))]
  · unfold rot
    rw [if_neg (fun h => by have := h.1.2; change 64 + (16 + j.val) < 80 at this; omega),
      if_pos (by show (80 ≤ 64 + (16 + j.val) ∧ 64 + (16 + j.val) < 96) ∧ 64 + j.val + 16 = 64 + (16 + j.val); omega), mul_one]
  · intro r _ hr
    unfold rot
    rw [if_neg (fun h => by have := h.1.2; change 64 + (16 + j.val) < 80 at this; omega),
      if_neg (fun h => hr (Fin.ext (by have := h.2; show r.val = 64 + j.val; change r.val + 16 = 64 + (16 + j.val) at this; omega))), mul_zero]
  · exact fun h => absurd (Finset.mem_univ _) h

theorem head_n (j : Fin 64) (hc : c (ln j) = 1) (hs : s (ln j) = 0) : head q g c s (ln j) = q (ln j) * inv N64 (fun j => q (ln j)) * g (ln j) := by
  unfold head; rw [hc, hs, mul_one, mul_zero, add_zero, gain_n]
theorem head_1 (j : Fin 16) : head q g c s (lr (h1 j)) = gain q g (lr (h1 j)) * c (lr (h1 j)) - gain q g (lr (h2 j)) * s (lr (h1 j)) := by
  unfold head; rw [rot_1, EReal.neg_mul, sub_eq_add_neg]
theorem head_2 (j : Fin 16) : head q g c s (lr (h2 j)) = gain q g (lr (h1 j)) * s (lr (h2 j)) + gain q g (lr (h2 j)) * c (lr (h2 j)) := by
  unfold head; rw [rot_2, add_comm]
theorem head_p (j : Fin 32) (hs : s (lp j) = 0) : head q g c s (lp j) = 0 := by
  unfold head; rw [gain_p, hs, mul_zero, zero_mul, add_zero]
end

end Cert.QMath
end
-- ==== Proof.QFwdHeads.lean ====
/-
  The queries' call at a point: its sixteen heads are one function of their 128 columns.
-/
module

public import proofs.«01_k».proof.Defs
public import proofs.«01_k».proof.Proof.Gen.QFwdIdeal.Frame
public import proofs.«01_k».proof.Proof.Tiles
public import proofs.«01_k».proof.Proof.QMath

@[expose] public section

set_option maxRecDepth 16384

noncomputable section

namespace Cert.QFwdIdeal.Heads

open Idealize.ShloMosaic Idealize.ShloMosaic.TcCoe Idealize.SL.Sem
open Cert.QFwdIdeal Cert.QFwdIdeal.Gen Cert.Tiles Cert.QMath

theorem zeros2 : (![0, 0] : Fin 2 → ℕ) = fun _ => 0 := funext fun a => by fin_cases a <;> rfl

/-! ## The masks -/

theorem mask_n : ∀ l : Fin 128, IntOp.cmpi CmpIPredicate.slt (BitVec.ofNat 32 l.val) 64#32 = if l.val < 64 then 1#1 else 0#1 := by decide +kernel
theorem mask_r : ∀ l : Fin 128, IntOp.andi (IntOp.cmpi CmpIPredicate.sge (BitVec.ofNat 32 l.val) 64#32) (IntOp.cmpi CmpIPredicate.slt (BitVec.ofNat 32 l.val) 96#32) =
    if 64 ≤ l.val ∧ l.val < 96 then 1#1 else 0#1 := by decide +kernel
theorem mask_1 : ∀ r l : Fin 128, IntOp.andi (IntOp.andi (IntOp.cmpi CmpIPredicate.sge (BitVec.ofNat 32 l.val) 64#32) (IntOp.cmpi CmpIPredicate.slt (BitVec.ofNat 32 l.val) 80#32))
      (IntOp.cmpi CmpIPredicate.eq (BitVec.ofNat 32 r.val) (IntOp.addi (BitVec.ofNat 32 l.val) 16#32)) =
    if (64 ≤ l.val ∧ l.val < 80) ∧ r.val = l.val + 16 then 1#1 else 0#1 := by decide +kernel
theorem mask_2 : ∀ r l : Fin 128, IntOp.andi (IntOp.andi (IntOp.cmpi CmpIPredicate.sge (BitVec.ofNat 32 l.val) 80#32) (IntOp.cmpi CmpIPredicate.slt (BitVec.ofNat 32 l.val) 96#32))
      (IntOp.cmpi CmpIPredicate.eq (BitVec.ofNat 32 r.val) (IntOp.subi (BitVec.ofNat 32 l.val) 16#32)) =
    if (80 ≤ l.val ∧ l.val < 96) ∧ r.val + 16 = l.val then 1#1 else 0#1 := by decide +kernel
theorem pick {p : Prop} [Decidable p] (a b : EReal) : Scalar.select (if p then 1#1 else 0#1) a b = if p then a else b := by
  split <;> rfl

/-! ## A head -/

/-- A head's lanes, by the code of the first. -/
def headT (v2 v4 : FVec Ideal S256x128 .f32) (v10 : FVec Ideal S1x128 .f32) (v77 : FVec Ideal S128x128 .f32) (v78 : FVec Ideal S256x128 .f32) : FVec Ideal S256x128 .f32 :=
  k0_pay17 (F := Ideal) v4 (k0_pay15 v2 v10 v78) (k0_pay16 v10 v77 v78)

theorem rot_at (r l : Fin 128) : k0_pay12 (F := Ideal) (ix2 r l) = rot r l := by
  pointwise [k0_pay12]
  rw [mask_1, mask_2, pick, pick]
  rfl

theorem gain_at (v10 : FVec Ideal S1x128 .f32) (v78 : FVec Ideal S256x128 .f32) (r : Fin 256) (l : Fin 128) :
    k0_pay14 (F := Ideal) v10 v78 (ix2 r l) = gain (row v78 r) (vec v10) l := by
  pointwise [k0_pay14]
  simp only [mask_n, mask_r, pick]
  rw [sum_ln (fun l => v78 (ix2 r l) * v78 (ix2 r l)), sum_lr (fun l => v78 (ix2 r l) * v78 (ix2 r l))]
  rfl

theorem headT_at (v2 v4 : FVec Ideal S256x128 .f32) (v10 : FVec Ideal S1x128 .f32) (v78 : FVec Ideal S256x128 .f32) (r : Fin 256) (l : Fin 128) :
    headT v2 v4 v10 (k0_pay12 (F := Ideal)) v78 (ix2 r l) = head (row v78 r) (vec v10) (row v2 r) (row v4 r) l := by
  have h (v77 : FVec Ideal S128x128 .f32) (G : FVec Ideal S256x128 .f32) : k0_pay17 (F := Ideal) v4 (mulf G v2)
      (matmul dot_S256x128_S128x128_S256x128_1_0_0_1_n_n (some .fp32) G v77 (constant S256x128 .f32 0x00000000#32)) (ix2 r l) =
      G (ix2 r l) * v2 (ix2 r l) + (∑ k, G (ix2 r k) * v77 (ix2 k l)) * v4 (ix2 r l) := by
    pointwise [k0_pay17]
  refine (h _ (k0_pay14 (F := Ideal) v10 v78)).trans ?_
  simp only [gain_at, rot_at]
  rfl

section
variable (v2 v4 : FVec Ideal S256x128 .f32) (v10 : FVec Ideal S1x128 .f32) (v77 : FVec Ideal S128x128 .f32) (v52 : FVec Ideal S256x2048 .f32)

/-- The sixteen heads, each of its columns. -/
def hs : Fin 16 → FVec Ideal S256x128 .f32 :=
  ![headT v2 v4 v10 v77 (extractStridedSlice S256x128 ![0, 0] v52 slices_S256x2048_o0_0_S256x128),
    headT v2 v4 v10 v77 (extractStridedSlice S256x128 ![0, 128] v52 slices_S256x2048_o0_128_S256x128),
    headT v2 v4 v10 v77 (extractStridedSlice S256x128 ![0, 256] v52 slices_S256x2048_o0_256_S256x128),
    headT v2 v4 v10 v77 (extractStridedSlice S256x128 ![0, 384] v52 slices_S256x2048_o0_384_S256x128),
    headT v2 v4 v10 v77 (extractStridedSlice S256x128 ![0, 512] v52 slices_S256x2048_o0_512_S256x128),
    headT v2 v4 v10 v77 (extractStridedSlice S256x128 ![0, 640] v52 slices_S256x2048_o0_640_S256x128),
    headT v2 v4 v10 v77 (extractStridedSlice S256x128 ![0, 768] v52 slices_S256x2048_o0_768_S256x128),
    headT v2 v4 v10 v77 (extractStridedSlice S256x128 ![0, 896] v52 slices_S256x2048_o0_896_S256x128),
    headT v2 v4 v10 v77 (extractStridedSlice S256x128 ![0, 1024] v52 slices_S256x2048_o0_1024_S256x128),
    headT v2 v4 v10 v77 (extractStridedSlice S256x128 ![0, 1152] v52 slices_S256x2048_o0_1152_S256x128),
    headT v2 v4 v10 v77 (extractStridedSlice S256x128 ![0, 1280] v52 slices_S256x2048_o0_1280_S256x128),
    headT v2 v4 v10 v77 (extractStridedSlice S256x128 ![0, 1408] v52 slices_S256x2048_o0_1408_S256x128),
    headT v2 v4 v10 v77 (extractStridedSlice S256x128 ![0, 1536] v52 slices_S256x2048_o0_1536_S256x128),
    headT v2 v4 v10 v77 (extractStridedSlice S256x128 ![0, 1664] v52 slices_S256x2048_o0_1664_S256x128),
    headT v2 v4 v10 v77 (extractStridedSlice S256x128 ![0, 1792] v52 slices_S256x2048_o0_1792_S256x128),
    headT v2 v4 v10 v77 (extractStridedSlice S256x128 ![0, 1920] v52 slices_S256x2048_o0_1920_S256x128)]

/-- All heads' lanes. -/
def all : FVec Ideal S256x2048 .bf16 :=
  k0_pay2 (F := Ideal) (hs v2 v4 v10 v77 v52 0) (hs v2 v4 v10 v77 v52 1) (hs v2 v4 v10 v77 v52 2) (hs v2 v4 v10 v77 v52 3) (hs v2 v4 v10 v77 v52 4) (hs v2 v4 v10 v77 v52 5) (hs v2 v4 v10 v77 v52 6) (hs v2 v4 v10 v77 v52 7) (hs v2 v4 v10 v77 v52 8) (hs v2 v4 v10 v77 v52 9) (hs v2 v4 v10 v77 v52 10) (hs v2 v4 v10 v77 v52 11) (hs v2 v4 v10 v77 v52 12) (hs v2 v4 v10 v77 v52 13) (hs v2 v4 v10 v77 v52 14) (hs v2 v4 v10 v77 v52 15)

theorem all_at (r : Fin 256) (i : Fin 16) (l : Fin 128) : all v2 v4 v10 v77 v52 (ix2 r (col i l)) = hs v2 v4 v10 v77 v52 i (ix2 r l) := by
  unfold all
  generalize hs v2 v4 v10 v77 v52 = T
  refine (concatenate_ofFn_apply (t := S256x2048) (s₁ := S256x128) (1 : Fin 2) T concatenates_S256x128_S256x128_S256x128_S256x128_S256x128_S256x128_S256x128_S256x128_S256x128_S256x128_S256x128_S256x128_S256x128_S256x128_S256x128_S256x128_S256x2048_d1
    rfl 128 rfl (ix2 r (col i l)) i ?_ (ix2 r l) ?_ fun b hb => ?_)
  · show (128 * i.val + l.val) / 128 = i.val; omega
  · show l.val = (128 * i.val + l.val) % 128; omega
  · refine Fin.cases (fun _ => rfl) (fun d => ?_) b hb
    obtain rfl : d = 0 := Subsingleton.elim (α := Fin 1) _ _
    exact fun h => absurd rfl h

theorem slice_at (o : ℕ) (h : S256x2048.Slices ![0, o] S256x128) (r : Fin 256) (l : Fin 128) (n : Fin 2048) (hn : n.val = o + l.val) :
    extractStridedSlice S256x128 ![0, o] v52 h (ix2 r l) = v52 (ix2 r n) := by
  refine congrArg v52 (funext fun d => Fin.ext ?_)
  refine Fin.cases ?_ (fun d => ?_) d
  · show 0 + r.val = r.val; omega
  · refine Fin.cases ?_ (fun d => d.elim0) d
    exact hn.symm

theorem hs_at (r : Fin 256) (i : Fin 16) (l : Fin 128) :
    hs v2 v4 v10 (k0_pay12 (F := Ideal)) v52 i (ix2 r l) = head (fun l => v52 (ix2 r (col i l))) (vec v10) (row v2 r) (row v4 r) l := by
  have e (o : ℕ) (h : S256x2048.Slices ![0, o] S256x128) (i : Fin 16) (ho : o = 128 * i.val) :
      headT v2 v4 v10 (k0_pay12 (F := Ideal)) (extractStridedSlice S256x128 ![0, o] v52 h) (ix2 r l) = head (fun l => v52 (ix2 r (col i l))) (vec v10) (row v2 r) (row v4 r) l := by
    rw [headT_at]
    exact congrArg (fun q => head q (vec v10) (row v2 r) (row v4 r) l) (funext fun l => slice_at v52 o h r l (col i l) (by subst ho; rfl))
  fin_cases i <;> exact e _ _ _ rfl
end

/-! ## The columns -/

theorem q_at (x0 : Vec Ideal S256x1024 .f32) (x3 x4 x5 : Vec Ideal S1x1024 .f32) (x6 : Vec Ideal S1x256 .f32) (x8 : FVec Ideal S1024x256 .bf16) (x9 : FVec Ideal S256x2048 .bf16)
    (r : Fin 256) (n : Fin 2048) :
    k0_pay11 (F := Ideal) x4 x6 x8 x9 (k0_pay8 (F := Ideal)) (k0_pay9 (F := Ideal)) (k0_pay10 (F := Ideal) x0 x3 x5) (ix2 r n) =
      query (row x0 r) (vec x3) (vec x4) (vec x5) (vec x6) (mat x8) (mat x9) n := by
  pointwise [k0_pay11, k0_pay8, k0_pay9, k0_pay10]
  rfl

/-! ## The call's block -/

section
variable (x0 : Vec Ideal S256x1024 .f32) (x1 x2 : Vec Ideal S256x128 .f32) (x3 x4 x5 : Vec Ideal S1x1024 .f32) (x6 : Vec Ideal S1x256 .f32) (x7 : Vec Ideal S1x128 .f32)
    (x8 : Vec Ideal S1024x256 .bf16) (x9 : Vec Ideal S256x2048 .bf16)

theorem v2_eq : row (k0_pay112 x0 x1 x2 x3 x4 x5 x6 x7 x8 x9) = row x1 := by
  funext r l
  unfold row k0_pay112 r0_1
  rw [View.ld_unit_zero (S := S256x128) zeros2]
  pointwise [k0_pay3]
theorem v4_eq : row (k0_pay113 x0 x1 x2 x3 x4 x5 x6 x7 x8 x9) = row x2 := by
  funext r l
  unfold row k0_pay113 r0_1
  rw [View.ld_unit_zero (S := S256x128) zeros2]
  pointwise [k0_pay4]
theorem v10_eq : vec (k0_pay114 x0 x1 x2 x3 x4 x5 x6 x7 x8 x9) = vec x7 := by
  funext l
  unfold vec k0_pay114 r0_4
  rw [View.ld_unit_zero (S := S1x128) zeros2]
  pointwise [k0_pay5]
theorem v12_eq : mat (k0_pay115 x0 x1 x2 x3 x4 x5 x6 x7 x8 x9) = mat x8 := by
  funext k l
  unfold mat k0_pay115 r0_5
  rw [View.ld_unit_zero (S := S1024x256) zeros2]
  pointwise [k0_pay6]
theorem v14_eq : mat (k0_pay116 x0 x1 x2 x3 x4 x5 x6 x7 x8 x9) = mat x9 := by
  funext k l
  unfold mat k0_pay116 r0_6
  rw [View.ld_unit_zero (S := S256x2048) zeros2]
  pointwise [k0_pay7]
theorem v52_at (r : Fin 256) (n : Fin 2048) : k0_pay120 x0 x1 x2 x3 x4 x5 x6 x7 x8 x9 (ix2 r n) =
    query (row x0 r) (vec x3) (vec x4) (vec x5) (vec x6) (mat x8) (mat x9) n := by
  rw [← v12_eq x0 x1 x2 x3 x4 x5 x6 x7 x8 x9, ← v14_eq x0 x1 x2 x3 x4 x5 x6 x7 x8 x9]
  unfold k0_pay120 k0_pay119 k0_pay118 k0_pay117 r0_0 r0_2 r0_3
  rw [View.ld_unit_zero (S := S256x1024) zeros2, View.ld_unit_zero (S := S1x1024) zeros2, View.ld_unit_zero (S := S1x1024) zeros2,
    View.ld_unit_zero (S := S1x1024) zeros2, View.ld_unit_zero (S := S1x256) zeros2]
  exact q_at x0 x3 x4 x5 x6 _ _ r n

theorem pt (r : Fin 256) (i : Fin 16) (l : Fin 128) :
    out0_10 x0 x1 x2 x3 x4 x5 x6 x7 x8 x9 (ix2 r (col i l)) =
      head (fun l => query (row x0 r) (vec x3) (vec x4) (vec x5) (vec x6) (mat x8) (mat x9) (col i l)) (vec x7) (row x1 r) (row x2 r) l := by
  have h : all (k0_pay112 x0 x1 x2 x3 x4 x5 x6 x7 x8 x9) (k0_pay113 x0 x1 x2 x3 x4 x5 x6 x7 x8 x9) (k0_pay114 x0 x1 x2 x3 x4 x5 x6 x7 x8 x9)
      (k0_pay12 (F := Ideal)) (k0_pay120 x0 x1 x2 x3 x4 x5 x6 x7 x8 x9) (ix2 r (col i l)) = _ := (all_at _ _ _ _ _ r i l).trans (hs_at _ _ _ _ r i l)
  rw [v2_eq, v4_eq, v10_eq] at h
  simp only [v52_at] at h
  rw [← h]
  frame_out
  have e121 : k0_pay121 x0 x1 x2 x3 x4 x5 x6 x7 x8 x9 = k0_pay12 (F := Ideal) := rfl
  have e122 : k0_pay122 x0 x1 x2 x3 x4 x5 x6 x7 x8 x9 =
    extractStridedSlice S256x128 ![0, 0] (k0_pay120 x0 x1 x2 x3 x4 x5 x6 x7 x8 x9) slices_S256x2048_o0_0_S256x128 := rfl
  rw [e121, e122]
  generalize k0_pay112 x0 x1 x2 x3 x4 x5 x6 x7 x8 x9 = v2
  generalize k0_pay113 x0 x1 x2 x3 x4 x5 x6 x7 x8 x9 = v4
  generalize k0_pay114 x0 x1 x2 x3 x4 x5 x6 x7 x8 x9 = v10
  generalize k0_pay120 x0 x1 x2 x3 x4 x5 x6 x7 x8 x9 = v52
  generalize k0_pay12 (F := Ideal) = v77
  rfl
end

end Cert.QFwdIdeal.Heads
end
-- ==== Proof.QFwdEntry.lean ====
/-
  The queries' call: the arrays that the host prepares for it, lane by lane.
-/
module

public import proofs.«01_k».proof.Proof.QFwdHeads
public import proofs.«01_k».proof.Proof.FfnSpec
public import Idealize.ShloMosaic.Lib.Claim
public import Idealize.ShloMosaic.Lib.StableHlo.RunRead

@[expose] public section

set_option maxRecDepth 16384

noncomputable section

namespace Cert.QFwdIdeal.Fore

open Idealize.ShloMosaic Idealize.ShloMosaic.TcCoe Idealize.SL.Sem
open Cert.QFwdIdeal Cert.QFwdIdeal.Gen Cert.Tiles Cert.QMath Cert.QFwdIdeal.Heads

variable (m : (ℓ : Loc nD τ sig) → Buf (Elt Ideal) ℓ) (c : Dev nD)

/-- The arguments: the rows, the norm's three vectors, the three gains, the rotation's tables, the weights. -/
abbrev X : S4096x1024.Idx → EReal := m ((c.tc : Thread nD τ).loc main_arg0)
abbrev G : S1x1024.Idx → EReal := m ((c.tc : Thread nD τ).loc main_arg1)
abbrev SH : S1x1024.Idx → EReal := m ((c.tc : Thread nD τ).loc main_arg2)
abbrev SC : S1x1024.Idx → EReal := m ((c.tc : Thread nD τ).loc main_arg3)
abbrev QG : S1x256.Idx → EReal := m ((c.tc : Thread nD τ).loc main_arg4)
abbrev GN : S1x64.Idx → EReal := m ((c.tc : Thread nD τ).loc main_arg5)
abbrev GR : S1x32.Idx → EReal := m ((c.tc : Thread nD τ).loc main_arg6)
abbrev CO : S4096x16.Idx → EReal := m ((c.tc : Thread nD τ).loc main_arg7)
abbrev SI : S4096x16.Idx → EReal := m ((c.tc : Thread nD τ).loc main_arg8)
abbrev WD : S1024x256.Idx → EReal := m ((c.tc : Thread nD τ).loc main_arg9)
abbrev WU : S256x1536.Idx → EReal := m ((c.tc : Thread nD τ).loc main_arg10)

/-- The prepared arrays: the two tables, the gains and the padded weight in 128 lanes a head, the other weight. -/
abbrev arrC : FVec Ideal S4096x128 .f32 := V m c main_v4
abbrev arrS : FVec Ideal S4096x128 .f32 := V m c main_v7
abbrev arrG : FVec Ideal S1x128 .f32 := V m c main_v9
abbrev arrD : S1024x256.Idx → EReal := V m c main_v10
abbrev arrU : FVec Ideal S256x2048 .bf16 := V m c main_v14

/-- A table in 128 lanes, of its 16 columns twice and the lanes before and after them; the gains in 128 lanes. -/
def tab (a : FVec Ideal S4096x64 .f32) (t t' : FVec Ideal S4096x16 .f32) (z : FVec Ideal S4096x32 .f32) : FVec Ideal S4096x128 .f32 :=
  concatenate S4096x128 1 [⟨S4096x64, a⟩, ⟨S4096x16, t⟩, ⟨S4096x16, t'⟩, ⟨S4096x32, z⟩] concatenates_S4096x64_S4096x16_S4096x16_S4096x32_S4096x128_d1
def gains (a : FVec Ideal S1x64 .f32) (b z : FVec Ideal S1x32 .f32) : FVec Ideal S1x128 .f32 :=
  concatenate S1x128 1 [⟨S1x64, a⟩, ⟨S1x32, b⟩, ⟨S1x32, z⟩] concatenates_S1x64_S1x32_S1x32_S1x128_d1
theorem tab_congr {a a2 : FVec Ideal S4096x64 .f32} {t t2 u u2 : FVec Ideal S4096x16 .f32} {z z2 : FVec Ideal S4096x32 .f32}
    (ha : a = a2) (ht : t = t2) (hu : u = u2) (hz : z = z2) : tab a t u z = tab a2 t2 u2 z2 := by rw [ha, ht, hu, hz]
theorem gains_congr {a a2 : FVec Ideal S1x64 .f32} {b b2 z z2 : FVec Ideal S1x32 .f32}
    (ha : a = a2) (hb : b = b2) (hz : z = z2) : gains a b z = gains a2 b2 z2 := by rw [ha, hb, hz]

/-- A constant in all lanes. -/
def fill (b : BitVec 32) : FVec Ideal S4096x128 .f32 := broadcastInDim S4096x128 ![] bcast_S_S4096x128 (constant S_ .f32 b)

theorem entryC : arrC m c = tab (extractStridedSlice S4096x64 ![0, 0] (fill 0x3F800000#32) slices_S4096x128_S4096x64_0_0) (CO m c) (CO m c)
    (extractStridedSlice S4096x32 ![0, 0] (fill 0x3F800000#32) slices_S4096x128_S4096x32_0_0) := by
  unfold arrC
  unfold_abbrev_sides
  simp only [List.flatten_cons, List.flatten_nil, List.cons_append, List.nil_append, List.append_nil]
  after_reads_simp
  refine tab_congr ?_ ?_ ?_ ?_
  · change StableHlo.upto _ _ _ (Proc.devRef .tc main_v2) = _
    after_reads_simp
    rfl
  · change StableHlo.upto _ _ _ (Proc.devRef .tc main_arg7) = _
    after_reads_simp
  · change StableHlo.upto _ _ _ (Proc.devRef .tc main_arg7) = _
    after_reads_simp
  · change StableHlo.upto _ _ _ (Proc.devRef .tc main_v3) = _
    after_reads_simp
    rfl
theorem entryS : arrS m c = tab (extractStridedSlice S4096x64 ![0, 0] (fill 0x00000000#32) slices_S4096x128_S4096x64_0_0) (SI m c) (SI m c)
    (extractStridedSlice S4096x32 ![0, 0] (fill 0x00000000#32) slices_S4096x128_S4096x32_0_0) := by
  unfold arrS
  unfold_abbrev_sides
  simp only [List.flatten_cons, List.flatten_nil, List.cons_append, List.nil_append, List.append_nil]
  after_reads_simp
  refine tab_congr ?_ ?_ ?_ ?_
  · change StableHlo.upto _ _ _ (Proc.devRef .tc main_v5) = _
    after_reads_simp
    rfl
  · change StableHlo.upto _ _ _ (Proc.devRef .tc main_arg8) = _
    after_reads_simp
  · change StableHlo.upto _ _ _ (Proc.devRef .tc main_arg8) = _
    after_reads_simp
  · change StableHlo.upto _ _ _ (Proc.devRef .tc main_v6) = _
    after_reads_simp
    rfl
theorem entryG : arrG m c = gains (GN m c) (GR m c) (broadcastInDim S1x32 ![] bcast_S_S1x32 (constant S_ .f32 0x00000000#32)) := by
  unfold arrG
  unfold_abbrev_sides
  simp only [List.flatten_cons, List.flatten_nil, List.cons_append, List.nil_append, List.append_nil]
  after_reads_simp
  refine gains_congr ?_ ?_ ?_
  · change StableHlo.upto _ _ _ (Proc.devRef .tc main_arg5) = _
    after_reads_simp
  · change StableHlo.upto _ _ _ (Proc.devRef .tc main_arg6) = _
    after_reads_simp
  · change StableHlo.upto _ _ _ (Proc.devRef .tc main_v8) = _
    after_reads_simp
theorem entryD : arrD m c = WD m c := by
  unfold arrD
  unfold_abbrev_sides
  simp only [List.flatten_cons, List.flatten_nil, List.cons_append, List.nil_append, List.append_nil]
  after_reads_simp
  rfl

/-- The padded weight outside the padding. -/
theorem entryU (k : Fin 256) (i : Fin 16) (l : Fin 128) (h : l.val < 96) : arrU m c (ix2 k (col i l)) = WU m c (ix2 k ⟨96 * i.val + l.val, by omega⟩) := by
  unfold arrU
  unfold_abbrev_sides
  simp only [List.flatten_cons, List.flatten_nil, List.cons_append, List.nil_append, List.append_nil]
  after_reads_simp
  simp only [StableHlo.TRef.toBuf, StableHlo.TRef.ofBuf, cast_eq]
  unfold col
  pointwise []
  rw [dif_pos h]
  exact congrArg (WU m c) (congrArg (ix2 k) (Fin.ext (by show i.val * 96 + l.val = 96 * i.val + l.val; omega)))

/-! ## Their lanes -/

section
variable (a : BitVec 32) (t : FVec Ideal S4096x16 .f32) (R : Fin 4096)
abbrev lanes16 : FVec Ideal S4096x128 .f32 :=
  tab (extractStridedSlice S4096x64 ![0, 0] (fill a) slices_S4096x128_S4096x64_0_0) t t (extractStridedSlice S4096x32 ![0, 0] (fill a) slices_S4096x128_S4096x32_0_0)
theorem tab_n (j : Fin 64) : lanes16 a t (ix2 R (ln j)) = Ideal.ofBits .f32 a := by
  unfold ln
  pointwise [tab, fill]
theorem tab_1 (j : Fin 16) : lanes16 a t (ix2 R (lr (h1 j))) = t (ix2 R j) := by
  unfold lr h1
  pointwise [tab, fill]
theorem tab_2 (j : Fin 16) : lanes16 a t (ix2 R (lr (h2 j))) = t (ix2 R j) := by
  unfold lr h2
  pointwise [tab, fill]
theorem tab_p (j : Fin 32) : lanes16 a t (ix2 R (lp j)) = Ideal.ofBits .f32 a := by
  unfold lp
  pointwise [tab, fill]
  rw [dif_neg (by omega), dif_neg (by omega), dif_neg (by omega)]
variable (g : FVec Ideal S1x64 .f32) (k z : FVec Ideal S1x32 .f32)
theorem gains_n (j : Fin 64) : gains g k z (ix2 0 (ln j)) = g (ix2 0 j) := by
  unfold ln
  pointwise [gains]
theorem gains_r (j : Fin 32) : gains g k z (ix2 0 (lr j)) = k (ix2 0 j) := by
  unfold lr
  pointwise [gains]
end

end Cert.QFwdIdeal.Fore
end
-- ==== Proof.QFwdRef.lean ====
/-
  The reference's queries at a point: the norms, the rotation and the padding, head by head.
-/
module

public import proofs.«01_k».proof.Proof.Gen.QFwdReferenceIdeal.Run
public import proofs.«01_k».proof.Proof.Tiles
public import proofs.«01_k».proof.Proof.QMath
public import proofs.«01_k».proof.Proof.FfnSpec

@[expose] public section

set_option maxRecDepth 16384

noncomputable section

namespace Cert.QFwdReferenceIdeal.Fore

open Idealize.ShloMosaic Idealize.ShloMosaic.TcCoe Idealize.SL.Sem Idealize.ShloMosaic.StableHlo
open Cert.QFwdReferenceIdeal Cert.QFwdReferenceIdeal.Gen Cert.Tiles Cert.QMath Cert.FfnMath

/-- The product with the down projection, and with the up projection, as the host writes them. -/
def hlat (a0 : FVec Ideal S4096x1024 .f32) (a1 a2 a3 : FVec Ideal S1x1024 .f32) (a9 : FVec Ideal S1024x256 .f32) : FVec Ideal S4096x256 .f32 :=
  Host.dotGeneral dot_S4096x1024_S1024x256_S4096x256_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a3))) (broadcastInDim S4096x1024 ![0, 1] bcast_S1x1024_S4096x1024_0_1 a2)) a9
def hq (L : FVec Ideal S4096x256 .f32) (a4 : FVec Ideal S1x256 .f32) (a10 : FVec Ideal S256x1536 .f32) : FVec Ideal S4096x1536 .f32 :=
  Host.dotGeneral dot_S4096x256_S256x1536_S4096x1536_1_0_0_1_n_n none (mulf (mulf L (broadcastInDim S4096x256 ![0, 1] bcast_S4096x1_S4096x256_0_1 (Host.rsqrt (addf (Host.divf (broadcastInDim S4096x1 ![0] bcast_S4096_S4096x1_0 (Host.reduceAdd (mulf L L) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 a4)) a10
/-- The sixteen heads of 96, the norms of their two parts, the rotation, and the padded heads. -/
def hs (Q : FVec Ideal S4096x1536 .f32) : FVec Ideal S4096x16x96 .f32 :=
  shapeCast _ Q shapeCasts_S4096x1536_S4096x16x96
def hn (q : FVec Ideal S4096x16x96 .f32) (a5 : FVec Ideal S1x64 .f32) : FVec Ideal S4096x16x64 .f32 :=
  mulf (mulf (extractStridedSlice S4096x16x64 ![0, 0, 0] q slices_S4096x16x96_S4096x16x64_0_0_0) (broadcastInDim S4096x16x64 ![0, 1, 2] bcast_S4096x16x1_S4096x16x64_0_1_2 (Host.rsqrt (addf (Host.divf (broadcastInDim S4096x16x1 ![0, 1] bcast_S4096x16_S4096x16x1_0_1 (Host.reduceAdd (mulf (extractStridedSlice S4096x16x64 ![0, 0, 0] q slices_S4096x16x96_S4096x16x64_0_0_0) (extractStridedSlice S4096x16x64 ![0, 0, 0] q slices_S4096x16x96_S4096x16x64_0_0_0)) (constant S_ .f32 0x00000000#32) reducesTo_S4096x16x64_S4096x16_d2 h_S_)) (broadcastInDim S4096x16x1 ![] bcast_S_S4096x16x1 (constant S_ .f32 0x42800000#32))) (broadcastInDim S4096x16x1 ![] bcast_S_S4096x16x1 (constant S_ .f32 0x358637BD#32)))))) (broadcastInDim S4096x16x64 ![0, 1, 2] bcast_S1x1x64_S4096x16x64_0_1_2 (shapeCast _ a5 shapeCasts_S1x64_S1x1x64))
def hr (q : FVec Ideal S4096x16x96 .f32) (a6 : FVec Ideal S1x32 .f32) : FVec Ideal S4096x16x32 .f32 :=
  mulf (mulf (extractStridedSlice S4096x16x32 ![0, 0, 64] q slices_S4096x16x96_S4096x16x32_0_0_64) (broadcastInDim S4096x16x32 ![0, 1, 2] bcast_S4096x16x1_S4096x16x32_0_1_2 (Host.rsqrt (addf (Host.divf (broadcastInDim S4096x16x1 ![0, 1] bcast_S4096x16_S4096x16x1_0_1 (Host.reduceAdd (mulf (extractStridedSlice S4096x16x32 ![0, 0, 64] q slices_S4096x16x96_S4096x16x32_0_0_64) (extractStridedSlice S4096x16x32 ![0, 0, 64] q slices_S4096x16x96_S4096x16x32_0_0_64)) (constant S_ .f32 0x00000000#32) reducesTo_S4096x16x32_S4096x16_d2 h_S_)) (broadcastInDim S4096x16x1 ![] bcast_S_S4096x16x1 (constant S_ .f32 0x42000000#32))) (broadcastInDim S4096x16x1 ![] bcast_S_S4096x16x1 (constant S_ .f32 0x358637BD#32)))))) (broadcastInDim S4096x16x32 ![0, 1, 2] bcast_S1x1x32_S4096x16x32_0_1_2 (shapeCast _ a6 shapeCasts_S1x32_S1x1x32))
def hro (qr : FVec Ideal S4096x16x32 .f32) (a7 a8 : FVec Ideal S4096x16 .f32) : FVec Ideal S4096x16x32 .f32 :=
  concatenate S4096x16x32 2 [⟨S4096x16x16, (subf (mulf (extractStridedSlice S4096x16x16 ![0, 0, 0] qr slices_S4096x16x32_S4096x16x16_0_0_0) (broadcastInDim S4096x16x16 ![0, 1, 2] bcast_S4096x1x16_S4096x16x16_0_1_2 (broadcastInDim S4096x1x16 ![0, 2] bcast_S4096x16_S4096x1x16_0_2 a7))) (mulf (extractStridedSlice S4096x16x16 ![0, 0, 16] qr slices_S4096x16x32_S4096x16x16_0_0_16) (broadcastInDim S4096x16x16 ![0, 1, 2] bcast_S4096x1x16_S4096x16x16_0_1_2 (broadcastInDim S4096x1x16 ![0, 2] bcast_S4096x16_S4096x1x16_0_2 a8))))⟩, ⟨S4096x16x16, (addf (mulf (extractStridedSlice S4096x16x16 ![0, 0, 0] qr slices_S4096x16x32_S4096x16x16_0_0_0) (broadcastInDim S4096x16x16 ![0, 1, 2] bcast_S4096x1x16_S4096x16x16_0_1_2 (broadcastInDim S4096x1x16 ![0, 2] bcast_S4096x16_S4096x1x16_0_2 a8))) (mulf (extractStridedSlice S4096x16x16 ![0, 0, 16] qr slices_S4096x16x32_S4096x16x16_0_0_16) (broadcastInDim S4096x16x16 ![0, 1, 2] bcast_S4096x1x16_S4096x16x16_0_1_2 (broadcastInDim S4096x1x16 ![0, 2] bcast_S4096x16_S4096x1x16_0_2 a7))))⟩] concatenates_S4096x16x16_S4096x16x16_S4096x16x32_d2
def hpad (qn : FVec Ideal S4096x16x64 .f32) (ro : FVec Ideal S4096x16x32 .f32) : FVec Ideal S4096x2048 .bf16 :=
  truncf .bf16 (shapeCast _ (pad S4096x16x128 ![0, 0, 0] ![0, 0, 32] ![0, 0, 0] (concatenate S4096x16x96 2 [⟨S4096x16x64, qn⟩, ⟨S4096x16x32, ro⟩] concatenates_S4096x16x64_S4096x16x32_S4096x16x96_d2) (sitofp .f32 (constantI S_ 32 0#32)) pads_S4096x16x96_S4096x16x128_000_000_0320 h_S_) shapeCasts_S4096x16x128_S4096x2048) bitsLt_bf16_f32
def hout (a0 : FVec Ideal S4096x1024 .f32) (a1 a2 a3 : FVec Ideal S1x1024 .f32) (a4 : FVec Ideal S1x256 .f32) (a5 : FVec Ideal S1x64 .f32) (a6 : FVec Ideal S1x32 .f32) (a7 a8 : FVec Ideal S4096x16 .f32)
    (a9 : FVec Ideal S1024x256 .f32) (a10 : FVec Ideal S256x1536 .f32) : FVec Ideal S4096x2048 .bf16 :=
  hpad (hn (hs (hq (hlat a0 a1 a2 a3 a9) a4 a10)) a5) (hro (hr (hs (hq (hlat a0 a1 a2 a3 a9) a4 a10)) a6) a7 a8)

/-- Column `a` of head `i` among sixteen of 96, and the columns of its two parts. -/
def qc (i : Fin 16) (a : Fin 96) : Fin 1536 := ⟨96 * i.val + a.val, by omega⟩
def an (j : Fin 64) : Fin 96 := ⟨j.val, by omega⟩
def ar (j : Fin 32) : Fin 96 := ⟨64 + j.val, by omega⟩

section
variable (R : Fin 4096) (i : Fin 16)

theorem hlat_at (a0 : FVec Ideal S4096x1024 .f32) (a1 a2 a3 : FVec Ideal S1x1024 .f32) (a9 : FVec Ideal S1024x256 .f32) (k : Fin 256) :
    hlat a0 a1 a2 a3 a9 (ix2 R k) = proj (hid (row a0 R) (vec a1) (vec a2) (vec a3)) (mat a9) k := by
  unfold proj hid nrm rs ms
  pointwise [hlat]

theorem hq_at (L : FVec Ideal S4096x256 .f32) (a4 : FVec Ideal S1x256 .f32) (a10 : FVec Ideal S256x1536 .f32) (j : Fin 1536) :
    hq L a4 a10 (ix2 R j) = ∑ k, (row L R k * QMath.inv N256 (row L R) * vec a4 k) * mat a10 k j := by
  unfold QMath.inv
  pointwise [hq]

theorem hs_at (Q : FVec Ideal S4096x1536 .f32) (a : Fin 96) : hs Q (ix3 R i a) = Q (ix2 R (qc i a)) := by
  pointwise [hs]
  exact congrArg Q (congrArg (ix2 R) (Fin.ext (by show i.val * 96 + a.val = 96 * i.val + a.val; omega)))

theorem hn_at (q : FVec Ideal S4096x16x96 .f32) (a5 : FVec Ideal S1x64 .f32) (j : Fin 64) :
    hn q a5 (ix3 R i j) = q (ix3 R i (an j)) * QMath.inv N64 (fun j => q (ix3 R i (an j))) * vec a5 j := by
  unfold QMath.inv an
  pointwise [hn]

theorem hr_at (q : FVec Ideal S4096x16x96 .f32) (a6 : FVec Ideal S1x32 .f32) (j : Fin 32) :
    hr q a6 (ix3 R i j) = q (ix3 R i (ar j)) * QMath.inv N32 (fun j => q (ix3 R i (ar j))) * vec a6 j := by
  unfold QMath.inv ar
  pointwise [hr]

theorem hro_1 (qr : FVec Ideal S4096x16x32 .f32) (a7 a8 : FVec Ideal S4096x16 .f32) (j : Fin 16) :
    hro qr a7 a8 (ix3 R i (h1 j)) = qr (ix3 R i (h1 j)) * row a7 R j - qr (ix3 R i (h2 j)) * row a8 R j := by
  unfold h1 h2
  pointwise [hro]
theorem hro_2 (qr : FVec Ideal S4096x16x32 .f32) (a7 a8 : FVec Ideal S4096x16 .f32) (j : Fin 16) :
    hro qr a7 a8 (ix3 R i (h2 j)) = qr (ix3 R i (h1 j)) * row a8 R j + qr (ix3 R i (h2 j)) * row a7 R j := by
  unfold h1 h2
  pointwise [hro]

theorem hpad_n (qn : FVec Ideal S4096x16x64 .f32) (ro : FVec Ideal S4096x16x32 .f32) (j : Fin 64) :
    hpad qn ro (ix2 R (col i (ln j))) = qn (ix3 R i j) := by
  unfold col ln
  pointwise [hpad]
  have e : (128 * i.val + j.val) % 128 = j.val := by omega
  rw [dif_pos (by omega), dif_pos (by omega)]
  exact congrArg qn (congrArg (ix3 R i) (Fin.ext e))
theorem hpad_r (qn : FVec Ideal S4096x16x64 .f32) (ro : FVec Ideal S4096x16x32 .f32) (j : Fin 32) :
    hpad qn ro (ix2 R (col i (lr j))) = ro (ix3 R i j) := by
  unfold col lr
  pointwise [hpad]
  have e : (128 * i.val + (64 + j.val)) % 128 = 64 + j.val := by omega
  rw [dif_pos (by omega), dif_neg (by omega)]
  exact congrArg ro (congrArg (ix3 R i) (Fin.ext (by show (128 * i.val + (64 + j.val)) % 128 - 64 = j.val; omega)))
theorem hpad_p (qn : FVec Ideal S4096x16x64 .f32) (ro : FVec Ideal S4096x16x32 .f32) (j : Fin 32) :
    hpad qn ro (ix2 R (col i (lp j))) = 0 := by
  unfold col lp
  pointwise [hpad]
  rw [dif_neg (by omega), sitofp_zero]
end

theorem res_eq (m : (ℓ : Loc nD τ sig) → Buf (Elt Ideal) ℓ) (c : Dev nD) : Value.res_main_v79 m c =
    hout (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold Value.res_main_v79
  rfl

end Cert.QFwdReferenceIdeal.Fore
end
-- ==== Proof.QFwd.lean ====
/-
  The queries' forward call: what the kernel's result array holds at the end, and that the reference's is the same.
-/
module

public import proofs.«01_k».proof.Proof.QFwdEntry
public import proofs.«01_k».proof.Proof.QFwdRef

@[expose] public section

set_option maxRecDepth 16384

noncomputable section

namespace Cert.QFwdIdeal.Fore

open Idealize.ShloMosaic Idealize.ShloMosaic.TcCoe Idealize.SL.Sem
open Cert.QFwdIdeal Cert.QFwdIdeal.Gen Cert.Tiles Cert.QMath

variable (m : (ℓ : Loc nD τ sig) → Buf (Elt Ideal) ℓ) (c : Dev nD)

section
variable (t : Fin cfg0.N)
abbrev b0 : Vec Ideal S256x1024 .f32 := iblk m c 0 t
abbrev b1 : Vec Ideal S256x128 .f32 := iblk m c 1 t
abbrev b2 : Vec Ideal S256x128 .f32 := iblk m c 2 t
abbrev b3 : Vec Ideal S1x1024 .f32 := iblk m c 3 t
abbrev b4 : Vec Ideal S1x1024 .f32 := iblk m c 4 t
abbrev b5 : Vec Ideal S1x1024 .f32 := iblk m c 5 t
abbrev b6 : Vec Ideal S1x256 .f32 := iblk m c 6 t
abbrev b7 : Vec Ideal S1x128 .f32 := iblk m c 7 t
abbrev b8 : Vec Ideal S1024x256 .bf16 := iblk m c 8 t
abbrev b9 : Vec Ideal S256x2048 .bf16 := iblk m c 9 t
end

theorem idx : ∀ t : Fin cfg0.N,
    win0_0.index t = ![t.val, 0] ∧ win0_1.index t = ![t.val, 0] ∧ win0_2.index t = ![t.val, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧ win0_10.index t = ![t.val, 0] := by
  decide +kernel

section
variable (t : Fin cfg0.N) (r : Fin 256)
theorem in0 : row (b0 m c t) r = row (X m c) (at256 ⟨t.val, t.isLt.trans_eq N_0⟩ r) := by
  obtain ⟨h, -⟩ := idx t
  funext d
  unfold row b0 X at256
  rw [← V_main_arg0 m c]
  blk_ext [iblk, h]
theorem in1 : row (b1 m c t) r = row (arrC m c) (at256 ⟨t.val, t.isLt.trans_eq N_0⟩ r) := by
  obtain ⟨-, h, -⟩ := idx t
  funext d
  unfold row b1 arrC at256
  blk_ext [iblk, h]
theorem in2 : row (b2 m c t) r = row (arrS m c) (at256 ⟨t.val, t.isLt.trans_eq N_0⟩ r) := by
  obtain ⟨-, -, h, -⟩ := idx t
  funext d
  unfold row b2 arrS at256
  blk_ext [iblk, h]
theorem in3 : vec (b3 m c t) = vec (G m c) := by
  obtain ⟨-, -, -, h, -⟩ := idx t
  funext d
  unfold vec b3 G
  rw [← V_main_arg1 m c]
  blk_ext [iblk, h]
theorem in4 : vec (b4 m c t) = vec (SH m c) := by
  obtain ⟨-, -, -, -, h, -⟩ := idx t
  funext d
  unfold vec b4 SH
  rw [← V_main_arg2 m c]
  blk_ext [iblk, h]
theorem in5 : vec (b5 m c t) = vec (SC m c) := by
  obtain ⟨-, -, -, -, -, h, -⟩ := idx t
  funext d
  unfold vec b5 SC
  rw [← V_main_arg3 m c]
  blk_ext [iblk, h]
theorem in6 : vec (b6 m c t) = vec (QG m c) := by
  obtain ⟨-, -, -, -, -, -, h, -⟩ := idx t
  funext d
  unfold vec b6 QG
  rw [← V_main_arg4 m c]
  blk_ext [iblk, h]
theorem in7 : vec (b7 m c t) = vec (arrG m c) := by
  obtain ⟨-, -, -, -, -, -, -, h, -⟩ := idx t
  funext d
  unfold vec b7 arrG
  blk_ext [iblk, h]
theorem in8 : mat (b8 m c t) = mat (arrD m c) := by
  obtain ⟨-, -, -, -, -, -, -, -, h, -⟩ := idx t
  funext n d
  unfold mat b8 arrD
  blk_ext [iblk, h]
theorem in9 : mat (b9 m c t) = mat (arrU m c) := by
  obtain ⟨-, -, -, -, -, -, -, -, -, h, -⟩ := idx t
  funext n d
  unfold mat b9 arrU
  blk_ext [iblk, h]
end

/-! ## The array -/

/-- A lane of a head of the result, and the array. -/
def lane (R : Fin 4096) (i : Fin 16) (l : Fin 128) : EReal :=
  head (fun l => query (row (X m c) R) (vec (G m c)) (vec (SH m c)) (vec (SC m c)) (vec (QG m c)) (mat (arrD m c)) (mat (arrU m c)) (col i l))
    (vec (arrG m c)) (row (arrC m c) R) (row (arrS m c) R) l
theorem of_col (d : Fin 2048) : ∃ (i : Fin 16) (l : Fin 128), d = col i l :=
  ⟨⟨d.val / 128, by omega⟩, ⟨d.val % 128, Nat.mod_lt _ (by norm_num)⟩, Fin.ext (by show d.val = 128 * (d.val / 128) + d.val % 128; omega)⟩
def res : S4096x2048.Idx → EReal := fun i => lane m c (i 0) ⟨(i 1).val / 128, Nat.div_lt_of_lt_mul (i 1).isLt⟩ ⟨(i 1).val % 128, Nat.mod_lt _ (by norm_num)⟩
theorem res_at (R : Fin 4096) (i : Fin 16) (l : Fin 128) : res m c (ix2 (n0 := 4096) (n1 := 2048) R (col i l)) = lane m c R i l := by
  have e : (⟨(col i l).val / 128, Nat.div_lt_of_lt_mul (col i l).isLt⟩ : Fin 16) = i := Fin.ext (by show (128 * i.val + l.val) / 128 = i.val; omega)
  have f : (⟨(col i l).val % 128, Nat.mod_lt _ (by norm_num)⟩ : Fin 128) = l := Fin.ext (by show (128 * i.val + l.val) % 128 = l.val; omega)
  show lane m c R ⟨(col i l).val / 128, _⟩ ⟨(col i l).val % 128, _⟩ = _
  rw [e, f]

theorem arr : (dats m 0 c).arrAt 10 cfg0.N = res m c := by
  refine (dats m 0 c).arrAt_eq_of_covers 10 (res m c) (by decide +kernel) fun t hf y => ?_
  blk_simp
  rw [after0_10]
  obtain ⟨-, -, -, -, -, -, -, -, -, -, h⟩ := idx t
  obtain ⟨r, d, rfl⟩ : ∃ (r : Fin 256) (d : Fin 2048), y = ix2 r d := ⟨y 0, y 1, (ix2_eta (n0 := 256) (n1 := 2048) y).symm⟩
  obtain ⟨i, l, rfl⟩ := of_col d
  have h0 : ((win0_10.blk t).view.emb (ix2 r (col i l)) 0).val = t.val * 256 + r.val := (Pipeline.Window.rect_emb_val win0_10 t (ix2 r (col i l)) 0).trans (by rw [h]; rfl)
  have h1 : ((win0_10.blk t).view.emb (ix2 r (col i l)) 1).val = 0 * 2048 + (col i l).val := (Pipeline.Window.rect_emb_val win0_10 t (ix2 r (col i l)) 1).trans (by rw [h]; rfl)
  have e : (win0_10.blk t).view.emb (ix2 r (col i l)) = ix2 (n0 := 4096) (n1 := 2048) (at256 ⟨t.val, t.isLt.trans_eq N_0⟩ r) (col i l) :=
    (ix2_eta (n0 := 4096) (n1 := 2048) _).symm.trans (congrArg₂ (ix2 (n0 := 4096) (n1 := 2048))
      (Fin.ext (h0.trans (by show t.val * 256 + r.val = 256 * t.val + r.val; omega))) (Fin.ext (h1.trans (by omega))))
  rw [e, res_at]
  refine (Heads.pt (b0 m c t) (b1 m c t) (b2 m c t) (b3 m c t) (b4 m c t) (b5 m c t) (b6 m c t) (b7 m c t) (b8 m c t) (b9 m c t) r i l).trans ?_
  rw [in0, in1, in2, in3, in4, in5, in6, in7, in8, in9]
  rfl

end Cert.QFwdIdeal.Fore

/-! ## The reference -/

namespace Cert.Proof

open Idealize.ShloMosaic Idealize.ShloMosaic.TcCoe Idealize.SL.Sem
open Cert.QFwdIdeal Cert.QFwdIdeal.Fore Cert.Tiles Cert.QMath Cert.FfnMath Cert.QFwdReferenceIdeal.Fore

section
variable (m : (ℓ : Loc nD τ sig) → Buf (Elt Ideal) ℓ) (c : Dev nD) (R : Fin 4096) (i : Fin 16)

/-- The reference's heads of 96. -/
abbrev heads96 : FVec Ideal Cert.QFwdReferenceIdeal.S4096x16x96 .f32 :=
  Cert.QFwdReferenceIdeal.Fore.hs (hq (hlat (X m c) (G m c) (SH m c) (SC m c) (WD m c)) (QG m c) (WU m c))

/-- A column of a head, in both. -/
theorem heads96_at (l : Fin 128) (h : l.val < 96) : query (row (X m c) R) (vec (G m c)) (vec (SH m c)) (vec (SC m c)) (vec (QG m c)) (mat (arrD m c)) (mat (arrU m c)) (col i l) =
    heads96 m c (ix3 R i ⟨l.val, h⟩) := by
  have e : row (hlat (X m c) (G m c) (SH m c) (SC m c) (WD m c)) R = proj (hid (row (X m c) R) (vec (G m c)) (vec (SH m c)) (vec (SC m c))) (mat (WD m c)) :=
    funext fun k => hlat_at R _ _ _ _ _ k
  refine Eq.trans ?_ (hs_at R i _ _).symm
  rw [hq_at, e, entryD]
  exact Finset.sum_congr rfl fun k _ => congrArg₂ (· * ·) rfl (entryU m c k i l h)

theorem one : Ideal.ofBits .f32 0x3F800000#32 = 1 := by
  simp [Ideal.ofBits, Ideal.ieee, -EReal.coe_mul]; norm_num
theorem c_n (j : Fin 64) : row (arrC m c) R (ln j) = 1 := by
  rw [entryC]; exact (tab_n _ _ R j).trans one
theorem c_1 (j : Fin 16) : row (arrC m c) R (lr (h1 j)) = row (CO m c) R j := by rw [entryC]; exact tab_1 _ _ R j
theorem c_2 (j : Fin 16) : row (arrC m c) R (lr (h2 j)) = row (CO m c) R j := by rw [entryC]; exact tab_2 _ _ R j
theorem zero : Ideal.ofBits .f32 0x00000000#32 = 0 := by simp [Ideal.ofBits, Ideal.ieee]
theorem s_n (j : Fin 64) : row (arrS m c) R (ln j) = 0 := by rw [entryS]; exact (tab_n _ _ R j).trans zero
theorem s_p (j : Fin 32) : row (arrS m c) R (lp j) = 0 := by rw [entryS]; exact (tab_p _ _ R j).trans zero
theorem s_1 (j : Fin 16) : row (arrS m c) R (lr (h1 j)) = row (SI m c) R j := by rw [entryS]; exact tab_1 _ _ R j
theorem s_2 (j : Fin 16) : row (arrS m c) R (lr (h2 j)) = row (SI m c) R j := by rw [entryS]; exact tab_2 _ _ R j
theorem g_n (j : Fin 64) : vec (arrG m c) (ln j) = vec (GN m c) j := by rw [entryG]; exact gains_n _ _ _ j
theorem g_r (j : Fin 32) : vec (arrG m c) (lr j) = vec (GR m c) j := by rw [entryG]; exact gains_r _ _ _ j

theorem gain_at (j : Fin 32) :
    gain (fun l => query (row (X m c) R) (vec (G m c)) (vec (SH m c)) (vec (SC m c)) (vec (QG m c)) (mat (arrD m c)) (mat (arrU m c)) (col i l)) (vec (arrG m c)) (lr j) =
    hr (heads96 m c) (GR m c) (ix3 R i j) := by
  have e : ∀ j, query (row (X m c) R) (vec (G m c)) (vec (SH m c)) (vec (SC m c)) (vec (QG m c)) (mat (arrD m c)) (mat (arrU m c)) (col i (lr j)) = heads96 m c (ix3 R i (ar j)) :=
    fun j => heads96_at m c R i (lr j) (by show 64 + j.val < 96; omega)
  rw [gain_r, hr_at, g_r]
  simp only [e]

theorem lane_eq (l : Fin 128) : hout (X m c) (G m c) (SH m c) (SC m c) (QG m c) (GN m c) (GR m c) (CO m c) (SI m c) (WD m c) (WU m c) (ix2 R (col i l)) = lane m c R i l := by
  unfold hout lane
  refine lanes (P := fun l => hpad (hn (heads96 m c) (GN m c)) (hro (hr (heads96 m c) (GR m c)) (CO m c) (SI m c)) (ix2 R (col i l)) = _) (fun j => ?_) (fun j => ?_) (fun j => ?_) (fun j => ?_) l
  · have e : ∀ j, query (row (X m c) R) (vec (G m c)) (vec (SH m c)) (vec (SC m c)) (vec (QG m c)) (mat (arrD m c)) (mat (arrU m c)) (col i (ln j)) = heads96 m c (ix3 R i (an j)) :=
      fun j => heads96_at m c R i (ln j) (by show j.val < 96; omega)
    rw [hpad_n, head_n _ _ _ _ _ (c_n m c R j) (s_n m c R j), hn_at, g_n]
    simp only [e]
  · rw [hpad_r, hro_1, head_1, gain_at, gain_at, c_1, s_1]
  · rw [hpad_r, hro_2, head_2, gain_at, gain_at, c_2, s_2]
  · rw [hpad_p, head_p _ _ _ _ _ (s_p m c R j)]

theorem q_fwd_eq : hout (X m c) (G m c) (SH m c) (SC m c) (QG m c) (GN m c) (GR m c) (CO m c) (SI m c) (WD m c) (WU m c) = res m c := rows_ext fun R d => by
  obtain ⟨i, l, rfl⟩ := of_col d
  exact (lane_eq m c R i l).trans (res_at m c R i l).symm
end

/-- The kernel and the reference leave the same rows, of any arguments. -/
theorem q_fwd_algebraic : Cert.algebraic_QFwdIdeal_QFwdReferenceIdeal := fun m g m' g' _ e => by
  refine ⟨fun c => res m c, ?_, ?_⟩
  · refine (θ_run _ _ _).mono (fun r h c => ?_) (θ_run_and (Gen.run_main m g) (Gen.frame m g))
    obtain ⟨h, ⟨hf, -⟩⟩ := h
    exact ⟨((h c).1 10).trans (arr m c), hf c⟩
  · refine (θ_run _ _ _).mono (fun r h c => ?_) (Cert.QFwdReferenceIdeal.Value.run (F := Ideal) m' g')
    obtain ⟨h4, hf⟩ := h c
    obtain ⟨a0, a1, a2, a3, a4, a5, a6, a7, a8, a9, a10⟩ := e c
    refine ⟨h4.trans (Eq.trans ?_ (q_fwd_eq m c)), hf⟩
    rw [res_eq, a0, a1, a2, a3, a4, a5, a6, a7, a8, a9, a10]

end Cert.Proof
end
-- ==== Proof.Loss.lean ====
/-
  The loss call: what the kernel's two results hold at the end — half the sum over the rows of the mean squared error, and
  the error over the rows' width — and that the reference's, the loss and its gradient, are the same.
-/
module

public import proofs.«01_k».proof.Defs
public import proofs.«01_k».proof.Proof.Gen.LossIdeal.Frame
public import proofs.«01_k».proof.Proof.Gen.LossReferenceIdeal.Run
public import proofs.«01_k».proof.Proof.Tiles
public import Idealize.ShloMosaic.Lib.Claim
public import Idealize.ShloMosaic.Lib.StableHlo.RunRead

@[expose] public section

set_option maxRecDepth 16384

noncomputable section

namespace Cert.LossIdeal.Back

open Idealize.ShloMosaic Idealize.ShloMosaic.TcCoe Idealize.SL.Sem
open Cert.LossIdeal Cert.LossIdeal.Gen Cert.Tiles

/-! ## The constants -/

/-- A half, two, the rows' width and its inverse. -/
abbrev H : EReal := Ideal.ofBits .f32 0x3F000000#32
abbrev T : EReal := Ideal.ofBits .f32 0x40000000#32
abbrev K : EReal := Ideal.ofBits .f32 0x44800000#32
abbrev I : EReal := Ideal.ofBits .f32 0x3A800000#32

theorem H_eq : H = ((1 / 2 : ℝ) : EReal) := by
  simp [H, Ideal.ofBits, Ideal.ieee, -EReal.coe_mul]; norm_num
theorem T_eq : T = ((2 : ℝ) : EReal) := by
  simp [T, Ideal.ofBits, Ideal.ieee, -EReal.coe_mul]; norm_num
theorem K_eq : K = ((1024 : ℝ) : EReal) := by
  simp [K, Ideal.ofBits, Ideal.ieee, -EReal.coe_mul]; norm_num
theorem I_eq : I = ((1 / 1024 : ℝ) : EReal) := by
  simp [I, Ideal.ofBits, Ideal.ieee, -EReal.coe_mul]; norm_num

/-- A half times a sum is the sum of the halves, of any summands. -/
theorem half_sum {ι : Type} [Fintype ι] (f : ι → EReal) : H * ∑ i, f i = ∑ i, H * f i := by
  have h (a b : EReal) : H * (a + b) = H * a + H * b :=
    EReal.left_distrib_of_nonneg_of_ne_top (by rw [H_eq]; exact_mod_cast (by norm_num : (0 : ℝ) ≤ 1 / 2)) (by rw [H_eq]; exact EReal.coe_ne_top _) a b
  exact map_sum (⟨⟨fun a => H * a, mul_zero H⟩, h⟩ : EReal →+ EReal) f Finset.univ

/-- Half of one over the width, times twice the error, is the error over the width. -/
theorem grad_eq (e : EReal) : Ideal.div (H * 1) K * (T * e) = e * I := by
  rw [mul_one, H_eq, K_eq, T_eq, I_eq, Ideal.div_coe (by norm_num), ← mul_assoc, ← EReal.coe_mul, ← EReal.coe_mul, mul_comm]
  norm_num

variable (m : (ℓ : Loc nD τ sig) → Buf (Elt Ideal) ℓ) (c : Dev nD)

/-! ## The operands -/

/-- The arguments: the output and the target. -/
abbrev Y : S4096x1024.Idx → EReal := m ((c.tc : Thread nD τ).loc main_arg0)
abbrev TGT : S4096x1024.Idx → EReal := m ((c.tc : Thread nD τ).loc main_arg1)

section
variable (t : Fin cfg0.N)
abbrev b0 : Vec Ideal S256x1024 .f32 := iblk m c 0 t
abbrev b1 : Vec Ideal S256x1024 .f32 := iblk m c 1 t
end

theorem idx : ∀ t : Fin cfg0.N,
    win0_0.index t = ![t.val, 0] ∧ win0_1.index t = ![t.val, 0] ∧ win0_2.index t = ![t.val, 0] ∧ win0_3.index t = ![0, 0] := by
  decide +kernel

section
variable (t : Fin cfg0.N) (r : Fin 256)
theorem in0 : row (b0 m c t) r = row (Y m c) (at256 ⟨t.val, t.isLt.trans_eq N_0⟩ r) := by
  obtain ⟨h, -⟩ := idx t
  funext d
  unfold row b0 Y at256
  rw [← V_main_arg0 m c]
  blk_ext [iblk, h]
theorem in1 : row (b1 m c t) r = row (TGT m c) (at256 ⟨t.val, t.isLt.trans_eq N_0⟩ r) := by
  obtain ⟨-, h, -⟩ := idx t
  funext d
  unfold row b1 TGT at256
  rw [← V_main_arg1 m c]
  blk_ext [iblk, h]
end

/-! ## One row -/

/-- The gradient, and the mean squared error. -/
def dy (y tgt : Fin 1024 → EReal) (n : Fin 1024) : EReal := (y n - tgt n) * I
def mse (y tgt : Fin 1024 → EReal) : EReal := Ideal.div (∑ d, (y d - tgt d) * (y d - tgt d)) K

section
variable (t : Fin cfg0.N) (r : Fin 256) (n : Fin 1024) (l : Fin 128)

theorem pt2 : (outsAt0 m c t.val t.isLt).1 (ix2 r n) = dy (row (b0 m c t) r) (row (b1 m c t) r) n := by
  by_cases h0 : t.val % 16 = 0
  · rw [outsAt0_A m c t h0]
    dsimp only
    frame_out
    pointwise [k0_pay2, k0_pay1]
    rfl
  · rw [outsAt0_B m c t h0]
    dsimp only
    frame_out
    pointwise [k0_pay2, k0_pay1]
    rfl

/-- The sums over the rows: the first point's, and what a later point adds. -/
theorem first3 (h0 : t.val % 16 = 0) : (outsAt0 m c t.val t.isLt).2 (ix2 0 l) = H * ∑ r, mse (row (b0 m c t) r) (row (b1 m c t) r) := by
  unfold mse
  rw [outsAt0_A m c t h0]
  dsimp only
  frame_out
  pointwise [k0_pay4, k0_pay3, k0_pay1]
theorem next3 (h0 : ¬t.val % 16 = 0) : (outsAt0 m c t.val t.isLt).2 (ix2 0 l)
    = (outsAt0 m c (t.val - 1) (Nat.lt_of_le_of_lt (Nat.sub_le _ _) t.isLt)).2 (ix2 0 l) + H * ∑ r, mse (row (b0 m c t) r) (row (b1 m c t) r) := by
  unfold mse
  rw [outsAt0_B m c t h0]
  dsimp only
  frame_out
  pointwise [k0_pay4, k0_pay1]
end

/-! ## The arrays -/

def res2 : S4096x1024.Idx → EReal := fun i => dy (row (Y m c) (i 0)) (row (TGT m c) (i 0)) (i 1)
def loss : EReal := H * ∑ R, mse (row (Y m c) R) (row (TGT m c) R)

theorem arr2 : (dats m 0 c).arrAt 2 cfg0.N = res2 m c := by
  refine (dats m 0 c).arrAt_eq_of_covers 2 (res2 m c) (by decide +kernel) fun t hf y => ?_
  blk_simp
  rw [after0_2]
  obtain ⟨-, -, h, -⟩ := idx t
  obtain ⟨r, d, rfl⟩ : ∃ (r : Fin 256) (d : Fin 1024), y = ix2 r d := ⟨y 0, y 1, (ix2_eta (n0 := 256) (n1 := 1024) y).symm⟩
  have e : (win0_2.blk t).view.emb (ix2 r d) = ix2 (n0 := 4096) (at256 ⟨t.val, t.isLt.trans_eq N_0⟩ r) d :=
    row_emb ((Pipeline.Window.rect_emb_val win0_2 t (ix2 r d) 0).trans (by rw [h]; rfl)) ((Pipeline.Window.rect_emb_val win0_2 t (ix2 r d) 1).trans (by rw [h]; rfl))
  rw [e]
  refine (pt2 m c t r d).trans ?_
  rw [in0, in1]
  rfl
/-- Every lane of the sums' array holds the loss. -/
theorem arr3 : (dats m 0 c).arrAt 3 cfg0.N = fun _ => loss m c := by
  refine (dats m 0 c).arrAt_eq_of_covers 3 (fun _ => loss m c) (by decide +kernel) fun t hf y => ?_
  have ht : t.val % 16 = 15 := (flush0_3 t).mp hf
  blk_simp
  rw [after0_3]
  obtain ⟨l, rfl⟩ : ∃ l : Fin 128, y = ix2 0 l := ⟨y 1, (ix2_eta (n0 := 1) (n1 := 128) y).symm.trans (congrArg (ix2 · (y 1)) (Subsingleton.elim (α := Fin 1) _ _))⟩
  have k (t : Fin cfg0.N) : H * ∑ r, mse (row (b0 m c t) r) (row (b1 m c t) r)
      = ∑ r, (fun R => H * mse (row (Y m c) R) (row (TGT m c) R)) (at256 ⟨t.val, t.isLt.trans_eq N_0⟩ r) := by
    rw [half_sum]
    exact Finset.sum_congr rfl fun r _ => by rw [in0, in1]
  refine Eq.trans ?_ (half_sum _).symm
  exact sum_points N_0 (fun R => H * mse (row (Y m c) R) (row (TGT m c) R)) (fun t => (outsAt0 m c t.val t.isLt).2 (ix2 0 l))
    (fun t h0 => (first3 m c t l h0).trans (k t)) (fun t h0 => (next3 m c t l h0).trans (congrArg (_ + ·) (k t))) t ht

/-- The host's slice of the sums' array is the loss. -/
theorem tail : Pipeline.afterTail₀ cfgs (dats m) 0 (V0 m) [hostOps1] c main_v2 = fun _ => loss m c := by
  have e : Pipeline.withArrays (cfgs 0).spec c (V0 m c) (fun w => (dats m 0 c).arrAt w (cfgs 0).N) (Proc.devRef .tc main_v0_1) = fun _ => loss m c :=
    (Pipeline.withArrays_arr (cfgs 0).spec (by decide +kernel) c (V0 m c) _ 3).trans (arr3 m c)
  unfold Pipeline.afterTail₀
  show StableHlo.after hostOps1 _ (Proc.devRef .tc main_v2) = _
  after_results
  rw [e]
  rfl

end Cert.LossIdeal.Back

/-! ## The reference -/

namespace Cert.LossReferenceIdeal.Back

open Idealize.ShloMosaic Idealize.ShloMosaic.TcCoe Idealize.SL.Sem Idealize.ShloMosaic.StableHlo
open Cert.LossReferenceIdeal Cert.LossReferenceIdeal.Gen Cert.LossIdeal.Back Cert.Tiles

variable (y tgt : FVec Ideal S4096x1024 .f32)

/-- The loss and its gradient, as the host writes them. -/
def hloss : FVec Ideal S_ .f32 :=
  mulf (constant S_ .f32 0x3F000000#32) (Host.reduceAdd (Host.divf (Host.reduceAdd (mulf (subf y tgt) (subf y tgt)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)
def hdy : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y tgt))

theorem hloss_at (i : S_.Idx) : hloss y tgt i = H * ∑ R, mse (row y R) (row tgt R) := by
  unfold mse
  pointwise [hloss]
theorem hdy_at (R : Fin 4096) (n : Fin 1024) : hdy y tgt (ix2 R n) = dy (row y R) (row tgt R) n := by
  refine Eq.trans ?_ (grad_eq _)
  pointwise [hdy]

end Cert.LossReferenceIdeal.Back

namespace Cert.Proof

open Idealize.ShloMosaic Idealize.ShloMosaic.TcCoe Idealize.SL.Sem
open Cert.LossIdeal Cert.LossIdeal.Back Cert.Tiles Cert.LossReferenceIdeal.Back

section
variable (m : (ℓ : Loc nD τ sig) → Buf (Elt Ideal) ℓ) (c : Dev nD)
/-- The reference's terms are the kernel's results. -/
theorem loss_value : hloss (Y m c) (TGT m c) = fun _ => loss m c := funext fun _ => hloss_at _ _ _
theorem loss_grad : hdy (Y m c) (TGT m c) = res2 m c := rows_ext fun _ _ => hdy_at _ _ _ _
end

/-- The kernel and the reference leave the same loss and the same gradient, of any arguments. -/
theorem loss_algebraic : Cert.algebraic_LossIdeal_LossReferenceIdeal := fun m g m' g' _ e => by
  refine ⟨fun c => fun _ => loss m c, fun c => res2 m c, ?_, ?_⟩
  · refine (θ_run _ _ _).mono (fun r h c => ?_) (θ_run_and (Gen.run_main m g) (Gen.frame m g))
    obtain ⟨h, ⟨hf, -⟩⟩ := h
    exact ⟨((h c).2 main_v2 (by decide +kernel)).trans (tail m c), ((h c).1 2).trans (arr2 m c), hf c⟩
  · refine (θ_run _ _ _).mono (fun r h c => ?_) (Cert.LossReferenceIdeal.Value.run (F := Ideal) m' g')
    obtain ⟨hl, hd, hf⟩ := h c
    obtain ⟨a0, a1⟩ := e c
    refine ⟨hl.trans (Eq.trans ?_ (loss_value m c)), hd.trans (Eq.trans ?_ (loss_grad m c)), hf⟩
    · rw [a0, a1]; rfl
    · rw [a0, a1]; rfl

end Cert.Proof
end
-- ==== Proof.Adam.lean ====
/-
  The optimiser's call on the stacked weights of the feed-forward layer: at every element, the sum of the devices' shares of
  its gradient, and from it the new moments and the step. The kernel's grid has two points per layer, and reads the layer's
  own stack of shares at each; the reference stacks the sums of the layers.
-/
module

public import proofs.«01_k».proof.Defs
public import proofs.«01_k».proof.Proof.Gen.AdamIdeal.Frame
public import proofs.«01_k».proof.Proof.Gen.AdamReferenceIdeal.Run
public import proofs.«01_k».proof.Proof.Tiles
public import Idealize.ShloMosaic.Lib.Claim
public import Idealize.ShloMosaic.Lib.StableHlo.RunRead

@[expose] public section

set_option maxRecDepth 16384

noncomputable section

namespace Cert.AdamIdeal.Back

open Idealize.ShloMosaic Idealize.ShloMosaic.TcCoe Idealize.SL.Sem
open Cert.AdamIdeal Cert.AdamIdeal.Gen Cert.Tiles

/-! ## One element -/

/-- The gradient: the sum of the devices' shares. -/
def grad (p : Fin 8 → EReal) : EReal := ∑ i, p i
/-- The new moments of a gradient, and the corrections of their bias: the divisors are the words of one less the rates' powers. -/
def nm (g m : EReal) : EReal := Ideal.ofBits .f32 0x3F666666#32 * m + Ideal.ofBits .f32 0x3DCCCCCD#32 * g
def nv (g v : EReal) : EReal := Ideal.ofBits .f32 0x3F7FBE77#32 * v + Ideal.ofBits .f32 0x3A83126F#32 * (g * g)
abbrev D1 : EReal := Ideal.ofBits .f32 0x3F26BD02#32
abbrev D2 : EReal := Ideal.ofBits .f32 0x3C231ACC#32
/-- The step. -/
def delta (g w m v : EReal) : EReal :=
  Ideal.ofBits .f32 0xBA83126F#32 * (Ideal.div (Ideal.div (nm g m) D1) (Ideal.sqrt (Ideal.div (nv g v) D2) + Ideal.ofBits .f32 0x322BCC77#32)
    + Ideal.ofBits .f32 0x3C23D70A#32 * w)

/-- The kernel's factors are the inverses of the divisors. -/
theorem c1_eq : Named.named (F := Ideal) κ "c1" (φ := .f32) 0x3FC48605#32 = (((5463681 / 8388608)⁻¹ : ℝ) : EReal) :=
  IdealRules.named_const.ideal_named_scalar _ _ _ _ rfl
theorem c2_eq : Named.named (F := Ideal) κ "c2" (φ := .f32) 0x42C8E6D3#32 = (((2672307 / 268435456)⁻¹ : ℝ) : EReal) :=
  IdealRules.named_const.ideal_named_scalar _ _ _ _ rfl
theorem mul_c1 (x : EReal) : x * Named.named (F := Ideal) κ "c1" (φ := .f32) 0x3FC48605#32 = Ideal.div x D1 := by
  have h : D1 = ((5463681 / 8388608 : ℝ) : EReal) := by simp [D1, Ideal.ofBits, Ideal.ieee, -EReal.coe_mul]; norm_num
  rw [h, Ideal.div_coe (by norm_num), c1_eq, one_div]
theorem mul_c2 (x : EReal) : x * Named.named (F := Ideal) κ "c2" (φ := .f32) 0x42C8E6D3#32 = Ideal.div x D2 := by
  have h : D2 = ((2672307 / 268435456 : ℝ) : EReal) := by simp [D2, Ideal.ofBits, Ideal.ieee, -EReal.coe_mul]; norm_num
  rw [h, Ideal.div_coe (by norm_num), c2_eq, one_div]

/-! ## The body -/

/-- An element's column in the shares, whose rows are padded. -/
abbrev pad (d : Fin 352) : Fin 384 := ⟨d.val, by omega⟩

section
variable (p : Vec Ideal S8x512x384 .bf16) (w m v : Vec Ideal S1x512x352 .f32) (r : Fin 512) (d : Fin 352)

/-- The gradient's tile, as a point computes it from its layer's shares. -/
abbrev tile : FVec Ideal S512x352 .f32 :=
  k0_pay5 (View.ld p (Rect.unit ![0, 0, 0] ![1, 512, 384] inb_S8x512x384_S1x512x384_0_0_0))
    (View.ld p (Rect.unit ![1, 0, 0] ![1, 512, 384] inb_S8x512x384_S1x512x384_1_0_0))
    (View.ld p (Rect.unit ![2, 0, 0] ![1, 512, 384] inb_S8x512x384_S1x512x384_2_0_0))
    (View.ld p (Rect.unit ![3, 0, 0] ![1, 512, 384] inb_S8x512x384_S1x512x384_3_0_0))
    (View.ld p (Rect.unit ![4, 0, 0] ![1, 512, 384] inb_S8x512x384_S1x512x384_4_0_0))
    (View.ld p (Rect.unit ![5, 0, 0] ![1, 512, 384] inb_S8x512x384_S1x512x384_5_0_0))
    (View.ld p (Rect.unit ![6, 0, 0] ![1, 512, 384] inb_S8x512x384_S1x512x384_6_0_0))
    (View.ld p (Rect.unit ![7, 0, 0] ![1, 512, 384] inb_S8x512x384_S1x512x384_7_0_0))

theorem tile_at : tile p (ix2 r d) = grad fun i => p (ix3 i r (pad d)) := by
  unfold grad
  rw [Fin.sum_univ_eight]
  pointwise [tile, k0_pay5]

variable (g : FVec Ideal S512x352 .f32)
theorem g_at : k0_pay8 g (ix3 0 r d) = g (ix2 r d) := by
  pointwise [k0_pay8]
theorem m_at : k0_pay9 g m (ix3 0 r d) = nm (g (ix2 r d)) (m (ix3 0 r d)) := by
  unfold nm
  pointwise [k0_pay9, k0_pay6]
theorem v_at : k0_pay10 g v (ix3 0 r d) = nv (g (ix2 r d)) (v (ix3 0 r d)) := by
  unfold nv
  pointwise [k0_pay10, k0_pay7]
theorem d_at : k0_pay1 (k0_pay11 g m v) (k0_pay12 w) k0_pay13 (ix3 0 r d)
    = delta (g (ix2 r d)) (w (ix3 0 r d)) (m (ix3 0 r d)) (v (ix3 0 r d)) := by
  unfold delta
  rw [← mul_c1, ← mul_c2]
  unfold nm nv
  pointwise [k0_pay1, k0_pay11, k0_pay12, k0_pay13, k0_pay6, k0_pay7]
end

variable (m : (ℓ : Loc nD τ sig) → Buf (Elt Ideal) ℓ) (c : Dev nD)

/-! ## The operands -/

/-- The four layers' shares, the weights and the two moments. -/
abbrev P0 : S8x1024x384.Idx → EReal := m ((c.tc : Thread nD τ).loc main_arg0)
abbrev P1 : S8x1024x384.Idx → EReal := m ((c.tc : Thread nD τ).loc main_arg1)
abbrev P2 : S8x1024x384.Idx → EReal := m ((c.tc : Thread nD τ).loc main_arg2)
abbrev P3 : S8x1024x384.Idx → EReal := m ((c.tc : Thread nD τ).loc main_arg3)
abbrev W : S4x1024x352.Idx → EReal := m ((c.tc : Thread nD τ).loc main_arg4)
abbrev M1 : S4x1024x352.Idx → EReal := m ((c.tc : Thread nD τ).loc main_arg5)
abbrev M2 : S4x1024x352.Idx → EReal := m ((c.tc : Thread nD τ).loc main_arg6)

section
variable (t : Fin cfg0.N)
abbrev b0 : Vec Ideal S8x512x384 .bf16 := iblk m c 0 t
abbrev b1 : Vec Ideal S8x512x384 .bf16 := iblk m c 1 t
abbrev b2 : Vec Ideal S8x512x384 .bf16 := iblk m c 2 t
abbrev b3 : Vec Ideal S8x512x384 .bf16 := iblk m c 3 t
abbrev bw : Vec Ideal S1x512x352 .f32 := iblk m c 4 t
abbrev bm : Vec Ideal S1x512x352 .f32 := iblk m c 5 t
abbrev bv : Vec Ideal S1x512x352 .f32 := iblk m c 6 t
end

/-- A point's layer, and its rows. -/
abbrev lay (t : Fin cfg0.N) : Fin 4 := ⟨t.val / 2, by have := t.isLt.trans_eq N_0; omega⟩
abbrev at512 (t : Fin cfg0.N) (r : Fin 512) : Fin 1024 := ⟨512 * (t.val % 2) + r.val, by omega⟩

/-- A layer's shares of an element. -/
def shares (L : Fin 4) (R : Fin 1024) (d : Fin 352) : Fin 8 → EReal :=
  fun i => (![P0 m c, P1 m c, P2 m c, P3 m c] L) (ix3 i R (pad d))

theorem idxP : ∀ t : Fin cfg0.N,
    (t.val / 2 = 0 → win0_0.index t = ![0, t.val % 2, 0]) ∧ (t.val / 2 = 1 → win0_1.index t = ![0, t.val % 2, 0])
      ∧ (t.val / 2 = 2 → win0_2.index t = ![0, t.val % 2, 0]) ∧ (t.val / 2 = 3 → win0_3.index t = ![0, t.val % 2, 0]) := by
  decide +kernel
theorem idxW : ∀ t : Fin cfg0.N,
    win0_4.index t = ![t.val / 2, t.val % 2, 0] ∧ win0_5.index t = ![t.val / 2, t.val % 2, 0] ∧ win0_6.index t = ![t.val / 2, t.val % 2, 0] := by
  decide +kernel
theorem idxOut : ∀ t : Fin cfg0.N,
    win0_7.index t = ![t.val / 2, t.val % 2, 0] ∧ win0_8.index t = ![t.val / 2, t.val % 2, 0] ∧ win0_9.index t = ![t.val / 2, t.val % 2, 0]
      ∧ win0_10.index t = ![t.val / 2, t.val % 2, 0] := by
  decide +kernel

section
variable (t : Fin cfg0.N) (r : Fin 512) (d : Fin 352)
theorem inW : bw m c t (ix3 0 r d) = W m c (ix3 (lay t) (at512 t r) d) := by
  obtain ⟨h, -⟩ := idxW t
  unfold bw W lay at512
  rw [← V_main_arg4 m c]
  blk_ext [iblk, h]
theorem inM : bm m c t (ix3 0 r d) = M1 m c (ix3 (lay t) (at512 t r) d) := by
  obtain ⟨-, h, -⟩ := idxW t
  unfold bm M1 lay at512
  rw [← V_main_arg5 m c]
  blk_ext [iblk, h]
theorem inV : bv m c t (ix3 0 r d) = M2 m c (ix3 (lay t) (at512 t r) d) := by
  obtain ⟨-, -, h⟩ := idxW t
  unfold bv M2 lay at512
  rw [← V_main_arg6 m c]
  blk_ext [iblk, h]

theorem in0 (i : Fin 8) (e : Fin 384) (h0 : t.val / 2 = 0) : b0 m c t (ix3 i r e) = P0 m c (ix3 i (at512 t r) e) := by
  have h := (idxP t).1 h0
  unfold b0 P0 at512
  rw [← V_main_arg0 m c]
  blk_ext [iblk, h]
theorem in1 (i : Fin 8) (e : Fin 384) (h0 : t.val / 2 = 1) : b1 m c t (ix3 i r e) = P1 m c (ix3 i (at512 t r) e) := by
  have h := (idxP t).2.1 h0
  unfold b1 P1 at512
  rw [← V_main_arg1 m c]
  blk_ext [iblk, h]
theorem in2 (i : Fin 8) (e : Fin 384) (h0 : t.val / 2 = 2) : b2 m c t (ix3 i r e) = P2 m c (ix3 i (at512 t r) e) := by
  have h := (idxP t).2.2.1 h0
  unfold b2 P2 at512
  rw [← V_main_arg2 m c]
  blk_ext [iblk, h]
theorem in3 (i : Fin 8) (e : Fin 384) (h0 : t.val / 2 = 3) : b3 m c t (ix3 i r e) = P3 m c (ix3 i (at512 t r) e) := by
  have h := (idxP t).2.2.2 h0
  unfold b3 P3 at512
  rw [← V_main_arg3 m c]
  blk_ext [iblk, h]
end

/-! ## The points -/

/-- What a point leaves in its four tiles, of a stack of shares. -/
def Says (t : Fin cfg0.N) (p : Vec Ideal S8x512x384 .bf16) : Prop := ∀ (r : Fin 512) (d : Fin 352),
  (outsAt0 m c t.val t.isLt).1 (ix3 0 r d) = tile p (ix2 r d)
  ∧ (outsAt0 m c t.val t.isLt).2.1 (ix3 0 r d) = delta (tile p (ix2 r d)) (bw m c t (ix3 0 r d)) (bm m c t (ix3 0 r d)) (bv m c t (ix3 0 r d))
  ∧ (outsAt0 m c t.val t.isLt).2.2.1 (ix3 0 r d) = nm (tile p (ix2 r d)) (bm m c t (ix3 0 r d))
  ∧ (outsAt0 m c t.val t.isLt).2.2.2 (ix3 0 r d) = nv (tile p (ix2 r d)) (bv m c t (ix3 0 r d))

section
variable (t : Fin cfg0.N)
theorem saysA (h : t.val / 2 = 0) : Says m c t (b0 m c t) := fun r d => by
  rw [outsAt0_A m c t (by omega) (by omega) (by omega) (by omega)]
  dsimp only
  refine ⟨?_, ?_, ?_, ?_⟩ <;> frame_out
  · exact g_at _ _ _
  · exact d_at _ _ _ _ _ _
  · exact m_at _ _ _ _
  · exact v_at _ _ _ _
theorem saysB (h : t.val / 2 = 1) : Says m c t (b1 m c t) := fun r d => by
  rw [outsAt0_B m c t (by omega) (by omega) (by omega) (by omega)]
  dsimp only
  refine ⟨?_, ?_, ?_, ?_⟩ <;> frame_out
  · exact g_at _ _ _
  · exact d_at _ _ _ _ _ _
  · exact m_at _ _ _ _
  · exact v_at _ _ _ _
theorem saysC (h : t.val / 2 = 2) : Says m c t (b2 m c t) := fun r d => by
  rw [outsAt0_C m c t (by omega) (by omega) (by omega) (by omega)]
  dsimp only
  refine ⟨?_, ?_, ?_, ?_⟩ <;> frame_out
  · exact g_at _ _ _
  · exact d_at _ _ _ _ _ _
  · exact m_at _ _ _ _
  · exact v_at _ _ _ _
theorem saysD (h : t.val / 2 = 3) : Says m c t (b3 m c t) := fun r d => by
  rw [outsAt0_D m c t (by omega) (by omega) (by omega) (by omega)]
  dsimp only
  refine ⟨?_, ?_, ?_, ?_⟩ <;> frame_out
  · exact g_at _ _ _
  · exact d_at _ _ _ _ _ _
  · exact m_at _ _ _ _
  · exact v_at _ _ _ _

/-- Each point's tiles, in terms of the arguments. -/
theorem point_says : (∃ p, Says m c t p ∧ ∀ r d, tile p (ix2 r d) = grad (shares m c (lay t) (at512 t r) d)) := by
  have ht := t.isLt.trans_eq N_0
  obtain h | h | h | h : t.val / 2 = 0 ∨ t.val / 2 = 1 ∨ t.val / 2 = 2 ∨ t.val / 2 = 3 := by omega
  · exact ⟨_, saysA m c t h, fun r d => (tile_at _ r d).trans (congrArg grad (funext fun i =>
      (in0 m c t r i (pad d) h).trans (by unfold shares; rw [show lay t = 0 from Fin.ext h]; rfl)))⟩
  · exact ⟨_, saysB m c t h, fun r d => (tile_at _ r d).trans (congrArg grad (funext fun i =>
      (in1 m c t r i (pad d) h).trans (by unfold shares; rw [show lay t = 1 from Fin.ext h]; rfl)))⟩
  · exact ⟨_, saysC m c t h, fun r d => (tile_at _ r d).trans (congrArg grad (funext fun i =>
      (in2 m c t r i (pad d) h).trans (by unfold shares; rw [show lay t = 2 from Fin.ext h]; rfl)))⟩
  · exact ⟨_, saysD m c t h, fun r d => (tile_at _ r d).trans (congrArg grad (funext fun i =>
      (in3 m c t r i (pad d) h).trans (by unfold shares; rw [show lay t = 3 from Fin.ext h]; rfl)))⟩
end

/-! ## The arrays -/

def res7 : S4x1024x352.Idx → EReal := fun i => grad (shares m c (i 0) (i 1) (i 2))
def res8 : S4x1024x352.Idx → EReal := fun i => delta (res7 m c i) (W m c i) (M1 m c i) (M2 m c i)
def res9 : S4x1024x352.Idx → EReal := fun i => nm (res7 m c i) (M1 m c i)
def res10 : S4x1024x352.Idx → EReal := fun i => nv (res7 m c i) (M2 m c i)

/-- Where an element of a point's tile lies. -/
theorem tile_emb {i : S4x1024x352.Idx} {t : Fin cfg0.N} {r : Fin 512} {d : Fin 352} (h0 : (i 0).val = t.val / 2 * 1 + 0)
    (h1 : (i 1).val = t.val % 2 * 512 + r.val) (h2 : (i 2).val = 0 * 352 + d.val) : i = ix3 (lay t) (at512 t r) d := by
  refine (ix3_eta (n0 := 4) (n1 := 1024) (n2 := 352) i).symm.trans ?_
  rw [show i 0 = lay t from Fin.ext (by show (i 0).val = t.val / 2; omega),
    show i 1 = at512 t r from Fin.ext (by show (i 1).val = 512 * (t.val % 2) + r.val; omega), show i 2 = d from Fin.ext (by omega)]

theorem arr7 : (dats m 0 c).arrAt 7 cfg0.N = res7 m c := by
  refine (dats m 0 c).arrAt_eq_of_covers 7 (res7 m c) (by decide +kernel) fun t hf y => ?_
  blk_simp
  rw [after0_7]
  obtain ⟨h, -⟩ := idxOut t
  obtain ⟨r, d, rfl⟩ : ∃ (r : Fin 512) (d : Fin 352), y = ix3 0 r d := ⟨y 1, y 2, (ix3_eta (n0 := 1) (n1 := 512) (n2 := 352) y).symm.trans (congrArg (ix3 · (y 1) (y 2)) (Subsingleton.elim (α := Fin 1) _ _))⟩
  have e : (win0_7.blk t).view.emb (ix3 0 r d) = ix3 (lay t) (at512 t r) d :=
    tile_emb ((Pipeline.Window.rect_emb_val win0_7 t (ix3 0 r d) 0).trans (by rw [h]; rfl)) ((Pipeline.Window.rect_emb_val win0_7 t (ix3 0 r d) 1).trans (by rw [h]; rfl))
      ((Pipeline.Window.rect_emb_val win0_7 t (ix3 0 r d) 2).trans (by rw [h]; rfl))
  rw [e]
  obtain ⟨p, hs, hp⟩ := point_says m c t
  refine (hs r d).1.trans ?_
  rw [hp]
  rfl
theorem arr8 : (dats m 0 c).arrAt 8 cfg0.N = res8 m c := by
  refine (dats m 0 c).arrAt_eq_of_covers 8 (res8 m c) (by decide +kernel) fun t hf y => ?_
  blk_simp
  rw [after0_8]
  obtain ⟨-, h, -⟩ := idxOut t
  obtain ⟨r, d, rfl⟩ : ∃ (r : Fin 512) (d : Fin 352), y = ix3 0 r d := ⟨y 1, y 2, (ix3_eta (n0 := 1) (n1 := 512) (n2 := 352) y).symm.trans (congrArg (ix3 · (y 1) (y 2)) (Subsingleton.elim (α := Fin 1) _ _))⟩
  have e : (win0_8.blk t).view.emb (ix3 0 r d) = ix3 (lay t) (at512 t r) d :=
    tile_emb ((Pipeline.Window.rect_emb_val win0_8 t (ix3 0 r d) 0).trans (by rw [h]; rfl)) ((Pipeline.Window.rect_emb_val win0_8 t (ix3 0 r d) 1).trans (by rw [h]; rfl))
      ((Pipeline.Window.rect_emb_val win0_8 t (ix3 0 r d) 2).trans (by rw [h]; rfl))
  rw [e]
  obtain ⟨p, hs, hp⟩ := point_says m c t
  refine (hs r d).2.1.trans ?_
  rw [hp, inW, inM, inV]
  rfl
theorem arr9 : (dats m 0 c).arrAt 9 cfg0.N = res9 m c := by
  refine (dats m 0 c).arrAt_eq_of_covers 9 (res9 m c) (by decide +kernel) fun t hf y => ?_
  blk_simp
  rw [after0_9]
  obtain ⟨-, -, h, -⟩ := idxOut t
  obtain ⟨r, d, rfl⟩ : ∃ (r : Fin 512) (d : Fin 352), y = ix3 0 r d := ⟨y 1, y 2, (ix3_eta (n0 := 1) (n1 := 512) (n2 := 352) y).symm.trans (congrArg (ix3 · (y 1) (y 2)) (Subsingleton.elim (α := Fin 1) _ _))⟩
  have e : (win0_9.blk t).view.emb (ix3 0 r d) = ix3 (lay t) (at512 t r) d :=
    tile_emb ((Pipeline.Window.rect_emb_val win0_9 t (ix3 0 r d) 0).trans (by rw [h]; rfl)) ((Pipeline.Window.rect_emb_val win0_9 t (ix3 0 r d) 1).trans (by rw [h]; rfl))
      ((Pipeline.Window.rect_emb_val win0_9 t (ix3 0 r d) 2).trans (by rw [h]; rfl))
  rw [e]
  obtain ⟨p, hs, hp⟩ := point_says m c t
  refine (hs r d).2.2.1.trans ?_
  rw [hp, inM]
  rfl
theorem arr10 : (dats m 0 c).arrAt 10 cfg0.N = res10 m c := by
  refine (dats m 0 c).arrAt_eq_of_covers 10 (res10 m c) (by decide +kernel) fun t hf y => ?_
  blk_simp
  rw [after0_10]
  obtain ⟨-, -, -, h⟩ := idxOut t
  obtain ⟨r, d, rfl⟩ : ∃ (r : Fin 512) (d : Fin 352), y = ix3 0 r d := ⟨y 1, y 2, (ix3_eta (n0 := 1) (n1 := 512) (n2 := 352) y).symm.trans (congrArg (ix3 · (y 1) (y 2)) (Subsingleton.elim (α := Fin 1) _ _))⟩
  have e : (win0_10.blk t).view.emb (ix3 0 r d) = ix3 (lay t) (at512 t r) d :=
    tile_emb ((Pipeline.Window.rect_emb_val win0_10 t (ix3 0 r d) 0).trans (by rw [h]; rfl)) ((Pipeline.Window.rect_emb_val win0_10 t (ix3 0 r d) 1).trans (by rw [h]; rfl))
      ((Pipeline.Window.rect_emb_val win0_10 t (ix3 0 r d) 2).trans (by rw [h]; rfl))
  rw [e]
  obtain ⟨p, hs, hp⟩ := point_says m c t
  refine (hs r d).2.2.2.trans ?_
  rw [hp, inV]
  rfl

end Cert.AdamIdeal.Back

/-! ## The reference -/

namespace Cert.AdamReferenceIdeal.Back

open Idealize.ShloMosaic Idealize.ShloMosaic.TcCoe Idealize.SL.Sem Idealize.ShloMosaic.StableHlo
open Cert.AdamReferenceIdeal Cert.AdamReferenceIdeal.Gen Cert.AdamIdeal.Back Cert.Tiles

variable (p0 p1 p2 p3 : FVec Ideal S8x1024x384 .bf16) (w m v : FVec Ideal S4x1024x352 .f32)

/-- A layer's gradient, the stack of the four, the moments and the step, as the host writes them. -/
def hlayer (p : FVec Ideal S8x1024x384 .bf16) : FVec Ideal S1x1024x352 .f32 :=
  broadcastInDim S1x1024x352 ![1, 2] bcast_S1024x352_S1x1024x352_1_2 (extractStridedSlice S1024x352 ![0, 0] (Host.reduceAdd (extf .f32 p bitsLt_bf16_f32) (constant S_ .f32 0x00000000#32) reducesTo_S8x1024x384_S1024x384_d0 h_S_) slices_S1024x384_S1024x352_0_0)
def hgrad : FVec Ideal S4x1024x352 .f32 :=
  concatenate S4x1024x352 0 [⟨S1x1024x352, hlayer p0⟩, ⟨S1x1024x352, hlayer p1⟩, ⟨S1x1024x352, hlayer p2⟩, ⟨S1x1024x352, hlayer p3⟩] concatenates_S1x1024x352_S1x1024x352_S1x1024x352_S1x1024x352_S4x1024x352_d0

variable (g : FVec Ideal S4x1024x352 .f32)
def hm : FVec Ideal S4x1024x352 .f32 :=
  addf (mulf (broadcastInDim S4x1024x352 ![] bcast_S_S4x1024x352 (constant S_ .f32 0x3F666666#32)) m) (mulf (broadcastInDim S4x1024x352 ![] bcast_S_S4x1024x352 (constant S_ .f32 0x3DCCCCCD#32)) g)
def hv : FVec Ideal S4x1024x352 .f32 :=
  addf (mulf (broadcastInDim S4x1024x352 ![] bcast_S_S4x1024x352 (constant S_ .f32 0x3F7FBE77#32)) v) (mulf (broadcastInDim S4x1024x352 ![] bcast_S_S4x1024x352 (constant S_ .f32 0x3A83126F#32)) (mulf g g))
def hd : FVec Ideal S4x1024x352 .f32 :=
  mulf (broadcastInDim S4x1024x352 ![] bcast_S_S4x1024x352 (constant S_ .f32 0xBA83126F#32))
    (addf (Host.divf (Host.divf (hm m g) (broadcastInDim S4x1024x352 ![] bcast_S_S4x1024x352 (constant S_ .f32 0x3F26BD02#32)))
        (addf (Host.sqrt (Host.divf (hv v g) (broadcastInDim S4x1024x352 ![] bcast_S_S4x1024x352 (constant S_ .f32 0x3C231ACC#32))))
          (broadcastInDim S4x1024x352 ![] bcast_S_S4x1024x352 (constant S_ .f32 0x322BCC77#32))))
      (mulf (broadcastInDim S4x1024x352 ![] bcast_S_S4x1024x352 (constant S_ .f32 0x3C23D70A#32)) w))

theorem hlayer_at (p : FVec Ideal S8x1024x384 .bf16) (R : Fin 1024) (d : Fin 352) : hlayer p (ix3 0 R d) = grad fun i => p (ix3 i R (pad d)) := by
  unfold grad
  pointwise [hlayer]
theorem hgrad_at (L : Fin 4) (R : Fin 1024) (d : Fin 352) : hgrad p0 p1 p2 p3 (ix3 L R d) = grad fun i => (![p0, p1, p2, p3] L) (ix3 i R (pad d)) := by
  unfold grad
  fin_cases L <;> pointwise [hgrad, hlayer]
theorem hm_at (i : S4x1024x352.Idx) : hm m g i = nm (g i) (m i) := rfl
theorem hv_at (i : S4x1024x352.Idx) : hv v g i = nv (g i) (v i) := rfl
theorem hd_at (i : S4x1024x352.Idx) : hd w m v g i = delta (g i) (w i) (m i) (v i) := rfl

end Cert.AdamReferenceIdeal.Back

namespace Cert.Proof

open Idealize.ShloMosaic Idealize.ShloMosaic.TcCoe Idealize.SL.Sem
open Cert.AdamIdeal Cert.AdamIdeal.Back Cert.Tiles Cert.AdamReferenceIdeal.Back

section
variable (m : (ℓ : Loc nD τ sig) → Buf (Elt Ideal) ℓ) (c : Dev nD)
/-- The reference's terms are the kernel's arrays. -/
theorem adam_grad : hgrad (P0 m c) (P1 m c) (P2 m c) (P3 m c) = res7 m c := by
  funext i
  rw [← ix3_eta (n0 := 4) (n1 := 1024) (n2 := 352) i]
  exact hgrad_at _ _ _ _ _ _ _
theorem adam_delta : hd (W m c) (M1 m c) (M2 m c) (res7 m c) = res8 m c := funext fun _ => hd_at _ _ _ _ _
theorem adam_m : hm (M1 m c) (res7 m c) = res9 m c := funext fun _ => hm_at _ _ _
theorem adam_v : hv (M2 m c) (res7 m c) = res10 m c := funext fun _ => hv_at _ _ _
end

/-- The kernel and the reference leave the same gradient, step and moments, of any arguments. -/
theorem adam_algebraic : Cert.algebraic_AdamIdeal_AdamReferenceIdeal := fun m g m' g' _ e => by
  refine ⟨fun c => res7 m c, fun c => res8 m c, fun c => res9 m c, fun c => res10 m c, ?_, ?_⟩
  · refine (θ_run _ _ _).mono (fun r h c => ?_) (θ_run_and (Gen.run_main m g) (Gen.frame m g))
    obtain ⟨h, ⟨hf, -⟩⟩ := h
    exact ⟨((h c).1 7).trans (arr7 m c), ((h c).1 8).trans (arr8 m c), ((h c).1 9).trans (arr9 m c), ((h c).1 10).trans (arr10 m c), hf c⟩
  · refine (θ_run _ _ _).mono (fun r h c => ?_) (Cert.AdamReferenceIdeal.Value.run (F := Ideal) m' g')
    obtain ⟨h7, h8, h9, h10, hf⟩ := h c
    obtain ⟨a0, a1, a2, a3, a4, a5, a6⟩ := e c
    refine ⟨h7.trans (Eq.trans ?_ (adam_grad m c)), h8.trans (Eq.trans ?_ (adam_delta m c)), h9.trans (Eq.trans ?_ (adam_m m c)), h10.trans (Eq.trans ?_ (adam_v m c)), hf⟩
    · rw [a0, a1, a2, a3]; rfl
    · rw [← adam_grad]; unfold Cert.AdamReferenceIdeal.Value.res_main_v40; rw [a0, a1, a2, a3, a4, a5, a6]; rfl
    · rw [← adam_grad, a0, a1, a2, a3, a5]; rfl
    · rw [← adam_grad, a0, a1, a2, a3, a6]; rfl

end Cert.Proof
end
-- ==== Proof.Stages.lean ====
/-
  Softmax attention under the block-causal mask and its backward pass as the host writes them, stage by stage: named
  functions of the four arguments, and the reference's three results as the last of them.
-/
module

public import proofs.«01_k».proof.Proof.Gen.ReferenceIdeal.Run
public import proofs.«01_k».proof.Proof.Consts

@[expose] public section

set_option maxRecDepth 16384

noncomputable section

namespace Cert.Attn

open Idealize.ShloMosaic Idealize.ShloMosaic.TcCoe Idealize.SL.Sem Idealize.ShloMosaic.StableHlo
open Cert.ReferenceIdeal Cert.ReferenceIdeal.Gen

/-- The chunk of 64 positions that a position is in. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- Which keys a query sees. -/
def sees : IVec S16x4096x4096 1 :=
  broadcastInDim S16x4096x4096 ![0, 1, 2] bcast_S1x4096x4096_S16x4096x4096_0_1_2
    (cmpi .sge (broadcastInDim S1x4096x4096 ![0, 1, 2] bcast_S1x4096x1_S1x4096x4096_0_1_2 (broadcastInDim S1x4096x1 ![1] bcast_S4096_S1x4096x1_1 chunk))
      (broadcastInDim S1x4096x4096 ![0, 1, 2] bcast_S1x1x4096_S1x4096x4096_0_1_2 (broadcastInDim S1x1x4096 ![2] bcast_S4096_S1x1x4096_2 chunk)))

section
variable (a0 a1 : FVec Ideal S4096x16x96 .f32) (a2 : FVec Ideal S4096x16x64 .f32) (a3 : FVec Ideal S4096x1024 .f32)

/-- The scaled scores, −∞ where the key is not seen. -/
def score : FVec Ideal S16x4096x4096 .f32 :=
  select sees (mulf (Host.dotGeneral dot_S4096x16x96_S4096x16x96_S16x4096x4096_2_2_0_0_1_1 none a0 a1)
      (broadcastInDim S16x4096x4096 ![] bcast_S_S16x4096x4096 (constant S_ .f32 0x3DD105EC#32)))
    (broadcastInDim S16x4096x4096 ![] bcast_S_S16x4096x4096 (id (constant S_ .f32 0xFF800000#32)))

/-- Each row's greatest score. -/
def top : FVec Ideal S16x4096 .f32 :=
  Host.reduce FloatOps.maximumf (score a0 a1) (constant S_ .f32 0xFF800000#32) reducesTo_S16x4096x4096_S16x4096_d2 h_S_

/-- A column of the rows, and along the keys. -/
def colOf (x : FVec Ideal S16x4096 .f32) : FVec Ideal S16x4096x1 .f32 := broadcastInDim S16x4096x1 ![0, 1] bcast_S16x4096_S16x4096x1_0_1 x
def along (x : FVec Ideal S16x4096x1 .f32) : FVec Ideal S16x4096x4096 .f32 := broadcastInDim S16x4096x4096 ![0, 1, 2] bcast_S16x4096x1_S16x4096x4096_0_1_2 x

/-- The exponentials of the scores less a value per row. -/
def expo (x : FVec Ideal S16x4096 .f32) : FVec Ideal S16x4096x4096 .f32 := Host.exp (subf (score a0 a1) (along (colOf x)))

/-- Their sum over each row. -/
def total (x : FVec Ideal S16x4096 .f32) : FVec Ideal S16x4096x1 .f32 :=
  colOf (Host.reduceAdd (expo a0 a1 x) (constant S_ .f32 0x00000000#32) reducesTo_S16x4096x4096_S16x4096_d2 h_S_)

/-- The weights. -/
def weight (x : FVec Ideal S16x4096 .f32) : FVec Ideal S16x4096x4096 .f32 := Host.divf (expo a0 a1 x) (along (total a0 a1 x))

/-- The attention's output. -/
def outp (x : FVec Ideal S16x4096 .f32) : FVec Ideal S4096x16x64 .f32 :=
  transpose S4096x16x64 [2, 0, 1] (Host.dotGeneral dot_S4096x16x64_S16x4096x4096_S16x64x4096_0_2_2_1_1_0 none a2 (weight a0 a1 x)) transposes_S16x64x4096_S4096x16x64_2_0_1

/-- Each row's log-sum. -/
def lsum (x : FVec Ideal S16x4096 .f32) : FVec Ideal S16x4096x1 .f32 := addf (colOf x) (Host.log (total a0 a1 x))

/-- The reference's maximum. -/
def rtop : FVec Ideal S16x4096 .f32 := maximumf (broadcastInDim S16x4096 ![] bcast_S_S16x4096 (constant S_ .f32 0xFF800000#32)) (top a0 a1)

/-- The output's gradient, head by head. -/
def dout : FVec Ideal S16x64x4096 .f32 := transpose S16x64x4096 [1, 2, 0] (shapeCast _ a3 shapeCasts_S4096x1024_S4096x16x64) transposes_S4096x16x64_S16x64x4096_1_2_0

/-- The gradient of the weights. -/
def dweight : FVec Ideal S16x4096x4096 .f32 := Host.dotGeneral dot_S16x64x4096_S4096x16x64_S16x4096x4096_1_2_2_0_0_1 none (dout a3) a2

/-- The gradient of each row's sum. -/
def dtotal : FVec Ideal S16x4096 .f32 :=
  Host.reduceAdd (Host.negf (shapeCast _ (Host.reduceAdd (mulf (mulf (dweight a2 a3)
        (along (Host.divf (broadcastInDim S16x4096x1 ![] bcast_S_S16x4096x1 (constant S_ .f32 0x3F800000#32)) (mulf (total a0 a1 (rtop a0 a1)) (total a0 a1 (rtop a0 a1))))))
        (expo a0 a1 (rtop a0 a1))) (constant S_ .f32 0x00000000#32) reducesTo_S16x4096x4096_S16x4096_d2 h_S_) shapeCasts_S16x4096_S16x4096x1))
    (constant S_ .f32 0x00000000#32) reducesTo_S16x4096x1_S16x4096_d2 h_S_

/-- The gradient of the scores before the scale. -/
def dscore : FVec Ideal S16x4096x4096 .f32 :=
  mulf (select sees (mulf (addf (Host.divf (dweight a2 a3) (along (total a0 a1 (rtop a0 a1))))
        (broadcastInDim S16x4096x4096 ![0, 1] bcast_S16x4096_S16x4096x4096_0_1 (dtotal a0 a1 a2 a3))) (expo a0 a1 (rtop a0 a1)))
      (broadcastInDim S16x4096x4096 ![] bcast_S_S16x4096x4096 (constant S_ .f32 0x00000000#32)))
    (broadcastInDim S16x4096x4096 ![] bcast_S_S16x4096x4096 (constant S_ .f32 0x3DD105EC#32))

/-- A head's 96 lanes put in 128, the heads side by side. -/
def lanes (x : FVec Ideal S4096x16x96 .f32) : FVec Ideal S4096x2048 .f32 :=
  shapeCast _ (pad S4096x16x128 ![0, 0, 0] ![0, 0, 32] ![0, 0, 0] x (sitofp .f32 (constantI S_ 32 0#32)) pads_S4096x16x96_S4096x16x128_000_000_0320 h_S_) shapeCasts_S4096x16x128_S4096x2048

/-- The three gradients. -/
def dquery : FVec Ideal S4096x16x96 .f32 :=
  transpose S4096x16x96 [1, 0, 2] (Host.dotGeneral dot_S16x4096x4096_S4096x16x96_S16x4096x96_2_0_1_2_0_1 none (dscore a0 a1 a2 a3) a1) transposes_S16x4096x96_S4096x16x96_1_0_2
def dkey : FVec Ideal S4096x16x96 .f32 :=
  transpose S4096x16x96 [1, 0, 2] (Host.dotGeneral dot_S16x4096x4096_S4096x16x96_S16x4096x96_1_0_2_2_0_1 none (dscore a0 a1 a2 a3) a0) transposes_S16x4096x96_S4096x16x96_1_0_2
def dvalue : FVec Ideal S4096x16x64 .f32 :=
  transpose S4096x16x64 [2, 0, 1] (Host.dotGeneral dot_S16x64x4096_S16x4096x4096_S16x64x4096_2_1_1_2_0_0 none (dout a3) (weight a0 a1 (rtop a0 a1))) transposes_S16x64x4096_S4096x16x64_2_0_1
/-- The heads' 64 lanes side by side. -/
def flat (x : FVec Ideal S4096x16x64 .f32) : FVec Ideal S4096x1024 .f32 := shapeCast _ x shapeCasts_S4096x16x64_S4096x1024
end

section
variable (m : (ℓ : Loc nD τ sig) → Buf (Elt Ideal) ℓ) (c : Dev nD)
abbrev arg0 : FVec Ideal S4096x16x96 .f32 := m ((c.tc : Thread nD τ).loc main_arg0)
abbrev arg1 : FVec Ideal S4096x16x96 .f32 := m ((c.tc : Thread nD τ).loc main_arg1)
abbrev arg2 : FVec Ideal S4096x16x64 .f32 := m ((c.tc : Thread nD τ).loc main_arg2)
abbrev arg3 : FVec Ideal S4096x1024 .f32 := m ((c.tc : Thread nD τ).loc main_arg3)

theorem res67 : Value.res_main_v67 m c = lanes (dquery (arg0 m c) (arg1 m c) (arg2 m c) (arg3 m c)) := by
  unfold Value.res_main_v67; rfl
theorem res69 : Value.res_main_v69 m c = lanes (dkey (arg0 m c) (arg1 m c) (arg2 m c) (arg3 m c)) := by
  unfold Value.res_main_v69; rfl
theorem res70 : Value.res_main_v70 m c = flat (dvalue (arg0 m c) (arg1 m c) (arg3 m c)) := by
  unfold Value.res_main_v70; rfl
end

end Cert.Attn
end
-- ==== Proof.Reads.lean ====
/-
  The host's stages read at an index.
-/
module

public import proofs.«01_k».proof.Proof.Stages
public import Idealize.ShloMosaic.Lib.Pointwise
public import Idealize.ShloMosaic.Lib.Tactic.CleanTypes

@[expose] public section

set_option maxRecDepth 16384

noncomputable section

namespace Cert.Attn

open Idealize.ShloMosaic Idealize.ShloMosaic.TcCoe Idealize.SL.Sem Idealize.ShloMosaic.StableHlo
open Cert.ReferenceIdeal Cert.ReferenceIdeal.Gen

/-- The order of the chunks' words. -/
theorem sge64 : ∀ a b : Fin 64, IntOp.cmpi .sge (BitVec.ofNat 32 a.val) (BitVec.ofNat 32 b.val) = if b.val ≤ a.val then 1#1 else 0#1 := by
  decide +kernel

theorem chunk_ix (r : Fin 4096) : chunk (ix1 r) = BitVec.ofNat 32 (r.val / 64) := by
  pointwise [chunk]
  revert r
  decide +kernel

theorem sees_ix (h : Fin 16) (r s : Fin 4096) : sees (ix3 h r s) = if s.val / 64 ≤ r.val / 64 then 1#1 else 0#1 := by
  pointwise [sees]
  rw [chunk_ix, chunk_ix]
  exact sge64 ⟨r.val / 64, by omega⟩ ⟨s.val / 64, by omega⟩

section
variable (a0 a1 : FVec Ideal S4096x16x96 .f32) (a2 : FVec Ideal S4096x16x64 .f32) (a3 : FVec Ideal S4096x1024 .f32)

theorem score_ix (h : Fin 16) (r s : Fin 4096) : score a0 a1 (ix3 h r s) = if s.val / 64 ≤ r.val / 64 then (∑ l, a0 (ix3 r h l) * a1 (ix3 s h l)) * (Consts.sc : EReal) else ⊥ := by
  pointwise [score]
  rw [sees_ix]
  rw [Consts.ofBits_scale]
  by_cases hv : s.val / 64 ≤ r.val / 64
  · rw [if_pos hv, if_pos hv]; rfl
  · rw [if_neg hv, if_neg hv]; exact Consts.ofBits_bot

/-- A row's greatest score is a real number when no score is +∞ and one is not −∞. -/
theorem top_real (h : Fin 16) (r t : Fin 4096) (hs : ∀ s, score a0 a1 (ix3 h r s) ≠ ⊤) (ht : score a0 a1 (ix3 h r t) ≠ ⊥) :
    ∃ M : ℝ, top a0 a1 (ix2 h r) = (M : EReal) := by
  have e : top a0 a1 (ix2 h r) = (Finset.univ : Finset (Fin 4096)).fold max ⊥ fun s => score a0 a1 (ix3 h r s) := by
    unfold top
    rw [Host.reduce_eq_fold_single (FloatOps.maximumf (F := Ideal) (φ := .f32)) _ _ _ (by decide : S16x4096x4096.Reduces [2] S16x4096)]
    refine (congrArg (fun b => Finset.fold _ b _ _) Consts.ofBits_bot).trans ?_
    refine Finset.fold_congr fun s _ => congrArg (score a0 a1) (funext fun d => ?_)
    fin_cases d <;> rfl
  rw [e]
  refine ⟨_, (EReal.coe_toReal ?_ ?_).symm⟩
  · exact ((Finset.fold_max_lt _).mpr ⟨bot_lt_top, fun s _ => lt_top_iff_ne_top.mpr (hs s)⟩).ne
  · exact (lt_of_lt_of_le (bot_lt_iff_ne_bot.mpr ht) ((Finset.le_fold_max _).mpr (Or.inr ⟨t, Finset.mem_univ _, le_refl _⟩))).ne'
variable (x : FVec Ideal S16x4096 .f32)
theorem expo_ix (h : Fin 16) (r s : Fin 4096) : expo a0 a1 x (ix3 h r s) = Ideal.exp (score a0 a1 (ix3 h r s) - x (ix2 h r)) := by
  pointwise [expo, along, colOf]
theorem total_ix (h : Fin 16) (r : Fin 4096) : total a0 a1 x (ix3 h r 0) = ∑ s, Ideal.exp (score a0 a1 (ix3 h r s) - x (ix2 h r)) := by
  pointwise [total, colOf]
  exact Finset.sum_congr rfl fun s _ => expo_ix a0 a1 x h r s
theorem weight_ix (h : Fin 16) (r s : Fin 4096) : weight a0 a1 x (ix3 h r s) = Ideal.div (expo a0 a1 x (ix3 h r s)) (total a0 a1 x (ix3 h r 0)) := by
  pointwise [weight, along]
theorem outp_ix (h : Fin 16) (r : Fin 4096) (l : Fin 64) : outp a0 a1 a2 x (ix3 r h l) = ∑ s, a2 (ix3 s h l) * weight a0 a1 x (ix3 h r s) := by
  pointwise [outp]
theorem lsum_ix (h : Fin 16) (r : Fin 4096) : lsum a0 a1 x (ix3 h r 0) = x (ix2 h r) + Ideal.log (total a0 a1 x (ix3 h r 0)) := by
  pointwise [lsum, colOf]
/-- A maximum with −∞ is the other value. -/
theorem max_bot_ix (t : FVec Ideal S16x4096 .f32) (i : S16x4096.Idx) :
    maximumf (broadcastInDim S16x4096 ![] bcast_S_S16x4096 (constant S_ .f32 0xFF800000#32)) t i = t i := by
  have e : (broadcastInDim S16x4096 ![] bcast_S_S16x4096 (constant (F := Ideal) S_ .f32 0xFF800000#32) i : EReal) = ⊥ :=
    (rfl : _ = Ideal.ofBits .f32 0xFF800000#32).trans Consts.ofBits_bot
  generalize broadcastInDim S16x4096 ![] bcast_S_S16x4096 (constant (F := Ideal) S_ .f32 0xFF800000#32) = x at e ⊢
  have h : maximumf x t i = max (x i : EReal) (t i) := rfl
  rw [h, e]
  exact max_eq_right bot_le

theorem rtop_eq : rtop a0 a1 = top a0 a1 := by
  unfold rtop
  exact funext (max_bot_ix (top a0 a1))

theorem dout_ix (h : Fin 16) (r : Fin 4096) (l : Fin 64) : dout a3 (ix3 h l r) = a3 (ix2 r ⟨64 * h.val + l.val, by omega⟩) := by
  pointwise [dout]
  exact congrArg a3 (congrArg (ix2 r) (Fin.ext (by show h.val * 64 + l.val = 64 * h.val + l.val; omega)))
theorem dweight_ix (h : Fin 16) (r s : Fin 4096) : dweight a2 a3 (ix3 h r s) = ∑ l, dout a3 (ix3 h l r) * a2 (ix3 s h l) := by
  pointwise [dweight]
theorem dtotal_ix (h : Fin 16) (r : Fin 4096) : dtotal a0 a1 a2 a3 (ix2 h r)
    = -∑ s, dweight a2 a3 (ix3 h r s) * Ideal.div 1 (total a0 a1 (top a0 a1) (ix3 h r 0) * total a0 a1 (top a0 a1) (ix3 h r 0)) * expo a0 a1 (top a0 a1) (ix3 h r s) := by
  rw [← rtop_eq]
  pointwise [dtotal, along]
  exact Fin.sum_univ_one _
theorem dscore_ix (h : Fin 16) (r s : Fin 4096) : dscore a0 a1 a2 a3 (ix3 h r s)
    = (if s.val / 64 ≤ r.val / 64 then (Ideal.div (dweight a2 a3 (ix3 h r s)) (total a0 a1 (top a0 a1) (ix3 h r 0)) + dtotal a0 a1 a2 a3 (ix2 h r)) * expo a0 a1 (top a0 a1) (ix3 h r s) else 0)
      * (Consts.sc : EReal) := by
  rw [← rtop_eq]
  pointwise [dscore, along]
  rw [sees_ix, Consts.ofBits_scale]
  by_cases hv : s.val / 64 ≤ r.val / 64
  · rw [if_pos hv, if_pos hv]; rfl
  · rw [if_neg hv, if_neg hv, zero_mul]; rfl
theorem lanes_ix (x : FVec Ideal S4096x16x96 .f32) (h : Fin 16) (r : Fin 4096) (l : Fin 128) :
    lanes x (ix2 r ⟨128 * h.val + l.val, by omega⟩) = if hl : l.val < 96 then x (ix3 r h ⟨l.val, hl⟩) else 0 := by
  pointwise [lanes]
  by_cases hl : l.val < 96
  · rw [dif_pos hl, dif_pos hl]
  · rw [dif_neg hl, dif_neg hl]
    show ((((0#32 : BitVec 32).toInt : ℝ)) : EReal) = 0
    simp
theorem dquery_ix (h : Fin 16) (r : Fin 4096) (l : Fin 96) : dquery a0 a1 a2 a3 (ix3 r h l) = ∑ s, dscore a0 a1 a2 a3 (ix3 h r s) * a1 (ix3 s h l) := by
  pointwise [dquery]
theorem dkey_ix (h : Fin 16) (s : Fin 4096) (l : Fin 96) : dkey a0 a1 a2 a3 (ix3 s h l) = ∑ r, dscore a0 a1 a2 a3 (ix3 h r s) * a0 (ix3 r h l) := by
  pointwise [dkey]
theorem dvalue_ix (h : Fin 16) (s : Fin 4096) (l : Fin 64) : dvalue a0 a1 a3 (ix3 s h l) = ∑ r, dout a3 (ix3 h l r) * weight a0 a1 (rtop a0 a1) (ix3 h r s) := by
  pointwise [dvalue]
theorem flat_ix (x : FVec Ideal S4096x16x64 .f32) (h : Fin 16) (r : Fin 4096) (l : Fin 64) : flat x (ix2 r ⟨64 * h.val + l.val, by omega⟩) = x (ix3 r h l) := by
  pointwise [flat]
end

end Cert.Attn
end
-- ==== Proof.Reals.lean ====
/-
  The host's stages over real arguments: each value is a real number, and which.
-/
module

public import proofs.«01_k».proof.Proof.Reads

@[expose] public section

set_option maxRecDepth 16384

noncomputable section

namespace Cert.Attn

open Idealize.ShloMosaic Idealize.ShloMosaic.TcCoe Idealize.SL.Sem Idealize.ShloMosaic.StableHlo
open Cert.ReferenceIdeal Cert.ReferenceIdeal.Gen

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real {y : ℝ} (h : y ≠ 0) (x : ℝ) : Ideal.div (x : EReal) (y : EReal) = ((x / y : ℝ) : EReal) := by
  rw [Ideal.div_coe h, ← EReal.coe_mul, mul_one_div]

/-! ## The real numbers -/

/-- A query sees the keys of its own chunk and of those before. -/
abbrev Vis (r s : Fin 4096) : Prop := s.val / 64 ≤ r.val / 64

section
variable (q k : Fin 4096 → Fin 16 → Fin 96 → ℝ) (v d : Fin 4096 → Fin 16 → Fin 64 → ℝ) (M : Fin 16 → Fin 4096 → ℝ)

def dotR (h : Fin 16) (r s : Fin 4096) : ℝ := ∑ l, q r h l * k s h l
def eR (h : Fin 16) (r s : Fin 4096) : ℝ := if Vis r s then Real.exp (dotR q k h r s * Consts.sc - M h r) else 0
def LR (h : Fin 16) (r : Fin 4096) : ℝ := ∑ s, eR q k M h r s
def yR (h : Fin 16) (r s : Fin 4096) : ℝ := eR q k M h r s / LR q k M h r
def gR (h : Fin 16) (r s : Fin 4096) : ℝ := ∑ l, d r h l * v s h l
def deltaR (h : Fin 16) (r : Fin 4096) : ℝ := ∑ s, yR q k M h r s * gR v d h r s
/-- The gradient of the scaled score. -/
def dsR (h : Fin 16) (r s : Fin 4096) : ℝ := yR q k M h r s * (gR v d h r s - deltaR q k v d M h r)

theorem eR_nonneg (h : Fin 16) (r s : Fin 4096) : 0 ≤ eR q k M h r s := by
  unfold eR; split_ifs
  · exact (Real.exp_pos _).le
  · exact le_refl _

theorem LR_pos (h : Fin 16) (r : Fin 4096) : 0 < LR q k M h r :=
  Finset.sum_pos' (fun s _ => eR_nonneg q k M h r s) ⟨r, Finset.mem_univ _, by
    unfold eR; rw [if_pos (le_refl _)]; exact Real.exp_pos _⟩

/-! ## The stages -/

variable {q k v d M}
variable {a0 a1 : FVec Ideal S4096x16x96 .f32} {a2 : FVec Ideal S4096x16x64 .f32} {a3 : FVec Ideal S4096x1024 .f32}
variable (h0 : ∀ r h l, a0 (ix3 r h l) = (q r h l : EReal)) (h1 : ∀ r h l, a1 (ix3 r h l) = (k r h l : EReal))
  (h2 : ∀ r h l, a2 (ix3 r h l) = (v r h l : EReal)) (h3 : ∀ r h l, dout a3 (ix3 h l r) = (d r h l : EReal))
  (hM : ∀ h r, top a0 a1 (ix2 h r) = (M h r : EReal))

include h0 h1 in
theorem dot_real (h : Fin 16) (r s : Fin 4096) : (∑ l, a0 (ix3 r h l) * a1 (ix3 s h l)) = (dotR q k h r s : EReal) := by
  unfold dotR
  rw [coe_sum]
  exact Finset.sum_congr rfl fun l _ => by rw [h0, h1, EReal.coe_mul]

include h0 h1 in
theorem score_real (h : Fin 16) (r s : Fin 4096) : score a0 a1 (ix3 h r s) = if Vis r s then ((dotR q k h r s * Consts.sc : ℝ) : EReal) else ⊥ := by
  rw [score_ix, dot_real h0 h1, ← EReal.coe_mul]

include h0 h1 in
theorem exists_top : ∃ M : Fin 16 → Fin 4096 → ℝ, ∀ h r, top a0 a1 (ix2 h r) = (M h r : EReal) := by
  have : ∀ h r, ∃ M : ℝ, top a0 a1 (ix2 h r) = (M : EReal) := fun h r => by
    refine top_real a0 a1 h r r (fun s => ?_) ?_
    · rw [score_real h0 h1]
      split_ifs
      · exact EReal.coe_ne_top _
      · exact bot_ne_top
    · rw [score_real h0 h1, if_pos (le_refl _)]
      exact EReal.coe_ne_bot _
  choose M hM using this
  exact ⟨M, hM⟩

include h0 h1 hM in
theorem expo_real (h : Fin 16) (r s : Fin 4096) : expo a0 a1 (top a0 a1) (ix3 h r s) = (eR q k M h r s : EReal) := by
  rw [expo_ix, score_real h0 h1, hM]
  unfold eR
  by_cases hv : Vis r s
  · rw [if_pos hv, if_pos hv, ← EReal.coe_sub]; exact Ideal.exp_coe _
  · rw [if_neg hv, if_neg hv, EReal.bot_sub]; exact Ideal.exp_bot

include h0 h1 hM in
theorem total_real (h : Fin 16) (r : Fin 4096) : total a0 a1 (top a0 a1) (ix3 h r 0) = (LR q k M h r : EReal) := by
  rw [total_ix]
  unfold LR
  rw [coe_sum]
  exact Finset.sum_congr rfl fun s _ => (expo_ix a0 a1 _ h r s).symm.trans (expo_real h0 h1 hM h r s)

include h0 h1 hM in
theorem weight_real (h : Fin 16) (r s : Fin 4096) : weight a0 a1 (top a0 a1) (ix3 h r s) = (yR q k M h r s : EReal) := by
  rw [weight_ix, expo_real h0 h1 hM, total_real h0 h1 hM, div_real (LR_pos q k M h r).ne']
  rfl

include h0 h1 h2 hM in
theorem outp_real (h : Fin 16) (r : Fin 4096) (l : Fin 64) : outp a0 a1 a2 (top a0 a1) (ix3 r h l) = ((∑ s, v s h l * yR q k M h r s : ℝ) : EReal) := by
  rw [outp_ix, coe_sum]
  exact Finset.sum_congr rfl fun s _ => by rw [h2, weight_real h0 h1 hM, EReal.coe_mul]

include h0 h1 hM in
theorem lsum_real (h : Fin 16) (r : Fin 4096) : lsum a0 a1 (top a0 a1) (ix3 h r 0) = ((M h r + Real.log (LR q k M h r) : ℝ) : EReal) := by
  rw [lsum_ix, hM, total_real h0 h1 hM, Ideal.log_coe, if_neg (not_le.mpr (LR_pos q k M h r)), EReal.coe_add]

include h2 h3 in
theorem dweight_real (h : Fin 16) (r s : Fin 4096) : dweight a2 a3 (ix3 h r s) = (gR v d h r s : EReal) := by
  rw [dweight_ix]
  unfold gR
  rw [coe_sum]
  exact Finset.sum_congr rfl fun l _ => by rw [h2, h3, EReal.coe_mul]

include h0 h1 h2 h3 hM in
theorem dtotal_real (h : Fin 16) (r : Fin 4096) : dtotal a0 a1 a2 a3 (ix2 h r) = ((-(deltaR q k v d M h r / LR q k M h r) : ℝ) : EReal) := by
  have hL := (LR_pos q k M h r).ne'
  rw [dtotal_ix, total_real h0 h1 hM, ← EReal.coe_mul, show (1 : EReal) = ((1 : ℝ) : EReal) from rfl, div_real (mul_ne_zero hL hL)]
  have e : deltaR q k v d M h r / LR q k M h r = ∑ s, gR v d h r s * (1 / (LR q k M h r * LR q k M h r)) * eR q k M h r s := by
    unfold deltaR
    rw [Finset.sum_div]
    refine Finset.sum_congr rfl fun s _ => ?_
    unfold yR
    field_simp
  rw [e, EReal.coe_neg, coe_sum]
  refine congrArg _ (Finset.sum_congr rfl fun s _ => ?_)
  rw [dweight_real h2 h3, expo_real h0 h1 hM, EReal.coe_mul, EReal.coe_mul]

include h0 h1 h2 h3 hM in
theorem dscore_real (h : Fin 16) (r s : Fin 4096) : dscore a0 a1 a2 a3 (ix3 h r s) = ((dsR q k v d M h r s * Consts.sc : ℝ) : EReal) := by
  have hL := (LR_pos q k M h r).ne'
  rw [dscore_ix, dweight_real h2 h3, total_real h0 h1 hM, dtotal_real h0 h1 h2 h3 hM, expo_real h0 h1 hM, div_real hL, ← EReal.coe_add, ← EReal.coe_mul, EReal.coe_mul (dsR q k v d M h r s)]
  refine congrArg (· * (Consts.sc : EReal)) ?_
  unfold dsR
  by_cases hv : Vis r s
  · rw [if_pos hv]
    refine congrArg _ ?_
    unfold yR
    field_simp
    ring
  · rw [if_neg hv]
    have : yR q k M h r s = 0 := by unfold yR eR; rw [if_neg hv, zero_div]
    rw [this, zero_mul]
    rfl

include h0 h1 h2 h3 hM in
theorem dquery_real (h : Fin 16) (r : Fin 4096) (l : Fin 96) : dquery a0 a1 a2 a3 (ix3 r h l) = (((∑ s, dsR q k v d M h r s * k s h l) * Consts.sc : ℝ) : EReal) := by
  rw [dquery_ix, Finset.sum_mul, coe_sum]
  exact Finset.sum_congr rfl fun s _ => by
    rw [dscore_real h0 h1 h2 h3 hM, h1, ← EReal.coe_mul]; exact congrArg _ (by ring)

include h0 h1 h2 h3 hM in
theorem dkey_real (h : Fin 16) (s : Fin 4096) (l : Fin 96) : dkey a0 a1 a2 a3 (ix3 s h l) = (((∑ r, dsR q k v d M h r s * q r h l) * Consts.sc : ℝ) : EReal) := by
  rw [dkey_ix, Finset.sum_mul, coe_sum]
  exact Finset.sum_congr rfl fun r _ => by
    rw [dscore_real h0 h1 h2 h3 hM, h0, ← EReal.coe_mul]; exact congrArg _ (by ring)

include h0 h1 h3 hM in
theorem dvalue_real (h : Fin 16) (s : Fin 4096) (l : Fin 64) : dvalue a0 a1 a3 (ix3 s h l) = ((∑ r, yR q k M h r s * d r h l : ℝ) : EReal) := by
  rw [dvalue_ix, rtop_eq, coe_sum]
  exact Finset.sum_congr rfl fun r _ => by
    rw [weight_real h0 h1 hM, h3, ← EReal.coe_mul, mul_comm]
end

end Cert.Attn
end
-- ==== Proof.FwdMath.lean ====
/-
  The running softmax of one query over tiles of keys. A state holds a greatest score so far `m`, a sum `l` and a weighted
  sum `acc` of the values, both taken against `m`; a tile is absorbed by raising `m`, scaling what is held and adding the
  tile's share. Held at any real `m`, the state is the sum of the exponentials of the scores, and of these times the
  values, each times the exponential of `-m`; so its quotient and its log-sum do not depend on `m`.
-/
module

public import proofs.«01_k».proof.Proof.Reals

@[expose] public section

noncomputable section

namespace Cert.FwdMath

open Idealize.ShloMosaic Cert.Attn

/-- The factor of the scores, to the base two. -/
abbrev cE : EReal := ((Consts.sc * (Real.log 2)⁻¹ : ℝ) : EReal)

theorem exp2_diff (x μ : ℝ) : Ideal.exp2 (((x : EReal) - (μ : EReal)) * cE) = ((Real.exp (x * Consts.sc) * Real.exp (-(μ * Consts.sc)) : ℝ) : EReal) := by
  rw [← EReal.coe_sub, ← EReal.coe_mul, Ideal.exp2_coe]
  refine congrArg _ ?_
  show (2 : ℝ) ^ (_ : ℝ) = _
  rw [Real.rpow_def_of_pos (by norm_num), ← Real.exp_add]
  refine congrArg _ ?_
  have := Consts.log2_pos.ne'
  field_simp
  ring

theorem exp2_unseen (μ : ℝ) : Ideal.exp2 (((⊥ : EReal) - (μ : EReal)) * cE) = 0 := by
  rw [EReal.bot_sub, EReal.bot_mul_coe_of_pos (mul_pos Consts.sc_pos (inv_pos.mpr Consts.log2_pos))]
  exact Ideal.exp2_bot

section
variable {n D : ℕ}

/-- The greatest score after a tile. -/
def mN (m : EReal) (s : Fin n → EReal) : EReal := max m ((Finset.univ : Finset (Fin n)).fold max ⊥ s)

/-- The weight of a key against it. -/
def pN (m : EReal) (s : Fin n → EReal) (b : Fin n) : EReal := Ideal.exp2 ((s b - mN m s) * cE)

/-- What the held sums are scaled by. -/
def αN (m : EReal) (s : Fin n → EReal) : EReal := Ideal.exp2 ((m - mN m s) * cE)

/-- The sum after a tile. -/
def lN (m l : EReal) (s : Fin n → EReal) : EReal := αN m s * l + ∑ b, pN m s b

/-- The weighted sum after a tile. -/
def aN (m acc : EReal) (s v : Fin n → EReal) : EReal := αN m s * acc + ∑ b, pN m s b * v b

/-- The state at a real `μ`. -/
def At (μ : ℝ) (m l : EReal) (acc : Fin D → EReal) (L : ℝ) (V : Fin D → ℝ) : Prop :=
  m = (μ : EReal) ∧ l = ((Real.exp (-(μ * Consts.sc)) * L : ℝ) : EReal) ∧ ∀ d, acc d = ((Real.exp (-(μ * Consts.sc)) * V d : ℝ) : EReal)

/-- The state before the first tile, or at some real number. -/
def Holds (m l : EReal) (acc : Fin D → EReal) (L : ℝ) (V : Fin D → ℝ) : Prop :=
  (m = ⊥ ∧ l = 0 ∧ (∀ d, acc d = 0) ∧ L = 0 ∧ ∀ d, V d = 0) ∨ ∃ μ, At μ m l acc L V

variable {m l : EReal} {acc : Fin D → EReal} {L : ℝ} {V : Fin D → ℝ} {s : Fin n → EReal} {v : Fin n → Fin D → EReal}
variable {vis : Fin n → Bool} {x : Fin n → ℝ} {w : Fin n → Fin D → ℝ}

/-- The greatest score after a tile of which one key is seen is a real number. -/
theorem mN_real (hm : m ≠ ⊤) (hs : ∀ b, s b = if vis b then (x b : EReal) else ⊥) (b : Fin n) (hb : vis b = true) : ∃ μ : ℝ, mN m s = (μ : EReal) := by
  refine ⟨_, (EReal.coe_toReal ?_ ?_).symm⟩
  · refine (max_lt (lt_top_iff_ne_top.mpr hm) ((Finset.fold_max_lt _).mpr ⟨bot_lt_top, fun b _ => ?_⟩)).ne
    rw [hs]
    split_ifs
    · exact EReal.coe_lt_top _
    · exact bot_lt_top
  · have h1 : s b ≠ ⊥ := by rw [hs, if_pos hb]; exact EReal.coe_ne_bot _
    exact (lt_of_lt_of_le (bot_lt_iff_ne_bot.mpr h1) (le_max_of_le_right ((Finset.le_fold_max _).mpr (Or.inr ⟨b, Finset.mem_univ _, le_refl _⟩)))).ne'

/-- A tile absorbed. -/
theorem absorb (h : Holds m l acc L V) (hs : ∀ b, s b = if vis b then (x b : EReal) else ⊥) (hv : ∀ b d, v b d = (w b d : EReal))
    (b₀ : Fin n) (hb : vis b₀ = true) :
    ∃ μ, At μ (mN m s) (lN m l s) (fun d => aN m (acc d) s fun b => v b d) (L + ∑ b, if vis b then Real.exp (x b * Consts.sc) else 0)
      (fun d => V d + ∑ b, if vis b then Real.exp (x b * Consts.sc) * w b d else 0) := by
  have hm : m ≠ ⊤ := by
    rcases h with ⟨h, -⟩ | ⟨μ, h, -⟩
    · rw [h]; exact bot_ne_top
    · rw [h]; exact EReal.coe_ne_top _
  obtain ⟨μ, hμ⟩ := mN_real hm hs b₀ hb
  have hp : ∀ b, pN m s b = (((if vis b then Real.exp (x b * Consts.sc) else 0) * Real.exp (-(μ * Consts.sc)) : ℝ) : EReal) := fun b => by
    unfold pN
    rw [hμ, hs]
    by_cases hv : vis b = true
    · rw [if_pos hv, if_pos hv]; exact exp2_diff _ _
    · rw [if_neg hv, if_neg hv, exp2_unseen, zero_mul]; rfl
  have hα : ∀ (y : EReal) (Y : ℝ), (m = ⊥ ∧ y = 0 ∧ Y = 0 ∨ ∃ ν : ℝ, m = (ν : EReal) ∧ y = ((Real.exp (-(ν * Consts.sc)) * Y : ℝ) : EReal)) →
      αN m s * y = ((Real.exp (-(μ * Consts.sc)) * Y : ℝ) : EReal) := fun y Y hy => by
    rcases hy with ⟨-, h, h'⟩ | ⟨ν, h, h'⟩
    · rw [h, h', mul_zero, mul_zero]; rfl
    · unfold αN
      rw [hμ, h, h', exp2_diff, ← EReal.coe_mul]
      refine congrArg _ ?_
      have : Real.exp (ν * Consts.sc) * Real.exp (-(ν * Consts.sc)) = 1 := by rw [← Real.exp_add, add_neg_cancel, Real.exp_zero]
      calc _ = (Real.exp (ν * Consts.sc) * Real.exp (-(ν * Consts.sc))) * (Real.exp (-(μ * Consts.sc)) * Y) := by ring
        _ = _ := by rw [this, one_mul]
  refine ⟨μ, hμ, ?_, fun d => ?_⟩
  · unfold lN
    rw [hα l L (by
      rcases h with ⟨h1, h2, -, h3, -⟩ | ⟨ν, h1, h2, -⟩
      · exact Or.inl ⟨h1, h2, h3⟩
      · exact Or.inr ⟨ν, h1, h2⟩), Finset.sum_congr rfl fun b _ => hp b, ← coe_sum, ← EReal.coe_add, ← Finset.sum_mul]
    exact congrArg _ (by ring)
  · show aN m (acc d) s (fun b => v b d) = _
    unfold aN
    rw [hα (acc d) (V d) (by
      rcases h with ⟨h1, -, h2, -, h3⟩ | ⟨ν, h1, -, h2⟩
      · exact Or.inl ⟨h1, h2 d, h3 d⟩
      · exact Or.inr ⟨ν, h1, h2 d⟩)]
    have e : ∀ b, pN m s b * v b d = (((if vis b then Real.exp (x b * Consts.sc) * w b d else 0) * Real.exp (-(μ * Consts.sc)) : ℝ) : EReal) := fun b => by
      rw [hp, hv, ← EReal.coe_mul]
      refine congrArg _ ?_
      split_ifs
      · ring
      · ring
    rw [Finset.sum_congr rfl fun b _ => e b, ← coe_sum, ← EReal.coe_add, ← Finset.sum_mul]
    exact congrArg _ (by ring)

/-- The quotient of a state. -/
theorem At.quot {μ : ℝ} (h : At μ m l acc L V) (hL : 0 < L) (d : Fin D) : Ideal.div (acc d) l = ((V d / L : ℝ) : EReal) := by
  obtain ⟨-, h1, h2⟩ := h
  have he := Real.exp_pos (-(μ * Consts.sc))
  rw [h1, h2, div_real (mul_pos he hL).ne']
  exact congrArg _ (mul_div_mul_left _ _ he.ne')

/-- The log-sum of a state. -/
theorem At.logsum {μ : ℝ} (h : At μ m l acc L V) (hL : 0 < L) : m * (Consts.sc : EReal) + Ideal.log l = ((Real.log L : ℝ) : EReal) := by
  obtain ⟨h0, h1, -⟩ := h
  have he := Real.exp_pos (-(μ * Consts.sc))
  rw [h0, h1, Ideal.log_coe, if_neg (not_le.mpr (mul_pos he hL)), Real.log_mul he.ne' hL.ne', Real.log_exp, ← EReal.coe_mul, ← EReal.coe_add]
  exact congrArg _ (by ring)
end

end Cert.FwdMath
end
-- ==== Proof.Block.lean ====
/-
  One block of the kernel's computation, element by element over the extended reals: one head's tile of queries against
  one tile of keys. The kernel writes each product twice, once for each head of the pair, and once more with the mask for
  the tile on the diagonal; they are read here as the same four functions of the head's operands.
-/
module

public import proofs.«01_k».proof.Proof.Gen.KernelIdeal.Skeleton
public import proofs.«01_k».proof.Proof.Consts
public import Idealize.ShloMosaic.Lib.Pointwise

@[expose] public section

set_option maxRecDepth 16384

noncomputable section

namespace Cert.KernelIdeal.Bwd

open Idealize.ShloMosaic Idealize.ShloMosaic.TcCoe Idealize.SL.Sem
open Cert.KernelIdeal Cert.KernelIdeal.Gen

/-! ## One head's functions -/

/-- A matrix by its two coordinates. -/
abbrev m2 {A B : ℕ} {φ : FTy} (v : FVec Ideal (⟨2, ![A, B]⟩ : Shape) φ) (a : Fin A) (b : Fin B) : EReal := v (ix2 a b)

/-- A column by its row. -/
abbrev c1 {A : ℕ} {φ : FTy} (v : FVec Ideal (⟨2, ![A, 1]⟩ : Shape) φ) (a : Fin A) : EReal := v (ix2 a 0)

section
variable {A n : ℕ} (vis : Fin A → Fin n → Bool) (q : Fin A → Fin 128 → EReal) (l2 : Fin A → EReal)
  (dom : Fin A → Fin 128 → EReal) (del : Fin A → EReal) (kk vv : Fin n → Fin 128 → EReal)

/-- The weight of key `b` for query `a`: two to the scaled score less the row's log-sum; nothing where it is not seen. -/
def prob (a : Fin A) (b : Fin n) : EReal :=
  Ideal.exp2 ((if vis a b then ∑ c, q a c * kk b c else ⊥) * ((Consts.sc * (Real.log 2)⁻¹ : ℝ) : EReal) - l2 a)

/-- The gradient of the score. -/
def dsc (a : Fin A) (b : Fin n) : EReal := prob vis q l2 kk a b * ((∑ l, dom a l * vv b l) - del a)

/-- What the keys add to the gradient of the query. -/
def dqS (a : Fin A) (l : Fin 128) : EReal := ∑ b, dsc vis q l2 dom del kk vv a b * kk b l

/-- What the queries add to the gradient of the key. -/
def dkS (b : Fin n) (l : Fin 128) : EReal := ∑ a, dsc vis q l2 dom del kk vv a b * q a l

/-- What the queries add to the gradient of the value. -/
def dvS (b : Fin n) (l : Fin 128) : EReal := ∑ a, prob vis q l2 kk a b * dom a l
end

/-- Every key is seen. -/
def allSeen {A n : ℕ} : Fin A → Fin n → Bool := fun _ _ => true

/-- On the diagonal tile a query sees the keys of its own chunk of 64 and of those before. -/
def diagSeen : Fin 512 → Fin 512 → Bool := fun a b => decide (b.val / 64 ≤ a.val / 64)

/-! ## The payloads below the diagonal -/

theorem pay10_ix (v4 : FVec Ideal S512x128 .bf16) (v25 : FVec Ideal S512x1 .f32) (v249 : FVec Ideal S512x128 .bf16) (a b : Fin 512) :
    k0_pay10 (F := Ideal) v4 v25 v249 (ix2 a b) = prob allSeen (m2 v4) (c1 v25) (m2 v249) a b := by
  pointwise [k0_pay10, k0_pay8]
  rw [Consts.exp2_scale]; rfl

theorem pay11_ix (v27 : FVec Ideal S512x128 .bf16) (v48 : FVec Ideal S512x1 .f32) (v252 : FVec Ideal S512x128 .bf16) (a b : Fin 512) :
    k0_pay11 (F := Ideal) v27 v48 v252 (ix2 a b) = prob allSeen (m2 v27) (c1 v48) (m2 v252) a b := by
  pointwise [k0_pay11, k0_pay9]
  rw [Consts.exp2_scale]; rfl

section
variable (v4 v27 v21 v44 v246 v249 v252 : FVec Ideal S512x128 .bf16) (v20 v25 v43 v48 : FVec Ideal S512x1 .f32)

theorem pay12_ix (a b : Fin 512) : k0_pay12 (F := Ideal) v4 v20 v21 v25 v246 v249 (ix2 a b)
    = dsc allSeen (m2 v4) (c1 v25) (m2 v21) (c1 v20) (m2 v249) (m2 v246) a b := by
  pointwise [k0_pay12, k0_pay7]
  rw [pay10_ix]; rfl

theorem pay13_ix (a b : Fin 512) : k0_pay13 (F := Ideal) v27 v43 v44 v48 v246 v252 (ix2 a b)
    = dsc allSeen (m2 v27) (c1 v48) (m2 v44) (c1 v43) (m2 v252) (m2 v246) a b := by
  pointwise [k0_pay13, k0_pay7]
  rw [pay11_ix]; rfl

theorem pay16_ix (acc : FVec Ideal S512x128 .f32) (a : Fin 512) (l : Fin 128) : k0_pay16 (F := Ideal) v4 v20 v21 v25 acc v246 v249 (ix2 a l)
    = acc (ix2 a l) + dqS allSeen (m2 v4) (c1 v25) (m2 v21) (c1 v20) (m2 v249) (m2 v246) a l := by
  pointwise [k0_pay16, k0_pay8]
  simp only [pay12_ix]; rfl

theorem pay17_ix (acc : FVec Ideal S512x128 .f32) (a : Fin 512) (l : Fin 128) : k0_pay17 (F := Ideal) v27 v43 v44 v48 acc v246 v252 (ix2 a l)
    = acc (ix2 a l) + dqS allSeen (m2 v27) (c1 v48) (m2 v44) (c1 v43) (m2 v252) (m2 v246) a l := by
  pointwise [k0_pay17, k0_pay9]
  simp only [pay13_ix]; rfl

theorem pay18_ix (old : FVec Ideal S512x128 .f32) (b : Fin 512) (l : Fin 128) : k0_pay18 (F := Ideal) v4 v20 v21 v25 v246 v249 old (ix2 b l)
    = old (ix2 b l) + dkS allSeen (m2 v4) (c1 v25) (m2 v21) (c1 v20) (m2 v249) (m2 v246) b l := by
  pointwise [k0_pay18]
  simp only [pay12_ix]; rfl

theorem pay46_ix (old : FVec Ideal S512x128 .f32) (b : Fin 512) (l : Fin 128) :
    k0_pay46 (F := Ideal) v27 (k0_pay13 v27 v43 v44 v48 v246 v252) old (ix2 b l)
    = old (ix2 b l) + dkS allSeen (m2 v27) (c1 v48) (m2 v44) (c1 v43) (m2 v252) (m2 v246) b l := by
  pointwise [k0_pay46]
  simp only [pay13_ix]; rfl

theorem pay47_ix (v33 : IVec S1x128 1) (v34 old : FVec Ideal S512x128 .f32) (b : Fin 512) (l : Fin 128) :
    k0_pay47 (F := Ideal) v21 v33 v34 (k0_pay14 v4 v25 v249) (k0_pay15 v27 v48 v252) old (ix2 b l)
    = old (ix2 b l) + (dvS allSeen (m2 v4) (c1 v25) (m2 v21) (m2 v249) b l
        + dvS allSeen (m2 v27) (c1 v48) (m2 (φ := .bf16) (k0_pay42 (F := Ideal) v33 v34)) (m2 v252) b l) := by
  pointwise [k0_pay47, k0_pay14, k0_pay15]
  simp only [pay10_ix, pay11_ix]; rfl
end

/-! ## The mask of the diagonal tile -/

/-- The kernel's floor division of a coordinate by 64, in machine words. -/
def chunkWord (w : BitVec 32) : BitVec 32 :=
  Scalar.select
    (IntOp.andi
      (IntOp.cmpi .ne
        (IntOp.subi (BitVec.setWidth 32 (IntOp.cmpi .sgt (IntOp.addi (0#32) w) 0#32))
          (BitVec.setWidth 32 (IntOp.cmpi .slt (IntOp.addi (0#32) w) 0#32)))
        (Scalar.subi (Scalar.extui (Scalar.cmpi .sgt 64#32 0#32)) (Scalar.extui (Scalar.cmpi .slt 64#32 0#32))))
      (IntOp.cmpi .ne (IntOp.remsi .vector (IntOp.addi (0#32) w) 64#32) 0#32))
    (IntOp.subi (IntOp.divsi .vector (IntOp.addi (0#32) w) 64#32) 1#32)
    (IntOp.divsi .vector (IntOp.addi (0#32) w) 64#32)

theorem chunkWord_eq : ∀ a : Fin 512, chunkWord (BitVec.ofNat 32 a.val) = BitVec.ofNat 32 (a.val / 64) := by
  decide +kernel

theorem sge_ofNat : ∀ u v : Fin 8, IntOp.cmpi .sge (BitVec.ofNat 32 u.val) (BitVec.ofNat 32 v.val) = if v.val ≤ u.val then 1#1 else 0#1 := by
  decide +kernel

/-- The comparison of the two words chooses as the mask does. -/
theorem select_chunk {α : Type} (a b : Fin 512) (x y : α) :
    Scalar.select (IntOp.cmpi .sge (chunkWord (BitVec.ofNat 32 a.val)) (chunkWord (BitVec.ofNat 32 b.val))) x y
      = if diagSeen a b then x else y := by
  rw [chunkWord_eq, chunkWord_eq]
  have h := sge_ofNat ⟨a.val / 64, by omega⟩ ⟨b.val / 64, by omega⟩
  dsimp only at h
  rw [h]
  unfold Scalar.select diagSeen
  by_cases hc : b.val / 64 ≤ a.val / 64
  · simp [hc]
  · simp [hc]

theorem pay61_ix (x : FVec Ideal S512x512 .f32) (a b : Fin 512) :
    k0_pay61 (F := Ideal) x (k0_pay55 k0_pay54) k0_pay57 k0_pay58 k0_pay59 k0_pay60 (ix2 a b)
      = if diagSeen a b then x (ix2 a b) else ⊥ := by
  pointwise [k0_pay61, k0_pay55, k0_pay54, k0_pay57, k0_pay56, k0_pay58, k0_pay59, k0_pay60]
  rw [Consts.mask]
  exact select_chunk a b _ _

/-! ## The payloads of the diagonal tile -/

theorem pay68_ix (v4 v64 : FVec Ideal S512x128 .bf16) (v25 : FVec Ideal S512x1 .f32) (a b : Fin 512) :
    k0_pay68 (F := Ideal) v25 (k0_pay61 (k0_pay53 v4 v64) (k0_pay55 k0_pay54) k0_pay57 k0_pay58 k0_pay59 k0_pay60) (ix2 a b)
      = prob diagSeen (m2 v4) (c1 v25) (m2 v64) a b := by
  pointwise [k0_pay68]
  rw [pay61_ix, Consts.exp2_scale]
  pointwise [k0_pay53, k0_pay51]
  rfl

theorem pay69_ix (v27 v67 : FVec Ideal S512x128 .bf16) (v48 : FVec Ideal S512x1 .f32) (a b : Fin 512) :
    k0_pay69 (F := Ideal) v48 (k0_pay62 v27 (k0_pay52 v67)) k0_pay63 k0_pay64 64#32 k0_pay65 k0_pay66 k0_pay67 (ix2 a b)
      = prob diagSeen (m2 v27) (c1 v48) (m2 v67) a b := by
  pointwise [k0_pay69, k0_pay62, k0_pay52, k0_pay63, k0_pay64, k0_pay65, k0_pay66, k0_pay67]
  rw [Consts.mask, Consts.exp2_scale]
  exact congrArg (fun s => Ideal.exp2 (s * _ - _)) (select_chunk a b _ _)

section
variable (v4 v27 v21 v44 v61 v64 v67 : FVec Ideal S512x128 .bf16) (v20 v25 v43 v48 : FVec Ideal S512x1 .f32)

/-- The masked scores of the pair's first head, as the kernel has them. -/
abbrev sA := k0_pay61 (F := Ideal) (k0_pay53 v4 v64) (k0_pay55 k0_pay54) k0_pay57 k0_pay58 k0_pay59 k0_pay60

theorem pay70_ix (a b : Fin 512) : k0_pay70 (F := Ideal) v20 v21 v25 (k0_pay50 v61) (sA v4 v64) (ix2 a b)
    = dsc diagSeen (m2 v4) (c1 v25) (m2 v21) (c1 v20) (m2 v64) (m2 v61) a b := by
  pointwise [k0_pay70, k0_pay50]
  rw [pay68_ix]; rfl

theorem pay71_ix (a b : Fin 512) :
    k0_pay71 (F := Ideal) v43 v44 v48 (k0_pay50 v61) (k0_pay62 v27 (k0_pay52 v67)) k0_pay63 k0_pay64 64#32 k0_pay65 k0_pay66 k0_pay67 (ix2 a b)
    = dsc diagSeen (m2 v27) (c1 v48) (m2 v44) (c1 v43) (m2 v67) (m2 v61) a b := by
  pointwise [k0_pay71, k0_pay50]
  rw [pay69_ix]; rfl

theorem pay74_ix (acc : FVec Ideal S512x128 .f32) (a : Fin 512) (l : Fin 128) :
    k0_pay4 (F := Ideal) (k0_pay74 v20 v21 v25 acc (k0_pay50 v61) (k0_pay51 v64) (sA v4 v64)) (ix2 a l)
    = (acc (ix2 a l) + dqS diagSeen (m2 v4) (c1 v25) (m2 v21) (c1 v20) (m2 v64) (m2 v61) a l) * (Consts.sc : EReal) := by
  pointwise [k0_pay4, k0_pay74, k0_pay51]
  simp only [pay70_ix]; rw [Consts.ofBits_scale]; rfl

theorem pay75_ix (acc : FVec Ideal S512x128 .f32) (a : Fin 512) (l : Fin 128) :
    k0_pay5 (F := Ideal) (k0_pay75 v43 v44 v48 acc (k0_pay50 v61) (k0_pay52 v67) (k0_pay62 v27 (k0_pay52 v67)) k0_pay63 k0_pay64 64#32 k0_pay65 k0_pay66 k0_pay67) (ix2 a l)
    = (acc (ix2 a l) + dqS diagSeen (m2 v27) (c1 v48) (m2 v44) (c1 v43) (m2 v67) (m2 v61) a l) * (Consts.sc : EReal) := by
  pointwise [k0_pay5, k0_pay75]
  simp only [pay71_ix]; pointwise [k0_pay52]; rw [Consts.ofBits_scale]; rfl

theorem pay1_ix (old : FVec Ideal S512x128 .f32) (b : Fin 512) (l : Fin 128) :
    k0_pay1 (F := Ideal) v4 (k0_pay70 v20 v21 v25 (k0_pay50 v61) (sA v4 v64)) old (ix2 b l)
    = old (ix2 b l) + dkS diagSeen (m2 v4) (c1 v25) (m2 v21) (c1 v20) (m2 v64) (m2 v61) b l := by
  pointwise [k0_pay1]
  simp only [pay70_ix]; rfl

theorem pay2_ix (old : FVec Ideal S512x128 .f32) (b : Fin 512) (l : Fin 128) :
    k0_pay2 (F := Ideal) v27 (k0_pay71 v43 v44 v48 (k0_pay50 v61) (k0_pay62 v27 (k0_pay52 v67)) k0_pay63 k0_pay64 64#32 k0_pay65 k0_pay66 k0_pay67) old (ix2 b l)
    = old (ix2 b l) + dkS diagSeen (m2 v27) (c1 v48) (m2 v44) (c1 v43) (m2 v67) (m2 v61) b l := by
  pointwise [k0_pay2]
  simp only [pay71_ix]; rfl

theorem pay3_ix (old : FVec Ideal S512x128 .f32) (b : Fin 512) (l : Fin 128) :
    k0_pay3 (F := Ideal) v21 v44 (k0_pay72 v25 (sA v4 v64))
      (k0_pay73 v48 (k0_pay62 v27 (k0_pay52 v67)) k0_pay63 k0_pay64 64#32 k0_pay65 k0_pay66 k0_pay67) old (ix2 b l)
    = old (ix2 b l) + (dvS diagSeen (m2 v4) (c1 v25) (m2 v21) (m2 v64) b l + dvS diagSeen (m2 v27) (c1 v48) (m2 v44) (m2 v67) b l) := by
  pointwise [k0_pay3, k0_pay72, k0_pay73]
  simp only [pay68_ix, pay69_ix]; rfl
end

/-! ## The operands of a point -/

/-- The lanes of head `j` of the pair. -/
def headLane (j : Fin 2) (l : Fin 128) : Bool := decide (l.val / 64 = j.val)

theorem lane0 : ∀ l : Fin 128, IntOp.andi (IntOp.cmpi .sge (BitVec.ofNat 32 l.val) 0#32) (IntOp.cmpi .slt (BitVec.ofNat 32 l.val) 64#32)
    = if headLane 0 l then 1#1 else 0#1 := by decide +kernel

theorem lane1 : ∀ l : Fin 128, IntOp.andi (IntOp.cmpi .sge (BitVec.ofNat 32 l.val) 64#32) (IntOp.cmpi .slt (BitVec.ofNat 32 l.val) 128#32)
    = if headLane 1 l then 1#1 else 0#1 := by decide +kernel

theorem select_ite {α : Type} (c : Bool) (x y : α) : Scalar.select (if c then 1#1 else 0#1) x y = if c then x else y := by
  cases c <;> rfl

section
variable (d o : FVec Ideal S512x128 .f32)

theorem pay36_ix (a : Fin 512) (l : Fin 128) : k0_pay36 (F := Ideal) d (ix2 a l) = if headLane 0 l then d (ix2 a l) else 0 := by
  pointwise [k0_pay36, k0_pay34]
  rw [lane0, select_ite]

theorem pay42_ix (a : Fin 512) (l : Fin 128) : k0_pay42 (F := Ideal) k0_pay39 d (ix2 a l) = if headLane 1 l then d (ix2 a l) else 0 := by
  pointwise [k0_pay42, k0_pay40, k0_pay39]
  rw [lane1, select_ite]

theorem pay35_ix (a : Fin 512) : k0_pay35 (F := Ideal) d o (ix2 a 0) = ∑ l, (if headLane 0 l then d (ix2 a l) else 0) * o (ix2 a l) := by
  pointwise [k0_pay35, k0_pay34]
  simp only [lane0, select_ite]
  exact Finset.sum_congr rfl fun l _ => by rw [ite_mul, zero_mul]

theorem pay41_ix (a : Fin 512) : k0_pay41 (F := Ideal) k0_pay39 d o (ix2 a 0) = ∑ l, (if headLane 1 l then d (ix2 a l) else 0) * o (ix2 a l) := by
  pointwise [k0_pay41, k0_pay40, k0_pay39]
  simp only [lane1, select_ite]
  exact Finset.sum_congr rfl fun l _ => by rw [ite_mul, zero_mul]
end

theorem pay37_ix (v : FVec Ideal S1x1x512x1 .f32) (a : Fin 512) : k0_pay37 (F := Ideal) v (ix2 a 0) = v (ix4 0 0 a 0) * (((Real.log 2)⁻¹ : ℝ) : EReal) := by
  pointwise [k0_pay37]
  rw [Consts.log2e]

theorem pay43_ix (v : FVec Ideal S1x1x512x1 .f32) (a : Fin 512) : k0_pay43 (F := Ideal) v (ix2 a 0) = v (ix4 0 0 a 0) * (((Real.log 2)⁻¹ : ℝ) : EReal) := by
  pointwise [k0_pay43]
  rw [Consts.log2e]

end Cert.KernelIdeal.Bwd
end
-- ==== Proof.FwdBlock.lean ====
/-
  The forward kernel's payloads, element by element over the extended reals: one head's tile of queries absorbs one tile
  of keys and values. The kernel writes it for each head of the pair, and once more with the mask for the tile on the
  diagonal; they are read here as the same three functions of a query's state and its scores against the tile.
-/
module

public import proofs.«01_k».proof.Proof.Gen.FwdIdeal.Skeleton
public import proofs.«01_k».proof.Proof.FwdMath
public import proofs.«01_k».proof.Proof.Block
public import Idealize.ShloMosaic.Lib.Pointwise

@[expose] public section

set_option maxRecDepth 16384

noncomputable section

namespace Cert.FwdIdeal.Fwd

open Idealize.ShloMosaic Idealize.ShloMosaic.TcCoe Idealize.SL.Sem
open Cert.FwdIdeal Cert.FwdIdeal.Gen Cert.FwdMath
open Cert.KernelIdeal.Bwd (m2 c1 allSeen diagSeen headLane select_chunk select_ite lane0)

/-! ## The named constants -/

theorem exp2_scale : Named.named (F := Ideal) Cert.FwdIdeal.κ "exp2_scale" (φ := .f32) 0x3E16C740#32 = cE :=
  IdealRules.named_const.ideal_named_scalar _ _ _ _ rfl

theorem mask : Named.named (F := Ideal) Cert.FwdIdeal.κ "mask" (φ := .f32) 0xF149F2CA#32 = ⊥ :=
  IdealRules.named_const.ideal_named_scalar _ _ _ _ rfl

/-- The scores of a tile of queries against a tile of keys, −∞ where the key is not seen. -/
def sc2 {A n : ℕ} (vis : Fin A → Fin n → Bool) (q : Fin A → Fin 128 → EReal) (kk : Fin n → Fin 128 → EReal) (a : Fin A) (b : Fin n) : EReal :=
  if vis a b then ∑ c, q a c * kk b c else ⊥

/-! ## Below the diagonal -/

section
variable (q k v : FVec Ideal S512x128 .bf16) (m l : FVec Ideal S512x1 .f32) (acc : FVec Ideal S512x128 .f32) (a b : Fin 512) (d : Fin 128)

theorem pay8_ix : k0_pay8 (F := Ideal) q m k (ix2 a 0) = mN (c1 m a) (sc2 allSeen (m2 q) (m2 k) a) := by
  pointwise [k0_pay8, k0_pay6]
  rw [Consts.ofBits_bot]; rfl

theorem pay9_ix : k0_pay9 (F := Ideal) q m k (ix2 a 0) = mN (c1 m a) (sc2 allSeen (m2 q) (m2 k) a) := by
  pointwise [k0_pay9, k0_pay7]
  rw [Consts.ofBits_bot]; rfl

theorem pay10_ix : k0_pay10 (F := Ideal) q m k (ix2 a b) = pN (c1 m a) (sc2 allSeen (m2 q) (m2 k) a) b := by
  pointwise [k0_pay10, k0_pay6]
  rw [pay8_ix, exp2_scale]; rfl

theorem pay11_ix : k0_pay11 (F := Ideal) q m k (ix2 a b) = pN (c1 m a) (sc2 allSeen (m2 q) (m2 k) a) b := by
  pointwise [k0_pay11, k0_pay7]
  rw [pay9_ix, exp2_scale]; rfl

theorem pay12_ix : k0_pay12 (F := Ideal) q m k (ix2 a 0) = αN (c1 m a) (sc2 allSeen (m2 q) (m2 k) a) := by
  pointwise [k0_pay12]
  rw [pay8_ix, exp2_scale]; rfl

theorem pay13_ix : k0_pay13 (F := Ideal) q m k (ix2 a 0) = αN (c1 m a) (sc2 allSeen (m2 q) (m2 k) a) := by
  pointwise [k0_pay13]
  rw [pay9_ix, exp2_scale]; rfl

theorem pay39_ix : k0_pay39 (F := Ideal) (k0_pay16 q m l k) (k0_pay17 q m k) (ix2 a 0) = lN (c1 m a) (c1 l a) (sc2 allSeen (m2 q) (m2 k) a) := by
  pointwise [k0_pay39, k0_pay16, k0_pay17]
  rw [pay12_ix]
  simp only [pay10_ix]; rfl

theorem pay40_ix : k0_pay40 (F := Ideal) acc (k0_pay12 q m k) (k0_pay14 q m v k) (ix2 a d)
    = aN (c1 m a) (acc (ix2 a d)) (sc2 allSeen (m2 q) (m2 k) a) (fun b => m2 v b d) := by
  pointwise [k0_pay40, k0_pay14, k0_pay5]
  rw [pay12_ix]
  simp only [pay10_ix]; rfl

theorem pay41_ix : k0_pay41 (F := Ideal) l (k0_pay11 q m k) (k0_pay13 q m k) (ix2 a 0) = lN (c1 m a) (c1 l a) (sc2 allSeen (m2 q) (m2 k) a) := by
  pointwise [k0_pay41]
  rw [pay13_ix]
  simp only [pay11_ix]; rfl

theorem pay42_ix : k0_pay42 (F := Ideal) acc (k0_pay13 q m k) (k0_pay15 q m v k) (ix2 a d)
    = aN (c1 m a) (acc (ix2 a d)) (sc2 allSeen (m2 q) (m2 k) a) (fun b => m2 v b d) := by
  pointwise [k0_pay42, k0_pay15, k0_pay5]
  rw [pay13_ix]
  simp only [pay11_ix]; rfl

/-! ## On the diagonal -/

/-- The mask of the diagonal tile, as the kernel computes it. -/
abbrev maskW : IVec S512x512 1 := k0_pay50 k0_pay47 64#32 k0_pay48 k0_pay49 (Scalar.extui (Scalar.cmpi .sgt 64#32 0#32)) 0#32

theorem select_maskW {α : Type} (x y : α) : Scalar.select (maskW (ix2 a b)) x y = if diagSeen a b then x else y := by
  pointwise [maskW, k0_pay50, k0_pay47, k0_pay48, k0_pay49]
  exact select_chunk a b x y

/-- The zeros a product is added to. -/
abbrev zeroW : FVec Ideal S512x512 .f32 := constant S512x512 .f32 0x00000000#32

theorem pay53_ix : k0_pay53 (F := Ideal) q maskW (k0_pay52 k) zeroW (ix2 a b) = sc2 diagSeen (m2 q) (m2 k) a b := by
  pointwise [k0_pay53, k0_pay52, zeroW]
  rw [mask]
  exact select_maskW a b _ _

theorem pay54_ix : k0_pay54 (F := Ideal) q maskW k (ix2 a b) = sc2 diagSeen (m2 q) (m2 k) a b := by
  pointwise [k0_pay54]
  rw [mask]
  exact select_maskW a b _ _

theorem pay55_ix : k0_pay55 (F := Ideal) q m maskW (k0_pay52 k) zeroW (ix2 a 0) = mN (c1 m a) (sc2 diagSeen (m2 q) (m2 k) a) := by
  pointwise [k0_pay55]
  simp only [pay53_ix]
  rw [Consts.ofBits_bot]; rfl

theorem pay56_ix : k0_pay56 (F := Ideal) q m maskW k (ix2 a 0) = mN (c1 m a) (sc2 diagSeen (m2 q) (m2 k) a) := by
  pointwise [k0_pay56]
  simp only [pay54_ix]
  rw [Consts.ofBits_bot]; rfl

theorem pay57_ix : k0_pay57 (F := Ideal) q m maskW (k0_pay52 k) zeroW (ix2 a b) = pN (c1 m a) (sc2 diagSeen (m2 q) (m2 k) a) b := by
  pointwise [k0_pay57]
  rw [pay53_ix, pay55_ix, exp2_scale]; rfl

theorem pay58_ix : k0_pay58 (F := Ideal) q m maskW k (ix2 a b) = pN (c1 m a) (sc2 diagSeen (m2 q) (m2 k) a) b := by
  pointwise [k0_pay58]
  rw [pay54_ix, pay56_ix, exp2_scale]; rfl

theorem pay59_ix : k0_pay59 (F := Ideal) q m maskW (k0_pay52 k) zeroW (ix2 a 0) = αN (c1 m a) (sc2 diagSeen (m2 q) (m2 k) a) := by
  pointwise [k0_pay59]
  rw [pay55_ix, exp2_scale]; rfl

theorem pay60_ix : k0_pay60 (F := Ideal) q m maskW k (ix2 a 0) = αN (c1 m a) (sc2 diagSeen (m2 q) (m2 k) a) := by
  pointwise [k0_pay60]
  rw [pay56_ix, exp2_scale]; rfl

theorem pay62_ix : k0_pay62 (F := Ideal) q m l maskW (k0_pay52 k) zeroW (ix2 a 0) = lN (c1 m a) (c1 l a) (sc2 diagSeen (m2 q) (m2 k) a) := by
  pointwise [k0_pay62]
  rw [pay59_ix]
  simp only [pay57_ix]; rfl

theorem pay1_ix : k0_pay1 (F := Ideal) (k0_pay64 q m l maskW k) (k0_pay65 q m maskW k) (ix2 a 0) = lN (c1 m a) (c1 l a) (sc2 diagSeen (m2 q) (m2 k) a) := by
  pointwise [k0_pay1, k0_pay64, k0_pay65]
  rw [pay60_ix]
  simp only [pay58_ix]; rfl

theorem pay63_ix : k0_pay63 (F := Ideal) q m acc maskW (k0_pay51 v) (k0_pay52 k) zeroW (ix2 a d)
    = aN (c1 m a) (acc (ix2 a d)) (sc2 diagSeen (m2 q) (m2 k) a) (fun b => m2 v b d) := by
  pointwise [k0_pay63, k0_pay51]
  rw [pay59_ix]
  simp only [pay57_ix]; rfl
end

/-! ## The point's results -/

section
variable (q0 q1 k0 k1 v : FVec Ideal S512x128 .bf16) (m0 l0 m1 l1 : FVec Ideal S512x1 .f32) (acc0 acc1 : FVec Ideal S512x128 .f32) (a : Fin 512) (d : Fin 128)

/-- The first head's log-sums. -/
theorem pay2_ix : k0_pay2 (F := Ideal) (k0_pay55 q0 m0 maskW (k0_pay52 k0) zeroW) (k0_pay62 q0 m0 l0 maskW (k0_pay52 k0) zeroW) (ix4 0 0 a 0)
    = mN (c1 m0 a) (sc2 diagSeen (m2 q0) (m2 k0) a) * (Consts.sc : EReal) + Ideal.log (lN (c1 m0 a) (c1 l0 a) (sc2 diagSeen (m2 q0) (m2 k0) a)) := by
  pointwise [k0_pay2]
  rw [pay55_ix, pay62_ix, Consts.ofBits_scale]

/-- The second head's. -/
theorem pay3_ix : k0_pay3 (F := Ideal) (k0_pay56 q1 m1 maskW k1) (k0_pay64 q1 m1 l1 maskW k1) (k0_pay65 q1 m1 maskW k1) (ix4 0 0 a 0)
    = mN (c1 m1 a) (sc2 diagSeen (m2 q1) (m2 k1) a) * (Consts.sc : EReal) + Ideal.log (lN (c1 m1 a) (c1 l1 a) (sc2 diagSeen (m2 q1) (m2 k1) a)) := by
  pointwise [k0_pay3]
  rw [pay56_ix, pay1_ix, Consts.ofBits_scale]

/-- The outputs of both. -/
theorem pay4_ix : k0_pay4 (F := Ideal) acc1 (k0_pay60 q1 m1 maskW k1) (k0_pay61 q1 m1 maskW (k0_pay51 v) k1) (k0_pay62 q0 m0 l0 maskW (k0_pay52 k0) zeroW)
      (k0_pay63 q0 m0 acc0 maskW (k0_pay51 v) (k0_pay52 k0) zeroW) (k0_pay64 q1 m1 l1 maskW k1) (k0_pay65 q1 m1 maskW k1) (ix2 a d)
    = if headLane 0 d then
        Ideal.div (aN (c1 m0 a) (acc0 (ix2 a d)) (sc2 diagSeen (m2 q0) (m2 k0) a) (fun b => m2 v b d)) (lN (c1 m0 a) (c1 l0 a) (sc2 diagSeen (m2 q0) (m2 k0) a))
      else Ideal.div (aN (c1 m1 a) (acc1 (ix2 a d)) (sc2 diagSeen (m2 q1) (m2 k1) a) (fun b => m2 v b d)) (lN (c1 m1 a) (c1 l1 a) (sc2 diagSeen (m2 q1) (m2 k1) a)) := by
  pointwise [k0_pay4, k0_pay61]
  rw [lane0, select_ite, pay63_ix, pay62_ix, pay60_ix, pay1_ix]
  simp only [pay58_ix]
  pointwise [k0_pay51]
  rfl
end

end Cert.FwdIdeal.Fwd
end
-- ==== Proof.Windows.lean ====
/-
  Where the kernel's loads and stores lie. Sequence positions are named by tile and place in the tile, lanes of a head
  pair by head and place in the head; a load of a tile reads the tile's positions and a store there changes no other.
-/
module

public import proofs.«01_k».proof.Proof.Gen.KernelIdeal.Frame
public import Idealize.ShloMosaic.Lib.VecWindow
public import Idealize.ShloMosaic.Lib.Pointwise

@[expose] public section

set_option maxRecDepth 16384

noncomputable section

namespace Cert.KernelIdeal.Bwd

open Idealize.ShloMosaic Idealize.ShloMosaic.TcCoe Idealize.SL.Sem
open Cert.KernelIdeal Cert.KernelIdeal.Gen

/-- Position `a` of tile `t`. -/
def row (t : Fin 8) (a : Fin 512) : Fin 4096 := ⟨512 * t.val + a.val, by omega⟩

/-- Lane `l` of head `j` of the pair. -/
def col (j : Fin 2) (l : Fin 128) : Fin 256 := ⟨128 * j.val + l.val, by omega⟩

theorem row_surj (r : Fin 4096) : ∃ t a, r = row t a :=
  ⟨⟨r.val / 512, by omega⟩, ⟨r.val % 512, by omega⟩, Fin.ext (by show r.val = 512 * (r.val / 512) + r.val % 512; omega)⟩

theorem col_surj (c : Fin 256) : ∃ j l, c = col j l :=
  ⟨⟨c.val / 128, by omega⟩, ⟨c.val % 128, by omega⟩, Fin.ext (by show c.val = 128 * (c.val / 128) + c.val % 128; omega)⟩

/-! ## Windows of a pair's array -/

section
variable {α : Type}

theorem window_tile (x : S4096x256.Idx → α) (t : Fin 8) (j : Fin 2)
    (inb : ∀ a, (![512 * t.val, 128 * j.val] : Fin 2 → ℕ) a + (![512, 128] : Fin 2 → ℕ) a ≤ S4096x256.size a) (a : Fin 512) (l : Fin 128) :
    VecWindow.window x ![512 * t.val, 128 * j.val] ![512, 128] inb (ix2 a l) = x (ix2 (row t a) (col j l)) := by
  show x _ = x _
  congr 1
  funext d
  apply Fin.ext
  refine Fin.cases ?_ (fun d => ?_) d
  · show 512 * t.val + 1 * a.val = 512 * t.val + a.val; omega
  · refine Fin.cases ?_ (fun d => d.elim0) d
    show 128 * j.val + 1 * l.val = 128 * j.val + l.val; omega

theorem put_tile (x : S4096x256.Idx → α) (k : Fin 8) (j : Fin 2) (w : S512x128.Idx → α) (t : Fin 8) (j' : Fin 2) (a : Fin 512) (l : Fin 128) :
    VecWindow.put x ![512 * k.val, 128 * j.val] ![512, 128] w (ix2 (row t a) (col j' l))
      = if t = k ∧ j' = j then w (ix2 a l) else x (ix2 (row t a) (col j' l)) := by
  unfold VecWindow.put
  by_cases h : t = k ∧ j' = j
  · obtain ⟨rfl, rfl⟩ := h
    rw [if_pos ⟨rfl, rfl⟩, dif_pos]
    · congr 1
      funext d
      apply Fin.ext
      refine Fin.cases ?_ (fun d => ?_) d
      · show 512 * t.val + a.val - 512 * t.val = a.val; omega
      · refine Fin.cases ?_ (fun d => d.elim0) d
        show 128 * j'.val + l.val - 128 * j'.val = l.val; omega
    · intro d
      refine Fin.cases ?_ (fun d => ?_) d
      · show 512 * t.val ≤ 512 * t.val + a.val ∧ 512 * t.val + a.val < 512 * t.val + 512; omega
      · refine Fin.cases ?_ (fun d => d.elim0) d
        show 128 * j'.val ≤ 128 * j'.val + l.val ∧ 128 * j'.val + l.val < 128 * j'.val + 128; omega
  · rw [if_neg h, dif_neg]
    intro hh
    apply h
    have h0 : 512 * k.val ≤ 512 * t.val + a.val ∧ 512 * t.val + a.val < 512 * k.val + 512 := hh 0
    have h1 : 128 * j.val ≤ 128 * j'.val + l.val ∧ 128 * j'.val + l.val < 128 * j.val + 128 := hh 1
    exact ⟨Fin.ext (by omega), Fin.ext (by omega)⟩

theorem window_rows (x : S4096x128.Idx → α) (t : Fin 8)
    (inb : ∀ a, (![512 * t.val, 0] : Fin 2 → ℕ) a + (![512, 128] : Fin 2 → ℕ) a ≤ S4096x128.size a) (a : Fin 512) (l : Fin 128) :
    VecWindow.window x ![512 * t.val, 0] ![512, 128] inb (ix2 a l) = x (ix2 (row t a) l) := by
  show x _ = x _
  congr 1
  funext d
  apply Fin.ext
  refine Fin.cases ?_ (fun d => ?_) d
  · show 512 * t.val + 1 * a.val = 512 * t.val + a.val; omega
  · refine Fin.cases ?_ (fun d => d.elim0) d
    show 0 + 1 * l.val = l.val; omega

theorem put_rows (x : S4096x128.Idx → α) (k : Fin 8) (w : S512x128.Idx → α) (t : Fin 8) (a : Fin 512) (l : Fin 128) :
    VecWindow.put x ![512 * k.val, 0] ![512, 128] w (ix2 (row t a) l)
      = if t = k then w (ix2 a l) else x (ix2 (row t a) l) := by
  unfold VecWindow.put
  by_cases h : t = k
  · obtain rfl := h
    rw [if_pos rfl, dif_pos]
    · congr 1
      funext d
      apply Fin.ext
      refine Fin.cases ?_ (fun d => ?_) d
      · show 512 * t.val + a.val - 512 * t.val = a.val; omega
      · refine Fin.cases ?_ (fun d => d.elim0) d
        show l.val - 0 = l.val; omega
    · intro d
      refine Fin.cases ?_ (fun d => ?_) d
      · show 512 * t.val ≤ 512 * t.val + a.val ∧ 512 * t.val + a.val < 512 * t.val + 512; omega
      · refine Fin.cases ?_ (fun d => d.elim0) d
        show 0 ≤ l.val ∧ l.val < 0 + 128; omega
  · rw [if_neg h, dif_neg]
    intro hh
    apply h
    have h0 : 512 * k.val ≤ 512 * t.val + a.val ∧ 512 * t.val + a.val < 512 * k.val + 512 := hh 0
    exact Fin.ext (by omega)

/-- A head's half of a tile. -/
theorem window_head (x : S512x256.Idx → α) (j : Fin 2)
    (inb : ∀ a, (![0, 128 * j.val] : Fin 2 → ℕ) a + (![512, 128] : Fin 2 → ℕ) a ≤ S512x256.size a) (a : Fin 512) (l : Fin 128) :
    VecWindow.window x ![0, 128 * j.val] ![512, 128] inb (ix2 a l) = x (ix2 a (col j l)) := by
  show x _ = x _
  congr 1
  funext d
  apply Fin.ext
  refine Fin.cases ?_ (fun d => ?_) d
  · show 0 + 1 * a.val = a.val; omega
  · refine Fin.cases ?_ (fun d => d.elim0) d
    show 128 * j.val + 1 * l.val = 128 * j.val + l.val; omega

theorem put_head (x : S512x256.Idx → α) (j : Fin 2) (w : S512x128.Idx → α) (a : Fin 512) (j' : Fin 2) (l : Fin 128) :
    VecWindow.put x ![0, 128 * j.val] ![512, 128] w (ix2 a (col j' l)) = if j' = j then w (ix2 a l) else x (ix2 a (col j' l)) := by
  unfold VecWindow.put
  by_cases h : j' = j
  · obtain rfl := h
    rw [if_pos rfl, dif_pos]
    · congr 1
      funext d
      apply Fin.ext
      refine Fin.cases ?_ (fun d => ?_) d
      · show a.val - 0 = a.val; omega
      · refine Fin.cases ?_ (fun d => d.elim0) d
        show 128 * j'.val + l.val - 128 * j'.val = l.val; omega
    · intro d
      refine Fin.cases ?_ (fun d => ?_) d
      · show 0 ≤ a.val ∧ a.val < 0 + 512; omega
      · refine Fin.cases ?_ (fun d => d.elim0) d
        show 128 * j'.val ≤ 128 * j'.val + l.val ∧ 128 * j'.val + l.val < 128 * j'.val + 128; omega
  · rw [if_neg h, dif_neg]
    intro hh
    apply h
    have h1 : 128 * j.val ≤ 128 * j'.val + l.val ∧ 128 * j'.val + l.val < 128 * j.val + 128 := hh 1
    exact Fin.ext (by omega)

/-- A head's log-sums. -/
theorem window_lse (x : S1x2x512x1.Idx → α) (j : Fin 2)
    (inb : ∀ a, (![0, j.val, 0, 0] : Fin 4 → ℕ) a + (![1, 1, 512, 1] : Fin 4 → ℕ) a ≤ S1x2x512x1.size a) (a : Fin 512) :
    VecWindow.window x ![0, j.val, 0, 0] ![1, 1, 512, 1] inb (ix4 0 0 a 0) = x (ix4 0 j a 0) := by
  show x _ = x _
  congr 1
  funext d
  apply Fin.ext
  refine Fin.cases ?_ (fun d => ?_) d
  · rfl
  · refine Fin.cases ?_ (fun d => ?_) d
    · show j.val + 1 * 0 = j.val; omega
    · refine Fin.cases ?_ (fun d => ?_) d
      · show 0 + 1 * a.val = a.val; omega
      · refine Fin.cases ?_ (fun d => d.elim0) d
        rfl
end

/-! ## The offsets the kernel computes -/

theorem trips_word : ∀ n : Fin 8,
    (⟨0#32, Scalar.addi (0#32) (Scalar.muli (Scalar.divsi (Scalar.subi (BitVec.ofNat 32 n.val) 0#32) 1#32) 1#32), 1#32⟩ : Scf.Loop 32).trips = n.val := by
  decide +kernel

theorem trips_word2 : ∀ n : Fin 8,
    (⟨Scalar.addi (0#32) (Scalar.muli (Scalar.divsi (Scalar.subi (BitVec.ofNat 32 n.val) 0#32) 1#32) 1#32),
      Scalar.addi (0#32) (Scalar.subi (BitVec.ofNat 32 n.val) 0#32), 1#32⟩ : Scf.Loop 32).trips = 0 := by
  decide +kernel

/-- The loop below the diagonal runs over the tiles before the query's. -/
theorem trips1 (i : grid0.Coords) : (k0_t1_loop i).trips = (i 1).val := trips_word (i 1)

/-- What would be left of the loop does not run. -/
theorem trips2 (i : grid0.Coords) : (k0_t2_loop i).trips = 0 := trips_word2 (i 1)

theorem tile_word : ∀ n : Fin 8, (Scalar.indexCast (Scalar.muli (Scf.iv 0#32 1#32 n.val) 512#32)).toNat = 512 * n.val := by
  decide +kernel

theorem diag_word : ∀ n : Fin 8, (Scalar.indexCast (Scalar.muli (BitVec.ofNat 32 n.val) 512#32)).toNat = 512 * n.val := by
  decide +kernel

section
variable (i : grid0.Coords)

/-- The tile of a trip. -/
def tileOf (k : Fin (k0_t1_loop i).trips) : Fin 8 := ⟨k.val, (lt_of_lt_of_eq k.isLt (trips1 i)).trans (i 1).isLt⟩

theorem off1_eq (k : Fin (k0_t1_loop i).trips) : k0_off1 i k = ![512 * (tileOf i k).val, 0] := by
  have h := tile_word (tileOf i k)
  unfold k0_off1; dsimp only; exact congrArg (fun n => (![n, 0] : Fin 2 → ℕ)) h

theorem off2_eq (k : Fin (k0_t1_loop i).trips) : k0_off2 i k = ![512 * (tileOf i k).val, 128 * (0 : Fin 2).val] := by
  have h := tile_word (tileOf i k)
  unfold k0_off2; dsimp only; exact congrArg (fun n => (![n, 0] : Fin 2 → ℕ)) h

theorem off3_eq (k : Fin (k0_t1_loop i).trips) : k0_off3 i k = ![512 * (tileOf i k).val, 128 * (1 : Fin 2).val] := by
  have h := tile_word (tileOf i k)
  unfold k0_off3; dsimp only; exact congrArg (fun n => (![n, 128] : Fin 2 → ℕ)) h

theorem off7_eq : k0_off7 i = ![512 * (i 1 : Fin 8).val, 0] := by
  have h := diag_word (i 1)
  unfold k0_off7; dsimp only; exact congrArg (fun n => (![n, 0] : Fin 2 → ℕ)) h

theorem off8_eq : k0_off8 i = ![512 * (i 1 : Fin 8).val, 128 * (0 : Fin 2).val] := by
  have h := diag_word (i 1)
  unfold k0_off8; dsimp only; exact congrArg (fun n => (![n, 0] : Fin 2 → ℕ)) h

theorem off9_eq : k0_off9 i = ![512 * (i 1 : Fin 8).val, 128 * (1 : Fin 2).val] := by
  have h := diag_word (i 1)
  unfold k0_off9; dsimp only; exact congrArg (fun n => (![n, 128] : Fin 2 → ℕ)) h
end

/-! ## Bounds -/

theorem inb_tile (t : Fin 8) (j : Fin 2) : ∀ a, (![512 * t.val, 128 * j.val] : Fin 2 → ℕ) a + (![512, 128] : Fin 2 → ℕ) a ≤ S4096x256.size a := by
  intro d
  refine Fin.cases ?_ (fun d => ?_) d
  · show 512 * t.val + 512 ≤ 4096; omega
  · refine Fin.cases ?_ (fun d => d.elim0) d
    show 128 * j.val + 128 ≤ 256; omega

theorem inb_rows (t : Fin 8) : ∀ a, (![512 * t.val, 0] : Fin 2 → ℕ) a + (![512, 128] : Fin 2 → ℕ) a ≤ S4096x128.size a := by
  intro d
  refine Fin.cases ?_ (fun d => ?_) d
  · show 512 * t.val + 512 ≤ 4096; omega
  · refine Fin.cases ?_ (fun d => d.elim0) d
    show 0 + 128 ≤ 128; omega

end Cert.KernelIdeal.Bwd
end
-- ==== Proof.Loop.lean ====
/-
  The kernel's loop over the tiles of keys below the diagonal. Before trip `k` it carries the sums over the first `k`
  tiles of what the keys add to the query's gradient, head by head; and the blocks of the gradients of keys and values
  hold what they held before the loop, plus, in each of the first `k` tiles, what these queries add there.
-/
module

public import proofs.«01_k».proof.Proof.Windows
public import proofs.«01_k».proof.Proof.Block

@[expose] public section

set_option maxRecDepth 16384

noncomputable section

namespace Cert.KernelIdeal.Bwd

open Idealize.ShloMosaic Idealize.ShloMosaic.TcCoe Idealize.SL.Sem
open Cert.KernelIdeal Cert.KernelIdeal.Gen

/-- A head's tile of an array of a head pair. -/
def kW {α : Type} (x1 : S4096x256.Idx → α) (t : Fin 8) (j : Fin 2) : S512x128.Idx → α :=
  VecWindow.window x1 ![512 * t.val, 128 * j.val] ![512, 128] (inb_tile t j)

/-- A tile of an array of a head pair that shares its lanes. -/
def vW {α : Type} (x2 : S4096x128.Idx → α) (t : Fin 8) : S512x128.Idx → α :=
  VecWindow.window x2 ![512 * t.val, 0] ![512, 128] (inb_rows t)

theorem kW_ix {α : Type} (x1 : S4096x256.Idx → α) (t : Fin 8) (j : Fin 2) (a : Fin 512) (l : Fin 128) :
    kW x1 t j (ix2 a l) = x1 (ix2 (row t a) (col j l)) := window_tile x1 t j _ a l

theorem vW_ix {α : Type} (x2 : S4096x128.Idx → α) (t : Fin 8) (a : Fin 512) (l : Fin 128) :
    vW x2 t (ix2 a l) = x2 (ix2 (row t a) l) := window_rows x2 t _ a l

/-- A head's tile of keys, by place and lane. -/
def kF (x1 : S4096x256.Idx → EReal) (t : Fin 8) (j : Fin 2) (a : Fin 512) (l : Fin 128) : EReal := x1 (ix2 (row t a) (col j l))

/-- A pair's tile of values, by place and lane. -/
def vF (x2 : S4096x128.Idx → EReal) (t : Fin 8) (a : Fin 512) (l : Fin 128) : EReal := x2 (ix2 (row t a) l)

theorem m2_kW (x1 : S4096x256.Idx → EReal) (t : Fin 8) (j : Fin 2) : m2 (φ := .bf16) (kW x1 t j) = kF x1 t j :=
  funext fun a => funext fun l => kW_ix x1 t j a l

theorem m2_vW (x2 : S4096x128.Idx → EReal) (t : Fin 8) : m2 (φ := .bf16) (vW x2 t) = vF x2 t :=
  funext fun a => funext fun l => vW_ix x2 t a l

/-- The sum over one more tile. -/
theorem sum_lt_succ {M : Type*} [AddCommMonoid M] (k : Fin 8) (f : Fin 8 → M) :
    (∑ t : Fin 8, if t.val < k.val + 1 then f t else 0) = (∑ t : Fin 8, if t.val < k.val then f t else 0) + f k := by
  have : ∀ t : Fin 8, (if t.val < k.val + 1 then f t else (0 : M)) = (if t.val < k.val then f t else 0) + if t = k then f t else 0 := by
    intro t
    rcases lt_trichotomy t.val k.val with h | h | h
    · rw [if_pos (by omega), if_pos h, if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl fun t _ => this t, Finset.sum_add_distrib, Finset.sum_ite_eq' Finset.univ k f, if_pos (Finset.mem_univ _)]

/-- One more tile's addition to what a place holds. -/
theorem add_lt_succ (k t : Fin 8) (x d : EReal) (y : EReal) (h : y = x + if t.val < k.val then d else 0) :
    (if t = k then y + d else y) = x + if t.val < k.val + 1 then d else 0 := by
  subst h
  rcases lt_trichotomy t.val k.val with h | h | h
  · rw [if_neg (fun e => by rw [e] at h; omega), if_pos h, if_pos (by omega)]
  · rw [if_pos (Fin.ext h), if_neg (by omega), if_pos (by omega), add_zero]
  · rw [if_neg (fun e => by rw [e] at h; omega), if_neg (by omega), if_neg (by omega)]

section
variable (i : grid0.Coords) (k : Fin (k0_t1_loop i).trips)

theorem read_off1 {e : EltTy} (A : Memref sig .tc .vmem S4096x128 e) (f : A.view.ty.Contents (Elt Ideal)) :
    A.view.readAt (Elt Ideal) (Rect.unit (s := S4096x128) (k0_off1 i k) S512x128.size (k0_off1_inb i k)).toLoadRect f = vW (A.view.read (Elt Ideal) f) (tileOf i k) :=
  View.readAt_unit _ _ _ (off1_eq i k) (inb_rows _)

theorem read_off2 {e : EltTy} (A : Memref sig .tc .vmem S4096x256 e) (f : A.view.ty.Contents (Elt Ideal)) :
    A.view.readAt (Elt Ideal) (Rect.unit (s := S4096x256) (k0_off2 i k) S512x128.size (k0_off2_inb i k)).toLoadRect f = kW (A.view.read (Elt Ideal) f) (tileOf i k) 0 :=
  View.readAt_unit _ _ _ (off2_eq i k) (inb_tile _ _)

theorem read_off3 {e : EltTy} (A : Memref sig .tc .vmem S4096x256 e) (f : A.view.ty.Contents (Elt Ideal)) :
    A.view.readAt (Elt Ideal) (Rect.unit (s := S4096x256) (k0_off3 i k) S512x128.size (k0_off3_inb i k)).toLoadRect f = kW (A.view.read (Elt Ideal) f) (tileOf i k) 1 :=
  View.readAt_unit _ _ _ (off3_eq i k) (inb_tile _ _)
end

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
  (arg1 : BitVec 32) (v4 : FVec Ideal S512x128 .bf16) (v20 : FVec Ideal S512x1 .f32) (v21 : FVec Ideal S512x128 .bf16) (v25 : FVec Ideal S512x1 .f32) (v27 : FVec Ideal S512x128 .bf16) (v33 : IVec S1x128 1) (v34 : Vec Ideal S512x128 .f32) (v39 : Vec Ideal S512x128 .f32) (v45 : Vec Ideal S1x1x512x1 .f32)
  (x1 : Vec Ideal S4096x256 .bf16) (x2 : Vec Ideal S4096x128 .bf16)

/-- What one trip adds to the carried sums. -/
theorem trip_yield (k : Fin (k0_t1_loop i).trips) (acc : FVec Ideal S512x128 .f32 × FVec Ideal S512x128 .f32)
    (f9 : arg9.view.ty.Contents (Elt Ideal)) (f10 : arg10.view.ty.Contents (Elt Ideal)) :
    tripR_k0_t1 Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) k acc f9 f10
      = (k0_pay16 v4 v20 v21 v25 acc.1 (vW x2 (tileOf i k)) (kW x1 (tileOf i k) 0),
         k0_pay17 v27 (k0_pay41 v33 v34 v39) (k0_pay42 v33 v34) (k0_pay43 v45) acc.2 (vW x2 (tileOf i k)) (kW x1 (tileOf i k) 1)) := by
  have e4 := (read_off1 i k arg4 (harg4.unread x2)).trans (by rw [harg4.read_unread] : _ = vW x2 (tileOf i k))
  have e30 := (read_off2 i k arg3 (harg3.unread x1)).trans (by rw [harg3.read_unread] : _ = kW x1 (tileOf i k) 0)
  have e31 := (read_off3 i k arg3 (harg3.unread x1)).trans (by rw [harg3.read_unread] : _ = kW x1 (tileOf i k) 1)
  unfold tripR_k0_t1 trip_k0_t1
  dsimp only
  sl_unfold_words
  rw [← e4, ← e30, ← e31]
  rfl

/-- What one trip stores in the block of the keys' gradient. -/
theorem trip_dk (k : Fin (k0_t1_loop i).trips) (acc : FVec Ideal S512x128 .f32 × FVec Ideal S512x128 .f32)
    (f9 : arg9.view.ty.Contents (Elt Ideal)) (f10 : arg10.view.ty.Contents (Elt Ideal)) :
    (tripL_k0_t1 Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) k acc f9 f10).1
      = [⟨Rect.unit (s := S4096x256) (k0_off3 i k) ![512, 128] (k0_off3_inb i k), k0_pay46 v27 (k0_pay13 v27 (k0_pay41 v33 v34 v39) (k0_pay42 v33 v34) (k0_pay43 v45) (vW x2 (tileOf i k)) (kW x1 (tileOf i k) 1))
            (kW (arg9.view.read (Elt Ideal) f9) (tileOf i k) 1)⟩,
         ⟨Rect.unit (s := S4096x256) (k0_off2 i k) ![512, 128] (k0_off2_inb i k), k0_pay18 v4 v20 v21 v25 (vW x2 (tileOf i k)) (kW x1 (tileOf i k) 0)
            (kW (arg9.view.read (Elt Ideal) f9) (tileOf i k) 0)⟩] := by
  have e4 := (read_off1 i k arg4 (harg4.unread x2)).trans (by rw [harg4.read_unread] : _ = vW x2 (tileOf i k))
  have e30 := (read_off2 i k arg3 (harg3.unread x1)).trans (by rw [harg3.read_unread] : _ = kW x1 (tileOf i k) 0)
  have e31 := (read_off3 i k arg3 (harg3.unread x1)).trans (by rw [harg3.read_unread] : _ = kW x1 (tileOf i k) 1)
  have e90 := read_off2 i k arg9 f9
  have e91 := read_off3 i k arg9 f9
  unfold tripL_k0_t1 trip_k0_t1
  dsimp only
  sl_unfold_words
  rw [← e4, ← e30, ← e31, ← e90, ← e91]
  rfl

/-- What one trip stores in the block of the values' gradient. -/
theorem trip_dv (k : Fin (k0_t1_loop i).trips) (acc : FVec Ideal S512x128 .f32 × FVec Ideal S512x128 .f32)
    (f9 : arg9.view.ty.Contents (Elt Ideal)) (f10 : arg10.view.ty.Contents (Elt Ideal)) :
    (tripL_k0_t1 Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) k acc f9 f10).2
      = [⟨Rect.unit (s := S4096x128) (k0_off1 i k) ![512, 128] (k0_off1_inb i k), k0_pay47 v21 v33 v34 (k0_pay14 v4 v25 (kW x1 (tileOf i k) 0)) (k0_pay15 v27 (k0_pay43 v45) (kW x1 (tileOf i k) 1))
            (vW (arg10.view.read (Elt Ideal) f10) (tileOf i k))⟩] := by
  have e30 := (read_off2 i k arg3 (harg3.unread x1)).trans (by rw [harg3.read_unread] : _ = kW x1 (tileOf i k) 0)
  have e31 := (read_off3 i k arg3 (harg3.unread x1)).trans (by rw [harg3.read_unread] : _ = kW x1 (tileOf i k) 1)
  have e10 := read_off1 i k arg10 f10
  unfold tripL_k0_t1 trip_k0_t1
  dsimp only
  sl_unfold_words
  rw [← e30, ← e31, ← e10]
  rfl

variable (G9 : arg9.view.ty.Contents (Elt Ideal)) (G10 : arg10.view.ty.Contents (Elt Ideal))

/-- The loop's state before trip `k`. -/
abbrev loopSt (k : ℕ) := st_k0_t1 Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) G9 G10 (k0_pay44, k0_pay45) k

/-- The sums of the first `k` tiles. -/
theorem loop_state : ∀ (k : ℕ) (_ : k ≤ (i 1).val),
    (∀ a l, (loopSt c i arg2 harg2 arg3 harg3 arg4 harg4 arg5 harg5 arg6 harg6 arg7 harg7 arg8 harg8 arg9 harg9 arg10 harg10 arg1 v4 v20 v21 v25 v27 v33 v34 v39 v45 x1 x2 G9 G10 k).1.1 (ix2 a l)
      = ∑ t : Fin 8, if t.val < k then dqS allSeen (m2 v4) (c1 v25) (m2 v21) (c1 v20) (kF x1 t 0) (vF x2 t) a l else 0)
    ∧ (∀ a l, (loopSt c i arg2 harg2 arg3 harg3 arg4 harg4 arg5 harg5 arg6 harg6 arg7 harg7 arg8 harg8 arg9 harg9 arg10 harg10 arg1 v4 v20 v21 v25 v27 v33 v34 v39 v45 x1 x2 G9 G10 k).1.2 (ix2 a l)
      = ∑ t : Fin 8, if t.val < k then dqS allSeen (m2 v27) (c1 (k0_pay43 (F := Ideal) v45)) (m2 (φ := .bf16) (k0_pay42 (F := Ideal) v33 v34)) (c1 (k0_pay41 (F := Ideal) v33 v34 v39)) (kF x1 t 1) (vF x2 t) a l else 0)
    ∧ (∀ t a l, arg9.view.read (Elt Ideal) (arg9.view.writes (Elt Ideal) G9 (loopSt c i arg2 harg2 arg3 harg3 arg4 harg4 arg5 harg5 arg6 harg6 arg7 harg7 arg8 harg8 arg9 harg9 arg10 harg10 arg1 v4 v20 v21 v25 v27 v33 v34 v39 v45 x1 x2 G9 G10 k).2.1) (ix2 (row t a) (col 0 l))
      = arg9.view.read (Elt Ideal) G9 (ix2 (row t a) (col 0 l))
        + if t.val < k then dkS allSeen (m2 v4) (c1 v25) (m2 v21) (c1 v20) (kF x1 t 0) (vF x2 t) a l else 0)
    ∧ (∀ t a l, arg9.view.read (Elt Ideal) (arg9.view.writes (Elt Ideal) G9 (loopSt c i arg2 harg2 arg3 harg3 arg4 harg4 arg5 harg5 arg6 harg6 arg7 harg7 arg8 harg8 arg9 harg9 arg10 harg10 arg1 v4 v20 v21 v25 v27 v33 v34 v39 v45 x1 x2 G9 G10 k).2.1) (ix2 (row t a) (col 1 l))
      = arg9.view.read (Elt Ideal) G9 (ix2 (row t a) (col 1 l))
        + if t.val < k then dkS allSeen (m2 v27) (c1 (k0_pay43 (F := Ideal) v45)) (m2 (φ := .bf16) (k0_pay42 (F := Ideal) v33 v34)) (c1 (k0_pay41 (F := Ideal) v33 v34 v39)) (kF x1 t 1) (vF x2 t) a l else 0)
    ∧ (∀ t a l, arg10.view.read (Elt Ideal) (arg10.view.writes (Elt Ideal) G10 (loopSt c i arg2 harg2 arg3 harg3 arg4 harg4 arg5 harg5 arg6 harg6 arg7 harg7 arg8 harg8 arg9 harg9 arg10 harg10 arg1 v4 v20 v21 v25 v27 v33 v34 v39 v45 x1 x2 G9 G10 k).2.2) (ix2 (row t a) l)
      = arg10.view.read (Elt Ideal) G10 (ix2 (row t a) l)
        + if t.val < k then dvS allSeen (m2 v4) (c1 v25) (m2 v21) (kF x1 t 0) a l
            + dvS allSeen (m2 v27) (c1 (k0_pay43 (F := Ideal) v45)) (m2 (φ := .bf16) (k0_pay42 (F := Ideal) v33 v34)) (kF x1 t 1) a l else 0) := by
  intro k
  induction k with
  | zero =>
    intro _
    have e : loopSt c i arg2 harg2 arg3 harg3 arg4 harg4 arg5 harg5 arg6 harg6 arg7 harg7 arg8 harg8 arg9 harg9 arg10 harg10 arg1 v4 v20 v21 v25 v27 v33 v34 v39 v45 x1 x2 G9 G10 0 = ((k0_pay44, k0_pay45), [], []) := rfl
    rw [e]
    refine ⟨fun a l => ?_, fun a l => ?_, fun t a l => ?_, fun t a l => ?_, fun t a l => ?_⟩
    · simp only [Nat.not_lt_zero, if_false, Finset.sum_const_zero]
      pointwise [k0_pay44]
    · simp only [Nat.not_lt_zero, if_false, Finset.sum_const_zero]
      pointwise [k0_pay45]
    · simp only [Nat.not_lt_zero, if_false, add_zero]; rfl
    · simp only [Nat.not_lt_zero, if_false, add_zero]; rfl
    · simp only [Nat.not_lt_zero, if_false, add_zero]; rfl
  | succ k ih =>
    intro hk
    obtain ⟨h1, h2, h3, h4, h5⟩ := ih (by omega)
    have hkt : k < (k0_t1_loop i).trips := by rw [trips1]; omega
    have e := st_k0_t1_succ Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) G9 G10 (k0_pay44, k0_pay45) ⟨k, hkt⟩
    have hT : (tileOf i ⟨k, hkt⟩).val = k := rfl
    rw [trip_yield, trip_dk, trip_dv] at e
    change loopSt c i arg2 harg2 arg3 harg3 arg4 harg4 arg5 harg5 arg6 harg6 arg7 harg7 arg8 harg8 arg9 harg9 arg10 harg10 arg1 v4 v20 v21 v25 v27 v33 v34 v39 v45 x1 x2 G9 G10 (k + 1) = _ at e
    rw [e]
    clear e
    unfold loopSt at h1 h2 h3 h4 h5
    dsimp only
    generalize st_k0_t1 Variants.none c none i arg2 harg2 arg3 harg3 arg4 harg4 arg5 harg5 arg6 harg6 arg7 harg7 arg8 harg8 arg9 harg9 arg10 harg10 arg1 v4 v20 v21 v25 v27 v33 v34 v39 v45 (harg3.unread x1) (harg4.unread x2) G9 G10 (k0_pay44, k0_pay45) k = S at h1 h2 h3 h4 h5 ⊢
    refine ⟨fun a l => ?_, fun a l => ?_, fun t a l => ?_, fun t a l => ?_, fun t a l => ?_⟩
    · rw [pay16_ix, h1, m2_kW, m2_vW]
      exact (sum_lt_succ (tileOf i ⟨k, hkt⟩) _).symm
    · rw [pay17_ix, h2, m2_kW, m2_vW]
      exact (sum_lt_succ (tileOf i ⟨k, hkt⟩) _).symm
    · dsimp only [List.cons_append, List.nil_append]
      rw [View.read_writes_cons_put _ _ _ _ _ (off3_eq i _), put_tile, if_neg (fun h => absurd h.2 (by decide)),
        View.read_writes_cons_put _ _ _ _ _ (off2_eq i _), put_tile, pay18_ix, kW_ix, m2_kW, m2_vW]
      refine Eq.trans ?_ (add_lt_succ (tileOf i ⟨k, hkt⟩) t _ _ _ (h3 t a l))
      by_cases ht : t = tileOf i ⟨k, hkt⟩
      · rw [if_pos ⟨ht, rfl⟩, if_pos ht, ht]
      · rw [if_neg (fun h => ht h.1), if_neg ht]
    · dsimp only [List.cons_append, List.nil_append]
      rw [View.read_writes_cons_put _ _ _ _ _ (off3_eq i _), put_tile, pay46_ix, kW_ix, m2_kW, m2_vW,
        View.read_writes_cons_put _ _ _ _ _ (off2_eq i _), put_tile, if_neg (c := _ ∧ (1 : Fin 2) = 0) (fun h => absurd h.2 (by decide))]
      refine Eq.trans ?_ (add_lt_succ (tileOf i ⟨k, hkt⟩) t _ _ _ (h4 t a l))
      by_cases ht : t = tileOf i ⟨k, hkt⟩
      · rw [if_pos ⟨ht, rfl⟩, if_pos ht, ht]
      · rw [if_neg (fun h => ht h.1), if_neg ht]
    · dsimp only [List.cons_append, List.nil_append]
      rw [View.read_writes_cons_put _ _ _ _ _ (off1_eq i _), put_rows, pay47_ix, vW_ix, m2_kW, m2_kW]
      refine Eq.trans ?_ (add_lt_succ (tileOf i ⟨k, hkt⟩) t _ _ _ (h5 t a l))
      by_cases ht : t = tileOf i ⟨k, hkt⟩
      · rw [if_pos ht, if_pos ht, ht]
      · rw [if_neg ht, if_neg ht]
end

end Cert.KernelIdeal.Bwd
end
-- ==== Proof.Diag.lean ====
/-
  The stores of the diagonal tile, after the loop: what they add to the blocks of the gradients of keys and values, and
  what one grid point leaves in each output block, in terms of the loop's last state.
-/
module

public import proofs.«01_k».proof.Proof.Loop

@[expose] public section

set_option maxRecDepth 16384

noncomputable section

namespace Cert.KernelIdeal.Bwd

open Idealize.ShloMosaic Idealize.ShloMosaic.TcCoe Idealize.SL.Sem
open Cert.KernelIdeal Cert.KernelIdeal.Gen

/-- The tile of queries a grid point works on. -/
abbrev qt (i : grid0.Coords) : Fin 8 := i 1

section
variable {α : Type}

theorem inb_hW (j : Fin 2) : ∀ a, (![0, 128 * j.val] : Fin 2 → ℕ) a + (![512, 128] : Fin 2 → ℕ) a ≤ S512x256.size a := by
  intro d
  refine Fin.cases ?_ (fun d => ?_) d
  · show 0 + 512 ≤ 512; omega
  · refine Fin.cases ?_ (fun d => d.elim0) d
    show 128 * j.val + 128 ≤ 256; omega

theorem inb_lW (j : Fin 2) : ∀ a, (![0, j.val, 0, 0] : Fin 4 → ℕ) a + (![1, 1, 512, 1] : Fin 4 → ℕ) a ≤ S1x2x512x1.size a := by
  intro d
  refine Fin.cases ?_ (fun d => ?_) d
  · show 0 + 1 ≤ 1; omega
  · refine Fin.cases ?_ (fun d => ?_) d
    · show j.val + 1 ≤ 2; omega
    · refine Fin.cases ?_ (fun d => ?_) d
      · show 0 + 512 ≤ 512; omega
      · refine Fin.cases ?_ (fun d => d.elim0) d
        show 0 + 1 ≤ 1; omega

/-- A head's half of a tile of queries. -/
def hW (x0 : S512x256.Idx → α) (j : Fin 2) : S512x128.Idx → α := VecWindow.window x0 ![0, 128 * j.val] ![512, 128] (inb_hW j)

/-- A head's log-sums. -/
def lW (x5 : S1x2x512x1.Idx → α) (j : Fin 2) : S1x1x512x1.Idx → α := VecWindow.window x5 ![0, j.val, 0, 0] ![1, 1, 512, 1] (inb_lW j)

/-- A tile read whole. -/
def wW (x : S512x128.Idx → α) : S512x128.Idx → α := x

theorem hW_ix (x0 : S512x256.Idx → α) (j : Fin 2) (a : Fin 512) (l : Fin 128) : hW x0 j (ix2 a l) = x0 (ix2 a (col j l)) := window_head x0 j _ a l

theorem lW_ix (x5 : S1x2x512x1.Idx → α) (j : Fin 2) (a : Fin 512) : lW x5 j (ix4 0 0 a 0) = x5 (ix4 0 j a 0) := window_lse x5 j _ a
end

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole) (arg1 : BitVec 32) (v4 : FVec Ideal S512x128 .bf16) (v20 : FVec Ideal S512x1 .f32) (v21 : FVec Ideal S512x128 .bf16) (v25 : FVec Ideal S512x1 .f32) (v27 : FVec Ideal S512x128 .bf16) (v33 : IVec S1x128 1) (v34 : Vec Ideal S512x128 .f32) (v39 : Vec Ideal S512x128 .f32) (v45 : Vec Ideal S1x1x512x1 .f32)
  (x1 : Vec Ideal S4096x256 .bf16) (x2 : Vec Ideal S4096x128 .bf16)

theorem off7_qt : k0_off7 i = ![512 * (qt i).val, 0] := off7_eq i
theorem off8_qt : k0_off8 i = ![512 * (qt i).val, 128 * (0 : Fin 2).val] := off8_eq i
theorem off9_qt : k0_off9 i = ![512 * (qt i).val, 128 * (1 : Fin 2).val] := off9_eq i

theorem read_off7 {e : EltTy} (A : Memref sig .tc .vmem S4096x128 e) (f : A.view.ty.Contents (Elt Ideal)) :
    A.view.readAt (Elt Ideal) (Rect.unit (s := S4096x128) (k0_off7 i) S512x128.size (k0_off7_inb i)).toLoadRect f = vW (A.view.read (Elt Ideal) f) (qt i) :=
  View.readAt_unit _ _ _ (off7_qt i) (inb_rows (qt i))

theorem read_off8 {e : EltTy} (A : Memref sig .tc .vmem S4096x256 e) (f : A.view.ty.Contents (Elt Ideal)) :
    A.view.readAt (Elt Ideal) (Rect.unit (s := S4096x256) (k0_off8 i) S512x128.size (k0_off8_inb i)).toLoadRect f = kW (A.view.read (Elt Ideal) f) (qt i) 0 :=
  View.readAt_unit _ _ _ (off8_qt i) (inb_tile (qt i) _)

theorem read_off9 {e : EltTy} (A : Memref sig .tc .vmem S4096x256 e) (f : A.view.ty.Contents (Elt Ideal)) :
    A.view.readAt (Elt Ideal) (Rect.unit (s := S4096x256) (k0_off9 i) S512x128.size (k0_off9_inb i)).toLoadRect f = kW (A.view.read (Elt Ideal) f) (qt i) 1 :=
  View.readAt_unit _ _ _ (off9_qt i) (inb_tile (qt i) _)

/-- The loop that would run past the last tile below the diagonal leaves what it finds. -/
theorem rest_none (v55 : BitVec 32) (X3 : arg3.view.ty.Contents (Elt Ideal)) (X4 : arg4.view.ty.Contents (Elt Ideal))
    (G9 : arg9.view.ty.Contents (Elt Ideal)) (G10 : arg10.view.ty.Contents (Elt Ideal)) (init : FVec Ideal S512x128 .f32 × FVec Ideal S512x128 .f32)
    (n : ℕ) (hn : n = 0) :
    st_k0_t2 Variants.none c none i arg2 harg2 arg3 harg3 arg4 harg4 arg5 harg5 arg6 harg6 arg7 harg7 arg8 harg8 arg9 harg9 arg10 harg10 arg1 v4 v20 v21 v25 v27 v33 v34 v39 v45 v55 X3 X4 G9 G10 init n = (init, [], []) := by
  subst hn; rfl

/-- The stores of the diagonal tile in the block of the keys' gradient, after those in `L`. -/
def diag9 (f : arg9.view.ty.Contents (Elt Ideal)) (L : List (View.Piece (Elt Ideal) S4096x256 .f32)) : List (View.Piece (Elt Ideal) S4096x256 .f32) :=
  let L8 : List (View.Piece (Elt Ideal) S4096x256 .f32) :=
    ⟨Rect.unit (s := S4096x256) (k0_off8 i) ![512, 128] (k0_off8_inb i),
      k0_pay1 v4 (k0_pay70 v20 v21 v25 (k0_pay50 (vW x2 (qt i))) (sA v4 (kW x1 (qt i) 0)))
        (arg9.view.readAt (Elt Ideal) (Rect.unit (s := S4096x256) (k0_off8 i) S512x128.size (k0_off8_inb i)).toLoadRect (arg9.view.writes (Elt Ideal) f L))⟩ :: L
  ⟨Rect.unit (s := S4096x256) (k0_off9 i) ![512, 128] (k0_off9_inb i),
    k0_pay2 v27 (k0_pay71 (k0_pay41 v33 v34 v39) (k0_pay42 v33 v34) (k0_pay43 v45) (k0_pay50 (vW x2 (qt i))) (k0_pay62 v27 (k0_pay52 (kW x1 (qt i) 1)))
        k0_pay63 k0_pay64 64#32 k0_pay65 k0_pay66 k0_pay67)
      (arg9.view.readAt (Elt Ideal) (Rect.unit (s := S4096x256) (k0_off9 i) S512x128.size (k0_off9_inb i)).toLoadRect (arg9.view.writes (Elt Ideal) f L8))⟩ :: L8

/-- The store of the diagonal tile in the block of the values' gradient, after those in `L`. -/
def diag10 (f : arg10.view.ty.Contents (Elt Ideal)) (L : List (View.Piece (Elt Ideal) S4096x128 .f32)) : List (View.Piece (Elt Ideal) S4096x128 .f32) :=
  ⟨Rect.unit (s := S4096x128) (k0_off7 i) ![512, 128] (k0_off7_inb i),
    k0_pay3 v21 (k0_pay42 v33 v34) (k0_pay72 v25 (sA v4 (kW x1 (qt i) 0)))
        (k0_pay73 (k0_pay43 v45) (k0_pay62 v27 (k0_pay52 (kW x1 (qt i) 1))) k0_pay63 k0_pay64 64#32 k0_pay65 k0_pay66 k0_pay67)
      (arg10.view.readAt (Elt Ideal) (Rect.unit (s := S4096x128) (k0_off7 i) S512x128.size (k0_off7_inb i)).toLoadRect (arg10.view.writes (Elt Ideal) f L))⟩ :: L

theorem diag9_ix0 (f : arg9.view.ty.Contents (Elt Ideal)) (L : List (View.Piece (Elt Ideal) S4096x256 .f32)) (t : Fin 8) (a : Fin 512) (l : Fin 128) :
    arg9.view.read (Elt Ideal) (arg9.view.writes (Elt Ideal) f (diag9 i arg9 v4 v20 v21 v25 v27 v33 v34 v39 v45 x1 x2 f L)) (ix2 (row t a) (col 0 l))
      = arg9.view.read (Elt Ideal) (arg9.view.writes (Elt Ideal) f L) (ix2 (row t a) (col 0 l))
        + if t = qt i then dkS diagSeen (m2 v4) (c1 v25) (m2 v21) (c1 v20) (kF x1 t 0) (vF x2 t) a l else 0 := by
  unfold diag9
  dsimp only
  rw [View.read_writes_cons_put _ _ _ _ _ (off9_qt i), put_tile, if_neg (fun h => absurd h.2 (by decide)),
    View.read_writes_cons_put _ _ _ _ _ (off8_qt i), put_tile, pay1_ix, read_off8, kW_ix, m2_kW, m2_vW]
  by_cases ht : t = qt i
  · rw [if_pos ⟨ht, rfl⟩, if_pos ht, ht]
  · rw [if_neg (fun h => ht h.1), if_neg ht, add_zero]

theorem diag9_ix1 (f : arg9.view.ty.Contents (Elt Ideal)) (L : List (View.Piece (Elt Ideal) S4096x256 .f32)) (t : Fin 8) (a : Fin 512) (l : Fin 128) :
    arg9.view.read (Elt Ideal) (arg9.view.writes (Elt Ideal) f (diag9 i arg9 v4 v20 v21 v25 v27 v33 v34 v39 v45 x1 x2 f L)) (ix2 (row t a) (col 1 l))
      = arg9.view.read (Elt Ideal) (arg9.view.writes (Elt Ideal) f L) (ix2 (row t a) (col 1 l))
        + if t = qt i then dkS diagSeen (m2 v27) (c1 (k0_pay43 (F := Ideal) v45)) (m2 (φ := .bf16) (k0_pay42 (F := Ideal) v33 v34)) (c1 (k0_pay41 (F := Ideal) v33 v34 v39)) (kF x1 t 1) (vF x2 t) a l else 0 := by
  unfold diag9
  dsimp only
  rw [View.read_writes_cons_put _ _ _ _ _ (off9_qt i), put_tile, pay2_ix, read_off9, kW_ix, m2_kW, m2_vW,
    View.read_writes_cons_put _ _ _ _ _ (off8_qt i), put_tile, put_tile,
    if_neg (c := _ ∧ (1 : Fin 2) = 0) (fun h => absurd h.2 (by decide)), if_neg (c := _ ∧ (1 : Fin 2) = 0) (fun h => absurd h.2 (by decide))]
  by_cases ht : t = qt i
  · rw [if_pos ⟨ht, rfl⟩, if_pos ht, ht]
  · rw [if_neg (fun h => ht h.1), if_neg ht, add_zero]

theorem diag10_ix (f : arg10.view.ty.Contents (Elt Ideal)) (L : List (View.Piece (Elt Ideal) S4096x128 .f32)) (t : Fin 8) (a : Fin 512) (l : Fin 128) :
    arg10.view.read (Elt Ideal) (arg10.view.writes (Elt Ideal) f (diag10 i arg10 v4 v21 v25 v27 v33 v34 v45 x1 f L)) (ix2 (row t a) l)
      = arg10.view.read (Elt Ideal) (arg10.view.writes (Elt Ideal) f L) (ix2 (row t a) l)
        + if t = qt i then dvS diagSeen (m2 v4) (c1 v25) (m2 v21) (kF x1 t 0) a l
            + dvS diagSeen (m2 v27) (c1 (k0_pay43 (F := Ideal) v45)) (m2 (φ := .bf16) (k0_pay42 (F := Ideal) v33 v34)) (kF x1 t 1) a l else 0 := by
  unfold diag10
  rw [View.read_writes_cons_put _ _ _ _ _ (off7_qt i), put_rows, pay3_ix, read_off7, vW_ix, m2_kW, m2_kW]
  by_cases ht : t = qt i
  · rw [if_pos ht, if_pos ht, ht]
  · rw [if_neg ht, if_neg ht, add_zero]
end

end Cert.KernelIdeal.Bwd
end
-- ==== Proof.Opened.lean ====
/-
  What one grid point leaves in each output block, as the list of its stores with the loop's last state named.
-/
module

public import proofs.«01_k».proof.Proof.Diag

@[expose] public section

set_option maxRecDepth 16384

noncomputable section

namespace Cert.KernelIdeal.Bwd

open Idealize.ShloMosaic Idealize.ShloMosaic.TcCoe Idealize.SL.Sem
open Cert.KernelIdeal Cert.KernelIdeal.Gen

/-- The zeros a pair's first point stores in the block of the keys' gradient. -/
def zero9 : List (View.Piece (Elt Ideal) S4096x256 .f32) := [⟨Rect.unit (s := S4096x256) ![0, 0] S4096x256.size inb_S4096x256_S4096x256_0_0, (k0_pay31 (F := Ideal) : S4096x256.Idx → EReal)⟩]

/-- The zeros a pair's first point stores in the block of the values' gradient. -/
def zero10 : List (View.Piece (Elt Ideal) S4096x128 .f32) := [⟨Rect.unit (s := S4096x128) ![0, 0] S4096x128.size inb_S4096x128_S4096x128_0_0, (k0_pay32 (F := Ideal) : S4096x128.Idx → EReal)⟩]

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
  (x0 : Vec Ideal S512x256 .bf16) (x1 : Vec Ideal S4096x256 .bf16) (x2 : Vec Ideal S4096x128 .bf16) (x3 : Vec Ideal S512x128 .f32) (x4 : Vec Ideal S512x128 .f32) (x5 : Vec Ideal S1x2x512x1 .f32)
  (xo7 : Vec Ideal S4096x256 .f32) (xo8 : Vec Ideal S4096x128 .f32)

/-- The loop's last state at a point that reads these blocks. -/
abbrev pointSt (G9 : arg9.view.ty.Contents (Elt Ideal)) (G10 : arg10.view.ty.Contents (Elt Ideal)) :=
  loopSt c i arg2 harg2 arg3 harg3 arg4 harg4 arg5 harg5 arg6 harg6 arg7 harg7 arg8 harg8 arg9 harg9 arg10 harg10 (BitVec.ofNat 32 (i 1).val) (k0_pay33 (hW x0 0)) (k0_pay35 (wW x4) (wW x3)) (k0_pay36 (wW x4)) (k0_pay37 (lW x5 0)) (k0_pay38 (hW x0 1)) k0_pay39 (wW x4) (wW x3) (lW x5 1) x1 x2 G9 G10 (k0_t1_loop i).trips

/-- What a point stores in the block of the queries' gradient, from the loop's two sums. -/
def dq6 (d0 d1 : FVec Ideal S512x128 .f32) : List (View.Piece (Elt Ideal) S512x256 .f32) :=
  [⟨Rect.unit (s := S512x256) ![0, 128] ![512, 128] inb_S512x256_S512x128_0_128,
      k0_pay5 (k0_pay75 (k0_pay41 k0_pay39 (wW x4) (wW x3)) (k0_pay42 k0_pay39 (wW x4)) (k0_pay43 (lW x5 1)) d1 (k0_pay50 (vW x2 (qt i))) (k0_pay52 (kW x1 (qt i) 1))
        (k0_pay62 (k0_pay38 (hW x0 1)) (k0_pay52 (kW x1 (qt i) 1))) k0_pay63 k0_pay64 64#32 k0_pay65 k0_pay66 k0_pay67)⟩,
   ⟨Rect.unit (s := S512x256) ![0, 0] ![512, 128] inb_S512x256_S512x128_0_0,
      k0_pay4 (k0_pay74 (k0_pay35 (wW x4) (wW x3)) (k0_pay36 (wW x4)) (k0_pay37 (lW x5 0)) d0 (k0_pay50 (vW x2 (qt i))) (k0_pay51 (kW x1 (qt i) 0))
        (sA (k0_pay33 (hW x0 0)) (kW x1 (qt i) 0)))⟩]

/-- The point's reads of its input blocks. -/
theorem point_reads :
    arg2.view.readAt (Elt Ideal) (Rect.unit (s := S512x256) ![0, 0] S512x128.size inb_S512x256_S512x128_0_0).toLoadRect (harg2.unread x0) = hW x0 0
    ∧ arg2.view.readAt (Elt Ideal) (Rect.unit (s := S512x256) ![0, 128] S512x128.size inb_S512x256_S512x128_0_128).toLoadRect (harg2.unread x0) = hW x0 1
    ∧ arg5.view.readAt (Elt Ideal) (Rect.unit (s := S512x128) ![0, 0] S512x128.size inb_S512x128_S512x128_0_0).toLoadRect (harg5.unread x3) = wW x3
    ∧ arg6.view.readAt (Elt Ideal) (Rect.unit (s := S512x128) ![0, 0] S512x128.size inb_S512x128_S512x128_0_0).toLoadRect (harg6.unread x4) = wW x4
    ∧ arg7.view.readAt (Elt Ideal) (Rect.unit (s := S1x2x512x1) ![0, 0, 0, 0] S1x1x512x1.size inb_S1x2x512x1_S1x1x512x1_0_0_0_0).toLoadRect (harg7.unread x5) = lW x5 0
    ∧ arg7.view.readAt (Elt Ideal) (Rect.unit (s := S1x2x512x1) ![0, 1, 0, 0] S1x1x512x1.size inb_S1x2x512x1_S1x1x512x1_0_1_0_0).toLoadRect (harg7.unread x5) = lW x5 1
    ∧ arg4.view.readAt (Elt Ideal) (Rect.unit (s := S4096x128) (k0_off7 i) S512x128.size (k0_off7_inb i)).toLoadRect (harg4.unread x2) = vW x2 (qt i)
    ∧ arg3.view.readAt (Elt Ideal) (Rect.unit (s := S4096x256) (k0_off8 i) S512x128.size (k0_off8_inb i)).toLoadRect (harg3.unread x1) = kW x1 (qt i) 0
    ∧ arg3.view.readAt (Elt Ideal) (Rect.unit (s := S4096x256) (k0_off9 i) S512x128.size (k0_off9_inb i)).toLoadRect (harg3.unread x1) = kW x1 (qt i) 1 := by
  refine ⟨?_, ?_, ?_, ?_, ?_, ?_, ?_, ?_, ?_⟩
  · rw [View.readAt_unit _ _ _ rfl (inb_hW 0), harg2.read_unread]; rfl
  · rw [View.readAt_unit _ _ _ rfl (inb_hW 1), harg2.read_unread]; rfl
  · rw [View.readAt_full, harg5.read_unread]; rfl
  · rw [View.readAt_full, harg6.read_unread]; rfl
  · rw [View.readAt_unit _ _ _ rfl (inb_lW 0), harg7.read_unread]; rfl
  · rw [View.readAt_unit _ _ _ rfl (inb_lW 1), harg7.read_unread]; rfl
  · rw [read_off7, harg4.read_unread]
  · rw [read_off8, harg3.read_unread]
  · rw [read_off9, harg3.read_unread]

theorem out_A_6 (hc0 : cond0_0 i) (hc1 : ¬cond0_1 i) :
    out0_A_6 c i arg2 harg2 arg3 harg3 arg4 harg4 arg5 harg5 arg6 harg6 arg7 harg7 arg8 harg8 arg9 harg9 arg10 harg10 hc0 hc1 x0 x1 x2 x3 x4 x5
      = VO0_6.read (Elt Ideal) (VO0_6.writes (Elt Ideal) VO0_6.junk (dq6 i x0 x1 x2 x3 x4 x5 (pointSt c i arg2 harg2 arg3 harg3 arg4 harg4 arg5 harg5 arg6 harg6 arg7 harg7 arg8 harg8 arg9 harg9 arg10 harg10 x0 x1 x2 x3 x4 x5 (arg9.view.writes (Elt Ideal) arg9.view.junk zero9) (arg10.view.writes (Elt Ideal) arg10.view.junk zero10)).1.1 (pointSt c i arg2 harg2 arg3 harg3 arg4 harg4 arg5 harg5 arg6 harg6 arg7 harg7 arg8 harg8 arg9 harg9 arg10 harg10 x0 x1 x2 x3 x4 x5 (arg9.view.writes (Elt Ideal) arg9.view.junk zero9) (arg10.view.writes (Elt Ideal) arg10.view.junk zero10)).1.2)) := by
  obtain ⟨e20, e21, e5, e6, e70, e71, e4, e30, e31⟩ := point_reads i arg2 harg2 arg3 harg3 arg4 harg4 arg5 harg5 arg6 harg6 arg7 harg7 x0 x1 x2 x3 x4 x5
  unfold out0_A_6 kernelRun0_A dq6 pointSt loopSt
  dsimp only
  sl_unfold_words
  rw [← e20, ← e21, ← e5, ← e6, ← e70, ← e71, ← e4, ← e30, ← e31]
  rw [rest_none]
  rotate_left
  · exact trips2 i
  rfl

theorem out_A_7 (hc0 : cond0_0 i) (hc1 : ¬cond0_1 i) :
    out0_A_7 c i arg2 harg2 arg3 harg3 arg4 harg4 arg5 harg5 arg6 harg6 arg7 harg7 arg8 harg8 arg9 harg9 arg10 harg10 hc0 hc1 x0 x1 x2 x3 x4 x5
      = VO0_7.read (Elt Ideal) (VO0_7.writes (Elt Ideal) VO0_7.junk (diag9 i arg9 (k0_pay33 (hW x0 0)) (k0_pay35 (wW x4) (wW x3)) (k0_pay36 (wW x4)) (k0_pay37 (lW x5 0)) (k0_pay38 (hW x0 1)) k0_pay39 (wW x4) (wW x3) (lW x5 1) x1 x2 arg9.view.junk ((pointSt c i arg2 harg2 arg3 harg3 arg4 harg4 arg5 harg5 arg6 harg6 arg7 harg7 arg8 harg8 arg9 harg9 arg10 harg10 x0 x1 x2 x3 x4 x5 (arg9.view.writes (Elt Ideal) arg9.view.junk zero9) (arg10.view.writes (Elt Ideal) arg10.view.junk zero10)).2.1 ++ zero9))) := by
  obtain ⟨e20, e21, e5, e6, e70, e71, e4, e30, e31⟩ := point_reads i arg2 harg2 arg3 harg3 arg4 harg4 arg5 harg5 arg6 harg6 arg7 harg7 x0 x1 x2 x3 x4 x5
  unfold out0_A_7 kernelRun0_A diag9 pointSt loopSt
  dsimp only
  sl_unfold_words
  rw [← e20, ← e21, ← e5, ← e6, ← e70, ← e71, ← e4, ← e30, ← e31]
  rw [rest_none]
  rotate_left
  · exact trips2 i
  rfl

theorem out_A_8 (hc0 : cond0_0 i) (hc1 : ¬cond0_1 i) :
    out0_A_8 c i arg2 harg2 arg3 harg3 arg4 harg4 arg5 harg5 arg6 harg6 arg7 harg7 arg8 harg8 arg9 harg9 arg10 harg10 hc0 hc1 x0 x1 x2 x3 x4 x5
      = VO0_8.read (Elt Ideal) (VO0_8.writes (Elt Ideal) VO0_8.junk (diag10 i arg10 (k0_pay33 (hW x0 0)) (k0_pay36 (wW x4)) (k0_pay37 (lW x5 0)) (k0_pay38 (hW x0 1)) k0_pay39 (wW x4) (lW x5 1) x1 arg10.view.junk ((pointSt c i arg2 harg2 arg3 harg3 arg4 harg4 arg5 harg5 arg6 harg6 arg7 harg7 arg8 harg8 arg9 harg9 arg10 harg10 x0 x1 x2 x3 x4 x5 (arg9.view.writes (Elt Ideal) arg9.view.junk zero9) (arg10.view.writes (Elt Ideal) arg10.view.junk zero10)).2.2 ++ zero10))) := by
  obtain ⟨e20, e21, e5, e6, e70, e71, e4, e30, e31⟩ := point_reads i arg2 harg2 arg3 harg3 arg4 harg4 arg5 harg5 arg6 harg6 arg7 harg7 x0 x1 x2 x3 x4 x5
  unfold out0_A_8 kernelRun0_A diag10 pointSt loopSt
  dsimp only
  sl_unfold_words
  rw [← e20, ← e21, ← e5, ← e6, ← e70, ← e71, ← e30, ← e31]
  rw [rest_none]
  rotate_left
  · exact trips2 i
  rfl

theorem out_B_6 (hc0 : ¬cond0_0 i) (hc1 : ¬cond0_1 i) :
    out0_B_6 c i arg2 harg2 arg3 harg3 arg4 harg4 arg5 harg5 arg6 harg6 arg7 harg7 arg8 harg8 arg9 harg9 arg10 harg10 hc0 hc1 x0 x1 x2 x3 x4 x5 xo7 xo8
      = VO0_6.read (Elt Ideal) (VO0_6.writes (Elt Ideal) VO0_6.junk (dq6 i x0 x1 x2 x3 x4 x5 (pointSt c i arg2 harg2 arg3 harg3 arg4 harg4 arg5 harg5 arg6 harg6 arg7 harg7 arg8 harg8 arg9 harg9 arg10 harg10 x0 x1 x2 x3 x4 x5 (harg9.unread xo7) (harg10.unread xo8)).1.1 (pointSt c i arg2 harg2 arg3 harg3 arg4 harg4 arg5 harg5 arg6 harg6 arg7 harg7 arg8 harg8 arg9 harg9 arg10 harg10 x0 x1 x2 x3 x4 x5 (harg9.unread xo7) (harg10.unread xo8)).1.2)) := by
  obtain ⟨e20, e21, e5, e6, e70, e71, e4, e30, e31⟩ := point_reads i arg2 harg2 arg3 harg3 arg4 harg4 arg5 harg5 arg6 harg6 arg7 harg7 x0 x1 x2 x3 x4 x5
  unfold out0_B_6 kernelRun0_B dq6 pointSt loopSt
  dsimp only
  sl_unfold_words
  rw [← e20, ← e21, ← e5, ← e6, ← e70, ← e71, ← e4, ← e30, ← e31]
  rw [rest_none]
  rotate_left
  · exact trips2 i
  rfl

theorem out_B_7 (hc0 : ¬cond0_0 i) (hc1 : ¬cond0_1 i) :
    out0_B_7 c i arg2 harg2 arg3 harg3 arg4 harg4 arg5 harg5 arg6 harg6 arg7 harg7 arg8 harg8 arg9 harg9 arg10 harg10 hc0 hc1 x0 x1 x2 x3 x4 x5 xo7 xo8
      = arg9.view.read (Elt Ideal) (arg9.view.writes (Elt Ideal) (harg9.unread xo7) (diag9 i arg9 (k0_pay33 (hW x0 0)) (k0_pay35 (wW x4) (wW x3)) (k0_pay36 (wW x4)) (k0_pay37 (lW x5 0)) (k0_pay38 (hW x0 1)) k0_pay39 (wW x4) (wW x3) (lW x5 1) x1 x2 (harg9.unread xo7) ((pointSt c i arg2 harg2 arg3 harg3 arg4 harg4 arg5 harg5 arg6 harg6 arg7 harg7 arg8 harg8 arg9 harg9 arg10 harg10 x0 x1 x2 x3 x4 x5 (harg9.unread xo7) (harg10.unread xo8)).2.1))) := by
  obtain ⟨e20, e21, e5, e6, e70, e71, e4, e30, e31⟩ := point_reads i arg2 harg2 arg3 harg3 arg4 harg4 arg5 harg5 arg6 harg6 arg7 harg7 x0 x1 x2 x3 x4 x5
  unfold out0_B_7 kernelRun0_B diag9 pointSt loopSt
  dsimp only
  sl_unfold_words
  rw [← e20, ← e21, ← e5, ← e6, ← e70, ← e71, ← e4, ← e30, ← e31]
  rw [rest_none]
  rotate_left
  · exact trips2 i
  rfl

theorem out_B_8 (hc0 : ¬cond0_0 i) (hc1 : ¬cond0_1 i) :
    out0_B_8 c i arg2 harg2 arg3 harg3 arg4 harg4 arg5 harg5 arg6 harg6 arg7 harg7 arg8 harg8 arg9 harg9 arg10 harg10 hc0 hc1 x0 x1 x2 x3 x4 x5 xo7 xo8
      = arg10.view.read (Elt Ideal) (arg10.view.writes (Elt Ideal) (harg10.unread xo8) (diag10 i arg10 (k0_pay33 (hW x0 0)) (k0_pay36 (wW x4)) (k0_pay37 (lW x5 0)) (k0_pay38 (hW x0 1)) k0_pay39 (wW x4) (lW x5 1) x1 (harg10.unread xo8) ((pointSt c i arg2 harg2 arg3 harg3 arg4 harg4 arg5 harg5 arg6 harg6 arg7 harg7 arg8 harg8 arg9 harg9 arg10 harg10 x0 x1 x2 x3 x4 x5 (harg9.unread xo7) (harg10.unread xo8)).2.2))) := by
  obtain ⟨e20, e21, e5, e6, e70, e71, e4, e30, e31⟩ := point_reads i arg2 harg2 arg3 harg3 arg4 harg4 arg5 harg5 arg6 harg6 arg7 harg7 x0 x1 x2 x3 x4 x5
  unfold out0_B_8 kernelRun0_B diag10 pointSt loopSt
  dsimp only
  sl_unfold_words
  rw [← e20, ← e21, ← e5, ← e6, ← e70, ← e71, ← e30, ← e31]
  rw [rest_none]
  rotate_left
  · exact trips2 i
  rfl

theorem out_C_6 (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xo7 xo8
      = VO0_6.read (Elt Ideal) (VO0_6.writes (Elt Ideal) VO0_6.junk (dq6 i x0 x1 x2 x3 x4 x5 (pointSt c i arg2 harg2 arg3 harg3 arg4 harg4 arg5 harg5 arg6 harg6 arg7 harg7 arg8 harg8 arg9 harg9 arg10 harg10 x0 x1 x2 x3 x4 x5 (harg9.unread xo7) (harg10.unread xo8)).1.1 (pointSt c i arg2 harg2 arg3 harg3 arg4 harg4 arg5 harg5 arg6 harg6 arg7 harg7 arg8 harg8 arg9 harg9 arg10 harg10 x0 x1 x2 x3 x4 x5 (harg9.unread xo7) (harg10.unread xo8)).1.2)) := by
  obtain ⟨e20, e21, e5, e6, e70, e71, e4, e30, e31⟩ := point_reads i arg2 harg2 arg3 harg3 arg4 harg4 arg5 harg5 arg6 harg6 arg7 harg7 x0 x1 x2 x3 x4 x5
  unfold out0_C_6 kernelRun0_C dq6 pointSt loopSt
  dsimp only
  sl_unfold_words
  rw [← e20, ← e21, ← e5, ← e6, ← e70, ← e71, ← e4, ← e30, ← e31]
  rw [rest_none]
  rotate_left
  · exact trips2 i
  rfl

theorem out_C_7 (hc0 : ¬cond0_0 i) (hc1 : cond0_1 i) :
    out0_C_7 c i arg2 harg2 arg3 harg3 arg4 harg4 arg5 harg5 arg6 harg6 arg7 harg7 arg8 harg8 arg9 harg9 arg10 harg10 hc0 hc1 x0 x1 x2 x3 x4 x5 xo7 xo8
      = VO0_7.read (Elt Ideal) (VO0_7.writes (Elt Ideal) VO0_7.junk (⟨Rect.unit (s := S4096x256) ![0, 0] S4096x256.size inb_S4096x256_S4096x256_0_0,
          k0_pay6 (arg9.view.readAt (Elt Ideal) (Rect.unit (s := S4096x256) ![0, 0] S4096x256.size inb_S4096x256_S4096x256_0_0).toLoadRect
            (arg9.view.writes (Elt Ideal) (harg9.unread xo7) (diag9 i arg9 (k0_pay33 (hW x0 0)) (k0_pay35 (wW x4) (wW x3)) (k0_pay36 (wW x4)) (k0_pay37 (lW x5 0)) (k0_pay38 (hW x0 1)) k0_pay39 (wW x4) (wW x3) (lW x5 1) x1 x2 (harg9.unread xo7) ((pointSt c i arg2 harg2 arg3 harg3 arg4 harg4 arg5 harg5 arg6 harg6 arg7 harg7 arg8 harg8 arg9 harg9 arg10 harg10 x0 x1 x2 x3 x4 x5 (harg9.unread xo7) (harg10.unread xo8)).2.1))))⟩ :: diag9 i arg9 (k0_pay33 (hW x0 0)) (k0_pay35 (wW x4) (wW x3)) (k0_pay36 (wW x4)) (k0_pay37 (lW x5 0)) (k0_pay38 (hW x0 1)) k0_pay39 (wW x4) (wW x3) (lW x5 1) x1 x2 (harg9.unread xo7) ((pointSt c i arg2 harg2 arg3 harg3 arg4 harg4 arg5 harg5 arg6 harg6 arg7 harg7 arg8 harg8 arg9 harg9 arg10 harg10 x0 x1 x2 x3 x4 x5 (harg9.unread xo7) (harg10.unread xo8)).2.1))) := by
  obtain ⟨e20, e21, e5, e6, e70, e71, e4, e30, e31⟩ := point_reads i arg2 harg2 arg3 harg3 arg4 harg4 arg5 harg5 arg6 harg6 arg7 harg7 x0 x1 x2 x3 x4 x5
  unfold out0_C_7 kernelRun0_C diag9 pointSt loopSt
  dsimp only
  sl_unfold_words
  rw [← e20, ← e21, ← e5, ← e6, ← e70, ← e71, ← e4, ← e30, ← e31]
  rw [rest_none]
  rotate_left
  · exact trips2 i
  rfl

theorem out_C_8 (hc0 : ¬cond0_0 i) (hc1 : cond0_1 i) :
    out0_C_8 c i arg2 harg2 arg3 harg3 arg4 harg4 arg5 harg5 arg6 harg6 arg7 harg7 arg8 harg8 arg9 harg9 arg10 harg10 hc0 hc1 x0 x1 x2 x3 x4 x5 xo7 xo8
      = arg10.view.read (Elt Ideal) (arg10.view.writes (Elt Ideal) (harg10.unread xo8) (diag10 i arg10 (k0_pay33 (hW x0 0)) (k0_pay36 (wW x4)) (k0_pay37 (lW x5 0)) (k0_pay38 (hW x0 1)) k0_pay39 (wW x4) (lW x5 1) x1 (harg10.unread xo8) ((pointSt c i arg2 harg2 arg3 harg3 arg4 harg4 arg5 harg5 arg6 harg6 arg7 harg7 arg8 harg8 arg9 harg9 arg10 harg10 x0 x1 x2 x3 x4 x5 (harg9.unread xo7) (harg10.unread xo8)).2.2))) := by
  obtain ⟨e20, e21, e5, e6, e70, e71, e4, e30, e31⟩ := point_reads i arg2 harg2 arg3 harg3 arg4 harg4 arg5 harg5 arg6 harg6 arg7 harg7 x0 x1 x2 x3 x4 x5
  unfold out0_C_8 kernelRun0_C diag10 pointSt loopSt
  dsimp only
  sl_unfold_words
  rw [← e20, ← e21, ← e5, ← e6, ← e70, ← e71, ← e30, ← e31]
  rw [rest_none]
  rotate_left
  · exact trips2 i
  rfl

end

end Cert.KernelIdeal.Bwd
end
-- ==== Proof.Point.lean ====
/-
  What one grid point leaves in each output block, place by place: the tile's gradient of the queries, and the blocks of
  the gradients of keys and values with this tile's contribution added.
-/
module

public import proofs.«01_k».proof.Proof.Opened

@[expose] public section

set_option maxRecDepth 16384

noncomputable section

namespace Cert.KernelIdeal.Bwd

open Idealize.ShloMosaic Idealize.ShloMosaic.TcCoe Idealize.SL.Sem
open Cert.KernelIdeal Cert.KernelIdeal.Gen

/-- Which keys of tile `t` a query of tile `q` sees: those of its own chunk of 64 and of the chunks before. -/
def seen (q t : Fin 8) : Fin 512 → Fin 512 → Bool := fun a b => decide ((512 * t.val + b.val) / 64 ≤ (512 * q.val + a.val) / 64)

theorem seen_below (q t : Fin 8) (h : t.val < q.val) : seen q t = allSeen :=
  funext fun a => funext fun b => decide_eq_true (by omega)

theorem seen_diag (q : Fin 8) : seen q q = diagSeen :=
  funext fun a => funext fun b => by
    show decide _ = decide _
    exact decide_eq_decide.mpr (by omega)

theorem seen_above (q t : Fin 8) (h : q.val < t.val) : seen q t = fun _ _ => false :=
  funext fun a => funext fun b => decide_eq_false (by omega)

section
variable {A n : ℕ} (q : Fin A → Fin 128 → EReal) (l2 : Fin A → EReal)
  (dom : Fin A → Fin 128 → EReal) (del : Fin A → EReal) (kk vv : Fin n → Fin 128 → EReal)

/-- A key that is not seen has no weight. -/
theorem prob_unseen (vis : Fin A → Fin n → Bool) (a : Fin A) (b : Fin n) (h : vis a b = false) : prob vis q l2 kk a b = 0 := by
  unfold prob
  rw [h, if_neg Bool.false_ne_true, EReal.bot_mul_coe_of_pos (mul_pos Consts.sc_pos (inv_pos.mpr Consts.log2_pos)), sub_eq_add_neg, EReal.bot_add]
  exact Ideal.exp2_bot

theorem dqS_none (a : Fin A) (l : Fin 128) : dqS (fun _ _ => false) q l2 dom del kk vv a l = 0 := by
  unfold dqS dsc
  exact Finset.sum_eq_zero fun b _ => by rw [prob_unseen _ _ _ _ _ _ rfl, zero_mul, zero_mul]

theorem dkS_none (b : Fin n) (l : Fin 128) : dkS (fun _ _ => false) q l2 dom del kk vv b l = 0 := by
  unfold dkS dsc
  exact Finset.sum_eq_zero fun a _ => by rw [prob_unseen _ _ _ _ _ _ rfl, zero_mul, zero_mul]

theorem dvS_none (b : Fin n) (l : Fin 128) : dvS (fun _ _ => false) q l2 dom kk b l = 0 := by
  unfold dvS
  exact Finset.sum_eq_zero fun a _ => by rw [prob_unseen _ _ _ _ _ _ rfl, zero_mul]
end

/-- Below the diagonal every key, on it the seen ones, above it none: the seen ones. -/
theorem by_tile {M : Type*} [AddCommMonoid M] (q t : Fin 8) (f : (Fin 512 → Fin 512 → Bool) → M) (h : f (fun _ _ => false) = 0) (x : M) :
    (x + if t.val < q.val then f allSeen else 0) + (if t = q then f diagSeen else 0) = x + f (seen q t) := by
  rcases lt_trichotomy t.val q.val with e | e | e
  · rw [if_pos e, if_neg (fun h => by rw [h] at e; omega), add_zero, seen_below q t e]
  · obtain rfl : t = q := Fin.ext e
    rw [if_neg (by omega), if_pos rfl, add_zero, seen_diag]
  · rw [if_neg (by omega), if_neg (fun h => by rw [h] at e; omega), add_zero, seen_above q t e, h]

/-- The tiles' sum likewise. -/
theorem sum_by_tile {M : Type*} [AddCommMonoid M] (q : Fin 8) (f : Fin 8 → (Fin 512 → Fin 512 → Bool) → M) (h : ∀ t, f t (fun _ _ => false) = 0) :
    (∑ t : Fin 8, if t.val < q.val then f t allSeen else 0) + f q diagSeen = ∑ t : Fin 8, f t (seen q t) := by
  have e : f q diagSeen = ∑ t : Fin 8, if t = q then f t diagSeen else 0 := by
    rw [Finset.sum_ite_eq' Finset.univ q, if_pos (Finset.mem_univ _)]
  rw [e, ← Finset.sum_add_distrib]
  refine Finset.sum_congr rfl fun t _ => ?_
  have := by_tile q t (f t) (h t) 0
  rwa [zero_add, zero_add] at this

/-! ## A point's operands -/

section
variable (x0 : S512x256.Idx → EReal) (x3 x4 : S512x128.Idx → EReal) (x5 : S1x2x512x1.Idx → EReal)

/-- A head's queries. -/
def qP (j : Fin 2) (a : Fin 512) (l : Fin 128) : EReal := x0 (ix2 a (col j l))
/-- A head's log-sums, to the base two. -/
def lP (j : Fin 2) (a : Fin 512) : EReal := x5 (ix4 0 j a 0) * (((Real.log 2)⁻¹ : ℝ) : EReal)
/-- A head's lanes of the outputs' gradient. -/
def domP (j : Fin 2) (a : Fin 512) (l : Fin 128) : EReal := if headLane j l then x4 (ix2 a l) else 0
/-- The outputs' gradient against the outputs. -/
def delP (j : Fin 2) (a : Fin 512) : EReal := ∑ l, (if headLane j l then x4 (ix2 a l) else 0) * x3 (ix2 a l)

theorem q_0 : m2 (k0_pay33 (F := Ideal) (hW x0 0)) = qP x0 0 := funext fun a => funext fun l => by
  show k0_pay33 (F := Ideal) (hW x0 0) (ix2 a l) = x0 (ix2 a (col 0 l))
  rw [← hW_ix x0 0 a l]; pointwise [k0_pay33]
theorem q_1 : m2 (k0_pay38 (F := Ideal) (hW x0 1)) = qP x0 1 := funext fun a => funext fun l => by
  show k0_pay38 (F := Ideal) (hW x0 1) (ix2 a l) = x0 (ix2 a (col 1 l))
  rw [← hW_ix x0 1 a l]; pointwise [k0_pay38]
theorem l_0 : c1 (k0_pay37 (F := Ideal) (lW x5 0)) = lP x5 0 := funext fun a => by
  show k0_pay37 (F := Ideal) (lW x5 0) (ix2 a 0) = _
  rw [pay37_ix, lW_ix]; rfl
theorem l_1 : c1 (k0_pay43 (F := Ideal) (lW x5 1)) = lP x5 1 := funext fun a => by
  show k0_pay43 (F := Ideal) (lW x5 1) (ix2 a 0) = _
  rw [pay43_ix, lW_ix]; rfl
theorem dom_0 : m2 (φ := .bf16) (k0_pay36 (F := Ideal) (wW x4)) = domP x4 0 := funext fun a => funext fun l => pay36_ix x4 a l
theorem dom_1 : m2 (φ := .bf16) (k0_pay42 (F := Ideal) k0_pay39 (wW x4)) = domP x4 1 := funext fun a => funext fun l => pay42_ix x4 a l
theorem del_0 : c1 (k0_pay35 (F := Ideal) (wW x4) (wW x3)) = delP x3 x4 0 := funext fun a => pay35_ix x4 x3 a
theorem del_1 : c1 (k0_pay41 (F := Ideal) k0_pay39 (wW x4) (wW x3)) = delP x3 x4 1 := funext fun a => pay41_ix x4 x3 a
end

section
variable (q : Fin 8) (x0 : S512x256.Idx → EReal) (x1 : S4096x256.Idx → EReal) (x2 : S4096x128.Idx → EReal) (x3 : S512x128.Idx → EReal) (x4 : S512x128.Idx → EReal) (x5 : S1x2x512x1.Idx → EReal)

/-- The gradient of a query, over every tile of keys. -/
def dqP (j : Fin 2) (a : Fin 512) (l : Fin 128) : EReal :=
  ∑ t : Fin 8, dqS (seen q t) (qP x0 j) (lP x5 j) (domP x4 j) (delP x3 x4 j) (kF x1 t j) (vF x2 t) a l
/-- A tile of queries' share of the gradient of a key. -/
def dkP (t : Fin 8) (j : Fin 2) (a : Fin 512) (l : Fin 128) : EReal :=
  dkS (seen q t) (qP x0 j) (lP x5 j) (domP x4 j) (delP x3 x4 j) (kF x1 t j) (vF x2 t) a l
/-- A tile of queries' share of the gradient of a value, over both heads. -/
def dvP (t : Fin 8) (a : Fin 512) (l : Fin 128) : EReal :=
  dvS (seen q t) (qP x0 0) (lP x5 0) (domP x4 0) (kF x1 t 0) a l + dvS (seen q t) (qP x0 1) (lP x5 1) (domP x4 1) (kF x1 t 1) a l
end

/-! ## The blocks -/

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
  (x0 : Vec Ideal S512x256 .bf16) (x1 : Vec Ideal S4096x256 .bf16) (x2 : Vec Ideal S4096x128 .bf16) (x3 : Vec Ideal S512x128 .f32) (x4 : Vec Ideal S512x128 .f32) (x5 : Vec Ideal S1x2x512x1 .f32)
  (xo7 : Vec Ideal S4096x256 .f32) (xo8 : Vec Ideal S4096x128 .f32)

theorem dq6_ix (d0 d1 : FVec Ideal S512x128 .f32) (j : Fin 2) (a : Fin 512) (l : Fin 128)
    (h0 : ∀ a l, d0 (ix2 a l) = ∑ t : Fin 8, if t.val < (qt i).val then dqS allSeen (qP x0 0) (lP x5 0) (domP x4 0) (delP x3 x4 0) (kF x1 t 0) (vF x2 t) a l else 0)
    (h1 : ∀ a l, d1 (ix2 a l) = ∑ t : Fin 8, if t.val < (qt i).val then dqS allSeen (qP x0 1) (lP x5 1) (domP x4 1) (delP x3 x4 1) (kF x1 t 1) (vF x2 t) a l else 0) :
    VO0_6.read (Elt Ideal) (VO0_6.writes (Elt Ideal) VO0_6.junk (dq6 i x0 x1 x2 x3 x4 x5 d0 d1)) (ix2 a (col j l))
      = dqP (qt i) x0 x1 x2 x3 x4 x5 j a l * (Consts.sc : EReal) := by
  unfold dq6
  have e1 : (![0, 128] : Fin 2 → ℕ) = ![0, 128 * (1 : Fin 2).val] := rfl
  have e0 : (![0, 0] : Fin 2 → ℕ) = ![0, 128 * (0 : Fin 2).val] := rfl
  rw [View.read_writes_cons_put _ _ _ _ _ e1, put_head, pay75_ix, View.read_writes_cons_put _ _ _ _ _ e0, put_head, pay74_ix, q_0, q_1, l_0, l_1, dom_0, dom_1, del_0, del_1,
    m2_kW, m2_kW, m2_vW, h0, h1]
  have hj : j = 0 ∨ j = 1 := by omega
  rcases hj with rfl | rfl
  · rw [if_neg (by decide), if_pos rfl]
    rw [sum_by_tile (qt i) (fun t s => dqS s (qP x0 0) (lP x5 0) (domP x4 0) (delP x3 x4 0) (kF x1 t 0) (vF x2 t) a l) (fun t => dqS_none ..)]
    rfl
  · rw [if_pos rfl]
    rw [sum_by_tile (qt i) (fun t s => dqS s (qP x0 1) (lP x5 1) (domP x4 1) (delP x3 x4 1) (kF x1 t 1) (vF x2 t) a l) (fun t => dqS_none ..)]
    rfl

/-- The loop and the diagonal tile together, in the block of the queries' gradient. -/
theorem all6_ix (G9 : arg9.view.ty.Contents (Elt Ideal)) (G10 : arg10.view.ty.Contents (Elt Ideal)) (j : Fin 2) (a : Fin 512) (l : Fin 128) :
    VO0_6.read (Elt Ideal) (VO0_6.writes (Elt Ideal) VO0_6.junk (dq6 i x0 x1 x2 x3 x4 x5
        (pointSt c i arg2 harg2 arg3 harg3 arg4 harg4 arg5 harg5 arg6 harg6 arg7 harg7 arg8 harg8 arg9 harg9 arg10 harg10 x0 x1 x2 x3 x4 x5 G9 G10).1.1 (pointSt c i arg2 harg2 arg3 harg3 arg4 harg4 arg5 harg5 arg6 harg6 arg7 harg7 arg8 harg8 arg9 harg9 arg10 harg10 x0 x1 x2 x3 x4 x5 G9 G10).1.2)) (ix2 a (col j l))
      = dqP (qt i) x0 x1 x2 x3 x4 x5 j a l * (Consts.sc : EReal) := by
  obtain ⟨h1, h2, -, -, -⟩ := loop_state c i arg2 harg2 arg3 harg3 arg4 harg4 arg5 harg5 arg6 harg6 arg7 harg7 arg8 harg8 arg9 harg9 arg10 harg10 (BitVec.ofNat 32 (i 1).val) (k0_pay33 (hW x0 0)) (k0_pay35 (wW x4) (wW x3)) (k0_pay36 (wW x4)) (k0_pay37 (lW x5 0)) (k0_pay38 (hW x0 1)) k0_pay39 (wW x4) (wW x3) (lW x5 1) x1 x2 G9 G10 (k0_t1_loop i).trips (le_of_eq (trips1 i))
  rw [q_0, l_0, dom_0, del_0, trips1] at h1
  rw [q_1, l_1, dom_1, del_1, trips1] at h2
  refine dq6_ix i x0 x1 x2 x3 x4 x5 _ _ j a l ?_ ?_
  · unfold pointSt; rw [trips1]; exact h1
  · unfold pointSt; rw [trips1]; exact h2

/-- The loop and the diagonal tile together, in the block of the keys' gradient. -/
theorem all9_ix (f G9 : arg9.view.ty.Contents (Elt Ideal)) (G10 : arg10.view.ty.Contents (Elt Ideal)) (Z : List (View.Piece (Elt Ideal) S4096x256 .f32))
    (hZ : arg9.view.writes (Elt Ideal) f Z = G9) (t : Fin 8) (j : Fin 2) (a : Fin 512) (l : Fin 128) :
    arg9.view.read (Elt Ideal) (arg9.view.writes (Elt Ideal) f (diag9 i arg9 (k0_pay33 (hW x0 0)) (k0_pay35 (wW x4) (wW x3)) (k0_pay36 (wW x4)) (k0_pay37 (lW x5 0)) (k0_pay38 (hW x0 1)) k0_pay39 (wW x4) (wW x3) (lW x5 1) x1 x2 f ((pointSt c i arg2 harg2 arg3 harg3 arg4 harg4 arg5 harg5 arg6 harg6 arg7 harg7 arg8 harg8 arg9 harg9 arg10 harg10 x0 x1 x2 x3 x4 x5 G9 G10).2.1 ++ Z))) (ix2 (row t a) (col j l))
      = arg9.view.read (Elt Ideal) G9 (ix2 (row t a) (col j l)) + dkP (qt i) x0 x1 x2 x3 x4 x5 t j a l := by
  obtain ⟨-, -, h1, h2, -⟩ := loop_state c i arg2 harg2 arg3 harg3 arg4 harg4 arg5 harg5 arg6 harg6 arg7 harg7 arg8 harg8 arg9 harg9 arg10 harg10 (BitVec.ofNat 32 (i 1).val) (k0_pay33 (hW x0 0)) (k0_pay35 (wW x4) (wW x3)) (k0_pay36 (wW x4)) (k0_pay37 (lW x5 0)) (k0_pay38 (hW x0 1)) k0_pay39 (wW x4) (wW x3) (lW x5 1) x1 x2 G9 G10 (k0_t1_loop i).trips (le_of_eq (trips1 i))
  have hj : j = 0 ∨ j = 1 := by omega
  rcases hj with rfl | rfl
  · rw [diag9_ix0, View.writes_append, hZ, h1 t a l, q_0, l_0, dom_0, del_0, trips1]
    exact by_tile (qt i) t (fun s => dkS s (qP x0 0) (lP x5 0) (domP x4 0) (delP x3 x4 0) (kF x1 t 0) (vF x2 t) a l) (dkS_none ..) _
  · rw [diag9_ix1, View.writes_append, hZ, h2 t a l, q_1, l_1, dom_1, del_1, trips1]
    exact by_tile (qt i) t (fun s => dkS s (qP x0 1) (lP x5 1) (domP x4 1) (delP x3 x4 1) (kF x1 t 1) (vF x2 t) a l) (dkS_none ..) _

/-- The loop and the diagonal tile together, in the block of the values' gradient. -/
theorem all10_ix (f G10 : arg10.view.ty.Contents (Elt Ideal)) (G9 : arg9.view.ty.Contents (Elt Ideal)) (Z : List (View.Piece (Elt Ideal) S4096x128 .f32))
    (hZ : arg10.view.writes (Elt Ideal) f Z = G10) (t : Fin 8) (a : Fin 512) (l : Fin 128) :
    arg10.view.read (Elt Ideal) (arg10.view.writes (Elt Ideal) f (diag10 i arg10 (k0_pay33 (hW x0 0)) (k0_pay36 (wW x4)) (k0_pay37 (lW x5 0)) (k0_pay38 (hW x0 1)) k0_pay39 (wW x4) (lW x5 1) x1 f ((pointSt c i arg2 harg2 arg3 harg3 arg4 harg4 arg5 harg5 arg6 harg6 arg7 harg7 arg8 harg8 arg9 harg9 arg10 harg10 x0 x1 x2 x3 x4 x5 G9 G10).2.2 ++ Z))) (ix2 (row t a) l)
      = arg10.view.read (Elt Ideal) G10 (ix2 (row t a) l) + dvP (qt i) x0 x1 x4 x5 t a l := by
  obtain ⟨-, -, -, -, h⟩ := loop_state c i arg2 harg2 arg3 harg3 arg4 harg4 arg5 harg5 arg6 harg6 arg7 harg7 arg8 harg8 arg9 harg9 arg10 harg10 (BitVec.ofNat 32 (i 1).val) (k0_pay33 (hW x0 0)) (k0_pay35 (wW x4) (wW x3)) (k0_pay36 (wW x4)) (k0_pay37 (lW x5 0)) (k0_pay38 (hW x0 1)) k0_pay39 (wW x4) (wW x3) (lW x5 1) x1 x2 G9 G10 (k0_t1_loop i).trips (le_of_eq (trips1 i))
  rw [diag10_ix, View.writes_append, hZ, h t a l, q_0, l_0, dom_0, q_1, l_1, dom_1, trips1]
  exact by_tile (qt i) t (fun s => dvS s (qP x0 0) (lP x5 0) (domP x4 0) (kF x1 t 0) a l + dvS s (qP x0 1) (lP x5 1) (domP x4 1) (kF x1 t 1) a l)
    (by rw [dvS_none, dvS_none, add_zero]) _

theorem zero9_ix (r : Fin 4096) (s : Fin 256) : arg9.view.read (Elt Ideal) (arg9.view.writes (Elt Ideal) arg9.view.junk zero9) (ix2 r s) = (0 : EReal) := by
  unfold zero9
  rw [View.read_writes_full]
  pointwise [k0_pay31]

theorem zero10_ix (r : Fin 4096) (s : Fin 128) : arg10.view.read (Elt Ideal) (arg10.view.writes (Elt Ideal) arg10.view.junk zero10) (ix2 r s) = (0 : EReal) := by
  unfold zero10
  rw [View.read_writes_full]
  pointwise [k0_pay32]

theorem out_A_6_ix (hc0 : cond0_0 i) (hc1 : ¬cond0_1 i) (j : Fin 2) (a : Fin 512) (l : Fin 128) :
    out0_A_6 c i arg2 harg2 arg3 harg3 arg4 harg4 arg5 harg5 arg6 harg6 arg7 harg7 arg8 harg8 arg9 harg9 arg10 harg10 hc0 hc1 x0 x1 x2 x3 x4 x5 (ix2 a (col j l)) = dqP (qt i) x0 x1 x2 x3 x4 x5 j a l * (Consts.sc : EReal) := by
  rw [out_A_6]; exact all6_ix ..

theorem out_A_7_ix (hc0 : cond0_0 i) (hc1 : ¬cond0_1 i) (t : Fin 8) (j : Fin 2) (a : Fin 512) (l : Fin 128) :
    out0_A_7 c i arg2 harg2 arg3 harg3 arg4 harg4 arg5 harg5 arg6 harg6 arg7 harg7 arg8 harg8 arg9 harg9 arg10 harg10 hc0 hc1 x0 x1 x2 x3 x4 x5 (ix2 (row t a) (col j l)) = dkP (qt i) x0 x1 x2 x3 x4 x5 t j a l := by
  rw [out_A_7, View.read_writes_junk_eq_canon, ← View.read_writes_junk_eq_canon arg9.view]
  refine (all9_ix c i arg2 harg2 arg3 harg3 arg4 harg4 arg5 harg5 arg6 harg6 arg7 harg7 arg8 harg8 arg9 harg9 arg10 harg10 x0 x1 x2 x3 x4 x5 _ _ _ zero9 rfl t j a l).trans ?_
  rw [zero9_ix, zero_add]

theorem out_A_8_ix (hc0 : cond0_0 i) (hc1 : ¬cond0_1 i) (t : Fin 8) (a : Fin 512) (l : Fin 128) :
    out0_A_8 c i arg2 harg2 arg3 harg3 arg4 harg4 arg5 harg5 arg6 harg6 arg7 harg7 arg8 harg8 arg9 harg9 arg10 harg10 hc0 hc1 x0 x1 x2 x3 x4 x5 (ix2 (row t a) l) = dvP (qt i) x0 x1 x4 x5 t a l := by
  rw [out_A_8, View.read_writes_junk_eq_canon, ← View.read_writes_junk_eq_canon arg10.view]
  refine (all10_ix c i arg2 harg2 arg3 harg3 arg4 harg4 arg5 harg5 arg6 harg6 arg7 harg7 arg8 harg8 arg9 harg9 arg10 harg10 x0 x1 x2 x3 x4 x5 _ _ _ zero10 rfl t a l).trans ?_
  rw [zero10_ix, zero_add]

theorem out_B_6_ix (hc0 : ¬cond0_0 i) (hc1 : ¬cond0_1 i) (j : Fin 2) (a : Fin 512) (l : Fin 128) :
    out0_B_6 c i arg2 harg2 arg3 harg3 arg4 harg4 arg5 harg5 arg6 harg6 arg7 harg7 arg8 harg8 arg9 harg9 arg10 harg10 hc0 hc1 x0 x1 x2 x3 x4 x5 xo7 xo8 (ix2 a (col j l)) = dqP (qt i) x0 x1 x2 x3 x4 x5 j a l * (Consts.sc : EReal) := by
  rw [out_B_6]; exact all6_ix ..

theorem out_B_7_ix (hc0 : ¬cond0_0 i) (hc1 : ¬cond0_1 i) (t : Fin 8) (j : Fin 2) (a : Fin 512) (l : Fin 128) :
    out0_B_7 c i arg2 harg2 arg3 harg3 arg4 harg4 arg5 harg5 arg6 harg6 arg7 harg7 arg8 harg8 arg9 harg9 arg10 harg10 hc0 hc1 x0 x1 x2 x3 x4 x5 xo7 xo8 (ix2 (row t a) (col j l)) = xo7 (ix2 (row t a) (col j l)) + dkP (qt i) x0 x1 x2 x3 x4 x5 t j a l := by
  rw [out_B_7, ← List.append_nil (pointSt c i arg2 harg2 arg3 harg3 arg4 harg4 arg5 harg5 arg6 harg6 arg7 harg7 arg8 harg8 arg9 harg9 arg10 harg10 x0 x1 x2 x3 x4 x5 (harg9.unread xo7) (harg10.unread xo8)).2.1]
  refine (all9_ix c i arg2 harg2 arg3 harg3 arg4 harg4 arg5 harg5 arg6 harg6 arg7 harg7 arg8 harg8 arg9 harg9 arg10 harg10 x0 x1 x2 x3 x4 x5 _ _ _ [] rfl t j a l).trans ?_
  rw [View.writes_nil, harg9.read_unread]

theorem out_B_8_ix (hc0 : ¬cond0_0 i) (hc1 : ¬cond0_1 i) (t : Fin 8) (a : Fin 512) (l : Fin 128) :
    out0_B_8 c i arg2 harg2 arg3 harg3 arg4 harg4 arg5 harg5 arg6 harg6 arg7 harg7 arg8 harg8 arg9 harg9 arg10 harg10 hc0 hc1 x0 x1 x2 x3 x4 x5 xo7 xo8 (ix2 (row t a) l) = xo8 (ix2 (row t a) l) + dvP (qt i) x0 x1 x4 x5 t a l := by
  rw [out_B_8, ← List.append_nil (pointSt c i arg2 harg2 arg3 harg3 arg4 harg4 arg5 harg5 arg6 harg6 arg7 harg7 arg8 harg8 arg9 harg9 arg10 harg10 x0 x1 x2 x3 x4 x5 (harg9.unread xo7) (harg10.unread xo8)).2.2]
  refine (all10_ix c i arg2 harg2 arg3 harg3 arg4 harg4 arg5 harg5 arg6 harg6 arg7 harg7 arg8 harg8 arg9 harg9 arg10 harg10 x0 x1 x2 x3 x4 x5 _ _ _ [] rfl t a l).trans ?_
  rw [View.writes_nil, harg10.read_unread]

theorem out_C_6_ix (hc0 : ¬cond0_0 i) (hc1 : cond0_1 i) (j : Fin 2) (a : Fin 512) (l : Fin 128) :
    out0_C_6 c i arg2 harg2 arg3 harg3 arg4 harg4 arg5 harg5 arg6 harg6 arg7 harg7 arg8 harg8 arg9 harg9 arg10 harg10 hc0 hc1 x0 x1 x2 x3 x4 x5 xo7 xo8 (ix2 a (col j l)) = dqP (qt i) x0 x1 x2 x3 x4 x5 j a l * (Consts.sc : EReal) := by
  rw [out_C_6]; exact all6_ix ..

theorem out_C_7_ix (hc0 : ¬cond0_0 i) (hc1 : cond0_1 i) (t : Fin 8) (j : Fin 2) (a : Fin 512) (l : Fin 128) :
    out0_C_7 c i arg2 harg2 arg3 harg3 arg4 harg4 arg5 harg5 arg6 harg6 arg7 harg7 arg8 harg8 arg9 harg9 arg10 harg10 hc0 hc1 x0 x1 x2 x3 x4 x5 xo7 xo8 (ix2 (row t a) (col j l)) = (xo7 (ix2 (row t a) (col j l)) + dkP (qt i) x0 x1 x2 x3 x4 x5 t j a l) * (Consts.sc : EReal) := by
  rw [out_C_7, View.read_writes_full, View.readAt_full, ← List.append_nil (pointSt c i arg2 harg2 arg3 harg3 arg4 harg4 arg5 harg5 arg6 harg6 arg7 harg7 arg8 harg8 arg9 harg9 arg10 harg10 x0 x1 x2 x3 x4 x5 (harg9.unread xo7) (harg10.unread xo8)).2.1]
  pointwise [k0_pay6]
  rw [Consts.ofBits_scale]
  congr 1
  refine (all9_ix c i arg2 harg2 arg3 harg3 arg4 harg4 arg5 harg5 arg6 harg6 arg7 harg7 arg8 harg8 arg9 harg9 arg10 harg10 x0 x1 x2 x3 x4 x5 _ _ _ [] rfl t j a l).trans ?_
  rw [View.writes_nil, harg9.read_unread]

theorem out_C_8_ix (hc0 : ¬cond0_0 i) (hc1 : cond0_1 i) (t : Fin 8) (a : Fin 512) (l : Fin 128) :
    out0_C_8 c i arg2 harg2 arg3 harg3 arg4 harg4 arg5 harg5 arg6 harg6 arg7 harg7 arg8 harg8 arg9 harg9 arg10 harg10 hc0 hc1 x0 x1 x2 x3 x4 x5 xo7 xo8 (ix2 (row t a) l) = xo8 (ix2 (row t a) l) + dvP (qt i) x0 x1 x4 x5 t a l := by
  rw [out_C_8, ← List.append_nil (pointSt c i arg2 harg2 arg3 harg3 arg4 harg4 arg5 harg5 arg6 harg6 arg7 harg7 arg8 harg8 arg9 harg9 arg10 harg10 x0 x1 x2 x3 x4 x5 (harg9.unread xo7) (harg10.unread xo8)).2.2]
  refine (all10_ix c i arg2 harg2 arg3 harg3 arg4 harg4 arg5 harg5 arg6 harg6 arg7 harg7 arg8 harg8 arg9 harg9 arg10 harg10 x0 x1 x2 x3 x4 x5 _ _ _ [] rfl t a l).trans ?_
  rw [View.writes_nil, harg10.read_unread]

end

end Cert.KernelIdeal.Bwd
end
-- ==== Proof.FwdPoint.lean ====
/-
  What one grid point of the forward attention kernel leaves in its two output blocks, when the point's scores and
  values are real numbers: the outputs' quotients and the log-sums, as sums over the keys that each query sees.
-/
module

public import proofs.«01_k».proof.Proof.FwdBlock
public import proofs.«01_k».proof.Proof.Point
public import proofs.«01_k».proof.Proof.Gen.FwdIdeal.Frame

@[expose] public section

set_option maxRecDepth 16384

noncomputable section

namespace Cert.FwdIdeal.Fwd

open Idealize.ShloMosaic Idealize.ShloMosaic.TcCoe Idealize.SL.Sem
open Cert.FwdIdeal Cert.FwdIdeal.Gen Cert.FwdMath
open Cert.KernelIdeal.Bwd (m2 c1 allSeen diagSeen headLane row col kW vW kW_ix vW_ix inb_tile inb_rows tile_word sum_lt_succ inb_hW hW hW_ix inb_lW seen sum_by_tile)

/-! ## The places of the loads -/

theorem trips_word : ∀ n : Fin 8,
    (⟨0#32, Scalar.addi (0#32) (Scalar.muli (Scalar.divsi (Scalar.subi (Scalar.muli (BitVec.ofNat 32 n.val) 1#32) 0#32) 1#32) 1#32), 1#32⟩ : Scf.Loop 32).trips = n.val := by
  decide +kernel

theorem trips_word2 : ∀ n : Fin 8,
    (⟨Scalar.addi (0#32) (Scalar.muli (Scalar.divsi (Scalar.subi (Scalar.muli (BitVec.ofNat 32 n.val) 1#32) 0#32) 1#32) 1#32),
      Scalar.addi (0#32) (Scalar.subi (Scalar.muli (BitVec.ofNat 32 n.val) 1#32) 0#32), 1#32⟩ : Scf.Loop 32).trips = 0 := by
  decide +kernel

/-- The loop below the diagonal runs over the tiles before the query's. -/
theorem trips1 (i : grid0.Coords) : (k0_t1_loop i).trips = (i 1).val := trips_word (i 1)

/-- What would be left of the loop does not run. -/
theorem trips2 (i : grid0.Coords) : (k0_t2_loop i).trips = 0 := trips_word2 (i 1)

theorem diag_word : ∀ n : Fin 8, (Scalar.indexCast (Scalar.addi (Scalar.muli (BitVec.ofNat 32 n.val) 512#32) 0#32)).toNat = 512 * n.val := by
  decide +kernel

/-- The tile of queries a grid point works on. -/
abbrev qt (i : grid0.Coords) : Fin 8 := i 1

section
variable (i : grid0.Coords)

/-- The tile of a trip. -/
def tileOf (k : Fin (k0_t1_loop i).trips) : Fin 8 := ⟨k.val, (lt_of_lt_of_eq k.isLt (trips1 i)).trans (i 1).isLt⟩

theorem off1_eq (k : Fin (k0_t1_loop i).trips) : k0_off1 i k = ![512 * (tileOf i k).val, 0] := by
  have h := tile_word (tileOf i k)
  unfold k0_off1; dsimp only; exact congrArg (fun n => (![n, 0] : Fin 2 → ℕ)) h

theorem off2_eq (k : Fin (k0_t1_loop i).trips) : k0_off2 i k = ![512 * (tileOf i k).val, 128 * (0 : Fin 2).val] := by
  have h := tile_word (tileOf i k)
  unfold k0_off2; dsimp only; exact congrArg (fun n => (![n, 0] : Fin 2 → ℕ)) h

theorem off3_eq (k : Fin (k0_t1_loop i).trips) : k0_off3 i k = ![512 * (tileOf i k).val, 128 * (1 : Fin 2).val] := by
  have h := tile_word (tileOf i k)
  unfold k0_off3; dsimp only; exact congrArg (fun n => (![n, 128] : Fin 2 → ℕ)) h

theorem off7_eq : k0_off7 i = ![512 * (qt i).val, 0] := by
  have h := diag_word (i 1)
  unfold k0_off7; dsimp only; exact congrArg (fun n => (![n, 0] : Fin 2 → ℕ)) h

theorem off8_eq : k0_off8 i = ![512 * (qt i).val, 128 * (0 : Fin 2).val] := by
  have h := diag_word (i 1)
  unfold k0_off8; dsimp only; exact congrArg (fun n => (![n, 0] : Fin 2 → ℕ)) h

theorem off9_eq : k0_off9 i = ![512 * (qt i).val, 128 * (1 : Fin 2).val] := by
  have h := diag_word (i 1)
  unfold k0_off9; dsimp only; exact congrArg (fun n => (![n, 128] : Fin 2 → ℕ)) h
end

theorem at_head0 : (![0, 0, 0, 0] : Fin 4 → ℕ) = ![0, (0 : Fin 2).val, 0, 0] := rfl
theorem at_head1 : (![0, 1, 0, 0] : Fin 4 → ℕ) = ![0, (1 : Fin 2).val, 0, 0] := rfl

/-- A store of a head's log-sums. -/
theorem put_lse {α : Type} (x : S1x2x512x1.Idx → α) (j : Fin 2) (w : S1x1x512x1.Idx → α) (j' : Fin 2) (a : Fin 512) :
    VecWindow.put x ![0, j.val, 0, 0] ![1, 1, 512, 1] w (ix4 0 j' a 0) = if j' = j then w (ix4 0 0 a 0) else x (ix4 0 j' a 0) := by
  unfold VecWindow.put
  by_cases h : j' = j
  · obtain rfl := h
    rw [if_pos rfl, dif_pos]
    · congr 1
      funext d
      apply Fin.ext
      refine Fin.cases ?_ (fun d => ?_) d
      · rfl
      · refine Fin.cases ?_ (fun d => ?_) d
        · show j'.val - j'.val = 0; omega
        · refine Fin.cases ?_ (fun d => ?_) d
          · show a.val - 0 = a.val; omega
          · refine Fin.cases ?_ (fun d => d.elim0) d
            rfl
    · intro d
      refine Fin.cases ?_ (fun d => ?_) d
      · show 0 ≤ 0 ∧ 0 < 0 + 1; omega
      · refine Fin.cases ?_ (fun d => ?_) d
        · show j'.val ≤ j'.val ∧ j'.val < j'.val + 1; omega
        · refine Fin.cases ?_ (fun d => ?_) d
          · show 0 ≤ a.val ∧ a.val < 0 + 512; omega
          · refine Fin.cases ?_ (fun d => d.elim0) d
            show 0 ≤ 0 ∧ 0 < 0 + 1; omega
  · rw [if_neg h, dif_neg]
    intro hh
    apply h
    have h1 : j.val ≤ j'.val ∧ j'.val < j.val + 1 := hh 1
    exact Fin.ext (by omega)

/-! ## Sums over a tile of keys -/

/-- A tile's addition to the sum of a query's weights. -/
def tL (s : Fin 512 → Fin 512 → Bool) (X : Fin 512 → Fin 512 → ℝ) (a : Fin 512) : ℝ := ∑ b, if s a b then Real.exp (X a b * Consts.sc) else 0

/-- Its addition to the weighted sum of the values. -/
def tV (s : Fin 512 → Fin 512 → Bool) (X : Fin 512 → Fin 512 → ℝ) (W : Fin 512 → Fin 128 → ℝ) (a : Fin 512) (d : Fin 128) : ℝ :=
  ∑ b, if s a b then Real.exp (X a b * Consts.sc) * W b d else 0

/-- One tile taken in. -/
theorem tile_step (s : Fin 512 → Fin 512 → Bool) (m l : FVec Ideal S512x1 .f32) (acc : FVec Ideal S512x128 .f32) (q k v : FVec Ideal S512x128 .bf16)
    {X : Fin 512 → Fin 512 → ℝ} {W : Fin 512 → Fin 128 → ℝ} {L : ℝ} {V : Fin 128 → ℝ} (a : Fin 512) (b₀ : Fin 512) (hb : s a b₀ = true)
    (hX : ∀ b, (∑ c, m2 q a c * m2 k b c) = (X a b : EReal)) (hW : ∀ b d, m2 v b d = (W b d : EReal))
    (h : Holds (c1 m a) (c1 l a) (fun d => acc (ix2 a d)) L V) :
    ∃ μ, At μ (mN (c1 m a) (sc2 s (m2 q) (m2 k) a)) (lN (c1 m a) (c1 l a) (sc2 s (m2 q) (m2 k) a))
      (fun d => aN (c1 m a) (acc (ix2 a d)) (sc2 s (m2 q) (m2 k) a) (fun b => m2 v b d)) (L + tL s X a) (fun d => V d + tV s X W a d) :=
  absorb (vis := s a) (x := X a) h (fun b => by unfold sc2; rw [hX]) hW b₀ hb

section
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S1x2x512x1 .f32) (harg6 : arg6.IsWhole)
  (x0 : Vec Ideal S512x256 .bf16) (x1 : Vec Ideal S4096x256 .bf16) (x2 : Vec Ideal S4096x128 .bf16)

/-! ## The loop -/

/-- What one trip carries on. -/
theorem trip_yield (k : Fin (k0_t1_loop i).trips)
    (acc : FVec Ideal S512x1 .f32 × FVec Ideal S512x1 .f32 × FVec Ideal S512x128 .f32 × FVec Ideal S512x1 .f32 × FVec Ideal S512x1 .f32 × FVec Ideal S512x128 .f32) :
    tripR_k0_t1 Variants.none c none i arg2 harg2 arg3 harg3 arg4 harg4 arg5 harg5 arg6 harg6 (hW x0 0) (hW x0 1) (harg3.unread x1) (harg4.unread x2) k acc
      = (k0_pay8 (k0_pay31 (hW x0 0)) acc.1 (kW x1 (tileOf i k) 0),
         k0_pay39 (k0_pay16 (k0_pay31 (hW x0 0)) acc.1 acc.2.1 (kW x1 (tileOf i k) 0)) (k0_pay17 (k0_pay31 (hW x0 0)) acc.1 (kW x1 (tileOf i k) 0)),
         k0_pay40 acc.2.2.1 (k0_pay12 (k0_pay31 (hW x0 0)) acc.1 (kW x1 (tileOf i k) 0)) (k0_pay14 (k0_pay31 (hW x0 0)) acc.1 (vW x2 (tileOf i k)) (kW x1 (tileOf i k) 0)),
         k0_pay9 (k0_pay32 (hW x0 1)) acc.2.2.2.1 (kW x1 (tileOf i k) 1),
         k0_pay41 acc.2.2.2.2.1 (k0_pay11 (k0_pay32 (hW x0 1)) acc.2.2.2.1 (kW x1 (tileOf i k) 1)) (k0_pay13 (k0_pay32 (hW x0 1)) acc.2.2.2.1 (kW x1 (tileOf i k) 1)),
         k0_pay42 acc.2.2.2.2.2 (k0_pay13 (k0_pay32 (hW x0 1)) acc.2.2.2.1 (kW x1 (tileOf i k) 1)) (k0_pay15 (k0_pay32 (hW x0 1)) acc.2.2.2.1 (vW x2 (tileOf i k)) (kW x1 (tileOf i k) 1))) := by
  have e4 : arg4.view.readAt (Elt Ideal) (Rect.unit (s := S4096x128) (k0_off1 i k) S512x128.size (k0_off1_inb i k)).toLoadRect (harg4.unread x2) = vW x2 (tileOf i k) := by
    rw [View.readAt_unit _ _ _ (off1_eq i k) (inb_rows _), harg4.read_unread]; rfl
  have e30 : arg3.view.readAt (Elt Ideal) (Rect.unit (s := S4096x256) (k0_off2 i k) S512x128.size (k0_off2_inb i k)).toLoadRect (harg3.unread x1) = kW x1 (tileOf i k) 0 := by
    rw [View.readAt_unit _ _ _ (off2_eq i k) (inb_tile _ _), harg3.read_unread]; rfl
  have e31 : arg3.view.readAt (Elt Ideal) (Rect.unit (s := S4096x256) (k0_off3 i k) S512x128.size (k0_off3_inb i k)).toLoadRect (harg3.unread x1) = kW x1 (tileOf i k) 1 := by
    rw [View.readAt_unit _ _ _ (off3_eq i k) (inb_tile _ _), harg3.read_unread]; rfl
  unfold tripR_k0_t1 trip_k0_t1
  dsimp only
  sl_unfold_words
  rw [← e4, ← e30, ← e31]
  rfl

/-- The loop's state before trip `k`. -/
abbrev loopSt (k : ℕ) := st_k0_t1 Variants.none c none i arg2 harg2 arg3 harg3 arg4 harg4 arg5 harg5 arg6 harg6 (hW x0 0) (hW x0 1) (harg3.unread x1) (harg4.unread x2) (k0_pay33, k0_pay34, k0_pay35, k0_pay36, k0_pay37, k0_pay38) k

variable {X : Fin 2 → Fin 8 → Fin 512 → Fin 512 → ℝ} {W : Fin 8 → Fin 512 → Fin 128 → ℝ}
  (hX : ∀ j t a b, (∑ e, x0 (ix2 a (col j e)) * x1 (ix2 (row t b) (col j e))) = (X j t a b : EReal))
  (hW' : ∀ t b d, x2 (ix2 (row t b) d) = (W t b d : EReal))

include hX in
theorem scores0 (t : Fin 8) (a b : Fin 512) : (∑ e, m2 (φ := .bf16) (k0_pay31 (F := Ideal) (hW x0 0)) a e * m2 (φ := .bf16) (kW x1 t 0) b e) = (X 0 t a b : EReal) := by
  rw [← hX]
  refine Finset.sum_congr rfl fun e _ => ?_
  unfold m2
  pointwise [k0_pay31]
  rw [hW_ix, kW_ix]

include hX in
theorem scores1 (t : Fin 8) (a b : Fin 512) : (∑ e, m2 (φ := .bf16) (k0_pay32 (F := Ideal) (hW x0 1)) a e * m2 (φ := .bf16) (kW x1 t 1) b e) = (X 1 t a b : EReal) := by
  rw [← hX]
  refine Finset.sum_congr rfl fun e _ => ?_
  unfold m2
  pointwise [k0_pay32]
  rw [hW_ix, kW_ix]

include hW' in
theorem values (t : Fin 8) (b : Fin 512) (d : Fin 128) : m2 (φ := .bf16) (vW x2 t) b d = (W t b d : EReal) := (vW_ix x2 t b d).trans (hW' t b d)

include hX hW' in
/-- The sums over the first `k` tiles, head by head. -/
theorem loop_state : ∀ (k : ℕ) (_ : k ≤ (i 1).val) (a : Fin 512),
    Holds (c1 (loopSt c i arg2 harg2 arg3 harg3 arg4 harg4 arg5 harg5 arg6 harg6 x0 x1 x2 k).1 a) (c1 (loopSt c i arg2 harg2 arg3 harg3 arg4 harg4 arg5 harg5 arg6 harg6 x0 x1 x2 k).2.1 a) (fun d => (loopSt c i arg2 harg2 arg3 harg3 arg4 harg4 arg5 harg5 arg6 harg6 x0 x1 x2 k).2.2.1 (ix2 a d))
      (∑ t : Fin 8, if t.val < k then tL allSeen (X 0 t) a else 0) (fun d => ∑ t : Fin 8, if t.val < k then tV allSeen (X 0 t) (W t) a d else 0)
    ∧ Holds (c1 (loopSt c i arg2 harg2 arg3 harg3 arg4 harg4 arg5 harg5 arg6 harg6 x0 x1 x2 k).2.2.2.1 a) (c1 (loopSt c i arg2 harg2 arg3 harg3 arg4 harg4 arg5 harg5 arg6 harg6 x0 x1 x2 k).2.2.2.2.1 a) (fun d => (loopSt c i arg2 harg2 arg3 harg3 arg4 harg4 arg5 harg5 arg6 harg6 x0 x1 x2 k).2.2.2.2.2 (ix2 a d))
      (∑ t : Fin 8, if t.val < k then tL allSeen (X 1 t) a else 0) (fun d => ∑ t : Fin 8, if t.val < k then tV allSeen (X 1 t) (W t) a d else 0) := by
  intro k
  induction k with
  | zero =>
    intro _ a
    have e : loopSt c i arg2 harg2 arg3 harg3 arg4 harg4 arg5 harg5 arg6 harg6 x0 x1 x2 0 = (k0_pay33, k0_pay34, k0_pay35, k0_pay36, k0_pay37, k0_pay38) := rfl
    rw [e]
    simp only [Nat.not_lt_zero, if_false, Finset.sum_const_zero]
    refine ⟨Or.inl ⟨?_, ?_, fun d => ?_, rfl, fun d => rfl⟩, Or.inl ⟨?_, ?_, fun d => ?_, rfl, fun d => rfl⟩⟩
    · unfold c1; pointwise [k0_pay33]; exact mask
    · unfold c1; pointwise [k0_pay34]
    · pointwise [k0_pay35]
    · unfold c1; pointwise [k0_pay36]; exact mask
    · unfold c1; pointwise [k0_pay37]
    · pointwise [k0_pay38]
  | succ k ih =>
    intro hk a
    obtain ⟨h1, h2⟩ := ih (by omega) a
    have hkt : k < (k0_t1_loop i).trips := by rw [trips1]; omega
    have e := st_k0_t1_succ Variants.none c none i arg2 harg2 arg3 harg3 arg4 harg4 arg5 harg5 arg6 harg6 (hW x0 0) (hW x0 1) (harg3.unread x1) (harg4.unread x2) (k0_pay33, k0_pay34, k0_pay35, k0_pay36, k0_pay37, k0_pay38) ⟨k, hkt⟩
    rw [trip_yield] at e
    change loopSt c i arg2 harg2 arg3 harg3 arg4 harg4 arg5 harg5 arg6 harg6 x0 x1 x2 (k + 1) = _ at e
    rw [e]
    clear e
    unfold loopSt at h1 h2
    dsimp only
    generalize st_k0_t1 Variants.none c none i arg2 harg2 arg3 harg3 arg4 harg4 arg5 harg5 arg6 harg6 (hW x0 0) (hW x0 1) (harg3.unread x1) (harg4.unread x2) (k0_pay33, k0_pay34, k0_pay35, k0_pay36, k0_pay37, k0_pay38) k = S at h1 h2 ⊢
    have r1 := tile_step allSeen S.1 S.2.1 S.2.2.1 (k0_pay31 (hW x0 0)) (kW x1 (tileOf i ⟨k, hkt⟩) 0) (vW x2 (tileOf i ⟨k, hkt⟩)) a a rfl
      (scores0 x0 x1 hX (tileOf i ⟨k, hkt⟩) a) (values x2 hW' (tileOf i ⟨k, hkt⟩)) h1
    have r2 := tile_step allSeen S.2.2.2.1 S.2.2.2.2.1 S.2.2.2.2.2 (k0_pay32 (hW x0 1)) (kW x1 (tileOf i ⟨k, hkt⟩) 1) (vW x2 (tileOf i ⟨k, hkt⟩)) a a rfl
      (scores1 x0 x1 hX (tileOf i ⟨k, hkt⟩) a) (values x2 hW' (tileOf i ⟨k, hkt⟩)) h2
    have s1 : ∀ f : Fin 8 → ℝ, (∑ t : Fin 8, if t.val < k + 1 then f t else 0) = (∑ t : Fin 8, if t.val < k then f t else 0) + f (tileOf i ⟨k, hkt⟩) :=
      fun f => sum_lt_succ (tileOf i ⟨k, hkt⟩) f
    simp only [s1]
    refine ⟨Or.inr ?_, Or.inr ?_⟩
    · obtain ⟨μ, u1, u2, u3⟩ := r1
      exact ⟨μ, (pay8_ix _ _ _ _).trans u1, (pay39_ix _ _ _ _ _).trans u2, fun d => (pay40_ix _ _ _ _ _ _ _).trans (u3 d)⟩
    · obtain ⟨μ, u1, u2, u3⟩ := r2
      exact ⟨μ, (pay9_ix _ _ _ _).trans u1, (pay41_ix _ _ _ _ _).trans u2, fun d => (pay42_ix _ _ _ _ _ _ _).trans (u3 d)⟩

/-- The loop that would run past the last tile below the diagonal leaves what it finds. -/
theorem rest_none (v0 v2 : FVec Ideal S512x128 .bf16) (v15 : BitVec 32) (X3 : arg3.view.ty.Contents (Elt Ideal)) (X4 : arg4.view.ty.Contents (Elt Ideal))
    (init : FVec Ideal S512x1 .f32 × FVec Ideal S512x1 .f32 × FVec Ideal S512x128 .f32 × FVec Ideal S512x1 .f32 × FVec Ideal S512x1 .f32 × FVec Ideal S512x128 .f32)
    (n : ℕ) (hn : n = 0) :
    st_k0_t2 Variants.none c none i arg2 harg2 arg3 harg3 arg4 harg4 arg5 harg5 arg6 harg6 v0 v2 v15 X3 X4 init n = init := by
  subst hn; rfl

/-! ## The point's results -/

/-- The loop's last state. -/
abbrev lastSt := loopSt c i arg2 harg2 arg3 harg3 arg4 harg4 arg5 harg5 arg6 harg6 x0 x1 x2 (k0_t1_loop i).trips

/-- The point's reads. -/
theorem point_reads :
    arg2.view.readAt (Elt Ideal) (Rect.unit (s := S512x256) ![0, 0] S512x128.size inb_S512x256_S512x128_0_0).toLoadRect (harg2.unread x0) = hW x0 0
    ∧ arg2.view.readAt (Elt Ideal) (Rect.unit (s := S512x256) ![0, 128] S512x128.size inb_S512x256_S512x128_0_128).toLoadRect (harg2.unread x0) = hW x0 1
    ∧ arg4.view.readAt (Elt Ideal) (Rect.unit (s := S4096x128) (k0_off7 i) S512x128.size (k0_off7_inb i)).toLoadRect (harg4.unread x2) = vW x2 (qt i)
    ∧ arg3.view.readAt (Elt Ideal) (Rect.unit (s := S4096x256) (k0_off8 i) S512x128.size (k0_off8_inb i)).toLoadRect (harg3.unread x1) = kW x1 (qt i) 0
    ∧ arg3.view.readAt (Elt Ideal) (Rect.unit (s := S4096x256) (k0_off9 i) S512x128.size (k0_off9_inb i)).toLoadRect (harg3.unread x1) = kW x1 (qt i) 1 := by
  refine ⟨?_, ?_, ?_, ?_, ?_⟩
  · rw [View.readAt_unit _ _ _ rfl (inb_hW 0), harg2.read_unread]; rfl
  · rw [View.readAt_unit _ _ _ rfl (inb_hW 1), harg2.read_unread]; rfl
  · rw [View.readAt_unit _ _ _ (off7_eq i) (inb_rows (qt i)), harg4.read_unread]; rfl
  · rw [View.readAt_unit _ _ _ (off8_eq i) (inb_tile (qt i) _), harg3.read_unread]; rfl
  · rw [View.readAt_unit _ _ _ (off9_eq i) (inb_tile (qt i) _), harg3.read_unread]; rfl

/-- The block of outputs, from the loop's last state. -/
theorem out_3 :
    out0_A_3 c i arg2 harg2 arg3 harg3 arg4 harg4 arg5 harg5 arg6 harg6 x0 x1 x2
      = k0_pay4 (lastSt c i arg2 harg2 arg3 harg3 arg4 harg4 arg5 harg5 arg6 harg6 x0 x1 x2).2.2.2.2.2
          (k0_pay60 (k0_pay32 (hW x0 1)) (lastSt c i arg2 harg2 arg3 harg3 arg4 harg4 arg5 harg5 arg6 harg6 x0 x1 x2).2.2.2.1 maskW (kW x1 (qt i) 1))
          (k0_pay61 (k0_pay32 (hW x0 1)) (lastSt c i arg2 harg2 arg3 harg3 arg4 harg4 arg5 harg5 arg6 harg6 x0 x1 x2).2.2.2.1 maskW (k0_pay51 (vW x2 (qt i))) (kW x1 (qt i) 1))
          (k0_pay62 (k0_pay31 (hW x0 0)) (lastSt c i arg2 harg2 arg3 harg3 arg4 harg4 arg5 harg5 arg6 harg6 x0 x1 x2).1 (lastSt c i arg2 harg2 arg3 harg3 arg4 harg4 arg5 harg5 arg6 harg6 x0 x1 x2).2.1 maskW (k0_pay52 (kW x1 (qt i) 0)) zeroW)
          (k0_pay63 (k0_pay31 (hW x0 0)) (lastSt c i arg2 harg2 arg3 harg3 arg4 harg4 arg5 harg5 arg6 harg6 x0 x1 x2).1 (lastSt c i arg2 harg2 arg3 harg3 arg4 harg4 arg5 harg5 arg6 harg6 x0 x1 x2).2.2.1 maskW (k0_pay51 (vW x2 (qt i))) (k0_pay52 (kW x1 (qt i) 0)) zeroW)
          (k0_pay64 (k0_pay32 (hW x0 1)) (lastSt c i arg2 harg2 arg3 harg3 arg4 harg4 arg5 harg5 arg6 harg6 x0 x1 x2).2.2.2.1 (lastSt c i arg2 harg2 arg3 harg3 arg4 harg4 arg5 harg5 arg6 harg6 x0 x1 x2).2.2.2.2.1 maskW (kW x1 (qt i) 1))
          (k0_pay65 (k0_pay32 (hW x0 1)) (lastSt c i arg2 harg2 arg3 harg3 arg4 harg4 arg5 harg5 arg6 harg6 x0 x1 x2).2.2.2.1 maskW (kW x1 (qt i) 1)) := by
  obtain ⟨e20, e21, e4, e30, e31⟩ := point_reads i arg2 harg2 arg3 harg3 arg4 harg4 x0 x1 x2
  unfold out0_A_3 kernelRun0_A lastSt loopSt maskW zeroW
  dsimp only
  sl_unfold_words
  rw [← e20, ← e21, ← e4, ← e30, ← e31]
  rw [rest_none]
  rotate_left
  · exact trips2 i
  exact View.read_writes_full _ _ _ _ _

/-- The block of log-sums, as its two stores. -/
theorem out_4 :
    out0_A_4 c i arg2 harg2 arg3 harg3 arg4 harg4 arg5 harg5 arg6 harg6 x0 x1 x2
      = VO0_4.read (Elt Ideal) (VO0_4.writes (Elt Ideal) VO0_4.junk
          [⟨Rect.unit (s := S1x2x512x1) ![0, 1, 0, 0] ![1, 1, 512, 1] inb_S1x2x512x1_S1x1x512x1_0_1_0_0,
              k0_pay3 (k0_pay56 (k0_pay32 (hW x0 1)) (lastSt c i arg2 harg2 arg3 harg3 arg4 harg4 arg5 harg5 arg6 harg6 x0 x1 x2).2.2.2.1 maskW (kW x1 (qt i) 1))
                (k0_pay64 (k0_pay32 (hW x0 1)) (lastSt c i arg2 harg2 arg3 harg3 arg4 harg4 arg5 harg5 arg6 harg6 x0 x1 x2).2.2.2.1 (lastSt c i arg2 harg2 arg3 harg3 arg4 harg4 arg5 harg5 arg6 harg6 x0 x1 x2).2.2.2.2.1 maskW (kW x1 (qt i) 1))
                (k0_pay65 (k0_pay32 (hW x0 1)) (lastSt c i arg2 harg2 arg3 harg3 arg4 harg4 arg5 harg5 arg6 harg6 x0 x1 x2).2.2.2.1 maskW (kW x1 (qt i) 1))⟩,
           ⟨Rect.unit (s := S1x2x512x1) ![0, 0, 0, 0] ![1, 1, 512, 1] inb_S1x2x512x1_S1x1x512x1_0_0_0_0,
              k0_pay2 (k0_pay55 (k0_pay31 (hW x0 0)) (lastSt c i arg2 harg2 arg3 harg3 arg4 harg4 arg5 harg5 arg6 harg6 x0 x1 x2).1 maskW (k0_pay52 (kW x1 (qt i) 0)) zeroW)
                (k0_pay62 (k0_pay31 (hW x0 0)) (lastSt c i arg2 harg2 arg3 harg3 arg4 harg4 arg5 harg5 arg6 harg6 x0 x1 x2).1 (lastSt c i arg2 harg2 arg3 harg3 arg4 harg4 arg5 harg5 arg6 harg6 x0 x1 x2).2.1 maskW (k0_pay52 (kW x1 (qt i) 0)) zeroW)⟩]) := by
  obtain ⟨e20, e21, e4, e30, e31⟩ := point_reads i arg2 harg2 arg3 harg3 arg4 harg4 x0 x1 x2
  unfold out0_A_4 kernelRun0_A lastSt loopSt maskW zeroW
  dsimp only
  sl_unfold_words
  rw [← e20, ← e21, ← e30, ← e31]
  rw [rest_none]
  rotate_left
  · exact trips2 i
  rfl

/-- The sum of a query's weights over the keys it sees. -/
def pL (X : Fin 2 → Fin 8 → Fin 512 → Fin 512 → ℝ) (q : Fin 8) (j : Fin 2) (a : Fin 512) : ℝ := ∑ t, tL (seen q t) (X j t) a

/-- The sum of the values by those weights. -/
def pV (X : Fin 2 → Fin 8 → Fin 512 → Fin 512 → ℝ) (W : Fin 8 → Fin 512 → Fin 128 → ℝ) (q : Fin 8) (j : Fin 2) (a : Fin 512) (d : Fin 128) : ℝ :=
  ∑ t, tV (seen q t) (X j t) (W t) a d

theorem tL_nonneg (s : Fin 512 → Fin 512 → Bool) (X : Fin 512 → Fin 512 → ℝ) (a : Fin 512) : 0 ≤ tL s X a :=
  Finset.sum_nonneg fun b _ => by split_ifs; exacts [(Real.exp_pos _).le, le_rfl]

/-- A query sees itself. -/
theorem pL_pos (X : Fin 2 → Fin 8 → Fin 512 → Fin 512 → ℝ) (q : Fin 8) (j : Fin 2) (a : Fin 512) : 0 < pL X q j a := by
  refine Finset.sum_pos' (fun t _ => tL_nonneg _ _ _) ⟨q, Finset.mem_univ q, ?_⟩
  refine Finset.sum_pos' (fun b _ => by split_ifs; exacts [(Real.exp_pos _).le, le_rfl]) ⟨a, Finset.mem_univ a, ?_⟩
  rw [if_pos (show seen q q a a = true from decide_eq_true le_rfl)]
  exact Real.exp_pos _

theorem pL_tiles (X : Fin 2 → Fin 8 → Fin 512 → Fin 512 → ℝ) (q : Fin 8) (j : Fin 2) (a : Fin 512) :
    (∑ t : Fin 8, if t.val < q.val then tL allSeen (X j t) a else 0) + tL diagSeen (X j q) a = pL X q j a :=
  sum_by_tile q (fun t s => tL s (X j t) a) fun t => Finset.sum_eq_zero fun b _ => if_neg (by simp)

theorem pV_tiles (X : Fin 2 → Fin 8 → Fin 512 → Fin 512 → ℝ) (W : Fin 8 → Fin 512 → Fin 128 → ℝ) (q : Fin 8) (j : Fin 2) (a : Fin 512) (d : Fin 128) :
    (∑ t : Fin 8, if t.val < q.val then tV allSeen (X j t) (W t) a d else 0) + tV diagSeen (X j q) (W q) a d = pV X W q j a d :=
  sum_by_tile q (fun t s => tV s (X j t) (W t) a d) fun t => Finset.sum_eq_zero fun b _ => if_neg (by simp)

include hX hW' in
/-- The state after the diagonal tile. -/
theorem final_state (a : Fin 512) :
    (∃ μ, At μ (mN (c1 (lastSt c i arg2 harg2 arg3 harg3 arg4 harg4 arg5 harg5 arg6 harg6 x0 x1 x2).1 a) (sc2 diagSeen (m2 (φ := .bf16) (k0_pay31 (F := Ideal) (hW x0 0))) (m2 (φ := .bf16) (kW x1 (qt i) 0)) a))
        (lN (c1 (lastSt c i arg2 harg2 arg3 harg3 arg4 harg4 arg5 harg5 arg6 harg6 x0 x1 x2).1 a) (c1 (lastSt c i arg2 harg2 arg3 harg3 arg4 harg4 arg5 harg5 arg6 harg6 x0 x1 x2).2.1 a) (sc2 diagSeen (m2 (φ := .bf16) (k0_pay31 (F := Ideal) (hW x0 0))) (m2 (φ := .bf16) (kW x1 (qt i) 0)) a))
        (fun d => aN (c1 (lastSt c i arg2 harg2 arg3 harg3 arg4 harg4 arg5 harg5 arg6 harg6 x0 x1 x2).1 a) ((lastSt c i arg2 harg2 arg3 harg3 arg4 harg4 arg5 harg5 arg6 harg6 x0 x1 x2).2.2.1 (ix2 a d)) (sc2 diagSeen (m2 (φ := .bf16) (k0_pay31 (F := Ideal) (hW x0 0))) (m2 (φ := .bf16) (kW x1 (qt i) 0)) a)
          (fun b => m2 (φ := .bf16) (vW x2 (qt i)) b d))
        (pL X (qt i) 0 a) (fun d => pV X W (qt i) 0 a d))
    ∧ ∃ μ, At μ (mN (c1 (lastSt c i arg2 harg2 arg3 harg3 arg4 harg4 arg5 harg5 arg6 harg6 x0 x1 x2).2.2.2.1 a) (sc2 diagSeen (m2 (φ := .bf16) (k0_pay32 (F := Ideal) (hW x0 1))) (m2 (φ := .bf16) (kW x1 (qt i) 1)) a))
        (lN (c1 (lastSt c i arg2 harg2 arg3 harg3 arg4 harg4 arg5 harg5 arg6 harg6 x0 x1 x2).2.2.2.1 a) (c1 (lastSt c i arg2 harg2 arg3 harg3 arg4 harg4 arg5 harg5 arg6 harg6 x0 x1 x2).2.2.2.2.1 a) (sc2 diagSeen (m2 (φ := .bf16) (k0_pay32 (F := Ideal) (hW x0 1))) (m2 (φ := .bf16) (kW x1 (qt i) 1)) a))
        (fun d => aN (c1 (lastSt c i arg2 harg2 arg3 harg3 arg4 harg4 arg5 harg5 arg6 harg6 x0 x1 x2).2.2.2.1 a) ((lastSt c i arg2 harg2 arg3 harg3 arg4 harg4 arg5 harg5 arg6 harg6 x0 x1 x2).2.2.2.2.2 (ix2 a d)) (sc2 diagSeen (m2 (φ := .bf16) (k0_pay32 (F := Ideal) (hW x0 1))) (m2 (φ := .bf16) (kW x1 (qt i) 1)) a)
          (fun b => m2 (φ := .bf16) (vW x2 (qt i)) b d))
        (pL X (qt i) 1 a) (fun d => pV X W (qt i) 1 a d) := by
  obtain ⟨h1, h2⟩ := loop_state c i arg2 harg2 arg3 harg3 arg4 harg4 arg5 harg5 arg6 harg6 x0 x1 x2 hX hW' (qt i).val le_rfl a
  have hd : diagSeen a a = true := decide_eq_true le_rfl
  have e : lastSt c i arg2 harg2 arg3 harg3 arg4 harg4 arg5 harg5 arg6 harg6 x0 x1 x2 = loopSt c i arg2 harg2 arg3 harg3 arg4 harg4 arg5 harg5 arg6 harg6 x0 x1 x2 (qt i).val := congrArg (fun n => loopSt c i arg2 harg2 arg3 harg3 arg4 harg4 arg5 harg5 arg6 harg6 x0 x1 x2 n) (trips1 i)
  have r1 := tile_step diagSeen _ _ _ (k0_pay31 (hW x0 0)) (kW x1 (qt i) 0) (vW x2 (qt i)) a a hd (scores0 x0 x1 hX (qt i) a) (values x2 hW' (qt i)) h1
  have r2 := tile_step diagSeen _ _ _ (k0_pay32 (hW x0 1)) (kW x1 (qt i) 1) (vW x2 (qt i)) a a hd (scores1 x0 x1 hX (qt i) a) (values x2 hW' (qt i)) h2
  simp only [pL_tiles, pV_tiles] at r1 r2
  rw [e]
  exact ⟨r1, r2⟩

include hX hW' in
/-- An output is the quotient of its head's two sums. -/
theorem out_3_ix (a : Fin 512) (d : Fin 128) :
    out0_A_3 c i arg2 harg2 arg3 harg3 arg4 harg4 arg5 harg5 arg6 harg6 x0 x1 x2 (ix2 a d)
      = if headLane 0 d then ((pV X W (qt i) 0 a d / pL X (qt i) 0 a : ℝ) : EReal) else ((pV X W (qt i) 1 a d / pL X (qt i) 1 a : ℝ) : EReal) := by
  obtain ⟨⟨μ, h0⟩, ν, h1⟩ := final_state c i arg2 harg2 arg3 harg3 arg4 harg4 arg5 harg5 arg6 harg6 x0 x1 x2 hX hW' a
  rw [out_3, pay4_ix, h0.quot (pL_pos X _ _ _), h1.quot (pL_pos X _ _ _)]

include hX hW' in
/-- A log-sum is the logarithm of its head's sum of weights. -/
theorem out_4_ix (j : Fin 2) (a : Fin 512) :
    out0_A_4 c i arg2 harg2 arg3 harg3 arg4 harg4 arg5 harg5 arg6 harg6 x0 x1 x2 (ix4 0 j a 0) = ((Real.log (pL X (qt i) j a) : ℝ) : EReal) := by
  obtain ⟨⟨μ, h0⟩, ν, h1⟩ := final_state c i arg2 harg2 arg3 harg3 arg4 harg4 arg5 harg5 arg6 harg6 x0 x1 x2 hX hW' a
  rw [out_4, View.read_writes_cons_put _ _ _ _ _ at_head1, put_lse,
    View.read_writes_cons_put _ _ _ _ _ at_head0, put_lse, pay3_ix, pay2_ix,
    h0.logsum (pL_pos X _ _ _), h1.logsum (pL_pos X _ _ _)]
  fin_cases j
  · rfl
  · rfl
end

end Cert.FwdIdeal.Fwd
end
-- ==== Proof.Points.lean ====
/-
  The points of a pair of heads together: the blocks of the gradients of keys and values after each of them.
-/
module

public import proofs.«01_k».proof.Proof.Point
public import Idealize.ShloMosaic.Lib.Pipeline.ValueKit

@[expose] public section

set_option maxRecDepth 16384

noncomputable section

namespace Cert.KernelIdeal.Bwd

open Idealize.ShloMosaic Idealize.ShloMosaic.TcCoe Idealize.SL.Sem
open Cert.KernelIdeal Cert.KernelIdeal.Gen

/-- The point of pair `p` and query tile `q`. -/
def pt (p q : Fin 8) : Fin cfg0.N := ⟨8 * p.val + q.val, lt_of_lt_of_eq (by omega : 8 * p.val + q.val < 64) N_0.symm⟩

theorem pt_surj (t : Fin cfg0.N) : ∃ p q, t = pt p q :=
  have h : t.val < 64 := lt_of_lt_of_eq t.isLt N_0
  ⟨⟨t.val / 8, by omega⟩, ⟨t.val % 8, by omega⟩, Fin.ext (by show t.val = 8 * (t.val / 8) + t.val % 8; omega)⟩

theorem qt_coords : ∀ t : Fin cfg0.N, (qt (grid0.coords t)).val = t.val % 8 := by decide +kernel

theorem qt_pt (p q : Fin 8) : qt (grid0.coords (pt p q)) = q :=
  Fin.ext ((qt_coords _).trans (by show (8 * p.val + q.val) % 8 = q.val; omega))

section
variable (m : (ℓ : Loc nD τ sig) → Buf (Elt Ideal) ℓ) (c : Dev nD)

/-- A query tile's share of the gradients of the keys. -/
def dkT (p q t : Fin 8) (j : Fin 2) (a : Fin 512) (l : Fin 128) : EReal := dkP q (iblk m c 0 (pt p q)) (iblk m c 1 (pt p q)) (iblk m c 2 (pt p q)) (iblk m c 3 (pt p q)) (iblk m c 4 (pt p q)) (iblk m c 5 (pt p q)) t j a l
/-- A query tile's share of the gradients of the values. -/
def dvT (p q t : Fin 8) (a : Fin 512) (l : Fin 128) : EReal := dvP q (iblk m c 0 (pt p q)) (iblk m c 1 (pt p q)) (iblk m c 4 (pt p q)) (iblk m c 5 (pt p q)) t a l

theorem out6 (p q : Fin 8) (j : Fin 2) (a : Fin 512) (l : Fin 128) :
    (outsAt0 m c (pt p q).val (pt p q).isLt).1 (ix2 a (col j l)) = dqP q (iblk m c 0 (pt p q)) (iblk m c 1 (pt p q)) (iblk m c 2 (pt p q)) (iblk m c 3 (pt p q)) (iblk m c 4 (pt p q)) (iblk m c 5 (pt p q)) j a l * (Consts.sc : EReal) := by
  by_cases h0 : (pt p q).val % 8 = 0
  · rw [outsAt0_A m c (pt p q) h0 (by omega)]
    dsimp only
    rw [out_A_6_ix, qt_pt]
  · by_cases h1 : (pt p q).val % 8 = 7
    · rw [outsAt0_C m c (pt p q) h0 h1]
      dsimp only
      rw [out_C_6_ix, qt_pt]
    · rw [outsAt0_B m c (pt p q) h0 h1]
      dsimp only
      rw [out_B_6_ix, qt_pt]

theorem outsAt_congr {n n' : ℕ} (h : n = n') (hn : n < cfg0.N) (hn' : n' < cfg0.N) : outsAt0 m c n hn = outsAt0 m c n' hn' := by
  subst h; rfl

theorem sum_le_zero (f : Fin 8 → EReal) : (∑ q : Fin 8, if q.val ≤ 0 then f q else 0) = f 0 := by
  rw [Finset.sum_eq_single (0 : Fin 8) (fun q _ h => if_neg (fun e => h (Fin.ext (by show q.val = 0; omega)))) (fun h => absurd (Finset.mem_univ _) h)]
  exact if_pos (le_refl _)

theorem sum_le_succ (k : Fin 8) (n : ℕ) (hk : k.val = n + 1) (f : Fin 8 → EReal) :
    (∑ q : Fin 8, if q.val ≤ n + 1 then f q else 0) = (∑ q : Fin 8, if q.val ≤ n then f q else 0) + f k := by
  have h := sum_lt_succ k f
  have e1 : ∀ q : Fin 8, (q.val < k.val + 1) = (q.val ≤ n + 1) := fun q => propext (by omega)
  have e2 : ∀ q : Fin 8, (q.val < k.val) = (q.val ≤ n) := fun q => propext (by omega)
  simpa only [e1, e2] using h

/-- Before a pair's last point the blocks hold the sum of the shares so far. -/
theorem out78 (p : Fin 8) : ∀ (n : ℕ) (hn : n < 7),
    (∀ t j a l, (outsAt0 m c (pt p ⟨n, by omega⟩).val (pt p ⟨n, by omega⟩).isLt).2.1 (ix2 (row t a) (col j l)) = ∑ q : Fin 8, if q.val ≤ n then dkT m c p q t j a l else 0)
    ∧ (∀ t a l, (outsAt0 m c (pt p ⟨n, by omega⟩).val (pt p ⟨n, by omega⟩).isLt).2.2 (ix2 (row t a) l) = ∑ q : Fin 8, if q.val ≤ n then dvT m c p q t a l else 0) := by
  intro n
  induction n with
  | zero =>
    intro hn
    have h0 : (pt p ⟨0, by omega⟩).val % 8 = 0 := by show (8 * p.val + 0) % 8 = 0; omega
    rw [outsAt0_A m c (pt p ⟨0, by omega⟩) h0 (by omega)]
    refine ⟨fun t j a l => ?_, fun t a l => ?_⟩
    · rw [sum_le_zero]
      dsimp only
      rw [out_A_7_ix, qt_pt]; rfl
    · rw [sum_le_zero]
      dsimp only
      rw [out_A_8_ix, qt_pt]; rfl
  | succ n ih =>
    intro hn
    obtain ⟨i7, i8⟩ := ih (by omega)
    have h0 : ¬(pt p ⟨n + 1, by omega⟩).val % 8 = 0 := by show ¬(8 * p.val + (n + 1)) % 8 = 0; omega
    have h1 : ¬(pt p ⟨n + 1, by omega⟩).val % 8 = 7 := by show ¬(8 * p.val + (n + 1)) % 8 = 7; omega
    rw [outsAt0_B m c (pt p ⟨n + 1, by omega⟩) h0 h1, outsAt_congr m c (show (pt p ⟨n + 1, by omega⟩).val - 1 = (pt p ⟨n, by omega⟩).val from rfl) _ (pt p ⟨n, by omega⟩).isLt]
    refine ⟨fun t j a l => ?_, fun t a l => ?_⟩
    · rw [sum_le_succ ⟨n + 1, by omega⟩ n rfl, ← i7 t j a l]
      dsimp only
      rw [out_B_7_ix, qt_pt]; rfl
    · rw [sum_le_succ ⟨n + 1, by omega⟩ n rfl, ← i8 t a l]
      dsimp only
      rw [out_B_8_ix, qt_pt]; rfl

theorem sum_le_seven (f : Fin 8 → EReal) : (∑ q : Fin 8, if q.val ≤ 6 then f q else 0) + f 7 = ∑ q : Fin 8, f q := by
  rw [← sum_le_succ 7 6 rfl]
  exact Finset.sum_congr rfl fun q _ => if_pos (by omega)

/-- After its last point the keys' block holds the scaled sum of all shares. -/
theorem out7 (p t : Fin 8) (j : Fin 2) (a : Fin 512) (l : Fin 128) :
    (outsAt0 m c (pt p 7).val (pt p 7).isLt).2.1 (ix2 (row t a) (col j l)) = (∑ q : Fin 8, dkT m c p q t j a l) * (Consts.sc : EReal) := by
  have h0 : ¬(pt p 7).val % 8 = 0 := by show ¬(8 * p.val + 7) % 8 = 0; omega
  have h1 : (pt p 7).val % 8 = 7 := by show (8 * p.val + 7) % 8 = 7; omega
  rw [outsAt0_C m c (pt p 7) h0 h1, outsAt_congr m c (show (pt p 7).val - 1 = (pt p ⟨6, by omega⟩).val from rfl) _ (pt p ⟨6, by omega⟩).isLt, ← sum_le_seven, ← (out78 m c p 6 (by omega)).1 t j a l]
  dsimp only
  rw [out_C_7_ix, qt_pt]; rfl

/-- After its last point the values' block holds the sum of all shares. -/
theorem out8 (p t : Fin 8) (a : Fin 512) (l : Fin 128) :
    (outsAt0 m c (pt p 7).val (pt p 7).isLt).2.2 (ix2 (row t a) l) = ∑ q : Fin 8, dvT m c p q t a l := by
  have h0 : ¬(pt p 7).val % 8 = 0 := by show ¬(8 * p.val + 7) % 8 = 0; omega
  have h1 : (pt p 7).val % 8 = 7 := by show (8 * p.val + 7) % 8 = 7; omega
  rw [outsAt0_C m c (pt p 7) h0 h1, outsAt_congr m c (show (pt p 7).val - 1 = (pt p ⟨6, by omega⟩).val from rfl) _ (pt p ⟨6, by omega⟩).isLt, ← sum_le_seven, ← (out78 m c p 6 (by omega)).2 t a l]
  dsimp only
  rw [out_C_8_ix, qt_pt]; rfl
end

end Cert.KernelIdeal.Bwd
end
-- ==== Proof.Arrays.lean ====
/-
  What the kernel's three result arrays hold at the end, head by head, as sums over all positions.
-/
module

public import proofs.«01_k».proof.Proof.Points

@[expose] public section

set_option maxRecDepth 16384

noncomputable section

namespace Cert.KernelIdeal.Bwd

open Idealize.ShloMosaic Idealize.ShloMosaic.TcCoe Idealize.SL.Sem
open Cert.KernelIdeal Cert.KernelIdeal.Gen

/-- A query sees the keys of its own chunk of 64 positions and of those before. -/
def seenG (r s : Fin 4096) : Bool := decide (s.val / 64 ≤ r.val / 64)

theorem sum_rows {M : Type*} [AddCommMonoid M] (f : Fin 4096 → M) : (∑ t : Fin 8, ∑ b : Fin 512, f (row t b)) = ∑ s : Fin 4096, f s := by
  rw [← Fintype.sum_prod_type' (fun t b => f (row t b))]
  refine Fintype.sum_bijective (fun x : Fin 8 × Fin 512 => row x.1 x.2) ⟨?_, ?_⟩ _ _ fun x => rfl
  · rintro ⟨t, a⟩ ⟨t', a'⟩ h
    have h' : 512 * t.val + a.val = 512 * t'.val + a'.val := congrArg Fin.val h
    exact Prod.ext (Fin.ext (by show t.val = t'.val; omega)) (Fin.ext (by show a.val = a'.val; omega))
  · intro s
    obtain ⟨t, a, rfl⟩ := row_surj s
    exact ⟨(t, a), rfl⟩

/-- Lane `l` of head `j` of pair `p`. -/
def lane (p : Fin 8) (j : Fin 2) (l : Fin 128) : Fin 2048 := ⟨256 * p.val + (col j l).val, by have := (col j l).isLt; omega⟩

/-- Lane `l` of pair `p`'s shared 128. -/
def lane2 (p : Fin 8) (l : Fin 128) : Fin 1024 := ⟨128 * p.val + l.val, by omega⟩

section
variable (m : (ℓ : Loc nD τ sig) → Buf (Elt Ideal) ℓ) (c : Dev nD)

/-- The arrays the kernel reads. -/
abbrev arrQ : S4096x2048.Idx → EReal := V m c main_v26
abbrev arrK : S4096x2048.Idx → EReal := V m c main_v29
abbrev arrV : S4096x1024.Idx → EReal := V m c main_v31
abbrev arrO : S4096x1024.Idx → EReal := V m c main_v32
abbrev arrD : S4096x1024.Idx → EReal := V m c main_arg3
abbrev arrL : S8x2x4096x1.Idx → EReal := V m c main_v33

def qH (p : Fin 8) (j : Fin 2) (r : Fin 4096) (l : Fin 128) : EReal := arrQ m c (ix2 r (lane p j l))
def kH (p : Fin 8) (j : Fin 2) (r : Fin 4096) (l : Fin 128) : EReal := arrK m c (ix2 r (lane p j l))
def vH (p : Fin 8) (r : Fin 4096) (l : Fin 128) : EReal := arrV m c (ix2 r (lane2 p l))
def lH (p : Fin 8) (j : Fin 2) (r : Fin 4096) : EReal := arrL m c (ix4 p j r 0) * (((Real.log 2)⁻¹ : ℝ) : EReal)
def domH (p : Fin 8) (j : Fin 2) (r : Fin 4096) (l : Fin 128) : EReal := if headLane j l then arrD m c (ix2 r (lane2 p l)) else 0
def delH (p : Fin 8) (j : Fin 2) (r : Fin 4096) : EReal :=
  ∑ l, (if headLane j l then arrD m c (ix2 r (lane2 p l)) else 0) * arrO m c (ix2 r (lane2 p l))

/-- The windows' places on the grid. -/
theorem idx : ∀ t : Fin cfg0.N,
    win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![t.val / 8, 0, t.val % 8, 0]
    ∧ win0_6.index t = ![t.val % 8, t.val / 8] ∧ win0_7.index t = ![0, t.val / 8] ∧ win0_8.index t = ![0, t.val / 8] := by
  decide +kernel

theorem pt_mod (p q : Fin 8) : (pt p q).val % 8 = q.val := by show (8 * p.val + q.val) % 8 = q.val; omega
theorem pt_div (p q : Fin 8) : (pt p q).val / 8 = p.val := by show (8 * p.val + q.val) / 8 = p.val; omega

theorem blk0 (p q : Fin 8) (a : Fin 512) (j : Fin 2) (l : Fin 128) : iblk m c 0 (pt p q) (ix2 a (col j l)) = qH m c p j (row q a) l := by
  obtain ⟨h, -⟩ := idx (pt p q)
  rw [pt_mod, pt_div] at h
  unfold qH arrQ lane row
  blk_ext [iblk, h]

theorem blk1 (p q : Fin 8) (r : Fin 4096) (j : Fin 2) (l : Fin 128) : iblk m c 1 (pt p q) (ix2 r (col j l)) = kH m c p j r l := by
  obtain ⟨-, h, -⟩ := idx (pt p q)
  rw [pt_div] at h
  unfold kH arrK lane
  blk_ext [iblk, h]

theorem blk2 (p q : Fin 8) (r : Fin 4096) (l : Fin 128) : iblk m c 2 (pt p q) (ix2 r l) = vH m c p r l := by
  obtain ⟨-, -, h, -⟩ := idx (pt p q)
  rw [pt_div] at h
  unfold vH arrV lane2
  blk_ext [iblk, h]

theorem blk3 (p q : Fin 8) (a : Fin 512) (l : Fin 128) : iblk m c 3 (pt p q) (ix2 a l) = arrO m c (ix2 (row q a) (lane2 p l)) := by
  obtain ⟨-, -, -, h, -⟩ := idx (pt p q)
  rw [pt_mod, pt_div] at h
  unfold arrO lane2 row
  blk_ext [iblk, h]

theorem blk4 (p q : Fin 8) (a : Fin 512) (l : Fin 128) : iblk m c 4 (pt p q) (ix2 a l) = arrD m c (ix2 (row q a) (lane2 p l)) := by
  obtain ⟨-, -, -, -, h, -⟩ := idx (pt p q)
  rw [pt_mod, pt_div] at h
  unfold arrD lane2 row
  blk_ext [iblk, h]

theorem at5 (t : Fin cfg0.N) (y : ((cfg0.win 5).xblock (cfg0.grid.coords t)).Idx) (i : S8x2x4096x1.Idx)
    (hi : ∀ d : Fin 4, win0_5.index t d * win0_5.size d + (y d).val = (i d).val) : iblk m c 5 t y = arrL m c i := by
  have : ((cfg0.win 5).blk t).view.emb y = i := funext fun d => Fin.ext ((Pipeline.Window.rect_emb_val win0_5 t y d).trans (hi d))
  unfold iblk arrL
  rw [← this]
  generalize V m c = W
  unfold View.read
  dsimp only
  generalize ((View.whole main_v33).slice ((win0 5).rect t)).emb y = z
  exact cast_eq _ (W main_v33 z)

theorem blk5 (p q : Fin 8) (a : Fin 512) (j : Fin 2) : iblk m c 5 (pt p q) (ix4 0 j a 0) = arrL m c (ix4 p j (row q a) 0) := by
  obtain ⟨-, -, -, -, -, h, -⟩ := idx (pt p q)
  rw [pt_mod, pt_div] at h
  refine at5 m c (pt p q) (ix4 0 j a 0) (ix4 p j (row q a) 0) fun d => ?_
  rw [h]
  refine Fin.cases ?_ (fun d => ?_) d
  · show p.val * 1 + 0 = p.val; omega
  · refine Fin.cases ?_ (fun d => ?_) d
    · show 0 * 2 + j.val = j.val; omega
    · refine Fin.cases ?_ (fun d => ?_) d
      · show q.val * 512 + a.val = 512 * q.val + a.val; omega
      · refine Fin.cases ?_ (fun d => d.elim0) d
        rfl

/-- A point's operands are the heads' rows of its tile. -/
theorem ops (p q : Fin 8) (j : Fin 2) :
    qP (iblk m c 0 (pt p q)) j = (fun a => qH m c p j (row q a)) ∧ lP (iblk m c 5 (pt p q)) j = (fun a => lH m c p j (row q a))
    ∧ domP (iblk m c 4 (pt p q)) j = (fun a => domH m c p j (row q a)) ∧ delP (iblk m c 3 (pt p q)) (iblk m c 4 (pt p q)) j = (fun a => delH m c p j (row q a))
    ∧ (∀ t, kF (iblk m c 1 (pt p q)) t j = fun b => kH m c p j (row t b)) ∧ (∀ t, vF (iblk m c 2 (pt p q)) t = fun b => vH m c p (row t b)) := by
  refine ⟨?_, ?_, ?_, ?_, fun t => ?_, fun t => ?_⟩
  · funext a l; unfold qP; exact blk0 ..
  · funext a; unfold lP lH; rw [blk5]
  · funext a l; unfold domP domH; rw [blk4]
  · funext a; unfold delP delH
    exact Finset.sum_congr rfl fun l _ => by rw [blk3, blk4]
  · funext b l; unfold kF; exact blk1 ..
  · funext b l; unfold vF; exact blk2 ..

def gQ (p : Fin 8) (j : Fin 2) (r : Fin 4096) (l : Fin 128) : EReal :=
  dqS seenG (qH m c p j) (lH m c p j) (domH m c p j) (delH m c p j) (kH m c p j) (vH m c p) r l * (Consts.sc : EReal)
def gK (p : Fin 8) (j : Fin 2) (r : Fin 4096) (l : Fin 128) : EReal :=
  dkS seenG (qH m c p j) (lH m c p j) (domH m c p j) (delH m c p j) (kH m c p j) (vH m c p) r l * (Consts.sc : EReal)
def gV (p : Fin 8) (r : Fin 4096) (l : Fin 128) : EReal :=
  dvS seenG (qH m c p 0) (lH m c p 0) (domH m c p 0) (kH m c p 0) r l + dvS seenG (qH m c p 1) (lH m c p 1) (domH m c p 1) (kH m c p 1) r l

theorem out6_eq (p q : Fin 8) (j : Fin 2) (a : Fin 512) (l : Fin 128) :
    (outsAt0 m c (pt p q).val (pt p q).isLt).1 (ix2 a (col j l)) = gQ m c p j (row q a) l := by
  rw [out6]
  unfold gQ
  refine congrArg (· * (Consts.sc : EReal)) ?_
  have e : ∀ t, dqS (seen q t) (qP (iblk m c 0 (pt p q)) j) (lP (iblk m c 5 (pt p q)) j) (domP (iblk m c 4 (pt p q)) j) (delP (iblk m c 3 (pt p q)) (iblk m c 4 (pt p q)) j)
        (kF (iblk m c 1 (pt p q)) t j) (vF (iblk m c 2 (pt p q)) t) a l
      = ∑ b : Fin 512, dsc seenG (qH m c p j) (lH m c p j) (domH m c p j) (delH m c p j) (kH m c p j) (vH m c p) (row q a) (row t b) * kH m c p j (row t b) l := by
    intro t
    obtain ⟨h0, h5, h4, h3, h1, h2⟩ := ops m c p q j
    rw [h0, h5, h4, h3, h1, h2]
    rfl
  unfold dqP
  rw [Finset.sum_congr rfl fun t _ => e t]
  exact sum_rows fun s => dsc seenG (qH m c p j) (lH m c p j) (domH m c p j) (delH m c p j) (kH m c p j) (vH m c p) (row q a) s * kH m c p j s l

theorem out7_eq (p t : Fin 8) (j : Fin 2) (a : Fin 512) (l : Fin 128) :
    (outsAt0 m c (pt p 7).val (pt p 7).isLt).2.1 (ix2 (row t a) (col j l)) = gK m c p j (row t a) l := by
  rw [out7]
  unfold gK
  refine congrArg (· * (Consts.sc : EReal)) ?_
  have e : ∀ q, dkT m c p q t j a l
      = ∑ b : Fin 512, dsc seenG (qH m c p j) (lH m c p j) (domH m c p j) (delH m c p j) (kH m c p j) (vH m c p) (row q b) (row t a) * qH m c p j (row q b) l := by
    intro q
    obtain ⟨h0, h5, h4, h3, h1, h2⟩ := ops m c p q j
    unfold dkT dkP
    rw [h0, h5, h4, h3, h1, h2]
    rfl
  rw [Finset.sum_congr rfl fun q _ => e q]
  exact sum_rows fun s => dsc seenG (qH m c p j) (lH m c p j) (domH m c p j) (delH m c p j) (kH m c p j) (vH m c p) s (row t a) * qH m c p j s l

theorem out8_eq (p t : Fin 8) (a : Fin 512) (l : Fin 128) :
    (outsAt0 m c (pt p 7).val (pt p 7).isLt).2.2 (ix2 (row t a) l) = gV m c p (row t a) l := by
  rw [out8]
  unfold gV
  have e : ∀ q, dvT m c p q t a l
      = (∑ b : Fin 512, prob seenG (qH m c p 0) (lH m c p 0) (kH m c p 0) (row q b) (row t a) * domH m c p 0 (row q b) l)
        + ∑ b : Fin 512, prob seenG (qH m c p 1) (lH m c p 1) (kH m c p 1) (row q b) (row t a) * domH m c p 1 (row q b) l := by
    intro q
    obtain ⟨h0, h5, h4, -, h1, -⟩ := ops m c p q 0
    obtain ⟨h0', h5', h4', -, h1', -⟩ := ops m c p q 1
    unfold dvT dvP
    rw [h0, h5, h4, h1, h0', h5', h4', h1']
    rfl
  rw [Finset.sum_congr rfl fun q _ => e q, Finset.sum_add_distrib]
  exact congrArg₂ (· + ·) (sum_rows fun s => prob seenG (qH m c p 0) (lH m c p 0) (kH m c p 0) s (row t a) * domH m c p 0 s l)
    (sum_rows fun s => prob seenG (qH m c p 1) (lH m c p 1) (kH m c p 1) s (row t a) * domH m c p 1 s l)

/-! ## The arrays -/

/-- The pair, the head in it and the lane of a place in 2048 lanes. -/
def pairOf (s : Fin 2048) : Fin 8 := ⟨s.val / 256, by omega⟩
def headOf (s : Fin 2048) : Fin 2 := ⟨s.val / 128 % 2, by omega⟩
def inHead (s : Fin 2048) : Fin 128 := ⟨s.val % 128, by omega⟩

theorem pairOf_lane (p : Fin 8) (j : Fin 2) (l : Fin 128) : pairOf (lane p j l) = p :=
  Fin.ext (by show (256 * p.val + (128 * j.val + l.val)) / 256 = p.val; omega)
theorem headOf_lane (p : Fin 8) (j : Fin 2) (l : Fin 128) : headOf (lane p j l) = j :=
  Fin.ext (by show (256 * p.val + (128 * j.val + l.val)) / 128 % 2 = j.val; omega)
theorem inHead_lane (p : Fin 8) (j : Fin 2) (l : Fin 128) : inHead (lane p j l) = l :=
  Fin.ext (by show (256 * p.val + (128 * j.val + l.val)) % 128 = l.val; omega)

/-- The pair and the lane of a place in 1024 lanes. -/
def pairOf2 (s : Fin 1024) : Fin 8 := ⟨s.val / 128, by omega⟩
def inPair (s : Fin 1024) : Fin 128 := ⟨s.val % 128, by omega⟩
theorem pairOf2_lane2 (p : Fin 8) (l : Fin 128) : pairOf2 (lane2 p l) = p :=
  Fin.ext (by show (128 * p.val + l.val) / 128 = p.val; omega)
theorem inPair_lane2 (p : Fin 8) (l : Fin 128) : inPair (lane2 p l) = l :=
  Fin.ext (by show (128 * p.val + l.val) % 128 = l.val; omega)

/-- The queries' gradient. -/
def res6 : S4096x2048.Idx → EReal := fun i => gQ m c (pairOf (i 1)) (headOf (i 1)) (i 0) (inHead (i 1))
/-- The keys' gradient. -/
def res7 : S4096x2048.Idx → EReal := fun i => gK m c (pairOf (i 1)) (headOf (i 1)) (i 0) (inHead (i 1))
/-- The values' gradient. -/
def res8 : S4096x1024.Idx → EReal := fun i => gV m c (pairOf2 (i 1)) (i 0) (inPair (i 1))

theorem arr6 : (dats m 0 c).arrAt 6 cfg0.N = res6 m c := by
  refine (dats m 0 c).arrAt_eq_of_covers 6 (res6 m c) (by decide +kernel) fun t hf y => ?_
  blk_simp
  rw [after0_6]
  obtain ⟨p, q, rfl⟩ := pt_surj t
  obtain ⟨a, x, rfl⟩ : ∃ (a : Fin 512) (x : Fin 256), y = ix2 a x := ⟨y 0, y 1, (ix2_eta (n0 := 512) (n1 := 256) y).symm⟩
  obtain ⟨j, l, rfl⟩ := col_surj x
  refine (out6_eq m c p q j a l).trans ?_
  obtain ⟨-, -, -, -, -, -, h, -⟩ := idx (pt p q)
  rw [pt_mod, pt_div] at h
  have e : (win0_6.blk (pt p q)).view.emb (ix2 a (col j l)) = ix2 (row q a) (lane p j l) := funext fun d => Fin.ext ((Pipeline.Window.rect_emb_val win0_6 (pt p q) (ix2 a (col j l)) d).trans (by
    rw [h]
    refine Fin.cases ?_ (fun d => ?_) d
    · show q.val * 512 + a.val = 512 * q.val + a.val; omega
    · refine Fin.cases ?_ (fun d => d.elim0) d
      show p.val * 256 + (col j l).val = 256 * p.val + (col j l).val; omega))
  rw [e]
  show _ = gQ m c (pairOf (lane p j l)) (headOf (lane p j l)) (row q a) (inHead (lane p j l))
  rw [pairOf_lane, headOf_lane, inHead_lane]

/-- The last point of a pair writes the keys' and the values' gradients back. -/
theorem last (p q : Fin 8) (h : (pt p q).val % 8 = 7) : q = 7 := by
  rw [pt_mod] at h
  exact Fin.ext h

theorem arr7 : (dats m 0 c).arrAt 7 cfg0.N = res7 m c := by
  refine (dats m 0 c).arrAt_eq_of_covers 7 (res7 m c) (by decide +kernel) fun t hf y => ?_
  have hq := (flush0_7 t).mp hf
  blk_simp
  rw [after0_7]
  obtain ⟨p, q, rfl⟩ := pt_surj t
  obtain rfl := last p q hq
  obtain ⟨r, x, rfl⟩ : ∃ (a : Fin 4096) (x : Fin 256), y = ix2 a x := ⟨y 0, y 1, (ix2_eta (n0 := 4096) (n1 := 256) y).symm⟩
  obtain ⟨j, l, rfl⟩ := col_surj x
  obtain ⟨t, a, rfl⟩ := row_surj r
  refine (out7_eq m c p t j a l).trans ?_
  obtain ⟨-, -, -, -, -, -, -, h, -⟩ := idx (pt p 7)
  rw [pt_div] at h
  have e : (win0_7.blk (pt p 7)).view.emb (ix2 (row t a) (col j l)) = ix2 (row t a) (lane p j l) := funext fun d => Fin.ext ((Pipeline.Window.rect_emb_val win0_7 (pt p 7) (ix2 (row t a) (col j l)) d).trans (by
    rw [h]
    refine Fin.cases ?_ (fun d => ?_) d
    · show 0 * 4096 + (row t a).val = (row t a).val; omega
    · refine Fin.cases ?_ (fun d => d.elim0) d
      show p.val * 256 + (col j l).val = 256 * p.val + (col j l).val; omega))
  rw [e]
  show _ = gK m c (pairOf (lane p j l)) (headOf (lane p j l)) (row t a) (inHead (lane p j l))
  rw [pairOf_lane, headOf_lane, inHead_lane]

theorem arr8 : (dats m 0 c).arrAt 8 cfg0.N = res8 m c := by
  refine (dats m 0 c).arrAt_eq_of_covers 8 (res8 m c) (by decide +kernel) fun t hf y => ?_
  have hq := (flush0_8 t).mp hf
  blk_simp
  rw [after0_8]
  obtain ⟨p, q, rfl⟩ := pt_surj t
  obtain rfl := last p q hq
  obtain ⟨r, l, rfl⟩ : ∃ (a : Fin 4096) (x : Fin 128), y = ix2 a x := ⟨y 0, y 1, (ix2_eta (n0 := 4096) (n1 := 128) y).symm⟩
  obtain ⟨t, a, rfl⟩ := row_surj r
  refine (out8_eq m c p t a l).trans ?_
  obtain ⟨-, -, -, -, -, -, -, -, h⟩ := idx (pt p 7)
  rw [pt_div] at h
  have e : (win0_8.blk (pt p 7)).view.emb (ix2 (row t a) l) = ix2 (row t a) (lane2 p l) := funext fun d => Fin.ext ((Pipeline.Window.rect_emb_val win0_8 (pt p 7) (ix2 (row t a) l) d).trans (by
    rw [h]
    refine Fin.cases ?_ (fun d => ?_) d
    · show 0 * 4096 + (row t a).val = (row t a).val; omega
    · refine Fin.cases ?_ (fun d => d.elim0) d
      show p.val * 128 + l.val = 128 * p.val + l.val; omega))
  rw [e]
  show _ = gV m c (pairOf2 (lane2 p l)) (row t a) (inPair (lane2 p l))
  rw [pairOf2_lane2, inPair_lane2]
end

end Cert.KernelIdeal.Bwd
end
-- ==== Proof.Entry.lean ====
/-
  The arrays that the kernel reads, as the host's stages of the arguments.
-/
module

public import proofs.«01_k».proof.Proof.Arrays
public import proofs.«01_k».proof.Proof.Stages
public import Idealize.ShloMosaic.Lib.Claim
public import Idealize.ShloMosaic.Lib.StableHlo.RunRead

@[expose] public section

set_option maxRecDepth 16384

noncomputable section

namespace Cert.KernelIdeal.Bwd

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev arg0 : FVec Ideal S4096x16x96 .f32 := m ((c.tc : Thread nD τ).loc main_arg0)
abbrev arg1 : FVec Ideal S4096x16x96 .f32 := m ((c.tc : Thread nD τ).loc main_arg1)
abbrev arg2 : FVec Ideal S4096x16x64 .f32 := m ((c.tc : Thread nD τ).loc main_arg2)
abbrev arg3 : FVec Ideal S4096x1024 .f32 := m ((c.tc : Thread nD τ).loc main_arg3)

theorem entry26 : arrQ m c = Attn.lanes (arg0 m c) := by
  unfold arrQ
  unfold_abbrev_sides
  simp only [List.flatten_cons, List.flatten_nil, List.cons_append, List.nil_append, List.append_nil]
  after_reads_simp
  simp only [StableHlo.TRef.toBuf, StableHlo.TRef.ofBuf, cast_eq]
  rfl

theorem entry29 : arrK m c = Attn.lanes (arg1 m c) := by
  unfold arrK
  unfold_abbrev_sides
  simp only [List.flatten_cons, List.flatten_nil, List.cons_append, List.nil_append, List.append_nil]
  after_reads_simp
  simp only [StableHlo.TRef.toBuf, StableHlo.TRef.ofBuf, cast_eq]
  rfl

theorem entry31 : arrV m c = Attn.flat (arg2 m c) := by
  unfold arrV
  unfold_abbrev_sides
  simp only [List.flatten_cons, List.flatten_nil, List.cons_append, List.nil_append, List.append_nil]
  after_reads_simp
  rfl

theorem entry_arg3 : arrD m c = arg3 m c := by
  unfold arrD
  exact V_main_arg3 m c

theorem entry32 : arrO m c = Attn.flat (Attn.outp (arg0 m c) (arg1 m c) (arg2 m c) (Attn.top (arg0 m c) (arg1 m c))) := by
  unfold arrO
  unfold_abbrev_sides
  simp only [List.flatten_cons, List.flatten_nil, List.cons_append, List.nil_append, List.append_nil]
  after_reads_simp
  simp only [StableHlo.TRef.toBuf, StableHlo.TRef.ofBuf, cast_eq]
  rfl

theorem entry33 : arrL m c = shapeCast S8x2x4096x1 (Attn.lsum (arg0 m c) (arg1 m c) (Attn.top (arg0 m c) (arg1 m c))) shapeCasts_S16x4096x1_S8x2x4096x1 := by
  unfold arrL
  unfold_abbrev_sides
  simp only [List.flatten_cons, List.flatten_nil, List.cons_append, List.nil_append, List.append_nil]
  after_reads_simp
  simp only [StableHlo.TRef.toBuf, StableHlo.TRef.ofBuf, cast_eq]
  rfl

end Cert.KernelIdeal.Bwd
end
-- ==== Proof.Equation.lean ====
/-
  The kernel's three arrays are the reference's three gradients when the arguments are real numbers.
-/
module

public import proofs.«01_k».proof.Proof.Entry
public import proofs.«01_k».proof.Proof.Reals

@[expose] public section

set_option maxRecDepth 16384

noncomputable section

namespace Cert.KernelIdeal.Bwd

open Idealize.ShloMosaic Idealize.ShloMosaic.TcCoe Idealize.SL.Sem
open Cert.KernelIdeal Cert.KernelIdeal.Gen Cert.Attn

/-- The head of a pair. -/
def hd (p : Fin 8) (j : Fin 2) : Fin 16 := ⟨2 * p.val + j.val, by omega⟩

/-- Lane `l` of head `i` in the pair's shared 128. -/
def vl (i : Fin 2) (l : Fin 64) : Fin 128 := ⟨64 * i.val + l.val, by omega⟩

theorem lane_hd (p : Fin 8) (j : Fin 2) (l : Fin 128) : lane p j l = ⟨128 * (hd p j).val + l.val, by omega⟩ :=
  Fin.ext (by show 256 * p.val + (128 * j.val + l.val) = 128 * (2 * p.val + j.val) + l.val; omega)

theorem lane2_hd (p : Fin 8) (i : Fin 2) (l : Fin 64) : lane2 p (vl i l) = ⟨64 * (hd p i).val + l.val, by omega⟩ :=
  Fin.ext (by show 128 * p.val + (64 * i.val + l.val) = 64 * (2 * p.val + i.val) + l.val; omega)

theorem vl_surj (l : Fin 128) : ∃ i l', l = vl i l' :=
  ⟨⟨l.val / 64, by omega⟩, ⟨l.val % 64, by omega⟩, Fin.ext (by show l.val = 64 * (l.val / 64) + l.val % 64; omega)⟩

theorem headLane_vl (j i : Fin 2) (l : Fin 64) : headLane j (vl i l) = decide (i = j) := by
  unfold headLane
  refine decide_eq_decide.mpr ⟨fun h => Fin.ext ?_, fun h => ?_⟩
  · have h' : (64 * i.val + l.val) / 64 = j.val := h
    omega
  · subst h
    show (64 * i.val + l.val) / 64 = i.val
    omega

/-- A sum over 128 lanes of which the first 96 count. -/
theorem sum_pad (f : Fin 128 → EReal) (g : Fin 96 → EReal) (h : ∀ l, f l = if hl : l.val < 96 then g ⟨l.val, hl⟩ else 0) : ∑ l, f l = ∑ l, g l := by
  rw [show (∑ l, f l) = _ from Fin.sum_univ_add (a := 96) (b := 32) f]
  have e1 : ∀ l : Fin 96, f (Fin.castAdd 32 l) = g l := fun l => by
    rw [h, dif_pos (show (Fin.castAdd 32 l).val < 96 from l.isLt)]; rfl
  have e2 : ∀ l : Fin 32, f (Fin.natAdd 96 l) = 0 := fun l => by
    rw [h, dif_neg (show ¬ (Fin.natAdd 96 l).val < 96 by show ¬ 96 + l.val < 96; omega)]
  rw [Finset.sum_congr rfl fun l _ => e1 l, Finset.sum_congr rfl fun l _ => e2 l, Finset.sum_const_zero, add_zero]

/-- A sum over 128 lanes of which one head's 64 count. -/
theorem sum_head (j : Fin 2) (f : Fin 128 → EReal) (g : Fin 64 → EReal) (h : ∀ i l, f (vl i l) = if i = j then g l else 0) : ∑ l, f l = ∑ l, g l := by
  have e : ∑ l, f l = ∑ i : Fin 2, ∑ l : Fin 64, f (vl i l) := by
    rw [← Fintype.sum_prod_type' (fun i l => f (vl i l))]
    refine (Fintype.sum_bijective (fun x : Fin 2 × Fin 64 => vl x.1 x.2) ⟨?_, ?_⟩ _ _ fun x => rfl).symm
    · rintro ⟨t, a⟩ ⟨t', a'⟩ h
      have h' : 64 * t.val + a.val = 64 * t'.val + a'.val := congrArg Fin.val h
      exact Prod.ext (Fin.ext (by show t.val = t'.val; omega)) (Fin.ext (by show a.val = a'.val; omega))
    · intro s
      obtain ⟨t, a, rfl⟩ := vl_surj s
      exact ⟨(t, a), rfl⟩
  rw [e, Finset.sum_eq_single j (fun i _ hi => Finset.sum_eq_zero fun l _ => by rw [h, if_neg hi]) (fun hj => absurd (Finset.mem_univ _) hj)]
  exact Finset.sum_congr rfl fun l _ => by rw [h, if_pos rfl]

/-- Two to a scaled score less its row's scaled log-sum is the weight. -/
theorem exp2_weight {x M L : ℝ} (hL : 0 < L) :
    Ideal.exp2 ((x : EReal) * ((Consts.sc * (Real.log 2)⁻¹ : ℝ) : EReal) - ((M + Real.log L : ℝ) : EReal) * (((Real.log 2)⁻¹ : ℝ) : EReal))
      = ((Real.exp (x * Consts.sc - M) / L : ℝ) : EReal) := by
  rw [← EReal.coe_mul, ← EReal.coe_mul, ← EReal.coe_sub, Ideal.exp2_coe]
  refine congrArg _ ?_
  show (2 : ℝ) ^ (_ : ℝ) = _
  rw [Real.rpow_def_of_pos (by norm_num)]
  have : Real.log 2 * (x * (Consts.sc * (Real.log 2)⁻¹) - (M + Real.log L) * (Real.log 2)⁻¹) = (x * Consts.sc - M) - Real.log L := by
    have := Consts.log2_pos.ne'
    field_simp
    ring
  rw [this, Real.exp_sub, Real.exp_log hL]

/-- Two to −∞ is nothing. -/
theorem exp2_unseen (L : ℝ) : Ideal.exp2 ((⊥ : EReal) * ((Consts.sc * (Real.log 2)⁻¹ : ℝ) : EReal) - (L : EReal)) = 0 := by
  rw [EReal.bot_mul_coe_of_pos (mul_pos Consts.sc_pos (inv_pos.mpr Consts.log2_pos)), EReal.bot_sub]
  exact Ideal.exp2_bot

section
variable {m : (ℓ : Loc nD τ sig) → Buf (Elt Ideal) ℓ} {c : Dev nD}
variable {q k : Fin 4096 → Fin 16 → Fin 96 → ℝ} {v d : Fin 4096 → Fin 16 → Fin 64 → ℝ} {M : Fin 16 → Fin 4096 → ℝ}
variable (h0 : ∀ r h l, arg0 m c (ix3 r h l) = (q r h l : EReal)) (h1 : ∀ r h l, arg1 m c (ix3 r h l) = (k r h l : EReal))
  (h2 : ∀ r h l, arg2 m c (ix3 r h l) = (v r h l : EReal)) (h3 : ∀ r h l, dout (arg3 m c) (ix3 h l r) = (d r h l : EReal))
  (hM : ∀ h r, top (arg0 m c) (arg1 m c) (ix2 h r) = (M h r : EReal))

include h0 in
theorem qH_real (p : Fin 8) (j : Fin 2) (r : Fin 4096) (l : Fin 128) : qH m c p j r l = if hl : l.val < 96 then (q r (hd p j) ⟨l.val, hl⟩ : EReal) else 0 := by
  unfold qH
  rw [entry26, lane_hd, lanes_ix]
  by_cases hl : l.val < 96
  · rw [dif_pos hl, dif_pos hl]; exact h0 _ _ _
  · rw [dif_neg hl, dif_neg hl]

include h1 in
theorem kH_real (p : Fin 8) (j : Fin 2) (r : Fin 4096) (l : Fin 128) : kH m c p j r l = if hl : l.val < 96 then (k r (hd p j) ⟨l.val, hl⟩ : EReal) else 0 := by
  unfold kH
  rw [entry29, lane_hd, lanes_ix]
  by_cases hl : l.val < 96
  · rw [dif_pos hl, dif_pos hl]; exact h1 _ _ _
  · rw [dif_neg hl, dif_neg hl]

include h2 in
theorem vH_real (p : Fin 8) (r : Fin 4096) (i : Fin 2) (l : Fin 64) : vH m c p r (vl i l) = (v r (hd p i) l : EReal) := by
  unfold vH
  rw [entry31, lane2_hd, flat_ix]
  exact h2 _ _ _

include h3 in
theorem arrD_real (p : Fin 8) (r : Fin 4096) (i : Fin 2) (l : Fin 64) : arrD m c (ix2 r (lane2 p (vl i l))) = (d r (hd p i) l : EReal) := by
  rw [entry_arg3, lane2_hd]
  exact (dout_ix _ _ _ _).symm.trans (h3 _ _ _)

include h0 h1 h2 hM in
theorem arrO_real (p : Fin 8) (r : Fin 4096) (i : Fin 2) (l : Fin 64) :
    arrO m c (ix2 r (lane2 p (vl i l))) = ((∑ s, v s (hd p i) l * yR q k M (hd p i) r s : ℝ) : EReal) := by
  rw [entry32, lane2_hd, flat_ix]
  exact outp_real h0 h1 h2 hM _ _ _

theorem lrow_ix (x : FVec Ideal S16x4096x1 .f32) (p : Fin 8) (j : Fin 2) (r : Fin 4096) :
    shapeCast S8x2x4096x1 x shapeCasts_S16x4096x1_S8x2x4096x1 (ix4 p j r 0) = x (ix3 (hd p j) r 0) := by
  pointwise
  exact congrArg x (congrArg (ix3 · r 0) (Fin.ext (by show p.val * 2 + j.val = 2 * p.val + j.val; omega)))

include h0 h1 hM in
theorem lH_real (p : Fin 8) (j : Fin 2) (r : Fin 4096) :
    lH m c p j r = ((M (hd p j) r + Real.log (LR q k M (hd p j) r) : ℝ) : EReal) * (((Real.log 2)⁻¹ : ℝ) : EReal) := by
  unfold lH
  rw [entry33, lrow_ix, lsum_real h0 h1 hM]

include h3 in
theorem domH_real (p : Fin 8) (j : Fin 2) (r : Fin 4096) (i : Fin 2) (l : Fin 64) :
    domH m c p j r (vl i l) = if i = j then (d r (hd p j) l : EReal) else 0 := by
  unfold domH
  rw [headLane_vl, arrD_real h3]
  by_cases h : i = j
  · subst h; simp
  · simp [h]

include h0 h1 in
theorem dotH_real (p : Fin 8) (j : Fin 2) (r s : Fin 4096) : (∑ l, qH m c p j r l * kH m c p j s l) = (dotR q k (hd p j) r s : EReal) := by
  unfold dotR
  rw [coe_sum]
  refine sum_pad _ _ fun l => ?_
  rw [qH_real h0, kH_real h1]
  by_cases hl : l.val < 96
  · rw [dif_pos hl, dif_pos hl, dif_pos hl, EReal.coe_mul]
  · rw [dif_neg hl, dif_neg hl, dif_neg hl, zero_mul]

include h0 h1 hM in
theorem prob_real (p : Fin 8) (j : Fin 2) (r s : Fin 4096) : prob seenG (qH m c p j) (lH m c p j) (kH m c p j) r s = (yR q k M (hd p j) r s : EReal) := by
  unfold prob
  rw [dotH_real h0 h1, lH_real h0 h1 hM]
  unfold yR eR seenG
  by_cases hv : Vis r s
  · rw [if_pos (decide_eq_true hv), if_pos hv]
    exact exp2_weight (LR_pos q k M _ r)
  · rw [if_neg (by simpa using hv), if_neg hv, ← EReal.coe_mul, zero_div]
    exact exp2_unseen _

include h2 h3 in
theorem dpH_real (p : Fin 8) (j : Fin 2) (r s : Fin 4096) : (∑ l, domH m c p j r l * vH m c p s l) = (gR v d (hd p j) r s : EReal) := by
  unfold gR
  rw [coe_sum]
  refine sum_head j _ _ fun i l => ?_
  rw [domH_real h3, vH_real h2]
  by_cases h : i = j
  · subst h; rw [if_pos rfl, if_pos rfl, EReal.coe_mul]
  · rw [if_neg h, if_neg h, zero_mul]

include h0 h1 h2 h3 hM in
theorem delH_real (p : Fin 8) (j : Fin 2) (r : Fin 4096) : delH m c p j r = (deltaR q k v d M (hd p j) r : EReal) := by
  have e : deltaR q k v d M (hd p j) r = ∑ l, d r (hd p j) l * ∑ s, v s (hd p j) l * yR q k M (hd p j) r s := by
    unfold deltaR gR
    simp only [Finset.mul_sum]
    rw [Finset.sum_comm]
    exact Finset.sum_congr rfl fun l _ => Finset.sum_congr rfl fun s _ => by ring
  rw [e, coe_sum]
  unfold delH
  refine sum_head j _ _ fun i l => ?_
  rw [arrO_real h0 h1 h2 hM, headLane_vl, arrD_real h3]
  by_cases h : i = j
  · subst h; rw [if_pos rfl, if_pos (decide_eq_true rfl), EReal.coe_mul]
  · rw [if_neg h, if_neg (by simpa using h), zero_mul]

include h0 h1 h2 h3 hM in
theorem dscH_real (p : Fin 8) (j : Fin 2) (r s : Fin 4096) :
    dsc seenG (qH m c p j) (lH m c p j) (domH m c p j) (delH m c p j) (kH m c p j) (vH m c p) r s = (dsR q k v d M (hd p j) r s : EReal) := by
  unfold dsc dsR
  rw [prob_real h0 h1 hM, dpH_real h2 h3, delH_real h0 h1 h2 h3 hM, ← EReal.coe_sub, EReal.coe_mul]

include h0 h1 h2 h3 hM in
theorem gQ_real (p : Fin 8) (j : Fin 2) (r : Fin 4096) (l : Fin 128) :
    gQ m c p j r l = lanes (dquery (arg0 m c) (arg1 m c) (arg2 m c) (arg3 m c)) (ix2 r (lane p j l)) := by
  rw [lane_hd, lanes_ix]
  unfold gQ dqS
  by_cases hl : l.val < 96
  · rw [dif_pos hl, dquery_real h0 h1 h2 h3 hM, EReal.coe_mul, coe_sum]
    refine congrArg (· * (Consts.sc : EReal)) (Finset.sum_congr rfl fun s _ => ?_)
    rw [dscH_real h0 h1 h2 h3 hM, kH_real h1, dif_pos hl, EReal.coe_mul]
  · rw [dif_neg hl, Finset.sum_eq_zero fun s _ => ?_, zero_mul]
    rw [kH_real h1, dif_neg hl, mul_zero]

include h0 h1 h2 h3 hM in
theorem gK_real (p : Fin 8) (j : Fin 2) (r : Fin 4096) (l : Fin 128) :
    gK m c p j r l = lanes (dkey (arg0 m c) (arg1 m c) (arg2 m c) (arg3 m c)) (ix2 r (lane p j l)) := by
  rw [lane_hd, lanes_ix]
  unfold gK dkS
  by_cases hl : l.val < 96
  · rw [dif_pos hl, dkey_real h0 h1 h2 h3 hM, EReal.coe_mul, coe_sum]
    refine congrArg (· * (Consts.sc : EReal)) (Finset.sum_congr rfl fun s _ => ?_)
    rw [dscH_real h0 h1 h2 h3 hM, qH_real h0, dif_pos hl, EReal.coe_mul]
  · rw [dif_neg hl, Finset.sum_eq_zero fun s _ => ?_, zero_mul]
    rw [qH_real h0, dif_neg hl, mul_zero]

include h0 h1 h3 hM in
theorem dvS_real (p : Fin 8) (j i : Fin 2) (r : Fin 4096) (l : Fin 64) :
    dvS seenG (qH m c p j) (lH m c p j) (domH m c p j) (kH m c p j) r (vl i l)
      = if i = j then ((∑ s, yR q k M (hd p i) s r * d s (hd p i) l : ℝ) : EReal) else 0 := by
  unfold dvS
  by_cases h : i = j
  · subst h
    rw [if_pos rfl, coe_sum]
    exact Finset.sum_congr rfl fun s _ => by rw [prob_real h0 h1 hM, domH_real h3, if_pos rfl, EReal.coe_mul]
  · rw [if_neg h]
    exact Finset.sum_eq_zero fun s _ => by rw [domH_real h3, if_neg h, mul_zero]

include h0 h1 h3 hM in
theorem gV_real (p : Fin 8) (r : Fin 4096) (l : Fin 128) :
    gV m c p r l = flat (dvalue (arg0 m c) (arg1 m c) (arg3 m c)) (ix2 r (lane2 p l)) := by
  obtain ⟨i, l, rfl⟩ := vl_surj l
  rw [lane2_hd, flat_ix, dvalue_real h0 h1 h3 hM]
  unfold gV
  rw [dvS_real h0 h1 h3 hM, dvS_real h0 h1 h3 hM]
  rcases (show i = 0 ∨ i = 1 by omega) with rfl | rfl
  · rw [if_pos rfl, if_neg (by decide), add_zero]
  · rw [if_neg (by decide), if_pos rfl, zero_add]

theorem lane_of (s : Fin 2048) : lane (pairOf s) (headOf s) (inHead s) = s :=
  Fin.ext (by show 256 * (s.val / 256) + (128 * (s.val / 128 % 2) + s.val % 128) = s.val; omega)
theorem lane2_of (s : Fin 1024) : lane2 (pairOf2 s) (inPair s) = s :=
  Fin.ext (by show 128 * (s.val / 128) + s.val % 128 = s.val; omega)

include h0 h1 h2 h3 hM in
theorem res6_real : res6 m c = lanes (dquery (arg0 m c) (arg1 m c) (arg2 m c) (arg3 m c)) := by
  funext i
  obtain ⟨r, s, rfl⟩ : ∃ (r : Fin 4096) (s : Fin 2048), i = ix2 r s := ⟨i 0, i 1, (ix2_eta (n0 := 4096) (n1 := 2048) i).symm⟩
  refine (gQ_real h0 h1 h2 h3 hM (pairOf s) (headOf s) r (inHead s)).trans ?_
  rw [lane_of]

include h0 h1 h2 h3 hM in
theorem res7_real : res7 m c = lanes (dkey (arg0 m c) (arg1 m c) (arg2 m c) (arg3 m c)) := by
  funext i
  obtain ⟨r, s, rfl⟩ : ∃ (r : Fin 4096) (s : Fin 2048), i = ix2 r s := ⟨i 0, i 1, (ix2_eta (n0 := 4096) (n1 := 2048) i).symm⟩
  refine (gK_real h0 h1 h2 h3 hM (pairOf s) (headOf s) r (inHead s)).trans ?_
  rw [lane_of]

include h0 h1 h3 hM in
theorem res8_real : res8 m c = flat (dvalue (arg0 m c) (arg1 m c) (arg3 m c)) := by
  funext i
  obtain ⟨r, s, rfl⟩ : ∃ (r : Fin 4096) (s : Fin 1024), i = ix2 r s := ⟨i 0, i 1, (ix2_eta (n0 := 4096) (n1 := 1024) i).symm⟩
  refine (gV_real h0 h1 h3 hM (pairOf2 s) r (inPair s)).trans ?_
  rw [lane2_of]
end

end Cert.KernelIdeal.Bwd
end
-- ==== Proof.FwdArrays.lean ====
/-
  The forward attention kernel's two result arrays, of real arguments: the attention's output and the log-sums, as the
  host writes them.
-/
module

public import proofs.«01_k».proof.Proof.FwdPoint
public import proofs.«01_k».proof.Proof.Equation

@[expose] public section

set_option maxRecDepth 16384

noncomputable section

namespace Cert.FwdIdeal.Fwd

open Idealize.ShloMosaic Idealize.ShloMosaic.TcCoe Idealize.SL.Sem
open Cert.FwdIdeal Cert.FwdIdeal.Gen Cert.Attn
open Cert.KernelIdeal.Bwd (headLane row col row_surj lane lane2 lane_hd lane2_hd hd vl vl_surj headLane_vl sum_pad lrow_ix sum_rows seen)

/-! ## Weights without a maximum -/

section
variable (q k : Fin 4096 → Fin 16 → Fin 96 → ℝ) (v : Fin 4096 → Fin 16 → Fin 64 → ℝ) (M : Fin 16 → Fin 4096 → ℝ)

/-- A query's weight of a key, zero where it is not seen. -/
def wR (h : Fin 16) (r s : Fin 4096) : ℝ := if Vis r s then Real.exp (dotR q k h r s * Consts.sc) else 0

/-- The sum of a query's weights. -/
def sumR (h : Fin 16) (r : Fin 4096) : ℝ := ∑ s, wR q k h r s

theorem eR_eq (h : Fin 16) (r s : Fin 4096) : eR q k M h r s = Real.exp (-M h r) * wR q k h r s := by
  unfold eR wR
  split_ifs
  · rw [← Real.exp_add]; exact congrArg _ (by ring)
  · rw [mul_zero]

theorem LR_eq (h : Fin 16) (r : Fin 4096) : LR q k M h r = Real.exp (-M h r) * sumR q k h r := by
  unfold LR sumR
  rw [Finset.mul_sum]
  exact Finset.sum_congr rfl fun s _ => eR_eq q k M h r s

theorem sumR_pos (h : Fin 16) (r : Fin 4096) : 0 < sumR q k h r := by
  have := LR_pos q k (fun _ _ => 0) h r
  rw [LR_eq] at this
  exact (mul_pos_iff_of_pos_left (Real.exp_pos _)).mp this

/-- The log-sum does not depend on the value that is taken off. -/
theorem logsum_eq (h : Fin 16) (r : Fin 4096) : M h r + Real.log (LR q k M h r) = Real.log (sumR q k h r) := by
  rw [LR_eq, Real.log_mul (Real.exp_pos _).ne' (sumR_pos q k h r).ne', Real.log_exp]
  ring

/-- Nor does the output. -/
theorem out_eq (h : Fin 16) (r : Fin 4096) (l : Fin 64) :
    (∑ s, v s h l * yR q k M h r s) = (∑ s, wR q k h r s * v s h l) / sumR q k h r := by
  rw [Finset.sum_div]
  refine Finset.sum_congr rfl fun s _ => ?_
  unfold yR
  rw [eR_eq, LR_eq, mul_div_mul_left _ _ (Real.exp_pos _).ne']
  ring
end

/-! ## The blocks the kernel reads -/

/-- The point of pair `p` and query tile `q`. -/
def pt (p q : Fin 8) : Fin cfg0.N := ⟨8 * p.val + q.val, lt_of_lt_of_eq (by omega : 8 * p.val + q.val < 64) N_0.symm⟩

theorem pt_surj (t : Fin cfg0.N) : ∃ p q, t = pt p q :=
  have h : t.val < 64 := lt_of_lt_of_eq t.isLt N_0
  ⟨⟨t.val / 8, by omega⟩, ⟨t.val % 8, by omega⟩, Fin.ext (by show t.val = 8 * (t.val / 8) + t.val % 8; omega)⟩

theorem qt_coords : ∀ t : Fin cfg0.N, (qt (grid0.coords t)).val = t.val % 8 := by decide +kernel

theorem pt_mod (p q : Fin 8) : (pt p q).val % 8 = q.val := by show (8 * p.val + q.val) % 8 = q.val; omega
theorem pt_div (p q : Fin 8) : (pt p q).val / 8 = p.val := by show (8 * p.val + q.val) / 8 = p.val; omega

theorem qt_pt (p q : Fin 8) : qt (grid0.coords (pt p q)) = q := Fin.ext ((qt_coords _).trans (pt_mod p q))

theorem idx : ∀ t : Fin cfg0.N,
    win0_0.index t = ![t.val % 8, t.val / 8] ∧ win0_1.index t = ![0, t.val / 8] ∧ win0_2.index t = ![0, t.val / 8]
    ∧ win0_3.index t = ![t.val % 8, t.val / 8] ∧ win0_4.index t = ![t.val / 8, 0, t.val % 8, 0] := by
  decide +kernel

section
variable (m : (ℓ : Loc nD τ sig) → Buf (Elt Ideal) ℓ) (c : Dev nD)

/-- The arguments, and the arrays the kernel reads. -/
abbrev arg0 : FVec Ideal S4096x16x96 .f32 := m ((c.tc : Thread nD τ).loc main_arg0)
abbrev arg1 : FVec Ideal S4096x16x96 .f32 := m ((c.tc : Thread nD τ).loc main_arg1)
abbrev arg2 : FVec Ideal S4096x16x64 .f32 := m ((c.tc : Thread nD τ).loc main_arg2)
abbrev arrQ : S4096x2048.Idx → EReal := V m c main_v2
abbrev arrK : S4096x2048.Idx → EReal := V m c main_v5
abbrev arrV : S4096x1024.Idx → EReal := V m c main_v7

theorem entryQ : arrQ m c = lanes (arg0 m c) := by
  unfold arrQ
  unfold_abbrev_sides
  simp only [List.flatten_cons, List.flatten_nil, List.cons_append, List.nil_append, List.append_nil]
  after_reads_simp
  simp only [StableHlo.TRef.toBuf, StableHlo.TRef.ofBuf, cast_eq]
  rfl

theorem entryK : arrK m c = lanes (arg1 m c) := by
  unfold arrK
  unfold_abbrev_sides
  simp only [List.flatten_cons, List.flatten_nil, List.cons_append, List.nil_append, List.append_nil]
  after_reads_simp
  simp only [StableHlo.TRef.toBuf, StableHlo.TRef.ofBuf, cast_eq]
  rfl

theorem entryV : arrV m c = flat (arg2 m c) := by
  unfold arrV
  unfold_abbrev_sides
  simp only [List.flatten_cons, List.flatten_nil, List.cons_append, List.nil_append, List.append_nil]
  after_reads_simp
  rfl

/-- A point's blocks of the queries and of the keys. -/
abbrev blkQ (p q : Fin 8) : S512x256.Idx → EReal := iblk m c 0 (pt p q)
abbrev blkK (p q : Fin 8) : S4096x256.Idx → EReal := iblk m c 1 (pt p q)

theorem blk0 (p q : Fin 8) (a : Fin 512) (j : Fin 2) (l : Fin 128) : iblk m c 0 (pt p q) (ix2 a (col j l)) = arrQ m c (ix2 (row q a) (lane p j l)) := by
  obtain ⟨h, -⟩ := idx (pt p q)
  rw [pt_mod, pt_div] at h
  unfold arrQ lane row
  blk_ext [iblk, h]

theorem blk1 (p q : Fin 8) (r : Fin 4096) (j : Fin 2) (l : Fin 128) : iblk m c 1 (pt p q) (ix2 r (col j l)) = arrK m c (ix2 r (lane p j l)) := by
  obtain ⟨-, h, -⟩ := idx (pt p q)
  rw [pt_div] at h
  unfold arrK lane
  blk_ext [iblk, h]

theorem blk2 (p q : Fin 8) (r : Fin 4096) (l : Fin 128) : iblk m c 2 (pt p q) (ix2 r l) = arrV m c (ix2 r (lane2 p l)) := by
  obtain ⟨-, -, h, -⟩ := idx (pt p q)
  rw [pt_div] at h
  unfold arrV lane2
  blk_ext [iblk, h]
end

/-! ## Real arguments -/

section
variable {m : (ℓ : Loc nD τ sig) → Buf (Elt Ideal) ℓ} {c : Dev nD}
variable {q k : Fin 4096 → Fin 16 → Fin 96 → ℝ} {v : Fin 4096 → Fin 16 → Fin 64 → ℝ} {M : Fin 16 → Fin 4096 → ℝ}
  (h0 : ∀ r h l, arg0 m c (ix3 r h l) = (q r h l : EReal)) (h1 : ∀ r h l, arg1 m c (ix3 r h l) = (k r h l : EReal))
  (h2 : ∀ r h l, arg2 m c (ix3 r h l) = (v r h l : EReal)) (hM : ∀ h r, top (arg0 m c) (arg1 m c) (ix2 h r) = (M h r : EReal))

include h0 in
theorem q_real (p : Fin 8) (j : Fin 2) (r : Fin 4096) (l : Fin 128) :
    arrQ m c (ix2 r (lane p j l)) = if hl : l.val < 96 then (q r (hd p j) ⟨l.val, hl⟩ : EReal) else 0 := by
  rw [entryQ, lane_hd, lanes_ix]
  by_cases hl : l.val < 96
  · rw [dif_pos hl, dif_pos hl]; exact h0 _ _ _
  · rw [dif_neg hl, dif_neg hl]

include h1 in
theorem k_real (p : Fin 8) (j : Fin 2) (r : Fin 4096) (l : Fin 128) :
    arrK m c (ix2 r (lane p j l)) = if hl : l.val < 96 then (k r (hd p j) ⟨l.val, hl⟩ : EReal) else 0 := by
  rw [entryK, lane_hd, lanes_ix]
  by_cases hl : l.val < 96
  · rw [dif_pos hl, dif_pos hl]; exact h1 _ _ _
  · rw [dif_neg hl, dif_neg hl]

include h2 in
theorem v_real (p : Fin 8) (r : Fin 4096) (i : Fin 2) (l : Fin 64) : arrV m c (ix2 r (lane2 p (vl i l))) = (v r (hd p i) l : EReal) := by
  rw [entryV, lane2_hd, flat_ix]
  exact h2 _ _ _

/-- A point's scores and values. -/
def scoreT (q k : Fin 4096 → Fin 16 → Fin 96 → ℝ) (p qq : Fin 8) (j : Fin 2) (t : Fin 8) (a b : Fin 512) : ℝ := dotR q k (hd p j) (row qq a) (row t b)
def valueT (v : Fin 4096 → Fin 16 → Fin 64 → ℝ) (p : Fin 8) (t : Fin 8) (b : Fin 512) (d : Fin 128) : ℝ :=
  v (row t b) (hd p ⟨d.val / 64, by omega⟩) ⟨d.val % 64, by omega⟩

theorem valueT_vl (p : Fin 8) (t : Fin 8) (b : Fin 512) (i : Fin 2) (l : Fin 64) : valueT v p t b (vl i l) = v (row t b) (hd p i) l := by
  unfold valueT
  exact congrArg₂ (fun i l => v (row t b) (hd p i) l) (Fin.ext (by show (64 * i.val + l.val) / 64 = i.val; omega))
    (Fin.ext (by show (64 * i.val + l.val) % 64 = l.val; omega))

include h0 h1 in
theorem score_point (p qq : Fin 8) (j : Fin 2) (t : Fin 8) (a b : Fin 512) :
    (∑ e, blkQ m c p qq (ix2 a (col j e)) * blkK m c p qq (ix2 (row t b) (col j e))) = (scoreT q k p qq j t a b : EReal) := by
  unfold scoreT dotR
  rw [coe_sum]
  refine sum_pad _ _ fun l => ?_
  refine (congrArg₂ (fun x y : EReal => x * y) ((blk0 m c p qq a j l).trans (q_real h0 p j _ l)) ((blk1 m c p qq _ j l).trans (k_real h1 p j _ l))).trans ?_
  by_cases hl : l.val < 96
  · rw [dif_pos hl, dif_pos hl, dif_pos hl, EReal.coe_mul]
  · rw [dif_neg hl, dif_neg hl, dif_neg hl, zero_mul]

include h2 in
theorem value_point (p qq : Fin 8) (t : Fin 8) (b : Fin 512) (d : Fin 128) : iblk m c 2 (pt p qq) (ix2 (row t b) d) = (valueT v p t b d : EReal) := by
  obtain ⟨i, l, rfl⟩ := vl_surj d
  rw [blk2, v_real h2, valueT_vl]

/-- The sums over tiles are sums over all positions. -/
theorem pL_rows (p qq : Fin 8) (j : Fin 2) (a : Fin 512) : pL (scoreT q k p qq) qq j a = sumR q k (hd p j) (row qq a) := by
  refine Eq.trans (Finset.sum_congr rfl fun t _ => Finset.sum_congr rfl fun b _ => ?_) (sum_rows fun s => wR q k (hd p j) (row qq a) s)
  unfold wR scoreT
  by_cases hv : Vis (row qq a) (row t b)
  · rw [if_pos hv, if_pos (show seen qq t a b = true from decide_eq_true hv)]
  · rw [if_neg hv, if_neg (show ¬ seen qq t a b = true from fun h => hv (of_decide_eq_true h))]

theorem pV_rows (p qq : Fin 8) (i : Fin 2) (a : Fin 512) (l : Fin 64) :
    pV (scoreT q k p qq) (valueT v p) qq i a (vl i l) = ∑ s, wR q k (hd p i) (row qq a) s * v s (hd p i) l := by
  refine Eq.trans (Finset.sum_congr rfl fun t _ => Finset.sum_congr rfl fun b _ => ?_) (sum_rows fun s => wR q k (hd p i) (row qq a) s * v s (hd p i) l)
  rw [valueT_vl]
  unfold wR scoreT
  by_cases hv : Vis (row qq a) (row t b)
  · rw [if_pos hv, if_pos (show seen qq t a b = true from decide_eq_true hv)]
  · rw [if_neg hv, if_neg (show ¬ seen qq t a b = true from fun h => hv (of_decide_eq_true h)), zero_mul]

include h0 h1 h2 hM in
theorem out3_real (p qq : Fin 8) (a : Fin 512) (i : Fin 2) (l : Fin 64) :
    (outsAt0 m c (pt p qq)).1 (ix2 a (vl i l)) = outp (arg0 m c) (arg1 m c) (arg2 m c) (top (arg0 m c) (arg1 m c)) (ix3 (row qq a) (hd p i) l) := by
  rw [outp_real h0 h1 h2 hM, out_eq]
  unfold outsAt0
  dsimp only
  rw [out_3_ix (X := scoreT q k p qq) (W := valueT v p) (hX := score_point h0 h1 p qq) (hW' := value_point h2 p qq), qt_pt, headLane_vl]
  obtain rfl | rfl : i = 0 ∨ i = 1 := by omega
  · rw [if_pos (by decide), pV_rows, pL_rows]
  · rw [if_neg (by decide), pV_rows, pL_rows]

include h0 h1 h2 hM in
theorem out4_real (p qq : Fin 8) (j : Fin 2) (a : Fin 512) :
    (outsAt0 m c (pt p qq)).2 (ix4 0 j a 0) = lsum (arg0 m c) (arg1 m c) (top (arg0 m c) (arg1 m c)) (ix3 (hd p j) (row qq a) 0) := by
  rw [lsum_real h0 h1 hM, logsum_eq]
  unfold outsAt0
  dsimp only
  rw [out_4_ix (X := scoreT q k p qq) (W := valueT v p) (hX := score_point h0 h1 p qq) (hW' := value_point h2 p qq), qt_pt, pL_rows]

/-! ## The arrays -/

variable (m c) in
/-- The attention's output, the heads side by side. -/
def res3 : S4096x1024.Idx → EReal := flat (outp (arg0 m c) (arg1 m c) (arg2 m c) (top (arg0 m c) (arg1 m c)))

variable (m c) in
/-- The log-sums, pair by pair. -/
def res4 : S8x2x4096x1.Idx → EReal :=
  shapeCast Cert.KernelIdeal.S8x2x4096x1 (lsum (arg0 m c) (arg1 m c) (top (arg0 m c) (arg1 m c))) Cert.KernelIdeal.Gen.shapeCasts_S16x4096x1_S8x2x4096x1

include h0 h1 h2 hM in
theorem arr3 : (dats m 0 c).arrAt 3 cfg0.N = res3 m c := by
  refine (dats m 0 c).arrAt_eq_of_covers 3 (res3 m c) (by decide +kernel) fun t hf y => ?_
  blk_simp
  rw [after0_3]
  obtain ⟨p, qq, rfl⟩ := pt_surj t
  obtain ⟨a, x, rfl⟩ : ∃ (a : Fin 512) (x : Fin 128), y = ix2 a x := ⟨y 0, y 1, (ix2_eta (n0 := 512) (n1 := 128) y).symm⟩
  obtain ⟨i, l, rfl⟩ := vl_surj x
  refine (out3_real h0 h1 h2 hM p qq a i l).trans ?_
  obtain ⟨-, -, -, h, -⟩ := idx (pt p qq)
  rw [pt_mod, pt_div] at h
  have e : (win0_3.blk (pt p qq)).view.emb (ix2 a (vl i l)) = ix2 (row qq a) (lane2 p (vl i l)) := funext fun d => Fin.ext ((Pipeline.Window.rect_emb_val win0_3 (pt p qq) (ix2 a (vl i l)) d).trans (by
    rw [h]
    refine Fin.cases ?_ (fun d => ?_) d
    · show qq.val * 512 + a.val = 512 * qq.val + a.val; omega
    · refine Fin.cases ?_ (fun d => d.elim0) d
      show p.val * 128 + (vl i l).val = 128 * p.val + (vl i l).val; omega))
  rw [e]
  unfold res3
  rw [lane2_hd, flat_ix]

include h0 h1 h2 hM in
theorem arr4 : (dats m 0 c).arrAt 4 cfg0.N = res4 m c := by
  refine (dats m 0 c).arrAt_eq_of_covers 4 (res4 m c) (by decide +kernel) fun t hf y => ?_
  blk_simp
  rw [after0_4]
  obtain ⟨p, qq, rfl⟩ := pt_surj t
  obtain ⟨j, a, rfl⟩ : ∃ (j : Fin 2) (a : Fin 512), y = ix4 0 j a 0 := ⟨y 1, y 2, funext fun d => by
    refine Fin.cases ?_ (fun d => ?_) d
    · exact Subsingleton.elim (α := Fin 1) _ _
    · refine Fin.cases rfl (fun d => ?_) d
      refine Fin.cases rfl (fun d => ?_) d
      refine Fin.cases ?_ (fun d => d.elim0) d
      exact Subsingleton.elim (α := Fin 1) _ _⟩
  refine (out4_real h0 h1 h2 hM p qq j a).trans ?_
  obtain ⟨-, -, -, -, h⟩ := idx (pt p qq)
  rw [pt_mod, pt_div] at h
  have e : (win0_4.blk (pt p qq)).view.emb (ix4 0 j a 0) = ix4 p j (row qq a) 0 := funext fun d => Fin.ext ((Pipeline.Window.rect_emb_val win0_4 (pt p qq) (ix4 0 j a 0) d).trans (by
    rw [h]
    refine Fin.cases ?_ (fun d => ?_) d
    · show p.val * 1 + 0 = p.val; omega
    · refine Fin.cases ?_ (fun d => ?_) d
      · show 0 * 2 + j.val = j.val; omega
      · refine Fin.cases ?_ (fun d => ?_) d
        · show qq.val * 512 + a.val = 512 * qq.val + a.val; omega
        · refine Fin.cases ?_ (fun d => d.elim0) d
          rfl))
  rw [e]
  exact (lrow_ix _ p j (row qq a)).symm
end

end Cert.FwdIdeal.Fwd
end
-- ==== Proof.FwdAlgebraic.lean ====
/-
  Over the extended reals, from arguments that are real numbers, the forward attention kernel and its reference leave the
  same output and the same log-sums.
-/
module

public import proofs.«01_k».proof.Proof.FwdArrays
public import proofs.«01_k».proof.Proof.Finite
public import proofs.«01_k».proof.Proof.Frames

@[expose] public section

set_option maxRecDepth 16384

noncomputable section

namespace Cert.FwdReferenceIdeal

open Idealize.ShloMosaic Idealize.ShloMosaic.TcCoe Idealize.SL.Sem
open Cert.FwdReferenceIdeal.Value Cert.Attn

section
variable (m : (ℓ : Loc nD τ sig) → Buf (Elt Ideal) ℓ) (c : Dev nD)
abbrev arg0 : FVec Ideal S4096x16x96 .f32 := m ((c.tc : Thread nD τ).loc main_arg0)
abbrev arg1 : FVec Ideal S4096x16x96 .f32 := m ((c.tc : Thread nD τ).loc main_arg1)
abbrev arg2 : FVec Ideal S4096x16x64 .f32 := m ((c.tc : Thread nD τ).loc main_arg2)

theorem res24 : res_main_v24 m c = flat (outp (arg0 m c) (arg1 m c) (arg2 m c) (top (arg0 m c) (arg1 m c))) := by
  unfold res_main_v24; rfl

theorem res25 : res_main_v25 m c = shapeCast Cert.KernelIdeal.S8x2x4096x1 (lsum (arg0 m c) (arg1 m c) (top (arg0 m c) (arg1 m c))) Cert.KernelIdeal.Gen.shapeCasts_S16x4096x1_S8x2x4096x1 := by
  unfold res_main_v25; rfl
end

end Cert.FwdReferenceIdeal

namespace Cert.Proof

open Idealize.ShloMosaic Idealize.ShloMosaic.TcCoe Idealize.SL.Sem
open Cert.FwdIdeal Cert.FwdIdeal.Fwd

/-- The kernel's two arrays, of real arguments. -/
theorem fwd_arrays [Cert.Pre_fwd_finite.Facts] (m : (ℓ : Loc nD τ sig) → Buf (Elt Ideal) ℓ) (hm : Cert.Pre_FwdIdeal_fwd_finite m) (c : Dev nD) :
    (Gen.dats m 0 c).arrAt 3 cfg0.N = res3 m c ∧ (Gen.dats m 0 c).arrAt 4 cfg0.N = res4 m c := by
  obtain ⟨e0, e1, e2⟩ := Cert.Pre_fwd_finite.reals (hm c)
  choose f0 h0 using e0
  choose f1 h1 using e1
  choose f2 h2 using e2
  have k0 : ∀ (r : Fin 4096) (h : Fin 16) (l : Fin 96), arg0 m c (ix3 r h l) = ((f0 (ix3 r h l) : ℝ) : EReal) := fun r h l => h0 _
  have k1 : ∀ (r : Fin 4096) (h : Fin 16) (l : Fin 96), arg1 m c (ix3 r h l) = ((f1 (ix3 r h l) : ℝ) : EReal) := fun r h l => h1 _
  have k2 : ∀ (r : Fin 4096) (h : Fin 16) (l : Fin 64), arg2 m c (ix3 r h l) = ((f2 (ix3 r h l) : ℝ) : EReal) := fun r h l => h2 _
  obtain ⟨M, hM⟩ := Attn.exists_top (q := fun r h l => f0 (ix3 r h l)) (k := fun r h l => f1 (ix3 r h l)) k0 k1
  exact ⟨arr3 (q := fun r h l => f0 (ix3 r h l)) (k := fun r h l => f1 (ix3 r h l)) (v := fun r h l => f2 (ix3 r h l)) k0 k1 k2 hM,
    arr4 (q := fun r h l => f0 (ix3 r h l)) (k := fun r h l => f1 (ix3 r h l)) (v := fun r h l => f2 (ix3 r h l)) k0 k1 k2 hM⟩

theorem fwd_algebraic [Cert.Pre_fwd_finite.Facts] : Cert.algebraic_FwdIdeal_FwdReferenceIdeal_pre_fwd_finite := fun m g m' g' hm e => by
  refine ⟨fun c => res3 m c, fun c => res4 m c, ?_, ?_⟩
  · refine (θ_run _ _ _).mono (fun r h c => ?_) (θ_run_and (Gen.run_main m g) (Gen.frame m g))
    obtain ⟨h, ⟨hf, -⟩⟩ := h
    obtain ⟨r3, r4⟩ := fwd_arrays m hm c
    exact ⟨((h c).1 3).trans r3, ((h c).1 4).trans r4, hf c⟩
  · refine (θ_run _ _ _).mono (fun r h c => ?_) (Cert.FwdReferenceIdeal.Value.run (F := Ideal) m' g')
    obtain ⟨h3, h4, hf⟩ := h c
    obtain ⟨a0, a1, a2⟩ := e c
    refine ⟨h3.trans ((Cert.FwdReferenceIdeal.res24 m' c).trans ?_), h4.trans ((Cert.FwdReferenceIdeal.res25 m' c).trans ?_), hf⟩
    · unfold Cert.FwdReferenceIdeal.arg0 Cert.FwdReferenceIdeal.arg1 Cert.FwdReferenceIdeal.arg2
      rw [a0, a1, a2]
      rfl
    · unfold Cert.FwdReferenceIdeal.arg0 Cert.FwdReferenceIdeal.arg1
      rw [a0, a1]
      rfl

end Cert.Proof

end
-- ==== Proof.Algebraic.lean ====
/-
  Over the extended reals, from arguments that are real numbers, the kernel and the reference leave the same gradients.
-/
module

public import proofs.«01_k».proof.Proof.Equation
public import proofs.«01_k».proof.Proof.Finite
public import proofs.«01_k».proof.Proof.Frames

@[expose] public section

noncomputable section

namespace Cert.Proof

open Idealize.ShloMosaic Idealize.ShloMosaic.TcCoe Idealize.SL.Sem
open Cert.KernelIdeal Cert.KernelIdeal.Bwd

/-- The kernel's three arrays, of real arguments. -/
theorem results [Cert.Pre_finite.Facts] (m : (ℓ : Loc nD τ sig) → Buf (Elt Ideal) ℓ) (hm : Cert.Pre_KernelIdeal_finite m) (c : Dev nD) :
    res6 m c = Attn.lanes (Attn.dquery (arg0 m c) (arg1 m c) (arg2 m c) (arg3 m c))
      ∧ res7 m c = Attn.lanes (Attn.dkey (arg0 m c) (arg1 m c) (arg2 m c) (arg3 m c))
      ∧ res8 m c = Attn.flat (Attn.dvalue (arg0 m c) (arg1 m c) (arg3 m c)) := by
  obtain ⟨e0, e1, e2, e3⟩ := Cert.Pre_finite.reals (hm c)
  choose f0 h0 using e0
  choose f1 h1 using e1
  choose f2 h2 using e2
  choose f3 h3 using e3
  have k0 : ∀ (r : Fin 4096) (h : Fin 16) (l : Fin 96), arg0 m c (ix3 r h l) = ((f0 (ix3 r h l) : ℝ) : EReal) := fun r h l => h0 _
  have k1 : ∀ (r : Fin 4096) (h : Fin 16) (l : Fin 96), arg1 m c (ix3 r h l) = ((f1 (ix3 r h l) : ℝ) : EReal) := fun r h l => h1 _
  have k2 : ∀ (r : Fin 4096) (h : Fin 16) (l : Fin 64), arg2 m c (ix3 r h l) = ((f2 (ix3 r h l) : ℝ) : EReal) := fun r h l => h2 _
  have k3 : ∀ (r : Fin 4096) (h : Fin 16) (l : Fin 64), Attn.dout (arg3 m c) (ix3 h l r) = ((f3 (ix2 r ⟨64 * h.val + l.val, by omega⟩) : ℝ) : EReal) :=
    fun r h l => (Attn.dout_ix _ h r l).trans (h3 _)
  obtain ⟨M, hM⟩ := Attn.exists_top (q := fun r h l => f0 (ix3 r h l)) (k := fun r h l => f1 (ix3 r h l)) k0 k1
  exact ⟨res6_real (q := fun r h l => f0 (ix3 r h l)) (k := fun r h l => f1 (ix3 r h l)) (v := fun r h l => f2 (ix3 r h l)) k0 k1 k2 k3 hM,
    res7_real (q := fun r h l => f0 (ix3 r h l)) (k := fun r h l => f1 (ix3 r h l)) (v := fun r h l => f2 (ix3 r h l)) k0 k1 k2 k3 hM,
    res8_real (q := fun r h l => f0 (ix3 r h l)) (k := fun r h l => f1 (ix3 r h l)) k0 k1 k3 hM⟩

theorem algebraic [Cert.Pre_finite.Facts] : Cert.algebraic_KernelIdeal_ReferenceIdeal_pre_finite := fun m g m' g' hm e => by
  refine ⟨fun c => res6 m c, fun c => res7 m c, fun c => res8 m c, ?_, ?_⟩
  · refine (θ_run _ _ _).mono (fun r h c => ?_) (θ_run_and (Gen.run_main m g) (Gen.frame m g))
    obtain ⟨h, ⟨hf, -⟩⟩ := h
    exact ⟨((h c).1 6).trans (arr6 m c), ((h c).1 7).trans (arr7 m c), ((h c).1 8).trans (arr8 m c), hf c⟩
  · refine (θ_run _ _ _).mono (fun r h c => ?_) (Cert.ReferenceIdeal.Value.run (F := Ideal) m' g')
    obtain ⟨h6, h7, h8, hf⟩ := h c
    obtain ⟨a0, a1, a2, a3⟩ := e c
    obtain ⟨r6, r7, r8⟩ := results m hm c
    refine ⟨h6.trans ((Attn.res67 m' c).trans (Eq.trans ?_ r6.symm)), h7.trans ((Attn.res69 m' c).trans (Eq.trans ?_ r7.symm)),
      h8.trans ((Attn.res70 m' c).trans (Eq.trans ?_ r8.symm)), hf⟩
    · unfold Attn.arg0 Attn.arg1 Attn.arg2 Attn.arg3
      rw [a0, a1, a2, a3]
    · unfold Attn.arg0 Attn.arg1 Attn.arg2 Attn.arg3
      rw [a0, a1, a2, a3]
    · unfold Attn.arg0 Attn.arg1 Attn.arg3
      rw [a0, a1, a3]

end Cert.Proof

end
-- ==== Proof.lean ====
/-  The proof of `Cert.Claim`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Gen.Ffn
public import proofs.«01_k».proof.Proof.Gen.FfnIdeal
public import proofs.«01_k».proof.Proof.Gen.FfnReferenceIdeal
public import proofs.«01_k».proof.Proof.Gen.TnIn
public import proofs.«01_k».proof.Proof.Gen.TnInIdeal
public import proofs.«01_k».proof.Proof.Gen.TnInReferenceIdeal
public import proofs.«01_k».proof.Proof.Gen.TnOut
public import proofs.«01_k».proof.Proof.Gen.TnOutIdeal
public import proofs.«01_k».proof.Proof.Gen.TnOutReferenceIdeal
public import proofs.«01_k».proof.Proof.Gen.Fwd
public import proofs.«01_k».proof.Proof.Gen.FwdIdeal
public import proofs.«01_k».proof.Proof.Gen.FwdReferenceIdeal
public import proofs.«01_k».proof.Proof.Ffn
public import proofs.«01_k».proof.Proof.TnIn
public import proofs.«01_k».proof.Proof.TnOut
public import proofs.«01_k».proof.Proof.Gen.GluFwd
public import proofs.«01_k».proof.Proof.Gen.GluFwdIdeal
public import proofs.«01_k».proof.Proof.Gen.GluFwdReferenceIdeal
public import proofs.«01_k».proof.Proof.Gen.GluBwd
public import proofs.«01_k».proof.Proof.Gen.GluBwdIdeal
public import proofs.«01_k».proof.Proof.Gen.GluBwdReferenceIdeal
public import proofs.«01_k».proof.Proof.Gen.OutFwd
public import proofs.«01_k».proof.Proof.Gen.OutFwdIdeal
public import proofs.«01_k».proof.Proof.Gen.OutFwdReferenceIdeal
public import proofs.«01_k».proof.Proof.Gen.OutBwd
public import proofs.«01_k».proof.Proof.Gen.OutBwdIdeal
public import proofs.«01_k».proof.Proof.Gen.OutBwdReferenceIdeal
public import proofs.«01_k».proof.Proof.Gen.TnSq
public import proofs.«01_k».proof.Proof.Gen.TnSqIdeal
public import proofs.«01_k».proof.Proof.Gen.TnSqReferenceIdeal
public import proofs.«01_k».proof.Proof.Gen.Loss
public import proofs.«01_k».proof.Proof.Gen.LossIdeal
public import proofs.«01_k».proof.Proof.Gen.LossReferenceIdeal
public import proofs.«01_k».proof.Proof.Gen.Adam
public import proofs.«01_k».proof.Proof.Gen.AdamIdeal
public import proofs.«01_k».proof.Proof.Gen.AdamReferenceIdeal
public import proofs.«01_k».proof.Proof.Gen.TnDq
public import proofs.«01_k».proof.Proof.Gen.TnDqIdeal
public import proofs.«01_k».proof.Proof.Gen.TnDqReferenceIdeal
public import proofs.«01_k».proof.Proof.Gen.TnUq
public import proofs.«01_k».proof.Proof.Gen.TnUqIdeal
public import proofs.«01_k».proof.Proof.Gen.TnUqReferenceIdeal
public import proofs.«01_k».proof.Proof.Gen.TnKva
public import proofs.«01_k».proof.Proof.Gen.TnKvaIdeal
public import proofs.«01_k».proof.Proof.Gen.TnKvaReferenceIdeal
public import proofs.«01_k».proof.Proof.Gen.TnV
public import proofs.«01_k».proof.Proof.Gen.TnVIdeal
public import proofs.«01_k».proof.Proof.Gen.TnVReferenceIdeal
public import proofs.«01_k».proof.Proof.Gen.QFwd
public import proofs.«01_k».proof.Proof.Gen.QFwdIdeal
public import proofs.«01_k».proof.Proof.Gen.QFwdReferenceIdeal
public import proofs.«01_k».proof.Proof.GluFwd
public import proofs.«01_k».proof.Proof.GluBwdAlgebraic
public import proofs.«01_k».proof.Proof.OutFwd
public import proofs.«01_k».proof.Proof.OutBwd
public import proofs.«01_k».proof.Proof.TnSq
public import proofs.«01_k».proof.Proof.TnDq
public import proofs.«01_k».proof.Proof.TnUq
public import proofs.«01_k».proof.Proof.TnKva
public import proofs.«01_k».proof.Proof.TnV
public import proofs.«01_k».proof.Proof.QFwd
public import proofs.«01_k».proof.Proof.Loss
public import proofs.«01_k».proof.Proof.Adam
public import proofs.«01_k».proof.Proof.FwdAlgebraic
public import proofs.«01_k».proof.Proof.Algebraic

@[expose] public section

noncomputable section

namespace Cert.Proof

open Idealize.ShloMosaic Idealize.SL.Sem

/-- A run from every memory is a run from those of the precondition. -/
theorem claim : Cert.Claim :=
  have hf : Cert.Pre_finite.Facts := Cert.Pre_finite.facts
  have hff : Cert.Pre_ffn_finite.Facts := Cert.Pre_ffn_finite.facts
  have hfw : Cert.Pre_fwd_finite.Facts := Cert.Pre_fwd_finite.facts
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.TnIn.Gen.facts, Cert.TnInIdeal.Gen.facts, Cert.TnInReferenceIdeal.Gen.facts,
    Cert.TnOut.Gen.facts, Cert.TnOutIdeal.Gen.facts, Cert.TnOutReferenceIdeal.Gen.facts,
    Cert.Fwd.Gen.facts, Cert.FwdIdeal.Gen.facts, Cert.FwdReferenceIdeal.Gen.facts,
    Cert.GluFwd.Gen.facts, Cert.GluFwdIdeal.Gen.facts, Cert.GluFwdReferenceIdeal.Gen.facts,
    Cert.GluBwd.Gen.facts, Cert.GluBwdIdeal.Gen.facts, Cert.GluBwdReferenceIdeal.Gen.facts,
    Cert.OutFwd.Gen.facts, Cert.OutFwdIdeal.Gen.facts, Cert.OutFwdReferenceIdeal.Gen.facts,
    Cert.OutBwd.Gen.facts, Cert.OutBwdIdeal.Gen.facts, Cert.OutBwdReferenceIdeal.Gen.facts,
    Cert.TnSq.Gen.facts, Cert.TnSqIdeal.Gen.facts, Cert.TnSqReferenceIdeal.Gen.facts,
    Cert.Loss.Gen.facts, Cert.LossIdeal.Gen.facts, Cert.LossReferenceIdeal.Gen.facts,
    Cert.Adam.Gen.facts, Cert.AdamIdeal.Gen.facts, Cert.AdamReferenceIdeal.Gen.facts,
    Cert.TnDq.Gen.facts, Cert.TnDqIdeal.Gen.facts, Cert.TnDqReferenceIdeal.Gen.facts,
    Cert.TnUq.Gen.facts, Cert.TnUqIdeal.Gen.facts, Cert.TnUqReferenceIdeal.Gen.facts,
    Cert.TnKva.Gen.facts, Cert.TnKvaIdeal.Gen.facts, Cert.TnKvaReferenceIdeal.Gen.facts,
    Cert.TnV.Gen.facts, Cert.TnVIdeal.Gen.facts, Cert.TnVReferenceIdeal.Gen.facts,
    Cert.QFwd.Gen.facts, Cert.QFwdIdeal.Gen.facts, Cert.QFwdReferenceIdeal.Gen.facts,
    hf, hff, hfw,
    Frames.frame_p, Frames.frame_pi, fun m g _ => Frames.frame_pi m g trivial, Frames.frame_ri, fun m g _ => Frames.frame_ri m g trivial,
    Frames.frame_ffn, Frames.frame_ffn_ideal, fun m g _ => Frames.frame_ffn_ideal m g trivial,
    Frames.frame_ffn_reference, fun m g _ => Frames.frame_ffn_reference m g trivial,
    Frames.frame_tn_in, Frames.frame_tn_in_ideal, Frames.frame_tn_in_reference,
    Frames.frame_tn_out, Frames.frame_tn_out_ideal, Frames.frame_tn_out_reference,
    Frames.frame_fwd, Frames.frame_fwd_ideal, fun m g _ => Frames.frame_fwd_ideal m g trivial,
    Frames.frame_fwd_reference, fun m g _ => Frames.frame_fwd_reference m g trivial,
    Frames.frame_glu_fwd, Frames.frame_glu_fwd_ideal, Frames.frame_glu_fwd_reference,
    Frames.frame_glu_bwd, Frames.frame_glu_bwd_ideal, Frames.frame_glu_bwd_reference,
    Frames.frame_out_fwd, Frames.frame_out_fwd_ideal, Frames.frame_out_fwd_reference,
    Frames.frame_out_bwd, Frames.frame_out_bwd_ideal, Frames.frame_out_bwd_reference,
    Frames.frame_tn_sq, Frames.frame_tn_sq_ideal, Frames.frame_tn_sq_reference,
    Frames.frame_loss, Frames.frame_loss_ideal, Frames.frame_loss_reference,
    Frames.frame_adam, Frames.frame_adam_ideal, Frames.frame_adam_reference,
    Frames.frame_tn_dq, Frames.frame_tn_dq_ideal, Frames.frame_tn_dq_reference,
    Frames.frame_tn_uq, Frames.frame_tn_uq_ideal, Frames.frame_tn_uq_reference,
    Frames.frame_tn_kva, Frames.frame_tn_kva_ideal, Frames.frame_tn_kva_reference,
    Frames.frame_tn_v, Frames.frame_tn_v_ideal, Frames.frame_tn_v_reference,
    Frames.frame_q_fwd, Frames.frame_q_fwd_ideal, Frames.frame_q_fwd_reference,
    Frames.preserves, algebraic, trivial, ffn_algebraic, trivial, tn_in_algebraic, trivial, tn_out_algebraic, Frames.preserves_fwd, fwd_algebraic,
    trivial, glu_fwd_algebraic, trivial, glu_bwd_algebraic, trivial, out_fwd_algebraic, trivial, out_bwd_algebraic, trivial, tn_sq_algebraic,
    trivial, loss_algebraic, Frames.preserves_adam, adam_algebraic,
    trivial, tn_dq_algebraic, trivial, tn_uq_algebraic, trivial, tn_kva_algebraic, trivial, tn_v_algebraic,
    trivial, q_fwd_algebraic⟩

end Cert.Proof

end
